-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gradients_finite [hPre_gradients_finite : Cert.Pre_gradients_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gradients_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_gradients_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_gradients_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gradients_finite [hPre_gradients_finite : Cert.Pre_gradients_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gradients_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_gradients_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_gradients_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gradients_finite [hKernelIdeal : Cert.KernelIdeal.Facts] [hPre_gradients_finite : Cert.Pre_gradients_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gradients_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gradients_finite [hReferenceIdeal : Cert.ReferenceIdeal.Facts] [hPre_gradients_finite : Cert.Pre_gradients_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gradients_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18)
      ∧ r.2.mem ((c.tc : Thread Cert.Kernel7.nD Cert.Kernel7.τ).loc Cert.Kernel7.main_arg19) = m ((c.tc : Thread Cert.Kernel7.nD Cert.Kernel7.τ).loc Cert.Kernel7.main_arg19))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
      ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18)
      ∧ r.2.mem ((c.tc : Thread Cert.Reference7Ideal.nD Cert.Reference7Ideal.τ).loc Cert.Reference7Ideal.main_arg19) = m ((c.tc : Thread Cert.Reference7Ideal.nD Cert.Reference7Ideal.τ).loc Cert.Reference7Ideal.main_arg19))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15)
      ∧ r.2.mem ((c.tc : Thread Cert.Kernel9.nD Cert.Kernel9.τ).loc Cert.Kernel9.main_arg16) = m ((c.tc : Thread Cert.Kernel9.nD Cert.Kernel9.τ).loc Cert.Kernel9.main_arg16)
      ∧ r.2.mem ((c.tc : Thread Cert.Kernel9.nD Cert.Kernel9.τ).loc Cert.Kernel9.main_arg17) = m ((c.tc : Thread Cert.Kernel9.nD Cert.Kernel9.τ).loc Cert.Kernel9.main_arg17)
      ∧ r.2.mem ((c.tc : Thread Cert.Kernel9.nD Cert.Kernel9.τ).loc Cert.Kernel9.main_arg18) = m ((c.tc : Thread Cert.Kernel9.nD Cert.Kernel9.τ).loc Cert.Kernel9.main_arg18)
      ∧ r.2.mem ((c.tc : Thread Cert.Kernel9.nD Cert.Kernel9.τ).loc Cert.Kernel9.main_arg19) = m ((c.tc : Thread Cert.Kernel9.nD Cert.Kernel9.τ).loc Cert.Kernel9.main_arg19)
      ∧ r.2.mem ((c.tc : Thread Cert.Kernel9.nD Cert.Kernel9.τ).loc Cert.Kernel9.main_arg20) = m ((c.tc : Thread Cert.Kernel9.nD Cert.Kernel9.τ).loc Cert.Kernel9.main_arg20)
      ∧ r.2.mem ((c.tc : Thread Cert.Kernel9.nD Cert.Kernel9.τ).loc Cert.Kernel9.main_arg21) = m ((c.tc : Thread Cert.Kernel9.nD Cert.Kernel9.τ).loc Cert.Kernel9.main_arg21)
      ∧ r.2.mem ((c.tc : Thread Cert.Kernel9.nD Cert.Kernel9.τ).loc Cert.Kernel9.main_arg22) = m ((c.tc : Thread Cert.Kernel9.nD Cert.Kernel9.τ).loc Cert.Kernel9.main_arg22)
      ∧ r.2.mem ((c.tc : Thread Cert.Kernel9.nD Cert.Kernel9.τ).loc Cert.Kernel9.main_arg23) = m ((c.tc : Thread Cert.Kernel9.nD Cert.Kernel9.τ).loc Cert.Kernel9.main_arg23)
      ∧ r.2.mem ((c.tc : Thread Cert.Kernel9.nD Cert.Kernel9.τ).loc Cert.Kernel9.main_arg24) = m ((c.tc : Thread Cert.Kernel9.nD Cert.Kernel9.τ).loc Cert.Kernel9.main_arg24)
      ∧ r.2.mem ((c.tc : Thread Cert.Kernel9.nD Cert.Kernel9.τ).loc Cert.Kernel9.main_arg25) = m ((c.tc : Thread Cert.Kernel9.nD Cert.Kernel9.τ).loc Cert.Kernel9.main_arg25)
      ∧ r.2.mem ((c.tc : Thread Cert.Kernel9.nD Cert.Kernel9.τ).loc Cert.Kernel9.main_arg26) = m ((c.tc : Thread Cert.Kernel9.nD Cert.Kernel9.τ).loc Cert.Kernel9.main_arg26)
      ∧ r.2.mem ((c.tc : Thread Cert.Kernel9.nD Cert.Kernel9.τ).loc Cert.Kernel9.main_arg27) = m ((c.tc : Thread Cert.Kernel9.nD Cert.Kernel9.τ).loc Cert.Kernel9.main_arg27)
      ∧ r.2.mem ((c.tc : Thread Cert.Kernel9.nD Cert.Kernel9.τ).loc Cert.Kernel9.main_arg28) = m ((c.tc : Thread Cert.Kernel9.nD Cert.Kernel9.τ).loc Cert.Kernel9.main_arg28)
      ∧ r.2.mem ((c.tc : Thread Cert.Kernel9.nD Cert.Kernel9.τ).loc Cert.Kernel9.main_arg29) = m ((c.tc : Thread Cert.Kernel9.nD Cert.Kernel9.τ).loc Cert.Kernel9.main_arg29)
      ∧ r.2.mem ((c.tc : Thread Cert.Kernel9.nD Cert.Kernel9.τ).loc Cert.Kernel9.main_arg30) = m ((c.tc : Thread Cert.Kernel9.nD Cert.Kernel9.τ).loc Cert.Kernel9.main_arg30)
      ∧ r.2.mem ((c.tc : Thread Cert.Kernel9.nD Cert.Kernel9.τ).loc Cert.Kernel9.main_arg31) = m ((c.tc : Thread Cert.Kernel9.nD Cert.Kernel9.τ).loc Cert.Kernel9.main_arg31)
      ∧ r.2.mem ((c.tc : Thread Cert.Kernel9.nD Cert.Kernel9.τ).loc Cert.Kernel9.main_arg32) = m ((c.tc : Thread Cert.Kernel9.nD Cert.Kernel9.τ).loc Cert.Kernel9.main_arg32)
      ∧ r.2.mem ((c.tc : Thread Cert.Kernel9.nD Cert.Kernel9.τ).loc Cert.Kernel9.main_arg33) = m ((c.tc : Thread Cert.Kernel9.nD Cert.Kernel9.τ).loc Cert.Kernel9.main_arg33)
      ∧ r.2.mem ((c.tc : Thread Cert.Kernel9.nD Cert.Kernel9.τ).loc Cert.Kernel9.main_arg34) = m ((c.tc : Thread Cert.Kernel9.nD Cert.Kernel9.τ).loc Cert.Kernel9.main_arg34)
      ∧ r.2.mem ((c.tc : Thread Cert.Kernel9.nD Cert.Kernel9.τ).loc Cert.Kernel9.main_arg35) = m ((c.tc : Thread Cert.Kernel9.nD Cert.Kernel9.τ).loc Cert.Kernel9.main_arg35)
      ∧ r.2.mem ((c.tc : Thread Cert.Kernel9.nD Cert.Kernel9.τ).loc Cert.Kernel9.main_arg36) = m ((c.tc : Thread Cert.Kernel9.nD Cert.Kernel9.τ).loc Cert.Kernel9.main_arg36)
      ∧ r.2.mem ((c.tc : Thread Cert.Kernel9.nD Cert.Kernel9.τ).loc Cert.Kernel9.main_arg37) = m ((c.tc : Thread Cert.Kernel9.nD Cert.Kernel9.τ).loc Cert.Kernel9.main_arg37)
      ∧ r.2.mem ((c.tc : Thread Cert.Kernel9.nD Cert.Kernel9.τ).loc Cert.Kernel9.main_arg38) = m ((c.tc : Thread Cert.Kernel9.nD Cert.Kernel9.τ).loc Cert.Kernel9.main_arg38)
      ∧ r.2.mem ((c.tc : Thread Cert.Kernel9.nD Cert.Kernel9.τ).loc Cert.Kernel9.main_arg39) = m ((c.tc : Thread Cert.Kernel9.nD Cert.Kernel9.τ).loc Cert.Kernel9.main_arg39)
      ∧ r.2.mem ((c.tc : Thread Cert.Kernel9.nD Cert.Kernel9.τ).loc Cert.Kernel9.main_arg40) = m ((c.tc : Thread Cert.Kernel9.nD Cert.Kernel9.τ).loc Cert.Kernel9.main_arg40)
      ∧ r.2.mem ((c.tc : Thread Cert.Kernel9.nD Cert.Kernel9.τ).loc Cert.Kernel9.main_arg41) = m ((c.tc : Thread Cert.Kernel9.nD Cert.Kernel9.τ).loc Cert.Kernel9.main_arg41)
      ∧ r.2.mem ((c.tc : Thread Cert.Kernel9.nD Cert.Kernel9.τ).loc Cert.Kernel9.main_arg42) = m ((c.tc : Thread Cert.Kernel9.nD Cert.Kernel9.τ).loc Cert.Kernel9.main_arg42)
      ∧ r.2.mem ((c.tc : Thread Cert.Kernel9.nD Cert.Kernel9.τ).loc Cert.Kernel9.main_arg43) = m ((c.tc : Thread Cert.Kernel9.nD Cert.Kernel9.τ).loc Cert.Kernel9.main_arg43)
      ∧ r.2.mem ((c.tc : Thread Cert.Kernel9.nD Cert.Kernel9.τ).loc Cert.Kernel9.main_arg44) = m ((c.tc : Thread Cert.Kernel9.nD Cert.Kernel9.τ).loc Cert.Kernel9.main_arg44)
      ∧ r.2.mem ((c.tc : Thread Cert.Kernel9.nD Cert.Kernel9.τ).loc Cert.Kernel9.main_arg45) = m ((c.tc : Thread Cert.Kernel9.nD Cert.Kernel9.τ).loc Cert.Kernel9.main_arg45)
      ∧ r.2.mem ((c.tc : Thread Cert.Kernel9.nD Cert.Kernel9.τ).loc Cert.Kernel9.main_arg46) = m ((c.tc : Thread Cert.Kernel9.nD Cert.Kernel9.τ).loc Cert.Kernel9.main_arg46)
      ∧ r.2.mem ((c.tc : Thread Cert.Kernel9.nD Cert.Kernel9.τ).loc Cert.Kernel9.main_arg47) = m ((c.tc : Thread Cert.Kernel9.nD Cert.Kernel9.τ).loc Cert.Kernel9.main_arg47))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
      ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
      ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
      ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
      ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
      ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
      ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
      ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
      ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
      ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
      ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
      ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
      ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27)
      ∧ r.2.mem ((c.tc : Thread Cert.Kernel9Ideal.nD Cert.Kernel9Ideal.τ).loc Cert.Kernel9Ideal.main_arg28) = m ((c.tc : Thread Cert.Kernel9Ideal.nD Cert.Kernel9Ideal.τ).loc Cert.Kernel9Ideal.main_arg28)
      ∧ r.2.mem ((c.tc : Thread Cert.Kernel9Ideal.nD Cert.Kernel9Ideal.τ).loc Cert.Kernel9Ideal.main_arg29) = m ((c.tc : Thread Cert.Kernel9Ideal.nD Cert.Kernel9Ideal.τ).loc Cert.Kernel9Ideal.main_arg29)
      ∧ r.2.mem ((c.tc : Thread Cert.Kernel9Ideal.nD Cert.Kernel9Ideal.τ).loc Cert.Kernel9Ideal.main_arg30) = m ((c.tc : Thread Cert.Kernel9Ideal.nD Cert.Kernel9Ideal.τ).loc Cert.Kernel9Ideal.main_arg30)
      ∧ r.2.mem ((c.tc : Thread Cert.Kernel9Ideal.nD Cert.Kernel9Ideal.τ).loc Cert.Kernel9Ideal.main_arg31) = m ((c.tc : Thread Cert.Kernel9Ideal.nD Cert.Kernel9Ideal.τ).loc Cert.Kernel9Ideal.main_arg31)
      ∧ r.2.mem ((c.tc : Thread Cert.Kernel9Ideal.nD Cert.Kernel9Ideal.τ).loc Cert.Kernel9Ideal.main_arg32) = m ((c.tc : Thread Cert.Kernel9Ideal.nD Cert.Kernel9Ideal.τ).loc Cert.Kernel9Ideal.main_arg32)
      ∧ r.2.mem ((c.tc : Thread Cert.Kernel9Ideal.nD Cert.Kernel9Ideal.τ).loc Cert.Kernel9Ideal.main_arg33) = m ((c.tc : Thread Cert.Kernel9Ideal.nD Cert.Kernel9Ideal.τ).loc Cert.Kernel9Ideal.main_arg33)
      ∧ r.2.mem ((c.tc : Thread Cert.Kernel9Ideal.nD Cert.Kernel9Ideal.τ).loc Cert.Kernel9Ideal.main_arg34) = m ((c.tc : Thread Cert.Kernel9Ideal.nD Cert.Kernel9Ideal.τ).loc Cert.Kernel9Ideal.main_arg34)
      ∧ r.2.mem ((c.tc : Thread Cert.Kernel9Ideal.nD Cert.Kernel9Ideal.τ).loc Cert.Kernel9Ideal.main_arg35) = m ((c.tc : Thread Cert.Kernel9Ideal.nD Cert.Kernel9Ideal.τ).loc Cert.Kernel9Ideal.main_arg35)
      ∧ r.2.mem ((c.tc : Thread Cert.Kernel9Ideal.nD Cert.Kernel9Ideal.τ).loc Cert.Kernel9Ideal.main_arg36) = m ((c.tc : Thread Cert.Kernel9Ideal.nD Cert.Kernel9Ideal.τ).loc Cert.Kernel9Ideal.main_arg36)
      ∧ r.2.mem ((c.tc : Thread Cert.Kernel9Ideal.nD Cert.Kernel9Ideal.τ).loc Cert.Kernel9Ideal.main_arg37) = m ((c.tc : Thread Cert.Kernel9Ideal.nD Cert.Kernel9Ideal.τ).loc Cert.Kernel9Ideal.main_arg37)
      ∧ r.2.mem ((c.tc : Thread Cert.Kernel9Ideal.nD Cert.Kernel9Ideal.τ).loc Cert.Kernel9Ideal.main_arg38) = m ((c.tc : Thread Cert.Kernel9Ideal.nD Cert.Kernel9Ideal.τ).loc Cert.Kernel9Ideal.main_arg38)
      ∧ r.2.mem ((c.tc : Thread Cert.Kernel9Ideal.nD Cert.Kernel9Ideal.τ).loc Cert.Kernel9Ideal.main_arg39) = m ((c.tc : Thread Cert.Kernel9Ideal.nD Cert.Kernel9Ideal.τ).loc Cert.Kernel9Ideal.main_arg39)
      ∧ r.2.mem ((c.tc : Thread Cert.Kernel9Ideal.nD Cert.Kernel9Ideal.τ).loc Cert.Kernel9Ideal.main_arg40) = m ((c.tc : Thread Cert.Kernel9Ideal.nD Cert.Kernel9Ideal.τ).loc Cert.Kernel9Ideal.main_arg40)
      ∧ r.2.mem ((c.tc : Thread Cert.Kernel9Ideal.nD Cert.Kernel9Ideal.τ).loc Cert.Kernel9Ideal.main_arg41) = m ((c.tc : Thread Cert.Kernel9Ideal.nD Cert.Kernel9Ideal.τ).loc Cert.Kernel9Ideal.main_arg41)
      ∧ r.2.mem ((c.tc : Thread Cert.Kernel9Ideal.nD Cert.Kernel9Ideal.τ).loc Cert.Kernel9Ideal.main_arg42) = m ((c.tc : Thread Cert.Kernel9Ideal.nD Cert.Kernel9Ideal.τ).loc Cert.Kernel9Ideal.main_arg42)
      ∧ r.2.mem ((c.tc : Thread Cert.Kernel9Ideal.nD Cert.Kernel9Ideal.τ).loc Cert.Kernel9Ideal.main_arg43) = m ((c.tc : Thread Cert.Kernel9Ideal.nD Cert.Kernel9Ideal.τ).loc Cert.Kernel9Ideal.main_arg43)
      ∧ r.2.mem ((c.tc : Thread Cert.Kernel9Ideal.nD Cert.Kernel9Ideal.τ).loc Cert.Kernel9Ideal.main_arg44) = m ((c.tc : Thread Cert.Kernel9Ideal.nD Cert.Kernel9Ideal.τ).loc Cert.Kernel9Ideal.main_arg44)
      ∧ r.2.mem ((c.tc : Thread Cert.Kernel9Ideal.nD Cert.Kernel9Ideal.τ).loc Cert.Kernel9Ideal.main_arg45) = m ((c.tc : Thread Cert.Kernel9Ideal.nD Cert.Kernel9Ideal.τ).loc Cert.Kernel9Ideal.main_arg45)
      ∧ r.2.mem ((c.tc : Thread Cert.Kernel9Ideal.nD Cert.Kernel9Ideal.τ).loc Cert.Kernel9Ideal.main_arg46) = m ((c.tc : Thread Cert.Kernel9Ideal.nD Cert.Kernel9Ideal.τ).loc Cert.Kernel9Ideal.main_arg46)
      ∧ r.2.mem ((c.tc : Thread Cert.Kernel9Ideal.nD Cert.Kernel9Ideal.τ).loc Cert.Kernel9Ideal.main_arg47) = m ((c.tc : Thread Cert.Kernel9Ideal.nD Cert.Kernel9Ideal.τ).loc Cert.Kernel9Ideal.main_arg47))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15)
      ∧ r.2.mem ((c.tc : Thread Cert.Reference9Ideal.nD Cert.Reference9Ideal.τ).loc Cert.Reference9Ideal.main_arg16) = m ((c.tc : Thread Cert.Reference9Ideal.nD Cert.Reference9Ideal.τ).loc Cert.Reference9Ideal.main_arg16)
      ∧ r.2.mem ((c.tc : Thread Cert.Reference9Ideal.nD Cert.Reference9Ideal.τ).loc Cert.Reference9Ideal.main_arg17) = m ((c.tc : Thread Cert.Reference9Ideal.nD Cert.Reference9Ideal.τ).loc Cert.Reference9Ideal.main_arg17)
      ∧ r.2.mem ((c.tc : Thread Cert.Reference9Ideal.nD Cert.Reference9Ideal.τ).loc Cert.Reference9Ideal.main_arg18) = m ((c.tc : Thread Cert.Reference9Ideal.nD Cert.Reference9Ideal.τ).loc Cert.Reference9Ideal.main_arg18)
      ∧ r.2.mem ((c.tc : Thread Cert.Reference9Ideal.nD Cert.Reference9Ideal.τ).loc Cert.Reference9Ideal.main_arg19) = m ((c.tc : Thread Cert.Reference9Ideal.nD Cert.Reference9Ideal.τ).loc Cert.Reference9Ideal.main_arg19)
      ∧ r.2.mem ((c.tc : Thread Cert.Reference9Ideal.nD Cert.Reference9Ideal.τ).loc Cert.Reference9Ideal.main_arg20) = m ((c.tc : Thread Cert.Reference9Ideal.nD Cert.Reference9Ideal.τ).loc Cert.Reference9Ideal.main_arg20)
      ∧ r.2.mem ((c.tc : Thread Cert.Reference9Ideal.nD Cert.Reference9Ideal.τ).loc Cert.Reference9Ideal.main_arg21) = m ((c.tc : Thread Cert.Reference9Ideal.nD Cert.Reference9Ideal.τ).loc Cert.Reference9Ideal.main_arg21)
      ∧ r.2.mem ((c.tc : Thread Cert.Reference9Ideal.nD Cert.Reference9Ideal.τ).loc Cert.Reference9Ideal.main_arg22) = m ((c.tc : Thread Cert.Reference9Ideal.nD Cert.Reference9Ideal.τ).loc Cert.Reference9Ideal.main_arg22)
      ∧ r.2.mem ((c.tc : Thread Cert.Reference9Ideal.nD Cert.Reference9Ideal.τ).loc Cert.Reference9Ideal.main_arg23) = m ((c.tc : Thread Cert.Reference9Ideal.nD Cert.Reference9Ideal.τ).loc Cert.Reference9Ideal.main_arg23)
      ∧ r.2.mem ((c.tc : Thread Cert.Reference9Ideal.nD Cert.Reference9Ideal.τ).loc Cert.Reference9Ideal.main_arg24) = m ((c.tc : Thread Cert.Reference9Ideal.nD Cert.Reference9Ideal.τ).loc Cert.Reference9Ideal.main_arg24)
      ∧ r.2.mem ((c.tc : Thread Cert.Reference9Ideal.nD Cert.Reference9Ideal.τ).loc Cert.Reference9Ideal.main_arg25) = m ((c.tc : Thread Cert.Reference9Ideal.nD Cert.Reference9Ideal.τ).loc Cert.Reference9Ideal.main_arg25)
      ∧ r.2.mem ((c.tc : Thread Cert.Reference9Ideal.nD Cert.Reference9Ideal.τ).loc Cert.Reference9Ideal.main_arg26) = m ((c.tc : Thread Cert.Reference9Ideal.nD Cert.Reference9Ideal.τ).loc Cert.Reference9Ideal.main_arg26)
      ∧ r.2.mem ((c.tc : Thread Cert.Reference9Ideal.nD Cert.Reference9Ideal.τ).loc Cert.Reference9Ideal.main_arg27) = m ((c.tc : Thread Cert.Reference9Ideal.nD Cert.Reference9Ideal.τ).loc Cert.Reference9Ideal.main_arg27)
      ∧ r.2.mem ((c.tc : Thread Cert.Reference9Ideal.nD Cert.Reference9Ideal.τ).loc Cert.Reference9Ideal.main_arg28) = m ((c.tc : Thread Cert.Reference9Ideal.nD Cert.Reference9Ideal.τ).loc Cert.Reference9Ideal.main_arg28)
      ∧ r.2.mem ((c.tc : Thread Cert.Reference9Ideal.nD Cert.Reference9Ideal.τ).loc Cert.Reference9Ideal.main_arg29) = m ((c.tc : Thread Cert.Reference9Ideal.nD Cert.Reference9Ideal.τ).loc Cert.Reference9Ideal.main_arg29)
      ∧ r.2.mem ((c.tc : Thread Cert.Reference9Ideal.nD Cert.Reference9Ideal.τ).loc Cert.Reference9Ideal.main_arg30) = m ((c.tc : Thread Cert.Reference9Ideal.nD Cert.Reference9Ideal.τ).loc Cert.Reference9Ideal.main_arg30)
      ∧ r.2.mem ((c.tc : Thread Cert.Reference9Ideal.nD Cert.Reference9Ideal.τ).loc Cert.Reference9Ideal.main_arg31) = m ((c.tc : Thread Cert.Reference9Ideal.nD Cert.Reference9Ideal.τ).loc Cert.Reference9Ideal.main_arg31)
      ∧ r.2.mem ((c.tc : Thread Cert.Reference9Ideal.nD Cert.Reference9Ideal.τ).loc Cert.Reference9Ideal.main_arg32) = m ((c.tc : Thread Cert.Reference9Ideal.nD Cert.Reference9Ideal.τ).loc Cert.Reference9Ideal.main_arg32)
      ∧ r.2.mem ((c.tc : Thread Cert.Reference9Ideal.nD Cert.Reference9Ideal.τ).loc Cert.Reference9Ideal.main_arg33) = m ((c.tc : Thread Cert.Reference9Ideal.nD Cert.Reference9Ideal.τ).loc Cert.Reference9Ideal.main_arg33)
      ∧ r.2.mem ((c.tc : Thread Cert.Reference9Ideal.nD Cert.Reference9Ideal.τ).loc Cert.Reference9Ideal.main_arg34) = m ((c.tc : Thread Cert.Reference9Ideal.nD Cert.Reference9Ideal.τ).loc Cert.Reference9Ideal.main_arg34)
      ∧ r.2.mem ((c.tc : Thread Cert.Reference9Ideal.nD Cert.Reference9Ideal.τ).loc Cert.Reference9Ideal.main_arg35) = m ((c.tc : Thread Cert.Reference9Ideal.nD Cert.Reference9Ideal.τ).loc Cert.Reference9Ideal.main_arg35)
      ∧ r.2.mem ((c.tc : Thread Cert.Reference9Ideal.nD Cert.Reference9Ideal.τ).loc Cert.Reference9Ideal.main_arg36) = m ((c.tc : Thread Cert.Reference9Ideal.nD Cert.Reference9Ideal.τ).loc Cert.Reference9Ideal.main_arg36)
      ∧ r.2.mem ((c.tc : Thread Cert.Reference9Ideal.nD Cert.Reference9Ideal.τ).loc Cert.Reference9Ideal.main_arg37) = m ((c.tc : Thread Cert.Reference9Ideal.nD Cert.Reference9Ideal.τ).loc Cert.Reference9Ideal.main_arg37)
      ∧ r.2.mem ((c.tc : Thread Cert.Reference9Ideal.nD Cert.Reference9Ideal.τ).loc Cert.Reference9Ideal.main_arg38) = m ((c.tc : Thread Cert.Reference9Ideal.nD Cert.Reference9Ideal.τ).loc Cert.Reference9Ideal.main_arg38)
      ∧ r.2.mem ((c.tc : Thread Cert.Reference9Ideal.nD Cert.Reference9Ideal.τ).loc Cert.Reference9Ideal.main_arg39) = m ((c.tc : Thread Cert.Reference9Ideal.nD Cert.Reference9Ideal.τ).loc Cert.Reference9Ideal.main_arg39)
      ∧ r.2.mem ((c.tc : Thread Cert.Reference9Ideal.nD Cert.Reference9Ideal.τ).loc Cert.Reference9Ideal.main_arg40) = m ((c.tc : Thread Cert.Reference9Ideal.nD Cert.Reference9Ideal.τ).loc Cert.Reference9Ideal.main_arg40)
      ∧ r.2.mem ((c.tc : Thread Cert.Reference9Ideal.nD Cert.Reference9Ideal.τ).loc Cert.Reference9Ideal.main_arg41) = m ((c.tc : Thread Cert.Reference9Ideal.nD Cert.Reference9Ideal.τ).loc Cert.Reference9Ideal.main_arg41)
      ∧ r.2.mem ((c.tc : Thread Cert.Reference9Ideal.nD Cert.Reference9Ideal.τ).loc Cert.Reference9Ideal.main_arg42) = m ((c.tc : Thread Cert.Reference9Ideal.nD Cert.Reference9Ideal.τ).loc Cert.Reference9Ideal.main_arg42)
      ∧ r.2.mem ((c.tc : Thread Cert.Reference9Ideal.nD Cert.Reference9Ideal.τ).loc Cert.Reference9Ideal.main_arg43) = m ((c.tc : Thread Cert.Reference9Ideal.nD Cert.Reference9Ideal.τ).loc Cert.Reference9Ideal.main_arg43)
      ∧ r.2.mem ((c.tc : Thread Cert.Reference9Ideal.nD Cert.Reference9Ideal.τ).loc Cert.Reference9Ideal.main_arg44) = m ((c.tc : Thread Cert.Reference9Ideal.nD Cert.Reference9Ideal.τ).loc Cert.Reference9Ideal.main_arg44)
      ∧ r.2.mem ((c.tc : Thread Cert.Reference9Ideal.nD Cert.Reference9Ideal.τ).loc Cert.Reference9Ideal.main_arg45) = m ((c.tc : Thread Cert.Reference9Ideal.nD Cert.Reference9Ideal.τ).loc Cert.Reference9Ideal.main_arg45)
      ∧ r.2.mem ((c.tc : Thread Cert.Reference9Ideal.nD Cert.Reference9Ideal.τ).loc Cert.Reference9Ideal.main_arg46) = m ((c.tc : Thread Cert.Reference9Ideal.nD Cert.Reference9Ideal.τ).loc Cert.Reference9Ideal.main_arg46)
      ∧ r.2.mem ((c.tc : Thread Cert.Reference9Ideal.nD Cert.Reference9Ideal.τ).loc Cert.Reference9Ideal.main_arg47) = m ((c.tc : Thread Cert.Reference9Ideal.nD Cert.Reference9Ideal.τ).loc Cert.Reference9Ideal.main_arg47))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_gradients_finite [hKernelIdeal : Cert.KernelIdeal.Facts] [hReferenceIdeal : Cert.ReferenceIdeal.Facts] [hPre_gradients_finite : Cert.Pre_gradients_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gradients_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_v229) = v1 c
          ∧ r.2.mem ((c.tc : Thread Cert.ReferenceIdeal.nD Cert.ReferenceIdeal.τ).loc Cert.ReferenceIdeal.main_v234) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)) (v1 : (c : Dev Cert.Kernel2Ideal.nD) → Buf (Elt Ideal) ((c.tc : Thread Cert.Kernel2Ideal.nD Cert.Kernel2Ideal.τ).loc Cert.Kernel2Ideal.main_v10)) (v2 : (c : Dev Cert.Kernel2Ideal.nD) → Buf (Elt Ideal) ((c.tc : Thread Cert.Kernel2Ideal.nD Cert.Kernel2Ideal.τ).loc Cert.Kernel2Ideal.main_v13)) (v3 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_v10) = v1 c
          ∧ r.2.mem ((c.tc : Thread Cert.Kernel2Ideal.nD Cert.Kernel2Ideal.τ).loc Cert.Kernel2Ideal.main_v13) = v2 c
          ∧ r.2.mem ((c.tc : Thread Cert.Kernel2Ideal.nD Cert.Kernel2Ideal.τ).loc Cert.Kernel2Ideal.main_v8) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v9) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v26)) (v1 : (c : Dev Cert.Kernel3Ideal.nD) → Buf (Elt Ideal) ((c.tc : Thread Cert.Kernel3Ideal.nD Cert.Kernel3Ideal.τ).loc Cert.Kernel3Ideal.main_v42)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26) = v0 c
          ∧ r.2.mem ((c.tc : Thread Cert.Kernel3Ideal.nD Cert.Kernel3Ideal.τ).loc Cert.Kernel3Ideal.main_v42) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6)) (v1 : (c : Dev Cert.Kernel4Ideal.nD) → Buf (Elt Ideal) ((c.tc : Thread Cert.Kernel4Ideal.nD Cert.Kernel4Ideal.τ).loc Cert.Kernel4Ideal.main_v12)) (v2 : (c : Dev Cert.Kernel4Ideal.nD) → Buf (Elt Ideal) ((c.tc : Thread Cert.Kernel4Ideal.nD Cert.Kernel4Ideal.τ).loc Cert.Kernel4Ideal.main_v10)) (v3 : (c : Dev Cert.Kernel4Ideal.nD) → Buf (Elt Ideal) ((c.tc : Thread Cert.Kernel4Ideal.nD Cert.Kernel4Ideal.τ).loc Cert.Kernel4Ideal.main_v9_2)) (v4 : (c : Dev Cert.Kernel4Ideal.nD) → Buf (Elt Ideal) ((c.tc : Thread Cert.Kernel4Ideal.nD Cert.Kernel4Ideal.τ).loc Cert.Kernel4Ideal.main_v9_3)) (v5 : (c : Dev Cert.Kernel4Ideal.nD) → Buf (Elt Ideal) ((c.tc : Thread Cert.Kernel4Ideal.nD Cert.Kernel4Ideal.τ).loc Cert.Kernel4Ideal.main_v13)) (v6 : (c : Dev Cert.Kernel4Ideal.nD) → Buf (Elt Ideal) ((c.tc : Thread Cert.Kernel4Ideal.nD Cert.Kernel4Ideal.τ).loc Cert.Kernel4Ideal.main_v11)) (v7 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_v12) = v1 c
          ∧ r.2.mem ((c.tc : Thread Cert.Kernel4Ideal.nD Cert.Kernel4Ideal.τ).loc Cert.Kernel4Ideal.main_v10) = v2 c
          ∧ r.2.mem ((c.tc : Thread Cert.Kernel4Ideal.nD Cert.Kernel4Ideal.τ).loc Cert.Kernel4Ideal.main_v9_2) = v3 c
          ∧ r.2.mem ((c.tc : Thread Cert.Kernel4Ideal.nD Cert.Kernel4Ideal.τ).loc Cert.Kernel4Ideal.main_v9_3) = v4 c
          ∧ r.2.mem ((c.tc : Thread Cert.Kernel4Ideal.nD Cert.Kernel4Ideal.τ).loc Cert.Kernel4Ideal.main_v13) = v5 c
          ∧ r.2.mem ((c.tc : Thread Cert.Kernel4Ideal.nD Cert.Kernel4Ideal.τ).loc Cert.Kernel4Ideal.main_v11) = v6 c
          ∧ r.2.mem ((c.tc : Thread Cert.Kernel4Ideal.nD Cert.Kernel4Ideal.τ).loc Cert.Kernel4Ideal.main_v8) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_v40) = v4 c
          ∧ r.2.mem ((c.tc : Thread Cert.Reference4Ideal.nD Cert.Reference4Ideal.τ).loc Cert.Reference4Ideal.main_v35) = v5 c
          ∧ r.2.mem ((c.tc : Thread Cert.Reference4Ideal.nD Cert.Reference4Ideal.τ).loc Cert.Reference4Ideal.main_v32) = v6 c
          ∧ r.2.mem ((c.tc : Thread Cert.Reference4Ideal.nD Cert.Reference4Ideal.τ).loc Cert.Reference4Ideal.main_v23) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v23)) (v1 : (c : Dev Cert.Kernel5Ideal.nD) → Buf (Elt Ideal) ((c.tc : Thread Cert.Kernel5Ideal.nD Cert.Kernel5Ideal.τ).loc Cert.Kernel5Ideal.main_v32)) (v2 : (c : Dev Cert.Kernel5Ideal.nD) → Buf (Elt Ideal) ((c.tc : Thread Cert.Kernel5Ideal.nD Cert.Kernel5Ideal.τ).loc Cert.Kernel5Ideal.main_v33)) (v3 : (c : Dev Cert.Kernel5Ideal.nD) → Buf (Elt Ideal) ((c.tc : Thread Cert.Kernel5Ideal.nD Cert.Kernel5Ideal.τ).loc Cert.Kernel5Ideal.main_v34)) (v4 : (c : Dev Cert.Kernel5Ideal.nD) → Buf (Elt Ideal) ((c.tc : Thread Cert.Kernel5Ideal.nD Cert.Kernel5Ideal.τ).loc Cert.Kernel5Ideal.main_v35)) (v5 : (c : Dev Cert.Kernel5Ideal.nD) → Buf (Elt Ideal) ((c.tc : Thread Cert.Kernel5Ideal.nD Cert.Kernel5Ideal.τ).loc Cert.Kernel5Ideal.main_v19)) (v6 : (c : Dev Cert.Kernel5Ideal.nD) → Buf (Elt Ideal) ((c.tc : Thread Cert.Kernel5Ideal.nD Cert.Kernel5Ideal.τ).loc Cert.Kernel5Ideal.main_v21)) (v7 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23) = v0 c
          ∧ r.2.mem ((c.tc : Thread Cert.Kernel5Ideal.nD Cert.Kernel5Ideal.τ).loc Cert.Kernel5Ideal.main_v32) = v1 c
          ∧ r.2.mem ((c.tc : Thread Cert.Kernel5Ideal.nD Cert.Kernel5Ideal.τ).loc Cert.Kernel5Ideal.main_v33) = v2 c
          ∧ r.2.mem ((c.tc : Thread Cert.Kernel5Ideal.nD Cert.Kernel5Ideal.τ).loc Cert.Kernel5Ideal.main_v34) = v3 c
          ∧ r.2.mem ((c.tc : Thread Cert.Kernel5Ideal.nD Cert.Kernel5Ideal.τ).loc Cert.Kernel5Ideal.main_v35) = v4 c
          ∧ r.2.mem ((c.tc : Thread Cert.Kernel5Ideal.nD Cert.Kernel5Ideal.τ).loc Cert.Kernel5Ideal.main_v19) = v5 c
          ∧ r.2.mem ((c.tc : Thread Cert.Kernel5Ideal.nD Cert.Kernel5Ideal.τ).loc Cert.Kernel5Ideal.main_v21) = v6 c
          ∧ r.2.mem ((c.tc : Thread Cert.Kernel5Ideal.nD Cert.Kernel5Ideal.τ).loc Cert.Kernel5Ideal.main_v22) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_v14) = v4 c
          ∧ r.2.mem ((c.tc : Thread Cert.Reference5Ideal.nD Cert.Reference5Ideal.τ).loc Cert.Reference5Ideal.main_v8) = v5 c
          ∧ r.2.mem ((c.tc : Thread Cert.Reference5Ideal.nD Cert.Reference5Ideal.τ).loc Cert.Reference5Ideal.main_v10) = v6 c
          ∧ r.2.mem ((c.tc : Thread Cert.Reference5Ideal.nD Cert.Reference5Ideal.τ).loc Cert.Reference5Ideal.main_v17) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v5)) (v5 : (c : Dev Cert.Kernel6Ideal.nD) → Buf (Elt Ideal) ((c.tc : Thread Cert.Kernel6Ideal.nD Cert.Kernel6Ideal.τ).loc Cert.Kernel6Ideal.main_v6)) (v6 : (c : Dev Cert.Kernel6Ideal.nD) → Buf (Elt Ideal) ((c.tc : Thread Cert.Kernel6Ideal.nD Cert.Kernel6Ideal.τ).loc Cert.Kernel6Ideal.main_v7)) (v7 : (c : Dev Cert.Kernel6Ideal.nD) → Buf (Elt Ideal) ((c.tc : Thread Cert.Kernel6Ideal.nD Cert.Kernel6Ideal.τ).loc Cert.Kernel6Ideal.main_v8)) (v8 : (c : Dev Cert.Kernel6Ideal.nD) → Buf (Elt Ideal) ((c.tc : Thread Cert.Kernel6Ideal.nD Cert.Kernel6Ideal.τ).loc Cert.Kernel6Ideal.main_v9_0)) (v9 : (c : Dev Cert.Kernel6Ideal.nD) → Buf (Elt Ideal) ((c.tc : Thread Cert.Kernel6Ideal.nD Cert.Kernel6Ideal.τ).loc Cert.Kernel6Ideal.main_v9_1)) (v10 : (c : Dev Cert.Kernel6Ideal.nD) → Buf (Elt Ideal) ((c.tc : Thread Cert.Kernel6Ideal.nD Cert.Kernel6Ideal.τ).loc Cert.Kernel6Ideal.main_v9_2)) (v11 : (c : Dev Cert.Kernel6Ideal.nD) → Buf (Elt Ideal) ((c.tc : Thread Cert.Kernel6Ideal.nD Cert.Kernel6Ideal.τ).loc Cert.Kernel6Ideal.main_v9_3)) (v12 : (c : Dev Cert.Kernel6Ideal.nD) → Buf (Elt Ideal) ((c.tc : Thread Cert.Kernel6Ideal.nD Cert.Kernel6Ideal.τ).loc Cert.Kernel6Ideal.main_v14)) (v13 : (c : Dev Cert.Kernel6Ideal.nD) → Buf (Elt Ideal) ((c.tc : Thread Cert.Kernel6Ideal.nD Cert.Kernel6Ideal.τ).loc Cert.Kernel6Ideal.main_v15)) (v14 : (c : Dev Cert.Kernel6Ideal.nD) → Buf (Elt Ideal) ((c.tc : Thread Cert.Kernel6Ideal.nD Cert.Kernel6Ideal.τ).loc Cert.Kernel6Ideal.main_v16)) (v15 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v5) = v4 c
          ∧ r.2.mem ((c.tc : Thread Cert.Kernel6Ideal.nD Cert.Kernel6Ideal.τ).loc Cert.Kernel6Ideal.main_v6) = v5 c
          ∧ r.2.mem ((c.tc : Thread Cert.Kernel6Ideal.nD Cert.Kernel6Ideal.τ).loc Cert.Kernel6Ideal.main_v7) = v6 c
          ∧ r.2.mem ((c.tc : Thread Cert.Kernel6Ideal.nD Cert.Kernel6Ideal.τ).loc Cert.Kernel6Ideal.main_v8) = v7 c
          ∧ r.2.mem ((c.tc : Thread Cert.Kernel6Ideal.nD Cert.Kernel6Ideal.τ).loc Cert.Kernel6Ideal.main_v9_0) = v8 c
          ∧ r.2.mem ((c.tc : Thread Cert.Kernel6Ideal.nD Cert.Kernel6Ideal.τ).loc Cert.Kernel6Ideal.main_v9_1) = v9 c
          ∧ r.2.mem ((c.tc : Thread Cert.Kernel6Ideal.nD Cert.Kernel6Ideal.τ).loc Cert.Kernel6Ideal.main_v9_2) = v10 c
          ∧ r.2.mem ((c.tc : Thread Cert.Kernel6Ideal.nD Cert.Kernel6Ideal.τ).loc Cert.Kernel6Ideal.main_v9_3) = v11 c
          ∧ r.2.mem ((c.tc : Thread Cert.Kernel6Ideal.nD Cert.Kernel6Ideal.τ).loc Cert.Kernel6Ideal.main_v14) = v12 c
          ∧ r.2.mem ((c.tc : Thread Cert.Kernel6Ideal.nD Cert.Kernel6Ideal.τ).loc Cert.Kernel6Ideal.main_v15) = v13 c
          ∧ r.2.mem ((c.tc : Thread Cert.Kernel6Ideal.nD Cert.Kernel6Ideal.τ).loc Cert.Kernel6Ideal.main_v16) = v14 c
          ∧ r.2.mem ((c.tc : Thread Cert.Kernel6Ideal.nD Cert.Kernel6Ideal.τ).loc Cert.Kernel6Ideal.main_v17) = v15 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_v30) = v4 c
          ∧ r.2.mem ((c.tc : Thread Cert.Reference6Ideal.nD Cert.Reference6Ideal.τ).loc Cert.Reference6Ideal.main_v54) = v5 c
          ∧ r.2.mem ((c.tc : Thread Cert.Reference6Ideal.nD Cert.Reference6Ideal.τ).loc Cert.Reference6Ideal.main_v35) = v6 c
          ∧ r.2.mem ((c.tc : Thread Cert.Reference6Ideal.nD Cert.Reference6Ideal.τ).loc Cert.Reference6Ideal.main_v41) = v7 c
          ∧ r.2.mem ((c.tc : Thread Cert.Reference6Ideal.nD Cert.Reference6Ideal.τ).loc Cert.Reference6Ideal.main_v57) = v8 c
          ∧ r.2.mem ((c.tc : Thread Cert.Reference6Ideal.nD Cert.Reference6Ideal.τ).loc Cert.Reference6Ideal.main_v81) = v9 c
          ∧ r.2.mem ((c.tc : Thread Cert.Reference6Ideal.nD Cert.Reference6Ideal.τ).loc Cert.Reference6Ideal.main_v62) = v10 c
          ∧ r.2.mem ((c.tc : Thread Cert.Reference6Ideal.nD Cert.Reference6Ideal.τ).loc Cert.Reference6Ideal.main_v68) = v11 c
          ∧ r.2.mem ((c.tc : Thread Cert.Reference6Ideal.nD Cert.Reference6Ideal.τ).loc Cert.Reference6Ideal.main_v85) = v12 c
          ∧ r.2.mem ((c.tc : Thread Cert.Reference6Ideal.nD Cert.Reference6Ideal.τ).loc Cert.Reference6Ideal.main_v109) = v13 c
          ∧ r.2.mem ((c.tc : Thread Cert.Reference6Ideal.nD Cert.Reference6Ideal.τ).loc Cert.Reference6Ideal.main_v90) = v14 c
          ∧ r.2.mem ((c.tc : Thread Cert.Reference6Ideal.nD Cert.Reference6Ideal.τ).loc Cert.Reference6Ideal.main_v96) = v15 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)
      ∧ m' ((c.tc : Thread Cert.Reference7Ideal.nD Cert.Reference7Ideal.τ).loc Cert.Reference7Ideal.main_arg19) = m ((c.tc : Thread Cert.Kernel7Ideal.nD Cert.Kernel7Ideal.τ).loc Cert.Kernel7Ideal.main_arg19)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v1_0)) (v5 : (c : Dev Cert.Kernel7Ideal.nD) → Buf (Elt Ideal) ((c.tc : Thread Cert.Kernel7Ideal.nD Cert.Kernel7Ideal.τ).loc Cert.Kernel7Ideal.main_v1_1)) (v6 : (c : Dev Cert.Kernel7Ideal.nD) → Buf (Elt Ideal) ((c.tc : Thread Cert.Kernel7Ideal.nD Cert.Kernel7Ideal.τ).loc Cert.Kernel7Ideal.main_v1_2)) (v7 : (c : Dev Cert.Kernel7Ideal.nD) → Buf (Elt Ideal) ((c.tc : Thread Cert.Kernel7Ideal.nD Cert.Kernel7Ideal.τ).loc Cert.Kernel7Ideal.main_v1_3)) (v8 : (c : Dev Cert.Kernel7Ideal.nD) → Buf (Elt Ideal) ((c.tc : Thread Cert.Kernel7Ideal.nD Cert.Kernel7Ideal.τ).loc Cert.Kernel7Ideal.main_v2_0)) (v9 : (c : Dev Cert.Kernel7Ideal.nD) → Buf (Elt Ideal) ((c.tc : Thread Cert.Kernel7Ideal.nD Cert.Kernel7Ideal.τ).loc Cert.Kernel7Ideal.main_v2_1)) (v10 : (c : Dev Cert.Kernel7Ideal.nD) → Buf (Elt Ideal) ((c.tc : Thread Cert.Kernel7Ideal.nD Cert.Kernel7Ideal.τ).loc Cert.Kernel7Ideal.main_v2_2)) (v11 : (c : Dev Cert.Kernel7Ideal.nD) → Buf (Elt Ideal) ((c.tc : Thread Cert.Kernel7Ideal.nD Cert.Kernel7Ideal.τ).loc Cert.Kernel7Ideal.main_v2_3)) (v12 : (c : Dev Cert.Kernel7Ideal.nD) → Buf (Elt Ideal) ((c.tc : Thread Cert.Kernel7Ideal.nD Cert.Kernel7Ideal.τ).loc Cert.Kernel7Ideal.main_v3_0)) (v13 : (c : Dev Cert.Kernel7Ideal.nD) → Buf (Elt Ideal) ((c.tc : Thread Cert.Kernel7Ideal.nD Cert.Kernel7Ideal.τ).loc Cert.Kernel7Ideal.main_v3_1)) (v14 : (c : Dev Cert.Kernel7Ideal.nD) → Buf (Elt Ideal) ((c.tc : Thread Cert.Kernel7Ideal.nD Cert.Kernel7Ideal.τ).loc Cert.Kernel7Ideal.main_v3_2)) (v15 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v1_0) = v4 c
          ∧ r.2.mem ((c.tc : Thread Cert.Kernel7Ideal.nD Cert.Kernel7Ideal.τ).loc Cert.Kernel7Ideal.main_v1_1) = v5 c
          ∧ r.2.mem ((c.tc : Thread Cert.Kernel7Ideal.nD Cert.Kernel7Ideal.τ).loc Cert.Kernel7Ideal.main_v1_2) = v6 c
          ∧ r.2.mem ((c.tc : Thread Cert.Kernel7Ideal.nD Cert.Kernel7Ideal.τ).loc Cert.Kernel7Ideal.main_v1_3) = v7 c
          ∧ r.2.mem ((c.tc : Thread Cert.Kernel7Ideal.nD Cert.Kernel7Ideal.τ).loc Cert.Kernel7Ideal.main_v2_0) = v8 c
          ∧ r.2.mem ((c.tc : Thread Cert.Kernel7Ideal.nD Cert.Kernel7Ideal.τ).loc Cert.Kernel7Ideal.main_v2_1) = v9 c
          ∧ r.2.mem ((c.tc : Thread Cert.Kernel7Ideal.nD Cert.Kernel7Ideal.τ).loc Cert.Kernel7Ideal.main_v2_2) = v10 c
          ∧ r.2.mem ((c.tc : Thread Cert.Kernel7Ideal.nD Cert.Kernel7Ideal.τ).loc Cert.Kernel7Ideal.main_v2_3) = v11 c
          ∧ r.2.mem ((c.tc : Thread Cert.Kernel7Ideal.nD Cert.Kernel7Ideal.τ).loc Cert.Kernel7Ideal.main_v3_0) = v12 c
          ∧ r.2.mem ((c.tc : Thread Cert.Kernel7Ideal.nD Cert.Kernel7Ideal.τ).loc Cert.Kernel7Ideal.main_v3_1) = v13 c
          ∧ r.2.mem ((c.tc : Thread Cert.Kernel7Ideal.nD Cert.Kernel7Ideal.τ).loc Cert.Kernel7Ideal.main_v3_2) = v14 c
          ∧ r.2.mem ((c.tc : Thread Cert.Kernel7Ideal.nD Cert.Kernel7Ideal.τ).loc Cert.Kernel7Ideal.main_v3_3) = v15 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18)
          ∧ r.2.mem ((c.tc : Thread Cert.Kernel7Ideal.nD Cert.Kernel7Ideal.τ).loc Cert.Kernel7Ideal.main_arg19) = m ((c.tc : Thread Cert.Kernel7Ideal.nD Cert.Kernel7Ideal.τ).loc Cert.Kernel7Ideal.main_arg19))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_v29) = v4 c
          ∧ r.2.mem ((c.tc : Thread Cert.Reference7Ideal.nD Cert.Reference7Ideal.τ).loc Cert.Reference7Ideal.main_v53) = v5 c
          ∧ r.2.mem ((c.tc : Thread Cert.Reference7Ideal.nD Cert.Reference7Ideal.τ).loc Cert.Reference7Ideal.main_v34) = v6 c
          ∧ r.2.mem ((c.tc : Thread Cert.Reference7Ideal.nD Cert.Reference7Ideal.τ).loc Cert.Reference7Ideal.main_v40) = v7 c
          ∧ r.2.mem ((c.tc : Thread Cert.Reference7Ideal.nD Cert.Reference7Ideal.τ).loc Cert.Reference7Ideal.main_v56) = v8 c
          ∧ r.2.mem ((c.tc : Thread Cert.Reference7Ideal.nD Cert.Reference7Ideal.τ).loc Cert.Reference7Ideal.main_v80) = v9 c
          ∧ r.2.mem ((c.tc : Thread Cert.Reference7Ideal.nD Cert.Reference7Ideal.τ).loc Cert.Reference7Ideal.main_v61) = v10 c
          ∧ r.2.mem ((c.tc : Thread Cert.Reference7Ideal.nD Cert.Reference7Ideal.τ).loc Cert.Reference7Ideal.main_v67) = v11 c
          ∧ r.2.mem ((c.tc : Thread Cert.Reference7Ideal.nD Cert.Reference7Ideal.τ).loc Cert.Reference7Ideal.main_v83) = v12 c
          ∧ r.2.mem ((c.tc : Thread Cert.Reference7Ideal.nD Cert.Reference7Ideal.τ).loc Cert.Reference7Ideal.main_v107) = v13 c
          ∧ r.2.mem ((c.tc : Thread Cert.Reference7Ideal.nD Cert.Reference7Ideal.τ).loc Cert.Reference7Ideal.main_v88) = v14 c
          ∧ r.2.mem ((c.tc : Thread Cert.Reference7Ideal.nD Cert.Reference7Ideal.τ).loc Cert.Reference7Ideal.main_v94) = v15 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18)
          ∧ r.2.mem ((c.tc : Thread Cert.Reference7Ideal.nD Cert.Reference7Ideal.τ).loc Cert.Reference7Ideal.main_arg19) = m' ((c.tc : Thread Cert.Reference7Ideal.nD Cert.Reference7Ideal.τ).loc Cert.Reference7Ideal.main_arg19))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v17)) (v1 : (c : Dev Cert.Kernel8Ideal.nD) → Buf (Elt Ideal) ((c.tc : Thread Cert.Kernel8Ideal.nD Cert.Kernel8Ideal.τ).loc Cert.Kernel8Ideal.main_v26)) (v2 : (c : Dev Cert.Kernel8Ideal.nD) → Buf (Elt Ideal) ((c.tc : Thread Cert.Kernel8Ideal.nD Cert.Kernel8Ideal.τ).loc Cert.Kernel8Ideal.main_v27)) (v3 : (c : Dev Cert.Kernel8Ideal.nD) → Buf (Elt Ideal) ((c.tc : Thread Cert.Kernel8Ideal.nD Cert.Kernel8Ideal.τ).loc Cert.Kernel8Ideal.main_v28)) (v4 : (c : Dev Cert.Kernel8Ideal.nD) → Buf (Elt Ideal) ((c.tc : Thread Cert.Kernel8Ideal.nD Cert.Kernel8Ideal.τ).loc Cert.Kernel8Ideal.main_v29)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17) = v0 c
          ∧ r.2.mem ((c.tc : Thread Cert.Kernel8Ideal.nD Cert.Kernel8Ideal.τ).loc Cert.Kernel8Ideal.main_v26) = v1 c
          ∧ r.2.mem ((c.tc : Thread Cert.Kernel8Ideal.nD Cert.Kernel8Ideal.τ).loc Cert.Kernel8Ideal.main_v27) = v2 c
          ∧ r.2.mem ((c.tc : Thread Cert.Kernel8Ideal.nD Cert.Kernel8Ideal.τ).loc Cert.Kernel8Ideal.main_v28) = v3 c
          ∧ r.2.mem ((c.tc : Thread Cert.Kernel8Ideal.nD Cert.Kernel8Ideal.τ).loc Cert.Kernel8Ideal.main_v29) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v5) = v3 c
          ∧ r.2.mem ((c.tc : Thread Cert.Reference8Ideal.nD Cert.Reference8Ideal.τ).loc Cert.Reference8Ideal.main_v6) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)
      ∧ m' ((c.tc : Thread Cert.Reference9Ideal.nD Cert.Reference9Ideal.τ).loc Cert.Reference9Ideal.main_arg16) = m ((c.tc : Thread Cert.Kernel9Ideal.nD Cert.Kernel9Ideal.τ).loc Cert.Kernel9Ideal.main_arg16)
      ∧ m' ((c.tc : Thread Cert.Reference9Ideal.nD Cert.Reference9Ideal.τ).loc Cert.Reference9Ideal.main_arg17) = m ((c.tc : Thread Cert.Kernel9Ideal.nD Cert.Kernel9Ideal.τ).loc Cert.Kernel9Ideal.main_arg17)
      ∧ m' ((c.tc : Thread Cert.Reference9Ideal.nD Cert.Reference9Ideal.τ).loc Cert.Reference9Ideal.main_arg18) = m ((c.tc : Thread Cert.Kernel9Ideal.nD Cert.Kernel9Ideal.τ).loc Cert.Kernel9Ideal.main_arg18)
      ∧ m' ((c.tc : Thread Cert.Reference9Ideal.nD Cert.Reference9Ideal.τ).loc Cert.Reference9Ideal.main_arg19) = m ((c.tc : Thread Cert.Kernel9Ideal.nD Cert.Kernel9Ideal.τ).loc Cert.Kernel9Ideal.main_arg19)
      ∧ m' ((c.tc : Thread Cert.Reference9Ideal.nD Cert.Reference9Ideal.τ).loc Cert.Reference9Ideal.main_arg20) = m ((c.tc : Thread Cert.Kernel9Ideal.nD Cert.Kernel9Ideal.τ).loc Cert.Kernel9Ideal.main_arg20)
      ∧ m' ((c.tc : Thread Cert.Reference9Ideal.nD Cert.Reference9Ideal.τ).loc Cert.Reference9Ideal.main_arg21) = m ((c.tc : Thread Cert.Kernel9Ideal.nD Cert.Kernel9Ideal.τ).loc Cert.Kernel9Ideal.main_arg21)
      ∧ m' ((c.tc : Thread Cert.Reference9Ideal.nD Cert.Reference9Ideal.τ).loc Cert.Reference9Ideal.main_arg22) = m ((c.tc : Thread Cert.Kernel9Ideal.nD Cert.Kernel9Ideal.τ).loc Cert.Kernel9Ideal.main_arg22)
      ∧ m' ((c.tc : Thread Cert.Reference9Ideal.nD Cert.Reference9Ideal.τ).loc Cert.Reference9Ideal.main_arg23) = m ((c.tc : Thread Cert.Kernel9Ideal.nD Cert.Kernel9Ideal.τ).loc Cert.Kernel9Ideal.main_arg23)
      ∧ m' ((c.tc : Thread Cert.Reference9Ideal.nD Cert.Reference9Ideal.τ).loc Cert.Reference9Ideal.main_arg24) = m ((c.tc : Thread Cert.Kernel9Ideal.nD Cert.Kernel9Ideal.τ).loc Cert.Kernel9Ideal.main_arg24)
      ∧ m' ((c.tc : Thread Cert.Reference9Ideal.nD Cert.Reference9Ideal.τ).loc Cert.Reference9Ideal.main_arg25) = m ((c.tc : Thread Cert.Kernel9Ideal.nD Cert.Kernel9Ideal.τ).loc Cert.Kernel9Ideal.main_arg25)
      ∧ m' ((c.tc : Thread Cert.Reference9Ideal.nD Cert.Reference9Ideal.τ).loc Cert.Reference9Ideal.main_arg26) = m ((c.tc : Thread Cert.Kernel9Ideal.nD Cert.Kernel9Ideal.τ).loc Cert.Kernel9Ideal.main_arg26)
      ∧ m' ((c.tc : Thread Cert.Reference9Ideal.nD Cert.Reference9Ideal.τ).loc Cert.Reference9Ideal.main_arg27) = m ((c.tc : Thread Cert.Kernel9Ideal.nD Cert.Kernel9Ideal.τ).loc Cert.Kernel9Ideal.main_arg27)
      ∧ m' ((c.tc : Thread Cert.Reference9Ideal.nD Cert.Reference9Ideal.τ).loc Cert.Reference9Ideal.main_arg28) = m ((c.tc : Thread Cert.Kernel9Ideal.nD Cert.Kernel9Ideal.τ).loc Cert.Kernel9Ideal.main_arg28)
      ∧ m' ((c.tc : Thread Cert.Reference9Ideal.nD Cert.Reference9Ideal.τ).loc Cert.Reference9Ideal.main_arg29) = m ((c.tc : Thread Cert.Kernel9Ideal.nD Cert.Kernel9Ideal.τ).loc Cert.Kernel9Ideal.main_arg29)
      ∧ m' ((c.tc : Thread Cert.Reference9Ideal.nD Cert.Reference9Ideal.τ).loc Cert.Reference9Ideal.main_arg30) = m ((c.tc : Thread Cert.Kernel9Ideal.nD Cert.Kernel9Ideal.τ).loc Cert.Kernel9Ideal.main_arg30)
      ∧ m' ((c.tc : Thread Cert.Reference9Ideal.nD Cert.Reference9Ideal.τ).loc Cert.Reference9Ideal.main_arg31) = m ((c.tc : Thread Cert.Kernel9Ideal.nD Cert.Kernel9Ideal.τ).loc Cert.Kernel9Ideal.main_arg31)
      ∧ m' ((c.tc : Thread Cert.Reference9Ideal.nD Cert.Reference9Ideal.τ).loc Cert.Reference9Ideal.main_arg32) = m ((c.tc : Thread Cert.Kernel9Ideal.nD Cert.Kernel9Ideal.τ).loc Cert.Kernel9Ideal.main_arg32)
      ∧ m' ((c.tc : Thread Cert.Reference9Ideal.nD Cert.Reference9Ideal.τ).loc Cert.Reference9Ideal.main_arg33) = m ((c.tc : Thread Cert.Kernel9Ideal.nD Cert.Kernel9Ideal.τ).loc Cert.Kernel9Ideal.main_arg33)
      ∧ m' ((c.tc : Thread Cert.Reference9Ideal.nD Cert.Reference9Ideal.τ).loc Cert.Reference9Ideal.main_arg34) = m ((c.tc : Thread Cert.Kernel9Ideal.nD Cert.Kernel9Ideal.τ).loc Cert.Kernel9Ideal.main_arg34)
      ∧ m' ((c.tc : Thread Cert.Reference9Ideal.nD Cert.Reference9Ideal.τ).loc Cert.Reference9Ideal.main_arg35) = m ((c.tc : Thread Cert.Kernel9Ideal.nD Cert.Kernel9Ideal.τ).loc Cert.Kernel9Ideal.main_arg35)
      ∧ m' ((c.tc : Thread Cert.Reference9Ideal.nD Cert.Reference9Ideal.τ).loc Cert.Reference9Ideal.main_arg36) = m ((c.tc : Thread Cert.Kernel9Ideal.nD Cert.Kernel9Ideal.τ).loc Cert.Kernel9Ideal.main_arg36)
      ∧ m' ((c.tc : Thread Cert.Reference9Ideal.nD Cert.Reference9Ideal.τ).loc Cert.Reference9Ideal.main_arg37) = m ((c.tc : Thread Cert.Kernel9Ideal.nD Cert.Kernel9Ideal.τ).loc Cert.Kernel9Ideal.main_arg37)
      ∧ m' ((c.tc : Thread Cert.Reference9Ideal.nD Cert.Reference9Ideal.τ).loc Cert.Reference9Ideal.main_arg38) = m ((c.tc : Thread Cert.Kernel9Ideal.nD Cert.Kernel9Ideal.τ).loc Cert.Kernel9Ideal.main_arg38)
      ∧ m' ((c.tc : Thread Cert.Reference9Ideal.nD Cert.Reference9Ideal.τ).loc Cert.Reference9Ideal.main_arg39) = m ((c.tc : Thread Cert.Kernel9Ideal.nD Cert.Kernel9Ideal.τ).loc Cert.Kernel9Ideal.main_arg39)
      ∧ m' ((c.tc : Thread Cert.Reference9Ideal.nD Cert.Reference9Ideal.τ).loc Cert.Reference9Ideal.main_arg40) = m ((c.tc : Thread Cert.Kernel9Ideal.nD Cert.Kernel9Ideal.τ).loc Cert.Kernel9Ideal.main_arg40)
      ∧ m' ((c.tc : Thread Cert.Reference9Ideal.nD Cert.Reference9Ideal.τ).loc Cert.Reference9Ideal.main_arg41) = m ((c.tc : Thread Cert.Kernel9Ideal.nD Cert.Kernel9Ideal.τ).loc Cert.Kernel9Ideal.main_arg41)
      ∧ m' ((c.tc : Thread Cert.Reference9Ideal.nD Cert.Reference9Ideal.τ).loc Cert.Reference9Ideal.main_arg42) = m ((c.tc : Thread Cert.Kernel9Ideal.nD Cert.Kernel9Ideal.τ).loc Cert.Kernel9Ideal.main_arg42)
      ∧ m' ((c.tc : Thread Cert.Reference9Ideal.nD Cert.Reference9Ideal.τ).loc Cert.Reference9Ideal.main_arg43) = m ((c.tc : Thread Cert.Kernel9Ideal.nD Cert.Kernel9Ideal.τ).loc Cert.Kernel9Ideal.main_arg43)
      ∧ m' ((c.tc : Thread Cert.Reference9Ideal.nD Cert.Reference9Ideal.τ).loc Cert.Reference9Ideal.main_arg44) = m ((c.tc : Thread Cert.Kernel9Ideal.nD Cert.Kernel9Ideal.τ).loc Cert.Kernel9Ideal.main_arg44)
      ∧ m' ((c.tc : Thread Cert.Reference9Ideal.nD Cert.Reference9Ideal.τ).loc Cert.Reference9Ideal.main_arg45) = m ((c.tc : Thread Cert.Kernel9Ideal.nD Cert.Kernel9Ideal.τ).loc Cert.Kernel9Ideal.main_arg45)
      ∧ m' ((c.tc : Thread Cert.Reference9Ideal.nD Cert.Reference9Ideal.τ).loc Cert.Reference9Ideal.main_arg46) = m ((c.tc : Thread Cert.Kernel9Ideal.nD Cert.Kernel9Ideal.τ).loc Cert.Kernel9Ideal.main_arg46)
      ∧ m' ((c.tc : Thread Cert.Reference9Ideal.nD Cert.Reference9Ideal.τ).loc Cert.Reference9Ideal.main_arg47) = m ((c.tc : Thread Cert.Kernel9Ideal.nD Cert.Kernel9Ideal.τ).loc Cert.Kernel9Ideal.main_arg47)) →
    ∃ (v0 : (c : Dev Cert.Kernel9Ideal.nD) → Buf (Elt Ideal) ((c.tc : Thread Cert.Kernel9Ideal.nD Cert.Kernel9Ideal.τ).loc Cert.Kernel9Ideal.main_v63)) (v1 : (c : Dev Cert.Kernel9Ideal.nD) → Buf (Elt Ideal) ((c.tc : Thread Cert.Kernel9Ideal.nD Cert.Kernel9Ideal.τ).loc Cert.Kernel9Ideal.main_v65)) (v2 : (c : Dev Cert.Kernel9Ideal.nD) → Buf (Elt Ideal) ((c.tc : Thread Cert.Kernel9Ideal.nD Cert.Kernel9Ideal.τ).loc Cert.Kernel9Ideal.main_v67)) (v3 : (c : Dev Cert.Kernel9Ideal.nD) → Buf (Elt Ideal) ((c.tc : Thread Cert.Kernel9Ideal.nD Cert.Kernel9Ideal.τ).loc Cert.Kernel9Ideal.main_v69)) (v4 : (c : Dev Cert.Kernel9Ideal.nD) → Buf (Elt Ideal) ((c.tc : Thread Cert.Kernel9Ideal.nD Cert.Kernel9Ideal.τ).loc Cert.Kernel9Ideal.main_v71)) (v5 : (c : Dev Cert.Kernel9Ideal.nD) → Buf (Elt Ideal) ((c.tc : Thread Cert.Kernel9Ideal.nD Cert.Kernel9Ideal.τ).loc Cert.Kernel9Ideal.main_v73)) (v6 : (c : Dev Cert.Kernel9Ideal.nD) → Buf (Elt Ideal) ((c.tc : Thread Cert.Kernel9Ideal.nD Cert.Kernel9Ideal.τ).loc Cert.Kernel9Ideal.main_v75)) (v7 : (c : Dev Cert.Kernel9Ideal.nD) → Buf (Elt Ideal) ((c.tc : Thread Cert.Kernel9Ideal.nD Cert.Kernel9Ideal.τ).loc Cert.Kernel9Ideal.main_v77)) (v8 : (c : Dev Cert.Kernel9Ideal.nD) → Buf (Elt Ideal) ((c.tc : Thread Cert.Kernel9Ideal.nD Cert.Kernel9Ideal.τ).loc Cert.Kernel9Ideal.main_v79)) (v9 : (c : Dev Cert.Kernel9Ideal.nD) → Buf (Elt Ideal) ((c.tc : Thread Cert.Kernel9Ideal.nD Cert.Kernel9Ideal.τ).loc Cert.Kernel9Ideal.main_v81)) (v10 : (c : Dev Cert.Kernel9Ideal.nD) → Buf (Elt Ideal) ((c.tc : Thread Cert.Kernel9Ideal.nD Cert.Kernel9Ideal.τ).loc Cert.Kernel9Ideal.main_v83)) (v11 : (c : Dev Cert.Kernel9Ideal.nD) → Buf (Elt Ideal) ((c.tc : Thread Cert.Kernel9Ideal.nD Cert.Kernel9Ideal.τ).loc Cert.Kernel9Ideal.main_v84)) (v12 : (c : Dev Cert.Kernel9Ideal.nD) → Buf (Elt Ideal) ((c.tc : Thread Cert.Kernel9Ideal.nD Cert.Kernel9Ideal.τ).loc Cert.Kernel9Ideal.main_v86)) (v13 : (c : Dev Cert.Kernel9Ideal.nD) → Buf (Elt Ideal) ((c.tc : Thread Cert.Kernel9Ideal.nD Cert.Kernel9Ideal.τ).loc Cert.Kernel9Ideal.main_v88)) (v14 : (c : Dev Cert.Kernel9Ideal.nD) → Buf (Elt Ideal) ((c.tc : Thread Cert.Kernel9Ideal.nD Cert.Kernel9Ideal.τ).loc Cert.Kernel9Ideal.main_v90)) (v15 : (c : Dev Cert.Kernel9Ideal.nD) → Buf (Elt Ideal) ((c.tc : Thread Cert.Kernel9Ideal.nD Cert.Kernel9Ideal.τ).loc Cert.Kernel9Ideal.main_v92)) (v16 : (c : Dev Cert.Kernel9Ideal.nD) → Buf (Elt Ideal) ((c.tc : Thread Cert.Kernel9Ideal.nD Cert.Kernel9Ideal.τ).loc Cert.Kernel9Ideal.main_v94)) (v17 : (c : Dev Cert.Kernel9Ideal.nD) → Buf (Elt Ideal) ((c.tc : Thread Cert.Kernel9Ideal.nD Cert.Kernel9Ideal.τ).loc Cert.Kernel9Ideal.main_v96)) (v18 : (c : Dev Cert.Kernel9Ideal.nD) → Buf (Elt Ideal) ((c.tc : Thread Cert.Kernel9Ideal.nD Cert.Kernel9Ideal.τ).loc Cert.Kernel9Ideal.main_v98)) (v19 : (c : Dev Cert.Kernel9Ideal.nD) → Buf (Elt Ideal) ((c.tc : Thread Cert.Kernel9Ideal.nD Cert.Kernel9Ideal.τ).loc Cert.Kernel9Ideal.main_v100)) (v20 : (c : Dev Cert.Kernel9Ideal.nD) → Buf (Elt Ideal) ((c.tc : Thread Cert.Kernel9Ideal.nD Cert.Kernel9Ideal.τ).loc Cert.Kernel9Ideal.main_v102)) (v21 : (c : Dev Cert.Kernel9Ideal.nD) → Buf (Elt Ideal) ((c.tc : Thread Cert.Kernel9Ideal.nD Cert.Kernel9Ideal.τ).loc Cert.Kernel9Ideal.main_v104)) (v22 : (c : Dev Cert.Kernel9Ideal.nD) → Buf (Elt Ideal) ((c.tc : Thread Cert.Kernel9Ideal.nD Cert.Kernel9Ideal.τ).loc Cert.Kernel9Ideal.main_v106)) (v23 : (c : Dev Cert.Kernel9Ideal.nD) → Buf (Elt Ideal) ((c.tc : Thread Cert.Kernel9Ideal.nD Cert.Kernel9Ideal.τ).loc Cert.Kernel9Ideal.main_v107)) (v24 : (c : Dev Cert.Kernel9Ideal.nD) → Buf (Elt Ideal) ((c.tc : Thread Cert.Kernel9Ideal.nD Cert.Kernel9Ideal.τ).loc Cert.Kernel9Ideal.main_v109)) (v25 : (c : Dev Cert.Kernel9Ideal.nD) → Buf (Elt Ideal) ((c.tc : Thread Cert.Kernel9Ideal.nD Cert.Kernel9Ideal.τ).loc Cert.Kernel9Ideal.main_v111)) (v26 : (c : Dev Cert.Kernel9Ideal.nD) → Buf (Elt Ideal) ((c.tc : Thread Cert.Kernel9Ideal.nD Cert.Kernel9Ideal.τ).loc Cert.Kernel9Ideal.main_v113)) (v27 : (c : Dev Cert.Kernel9Ideal.nD) → Buf (Elt Ideal) ((c.tc : Thread Cert.Kernel9Ideal.nD Cert.Kernel9Ideal.τ).loc Cert.Kernel9Ideal.main_v115)) (v28 : (c : Dev Cert.Kernel9Ideal.nD) → Buf (Elt Ideal) ((c.tc : Thread Cert.Kernel9Ideal.nD Cert.Kernel9Ideal.τ).loc Cert.Kernel9Ideal.main_v117)) (v29 : (c : Dev Cert.Kernel9Ideal.nD) → Buf (Elt Ideal) ((c.tc : Thread Cert.Kernel9Ideal.nD Cert.Kernel9Ideal.τ).loc Cert.Kernel9Ideal.main_v119)) (v30 : (c : Dev Cert.Kernel9Ideal.nD) → Buf (Elt Ideal) ((c.tc : Thread Cert.Kernel9Ideal.nD Cert.Kernel9Ideal.τ).loc Cert.Kernel9Ideal.main_v121)) (v31 : (c : Dev Cert.Kernel9Ideal.nD) → Buf (Elt Ideal) ((c.tc : Thread Cert.Kernel9Ideal.nD Cert.Kernel9Ideal.τ).loc Cert.Kernel9Ideal.main_v123)) (v32 : (c : Dev Cert.Kernel9Ideal.nD) → Buf (Elt Ideal) ((c.tc : Thread Cert.Kernel9Ideal.nD Cert.Kernel9Ideal.τ).loc Cert.Kernel9Ideal.main_v125)) (v33 : (c : Dev Cert.Kernel9Ideal.nD) → Buf (Elt Ideal) ((c.tc : Thread Cert.Kernel9Ideal.nD Cert.Kernel9Ideal.τ).loc Cert.Kernel9Ideal.main_v127)) (v34 : (c : Dev Cert.Kernel9Ideal.nD) → Buf (Elt Ideal) ((c.tc : Thread Cert.Kernel9Ideal.nD Cert.Kernel9Ideal.τ).loc Cert.Kernel9Ideal.main_v129)) (v35 : (c : Dev Cert.Kernel9Ideal.nD) → Buf (Elt Ideal) ((c.tc : Thread Cert.Kernel9Ideal.nD Cert.Kernel9Ideal.τ).loc Cert.Kernel9Ideal.main_v130)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v63) = v0 c
          ∧ r.2.mem ((c.tc : Thread Cert.Kernel9Ideal.nD Cert.Kernel9Ideal.τ).loc Cert.Kernel9Ideal.main_v65) = v1 c
          ∧ r.2.mem ((c.tc : Thread Cert.Kernel9Ideal.nD Cert.Kernel9Ideal.τ).loc Cert.Kernel9Ideal.main_v67) = v2 c
          ∧ r.2.mem ((c.tc : Thread Cert.Kernel9Ideal.nD Cert.Kernel9Ideal.τ).loc Cert.Kernel9Ideal.main_v69) = v3 c
          ∧ r.2.mem ((c.tc : Thread Cert.Kernel9Ideal.nD Cert.Kernel9Ideal.τ).loc Cert.Kernel9Ideal.main_v71) = v4 c
          ∧ r.2.mem ((c.tc : Thread Cert.Kernel9Ideal.nD Cert.Kernel9Ideal.τ).loc Cert.Kernel9Ideal.main_v73) = v5 c
          ∧ r.2.mem ((c.tc : Thread Cert.Kernel9Ideal.nD Cert.Kernel9Ideal.τ).loc Cert.Kernel9Ideal.main_v75) = v6 c
          ∧ r.2.mem ((c.tc : Thread Cert.Kernel9Ideal.nD Cert.Kernel9Ideal.τ).loc Cert.Kernel9Ideal.main_v77) = v7 c
          ∧ r.2.mem ((c.tc : Thread Cert.Kernel9Ideal.nD Cert.Kernel9Ideal.τ).loc Cert.Kernel9Ideal.main_v79) = v8 c
          ∧ r.2.mem ((c.tc : Thread Cert.Kernel9Ideal.nD Cert.Kernel9Ideal.τ).loc Cert.Kernel9Ideal.main_v81) = v9 c
          ∧ r.2.mem ((c.tc : Thread Cert.Kernel9Ideal.nD Cert.Kernel9Ideal.τ).loc Cert.Kernel9Ideal.main_v83) = v10 c
          ∧ r.2.mem ((c.tc : Thread Cert.Kernel9Ideal.nD Cert.Kernel9Ideal.τ).loc Cert.Kernel9Ideal.main_v84) = v11 c
          ∧ r.2.mem ((c.tc : Thread Cert.Kernel9Ideal.nD Cert.Kernel9Ideal.τ).loc Cert.Kernel9Ideal.main_v86) = v12 c
          ∧ r.2.mem ((c.tc : Thread Cert.Kernel9Ideal.nD Cert.Kernel9Ideal.τ).loc Cert.Kernel9Ideal.main_v88) = v13 c
          ∧ r.2.mem ((c.tc : Thread Cert.Kernel9Ideal.nD Cert.Kernel9Ideal.τ).loc Cert.Kernel9Ideal.main_v90) = v14 c
          ∧ r.2.mem ((c.tc : Thread Cert.Kernel9Ideal.nD Cert.Kernel9Ideal.τ).loc Cert.Kernel9Ideal.main_v92) = v15 c
          ∧ r.2.mem ((c.tc : Thread Cert.Kernel9Ideal.nD Cert.Kernel9Ideal.τ).loc Cert.Kernel9Ideal.main_v94) = v16 c
          ∧ r.2.mem ((c.tc : Thread Cert.Kernel9Ideal.nD Cert.Kernel9Ideal.τ).loc Cert.Kernel9Ideal.main_v96) = v17 c
          ∧ r.2.mem ((c.tc : Thread Cert.Kernel9Ideal.nD Cert.Kernel9Ideal.τ).loc Cert.Kernel9Ideal.main_v98) = v18 c
          ∧ r.2.mem ((c.tc : Thread Cert.Kernel9Ideal.nD Cert.Kernel9Ideal.τ).loc Cert.Kernel9Ideal.main_v100) = v19 c
          ∧ r.2.mem ((c.tc : Thread Cert.Kernel9Ideal.nD Cert.Kernel9Ideal.τ).loc Cert.Kernel9Ideal.main_v102) = v20 c
          ∧ r.2.mem ((c.tc : Thread Cert.Kernel9Ideal.nD Cert.Kernel9Ideal.τ).loc Cert.Kernel9Ideal.main_v104) = v21 c
          ∧ r.2.mem ((c.tc : Thread Cert.Kernel9Ideal.nD Cert.Kernel9Ideal.τ).loc Cert.Kernel9Ideal.main_v106) = v22 c
          ∧ r.2.mem ((c.tc : Thread Cert.Kernel9Ideal.nD Cert.Kernel9Ideal.τ).loc Cert.Kernel9Ideal.main_v107) = v23 c
          ∧ r.2.mem ((c.tc : Thread Cert.Kernel9Ideal.nD Cert.Kernel9Ideal.τ).loc Cert.Kernel9Ideal.main_v109) = v24 c
          ∧ r.2.mem ((c.tc : Thread Cert.Kernel9Ideal.nD Cert.Kernel9Ideal.τ).loc Cert.Kernel9Ideal.main_v111) = v25 c
          ∧ r.2.mem ((c.tc : Thread Cert.Kernel9Ideal.nD Cert.Kernel9Ideal.τ).loc Cert.Kernel9Ideal.main_v113) = v26 c
          ∧ r.2.mem ((c.tc : Thread Cert.Kernel9Ideal.nD Cert.Kernel9Ideal.τ).loc Cert.Kernel9Ideal.main_v115) = v27 c
          ∧ r.2.mem ((c.tc : Thread Cert.Kernel9Ideal.nD Cert.Kernel9Ideal.τ).loc Cert.Kernel9Ideal.main_v117) = v28 c
          ∧ r.2.mem ((c.tc : Thread Cert.Kernel9Ideal.nD Cert.Kernel9Ideal.τ).loc Cert.Kernel9Ideal.main_v119) = v29 c
          ∧ r.2.mem ((c.tc : Thread Cert.Kernel9Ideal.nD Cert.Kernel9Ideal.τ).loc Cert.Kernel9Ideal.main_v121) = v30 c
          ∧ r.2.mem ((c.tc : Thread Cert.Kernel9Ideal.nD Cert.Kernel9Ideal.τ).loc Cert.Kernel9Ideal.main_v123) = v31 c
          ∧ r.2.mem ((c.tc : Thread Cert.Kernel9Ideal.nD Cert.Kernel9Ideal.τ).loc Cert.Kernel9Ideal.main_v125) = v32 c
          ∧ r.2.mem ((c.tc : Thread Cert.Kernel9Ideal.nD Cert.Kernel9Ideal.τ).loc Cert.Kernel9Ideal.main_v127) = v33 c
          ∧ r.2.mem ((c.tc : Thread Cert.Kernel9Ideal.nD Cert.Kernel9Ideal.τ).loc Cert.Kernel9Ideal.main_v129) = v34 c
          ∧ r.2.mem ((c.tc : Thread Cert.Kernel9Ideal.nD Cert.Kernel9Ideal.τ).loc Cert.Kernel9Ideal.main_v130) = v35 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15)
          ∧ r.2.mem ((c.tc : Thread Cert.Kernel9Ideal.nD Cert.Kernel9Ideal.τ).loc Cert.Kernel9Ideal.main_arg16) = m ((c.tc : Thread Cert.Kernel9Ideal.nD Cert.Kernel9Ideal.τ).loc Cert.Kernel9Ideal.main_arg16)
          ∧ r.2.mem ((c.tc : Thread Cert.Kernel9Ideal.nD Cert.Kernel9Ideal.τ).loc Cert.Kernel9Ideal.main_arg17) = m ((c.tc : Thread Cert.Kernel9Ideal.nD Cert.Kernel9Ideal.τ).loc Cert.Kernel9Ideal.main_arg17)
          ∧ r.2.mem ((c.tc : Thread Cert.Kernel9Ideal.nD Cert.Kernel9Ideal.τ).loc Cert.Kernel9Ideal.main_arg18) = m ((c.tc : Thread Cert.Kernel9Ideal.nD Cert.Kernel9Ideal.τ).loc Cert.Kernel9Ideal.main_arg18)
          ∧ r.2.mem ((c.tc : Thread Cert.Kernel9Ideal.nD Cert.Kernel9Ideal.τ).loc Cert.Kernel9Ideal.main_arg19) = m ((c.tc : Thread Cert.Kernel9Ideal.nD Cert.Kernel9Ideal.τ).loc Cert.Kernel9Ideal.main_arg19)
          ∧ r.2.mem ((c.tc : Thread Cert.Kernel9Ideal.nD Cert.Kernel9Ideal.τ).loc Cert.Kernel9Ideal.main_arg20) = m ((c.tc : Thread Cert.Kernel9Ideal.nD Cert.Kernel9Ideal.τ).loc Cert.Kernel9Ideal.main_arg20)
          ∧ r.2.mem ((c.tc : Thread Cert.Kernel9Ideal.nD Cert.Kernel9Ideal.τ).loc Cert.Kernel9Ideal.main_arg21) = m ((c.tc : Thread Cert.Kernel9Ideal.nD Cert.Kernel9Ideal.τ).loc Cert.Kernel9Ideal.main_arg21)
          ∧ r.2.mem ((c.tc : Thread Cert.Kernel9Ideal.nD Cert.Kernel9Ideal.τ).loc Cert.Kernel9Ideal.main_arg22) = m ((c.tc : Thread Cert.Kernel9Ideal.nD Cert.Kernel9Ideal.τ).loc Cert.Kernel9Ideal.main_arg22)
          ∧ r.2.mem ((c.tc : Thread Cert.Kernel9Ideal.nD Cert.Kernel9Ideal.τ).loc Cert.Kernel9Ideal.main_arg23) = m ((c.tc : Thread Cert.Kernel9Ideal.nD Cert.Kernel9Ideal.τ).loc Cert.Kernel9Ideal.main_arg23)
          ∧ r.2.mem ((c.tc : Thread Cert.Kernel9Ideal.nD Cert.Kernel9Ideal.τ).loc Cert.Kernel9Ideal.main_arg24) = m ((c.tc : Thread Cert.Kernel9Ideal.nD Cert.Kernel9Ideal.τ).loc Cert.Kernel9Ideal.main_arg24)
          ∧ r.2.mem ((c.tc : Thread Cert.Kernel9Ideal.nD Cert.Kernel9Ideal.τ).loc Cert.Kernel9Ideal.main_arg25) = m ((c.tc : Thread Cert.Kernel9Ideal.nD Cert.Kernel9Ideal.τ).loc Cert.Kernel9Ideal.main_arg25)
          ∧ r.2.mem ((c.tc : Thread Cert.Kernel9Ideal.nD Cert.Kernel9Ideal.τ).loc Cert.Kernel9Ideal.main_arg26) = m ((c.tc : Thread Cert.Kernel9Ideal.nD Cert.Kernel9Ideal.τ).loc Cert.Kernel9Ideal.main_arg26)
          ∧ r.2.mem ((c.tc : Thread Cert.Kernel9Ideal.nD Cert.Kernel9Ideal.τ).loc Cert.Kernel9Ideal.main_arg27) = m ((c.tc : Thread Cert.Kernel9Ideal.nD Cert.Kernel9Ideal.τ).loc Cert.Kernel9Ideal.main_arg27)
          ∧ r.2.mem ((c.tc : Thread Cert.Kernel9Ideal.nD Cert.Kernel9Ideal.τ).loc Cert.Kernel9Ideal.main_arg28) = m ((c.tc : Thread Cert.Kernel9Ideal.nD Cert.Kernel9Ideal.τ).loc Cert.Kernel9Ideal.main_arg28)
          ∧ r.2.mem ((c.tc : Thread Cert.Kernel9Ideal.nD Cert.Kernel9Ideal.τ).loc Cert.Kernel9Ideal.main_arg29) = m ((c.tc : Thread Cert.Kernel9Ideal.nD Cert.Kernel9Ideal.τ).loc Cert.Kernel9Ideal.main_arg29)
          ∧ r.2.mem ((c.tc : Thread Cert.Kernel9Ideal.nD Cert.Kernel9Ideal.τ).loc Cert.Kernel9Ideal.main_arg30) = m ((c.tc : Thread Cert.Kernel9Ideal.nD Cert.Kernel9Ideal.τ).loc Cert.Kernel9Ideal.main_arg30)
          ∧ r.2.mem ((c.tc : Thread Cert.Kernel9Ideal.nD Cert.Kernel9Ideal.τ).loc Cert.Kernel9Ideal.main_arg31) = m ((c.tc : Thread Cert.Kernel9Ideal.nD Cert.Kernel9Ideal.τ).loc Cert.Kernel9Ideal.main_arg31)
          ∧ r.2.mem ((c.tc : Thread Cert.Kernel9Ideal.nD Cert.Kernel9Ideal.τ).loc Cert.Kernel9Ideal.main_arg32) = m ((c.tc : Thread Cert.Kernel9Ideal.nD Cert.Kernel9Ideal.τ).loc Cert.Kernel9Ideal.main_arg32)
          ∧ r.2.mem ((c.tc : Thread Cert.Kernel9Ideal.nD Cert.Kernel9Ideal.τ).loc Cert.Kernel9Ideal.main_arg33) = m ((c.tc : Thread Cert.Kernel9Ideal.nD Cert.Kernel9Ideal.τ).loc Cert.Kernel9Ideal.main_arg33)
          ∧ r.2.mem ((c.tc : Thread Cert.Kernel9Ideal.nD Cert.Kernel9Ideal.τ).loc Cert.Kernel9Ideal.main_arg34) = m ((c.tc : Thread Cert.Kernel9Ideal.nD Cert.Kernel9Ideal.τ).loc Cert.Kernel9Ideal.main_arg34)
          ∧ r.2.mem ((c.tc : Thread Cert.Kernel9Ideal.nD Cert.Kernel9Ideal.τ).loc Cert.Kernel9Ideal.main_arg35) = m ((c.tc : Thread Cert.Kernel9Ideal.nD Cert.Kernel9Ideal.τ).loc Cert.Kernel9Ideal.main_arg35)
          ∧ r.2.mem ((c.tc : Thread Cert.Kernel9Ideal.nD Cert.Kernel9Ideal.τ).loc Cert.Kernel9Ideal.main_arg36) = m ((c.tc : Thread Cert.Kernel9Ideal.nD Cert.Kernel9Ideal.τ).loc Cert.Kernel9Ideal.main_arg36)
          ∧ r.2.mem ((c.tc : Thread Cert.Kernel9Ideal.nD Cert.Kernel9Ideal.τ).loc Cert.Kernel9Ideal.main_arg37) = m ((c.tc : Thread Cert.Kernel9Ideal.nD Cert.Kernel9Ideal.τ).loc Cert.Kernel9Ideal.main_arg37)
          ∧ r.2.mem ((c.tc : Thread Cert.Kernel9Ideal.nD Cert.Kernel9Ideal.τ).loc Cert.Kernel9Ideal.main_arg38) = m ((c.tc : Thread Cert.Kernel9Ideal.nD Cert.Kernel9Ideal.τ).loc Cert.Kernel9Ideal.main_arg38)
          ∧ r.2.mem ((c.tc : Thread Cert.Kernel9Ideal.nD Cert.Kernel9Ideal.τ).loc Cert.Kernel9Ideal.main_arg39) = m ((c.tc : Thread Cert.Kernel9Ideal.nD Cert.Kernel9Ideal.τ).loc Cert.Kernel9Ideal.main_arg39)
          ∧ r.2.mem ((c.tc : Thread Cert.Kernel9Ideal.nD Cert.Kernel9Ideal.τ).loc Cert.Kernel9Ideal.main_arg40) = m ((c.tc : Thread Cert.Kernel9Ideal.nD Cert.Kernel9Ideal.τ).loc Cert.Kernel9Ideal.main_arg40)
          ∧ r.2.mem ((c.tc : Thread Cert.Kernel9Ideal.nD Cert.Kernel9Ideal.τ).loc Cert.Kernel9Ideal.main_arg41) = m ((c.tc : Thread Cert.Kernel9Ideal.nD Cert.Kernel9Ideal.τ).loc Cert.Kernel9Ideal.main_arg41)
          ∧ r.2.mem ((c.tc : Thread Cert.Kernel9Ideal.nD Cert.Kernel9Ideal.τ).loc Cert.Kernel9Ideal.main_arg42) = m ((c.tc : Thread Cert.Kernel9Ideal.nD Cert.Kernel9Ideal.τ).loc Cert.Kernel9Ideal.main_arg42)
          ∧ r.2.mem ((c.tc : Thread Cert.Kernel9Ideal.nD Cert.Kernel9Ideal.τ).loc Cert.Kernel9Ideal.main_arg43) = m ((c.tc : Thread Cert.Kernel9Ideal.nD Cert.Kernel9Ideal.τ).loc Cert.Kernel9Ideal.main_arg43)
          ∧ r.2.mem ((c.tc : Thread Cert.Kernel9Ideal.nD Cert.Kernel9Ideal.τ).loc Cert.Kernel9Ideal.main_arg44) = m ((c.tc : Thread Cert.Kernel9Ideal.nD Cert.Kernel9Ideal.τ).loc Cert.Kernel9Ideal.main_arg44)
          ∧ r.2.mem ((c.tc : Thread Cert.Kernel9Ideal.nD Cert.Kernel9Ideal.τ).loc Cert.Kernel9Ideal.main_arg45) = m ((c.tc : Thread Cert.Kernel9Ideal.nD Cert.Kernel9Ideal.τ).loc Cert.Kernel9Ideal.main_arg45)
          ∧ r.2.mem ((c.tc : Thread Cert.Kernel9Ideal.nD Cert.Kernel9Ideal.τ).loc Cert.Kernel9Ideal.main_arg46) = m ((c.tc : Thread Cert.Kernel9Ideal.nD Cert.Kernel9Ideal.τ).loc Cert.Kernel9Ideal.main_arg46)
          ∧ r.2.mem ((c.tc : Thread Cert.Kernel9Ideal.nD Cert.Kernel9Ideal.τ).loc Cert.Kernel9Ideal.main_arg47) = m ((c.tc : Thread Cert.Kernel9Ideal.nD Cert.Kernel9Ideal.τ).loc Cert.Kernel9Ideal.main_arg47))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v47) = v1 c
          ∧ r.2.mem ((c.tc : Thread Cert.Reference9Ideal.nD Cert.Reference9Ideal.τ).loc Cert.Reference9Ideal.main_v71) = v2 c
          ∧ r.2.mem ((c.tc : Thread Cert.Reference9Ideal.nD Cert.Reference9Ideal.τ).loc Cert.Reference9Ideal.main_v95) = v3 c
          ∧ r.2.mem ((c.tc : Thread Cert.Reference9Ideal.nD Cert.Reference9Ideal.τ).loc Cert.Reference9Ideal.main_v119) = v4 c
          ∧ r.2.mem ((c.tc : Thread Cert.Reference9Ideal.nD Cert.Reference9Ideal.τ).loc Cert.Reference9Ideal.main_v143) = v5 c
          ∧ r.2.mem ((c.tc : Thread Cert.Reference9Ideal.nD Cert.Reference9Ideal.τ).loc Cert.Reference9Ideal.main_v167) = v6 c
          ∧ r.2.mem ((c.tc : Thread Cert.Reference9Ideal.nD Cert.Reference9Ideal.τ).loc Cert.Reference9Ideal.main_v191) = v7 c
          ∧ r.2.mem ((c.tc : Thread Cert.Reference9Ideal.nD Cert.Reference9Ideal.τ).loc Cert.Reference9Ideal.main_v215) = v8 c
          ∧ r.2.mem ((c.tc : Thread Cert.Reference9Ideal.nD Cert.Reference9Ideal.τ).loc Cert.Reference9Ideal.main_v239) = v9 c
          ∧ r.2.mem ((c.tc : Thread Cert.Reference9Ideal.nD Cert.Reference9Ideal.τ).loc Cert.Reference9Ideal.main_v263) = v10 c
          ∧ r.2.mem ((c.tc : Thread Cert.Reference9Ideal.nD Cert.Reference9Ideal.τ).loc Cert.Reference9Ideal.main_v287) = v11 c
          ∧ r.2.mem ((c.tc : Thread Cert.Reference9Ideal.nD Cert.Reference9Ideal.τ).loc Cert.Reference9Ideal.main_v4) = v12 c
          ∧ r.2.mem ((c.tc : Thread Cert.Reference9Ideal.nD Cert.Reference9Ideal.τ).loc Cert.Reference9Ideal.main_v28) = v13 c
          ∧ r.2.mem ((c.tc : Thread Cert.Reference9Ideal.nD Cert.Reference9Ideal.τ).loc Cert.Reference9Ideal.main_v52) = v14 c
          ∧ r.2.mem ((c.tc : Thread Cert.Reference9Ideal.nD Cert.Reference9Ideal.τ).loc Cert.Reference9Ideal.main_v76) = v15 c
          ∧ r.2.mem ((c.tc : Thread Cert.Reference9Ideal.nD Cert.Reference9Ideal.τ).loc Cert.Reference9Ideal.main_v100) = v16 c
          ∧ r.2.mem ((c.tc : Thread Cert.Reference9Ideal.nD Cert.Reference9Ideal.τ).loc Cert.Reference9Ideal.main_v124) = v17 c
          ∧ r.2.mem ((c.tc : Thread Cert.Reference9Ideal.nD Cert.Reference9Ideal.τ).loc Cert.Reference9Ideal.main_v148) = v18 c
          ∧ r.2.mem ((c.tc : Thread Cert.Reference9Ideal.nD Cert.Reference9Ideal.τ).loc Cert.Reference9Ideal.main_v172) = v19 c
          ∧ r.2.mem ((c.tc : Thread Cert.Reference9Ideal.nD Cert.Reference9Ideal.τ).loc Cert.Reference9Ideal.main_v196) = v20 c
          ∧ r.2.mem ((c.tc : Thread Cert.Reference9Ideal.nD Cert.Reference9Ideal.τ).loc Cert.Reference9Ideal.main_v220) = v21 c
          ∧ r.2.mem ((c.tc : Thread Cert.Reference9Ideal.nD Cert.Reference9Ideal.τ).loc Cert.Reference9Ideal.main_v244) = v22 c
          ∧ r.2.mem ((c.tc : Thread Cert.Reference9Ideal.nD Cert.Reference9Ideal.τ).loc Cert.Reference9Ideal.main_v268) = v23 c
          ∧ r.2.mem ((c.tc : Thread Cert.Reference9Ideal.nD Cert.Reference9Ideal.τ).loc Cert.Reference9Ideal.main_v10) = v24 c
          ∧ r.2.mem ((c.tc : Thread Cert.Reference9Ideal.nD Cert.Reference9Ideal.τ).loc Cert.Reference9Ideal.main_v34) = v25 c
          ∧ r.2.mem ((c.tc : Thread Cert.Reference9Ideal.nD Cert.Reference9Ideal.τ).loc Cert.Reference9Ideal.main_v58) = v26 c
          ∧ r.2.mem ((c.tc : Thread Cert.Reference9Ideal.nD Cert.Reference9Ideal.τ).loc Cert.Reference9Ideal.main_v82) = v27 c
          ∧ r.2.mem ((c.tc : Thread Cert.Reference9Ideal.nD Cert.Reference9Ideal.τ).loc Cert.Reference9Ideal.main_v106) = v28 c
          ∧ r.2.mem ((c.tc : Thread Cert.Reference9Ideal.nD Cert.Reference9Ideal.τ).loc Cert.Reference9Ideal.main_v130) = v29 c
          ∧ r.2.mem ((c.tc : Thread Cert.Reference9Ideal.nD Cert.Reference9Ideal.τ).loc Cert.Reference9Ideal.main_v154) = v30 c
          ∧ r.2.mem ((c.tc : Thread Cert.Reference9Ideal.nD Cert.Reference9Ideal.τ).loc Cert.Reference9Ideal.main_v178) = v31 c
          ∧ r.2.mem ((c.tc : Thread Cert.Reference9Ideal.nD Cert.Reference9Ideal.τ).loc Cert.Reference9Ideal.main_v202) = v32 c
          ∧ r.2.mem ((c.tc : Thread Cert.Reference9Ideal.nD Cert.Reference9Ideal.τ).loc Cert.Reference9Ideal.main_v226) = v33 c
          ∧ r.2.mem ((c.tc : Thread Cert.Reference9Ideal.nD Cert.Reference9Ideal.τ).loc Cert.Reference9Ideal.main_v250) = v34 c
          ∧ r.2.mem ((c.tc : Thread Cert.Reference9Ideal.nD Cert.Reference9Ideal.τ).loc Cert.Reference9Ideal.main_v274) = v35 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15)
          ∧ r.2.mem ((c.tc : Thread Cert.Reference9Ideal.nD Cert.Reference9Ideal.τ).loc Cert.Reference9Ideal.main_arg16) = m' ((c.tc : Thread Cert.Reference9Ideal.nD Cert.Reference9Ideal.τ).loc Cert.Reference9Ideal.main_arg16)
          ∧ r.2.mem ((c.tc : Thread Cert.Reference9Ideal.nD Cert.Reference9Ideal.τ).loc Cert.Reference9Ideal.main_arg17) = m' ((c.tc : Thread Cert.Reference9Ideal.nD Cert.Reference9Ideal.τ).loc Cert.Reference9Ideal.main_arg17)
          ∧ r.2.mem ((c.tc : Thread Cert.Reference9Ideal.nD Cert.Reference9Ideal.τ).loc Cert.Reference9Ideal.main_arg18) = m' ((c.tc : Thread Cert.Reference9Ideal.nD Cert.Reference9Ideal.τ).loc Cert.Reference9Ideal.main_arg18)
          ∧ r.2.mem ((c.tc : Thread Cert.Reference9Ideal.nD Cert.Reference9Ideal.τ).loc Cert.Reference9Ideal.main_arg19) = m' ((c.tc : Thread Cert.Reference9Ideal.nD Cert.Reference9Ideal.τ).loc Cert.Reference9Ideal.main_arg19)
          ∧ r.2.mem ((c.tc : Thread Cert.Reference9Ideal.nD Cert.Reference9Ideal.τ).loc Cert.Reference9Ideal.main_arg20) = m' ((c.tc : Thread Cert.Reference9Ideal.nD Cert.Reference9Ideal.τ).loc Cert.Reference9Ideal.main_arg20)
          ∧ r.2.mem ((c.tc : Thread Cert.Reference9Ideal.nD Cert.Reference9Ideal.τ).loc Cert.Reference9Ideal.main_arg21) = m' ((c.tc : Thread Cert.Reference9Ideal.nD Cert.Reference9Ideal.τ).loc Cert.Reference9Ideal.main_arg21)
          ∧ r.2.mem ((c.tc : Thread Cert.Reference9Ideal.nD Cert.Reference9Ideal.τ).loc Cert.Reference9Ideal.main_arg22) = m' ((c.tc : Thread Cert.Reference9Ideal.nD Cert.Reference9Ideal.τ).loc Cert.Reference9Ideal.main_arg22)
          ∧ r.2.mem ((c.tc : Thread Cert.Reference9Ideal.nD Cert.Reference9Ideal.τ).loc Cert.Reference9Ideal.main_arg23) = m' ((c.tc : Thread Cert.Reference9Ideal.nD Cert.Reference9Ideal.τ).loc Cert.Reference9Ideal.main_arg23)
          ∧ r.2.mem ((c.tc : Thread Cert.Reference9Ideal.nD Cert.Reference9Ideal.τ).loc Cert.Reference9Ideal.main_arg24) = m' ((c.tc : Thread Cert.Reference9Ideal.nD Cert.Reference9Ideal.τ).loc Cert.Reference9Ideal.main_arg24)
          ∧ r.2.mem ((c.tc : Thread Cert.Reference9Ideal.nD Cert.Reference9Ideal.τ).loc Cert.Reference9Ideal.main_arg25) = m' ((c.tc : Thread Cert.Reference9Ideal.nD Cert.Reference9Ideal.τ).loc Cert.Reference9Ideal.main_arg25)
          ∧ r.2.mem ((c.tc : Thread Cert.Reference9Ideal.nD Cert.Reference9Ideal.τ).loc Cert.Reference9Ideal.main_arg26) = m' ((c.tc : Thread Cert.Reference9Ideal.nD Cert.Reference9Ideal.τ).loc Cert.Reference9Ideal.main_arg26)
          ∧ r.2.mem ((c.tc : Thread Cert.Reference9Ideal.nD Cert.Reference9Ideal.τ).loc Cert.Reference9Ideal.main_arg27) = m' ((c.tc : Thread Cert.Reference9Ideal.nD Cert.Reference9Ideal.τ).loc Cert.Reference9Ideal.main_arg27)
          ∧ r.2.mem ((c.tc : Thread Cert.Reference9Ideal.nD Cert.Reference9Ideal.τ).loc Cert.Reference9Ideal.main_arg28) = m' ((c.tc : Thread Cert.Reference9Ideal.nD Cert.Reference9Ideal.τ).loc Cert.Reference9Ideal.main_arg28)
          ∧ r.2.mem ((c.tc : Thread Cert.Reference9Ideal.nD Cert.Reference9Ideal.τ).loc Cert.Reference9Ideal.main_arg29) = m' ((c.tc : Thread Cert.Reference9Ideal.nD Cert.Reference9Ideal.τ).loc Cert.Reference9Ideal.main_arg29)
          ∧ r.2.mem ((c.tc : Thread Cert.Reference9Ideal.nD Cert.Reference9Ideal.τ).loc Cert.Reference9Ideal.main_arg30) = m' ((c.tc : Thread Cert.Reference9Ideal.nD Cert.Reference9Ideal.τ).loc Cert.Reference9Ideal.main_arg30)
          ∧ r.2.mem ((c.tc : Thread Cert.Reference9Ideal.nD Cert.Reference9Ideal.τ).loc Cert.Reference9Ideal.main_arg31) = m' ((c.tc : Thread Cert.Reference9Ideal.nD Cert.Reference9Ideal.τ).loc Cert.Reference9Ideal.main_arg31)
          ∧ r.2.mem ((c.tc : Thread Cert.Reference9Ideal.nD Cert.Reference9Ideal.τ).loc Cert.Reference9Ideal.main_arg32) = m' ((c.tc : Thread Cert.Reference9Ideal.nD Cert.Reference9Ideal.τ).loc Cert.Reference9Ideal.main_arg32)
          ∧ r.2.mem ((c.tc : Thread Cert.Reference9Ideal.nD Cert.Reference9Ideal.τ).loc Cert.Reference9Ideal.main_arg33) = m' ((c.tc : Thread Cert.Reference9Ideal.nD Cert.Reference9Ideal.τ).loc Cert.Reference9Ideal.main_arg33)
          ∧ r.2.mem ((c.tc : Thread Cert.Reference9Ideal.nD Cert.Reference9Ideal.τ).loc Cert.Reference9Ideal.main_arg34) = m' ((c.tc : Thread Cert.Reference9Ideal.nD Cert.Reference9Ideal.τ).loc Cert.Reference9Ideal.main_arg34)
          ∧ r.2.mem ((c.tc : Thread Cert.Reference9Ideal.nD Cert.Reference9Ideal.τ).loc Cert.Reference9Ideal.main_arg35) = m' ((c.tc : Thread Cert.Reference9Ideal.nD Cert.Reference9Ideal.τ).loc Cert.Reference9Ideal.main_arg35)
          ∧ r.2.mem ((c.tc : Thread Cert.Reference9Ideal.nD Cert.Reference9Ideal.τ).loc Cert.Reference9Ideal.main_arg36) = m' ((c.tc : Thread Cert.Reference9Ideal.nD Cert.Reference9Ideal.τ).loc Cert.Reference9Ideal.main_arg36)
          ∧ r.2.mem ((c.tc : Thread Cert.Reference9Ideal.nD Cert.Reference9Ideal.τ).loc Cert.Reference9Ideal.main_arg37) = m' ((c.tc : Thread Cert.Reference9Ideal.nD Cert.Reference9Ideal.τ).loc Cert.Reference9Ideal.main_arg37)
          ∧ r.2.mem ((c.tc : Thread Cert.Reference9Ideal.nD Cert.Reference9Ideal.τ).loc Cert.Reference9Ideal.main_arg38) = m' ((c.tc : Thread Cert.Reference9Ideal.nD Cert.Reference9Ideal.τ).loc Cert.Reference9Ideal.main_arg38)
          ∧ r.2.mem ((c.tc : Thread Cert.Reference9Ideal.nD Cert.Reference9Ideal.τ).loc Cert.Reference9Ideal.main_arg39) = m' ((c.tc : Thread Cert.Reference9Ideal.nD Cert.Reference9Ideal.τ).loc Cert.Reference9Ideal.main_arg39)
          ∧ r.2.mem ((c.tc : Thread Cert.Reference9Ideal.nD Cert.Reference9Ideal.τ).loc Cert.Reference9Ideal.main_arg40) = m' ((c.tc : Thread Cert.Reference9Ideal.nD Cert.Reference9Ideal.τ).loc Cert.Reference9Ideal.main_arg40)
          ∧ r.2.mem ((c.tc : Thread Cert.Reference9Ideal.nD Cert.Reference9Ideal.τ).loc Cert.Reference9Ideal.main_arg41) = m' ((c.tc : Thread Cert.Reference9Ideal.nD Cert.Reference9Ideal.τ).loc Cert.Reference9Ideal.main_arg41)
          ∧ r.2.mem ((c.tc : Thread Cert.Reference9Ideal.nD Cert.Reference9Ideal.τ).loc Cert.Reference9Ideal.main_arg42) = m' ((c.tc : Thread Cert.Reference9Ideal.nD Cert.Reference9Ideal.τ).loc Cert.Reference9Ideal.main_arg42)
          ∧ r.2.mem ((c.tc : Thread Cert.Reference9Ideal.nD Cert.Reference9Ideal.τ).loc Cert.Reference9Ideal.main_arg43) = m' ((c.tc : Thread Cert.Reference9Ideal.nD Cert.Reference9Ideal.τ).loc Cert.Reference9Ideal.main_arg43)
          ∧ r.2.mem ((c.tc : Thread Cert.Reference9Ideal.nD Cert.Reference9Ideal.τ).loc Cert.Reference9Ideal.main_arg44) = m' ((c.tc : Thread Cert.Reference9Ideal.nD Cert.Reference9Ideal.τ).loc Cert.Reference9Ideal.main_arg44)
          ∧ r.2.mem ((c.tc : Thread Cert.Reference9Ideal.nD Cert.Reference9Ideal.τ).loc Cert.Reference9Ideal.main_arg45) = m' ((c.tc : Thread Cert.Reference9Ideal.nD Cert.Reference9Ideal.τ).loc Cert.Reference9Ideal.main_arg45)
          ∧ r.2.mem ((c.tc : Thread Cert.Reference9Ideal.nD Cert.Reference9Ideal.τ).loc Cert.Reference9Ideal.main_arg46) = m' ((c.tc : Thread Cert.Reference9Ideal.nD Cert.Reference9Ideal.τ).loc Cert.Reference9Ideal.main_arg46)
          ∧ r.2.mem ((c.tc : Thread Cert.Reference9Ideal.nD Cert.Reference9Ideal.τ).loc Cert.Reference9Ideal.main_arg47) = m' ((c.tc : Thread Cert.Reference9Ideal.nD Cert.Reference9Ideal.τ).loc Cert.Reference9Ideal.main_arg47))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v16)) (v1 : (c : Dev Cert.Kernel10Ideal.nD) → Buf (Elt Ideal) ((c.tc : Thread Cert.Kernel10Ideal.nD Cert.Kernel10Ideal.τ).loc Cert.Kernel10Ideal.main_v18)) (v2 : (c : Dev Cert.Kernel10Ideal.nD) → Buf (Elt Ideal) ((c.tc : Thread Cert.Kernel10Ideal.nD Cert.Kernel10Ideal.τ).loc Cert.Kernel10Ideal.main_v19)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16) = v0 c
          ∧ r.2.mem ((c.tc : Thread Cert.Kernel10Ideal.nD Cert.Kernel10Ideal.τ).loc Cert.Kernel10Ideal.main_v18) = v1 c
          ∧ r.2.mem ((c.tc : Thread Cert.Kernel10Ideal.nD Cert.Kernel10Ideal.τ).loc Cert.Kernel10Ideal.main_v19) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v15) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_gradients_finite : Cert.Pre_gradients_finite.Facts),
    quiescent_Kernel (hKernel := hKernel)
    ∧ quiescent_KernelIdeal (hKernelIdeal := hKernelIdeal)
    ∧ quiescent_KernelIdeal_pre_gradients_finite (hKernelIdeal := hKernelIdeal) (hPre_gradients_finite := hPre_gradients_finite)
    ∧ quiescent_ReferenceIdeal (hReferenceIdeal := hReferenceIdeal)
    ∧ quiescent_ReferenceIdeal_pre_gradients_finite (hReferenceIdeal := hReferenceIdeal) (hPre_gradients_finite := hPre_gradients_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_gradients_finite (hKernelIdeal := hKernelIdeal) (hReferenceIdeal := hReferenceIdeal) (hPre_gradients_finite := hPre_gradients_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_gradients_finite.lean ====
abbrev S4352x9216 : Shape := ⟨2, ![4352, 9216]⟩
abbrev S5x4096 : Shape := ⟨2, ![5, 4096]⟩
abbrev S1x4096 : Shape := ⟨2, ![1, 4096]⟩
abbrev S4352x4096 : Shape := ⟨2, ![4352, 4096]⟩
abbrev S4352x2048 : Shape := ⟨2, ![4352, 2048]⟩
abbrev S_ : Shape := ⟨0, ![]⟩

class Facts : Prop where
  bitsLt_bf16_f32 : FTy.bits .bf16 < FTy.bits .f32
  bcast_S_S4352x4096 : S_.BroadcastsInDim S4352x4096 (![] : Fin 0 → Fin S4352x4096.rank)
  bcast_S_S4352x2048 : S_.BroadcastsInDim S4352x2048 (![] : Fin 0 → Fin S4352x2048.rank)

variable [Facts]

def fn {F : FTy → Type} [FloatOps F] (main_arg0 : FVec F S4352x9216 .bf16) (main_arg1 : FVec F S5x4096 .f32) (main_arg2 : FVec F S1x4096 .f32) (main_arg3 : FVec F S4352x4096 .bf16) (main_arg4 : FVec F S4352x4096 .bf16) (main_arg5 : FVec F S4352x2048 .bf16) : IVec S4352x4096 1 × IVec S4352x4096 1 × IVec S4352x2048 1 :=
  let main_v0 : FVec F S4352x4096 .f32 := (extf .f32 · bitsLt_bf16_f32) main_arg3
  let main_v1 : FVec F S4352x4096 .f32 := Host.absf main_v0
  let main_cst : FVec F S_ .f32 := constant S_ .f32 0x7F800000#32
  let main_v2 : FVec F S4352x4096 .f32 := broadcastInDim S4352x4096 ![] bcast_S_S4352x4096 main_cst
  let main_v3 : IVec S4352x4096 1 := cmpf .olt main_v1 main_v2
  let main_v4 : FVec F S4352x4096 .f32 := (extf .f32 · bitsLt_bf16_f32) main_arg4
  let main_v5 : FVec F S4352x4096 .f32 := Host.absf main_v4
  let main_cst_0 : FVec F S_ .f32 := constant S_ .f32 0x7F800000#32
  let main_v6 : FVec F S4352x4096 .f32 := broadcastInDim S4352x4096 ![] bcast_S_S4352x4096 main_cst_0
  let main_v7 : IVec S4352x4096 1 := cmpf .olt main_v5 main_v6
  let main_v8 : FVec F S4352x2048 .f32 := (extf .f32 · bitsLt_bf16_f32) main_arg5
  let main_v9 : FVec F S4352x2048 .f32 := Host.absf main_v8
  let main_cst_1 : FVec F S_ .f32 := constant S_ .f32 0x7F800000#32
  let main_v10 : FVec F S4352x2048 .f32 := broadcastInDim S4352x2048 ![] bcast_S_S4352x2048 main_cst_1
  let main_v11 : IVec S4352x2048 1 := cmpf .olt main_v9 main_v10
  (main_v3, main_v7, main_v11)
-- ==== Kernel.lean ====
abbrev S4352x9216 : Shape := ⟨2, ![4352, 9216]⟩
abbrev S5x4096 : Shape := ⟨2, ![5, 4096]⟩
abbrev S1x4096 : Shape := ⟨2, ![1, 4096]⟩
abbrev S4352x4096 : Shape := ⟨2, ![4352, 4096]⟩
abbrev S4352x2048 : Shape := ⟨2, ![4352, 2048]⟩
abbrev S4352x128 : Shape := ⟨2, ![4352, 128]⟩
abbrev S5x128 : Shape := ⟨2, ![5, 128]⟩
abbrev S1x128 : Shape := ⟨2, ![1, 128]⟩
abbrev S8x128 : Shape := ⟨2, ![8, 128]⟩
abbrev S256x128 : Shape := ⟨2, ![256, 128]⟩
abbrev S4096x128 : Shape := ⟨2, ![4096, 128]⟩
abbrev S4368x128 : Shape := ⟨2, ![4368, 128]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S4352x9216, .bf16⟩
  | .hbm, ⟨1, _⟩ => ⟨S5x4096, .f32⟩
  | .hbm, ⟨2, _⟩ => ⟨S1x4096, .f32⟩
  | .hbm, ⟨3, _⟩ => ⟨S4352x4096, .bf16⟩
  | .hbm, ⟨4, _⟩ => ⟨S4352x4096, .bf16⟩
  | .hbm, ⟨5, _⟩ => ⟨S4352x2048, .bf16⟩
  | .hbm, ⟨6, _⟩ => ⟨S4352x4096, .bf16⟩
  | .hbm, ⟨7, _⟩ => ⟨S5x4096, .f32⟩
  | .hbm, ⟨8, _⟩ => ⟨S1x4096, .f32⟩
  | .local _ .vmem, ⟨0, _⟩ => ⟨S4352x128, .bf16⟩
  | .local _ .vmem, ⟨1, _⟩ => ⟨S4352x128, .bf16⟩
  | .local _ .vmem, ⟨2, _⟩ => ⟨S5x128, .f32⟩
  | .local _ .vmem, ⟨3, _⟩ => ⟨S5x128, .f32⟩
  | .local _ .vmem, ⟨4, _⟩ => ⟨S1x128, .f32⟩
  | .local _ .vmem, ⟨5, _⟩ => ⟨S1x128, .f32⟩
  | .local _ .vmem, ⟨6, _⟩ => ⟨S4352x128, .bf16⟩
  | .local _ .vmem, ⟨7, _⟩ => ⟨S4352x128, .bf16⟩
  | .local _ .vmem, ⟨8, _⟩ => ⟨S4352x128, .bf16⟩
  | .local _ .vmem, ⟨9, _⟩ => ⟨S4352x128, .bf16⟩
  | .local _ .vmem, ⟨10, _⟩ => ⟨S4352x128, .bf16⟩
  | .local _ .vmem, ⟨11, _⟩ => ⟨S4352x128, .bf16⟩
  | .local _ .vmem, ⟨12, _⟩ => ⟨S4352x128, .bf16⟩
  | .local _ .vmem, ⟨13, _⟩ => ⟨S4352x128, .bf16⟩
  | .local _ .vmem, ⟨14, _⟩ => ⟨S5x128, .f32⟩
  | .local _ .vmem, ⟨15, _⟩ => ⟨S5x128, .f32⟩
  | .local _ .vmem, ⟨16, _⟩ => ⟨S1x128, .f32⟩
  | .local _ .vmem, ⟨17, _⟩ => ⟨S1x128, .f32⟩
  | _, _ => ⟨S4352x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.minsi v27 c1_i32_10
  let v29 : BitVec 32 := Scalar.addi v17 v28
  let c0_i32_11 : BitVec 32 := 0#32
  let c0_i32_12 : BitVec 32 := 0#32
  ![c0_i32_11.toNat, v29.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4352x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4352x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4352x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4352x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4352x9216 : Shape := ⟨2, ![4352, 9216]⟩
abbrev S5x4096 : Shape := ⟨2, ![5, 4096]⟩
abbrev S1x4096 : Shape := ⟨2, ![1, 4096]⟩
abbrev S4352x4096 : Shape := ⟨2, ![4352, 4096]⟩
abbrev S4352x2048 : Shape := ⟨2, ![4352, 2048]⟩
abbrev S256x4096 : Shape := ⟨2, ![256, 4096]⟩
abbrev S4096x4096 : Shape := ⟨2, ![4096, 4096]⟩
abbrev S1x256x4096 : Shape := ⟨3, ![1, 256, 4096]⟩
abbrev S4096 : Shape := ⟨1, ![4096]⟩
abbrev S_ : Shape := ⟨0, ![]⟩
abbrev S1x2x4096 : Shape := ⟨3, ![1, 2, 4096]⟩
abbrev S1x260x4096 : Shape := ⟨3, ![1, 260, 4096]⟩
abbrev S1x1x4096 : Shape := ⟨3, ![1, 1, 4096]⟩
abbrev S1x4096x4096 : Shape := ⟨3, ![1, 4096, 4096]⟩
abbrev S1x4100x4096 : Shape := ⟨3, ![1, 4100, 4096]⟩
abbrev S4352x8x512 : Shape := ⟨3, ![4352, 8, 512]⟩
abbrev S4352x8x256 : Shape := ⟨3, ![4352, 8, 256]⟩

abbrev nBuf : Space → Nat
  | .hbm => 331
  | .vmem => 0
  | .smem => 0
  | _ => 0

abbrev hbmTy0_0 (i : Nat) : BufTy := match i % 128 with
  | 0 => ⟨S4352x9216, .bf16⟩
  | 1 => ⟨S5x4096, .f32⟩
  | 2 => ⟨S1x4096, .f32⟩
  | 3 => ⟨S4352x4096, .bf16⟩
  | 4 => ⟨S4352x4096, .bf16⟩
  | 5 => ⟨S4352x2048, .bf16⟩
  | 6 => ⟨S4352x4096, .bf16⟩
  | 7 => ⟨S4352x4096, .f32⟩
  | 8 => ⟨S4352x4096, .f32⟩
  | 9 => ⟨S4352x4096, .f32⟩
  | 10 => ⟨S4352x2048, .f32⟩
  | 11 => ⟨S256x4096, .f32⟩
  | 12 => ⟨S4096x4096, .f32⟩
  | 13 => ⟨S1x256x4096, .f32⟩
  | 14 => ⟨S4096, .f32⟩
  | 15 => ⟨S_, .f32⟩
  | 16 => ⟨S1x2x4096, .f32⟩
  | 17 => ⟨S1x260x4096, .f32⟩
  | 18 => ⟨S_, .f32⟩
  | 19 => ⟨S1x2x4096, .f32⟩
  | 20 => ⟨S_, .f32⟩
  | 21 => ⟨S1x2x4096, .f32⟩
  | 22 => ⟨S1x4096, .f32⟩
  | 23 => ⟨S4096, .f32⟩
  | 24 => ⟨S1x256x4096, .f32⟩
  | 25 => ⟨S1x1x4096, .f32⟩
  | 26 => ⟨S1x256x4096, .f32⟩
  | 27 => ⟨S1x256x4096, .f32⟩
  | 28 => ⟨S1x1x4096, .f32⟩
  | 29 => ⟨S1x256x4096, .f32⟩
  | 30 => ⟨S1x256x4096, .f32⟩
  | 31 => ⟨S1x4096, .f32⟩
  | 32 => ⟨S4096, .f32⟩
  | 33 => ⟨S1x256x4096, .f32⟩
  | 34 => ⟨S1x1x4096, .f32⟩
  | 35 => ⟨S1x256x4096, .f32⟩
  | 36 => ⟨S1x256x4096, .f32⟩
  | 37 => ⟨S1x256x4096, .f32⟩
  | 38 => ⟨S1x4096, .f32⟩
  | 39 => ⟨S4096, .f32⟩
  | 40 => ⟨S1x256x4096, .f32⟩
  | 41 => ⟨S1x1x4096, .f32⟩
  | 42 => ⟨S1x256x4096, .f32⟩
  | 43 => ⟨S1x256x4096, .f32⟩
  | 44 => ⟨S1x256x4096, .f32⟩
  | 45 => ⟨S1x4096, .f32⟩
  | 46 => ⟨S4096, .f32⟩
  | 47 => ⟨S1x256x4096, .f32⟩
  | 48 => ⟨S1x1x4096, .f32⟩
  | 49 => ⟨S1x256x4096, .f32⟩
  | 50 => ⟨S1x256x4096, .f32⟩
  | 51 => ⟨S1x256x4096, .f32⟩
  | 52 => ⟨S1x4096, .f32⟩
  | 53 => ⟨S4096, .f32⟩
  | 54 => ⟨S1x256x4096, .f32⟩
  | 55 => ⟨S1x1x4096, .f32⟩
  | 56 => ⟨S1x256x4096, .f32⟩
  | 57 => ⟨S1x256x4096, .f32⟩
  | 58 => ⟨S1x256x4096, .f32⟩
  | 59 => ⟨S1x256x4096, .f32⟩
  | 60 => ⟨S1x256x4096, .f32⟩
  | 61 => ⟨S_, .f32⟩
  | 62 => ⟨S1x256x4096, .f32⟩
  | 63 => ⟨S1x256x4096, .f32⟩
  | 64 => ⟨S_, .f32⟩
  | 65 => ⟨S1x256x4096, .f32⟩
  | 66 => ⟨S1x256x4096, .f32⟩
  | 67 => ⟨S_, .f32⟩
  | 68 => ⟨S1x256x4096, .f32⟩
  | 69 => ⟨S1x256x4096, .f32⟩
  | 70 => ⟨S1x256x4096, .f32⟩
  | 71 => ⟨S1x256x4096, .f32⟩
  | 72 => ⟨S256x4096, .f32⟩
  | 73 => ⟨S1x4096x4096, .f32⟩
  | 74 => ⟨S4096, .f32⟩
  | 75 => ⟨S_, .f32⟩
  | 76 => ⟨S1x2x4096, .f32⟩
  | 77 => ⟨S1x4100x4096, .f32⟩
  | 78 => ⟨S_, .f32⟩
  | 79 => ⟨S1x2x4096, .f32⟩
  | 80 => ⟨S_, .f32⟩
  | 81 => ⟨S1x2x4096, .f32⟩
  | 82 => ⟨S1x4096, .f32⟩
  | 83 => ⟨S4096, .f32⟩
  | 84 => ⟨S1x4096x4096, .f32⟩
  | 85 => ⟨S1x1x4096, .f32⟩
  | 86 => ⟨S1x4096x4096, .f32⟩
  | 87 => ⟨S1x4096x4096, .f32⟩
  | 88 => ⟨S1x1x4096, .f32⟩
  | 89 => ⟨S1x4096x4096, .f32⟩
  | 90 => ⟨S1x4096x4096, .f32⟩
  | 91 => ⟨S1x4096, .f32⟩
  | 92 => ⟨S4096, .f32⟩
  | 93 => ⟨S1x4096x4096, .f32⟩
  | 94 => ⟨S1x1x4096, .f32⟩
  | 95 => ⟨S1x4096x4096, .f32⟩
  | 96 => ⟨S1x4096x4096, .f32⟩
  | 97 => ⟨S1x4096x4096, .f32⟩
  | 98 => ⟨S1x4096, .f32⟩
  | 99 => ⟨S4096, .f32⟩
  | 100 => ⟨S1x4096x4096, .f32⟩
  | 101 => ⟨S1x1x4096, .f32⟩
  | 102 => ⟨S1x4096x4096, .f32⟩
  | 103 => ⟨S1x4096x4096, .f32⟩
  | 104 => ⟨S1x4096x4096, .f32⟩
  | 105 => ⟨S1x4096, .f32⟩
  | 106 => ⟨S4096, .f32⟩
  | 107 => ⟨S1x4096x4096, .f32⟩
  | 108 => ⟨S1x1x4096, .f32⟩
  | 109 => ⟨S1x4096x4096, .f32⟩
  | 110 => ⟨S1x4096x4096, .f32⟩
  | 111 => ⟨S1x4096x4096, .f32⟩
  | 112 => ⟨S1x4096, .f32⟩
  | 113 => ⟨S4096, .f32⟩
  | 114 => ⟨S1x4096x4096, .f32⟩
  | 115 => ⟨S1x1x4096, .f32⟩
  | 116 => ⟨S1x4096x4096, .f32⟩
  | 117 => ⟨S1x4096x4096, .f32⟩
  | 118 => ⟨S1x4096x4096, .f32⟩
  | 119 => ⟨S1x4096x4096, .f32⟩
  | 120 => ⟨S1x4096x4096, .f32⟩
  | 121 => ⟨S_, .f32⟩
  | 122 => ⟨S1x4096x4096, .f32⟩
  | 123 => ⟨S1x4096x4096, .f32⟩
  | 124 => ⟨S_, .f32⟩
  | 125 => ⟨S1x4096x4096, .f32⟩
  | 126 => ⟨S1x4096x4096, .f32⟩
  | 127 => ⟨S_, .f32⟩
  | _ => ⟨S4352x9216, .bf16⟩

abbrev hbmTy0_1 (i : Nat) : BufTy := match i % 128 with
  | 0 => ⟨S1x4096x4096, .f32⟩
  | 1 => ⟨S1x4096x4096, .f32⟩
  | 2 => ⟨S1x4096x4096, .f32⟩
  | 3 => ⟨S1x4096x4096, .f32⟩
  | 4 => ⟨S4096x4096, .f32⟩
  | 5 => ⟨S4352x4096, .f32⟩
  | 6 => ⟨S4352x8x512, .f32⟩
  | 7 => ⟨S4352x8x256, .f32⟩
  | 8 => ⟨S4352x2048, .f32⟩
  | 9 => ⟨S4352x4096, .f32⟩
  | 10 => ⟨S4352x8x256, .f32⟩
  | 11 => ⟨S_, .f32⟩
  | 12 => ⟨S4352x8x512, .f32⟩
  | 13 => ⟨S4352x4096, .f32⟩
  | 14 => ⟨S4352x4096, .f32⟩
  | 15 => ⟨S256x4096, .f32⟩
  | 16 => ⟨S4096x4096, .f32⟩
  | 17 => ⟨S1x4096x4096, .f32⟩
  | 18 => ⟨S1x4096x4096, .f32⟩
  | 19 => ⟨S1x4096x4096, .f32⟩
  | 20 => ⟨S1x4096x4096, .f32⟩
  | 21 => ⟨S1x4096x4096, .f32⟩
  | 22 => ⟨S1x4096x4096, .f32⟩
  | 23 => ⟨S1x4096x4096, .f32⟩
  | 24 => ⟨S1x4096x4096, .f32⟩
  | 25 => ⟨S_, .f32⟩
  | 26 => ⟨S1x4096, .f32⟩
  | 27 => ⟨S1x1x4096, .f32⟩
  | 28 => ⟨S_, .f32⟩
  | 29 => ⟨S4096, .f32⟩
  | 30 => ⟨S_, .f32⟩
  | 31 => ⟨S1x4100x4096, .f32⟩
  | 32 => ⟨S1x4096, .f32⟩
  | 33 => ⟨S_, .f32⟩
  | 34 => ⟨S5x4096, .f32⟩
  | 35 => ⟨S1x4096x4096, .f32⟩
  | 36 => ⟨S1x4096x4096, .f32⟩
  | 37 => ⟨S1x4096x4096, .f32⟩
  | 38 => ⟨S_, .f32⟩
  | 39 => ⟨S1x4096, .f32⟩
  | 40 => ⟨S1x1x4096, .f32⟩
  | 41 => ⟨S_, .f32⟩
  | 42 => ⟨S4096, .f32⟩
  | 43 => ⟨S_, .f32⟩
  | 44 => ⟨S1x4100x4096, .f32⟩
  | 45 => ⟨S1x4100x4096, .f32⟩
  | 46 => ⟨S1x4096, .f32⟩
  | 47 => ⟨S_, .f32⟩
  | 48 => ⟨S5x4096, .f32⟩
  | 49 => ⟨S5x4096, .f32⟩
  | 50 => ⟨S1x4096x4096, .f32⟩
  | 51 => ⟨S1x4096x4096, .f32⟩
  | 52 => ⟨S1x4096x4096, .f32⟩
  | 53 => ⟨S_, .f32⟩
  | 54 => ⟨S1x4096, .f32⟩
  | 55 => ⟨S1x1x4096, .f32⟩
  | 56 => ⟨S_, .f32⟩
  | 57 => ⟨S4096, .f32⟩
  | 58 => ⟨S_, .f32⟩
  | 59 => ⟨S1x4100x4096, .f32⟩
  | 60 => ⟨S1x4100x4096, .f32⟩
  | 61 => ⟨S1x4096, .f32⟩
  | 62 => ⟨S_, .f32⟩
  | 63 => ⟨S5x4096, .f32⟩
  | 64 => ⟨S5x4096, .f32⟩
  | 65 => ⟨S1x4096x4096, .f32⟩
  | 66 => ⟨S1x4096x4096, .f32⟩
  | 67 => ⟨S1x4096x4096, .f32⟩
  | 68 => ⟨S_, .f32⟩
  | 69 => ⟨S1x4096, .f32⟩
  | 70 => ⟨S1x1x4096, .f32⟩
  | 71 => ⟨S_, .f32⟩
  | 72 => ⟨S4096, .f32⟩
  | 73 => ⟨S_, .f32⟩
  | 74 => ⟨S1x4100x4096, .f32⟩
  | 75 => ⟨S1x4100x4096, .f32⟩
  | 76 => ⟨S1x4096, .f32⟩
  | 77 => ⟨S_, .f32⟩
  | 78 => ⟨S5x4096, .f32⟩
  | 79 => ⟨S5x4096, .f32⟩
  | 80 => ⟨S_, .f32⟩
  | 81 => ⟨S1x4096, .f32⟩
  | 82 => ⟨S1x1x4096, .f32⟩
  | 83 => ⟨S_, .f32⟩
  | 84 => ⟨S4096, .f32⟩
  | 85 => ⟨S1x4096x4096, .f32⟩
  | 86 => ⟨S1x4096x4096, .f32⟩
  | 87 => ⟨S1x4096x4096, .f32⟩
  | 88 => ⟨S_, .f32⟩
  | 89 => ⟨S1x4096, .f32⟩
  | 90 => ⟨S1x1x4096, .f32⟩
  | 91 => ⟨S_, .f32⟩
  | 92 => ⟨S4096, .f32⟩
  | 93 => ⟨S_, .f32⟩
  | 94 => ⟨S1x4100x4096, .f32⟩
  | 95 => ⟨S1x4100x4096, .f32⟩
  | 96 => ⟨S1x4096, .f32⟩
  | 97 => ⟨S_, .f32⟩
  | 98 => ⟨S5x4096, .f32⟩
  | 99 => ⟨S5x4096, .f32⟩
  | 100 => ⟨S1x2x4096, .f32⟩
  | 101 => ⟨S1x4096x4096, .f32⟩
  | 102 => ⟨S1x2x4096, .f32⟩
  | 103 => ⟨S1x4096, .f32⟩
  | 104 => ⟨S_, .f32⟩
  | 105 => ⟨S4096x4096, .f32⟩
  | 106 => ⟨S1x256x4096, .f32⟩
  | 107 => ⟨S1x256x4096, .f32⟩
  | 108 => ⟨S1x256x4096, .f32⟩
  | 109 => ⟨S1x256x4096, .f32⟩
  | 110 => ⟨S1x256x4096, .f32⟩
  | 111 => ⟨S1x256x4096, .f32⟩
  | 112 => ⟨S1x256x4096, .f32⟩
  | 113 => ⟨S1x256x4096, .f32⟩
  | 114 => ⟨S_, .f32⟩
  | 115 => ⟨S1x4096, .f32⟩
  | 116 => ⟨S1x1x4096, .f32⟩
  | 117 => ⟨S_, .f32⟩
  | 118 => ⟨S4096, .f32⟩
  | 119 => ⟨S_, .f32⟩
  | 120 => ⟨S1x260x4096, .f32⟩
  | 121 => ⟨S1x4096, .f32⟩
  | 122 => ⟨S_, .f32⟩
  | 123 => ⟨S5x4096, .f32⟩
  | 124 => ⟨S5x4096, .f32⟩
  | 125 => ⟨S1x256x4096, .f32⟩
  | 126 => ⟨S1x256x4096, .f32⟩
  | 127 => ⟨S1x256x4096, .f32⟩
  | _ => ⟨S4352x9216, .bf16⟩

abbrev hbmTy0_2 (i : Nat) : BufTy := match i % 128 with
  | 0 => ⟨S_, .f32⟩
  | 1 => ⟨S1x4096, .f32⟩
  | 2 => ⟨S1x1x4096, .f32⟩
  | 3 => ⟨S_, .f32⟩
  | 4 => ⟨S4096, .f32⟩
  | 5 => ⟨S_, .f32⟩
  | 6 => ⟨S1x260x4096, .f32⟩
  | 7 => ⟨S1x260x4096, .f32⟩
  | 8 => ⟨S1x4096, .f32⟩
  | 9 => ⟨S_, .f32⟩
  | 10 => ⟨S5x4096, .f32⟩
  | 11 => ⟨S5x4096, .f32⟩
  | 12 => ⟨S1x256x4096, .f32⟩
  | 13 => ⟨S1x256x4096, .f32⟩
  | 14 => ⟨S1x256x4096, .f32⟩
  | 15 => ⟨S_, .f32⟩
  | 16 => ⟨S1x4096, .f32⟩
  | 17 => ⟨S1x1x4096, .f32⟩
  | 18 => ⟨S_, .f32⟩
  | 19 => ⟨S4096, .f32⟩
  | 20 => ⟨S_, .f32⟩
  | 21 => ⟨S1x260x4096, .f32⟩
  | 22 => ⟨S1x260x4096, .f32⟩
  | 23 => ⟨S1x4096, .f32⟩
  | 24 => ⟨S_, .f32⟩
  | 25 => ⟨S5x4096, .f32⟩
  | 26 => ⟨S5x4096, .f32⟩
  | 27 => ⟨S1x256x4096, .f32⟩
  | 28 => ⟨S1x256x4096, .f32⟩
  | 29 => ⟨S1x256x4096, .f32⟩
  | 30 => ⟨S_, .f32⟩
  | 31 => ⟨S1x4096, .f32⟩
  | 32 => ⟨S1x1x4096, .f32⟩
  | 33 => ⟨S_, .f32⟩
  | 34 => ⟨S4096, .f32⟩
  | 35 => ⟨S_, .f32⟩
  | 36 => ⟨S1x260x4096, .f32⟩
  | 37 => ⟨S1x260x4096, .f32⟩
  | 38 => ⟨S1x4096, .f32⟩
  | 39 => ⟨S_, .f32⟩
  | 40 => ⟨S5x4096, .f32⟩
  | 41 => ⟨S5x4096, .f32⟩
  | 42 => ⟨S_, .f32⟩
  | 43 => ⟨S1x4096, .f32⟩
  | 44 => ⟨S1x1x4096, .f32⟩
  | 45 => ⟨S_, .f32⟩
  | 46 => ⟨S4096, .f32⟩
  | 47 => ⟨S1x256x4096, .f32⟩
  | 48 => ⟨S1x256x4096, .f32⟩
  | 49 => ⟨S1x256x4096, .f32⟩
  | 50 => ⟨S_, .f32⟩
  | 51 => ⟨S1x4096, .f32⟩
  | 52 => ⟨S1x1x4096, .f32⟩
  | 53 => ⟨S_, .f32⟩
  | 54 => ⟨S4096, .f32⟩
  | 55 => ⟨S_, .f32⟩
  | 56 => ⟨S1x260x4096, .f32⟩
  | 57 => ⟨S1x260x4096, .f32⟩
  | 58 => ⟨S1x4096, .f32⟩
  | 59 => ⟨S_, .f32⟩
  | 60 => ⟨S5x4096, .f32⟩
  | 61 => ⟨S5x4096, .f32⟩
  | 62 => ⟨S1x2x4096, .f32⟩
  | 63 => ⟨S1x256x4096, .f32⟩
  | 64 => ⟨S1x2x4096, .f32⟩
  | 65 => ⟨S1x4096, .f32⟩
  | 66 => ⟨S1x4096, .f32⟩
  | 67 => ⟨S_, .f32⟩
  | 68 => ⟨S256x4096, .f32⟩
  | 69 => ⟨S_, .f32⟩
  | 70 => ⟨S4352x4096, .f32⟩
  | 71 => ⟨S_, .f32⟩
  | 72 => ⟨S4352x4096, .f32⟩
  | 73 => ⟨S4352x4096, .f32⟩
  | 74 => ⟨S4352x4096, .bf16⟩
  | _ => ⟨S4352x9216, .bf16⟩

abbrev hbmTy (i : Nat) : BufTy := match i / 128 with
  | 0 => hbmTy0_0 i
  | 1 => hbmTy0_1 i
  | 2 => hbmTy0_2 i
  | _ => ⟨S4352x9216, .bf16⟩

abbrev bufTy : (tb : Table) → Fin (tcTables nBuf tb) → BufTy
  | .hbm, ⟨i, _⟩ => hbmTy i
  | _, _ => ⟨S4352x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v50_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v50_1 : Ref sig .tc := ⟨.hbm, 70, rfl⟩
abbrev main_v50_0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_2 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_call1_v0 : Ref sig .tc := ⟨.hbm, 119, rfl⟩
abbrev main_call1_v1 : Ref sig .tc := ⟨.hbm, 120, rfl⟩
abbrev main_call1_cst : Ref sig .tc := ⟨.hbm, 121, rfl⟩
abbrev main_call1_v2 : Ref sig .tc := ⟨.hbm, 122, rfl⟩
abbrev main_call1_v3 : Ref sig .tc := ⟨.hbm, 123, rfl⟩
abbrev main_call1_cst_0 : Ref sig .tc := ⟨.hbm, 124, rfl⟩
abbrev main_call1_v4 : Ref sig .tc := ⟨.hbm, 125, rfl⟩
abbrev main_v95_2 : Ref sig .tc := ⟨.hbm, 126, rfl⟩
abbrev main_call1_cst_1 : Ref sig .tc := ⟨.hbm, 127, rfl⟩
abbrev main_call1_v6 : Ref sig .tc := ⟨.hbm, 128, rfl⟩
abbrev main_call1_v7 : Ref sig .tc := ⟨.hbm, 129, rfl⟩
abbrev main_v95_1 : Ref sig .tc := ⟨.hbm, 130, rfl⟩
abbrev main_v95_0 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_5 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_call2_v0 : Ref sig .tc := ⟨.hbm, 146, rfl⟩
abbrev main_call2_v1 : Ref sig .tc := ⟨.hbm, 147, rfl⟩
abbrev main_call2_v2 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_6 : Ref sig .tc := ⟨.hbm, 153, rfl⟩
abbrev main_v113 : Ref sig .tc := ⟨.hbm, 154, rfl⟩
abbrev main_v114 : Ref sig .tc := ⟨.hbm, 155, rfl⟩
abbrev main_cst_7 : Ref sig .tc := ⟨.hbm, 156, rfl⟩
abbrev main_v115 : Ref sig .tc := ⟨.hbm, 157, rfl⟩
abbrev main_cst_8 : Ref sig .tc := ⟨.hbm, 158, rfl⟩
abbrev main_v116 : Ref sig .tc := ⟨.hbm, 159, rfl⟩
abbrev main_v117 : Ref sig .tc := ⟨.hbm, 160, rfl⟩
abbrev main_cst_9 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_10 : Ref sig .tc := ⟨.hbm, 166, rfl⟩
abbrev main_v122 : Ref sig .tc := ⟨.hbm, 167, rfl⟩
abbrev main_v123 : Ref sig .tc := ⟨.hbm, 168, rfl⟩
abbrev main_cst_11 : Ref sig .tc := ⟨.hbm, 169, rfl⟩
abbrev main_v124 : Ref sig .tc := ⟨.hbm, 170, rfl⟩
abbrev main_cst_12 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_13 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_cst_14 : Ref sig .tc := ⟨.hbm, 181, rfl⟩
abbrev main_v133 : Ref sig .tc := ⟨.hbm, 182, rfl⟩
abbrev main_v134 : Ref sig .tc := ⟨.hbm, 183, rfl⟩
abbrev main_cst_15 : Ref sig .tc := ⟨.hbm, 184, rfl⟩
abbrev main_v135 : Ref sig .tc := ⟨.hbm, 185, rfl⟩
abbrev main_cst_16 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_17 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_18 : Ref sig .tc := ⟨.hbm, 196, rfl⟩
abbrev main_v144 : Ref sig .tc := ⟨.hbm, 197, rfl⟩
abbrev main_v145 : Ref sig .tc := ⟨.hbm, 198, rfl⟩
abbrev main_cst_19 : Ref sig .tc := ⟨.hbm, 199, rfl⟩
abbrev main_v146 : Ref sig .tc := ⟨.hbm, 200, rfl⟩
abbrev main_cst_20 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_21 : Ref sig .tc := ⟨.hbm, 205, rfl⟩
abbrev main_v150 : Ref sig .tc := ⟨.hbm, 206, rfl⟩
abbrev main_v151 : Ref sig .tc := ⟨.hbm, 207, rfl⟩
abbrev main_cst_22 : Ref sig .tc := ⟨.hbm, 208, rfl⟩
abbrev main_v152 : Ref sig .tc := ⟨.hbm, 209, rfl⟩
abbrev main_v153 : Ref sig .tc := ⟨.hbm, 210, rfl⟩
abbrev main_cst_23 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_cst_24 : Ref sig .tc := ⟨.hbm, 216, rfl⟩
abbrev main_v158 : Ref sig .tc := ⟨.hbm, 217, rfl⟩
abbrev main_v159 : Ref sig .tc := ⟨.hbm, 218, rfl⟩
abbrev main_cst_25 : Ref sig .tc := ⟨.hbm, 219, rfl⟩
abbrev main_v160 : Ref sig .tc := ⟨.hbm, 220, rfl⟩
abbrev main_cst_26 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_27 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_28 : Ref sig .tc := ⟨.hbm, 232, rfl⟩
abbrev main_v170 : Ref sig .tc := ⟨.hbm, 233, rfl⟩
abbrev main_v171 : Ref sig .tc := ⟨.hbm, 234, rfl⟩
abbrev main_call3_v0 : Ref sig .tc := ⟨.hbm, 235, rfl⟩
abbrev main_call3_v1 : Ref sig .tc := ⟨.hbm, 236, rfl⟩
abbrev main_call3_v2 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_cst_29 : Ref sig .tc := ⟨.hbm, 242, rfl⟩
abbrev main_v176 : Ref sig .tc := ⟨.hbm, 243, rfl⟩
abbrev main_v177 : Ref sig .tc := ⟨.hbm, 244, rfl⟩
abbrev main_cst_30 : Ref sig .tc := ⟨.hbm, 245, rfl⟩
abbrev main_v178 : Ref sig .tc := ⟨.hbm, 246, rfl⟩
abbrev main_cst_31 : Ref sig .tc := ⟨.hbm, 247, rfl⟩
abbrev main_v179 : Ref sig .tc := ⟨.hbm, 248, rfl⟩
abbrev main_v180 : Ref sig .tc := ⟨.hbm, 249, rfl⟩
abbrev main_cst_32 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_cst_33 : Ref sig .tc := ⟨.hbm, 256, rfl⟩
abbrev main_v186 : Ref sig .tc := ⟨.hbm, 257, rfl⟩
abbrev main_v187 : Ref sig .tc := ⟨.hbm, 258, rfl⟩
abbrev main_cst_34 : Ref sig .tc := ⟨.hbm, 259, rfl⟩
abbrev main_v188 : Ref sig .tc := ⟨.hbm, 260, rfl⟩
abbrev main_cst_35 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_cst_36 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_cst_37 : Ref sig .tc := ⟨.hbm, 271, rfl⟩
abbrev main_v197 : Ref sig .tc := ⟨.hbm, 272, rfl⟩
abbrev main_v198 : Ref sig .tc := ⟨.hbm, 273, rfl⟩
abbrev main_cst_38 : Ref sig .tc := ⟨.hbm, 274, rfl⟩
abbrev main_v199 : Ref sig .tc := ⟨.hbm, 275, rfl⟩
abbrev main_cst_39 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_cst_40 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_cst_41 : Ref sig .tc := ⟨.hbm, 286, rfl⟩
abbrev main_v208 : Ref sig .tc := ⟨.hbm, 287, rfl⟩
abbrev main_v209 : Ref sig .tc := ⟨.hbm, 288, rfl⟩
abbrev main_cst_42 : Ref sig .tc := ⟨.hbm, 289, rfl⟩
abbrev main_v210 : Ref sig .tc := ⟨.hbm, 290, rfl⟩
abbrev main_cst_43 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_cst_44 : Ref sig .tc := ⟨.hbm, 295, rfl⟩
abbrev main_v214 : Ref sig .tc := ⟨.hbm, 296, rfl⟩
abbrev main_v215 : Ref sig .tc := ⟨.hbm, 297, rfl⟩
abbrev main_cst_45 : Ref sig .tc := ⟨.hbm, 298, rfl⟩
abbrev main_v216 : Ref sig .tc := ⟨.hbm, 299, rfl⟩
abbrev main_v217 : Ref sig .tc := ⟨.hbm, 300, rfl⟩
abbrev main_cst_46 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_cst_47 : Ref sig .tc := ⟨.hbm, 306, rfl⟩
abbrev main_v222 : Ref sig .tc := ⟨.hbm, 307, rfl⟩
abbrev main_v223 : Ref sig .tc := ⟨.hbm, 308, rfl⟩
abbrev main_cst_48 : Ref sig .tc := ⟨.hbm, 309, rfl⟩
abbrev main_v224 : Ref sig .tc := ⟨.hbm, 310, rfl⟩
abbrev main_cst_49 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_cst_50 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_cst_51 : Ref sig .tc := ⟨.hbm, 323, rfl⟩
abbrev main_v235 : Ref sig .tc := ⟨.hbm, 324, rfl⟩
abbrev main_cst_52 : Ref sig .tc := ⟨.hbm, 325, rfl⟩
abbrev main_v236 : Ref sig .tc := ⟨.hbm, 326, rfl⟩
abbrev main_cst_53 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩

abbrev nD : Nat := 1
abbrev τ : Topo := Topo.v7x

variable {F : FTy → Type} [FloatOps F]
-- ==== Kernel2.lean ====
abbrev S4352x1024 : Shape := ⟨2, ![4352, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4352x5632 : Shape := ⟨2, ![4352, 5632]⟩
abbrev S2176x1024 : Shape := ⟨2, ![2176, 1024]⟩
abbrev S1x1024x1408 : Shape := ⟨3, ![1, 1024, 1408]⟩
abbrev S2176x1408 : Shape := ⟨2, ![2176, 1408]⟩
abbrev S1024x1408 : Shape := ⟨2, ![1024, 1408]⟩
abbrev S4352x2816 : Shape := ⟨2, ![4352, 2816]⟩
abbrev S256x5632 : Shape := ⟨2, ![256, 5632]⟩
abbrev S256x2816 : Shape := ⟨2, ![256, 2816]⟩
abbrev S2176x2816 : Shape := ⟨2, ![2176, 2816]⟩
abbrev S2816x512 : Shape := ⟨2, ![2816, 512]⟩
abbrev S2176x512 : Shape := ⟨2, ![2176, 512]⟩
abbrev S1408x1024 : Shape := ⟨2, ![1408, 1024]⟩
abbrev S4352x256 : Shape := ⟨2, ![4352, 256]⟩
abbrev S4352x512 : Shape := ⟨2, ![4352, 512]⟩
abbrev S256x512 : Shape := ⟨2, ![256, 512]⟩
abbrev S1088x5632 : Shape := ⟨2, ![1088, 5632]⟩
abbrev S4x512x1408 : Shape := ⟨3, ![4, 512, 1408]⟩
abbrev S1088x512 : Shape := ⟨2, ![1088, 512]⟩
abbrev S1088x1408 : Shape := ⟨2, ![1088, 1408]⟩
abbrev S1x512x1408 : Shape := ⟨3, ![1, 512, 1408]⟩
abbrev S512x1408 : Shape := ⟨2, ![512, 1408]⟩
abbrev S4352x1408 : Shape := ⟨2, ![4352, 1408]⟩

abbrev nBuf : Space → Nat
  | .hbm => 18
  | .vmem => 46
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .f32⟩
  | .hbm, ⟨2, _⟩ => ⟨S2816x1024, .f32⟩
  | .hbm, ⟨3, _⟩ => ⟨S4352x1024, .bf16⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S2816x1024, .bf16⟩
  | .hbm, ⟨8, _⟩ => ⟨S4352x5632, .f32⟩
  | .hbm, ⟨9, _⟩ => ⟨S4352x2816, .bf16⟩
  | .hbm, ⟨10, _⟩ => ⟨S4352x1024, .f32⟩
  | .hbm, ⟨11, _⟩ => ⟨S4352x2816, .f32⟩
  | .hbm, ⟨12, _⟩ => ⟨S2816x1024, .f32⟩
  | .hbm, ⟨13, _⟩ => ⟨S4352x5632, .bf16⟩
  | .hbm, ⟨14, _⟩ => ⟨S4352x1024, .f32⟩
  | .hbm, ⟨15, _⟩ => ⟨S4x1024x1408, .f32⟩
  | .hbm, ⟨16, _⟩ => ⟨S1024x4x1408, .f32⟩
  | .hbm, ⟨17, _⟩ => ⟨S1024x5632, .f32⟩
  | .local _ .vmem, ⟨0, _⟩ => ⟨S2176x1024, .bf16⟩
  | .local _ .vmem, ⟨1, _⟩ => ⟨S2176x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2176x1408, .f32⟩
  | .local _ .vmem, ⟨5, _⟩ => ⟨S2176x1408, .f32⟩
  | .local _ .vmem, ⟨6, _⟩ => ⟨S256x5632, .f32⟩
  | .local _ .vmem, ⟨7, _⟩ => ⟨S256x5632, .f32⟩
  | .local _ .vmem, ⟨8, _⟩ => ⟨S256x2816, .bf16⟩
  | .local _ .vmem, ⟨9, _⟩ => ⟨S256x2816, .bf16⟩
  | .local _ .vmem, ⟨10, _⟩ => ⟨S2176x2816, .bf16⟩
  | .local _ .vmem, ⟨11, _⟩ => ⟨S2176x2816, .bf16⟩
  | .local _ .vmem, ⟨12, _⟩ => ⟨S2816x512, .bf16⟩
  | .local _ .vmem, ⟨13, _⟩ => ⟨S2816x512, .bf16⟩
  | .local _ .vmem, ⟨14, _⟩ => ⟨S2176x512, .f32⟩
  | .local _ .vmem, ⟨15, _⟩ => ⟨S2176x512, .f32⟩
  | .local _ .vmem, ⟨16, _⟩ => ⟨S2176x1024, .bf16⟩
  | .local _ .vmem, ⟨17, _⟩ => ⟨S2176x1024, .bf16⟩
  | .local _ .vmem, ⟨18, _⟩ => ⟨S1408x1024, .bf16⟩
  | .local _ .vmem, ⟨19, _⟩ => ⟨S1408x1024, .bf16⟩
  | .local _ .vmem, ⟨20, _⟩ => ⟨S2176x1408, .f32⟩
  | .local _ .vmem, ⟨21, _⟩ => ⟨S2176x1408, .f32⟩
  | .local _ .vmem, ⟨22, _⟩ => ⟨S4352x256, .bf16⟩
  | .local _ .vmem, ⟨23, _⟩ => ⟨S4352x256, .bf16⟩
  | .local _ .vmem, ⟨24, _⟩ => ⟨S4352x512, .bf16⟩
  | .local _ .vmem, ⟨25, _⟩ => ⟨S4352x512, .bf16⟩
  | .local _ .vmem, ⟨26, _⟩ => ⟨S256x512, .f32⟩
  | .local _ .vmem, ⟨27, _⟩ => ⟨S256x512, .f32⟩
  | .local _ .vmem, ⟨28, _⟩ => ⟨S256x5632, .f32⟩
  | .local _ .vmem, ⟨29, _⟩ => ⟨S256x5632, .f32⟩
  | .local _ .vmem, ⟨30, _⟩ => ⟨S256x2816, .f32⟩
  | .local _ .vmem, ⟨31, _⟩ => ⟨S256x2816, .f32⟩
  | .local _ .vmem, ⟨32, _⟩ => ⟨S256x5632, .bf16⟩
  | .local _ .vmem, ⟨33, _⟩ => ⟨S256x5632, .bf16⟩
  | .local _ .vmem, ⟨34, _⟩ => ⟨S1088x5632, .bf16⟩
  | .local _ .vmem, ⟨35, _⟩ => ⟨S1088x5632, .bf16⟩
  | .local _ .vmem, ⟨36, _⟩ => ⟨S4x512x1408, .bf16⟩
  | .local _ .vmem, ⟨37, _⟩ => ⟨S4x512x1408, .bf16⟩
  | .local _ .vmem, ⟨38, _⟩ => ⟨S1088x512, .f32⟩
  | .local _ .vmem, ⟨39, _⟩ => ⟨S1088x512, .f32⟩
  | .local _ .vmem, ⟨40, _⟩ => ⟨S4352x512, .bf16⟩
  | .local _ .vmem, ⟨41, _⟩ => ⟨S4352x512, .bf16⟩
  | .local _ .vmem, ⟨42, _⟩ => ⟨S4352x1408, .bf16⟩
  | .local _ .vmem, ⟨43, _⟩ => ⟨S4352x1408, .bf16⟩
  | .local _ .vmem, ⟨44, _⟩ => ⟨S1x512x1408, .f32⟩
  | .local _ .vmem, ⟨45, _⟩ => ⟨S1x512x1408, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2176x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 17], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S256x5632 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S2176x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2816x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2176x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S2176x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1408x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2176x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![11, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4352x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4352x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 17], ![false, false]⟩

def cc5_transform_0 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc5_transform_1 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage5_0 : Fin 2 → Memref sig .tc .vmem S256x5632 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S256x2816 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S256x5632 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S1088x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S4x512x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1088x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage7_0 : Fin 2 → Memref sig .tc .vmem S4352x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4352x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x512x1408 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== Reference2Ideal.lean ====
abbrev S4352x1024 : Shape := ⟨2, ![4352, 1024]⟩
abbrev S1024x5632 : Shape := ⟨2, ![1024, 5632]⟩
abbrev S2816x1024 : Shape := ⟨2, ![2816, 1024]⟩
abbrev S4352x5632 : Shape := ⟨2, ![4352, 5632]⟩
abbrev S4352x2816 : Shape := ⟨2, ![4352, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .f32⟩
  | .hbm, ⟨2, _⟩ => ⟨S2816x1024, .f32⟩
  | .hbm, ⟨3, _⟩ => ⟨S4352x1024, .bf16⟩
  | .hbm, ⟨4, _⟩ => ⟨S4352x1024, .f32⟩
  | .hbm, ⟨5, _⟩ => ⟨S4352x5632, .f32⟩
  | .hbm, ⟨6, _⟩ => ⟨S4352x2816, .f32⟩
  | .hbm, ⟨7, _⟩ => ⟨S4352x2816, .f32⟩
  | .hbm, ⟨8, _⟩ => ⟨S4352x2816, .f32⟩
  | .hbm, ⟨9, _⟩ => ⟨S4352x2816, .f32⟩
  | .hbm, ⟨10, _⟩ => ⟨S_, .f32⟩
  | .hbm, ⟨11, _⟩ => ⟨S4352x2816, .f32⟩
  | .hbm, ⟨12, _⟩ => ⟨S4352x2816, .f32⟩
  | .hbm, ⟨13, _⟩ => ⟨S_, .f32⟩
  | .hbm, ⟨14, _⟩ => ⟨S4352x2816, .f32⟩
  | .hbm, ⟨15, _⟩ => ⟨S4352x2816, .f32⟩
  | .hbm, ⟨16, _⟩ => ⟨S_, .f32⟩
  | .hbm, ⟨17, _⟩ => ⟨S4352x2816, .f32⟩
  | .hbm, ⟨18, _⟩ => ⟨S4352x2816, .f32⟩
  | .hbm, ⟨19, _⟩ => ⟨S4352x2816, .f32⟩
  | .hbm, ⟨20, _⟩ => ⟨S4352x2816, .f32⟩
  | .hbm, ⟨21, _⟩ => ⟨S4352x2816, .f32⟩
  | .hbm, ⟨22, _⟩ => ⟨S4352x1024, .f32⟩
  | .hbm, ⟨23, _⟩ => ⟨S4352x1024, .f32⟩
  | .hbm, ⟨24, _⟩ => ⟨S1024x2816, .f32⟩
  | .hbm, ⟨25, _⟩ => ⟨S2816x1024, .f32⟩
  | .hbm, ⟨26, _⟩ => ⟨S4352x2816, .f32⟩
  | .hbm, ⟨27, _⟩ => ⟨S4352x2816, .f32⟩
  | .hbm, ⟨28, _⟩ => ⟨S4352x2816, .f32⟩
  | .hbm, ⟨29, _⟩ => ⟨S4352x2816, .f32⟩
  | .hbm, ⟨30, _⟩ => ⟨S4352x2816, .f32⟩
  | .hbm, ⟨31, _⟩ => ⟨S4352x2816, .f32⟩
  | .hbm, ⟨32, _⟩ => ⟨S4352x2816, .f32⟩
  | .hbm, ⟨33, _⟩ => ⟨S4352x5632, .f32⟩
  | .hbm, ⟨34, _⟩ => ⟨S5632x1024, .f32⟩
  | .hbm, ⟨35, _⟩ => ⟨S1024x5632, .f32⟩
  | .hbm, ⟨36, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Kernel3.lean ====
abbrev S4352x1024 : Shape := ⟨2, ![4352, 1024]⟩
abbrev S1024x9280 : Shape := ⟨2, ![1024, 9280]⟩
abbrev S4352x2048 : Shape := ⟨2, ![4352, 2048]⟩
abbrev S4352x4096 : Shape := ⟨2, ![4352, 4096]⟩
abbrev S4352x64 : Shape := ⟨2, ![4352, 64]⟩
abbrev S1024x2048 : Shape := ⟨2, ![1024, 2048]⟩
abbrev S1024x4096 : Shape := ⟨2, ![1024, 4096]⟩
abbrev S1024x64 : Shape := ⟨2, ![1024, 64]⟩
abbrev S1024x1024 : Shape := ⟨2, ![1024, 1024]⟩
abbrev S1024x8x256 : Shape := ⟨3, ![1024, 8, 256]⟩
abbrev S1024x8x128 : Shape := ⟨3, ![1024, 8, 128]⟩
abbrev S1024x8x512 : Shape := ⟨3, ![1024, 8, 512]⟩
abbrev S_ : Shape := ⟨0, ![]⟩
abbrev S1024x448 : Shape := ⟨2, ![1024, 448]⟩
abbrev S1024x9728 : Shape := ⟨2, ![1024, 9728]⟩
abbrev S4352x128 : Shape := ⟨2, ![4352, 128]⟩
abbrev S4352x8x256 : Shape := ⟨3, ![4352, 8, 256]⟩
abbrev S4352x8x128 : Shape := ⟨3, ![4352, 8, 128]⟩
abbrev S4352x8x512 : Shape := ⟨3, ![4352, 8, 512]⟩
abbrev S544x4096 : Shape := ⟨2, ![544, 4096]⟩
abbrev S544x2048 : Shape := ⟨2, ![544, 2048]⟩
abbrev S544x1024 : Shape := ⟨2, ![544, 1024]⟩
abbrev S544x128 : Shape := ⟨2, ![544, 128]⟩
abbrev S512x9728 : Shape := ⟨2, ![512, 9728]⟩
abbrev S544x512 : Shape := ⟨2, ![544, 512]⟩
abbrev S512x4096 : Shape := ⟨2, ![512, 4096]⟩
abbrev S512x2048 : Shape := ⟨2, ![512, 2048]⟩
abbrev S512x1024 : Shape := ⟨2, ![512, 1024]⟩
abbrev S512x128 : Shape := ⟨2, ![512, 128]⟩
abbrev S4096x1024 : Shape := ⟨2, ![4096, 1024]⟩
abbrev S4352x512 : Shape := ⟨2, ![4352, 512]⟩
abbrev S512x512 : Shape := ⟨2, ![512, 512]⟩
abbrev S2048x1024 : Shape := ⟨2, ![2048, 1024]⟩
abbrev S128x1024 : Shape := ⟨2, ![128, 1024]⟩
abbrev S128x512 : Shape := ⟨2, ![128, 512]⟩
abbrev S8x512x1024 : Shape := ⟨3, ![8, 512, 1024]⟩
abbrev S8x256x1024 : Shape := ⟨3, ![8, 256, 1024]⟩
abbrev S8x128x1024 : Shape := ⟨3, ![8, 128, 1024]⟩
abbrev S64x1024 : Shape := ⟨2, ![64, 1024]⟩
abbrev S9280x1024 : Shape := ⟨2, ![9280, 1024]⟩

abbrev nBuf : Space → Nat
  | .hbm => 53
  | .vmem => 51
  | .smem => 0
  | _ => 0

abbrev bufTy : (tb : Table) → Fin (tcTables nBuf tb) → BufTy
  | .hbm, ⟨0, _⟩ => ⟨S4352x1024, .bf16⟩
  | .hbm, ⟨1, _⟩ => ⟨S1024x9280, .f32⟩
  | .hbm, ⟨2, _⟩ => ⟨S4352x2048, .bf16⟩
  | .hbm, ⟨3, _⟩ => ⟨S4352x4096, .bf16⟩
  | .hbm, ⟨4, _⟩ => ⟨S4352x64, .f32⟩
  | .hbm, ⟨5, _⟩ => ⟨S4352x1024, .bf16⟩
  | .hbm, ⟨6, _⟩ => ⟨S4352x1024, .bf16⟩
  | .hbm, ⟨7, _⟩ => ⟨S4352x1024, .bf16⟩
  | .hbm, ⟨8, _⟩ => ⟨S1024x9280, .bf16⟩
  | .hbm, ⟨9, _⟩ => ⟨S1024x2048, .bf16⟩
  | .hbm, ⟨10, _⟩ => ⟨S1024x4096, .bf16⟩
  | .hbm, ⟨11, _⟩ => ⟨S1024x64, .bf16⟩
  | .hbm, ⟨12, _⟩ => ⟨S1024x1024, .bf16⟩
  | .hbm, ⟨13, _⟩ => ⟨S1024x2048, .bf16⟩
  | .hbm, ⟨14, _⟩ => ⟨S1024x2048, .bf16⟩
  | .hbm, ⟨15, _⟩ => ⟨S1024x8x256, .bf16⟩
  | .hbm, ⟨16, _⟩ => ⟨S1024x1024, .bf16⟩
  | .hbm, ⟨17, _⟩ => ⟨S1024x8x128, .bf16⟩
  | .hbm, ⟨18, _⟩ => ⟨S1024x1024, .bf16⟩
  | .hbm, ⟨19, _⟩ => ⟨S1024x8x128, .bf16⟩
  | .hbm, ⟨20, _⟩ => ⟨S1024x8x512, .bf16⟩
  | .hbm, ⟨21, _⟩ => ⟨S1024x4096, .bf16⟩
  | .hbm, ⟨22, _⟩ => ⟨S_, .bf16⟩
  | .hbm, ⟨23, _⟩ => ⟨S1024x448, .bf16⟩
  | .hbm, ⟨24, _⟩ => ⟨S1024x9728, .bf16⟩
  | .hbm, ⟨25, _⟩ => ⟨S_, .f32⟩
  | .hbm, ⟨26, _⟩ => ⟨S4352x64, .f32⟩
  | .hbm, ⟨27, _⟩ => ⟨S4352x128, .f32⟩
  | .hbm, ⟨28, _⟩ => ⟨S4352x2048, .bf16⟩
  | .hbm, ⟨29, _⟩ => ⟨S4352x8x256, .bf16⟩
  | .hbm, ⟨30, _⟩ => ⟨S4352x1024, .bf16⟩
  | .hbm, ⟨31, _⟩ => ⟨S4352x8x128, .bf16⟩
  | .hbm, ⟨32, _⟩ => ⟨S4352x1024, .bf16⟩
  | .hbm, ⟨33, _⟩ => ⟨S4352x8x128, .bf16⟩
  | .hbm, ⟨34, _⟩ => ⟨S4352x8x512, .bf16⟩
  | .hbm, ⟨35, _⟩ => ⟨S4352x4096, .bf16⟩
  | .hbm, ⟨36, _⟩ => ⟨S4352x1024, .f32⟩
  | .hbm, ⟨37, _⟩ => ⟨S4096x1024, .f32⟩
  | .hbm, ⟨38, _⟩ => ⟨S2048x1024, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S128x1024, .f32⟩
  | .hbm, ⟨43, _⟩ => ⟨S8x512x1024, .f32⟩
  | .hbm, ⟨44, _⟩ => ⟨S8x256x1024, .f32⟩
  | .hbm, ⟨45, _⟩ => ⟨S8x128x1024, .f32⟩
  | .hbm, ⟨46, _⟩ => ⟨S8x128x1024, .f32⟩
  | .hbm, ⟨47, _⟩ => ⟨S2048x1024, .f32⟩
  | .hbm, ⟨48, _⟩ => ⟨S1024x1024, .f32⟩
  | .hbm, ⟨49, _⟩ => ⟨S1024x1024, .f32⟩
  | .hbm, ⟨50, _⟩ => ⟨S64x1024, .f32⟩
  | .hbm, ⟨51, _⟩ => ⟨S9280x1024, .f32⟩
  | .hbm, ⟨52, _⟩ => ⟨S1024x9280, .f32⟩
  | .local _ .vmem, ⟨0, _⟩ => ⟨S544x4096, .bf16⟩
  | .local _ .vmem, ⟨1, _⟩ => ⟨S544x4096, .bf16⟩
  | .local _ .vmem, ⟨2, _⟩ => ⟨S544x2048, .bf16⟩
  | .local _ .vmem, ⟨3, _⟩ => ⟨S544x2048, .bf16⟩
  | .local _ .vmem, ⟨4, _⟩ => ⟨S544x1024, .bf16⟩
  | .local _ .vmem, ⟨5, _⟩ => ⟨S544x1024, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S544x128, .f32⟩
  | .local _ .vmem, ⟨11, _⟩ => ⟨S544x128, .f32⟩
  | .local _ .vmem, ⟨12, _⟩ => ⟨S512x9728, .bf16⟩
  | .local _ .vmem, ⟨13, _⟩ => ⟨S512x9728, .bf16⟩
  | .local _ .vmem, ⟨14, _⟩ => ⟨S544x512, .f32⟩
  | .local _ .vmem, ⟨15, _⟩ => ⟨S544x512, .f32⟩
  | .local _ .vmem, ⟨16, _⟩ => ⟨S4352x512, .bf16⟩
  | .local _ .vmem, ⟨17, _⟩ => ⟨S4352x512, .bf16⟩
  | .local _ .vmem, ⟨18, _⟩ => ⟨S4352x512, .bf16⟩
  | .local _ .vmem, ⟨19, _⟩ => ⟨S4352x512, .bf16⟩
  | .local _ .vmem, ⟨20, _⟩ => ⟨S512x512, .f32⟩
  | .local _ .vmem, ⟨21, _⟩ => ⟨S512x512, .f32⟩
  | .local _ .vmem, ⟨22, _⟩ => ⟨S4352x512, .bf16⟩
  | .local _ .vmem, ⟨23, _⟩ => ⟨S4352x512, .bf16⟩
  | .local _ .vmem, ⟨24, _⟩ => ⟨S4352x512, .bf16⟩
  | .local _ .vmem, ⟨25, _⟩ => ⟨S4352x512, .bf16⟩
  | .local _ .vmem, ⟨26, _⟩ => ⟨S512x512, .f32⟩
  | .local _ .vmem, ⟨27, _⟩ => ⟨S512x512, .f32⟩
  | .local _ .vmem, ⟨28, _⟩ => ⟨S4352x512, .bf16⟩
  | .local _ .vmem, ⟨29, _⟩ => ⟨S4352x512, .bf16⟩
  | .local _ .vmem, ⟨30, _⟩ => ⟨S4352x512, .bf16⟩
  | .local _ .vmem, ⟨31, _⟩ => ⟨S4352x512, .bf16⟩
  | .local _ .vmem, ⟨32, _⟩ => ⟨S512x512, .f32⟩
  | .local _ .vmem, ⟨33, _⟩ => ⟨S512x512, .f32⟩
  | .local _ .vmem, ⟨34, _⟩ => ⟨S4352x512, .bf16⟩
  | .local _ .vmem, ⟨35, _⟩ => ⟨S4352x512, .bf16⟩
  | .local _ .vmem, ⟨36, _⟩ => ⟨S4352x512, .bf16⟩
  | .local _ .vmem, ⟨37, _⟩ => ⟨S4352x512, .bf16⟩
  | .local _ .vmem, ⟨38, _⟩ => ⟨S512x512, .f32⟩
  | .local _ .vmem, ⟨39, _⟩ => ⟨S512x512, .f32⟩
  | .local _ .vmem, ⟨40, _⟩ => ⟨S4352x512, .bf16⟩
  | .local _ .vmem, ⟨41, _⟩ => ⟨S4352x512, .bf16⟩
  | .local _ .vmem, ⟨42, _⟩ => ⟨S4352x512, .bf16⟩
  | .local _ .vmem, ⟨43, _⟩ => ⟨S4352x512, .bf16⟩
  | .local _ .vmem, ⟨44, _⟩ => ⟨S512x512, .f32⟩
  | .local _ .vmem, ⟨45, _⟩ => ⟨S512x512, .f32⟩
  | .local _ .vmem, ⟨46, _⟩ => ⟨S4352x128, .f32⟩
  | .local _ .vmem, ⟨47, _⟩ => ⟨S4352x512, .bf16⟩
  | .local _ .vmem, ⟨48, _⟩ => ⟨S4352x512, .bf16⟩
  | .local _ .vmem, ⟨49, _⟩ => ⟨S128x512, .f32⟩
  | .local _ .vmem, ⟨50, _⟩ => ⟨S128x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc6_sem0_0 : DmaSem sig := 46
abbrev cc6_sem1_0 : DmaSem sig := 47
abbrev cc6_sem1_1 : DmaSem sig := 48
abbrev cc6_sem2_0 : DmaSem sig := 49
abbrev cc6_sem2_1 : DmaSem sig := 50

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S544x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x9728 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4352x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4352x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4352x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4352x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4352x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4352x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4352x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4352x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S4352x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4352x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4352x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4352x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S128x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]
-- ==== Reference3Ideal.lean ====
abbrev S4352x1024 : Shape := ⟨2, ![4352, 1024]⟩
abbrev S1024x9280 : Shape := ⟨2, ![1024, 9280]⟩
abbrev S4352x2048 : Shape := ⟨2, ![4352, 2048]⟩
abbrev S4352x4096 : Shape := ⟨2, ![4352, 4096]⟩
abbrev S4352x64 : Shape := ⟨2, ![4352, 64]⟩
abbrev S4352x9280 : Shape := ⟨2, ![4352, 9280]⟩
abbrev S9280x1024 : Shape := ⟨2, ![9280, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x9280, .f32⟩
  | .hbm, ⟨2, _⟩ => ⟨S4352x2048, .bf16⟩
  | .hbm, ⟨3, _⟩ => ⟨S4352x4096, .bf16⟩
  | .hbm, ⟨4, _⟩ => ⟨S4352x64, .f32⟩
  | .hbm, ⟨5, _⟩ => ⟨S4352x1024, .bf16⟩
  | .hbm, ⟨6, _⟩ => ⟨S4352x1024, .bf16⟩
  | .hbm, ⟨7, _⟩ => ⟨S4352x1024, .bf16⟩
  | .hbm, ⟨8, _⟩ => ⟨S4352x1024, .f32⟩
  | .hbm, ⟨9, _⟩ => ⟨S4352x1024, .f32⟩
  | .hbm, ⟨10, _⟩ => ⟨S4352x2048, .f32⟩
  | .hbm, ⟨11, _⟩ => ⟨S4352x2048, .f32⟩
  | .hbm, ⟨12, _⟩ => ⟨S4352x4096, .f32⟩
  | .hbm, ⟨13, _⟩ => ⟨S4352x1024, .f32⟩
  | .hbm, ⟨14, _⟩ => ⟨S4352x1024, .f32⟩
  | .hbm, ⟨15, _⟩ => ⟨S4352x9280, .f32⟩
  | .hbm, ⟨16, _⟩ => ⟨S4352x2048, .f32⟩
  | .hbm, ⟨17, _⟩ => ⟨S4352x4096, .f32⟩
  | .hbm, ⟨18, _⟩ => ⟨S4352x64, .f32⟩
  | .hbm, ⟨19, _⟩ => ⟨S4352x1024, .f32⟩
  | .hbm, ⟨20, _⟩ => ⟨S4352x2048, .f32⟩
  | .hbm, ⟨21, _⟩ => ⟨S4352x9280, .f32⟩
  | .hbm, ⟨22, _⟩ => ⟨S9280x1024, .f32⟩
  | .hbm, ⟨23, _⟩ => ⟨S1024x9280, .f32⟩
  | .hbm, ⟨24, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel4.lean ====
abbrev S4352x2048 : Shape := ⟨2, ![4352, 2048]⟩
abbrev S4352x1024 : Shape := ⟨2, ![4352, 1024]⟩
abbrev S4352x9216 : Shape := ⟨2, ![4352, 9216]⟩
abbrev S2048x1024 : Shape := ⟨2, ![2048, 1024]⟩
abbrev S1024x1024 : Shape := ⟨2, ![1024, 1024]⟩
abbrev S2176x2048 : Shape := ⟨2, ![2176, 2048]⟩
abbrev S2176x1024 : Shape := ⟨2, ![2176, 1024]⟩
abbrev S1024x512 : Shape := ⟨2, ![1024, 512]⟩
abbrev S4352x512 : Shape := ⟨2, ![4352, 512]⟩
abbrev S256x1024 : Shape := ⟨2, ![256, 1024]⟩
abbrev S512x1024 : Shape := ⟨2, ![512, 1024]⟩
abbrev S512x512 : Shape := ⟨2, ![512, 512]⟩

abbrev nBuf : Space → Nat
  | .hbm => 24
  | .vmem => 76
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S4352x9216, .bf16⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S4352x1024, .bf16⟩
  | .hbm, ⟨7, _⟩ => ⟨S2048x1024, .bf16⟩
  | .hbm, ⟨8, _⟩ => ⟨S1024x1024, .bf16⟩
  | .hbm, ⟨9, _⟩ => ⟨S1024x1024, .bf16⟩
  | .hbm, ⟨10, _⟩ => ⟨S4352x1024, .f32⟩
  | .hbm, ⟨11, _⟩ => ⟨S4352x1024, .f32⟩
  | .hbm, ⟨12, _⟩ => ⟨S4352x1024, .bf16⟩
  | .hbm, ⟨13, _⟩ => ⟨S4352x1024, .f32⟩
  | .hbm, ⟨14, _⟩ => ⟨S4352x1024, .f32⟩
  | .hbm, ⟨15, _⟩ => ⟨S1024x1024, .f32⟩
  | .hbm, ⟨16, _⟩ => ⟨S4352x1024, .bf16⟩
  | .hbm, ⟨17, _⟩ => ⟨S4352x1024, .bf16⟩
  | .hbm, ⟨18, _⟩ => ⟨S4352x1024, .bf16⟩
  | .hbm, ⟨19, _⟩ => ⟨S4352x1024, .bf16⟩
  | .hbm, ⟨20, _⟩ => ⟨S4352x1024, .f32⟩
  | .hbm, ⟨21, _⟩ => ⟨S1024x1024, .f32⟩
  | .hbm, ⟨22, _⟩ => ⟨S4352x2048, .f32⟩
  | .hbm, ⟨23, _⟩ => ⟨S2048x1024, .f32⟩
  | .local _ .vmem, ⟨0, _⟩ => ⟨S2176x2048, .bf16⟩
  | .local _ .vmem, ⟨1, _⟩ => ⟨S2176x2048, .bf16⟩
  | .local _ .vmem, ⟨2, _⟩ => ⟨S2048x1024, .bf16⟩
  | .local _ .vmem, ⟨3, _⟩ => ⟨S2176x1024, .f32⟩
  | .local _ .vmem, ⟨4, _⟩ => ⟨S2176x1024, .f32⟩
  | .local _ .vmem, ⟨5, _⟩ => ⟨S4352x1024, .bf16⟩
  | .local _ .vmem, ⟨6, _⟩ => ⟨S1024x512, .bf16⟩
  | .local _ .vmem, ⟨7, _⟩ => ⟨S1024x512, .bf16⟩
  | .local _ .vmem, ⟨8, _⟩ => ⟨S4352x512, .f32⟩
  | .local _ .vmem, ⟨9, _⟩ => ⟨S4352x512, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S4352x1024, .bf16⟩
  | .local _ .vmem, ⟨21, _⟩ => ⟨S1024x512, .bf16⟩
  | .local _ .vmem, ⟨22, _⟩ => ⟨S1024x512, .bf16⟩
  | .local _ .vmem, ⟨23, _⟩ => ⟨S4352x512, .f32⟩
  | .local _ .vmem, ⟨24, _⟩ => ⟨S4352x512, .f32⟩
  | .local _ .vmem, ⟨25, _⟩ => ⟨S4352x1024, .bf16⟩
  | .local _ .vmem, ⟨26, _⟩ => ⟨S512x1024, .bf16⟩
  | .local _ .vmem, ⟨27, _⟩ => ⟨S512x1024, .bf16⟩
  | .local _ .vmem, ⟨28, _⟩ => ⟨S4352x512, .f32⟩
  | .local _ .vmem, ⟨29, _⟩ => ⟨S4352x512, .f32⟩
  | .local _ .vmem, ⟨30, _⟩ => ⟨S4352x512, .bf16⟩
  | .local _ .vmem, ⟨31, _⟩ => ⟨S4352x512, .bf16⟩
  | .local _ .vmem, ⟨32, _⟩ => ⟨S4352x512, .bf16⟩
  | .local _ .vmem, ⟨33, _⟩ => ⟨S4352x512, .bf16⟩
  | .local _ .vmem, ⟨34, _⟩ => ⟨S512x512, .f32⟩
  | .local _ .vmem, ⟨35, _⟩ => ⟨S512x512, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | .local _ .vmem, ⟨44, _⟩ => ⟨S256x1024, .f32⟩
  | .local _ .vmem, ⟨45, _⟩ => ⟨S256x1024, .f32⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | .local _ .vmem, ⟨51, _⟩ => ⟨S256x1024, .bf16⟩
  | .local _ .vmem, ⟨52, _⟩ => ⟨S256x1024, .bf16⟩
  | .local _ .vmem, ⟨53, _⟩ => ⟨S256x1024, .bf16⟩
  | .local _ .vmem, ⟨54, _⟩ => ⟨S4352x1024, .bf16⟩
  | .local _ .vmem, ⟨55, _⟩ => ⟨S512x1024, .bf16⟩
  | .local _ .vmem, ⟨56, _⟩ => ⟨S512x1024, .bf16⟩
  | .local _ .vmem, ⟨57, _⟩ => ⟨S4352x512, .f32⟩
  | .local _ .vmem, ⟨58, _⟩ => ⟨S4352x512, .f32⟩
  | .local _ .vmem, ⟨59, _⟩ => ⟨S4352x512, .bf16⟩
  | .local _ .vmem, ⟨60, _⟩ => ⟨S4352x512, .bf16⟩
  | .local _ .vmem, ⟨61, _⟩ => ⟨S4352x512, .bf16⟩
  | .local _ .vmem, ⟨62, _⟩ => ⟨S4352x512, .bf16⟩
  | .local _ .vmem, ⟨63, _⟩ => ⟨S512x512, .f32⟩
  | .local _ .vmem, ⟨64, _⟩ => ⟨S512x512, .f32⟩
  | .local _ .vmem, ⟨65, _⟩ => ⟨S4352x1024, .bf16⟩
  | .local _ .vmem, ⟨66, _⟩ => ⟨S512x1024, .bf16⟩
  | .local _ .vmem, ⟨67, _⟩ => ⟨S512x1024, .bf16⟩
  | .local _ .vmem, ⟨68, _⟩ => ⟨S4352x512, .f32⟩
  | .local _ .vmem, ⟨69, _⟩ => ⟨S4352x512, .f32⟩
  | .local _ .vmem, ⟨70, _⟩ => ⟨S4352x512, .bf16⟩
  | .local _ .vmem, ⟨71, _⟩ => ⟨S4352x512, .bf16⟩
  | .local _ .vmem, ⟨72, _⟩ => ⟨S4352x512, .bf16⟩
  | .local _ .vmem, ⟨73, _⟩ => ⟨S4352x512, .bf16⟩
  | .local _ .vmem, ⟨74, _⟩ => ⟨S512x512, .f32⟩
  | .local _ .vmem, ⟨75, _⟩ => ⟨S512x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc6_stg4_0 : Ref sig .tc := ⟨.vmem, 44, rfl⟩
abbrev cc6_stg4_1 : Ref sig .tc := ⟨.vmem, 45, rfl⟩
abbrev cc6_stg5_0 : Ref sig .tc := ⟨.vmem, 46, rfl⟩
abbrev cc6_stg5_1 : Ref sig .tc := ⟨.vmem, 47, rfl⟩
abbrev cc6_stg6_0 : Ref sig .tc := ⟨.vmem, 48, rfl⟩
abbrev cc6_stg6_1 : Ref sig .tc := ⟨.vmem, 49, rfl⟩
abbrev cc6_stg7_0 : Ref sig .tc := ⟨.vmem, 50, rfl⟩
abbrev cc6_stg7_1 : Ref sig .tc := ⟨.vmem, 51, rfl⟩
abbrev cc6_stg8_0 : Ref sig .tc := ⟨.vmem, 52, rfl⟩
abbrev cc6_stg8_1 : Ref sig .tc := ⟨.vmem, 53, rfl⟩
abbrev cc7_stg0_0 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg2_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg1_1 : Ref sig .tc := ⟨.vmem, 73, rfl⟩
abbrev cc10_stg2_0 : Ref sig .tc := ⟨.vmem, 74, rfl⟩
abbrev cc10_stg2_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc6_sem3_0 : DmaSem sig := 42
abbrev cc6_sem3_1 : DmaSem sig := 43
abbrev cc6_sem4_0 : DmaSem sig := 44
abbrev cc6_sem4_1 : DmaSem sig := 45
abbrev cc6_sem5_0 : DmaSem sig := 46
abbrev cc6_sem5_1 : DmaSem sig := 47
abbrev cc6_sem6_0 : DmaSem sig := 48
abbrev cc6_sem6_1 : DmaSem sig := 49
abbrev cc6_sem7_0 : DmaSem sig := 50
abbrev cc6_sem7_1 : DmaSem sig := 51
abbrev cc6_sem8_0 : DmaSem sig := 52
abbrev cc6_sem8_1 : DmaSem sig := 53
abbrev cc7_sem0_0 : DmaSem sig := 54
abbrev cc7_sem1_0 : DmaSem sig := 55
abbrev cc7_sem1_1 : DmaSem sig := 56
abbrev cc7_sem2_0 : DmaSem sig := 57
abbrev cc7_sem2_1 : DmaSem sig := 58
abbrev cc8_sem0_0 : DmaSem sig := 59
abbrev cc8_sem0_1 : DmaSem sig := 60
abbrev cc8_sem1_0 : DmaSem sig := 61
abbrev cc8_sem1_1 : DmaSem sig := 62
abbrev cc8_sem2_0 : DmaSem sig := 63
abbrev cc8_sem2_1 : DmaSem sig := 64
abbrev cc9_sem0_0 : DmaSem sig := 65
abbrev cc9_sem1_0 : DmaSem sig := 66
abbrev cc9_sem1_1 : DmaSem sig := 67
abbrev cc9_sem2_0 : DmaSem sig := 68
abbrev cc9_sem2_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S4352x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4352x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 17], ![false, false]⟩

def cc2_transform_0 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc2_transform_1 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc2_transform_2 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c6_i32 : BitVec 32 := 6#32
  let c0_i32_2 : BitVec 32 := 0#32
  ![v2.toNat, c6_i32.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c7_i32 : BitVec 32 := 7#32
  let c0_i32_2 : BitVec 32 := 0#32
  ![v2.toNat, c7_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev grid3 : Pipeline.Grid := ⟨2, ![2, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S4352x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S4352x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 1 → Memref sig .tc .vmem S4352x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 2 → Memref sig .tc .vmem S512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S4352x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S4352x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4352x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 17], ![false, false]⟩

def cc6_transform_0 (i : grid6.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc6_transform_1 (i : grid6.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc6_transform_2 (i : grid6.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c6_i32 : BitVec 32 := 6#32
  let c0_i32_2 : BitVec 32 := 0#32
  ![v2.toNat, c6_i32.toNat]

def cc6_transform_3 (i : grid6.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c7_i32 : BitVec 32 := 7#32
  let c0_i32_2 : BitVec 32 := 0#32
  ![v2.toNat, c7_i32.toNat]

def cc6_transform_4 (i : grid6.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S256x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S256x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true]

abbrev stage6_4 : Fin 2 → Memref sig .tc .vmem S256x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S256x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S256x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![false, true]

abbrev stage6_7 : Fin 2 → Memref sig .tc .vmem S256x1024 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![false, true]

abbrev stage6_8 : Fin 2 → Memref sig .tc .vmem S256x1024 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![false, true]

abbrev grid7 : Pipeline.Grid := ⟨2, ![2, 1], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 1 → Memref sig .tc .vmem S4352x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, true]

abbrev stage7_1 : Fin 2 → Memref sig .tc .vmem S512x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false]

abbrev stage7_2 : Fin 2 → Memref sig .tc .vmem S4352x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S4352x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4352x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S512x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![4, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 1 → Memref sig .tc .vmem S4352x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false, true]

abbrev stage9_1 : Fin 2 → Memref sig .tc .vmem S512x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S4352x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![4, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S4352x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S4352x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S512x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]
-- ==== Reference4Ideal.lean ====
abbrev S4352x2048 : Shape := ⟨2, ![4352, 2048]⟩
abbrev S4352x1024 : Shape := ⟨2, ![4352, 1024]⟩
abbrev S4352x9216 : Shape := ⟨2, ![4352, 9216]⟩
abbrev S2048x1024 : Shape := ⟨2, ![2048, 1024]⟩
abbrev S1024x1024 : Shape := ⟨2, ![1024, 1024]⟩
abbrev S_ : Shape := ⟨0, ![]⟩
abbrev S1024x2048 : Shape := ⟨2, ![1024, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S4352x9216, .bf16⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S4352x1024, .bf16⟩
  | .hbm, ⟨7, _⟩ => ⟨S4352x2048, .bf16⟩
  | .hbm, ⟨8, _⟩ => ⟨S4352x2048, .f32⟩
  | .hbm, ⟨9, _⟩ => ⟨S4352x2048, .f32⟩
  | .hbm, ⟨10, _⟩ => ⟨S4352x1024, .f32⟩
  | .hbm, ⟨11, _⟩ => ⟨S4352x1024, .f32⟩
  | .hbm, ⟨12, _⟩ => ⟨S4352x1024, .f32⟩
  | .hbm, ⟨13, _⟩ => ⟨S4352x2048, .f32⟩
  | .hbm, ⟨14, _⟩ => ⟨S4352x2048, .f32⟩
  | .hbm, ⟨15, _⟩ => ⟨S_, .f32⟩
  | .hbm, ⟨16, _⟩ => ⟨S4352x2048, .f32⟩
  | .hbm, ⟨17, _⟩ => ⟨S4352x2048, .f32⟩
  | .hbm, ⟨18, _⟩ => ⟨S_, .f32⟩
  | .hbm, ⟨19, _⟩ => ⟨S4352x2048, .f32⟩
  | .hbm, ⟨20, _⟩ => ⟨S4352x2048, .f32⟩
  | .hbm, ⟨21, _⟩ => ⟨S_, .f32⟩
  | .hbm, ⟨22, _⟩ => ⟨S4352x2048, .f32⟩
  | .hbm, ⟨23, _⟩ => ⟨S4352x2048, .f32⟩
  | .hbm, ⟨24, _⟩ => ⟨S4352x2048, .f32⟩
  | .hbm, ⟨25, _⟩ => ⟨S4352x1024, .f32⟩
  | .hbm, ⟨26, _⟩ => ⟨S4352x1024, .f32⟩
  | .hbm, ⟨27, _⟩ => ⟨S4352x1024, .f32⟩
  | .hbm, ⟨28, _⟩ => ⟨S4352x1024, .f32⟩
  | .hbm, ⟨29, _⟩ => ⟨S4352x1024, .f32⟩
  | .hbm, ⟨30, _⟩ => ⟨S4352x1024, .f32⟩
  | .hbm, ⟨31, _⟩ => ⟨S4352x1024, .f32⟩
  | .hbm, ⟨32, _⟩ => ⟨S1024x1024, .f32⟩
  | .hbm, ⟨33, _⟩ => ⟨S1024x1024, .f32⟩
  | .hbm, ⟨34, _⟩ => ⟨S4352x1024, .f32⟩
  | .hbm, ⟨35, _⟩ => ⟨S4352x1024, .f32⟩
  | .hbm, ⟨36, _⟩ => ⟨S4352x1024, .f32⟩
  | .hbm, ⟨37, _⟩ => ⟨S4352x1024, .f32⟩
  | .hbm, ⟨38, _⟩ => ⟨S4352x1024, .f32⟩
  | .hbm, ⟨39, _⟩ => ⟨S4352x2048, .f32⟩
  | .hbm, ⟨40, _⟩ => ⟨S4352x2048, .f32⟩
  | .hbm, ⟨41, _⟩ => ⟨S1024x1024, .f32⟩
  | .hbm, ⟨42, _⟩ => ⟨S1024x1024, .f32⟩
  | .hbm, ⟨43, _⟩ => ⟨S4352x1024, .f32⟩
  | .hbm, ⟨44, _⟩ => ⟨S1024x2048, .f32⟩
  | .hbm, ⟨45, _⟩ => ⟨S2048x1024, .f32⟩
  | .hbm, ⟨46, _⟩ => ⟨S4352x2048, .f32⟩
  | .hbm, ⟨47, _⟩ => ⟨S4352x1024, .f32⟩
  | .hbm, ⟨48, _⟩ => ⟨S4352x1024, .bf16⟩
  | .hbm, ⟨49, _⟩ => ⟨S4352x1024, .f32⟩
  | .hbm, ⟨50, _⟩ => ⟨S4352x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel5.lean ====
abbrev S4352x1024 : Shape := ⟨2, ![4352, 1024]⟩
abbrev S1024x9280 : Shape := ⟨2, ![1024, 9280]⟩
abbrev S4352x2048 : Shape := ⟨2, ![4352, 2048]⟩
abbrev S2048x1024 : Shape := ⟨2, ![2048, 1024]⟩
abbrev S4352x2816 : Shape := ⟨2, ![4352, 2816]⟩
abbrev S2816x1024 : Shape := ⟨2, ![2816, 1024]⟩
abbrev S1024x2048 : Shape := ⟨2, ![1024, 2048]⟩
abbrev S1024x4096 : Shape := ⟨2, ![1024, 4096]⟩
abbrev S1024x64 : Shape := ⟨2, ![1024, 64]⟩
abbrev S1024x1024 : Shape := ⟨2, ![1024, 1024]⟩
abbrev S1024x8x256 : Shape := ⟨3, ![1024, 8, 256]⟩
abbrev S1024x8x128 : Shape := ⟨3, ![1024, 8, 128]⟩
abbrev S1024x8x512 : Shape := ⟨3, ![1024, 8, 512]⟩
abbrev S_ : Shape := ⟨0, ![]⟩
abbrev S1024x448 : Shape := ⟨2, ![1024, 448]⟩
abbrev S1024x9728 : Shape := ⟨2, ![1024, 9728]⟩
abbrev S4352x9216 : Shape := ⟨2, ![4352, 9216]⟩
abbrev S1024x512 : Shape := ⟨2, ![1024, 512]⟩
abbrev S4352x512 : Shape := ⟨2, ![4352, 512]⟩
abbrev S4352x128 : Shape := ⟨2, ![4352, 128]⟩
abbrev S1024x128 : Shape := ⟨2, ![1024, 128]⟩
abbrev S2176x2048 : Shape := ⟨2, ![2176, 2048]⟩
abbrev S2048x512 : Shape := ⟨2, ![2048, 512]⟩
abbrev S2176x512 : Shape := ⟨2, ![2176, 512]⟩
abbrev S2176x2816 : Shape := ⟨2, ![2176, 2816]⟩
abbrev S2816x512 : Shape := ⟨2, ![2816, 512]⟩
abbrev S4352x256 : Shape := ⟨2, ![4352, 256]⟩
abbrev S256x512 : Shape := ⟨2, ![256, 512]⟩
abbrev S4352x4096 : Shape := ⟨2, ![4352, 4096]⟩
abbrev S4352x8x512 : Shape := ⟨3, ![4352, 8, 512]⟩
abbrev S4352x8x256 : Shape := ⟨3, ![4352, 8, 256]⟩
abbrev S4352x8x128 : Shape := ⟨3, ![4352, 8, 128]⟩
abbrev S4352x64 : Shape := ⟨2, ![4352, 64]⟩

abbrev nBuf : Space → Nat
  | .hbm => 44
  | .vmem => 26
  | .smem => 0
  | _ => 0

abbrev bufTy : (tb : Table) → Fin (tcTables nBuf tb) → BufTy
  | .hbm, ⟨0, _⟩ => ⟨S4352x1024, .bf16⟩
  | .hbm, ⟨1, _⟩ => ⟨S1024x9280, .f32⟩
  | .hbm, ⟨2, _⟩ => ⟨S4352x2048, .bf16⟩
  | .hbm, ⟨3, _⟩ => ⟨S2048x1024, .f32⟩
  | .hbm, ⟨4, _⟩ => ⟨S4352x2816, .bf16⟩
  | .hbm, ⟨5, _⟩ => ⟨S2816x1024, .f32⟩
  | .hbm, ⟨6, _⟩ => ⟨S4352x1024, .bf16⟩
  | .hbm, ⟨7, _⟩ => ⟨S1024x9280, .bf16⟩
  | .hbm, ⟨8, _⟩ => ⟨S1024x2048, .bf16⟩
  | .hbm, ⟨9, _⟩ => ⟨S1024x4096, .bf16⟩
  | .hbm, ⟨10, _⟩ => ⟨S1024x64, .bf16⟩
  | .hbm, ⟨11, _⟩ => ⟨S1024x1024, .bf16⟩
  | .hbm, ⟨12, _⟩ => ⟨S1024x2048, .bf16⟩
  | .hbm, ⟨13, _⟩ => ⟨S1024x2048, .bf16⟩
  | .hbm, ⟨14, _⟩ => ⟨S1024x8x256, .bf16⟩
  | .hbm, ⟨15, _⟩ => ⟨S1024x1024, .bf16⟩
  | .hbm, ⟨16, _⟩ => ⟨S1024x8x128, .bf16⟩
  | .hbm, ⟨17, _⟩ => ⟨S1024x1024, .bf16⟩
  | .hbm, ⟨18, _⟩ => ⟨S1024x8x128, .bf16⟩
  | .hbm, ⟨19, _⟩ => ⟨S1024x8x512, .bf16⟩
  | .hbm, ⟨20, _⟩ => ⟨S1024x4096, .bf16⟩
  | .hbm, ⟨21, _⟩ => ⟨S_, .bf16⟩
  | .hbm, ⟨22, _⟩ => ⟨S1024x448, .bf16⟩
  | .hbm, ⟨23, _⟩ => ⟨S1024x9728, .bf16⟩
  | .hbm, ⟨24, _⟩ => ⟨S4352x9216, .bf16⟩
  | .hbm, ⟨25, _⟩ => ⟨S4352x128, .f32⟩
  | .hbm, ⟨26, _⟩ => ⟨S2048x1024, .bf16⟩
  | .hbm, ⟨27, _⟩ => ⟨S4352x1024, .f32⟩
  | .hbm, ⟨28, _⟩ => ⟨S2816x1024, .bf16⟩
  | .hbm, ⟨29, _⟩ => ⟨S4352x1024, .f32⟩
  | .hbm, ⟨30, _⟩ => ⟨S2816x1024, .f32⟩
  | .hbm, ⟨31, _⟩ => ⟨S4352x2048, .bf16⟩
  | .hbm, ⟨32, _⟩ => ⟨S4352x4096, .bf16⟩
  | .hbm, ⟨33, _⟩ => ⟨S4352x8x512, .bf16⟩
  | .hbm, ⟨34, _⟩ => ⟨S4352x8x256, .bf16⟩
  | .hbm, ⟨35, _⟩ => ⟨S4352x2048, .bf16⟩
  | .hbm, ⟨36, _⟩ => ⟨S4352x8x128, .bf16⟩
  | .hbm, ⟨37, _⟩ => ⟨S4352x1024, .bf16⟩
  | .hbm, ⟨38, _⟩ => ⟨S4352x8x128, .bf16⟩
  | .hbm, ⟨39, _⟩ => ⟨S4352x1024, .bf16⟩
  | .hbm, ⟨40, _⟩ => ⟨S4352x4096, .bf16⟩
  | .hbm, ⟨41, _⟩ => ⟨S4352x64, .f32⟩
  | .hbm, ⟨42, _⟩ => ⟨S4352x1024, .bf16⟩
  | .hbm, ⟨43, _⟩ => ⟨S4352x2048, .bf16⟩
  | .local _ .vmem, ⟨0, _⟩ => ⟨S4352x1024, .bf16⟩
  | .local _ .vmem, ⟨1, _⟩ => ⟨S1024x512, .bf16⟩
  | .local _ .vmem, ⟨2, _⟩ => ⟨S1024x512, .bf16⟩
  | .local _ .vmem, ⟨3, _⟩ => ⟨S4352x512, .bf16⟩
  | .local _ .vmem, ⟨4, _⟩ => ⟨S4352x512, .bf16⟩
  | .local _ .vmem, ⟨5, _⟩ => ⟨S4352x1024, .bf16⟩
  | .local _ .vmem, ⟨6, _⟩ => ⟨S1024x128, .bf16⟩
  | .local _ .vmem, ⟨7, _⟩ => ⟨S4352x128, .f32⟩
  | .local _ .vmem, ⟨8, _⟩ => ⟨S2176x2048, .bf16⟩
  | .local _ .vmem, ⟨9, _⟩ => ⟨S2176x2048, .bf16⟩
  | .local _ .vmem, ⟨10, _⟩ => ⟨S2048x512, .bf16⟩
  | .local _ .vmem, ⟨11, _⟩ => ⟨S2048x512, .bf16⟩
  | .local _ .vmem, ⟨12, _⟩ => ⟨S2176x512, .f32⟩
  | .local _ .vmem, ⟨13, _⟩ => ⟨S2176x512, .f32⟩
  | .local _ .vmem, ⟨14, _⟩ => ⟨S2176x2816, .bf16⟩
  | .local _ .vmem, ⟨15, _⟩ => ⟨S2176x2816, .bf16⟩
  | .local _ .vmem, ⟨16, _⟩ => ⟨S2816x512, .bf16⟩
  | .local _ .vmem, ⟨17, _⟩ => ⟨S2816x512, .bf16⟩
  | .local _ .vmem, ⟨18, _⟩ => ⟨S2176x512, .f32⟩
  | .local _ .vmem, ⟨19, _⟩ => ⟨S2176x512, .f32⟩
  | .local _ .vmem, ⟨20, _⟩ => ⟨S4352x256, .bf16⟩
  | .local _ .vmem, ⟨21, _⟩ => ⟨S4352x256, .bf16⟩
  | .local _ .vmem, ⟨22, _⟩ => ⟨S4352x512, .bf16⟩
  | .local _ .vmem, ⟨23, _⟩ => ⟨S4352x512, .bf16⟩
  | .local _ .vmem, ⟨24, _⟩ => ⟨S256x512, .f32⟩
  | .local _ .vmem, ⟨25, _⟩ => ⟨S256x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S4352x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S4352x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S2176x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2176x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S2176x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2816x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2176x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![11, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4352x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4352x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference5Ideal.lean ====
abbrev S4352x1024 : Shape := ⟨2, ![4352, 1024]⟩
abbrev S1024x9280 : Shape := ⟨2, ![1024, 9280]⟩
abbrev S4352x2048 : Shape := ⟨2, ![4352, 2048]⟩
abbrev S2048x1024 : Shape := ⟨2, ![2048, 1024]⟩
abbrev S4352x2816 : Shape := ⟨2, ![4352, 2816]⟩
abbrev S2816x1024 : Shape := ⟨2, ![2816, 1024]⟩
abbrev S4352x9280 : Shape := ⟨2, ![4352, 9280]⟩
abbrev S4352x4096 : Shape := ⟨2, ![4352, 4096]⟩
abbrev S4352x64 : Shape := ⟨2, ![4352, 64]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x9280, .f32⟩
  | .hbm, ⟨2, _⟩ => ⟨S4352x2048, .bf16⟩
  | .hbm, ⟨3, _⟩ => ⟨S2048x1024, .f32⟩
  | .hbm, ⟨4, _⟩ => ⟨S4352x2816, .bf16⟩
  | .hbm, ⟨5, _⟩ => ⟨S2816x1024, .f32⟩
  | .hbm, ⟨6, _⟩ => ⟨S4352x1024, .bf16⟩
  | .hbm, ⟨7, _⟩ => ⟨S4352x1024, .f32⟩
  | .hbm, ⟨8, _⟩ => ⟨S4352x9280, .f32⟩
  | .hbm, ⟨9, _⟩ => ⟨S4352x2048, .f32⟩
  | .hbm, ⟨10, _⟩ => ⟨S4352x4096, .f32⟩
  | .hbm, ⟨11, _⟩ => ⟨S4352x64, .f32⟩
  | .hbm, ⟨12, _⟩ => ⟨S4352x1024, .f32⟩
  | .hbm, ⟨13, _⟩ => ⟨S4352x2048, .f32⟩
  | .hbm, ⟨14, _⟩ => ⟨S4352x2048, .f32⟩
  | .hbm, ⟨15, _⟩ => ⟨S4352x1024, .f32⟩
  | .hbm, ⟨16, _⟩ => ⟨S4352x2816, .f32⟩
  | .hbm, ⟨17, _⟩ => ⟨S4352x1024, .f32⟩
  | .hbm, ⟨18, _⟩ => ⟨S4352x2048, .bf16⟩
  | .hbm, ⟨19, _⟩ => ⟨S4352x4096, .bf16⟩
  | .hbm, ⟨20, _⟩ => ⟨S4352x1024, .bf16⟩
  | .hbm, ⟨21, _⟩ => ⟨S4352x2048, .bf16⟩
  | .hbm, ⟨22, _⟩ => ⟨S4352x1024, .f32⟩
  | .hbm, ⟨23, _⟩ => ⟨S1024x2816, .f32⟩
  | .hbm, ⟨24, _⟩ => ⟨S2816x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S2x1024x1536 : Shape := ⟨3, ![2, 1024, 1536]⟩
abbrev S1024x1536 : Shape := ⟨2, ![1024, 1536]⟩
abbrev S2x1024x2320 : Shape := ⟨3, ![2, 1024, 2320]⟩
abbrev S2320x1024 : Shape := ⟨2, ![2320, 1024]⟩
abbrev S2x512x1024 : Shape := ⟨3, ![2, 512, 1024]⟩
abbrev S512x1024 : Shape := ⟨2, ![512, 1024]⟩
abbrev S2x4x64x256 : Shape := ⟨4, ![2, 4, 64, 256]⟩
abbrev S256x256 : Shape := ⟨2, ![256, 256]⟩
abbrev S1x128x1536 : Shape := ⟨3, ![1, 128, 1536]⟩
abbrev S128x1536 : Shape := ⟨2, ![128, 1536]⟩
abbrev S2x2320x1024 : Shape := ⟨3, ![2, 2320, 1024]⟩
abbrev S1x232x1024 : Shape := ⟨3, ![1, 232, 1024]⟩
abbrev S232x1024 : Shape := ⟨2, ![232, 1024]⟩
abbrev S1x256x1024 : Shape := ⟨3, ![1, 256, 1024]⟩
abbrev S256x1024 : Shape := ⟨2, ![256, 1024]⟩
abbrev S2x256x256 : Shape := ⟨3, ![2, 256, 256]⟩
abbrev S1x256x256 : Shape := ⟨3, ![1, 256, 256]⟩

abbrev nBuf : Space → Nat
  | .hbm => 50
  | .vmem => 72
  | .smem => 0
  | _ => 0

abbrev bufTy : (tb : Table) → Fin (tcTables nBuf tb) → BufTy
  | .hbm, ⟨0, _⟩ => ⟨S2x1024x1536, .f32⟩
  | .hbm, ⟨1, _⟩ => ⟨S1024x1536, .f32⟩
  | .hbm, ⟨2, _⟩ => ⟨S1024x1536, .f32⟩
  | .hbm, ⟨3, _⟩ => ⟨S2x1024x1536, .f32⟩
  | .hbm, ⟨4, _⟩ => ⟨S2x1024x1536, .f32⟩
  | .hbm, ⟨5, _⟩ => ⟨S2x1024x2320, .f32⟩
  | .hbm, ⟨6, _⟩ => ⟨S2320x1024, .f32⟩
  | .hbm, ⟨7, _⟩ => ⟨S2320x1024, .f32⟩
  | .hbm, ⟨8, _⟩ => ⟨S2x1024x2320, .f32⟩
  | .hbm, ⟨9, _⟩ => ⟨S2x1024x2320, .f32⟩
  | .hbm, ⟨10, _⟩ => ⟨S2x512x1024, .f32⟩
  | .hbm, ⟨11, _⟩ => ⟨S512x1024, .f32⟩
  | .hbm, ⟨12, _⟩ => ⟨S512x1024, .f32⟩
  | .hbm, ⟨13, _⟩ => ⟨S2x512x1024, .f32⟩
  | .hbm, ⟨14, _⟩ => ⟨S2x512x1024, .f32⟩
  | .hbm, ⟨15, _⟩ => ⟨S2x4x64x256, .f32⟩
  | .hbm, ⟨16, _⟩ => ⟨S256x256, .f32⟩
  | .hbm, ⟨17, _⟩ => ⟨S256x256, .f32⟩
  | .hbm, ⟨18, _⟩ => ⟨S2x4x64x256, .f32⟩
  | .hbm, ⟨19, _⟩ => ⟨S2x4x64x256, .f32⟩
  | .hbm, ⟨20, _⟩ => ⟨S2x1024x1536, .f32⟩
  | .hbm, ⟨21, _⟩ => ⟨S2x1024x1536, .f32⟩
  | .hbm, ⟨22, _⟩ => ⟨S2x1024x1536, .f32⟩
  | .hbm, ⟨23, _⟩ => ⟨S2x1024x1536, .f32⟩
  | .hbm, ⟨24, _⟩ => ⟨S2x2320x1024, .f32⟩
  | .hbm, ⟨25, _⟩ => ⟨S2x2320x1024, .f32⟩
  | .hbm, ⟨26, _⟩ => ⟨S2x2320x1024, .f32⟩
  | .hbm, ⟨27, _⟩ => ⟨S2x2320x1024, .f32⟩
  | .hbm, ⟨28, _⟩ => ⟨S2x2320x1024, .f32⟩
  | .hbm, ⟨29, _⟩ => ⟨S2x2320x1024, .f32⟩
  | .hbm, ⟨30, _⟩ => ⟨S2x2320x1024, .f32⟩
  | .hbm, ⟨31, _⟩ => ⟨S2x1024x2320, .f32⟩
  | .hbm, ⟨32, _⟩ => ⟨S2x1024x2320, .f32⟩
  | .hbm, ⟨33, _⟩ => ⟨S2x1024x2320, .f32⟩
  | .hbm, ⟨34, _⟩ => ⟨S2x1024x2320, .f32⟩
  | .hbm, ⟨35, _⟩ => ⟨S2x512x1024, .f32⟩
  | .hbm, ⟨36, _⟩ => ⟨S2x512x1024, .f32⟩
  | .hbm, ⟨37, _⟩ => ⟨S2x512x1024, .f32⟩
  | .hbm, ⟨38, _⟩ => ⟨S2x512x1024, .f32⟩
  | .hbm, ⟨39, _⟩ => ⟨S2x256x256, .f32⟩
  | .hbm, ⟨40, _⟩ => ⟨S2x256x256, .f32⟩
  | .hbm, ⟨41, _⟩ => ⟨S2x256x256, .f32⟩
  | .hbm, ⟨42, _⟩ => ⟨S2x256x256, .f32⟩
  | .hbm, ⟨43, _⟩ => ⟨S2x256x256, .f32⟩
  | .hbm, ⟨44, _⟩ => ⟨S2x256x256, .f32⟩
  | .hbm, ⟨45, _⟩ => ⟨S2x256x256, .f32⟩
  | .hbm, ⟨46, _⟩ => ⟨S2x4x64x256, .f32⟩
  | .hbm, ⟨47, _⟩ => ⟨S2x4x64x256, .f32⟩
  | .hbm, ⟨48, _⟩ => ⟨S2x4x64x256, .f32⟩
  | .hbm, ⟨49, _⟩ => ⟨S2x4x64x256, .f32⟩
  | .local _ .vmem, ⟨0, _⟩ => ⟨S1x128x1536, .f32⟩
  | .local _ .vmem, ⟨1, _⟩ => ⟨S1x128x1536, .f32⟩
  | .local _ .vmem, ⟨2, _⟩ => ⟨S1x128x1536, .f32⟩
  | .local _ .vmem, ⟨3, _⟩ => ⟨S1x128x1536, .f32⟩
  | .local _ .vmem, ⟨4, _⟩ => ⟨S1x128x1536, .f32⟩
  | .local _ .vmem, ⟨5, _⟩ => ⟨S1x128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | .local _ .vmem, ⟨16, _⟩ => ⟨S1x128x1536, .f32⟩
  | .local _ .vmem, ⟨17, _⟩ => ⟨S1x128x1536, .f32⟩
  | .local _ .vmem, ⟨18, _⟩ => ⟨S1x232x1024, .f32⟩
  | .local _ .vmem, ⟨19, _⟩ => ⟨S1x232x1024, .f32⟩
  | .local _ .vmem, ⟨20, _⟩ => ⟨S1x232x1024, .f32⟩
  | .local _ .vmem, ⟨21, _⟩ => ⟨S1x232x1024, .f32⟩
  | .local _ .vmem, ⟨22, _⟩ => ⟨S1x232x1024, .f32⟩
  | .local _ .vmem, ⟨23, _⟩ => ⟨S1x232x1024, .f32⟩
  | .local _ .vmem, ⟨24, _⟩ => ⟨S232x1024, .f32⟩
  | .local _ .vmem, ⟨25, _⟩ => ⟨S232x1024, .f32⟩
  | .local _ .vmem, ⟨26, _⟩ => ⟨S232x1024, .f32⟩
  | .local _ .vmem, ⟨27, _⟩ => ⟨S232x1024, .f32⟩
  | .local _ .vmem, ⟨28, _⟩ => ⟨S1x232x1024, .f32⟩
  | .local _ .vmem, ⟨29, _⟩ => ⟨S1x232x1024, .f32⟩
  | .local _ .vmem, ⟨30, _⟩ => ⟨S1x232x1024, .f32⟩
  | .local _ .vmem, ⟨31, _⟩ => ⟨S1x232x1024, .f32⟩
  | .local _ .vmem, ⟨32, _⟩ => ⟨S1x232x1024, .f32⟩
  | .local _ .vmem, ⟨33, _⟩ => ⟨S1x232x1024, .f32⟩
  | .local _ .vmem, ⟨34, _⟩ => ⟨S1x232x1024, .f32⟩
  | .local _ .vmem, ⟨35, _⟩ => ⟨S1x232x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S1x256x1024, .f32⟩
  | .local _ .vmem, ⟨41, _⟩ => ⟨S1x256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S1x256x1024, .f32⟩
  | .local _ .vmem, ⟨47, _⟩ => ⟨S1x256x1024, .f32⟩
  | .local _ .vmem, ⟨48, _⟩ => ⟨S1x256x1024, .f32⟩
  | .local _ .vmem, ⟨49, _⟩ => ⟨S1x256x1024, .f32⟩
  | .local _ .vmem, ⟨50, _⟩ => ⟨S1x256x1024, .f32⟩
  | .local _ .vmem, ⟨51, _⟩ => ⟨S1x256x1024, .f32⟩
  | .local _ .vmem, ⟨52, _⟩ => ⟨S1x256x1024, .f32⟩
  | .local _ .vmem, ⟨53, _⟩ => ⟨S1x256x1024, .f32⟩
  | .local _ .vmem, ⟨54, _⟩ => ⟨S1x256x256, .f32⟩
  | .local _ .vmem, ⟨55, _⟩ => ⟨S1x256x256, .f32⟩
  | .local _ .vmem, ⟨56, _⟩ => ⟨S1x256x256, .f32⟩
  | .local _ .vmem, ⟨57, _⟩ => ⟨S1x256x256, .f32⟩
  | .local _ .vmem, ⟨58, _⟩ => ⟨S1x256x256, .f32⟩
  | .local _ .vmem, ⟨59, _⟩ => ⟨S1x256x256, .f32⟩
  | .local _ .vmem, ⟨60, _⟩ => ⟨S256x256, .f32⟩
  | .local _ .vmem, ⟨61, _⟩ => ⟨S256x256, .f32⟩
  | .local _ .vmem, ⟨62, _⟩ => ⟨S256x256, .f32⟩
  | .local _ .vmem, ⟨63, _⟩ => ⟨S256x256, .f32⟩
  | .local _ .vmem, ⟨64, _⟩ => ⟨S1x256x256, .f32⟩
  | .local _ .vmem, ⟨65, _⟩ => ⟨S1x256x256, .f32⟩
  | .local _ .vmem, ⟨66, _⟩ => ⟨S1x256x256, .f32⟩
  | .local _ .vmem, ⟨67, _⟩ => ⟨S1x256x256, .f32⟩
  | .local _ .vmem, ⟨68, _⟩ => ⟨S1x256x256, .f32⟩
  | .local _ .vmem, ⟨69, _⟩ => ⟨S1x256x256, .f32⟩
  | .local _ .vmem, ⟨70, _⟩ => ⟨S1x256x256, .f32⟩
  | .local _ .vmem, ⟨71, _⟩ => ⟨S1x256x256, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4_0 : Ref sig .tc := ⟨.hbm, 27, rfl⟩
abbrev main_v4_1 : Ref sig .tc := ⟨.hbm, 28, rfl⟩
abbrev main_v4_2 : Ref sig .tc := ⟨.hbm, 29, rfl⟩
abbrev main_v4_3 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9_0 : Ref sig .tc := ⟨.hbm, 35, rfl⟩
abbrev main_v9_1 : Ref sig .tc := ⟨.hbm, 36, rfl⟩
abbrev main_v9_2 : Ref sig .tc := ⟨.hbm, 37, rfl⟩
abbrev main_v9_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13_0 : Ref sig .tc := ⟨.hbm, 42, rfl⟩
abbrev main_v13_1 : Ref sig .tc := ⟨.hbm, 43, rfl⟩
abbrev main_v13_2 : Ref sig .tc := ⟨.hbm, 44, rfl⟩
abbrev main_v13_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c9_i32 : BitVec 32 := 9#32
  let v2 : BitVec 32 := Scalar.select v1 c0_i32_1 c9_i32
  let v3 : BitVec 32 := Scalar.select v0 arg1 v2
  let c0_i32_2 : BitVec 32 := 0#32
  let c0_i32_3 : BitVec 32 := 0#32
  ![v3.toNat, c0_i32_2.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c9_i32 : BitVec 32 := 9#32
  let v2 : BitVec 32 := Scalar.select v1 c0_i32 c9_i32
  let v3 : BitVec 32 := Scalar.select v0 arg1 v2
  let c0_i32_1 : BitVec 32 := 0#32
  let c0_i32_2 : BitVec 32 := 0#32
  ![v3.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x232x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x232x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x232x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S232x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S232x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x232x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x232x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x232x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x232x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  ![v3.toNat, c0_i32_2.toNat]

def cc2_transform_4 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  ![v3.toNat, c0_i32_2.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![2, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc3_transform_4 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S256x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x256x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x256x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x256x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]
-- ==== Reference6Ideal.lean ====
abbrev S2x1024x1536 : Shape := ⟨3, ![2, 1024, 1536]⟩
abbrev S1024x1536 : Shape := ⟨2, ![1024, 1536]⟩
abbrev S2x1024x2320 : Shape := ⟨3, ![2, 1024, 2320]⟩
abbrev S2320x1024 : Shape := ⟨2, ![2320, 1024]⟩
abbrev S2x512x1024 : Shape := ⟨3, ![2, 512, 1024]⟩
abbrev S512x1024 : Shape := ⟨2, ![512, 1024]⟩
abbrev S2x4x64x256 : Shape := ⟨4, ![2, 4, 64, 256]⟩
abbrev S256x256 : Shape := ⟨2, ![256, 256]⟩
abbrev S1x1024x1536 : Shape := ⟨3, ![1, 1024, 1536]⟩
abbrev S_ : Shape := ⟨0, ![]⟩
abbrev S1x2320x1024 : Shape := ⟨3, ![1, 2320, 1024]⟩
abbrev S2x2320x1024 : Shape := ⟨3, ![2, 2320, 1024]⟩
abbrev S1x512x1024 : Shape := ⟨3, ![1, 512, 1024]⟩
abbrev S1x256x256 : Shape := ⟨3, ![1, 256, 256]⟩
abbrev S2x256x256 : Shape := ⟨3, ![2, 256, 256]⟩

abbrev nBuf : Space → Nat
  | .hbm => 166
  | .vmem => 0
  | .smem => 0
  | _ => 0

abbrev hbmTy0_0 (i : Nat) : BufTy := match i % 128 with
  | 0 => ⟨S2x1024x1536, .f32⟩
  | 1 => ⟨S1024x1536, .f32⟩
  | 2 => ⟨S1024x1536, .f32⟩
  | 3 => ⟨S2x1024x1536, .f32⟩
  | 4 => ⟨S2x1024x1536, .f32⟩
  | 5 => ⟨S2x1024x2320, .f32⟩
  | 6 => ⟨S2320x1024, .f32⟩
  | 7 => ⟨S2320x1024, .f32⟩
  | 8 => ⟨S2x1024x2320, .f32⟩
  | 9 => ⟨S2x1024x2320, .f32⟩
  | 10 => ⟨S2x512x1024, .f32⟩
  | 11 => ⟨S512x1024, .f32⟩
  | 12 => ⟨S512x1024, .f32⟩
  | 13 => ⟨S2x512x1024, .f32⟩
  | 14 => ⟨S2x512x1024, .f32⟩
  | 15 => ⟨S2x4x64x256, .f32⟩
  | 16 => ⟨S256x256, .f32⟩
  | 17 => ⟨S256x256, .f32⟩
  | 18 => ⟨S2x4x64x256, .f32⟩
  | 19 => ⟨S2x4x64x256, .f32⟩
  | 20 => ⟨S1x1024x1536, .f32⟩
  | 21 => ⟨S1x1024x1536, .f32⟩
  | 22 => ⟨S2x1024x1536, .f32⟩
  | 23 => ⟨S_, .f32⟩
  | 24 => ⟨S2x1024x1536, .f32⟩
  | 25 => ⟨S2x1024x1536, .f32⟩
  | 26 => ⟨S_, .f32⟩
  | 27 => ⟨S2x1024x1536, .f32⟩
  | 28 => ⟨S2x1024x1536, .f32⟩
  | 29 => ⟨S2x1024x1536, .f32⟩
  | 30 => ⟨S_, .f32⟩
  | 31 => ⟨S2x1024x1536, .f32⟩
  | 32 => ⟨S2x1024x1536, .f32⟩
  | 33 => ⟨S2x1024x1536, .f32⟩
  | 34 => ⟨S_, .f32⟩
  | 35 => ⟨S2x1024x1536, .f32⟩
  | 36 => ⟨S2x1024x1536, .f32⟩
  | 37 => ⟨S2x1024x1536, .f32⟩
  | 38 => ⟨S_, .f32⟩
  | 39 => ⟨S2x1024x1536, .f32⟩
  | 40 => ⟨S2x1024x1536, .f32⟩
  | 41 => ⟨S_, .f32⟩
  | 42 => ⟨S2x1024x1536, .f32⟩
  | 43 => ⟨S2x1024x1536, .f32⟩
  | 44 => ⟨S2x1024x1536, .f32⟩
  | 45 => ⟨S_, .f32⟩
  | 46 => ⟨S2x1024x1536, .f32⟩
  | 47 => ⟨S2x1024x1536, .f32⟩
  | 48 => ⟨S2x1024x1536, .f32⟩
  | 49 => ⟨S_, .f32⟩
  | 50 => ⟨S2x1024x1536, .f32⟩
  | 51 => ⟨S2x1024x1536, .f32⟩
  | 52 => ⟨S2x1024x1536, .f32⟩
  | 53 => ⟨S_, .f32⟩
  | 54 => ⟨S2x1024x1536, .f32⟩
  | 55 => ⟨S2x1024x1536, .f32⟩
  | 56 => ⟨S1x2320x1024, .f32⟩
  | 57 => ⟨S1x2320x1024, .f32⟩
  | 58 => ⟨S2x2320x1024, .f32⟩
  | 59 => ⟨S2x1024x2320, .f32⟩
  | 60 => ⟨S_, .f32⟩
  | 61 => ⟨S2x1024x2320, .f32⟩
  | 62 => ⟨S2x1024x2320, .f32⟩
  | 63 => ⟨S_, .f32⟩
  | 64 => ⟨S2x1024x2320, .f32⟩
  | 65 => ⟨S2x1024x2320, .f32⟩
  | 66 => ⟨S2x1024x2320, .f32⟩
  | 67 => ⟨S_, .f32⟩
  | 68 => ⟨S2x1024x2320, .f32⟩
  | 69 => ⟨S2x1024x2320, .f32⟩
  | 70 => ⟨S2x1024x2320, .f32⟩
  | 71 => ⟨S_, .f32⟩
  | 72 => ⟨S2x1024x2320, .f32⟩
  | 73 => ⟨S2x1024x2320, .f32⟩
  | 74 => ⟨S2x1024x2320, .f32⟩
  | 75 => ⟨S_, .f32⟩
  | 76 => ⟨S2x1024x2320, .f32⟩
  | 77 => ⟨S2x1024x2320, .f32⟩
  | 78 => ⟨S_, .f32⟩
  | 79 => ⟨S2x1024x2320, .f32⟩
  | 80 => ⟨S2x1024x2320, .f32⟩
  | 81 => ⟨S2x1024x2320, .f32⟩
  | 82 => ⟨S_, .f32⟩
  | 83 => ⟨S2x1024x2320, .f32⟩
  | 84 => ⟨S2x1024x2320, .f32⟩
  | 85 => ⟨S2x1024x2320, .f32⟩
  | 86 => ⟨S_, .f32⟩
  | 87 => ⟨S2x1024x2320, .f32⟩
  | 88 => ⟨S2x1024x2320, .f32⟩
  | 89 => ⟨S2x1024x2320, .f32⟩
  | 90 => ⟨S_, .f32⟩
  | 91 => ⟨S2x1024x2320, .f32⟩
  | 92 => ⟨S2x1024x2320, .f32⟩
  | 93 => ⟨S1x512x1024, .f32⟩
  | 94 => ⟨S1x512x1024, .f32⟩
  | 95 => ⟨S2x512x1024, .f32⟩
  | 96 => ⟨S_, .f32⟩
  | 97 => ⟨S2x512x1024, .f32⟩
  | 98 => ⟨S2x512x1024, .f32⟩
  | 99 => ⟨S_, .f32⟩
  | 100 => ⟨S2x512x1024, .f32⟩
  | 101 => ⟨S2x512x1024, .f32⟩
  | 102 => ⟨S2x512x1024, .f32⟩
  | 103 => ⟨S_, .f32⟩
  | 104 => ⟨S2x512x1024, .f32⟩
  | 105 => ⟨S2x512x1024, .f32⟩
  | 106 => ⟨S2x512x1024, .f32⟩
  | 107 => ⟨S_, .f32⟩
  | 108 => ⟨S2x512x1024, .f32⟩
  | 109 => ⟨S2x512x1024, .f32⟩
  | 110 => ⟨S2x512x1024, .f32⟩
  | 111 => ⟨S_, .f32⟩
  | 112 => ⟨S2x512x1024, .f32⟩
  | 113 => ⟨S2x512x1024, .f32⟩
  | 114 => ⟨S_, .f32⟩
  | 115 => ⟨S2x512x1024, .f32⟩
  | 116 => ⟨S2x512x1024, .f32⟩
  | 117 => ⟨S2x512x1024, .f32⟩
  | 118 => ⟨S_, .f32⟩
  | 119 => ⟨S2x512x1024, .f32⟩
  | 120 => ⟨S2x512x1024, .f32⟩
  | 121 => ⟨S2x512x1024, .f32⟩
  | 122 => ⟨S_, .f32⟩
  | 123 => ⟨S2x512x1024, .f32⟩
  | 124 => ⟨S2x512x1024, .f32⟩
  | 125 => ⟨S2x512x1024, .f32⟩
  | 126 => ⟨S_, .f32⟩
  | 127 => ⟨S2x512x1024, .f32⟩
  | _ => ⟨S2x1024x1536, .f32⟩

abbrev hbmTy0_1 (i : Nat) : BufTy := match i % 128 with
  | 0 => ⟨S2x512x1024, .f32⟩
  | 1 => ⟨S1x256x256, .f32⟩
  | 2 => ⟨S1x256x256, .f32⟩
  | 3 => ⟨S2x256x256, .f32⟩
  | 4 => ⟨S2x4x64x256, .f32⟩
  | 5 => ⟨S_, .f32⟩
  | 6 => ⟨S2x4x64x256, .f32⟩
  | 7 => ⟨S2x4x64x256, .f32⟩
  | 8 => ⟨S_, .f32⟩
  | 9 => ⟨S2x4x64x256, .f32⟩
  | 10 => ⟨S2x4x64x256, .f32⟩
  | 11 => ⟨S2x4x64x256, .f32⟩
  | 12 => ⟨S_, .f32⟩
  | 13 => ⟨S2x4x64x256, .f32⟩
  | 14 => ⟨S2x4x64x256, .f32⟩
  | 15 => ⟨S2x4x64x256, .f32⟩
  | 16 => ⟨S_, .f32⟩
  | 17 => ⟨S2x4x64x256, .f32⟩
  | 18 => ⟨S2x4x64x256, .f32⟩
  | 19 => ⟨S2x4x64x256, .f32⟩
  | 20 => ⟨S_, .f32⟩
  | 21 => ⟨S2x4x64x256, .f32⟩
  | 22 => ⟨S2x4x64x256, .f32⟩
  | 23 => ⟨S_, .f32⟩
  | 24 => ⟨S2x4x64x256, .f32⟩
  | 25 => ⟨S2x4x64x256, .f32⟩
  | 26 => ⟨S2x4x64x256, .f32⟩
  | 27 => ⟨S_, .f32⟩
  | 28 => ⟨S2x4x64x256, .f32⟩
  | 29 => ⟨S2x4x64x256, .f32⟩
  | 30 => ⟨S2x4x64x256, .f32⟩
  | 31 => ⟨S_, .f32⟩
  | 32 => ⟨S2x4x64x256, .f32⟩
  | 33 => ⟨S2x4x64x256, .f32⟩
  | 34 => ⟨S2x4x64x256, .f32⟩
  | 35 => ⟨S_, .f32⟩
  | 36 => ⟨S2x4x64x256, .f32⟩
  | 37 => ⟨S2x4x64x256, .f32⟩
  | _ => ⟨S2x1024x1536, .f32⟩

abbrev hbmTy (i : Nat) : BufTy := match i / 128 with
  | 0 => hbmTy0_0 i
  | 1 => hbmTy0_1 i
  | _ => ⟨S2x1024x1536, .f32⟩

abbrev bufTy : (tb : Table) → Fin (tcTables nBuf tb) → BufTy
  | .hbm, ⟨i, _⟩ => hbmTy i
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_cst_9 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_10 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_11 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_12 : Ref sig .tc := ⟨.hbm, 75, rfl⟩
abbrev main_v42 : Ref sig .tc := ⟨.hbm, 76, rfl⟩
abbrev main_v43 : Ref sig .tc := ⟨.hbm, 77, rfl⟩
abbrev main_cst_13 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_14 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_15 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_16 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_17 : Ref sig .tc := ⟨.hbm, 96, rfl⟩
abbrev main_v58 : Ref sig .tc := ⟨.hbm, 97, rfl⟩
abbrev main_v59 : Ref sig .tc := ⟨.hbm, 98, rfl⟩
abbrev main_cst_18 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_19 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_20 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_21 : Ref sig .tc := ⟨.hbm, 111, rfl⟩
abbrev main_v69 : Ref sig .tc := ⟨.hbm, 112, rfl⟩
abbrev main_v70 : Ref sig .tc := ⟨.hbm, 113, rfl⟩
abbrev main_cst_22 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_23 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_24 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_25 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_26 : Ref sig .tc := ⟨.hbm, 133, rfl⟩
abbrev main_v86 : Ref sig .tc := ⟨.hbm, 134, rfl⟩
abbrev main_v87 : Ref sig .tc := ⟨.hbm, 135, rfl⟩
abbrev main_cst_27 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_28 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_29 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_30 : Ref sig .tc := ⟨.hbm, 148, rfl⟩
abbrev main_v97 : Ref sig .tc := ⟨.hbm, 149, rfl⟩
abbrev main_v98 : Ref sig .tc := ⟨.hbm, 150, rfl⟩
abbrev main_cst_31 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_32 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_33 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_34 : Ref sig .tc := ⟨.hbm, 163, rfl⟩
abbrev main_v108 : Ref sig .tc := ⟨.hbm, 164, rfl⟩
abbrev main_v109 : Ref sig .tc := ⟨.hbm, 165, rfl⟩

abbrev nD : Nat := 1
abbrev τ : Topo := Topo.v7x

variable {F : FTy → Type} [FloatOps F]
-- ==== Kernel7.lean ====
abbrev S2x256x1024 : Shape := ⟨3, ![2, 256, 1024]⟩
abbrev S256x1024 : Shape := ⟨2, ![256, 1024]⟩
abbrev S2x1024x1408 : Shape := ⟨3, ![2, 1024, 1408]⟩
abbrev S1024x1408 : Shape := ⟨2, ![1024, 1408]⟩
abbrev S2x704x1024 : Shape := ⟨3, ![2, 704, 1024]⟩
abbrev S704x1024 : Shape := ⟨2, ![704, 1024]⟩
abbrev S1x256x1024 : Shape := ⟨3, ![1, 256, 1024]⟩
abbrev S1x128x1408 : Shape := ⟨3, ![1, 128, 1408]⟩
abbrev S128x1408 : Shape := ⟨2, ![128, 1408]⟩
abbrev S1x176x1024 : Shape := ⟨3, ![1, 176, 1024]⟩
abbrev S176x1024 : Shape := ⟨2, ![176, 1024]⟩

abbrev nBuf : Space → Nat
  | .hbm => 36
  | .vmem => 72
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S256x1024, .f32⟩
  | .hbm, ⟨7, _⟩ => ⟨S256x1024, .f32⟩
  | .hbm, ⟨8, _⟩ => ⟨S2x256x1024, .f32⟩
  | .hbm, ⟨9, _⟩ => ⟨S2x256x1024, .f32⟩
  | .hbm, ⟨10, _⟩ => ⟨S2x1024x1408, .f32⟩
  | .hbm, ⟨11, _⟩ => ⟨S1024x1408, .f32⟩
  | .hbm, ⟨12, _⟩ => ⟨S1024x1408, .f32⟩
  | .hbm, ⟨13, _⟩ => ⟨S2x1024x1408, .f32⟩
  | .hbm, ⟨14, _⟩ => ⟨S2x1024x1408, .f32⟩
  | .hbm, ⟨15, _⟩ => ⟨S2x704x1024, .f32⟩
  | .hbm, ⟨16, _⟩ => ⟨S704x1024, .f32⟩
  | .hbm, ⟨17, _⟩ => ⟨S704x1024, .f32⟩
  | .hbm, ⟨18, _⟩ => ⟨S2x704x1024, .f32⟩
  | .hbm, ⟨19, _⟩ => ⟨S2x704x1024, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S2x256x1024, .f32⟩
  | .hbm, ⟨28, _⟩ => ⟨S2x1024x1408, .f32⟩
  | .hbm, ⟨29, _⟩ => ⟨S2x1024x1408, .f32⟩
  | .hbm, ⟨30, _⟩ => ⟨S2x1024x1408, .f32⟩
  | .hbm, ⟨31, _⟩ => ⟨S2x1024x1408, .f32⟩
  | .hbm, ⟨32, _⟩ => ⟨S2x704x1024, .f32⟩
  | .hbm, ⟨33, _⟩ => ⟨S2x704x1024, .f32⟩
  | .hbm, ⟨34, _⟩ => ⟨S2x704x1024, .f32⟩
  | .hbm, ⟨35, _⟩ => ⟨S2x704x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1x256x1024, .f32⟩
  | .local _ .vmem, ⟨36, _⟩ => ⟨S1x128x1408, .f32⟩
  | .local _ .vmem, ⟨37, _⟩ => ⟨S1x128x1408, .f32⟩
  | .local _ .vmem, ⟨38, _⟩ => ⟨S1x128x1408, .f32⟩
  | .local _ .vmem, ⟨39, _⟩ => ⟨S1x128x1408, .f32⟩
  | .local _ .vmem, ⟨40, _⟩ => ⟨S1x128x1408, .f32⟩
  | .local _ .vmem, ⟨41, _⟩ => ⟨S1x128x1408, .f32⟩
  | .local _ .vmem, ⟨42, _⟩ => ⟨S128x1408, .f32⟩
  | .local _ .vmem, ⟨43, _⟩ => ⟨S128x1408, .f32⟩
  | .local _ .vmem, ⟨44, _⟩ => ⟨S128x1408, .f32⟩
  | .local _ .vmem, ⟨45, _⟩ => ⟨S128x1408, .f32⟩
  | .local _ .vmem, ⟨46, _⟩ => ⟨S1x128x1408, .f32⟩
  | .local _ .vmem, ⟨47, _⟩ => ⟨S1x128x1408, .f32⟩
  | .local _ .vmem, ⟨48, _⟩ => ⟨S1x128x1408, .f32⟩
  | .local _ .vmem, ⟨49, _⟩ => ⟨S1x128x1408, .f32⟩
  | .local _ .vmem, ⟨50, _⟩ => ⟨S1x128x1408, .f32⟩
  | .local _ .vmem, ⟨51, _⟩ => ⟨S1x128x1408, .f32⟩
  | .local _ .vmem, ⟨52, _⟩ => ⟨S1x128x1408, .f32⟩
  | .local _ .vmem, ⟨53, _⟩ => ⟨S1x128x1408, .f32⟩
  | .local _ .vmem, ⟨54, _⟩ => ⟨S1x176x1024, .f32⟩
  | .local _ .vmem, ⟨55, _⟩ => ⟨S1x176x1024, .f32⟩
  | .local _ .vmem, ⟨56, _⟩ => ⟨S1x176x1024, .f32⟩
  | .local _ .vmem, ⟨57, _⟩ => ⟨S1x176x1024, .f32⟩
  | .local _ .vmem, ⟨58, _⟩ => ⟨S1x176x1024, .f32⟩
  | .local _ .vmem, ⟨59, _⟩ => ⟨S1x176x1024, .f32⟩
  | .local _ .vmem, ⟨60, _⟩ => ⟨S176x1024, .f32⟩
  | .local _ .vmem, ⟨61, _⟩ => ⟨S176x1024, .f32⟩
  | .local _ .vmem, ⟨62, _⟩ => ⟨S176x1024, .f32⟩
  | .local _ .vmem, ⟨63, _⟩ => ⟨S176x1024, .f32⟩
  | .local _ .vmem, ⟨64, _⟩ => ⟨S1x176x1024, .f32⟩
  | .local _ .vmem, ⟨65, _⟩ => ⟨S1x176x1024, .f32⟩
  | .local _ .vmem, ⟨66, _⟩ => ⟨S1x176x1024, .f32⟩
  | .local _ .vmem, ⟨67, _⟩ => ⟨S1x176x1024, .f32⟩
  | .local _ .vmem, ⟨68, _⟩ => ⟨S1x176x1024, .f32⟩
  | .local _ .vmem, ⟨69, _⟩ => ⟨S1x176x1024, .f32⟩
  | .local _ .vmem, ⟨70, _⟩ => ⟨S1x176x1024, .f32⟩
  | .local _ .vmem, ⟨71, _⟩ => ⟨S1x176x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v1_0 : Ref sig .tc := ⟨.hbm, 24, rfl⟩
abbrev main_v1_1 : Ref sig .tc := ⟨.hbm, 25, rfl⟩
abbrev main_v1_2 : Ref sig .tc := ⟨.hbm, 26, rfl⟩
abbrev main_v1_3 : Ref sig .tc := ⟨.hbm, 27, rfl⟩
abbrev main_v2_0 : Ref sig .tc := ⟨.hbm, 28, rfl⟩
abbrev main_v2_1 : Ref sig .tc := ⟨.hbm, 29, rfl⟩
abbrev main_v2_2 : Ref sig .tc := ⟨.hbm, 30, rfl⟩
abbrev main_v2_3 : Ref sig .tc := ⟨.hbm, 31, rfl⟩
abbrev main_v3_0 : Ref sig .tc := ⟨.hbm, 32, rfl⟩
abbrev main_v3_1 : Ref sig .tc := ⟨.hbm, 33, rfl⟩
abbrev main_v3_2 : Ref sig .tc := ⟨.hbm, 34, rfl⟩
abbrev main_v3_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  ![v3.toNat, c0_i32_2.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc2_transform_4 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x128x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S128x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x128x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x128x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x128x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x128x1408 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  ![v3.toNat, c0_i32_2.toNat]

def cc3_transform_4 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  ![v3.toNat, c0_i32_1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x176x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x176x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x176x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S176x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S176x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x176x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x176x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x176x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x176x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]
-- ==== Reference7Ideal.lean ====
abbrev S2x256x1024 : Shape := ⟨3, ![2, 256, 1024]⟩
abbrev S256x1024 : Shape := ⟨2, ![256, 1024]⟩
abbrev S2x1024x1408 : Shape := ⟨3, ![2, 1024, 1408]⟩
abbrev S1024x1408 : Shape := ⟨2, ![1024, 1408]⟩
abbrev S2x704x1024 : Shape := ⟨3, ![2, 704, 1024]⟩
abbrev S704x1024 : Shape := ⟨2, ![704, 1024]⟩
abbrev S1x256x1024 : Shape := ⟨3, ![1, 256, 1024]⟩
abbrev S_ : Shape := ⟨0, ![]⟩
abbrev S1x1024x1408 : Shape := ⟨3, ![1, 1024, 1408]⟩
abbrev S1x704x1024 : Shape := ⟨3, ![1, 704, 1024]⟩

abbrev nBuf : Space → Nat
  | .hbm => 164
  | .vmem => 0
  | .smem => 0
  | _ => 0

abbrev hbmTy0_0 (i : Nat) : BufTy := match i % 128 with
  | 0 => ⟨S2x256x1024, .f32⟩
  | 1 => ⟨S256x1024, .f32⟩
  | 2 => ⟨S256x1024, .f32⟩
  | 3 => ⟨S2x256x1024, .f32⟩
  | 4 => ⟨S2x256x1024, .f32⟩
  | 5 => ⟨S2x256x1024, .f32⟩
  | 6 => ⟨S256x1024, .f32⟩
  | 7 => ⟨S256x1024, .f32⟩
  | 8 => ⟨S2x256x1024, .f32⟩
  | 9 => ⟨S2x256x1024, .f32⟩
  | 10 => ⟨S2x1024x1408, .f32⟩
  | 11 => ⟨S1024x1408, .f32⟩
  | 12 => ⟨S1024x1408, .f32⟩
  | 13 => ⟨S2x1024x1408, .f32⟩
  | 14 => ⟨S2x1024x1408, .f32⟩
  | 15 => ⟨S2x704x1024, .f32⟩
  | 16 => ⟨S704x1024, .f32⟩
  | 17 => ⟨S704x1024, .f32⟩
  | 18 => ⟨S2x704x1024, .f32⟩
  | 19 => ⟨S2x704x1024, .f32⟩
  | 20 => ⟨S1x256x1024, .f32⟩
  | 21 => ⟨S1x256x1024, .f32⟩
  | 22 => ⟨S2x256x1024, .f32⟩
  | 23 => ⟨S_, .f32⟩
  | 24 => ⟨S2x256x1024, .f32⟩
  | 25 => ⟨S2x256x1024, .f32⟩
  | 26 => ⟨S_, .f32⟩
  | 27 => ⟨S2x256x1024, .f32⟩
  | 28 => ⟨S2x256x1024, .f32⟩
  | 29 => ⟨S2x256x1024, .f32⟩
  | 30 => ⟨S_, .f32⟩
  | 31 => ⟨S2x256x1024, .f32⟩
  | 32 => ⟨S2x256x1024, .f32⟩
  | 33 => ⟨S2x256x1024, .f32⟩
  | 34 => ⟨S_, .f32⟩
  | 35 => ⟨S2x256x1024, .f32⟩
  | 36 => ⟨S2x256x1024, .f32⟩
  | 37 => ⟨S2x256x1024, .f32⟩
  | 38 => ⟨S_, .f32⟩
  | 39 => ⟨S2x256x1024, .f32⟩
  | 40 => ⟨S2x256x1024, .f32⟩
  | 41 => ⟨S_, .f32⟩
  | 42 => ⟨S2x256x1024, .f32⟩
  | 43 => ⟨S2x256x1024, .f32⟩
  | 44 => ⟨S2x256x1024, .f32⟩
  | 45 => ⟨S_, .f32⟩
  | 46 => ⟨S2x256x1024, .f32⟩
  | 47 => ⟨S2x256x1024, .f32⟩
  | 48 => ⟨S2x256x1024, .f32⟩
  | 49 => ⟨S_, .f32⟩
  | 50 => ⟨S2x256x1024, .f32⟩
  | 51 => ⟨S2x256x1024, .f32⟩
  | 52 => ⟨S2x256x1024, .f32⟩
  | 53 => ⟨S_, .f32⟩
  | 54 => ⟨S2x256x1024, .f32⟩
  | 55 => ⟨S2x256x1024, .f32⟩
  | 56 => ⟨S1x256x1024, .f32⟩
  | 57 => ⟨S1x256x1024, .f32⟩
  | 58 => ⟨S2x256x1024, .f32⟩
  | 59 => ⟨S_, .f32⟩
  | 60 => ⟨S2x256x1024, .f32⟩
  | 61 => ⟨S2x256x1024, .f32⟩
  | 62 => ⟨S_, .f32⟩
  | 63 => ⟨S2x256x1024, .f32⟩
  | 64 => ⟨S2x256x1024, .f32⟩
  | 65 => ⟨S2x256x1024, .f32⟩
  | 66 => ⟨S_, .f32⟩
  | 67 => ⟨S2x256x1024, .f32⟩
  | 68 => ⟨S2x256x1024, .f32⟩
  | 69 => ⟨S2x256x1024, .f32⟩
  | 70 => ⟨S_, .f32⟩
  | 71 => ⟨S2x256x1024, .f32⟩
  | 72 => ⟨S2x256x1024, .f32⟩
  | 73 => ⟨S2x256x1024, .f32⟩
  | 74 => ⟨S_, .f32⟩
  | 75 => ⟨S2x256x1024, .f32⟩
  | 76 => ⟨S2x256x1024, .f32⟩
  | 77 => ⟨S_, .f32⟩
  | 78 => ⟨S2x256x1024, .f32⟩
  | 79 => ⟨S2x256x1024, .f32⟩
  | 80 => ⟨S2x256x1024, .f32⟩
  | 81 => ⟨S_, .f32⟩
  | 82 => ⟨S2x256x1024, .f32⟩
  | 83 => ⟨S2x256x1024, .f32⟩
  | 84 => ⟨S2x256x1024, .f32⟩
  | 85 => ⟨S_, .f32⟩
  | 86 => ⟨S2x256x1024, .f32⟩
  | 87 => ⟨S2x256x1024, .f32⟩
  | 88 => ⟨S2x256x1024, .f32⟩
  | 89 => ⟨S_, .f32⟩
  | 90 => ⟨S2x256x1024, .f32⟩
  | 91 => ⟨S2x256x1024, .f32⟩
  | 92 => ⟨S1x1024x1408, .f32⟩
  | 93 => ⟨S1x1024x1408, .f32⟩
  | 94 => ⟨S2x1024x1408, .f32⟩
  | 95 => ⟨S_, .f32⟩
  | 96 => ⟨S2x1024x1408, .f32⟩
  | 97 => ⟨S2x1024x1408, .f32⟩
  | 98 => ⟨S_, .f32⟩
  | 99 => ⟨S2x1024x1408, .f32⟩
  | 100 => ⟨S2x1024x1408, .f32⟩
  | 101 => ⟨S2x1024x1408, .f32⟩
  | 102 => ⟨S_, .f32⟩
  | 103 => ⟨S2x1024x1408, .f32⟩
  | 104 => ⟨S2x1024x1408, .f32⟩
  | 105 => ⟨S2x1024x1408, .f32⟩
  | 106 => ⟨S_, .f32⟩
  | 107 => ⟨S2x1024x1408, .f32⟩
  | 108 => ⟨S2x1024x1408, .f32⟩
  | 109 => ⟨S2x1024x1408, .f32⟩
  | 110 => ⟨S_, .f32⟩
  | 111 => ⟨S2x1024x1408, .f32⟩
  | 112 => ⟨S2x1024x1408, .f32⟩
  | 113 => ⟨S_, .f32⟩
  | 114 => ⟨S2x1024x1408, .f32⟩
  | 115 => ⟨S2x1024x1408, .f32⟩
  | 116 => ⟨S2x1024x1408, .f32⟩
  | 117 => ⟨S_, .f32⟩
  | 118 => ⟨S2x1024x1408, .f32⟩
  | 119 => ⟨S2x1024x1408, .f32⟩
  | 120 => ⟨S2x1024x1408, .f32⟩
  | 121 => ⟨S_, .f32⟩
  | 122 => ⟨S2x1024x1408, .f32⟩
  | 123 => ⟨S2x1024x1408, .f32⟩
  | 124 => ⟨S2x1024x1408, .f32⟩
  | 125 => ⟨S_, .f32⟩
  | 126 => ⟨S2x1024x1408, .f32⟩
  | 127 => ⟨S2x1024x1408, .f32⟩
  | _ => ⟨S2x256x1024, .f32⟩

abbrev hbmTy0_1 (i : Nat) : BufTy := match i % 128 with
  | 0 => ⟨S1x704x1024, .f32⟩
  | 1 => ⟨S1x704x1024, .f32⟩
  | 2 => ⟨S2x704x1024, .f32⟩
  | 3 => ⟨S_, .f32⟩
  | 4 => ⟨S2x704x1024, .f32⟩
  | 5 => ⟨S2x704x1024, .f32⟩
  | 6 => ⟨S_, .f32⟩
  | 7 => ⟨S2x704x1024, .f32⟩
  | 8 => ⟨S2x704x1024, .f32⟩
  | 9 => ⟨S2x704x1024, .f32⟩
  | 10 => ⟨S_, .f32⟩
  | 11 => ⟨S2x704x1024, .f32⟩
  | 12 => ⟨S2x704x1024, .f32⟩
  | 13 => ⟨S2x704x1024, .f32⟩
  | 14 => ⟨S_, .f32⟩
  | 15 => ⟨S2x704x1024, .f32⟩
  | 16 => ⟨S2x704x1024, .f32⟩
  | 17 => ⟨S2x704x1024, .f32⟩
  | 18 => ⟨S_, .f32⟩
  | 19 => ⟨S2x704x1024, .f32⟩
  | 20 => ⟨S2x704x1024, .f32⟩
  | 21 => ⟨S_, .f32⟩
  | 22 => ⟨S2x704x1024, .f32⟩
  | 23 => ⟨S2x704x1024, .f32⟩
  | 24 => ⟨S2x704x1024, .f32⟩
  | 25 => ⟨S_, .f32⟩
  | 26 => ⟨S2x704x1024, .f32⟩
  | 27 => ⟨S2x704x1024, .f32⟩
  | 28 => ⟨S2x704x1024, .f32⟩
  | 29 => ⟨S_, .f32⟩
  | 30 => ⟨S2x704x1024, .f32⟩
  | 31 => ⟨S2x704x1024, .f32⟩
  | 32 => ⟨S2x704x1024, .f32⟩
  | 33 => ⟨S_, .f32⟩
  | 34 => ⟨S2x704x1024, .f32⟩
  | 35 => ⟨S2x704x1024, .f32⟩
  | _ => ⟨S2x256x1024, .f32⟩

abbrev hbmTy (i : Nat) : BufTy := match i / 128 with
  | 0 => hbmTy0_0 i
  | 1 => hbmTy0_1 i
  | _ => ⟨S2x256x1024, .f32⟩

abbrev bufTy : (tb : Table) → Fin (tcTables nBuf tb) → BufTy
  | .hbm, ⟨i, _⟩ => hbmTy i
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_2 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_8 : Ref sig .tc := ⟨.hbm, 59, rfl⟩
abbrev main_v30 : Ref sig .tc := ⟨.hbm, 60, rfl⟩
abbrev main_v31 : Ref sig .tc := ⟨.hbm, 61, rfl⟩
abbrev main_cst_9 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_10 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_11 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_12 : Ref sig .tc := ⟨.hbm, 74, rfl⟩
abbrev main_v41 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_15 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_16 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_17 : Ref sig .tc := ⟨.hbm, 95, rfl⟩
abbrev main_v57 : Ref sig .tc := ⟨.hbm, 96, rfl⟩
abbrev main_v58 : Ref sig .tc := ⟨.hbm, 97, rfl⟩
abbrev main_cst_18 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_19 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_20 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_21 : Ref sig .tc := ⟨.hbm, 110, rfl⟩
abbrev main_v68 : Ref sig .tc := ⟨.hbm, 111, rfl⟩
abbrev main_v69 : Ref sig .tc := ⟨.hbm, 112, rfl⟩
abbrev main_cst_22 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_23 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_24 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_25 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_26 : Ref sig .tc := ⟨.hbm, 131, rfl⟩
abbrev main_v84 : Ref sig .tc := ⟨.hbm, 132, rfl⟩
abbrev main_v85 : Ref sig .tc := ⟨.hbm, 133, rfl⟩
abbrev main_cst_27 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_28 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_29 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_30 : Ref sig .tc := ⟨.hbm, 146, rfl⟩
abbrev main_v95 : Ref sig .tc := ⟨.hbm, 147, rfl⟩
abbrev main_v96 : Ref sig .tc := ⟨.hbm, 148, rfl⟩
abbrev main_cst_31 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_32 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_33 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_cst_34 : Ref sig .tc := ⟨.hbm, 161, rfl⟩
abbrev main_v106 : Ref sig .tc := ⟨.hbm, 162, rfl⟩
abbrev main_v107 : Ref sig .tc := ⟨.hbm, 163, rfl⟩

abbrev nD : Nat := 1
abbrev τ : Topo := Topo.v7x

variable {F : FTy → Type} [FloatOps F]
-- ==== Kernel8.lean ====
abbrev S4352x1024 : Shape := ⟨2, ![4352, 1024]⟩
abbrev S1024x9280 : Shape := ⟨2, ![1024, 9280]⟩
abbrev S1024x2048 : Shape := ⟨2, ![1024, 2048]⟩
abbrev S1024x4096 : Shape := ⟨2, ![1024, 4096]⟩
abbrev S1024x64 : Shape := ⟨2, ![1024, 64]⟩
abbrev S1024x1024 : Shape := ⟨2, ![1024, 1024]⟩
abbrev S1024x8x256 : Shape := ⟨3, ![1024, 8, 256]⟩
abbrev S1024x8x128 : Shape := ⟨3, ![1024, 8, 128]⟩
abbrev S1024x8x512 : Shape := ⟨3, ![1024, 8, 512]⟩
abbrev S_ : Shape := ⟨0, ![]⟩
abbrev S1024x448 : Shape := ⟨2, ![1024, 448]⟩
abbrev S1024x9728 : Shape := ⟨2, ![1024, 9728]⟩
abbrev S4352x9728 : Shape := ⟨2, ![4352, 9728]⟩
abbrev S1088x1024 : Shape := ⟨2, ![1088, 1024]⟩
abbrev S1024x512 : Shape := ⟨2, ![1024, 512]⟩
abbrev S1088x512 : Shape := ⟨2, ![1088, 512]⟩
abbrev S4352x2048 : Shape := ⟨2, ![4352, 2048]⟩
abbrev S4352x4096 : Shape := ⟨2, ![4352, 4096]⟩
abbrev S4352x8x512 : Shape := ⟨3, ![4352, 8, 512]⟩
abbrev S4352x8x256 : Shape := ⟨3, ![4352, 8, 256]⟩
abbrev S4352x8x128 : Shape := ⟨3, ![4352, 8, 128]⟩
abbrev S4352x64 : Shape := ⟨2, ![4352, 64]⟩

abbrev nBuf : Space → Nat
  | .hbm => 33
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x9280, .f32⟩
  | .hbm, ⟨2, _⟩ => ⟨S1024x9280, .bf16⟩
  | .hbm, ⟨3, _⟩ => ⟨S1024x2048, .bf16⟩
  | .hbm, ⟨4, _⟩ => ⟨S1024x4096, .bf16⟩
  | .hbm, ⟨5, _⟩ => ⟨S1024x64, .bf16⟩
  | .hbm, ⟨6, _⟩ => ⟨S1024x1024, .bf16⟩
  | .hbm, ⟨7, _⟩ => ⟨S1024x2048, .bf16⟩
  | .hbm, ⟨8, _⟩ => ⟨S1024x2048, .bf16⟩
  | .hbm, ⟨9, _⟩ => ⟨S1024x8x256, .bf16⟩
  | .hbm, ⟨10, _⟩ => ⟨S1024x1024, .bf16⟩
  | .hbm, ⟨11, _⟩ => ⟨S1024x8x128, .bf16⟩
  | .hbm, ⟨12, _⟩ => ⟨S1024x1024, .bf16⟩
  | .hbm, ⟨13, _⟩ => ⟨S1024x8x128, .bf16⟩
  | .hbm, ⟨14, _⟩ => ⟨S1024x8x512, .bf16⟩
  | .hbm, ⟨15, _⟩ => ⟨S1024x4096, .bf16⟩
  | .hbm, ⟨16, _⟩ => ⟨S_, .bf16⟩
  | .hbm, ⟨17, _⟩ => ⟨S1024x448, .bf16⟩
  | .hbm, ⟨18, _⟩ => ⟨S1024x9728, .bf16⟩
  | .hbm, ⟨19, _⟩ => ⟨S4352x9728, .f32⟩
  | .hbm, ⟨20, _⟩ => ⟨S4352x2048, .f32⟩
  | .hbm, ⟨21, _⟩ => ⟨S4352x4096, .f32⟩
  | .hbm, ⟨22, _⟩ => ⟨S4352x8x512, .f32⟩
  | .hbm, ⟨23, _⟩ => ⟨S4352x8x256, .f32⟩
  | .hbm, ⟨24, _⟩ => ⟨S4352x2048, .f32⟩
  | .hbm, ⟨25, _⟩ => ⟨S4352x8x128, .f32⟩
  | .hbm, ⟨26, _⟩ => ⟨S4352x1024, .f32⟩
  | .hbm, ⟨27, _⟩ => ⟨S4352x8x128, .f32⟩
  | .hbm, ⟨28, _⟩ => ⟨S4352x1024, .f32⟩
  | .hbm, ⟨29, _⟩ => ⟨S4352x4096, .f32⟩
  | .hbm, ⟨30, _⟩ => ⟨S4352x64, .f32⟩
  | .hbm, ⟨31, _⟩ => ⟨S4352x1024, .f32⟩
  | .hbm, ⟨32, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x512, .bf16⟩
  | .local _ .vmem, ⟨3, _⟩ => ⟨S1024x512, .bf16⟩
  | .local _ .vmem, ⟨4, _⟩ => ⟨S1088x512, .f32⟩
  | .local _ .vmem, ⟨5, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![19, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4352x1024 : Shape := ⟨2, ![4352, 1024]⟩
abbrev S1024x9280 : Shape := ⟨2, ![1024, 9280]⟩
abbrev S4352x9280 : Shape := ⟨2, ![4352, 9280]⟩
abbrev S4352x2048 : Shape := ⟨2, ![4352, 2048]⟩
abbrev S4352x4096 : Shape := ⟨2, ![4352, 4096]⟩
abbrev S4352x64 : Shape := ⟨2, ![4352, 64]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x9280, .f32⟩
  | .hbm, ⟨2, _⟩ => ⟨S4352x1024, .f32⟩
  | .hbm, ⟨3, _⟩ => ⟨S4352x9280, .f32⟩
  | .hbm, ⟨4, _⟩ => ⟨S4352x2048, .f32⟩
  | .hbm, ⟨5, _⟩ => ⟨S4352x4096, .f32⟩
  | .hbm, ⟨6, _⟩ => ⟨S4352x64, .f32⟩
  | .hbm, ⟨7, _⟩ => ⟨S4352x1024, .f32⟩
  | .hbm, ⟨8, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel9.lean ====
abbrev S1024 : Shape := ⟨1, ![1024]⟩
abbrev S2x6144 : Shape := ⟨2, ![2, 6144]⟩
abbrev S2x1024 : Shape := ⟨2, ![2, 1024]⟩
abbrev S2x5x1024 : Shape := ⟨3, ![2, 5, 1024]⟩
abbrev S2x4096 : Shape := ⟨2, ![2, 4096]⟩
abbrev S2x2x32 : Shape := ⟨3, ![2, 2, 32]⟩
abbrev S2x2048 : Shape := ⟨2, ![2, 2048]⟩
abbrev S12288 : Shape := ⟨1, ![12288]⟩
abbrev S2048 : Shape := ⟨1, ![2048]⟩
abbrev S10240 : Shape := ⟨1, ![10240]⟩
abbrev S8192 : Shape := ⟨1, ![8192]⟩
abbrev S128 : Shape := ⟨1, ![128]⟩
abbrev S4096 : Shape := ⟨1, ![4096]⟩
abbrev S43392 : Shape := ⟨1, ![43392]⟩
abbrev S_ : Shape := ⟨0, ![]⟩
abbrev S640 : Shape := ⟨1, ![640]⟩
abbrev S44032 : Shape := ⟨1, ![44032]⟩
abbrev S344x128 : Shape := ⟨2, ![344, 128]⟩
abbrev S1x344x128 : Shape := ⟨3, ![1, 344, 128]⟩

abbrev nBuf : Space → Nat
  | .hbm => 186
  | .vmem => 8
  | .smem => 0
  | _ => 0

abbrev hbmTy0_0 (i : Nat) : BufTy := match i % 128 with
  | 0 => ⟨S1024, .f32⟩
  | 1 => ⟨S2x6144, .f32⟩
  | 2 => ⟨S2x1024, .f32⟩
  | 3 => ⟨S2x5x1024, .f32⟩
  | 4 => ⟨S2x4096, .f32⟩
  | 5 => ⟨S2x2x32, .f32⟩
  | 6 => ⟨S2x2x32, .f32⟩
  | 7 => ⟨S2x2x32, .f32⟩
  | 8 => ⟨S2x2048, .f32⟩
  | 9 => ⟨S2x1024, .f32⟩
  | 10 => ⟨S2x1024, .f32⟩
  | 11 => ⟨S1024, .f32⟩
  | 12 => ⟨S1024, .f32⟩
  | 13 => ⟨S2x6144, .f32⟩
  | 14 => ⟨S2x1024, .f32⟩
  | 15 => ⟨S2x5x1024, .f32⟩
  | 16 => ⟨S2x4096, .f32⟩
  | 17 => ⟨S2x2x32, .f32⟩
  | 18 => ⟨S2x2x32, .f32⟩
  | 19 => ⟨S2x2x32, .f32⟩
  | 20 => ⟨S2x2048, .f32⟩
  | 21 => ⟨S2x1024, .f32⟩
  | 22 => ⟨S2x1024, .f32⟩
  | 23 => ⟨S1024, .f32⟩
  | 24 => ⟨S1024, .f32⟩
  | 25 => ⟨S2x6144, .f32⟩
  | 26 => ⟨S2x1024, .f32⟩
  | 27 => ⟨S2x5x1024, .f32⟩
  | 28 => ⟨S2x4096, .f32⟩
  | 29 => ⟨S2x2x32, .f32⟩
  | 30 => ⟨S2x2x32, .f32⟩
  | 31 => ⟨S2x2x32, .f32⟩
  | 32 => ⟨S2x2048, .f32⟩
  | 33 => ⟨S2x1024, .f32⟩
  | 34 => ⟨S2x1024, .f32⟩
  | 35 => ⟨S1024, .f32⟩
  | 36 => ⟨S1024, .f32⟩
  | 37 => ⟨S2x6144, .f32⟩
  | 38 => ⟨S2x1024, .f32⟩
  | 39 => ⟨S2x5x1024, .f32⟩
  | 40 => ⟨S2x4096, .f32⟩
  | 41 => ⟨S2x2x32, .f32⟩
  | 42 => ⟨S2x2x32, .f32⟩
  | 43 => ⟨S2x2x32, .f32⟩
  | 44 => ⟨S2x2048, .f32⟩
  | 45 => ⟨S2x1024, .f32⟩
  | 46 => ⟨S2x1024, .f32⟩
  | 47 => ⟨S1024, .f32⟩
  | 48 => ⟨S12288, .f32⟩
  | 49 => ⟨S2048, .f32⟩
  | 50 => ⟨S10240, .f32⟩
  | 51 => ⟨S8192, .f32⟩
  | 52 => ⟨S128, .f32⟩
  | 53 => ⟨S128, .f32⟩
  | 54 => ⟨S128, .f32⟩
  | 55 => ⟨S4096, .f32⟩
  | 56 => ⟨S2048, .f32⟩
  | 57 => ⟨S2048, .f32⟩
  | 58 => ⟨S43392, .f32⟩
  | 59 => ⟨S_, .f32⟩
  | 60 => ⟨S640, .f32⟩
  | 61 => ⟨S44032, .f32⟩
  | 62 => ⟨S344x128, .f32⟩
  | 63 => ⟨S1x344x128, .f32⟩
  | 64 => ⟨S12288, .f32⟩
  | 65 => ⟨S2048, .f32⟩
  | 66 => ⟨S10240, .f32⟩
  | 67 => ⟨S8192, .f32⟩
  | 68 => ⟨S128, .f32⟩
  | 69 => ⟨S128, .f32⟩
  | 70 => ⟨S128, .f32⟩
  | 71 => ⟨S4096, .f32⟩
  | 72 => ⟨S2048, .f32⟩
  | 73 => ⟨S2048, .f32⟩
  | 74 => ⟨S43392, .f32⟩
  | 75 => ⟨S_, .f32⟩
  | 76 => ⟨S640, .f32⟩
  | 77 => ⟨S44032, .f32⟩
  | 78 => ⟨S344x128, .f32⟩
  | 79 => ⟨S1x344x128, .f32⟩
  | 80 => ⟨S12288, .f32⟩
  | 81 => ⟨S2048, .f32⟩
  | 82 => ⟨S10240, .f32⟩
  | 83 => ⟨S8192, .f32⟩
  | 84 => ⟨S128, .f32⟩
  | 85 => ⟨S128, .f32⟩
  | 86 => ⟨S128, .f32⟩
  | 87 => ⟨S4096, .f32⟩
  | 88 => ⟨S2048, .f32⟩
  | 89 => ⟨S2048, .f32⟩
  | 90 => ⟨S43392, .f32⟩
  | 91 => ⟨S_, .f32⟩
  | 92 => ⟨S640, .f32⟩
  | 93 => ⟨S44032, .f32⟩
  | 94 => ⟨S344x128, .f32⟩
  | 95 => ⟨S1x344x128, .f32⟩
  | 96 => ⟨S12288, .f32⟩
  | 97 => ⟨S2048, .f32⟩
  | 98 => ⟨S10240, .f32⟩
  | 99 => ⟨S8192, .f32⟩
  | 100 => ⟨S128, .f32⟩
  | 101 => ⟨S128, .f32⟩
  | 102 => ⟨S128, .f32⟩
  | 103 => ⟨S4096, .f32⟩
  | 104 => ⟨S2048, .f32⟩
  | 105 => ⟨S2048, .f32⟩
  | 106 => ⟨S43392, .f32⟩
  | 107 => ⟨S_, .f32⟩
  | 108 => ⟨S640, .f32⟩
  | 109 => ⟨S44032, .f32⟩
  | 110 => ⟨S344x128, .f32⟩
  | 111 => ⟨S1x344x128, .f32⟩
  | 112 => ⟨S344x128, .f32⟩
  | 113 => ⟨S1x344x128, .f32⟩
  | 114 => ⟨S1x344x128, .f32⟩
  | 115 => ⟨S1x344x128, .f32⟩
  | 116 => ⟨S1x344x128, .f32⟩
  | 117 => ⟨S44032, .f32⟩
  | 118 => ⟨S1024, .f32⟩
  | 119 => ⟨S12288, .f32⟩
  | 120 => ⟨S2x6144, .f32⟩
  | 121 => ⟨S2048, .f32⟩
  | 122 => ⟨S2x1024, .f32⟩
  | 123 => ⟨S10240, .f32⟩
  | 124 => ⟨S2x5x1024, .f32⟩
  | 125 => ⟨S8192, .f32⟩
  | 126 => ⟨S2x4096, .f32⟩
  | 127 => ⟨S128, .f32⟩
  | _ => ⟨S1024, .f32⟩

abbrev hbmTy0_1 (i : Nat) : BufTy := match i % 128 with
  | 0 => ⟨S2x2x32, .f32⟩
  | 1 => ⟨S128, .f32⟩
  | 2 => ⟨S2x2x32, .f32⟩
  | 3 => ⟨S128, .f32⟩
  | 4 => ⟨S2x2x32, .f32⟩
  | 5 => ⟨S4096, .f32⟩
  | 6 => ⟨S2x2048, .f32⟩
  | 7 => ⟨S2048, .f32⟩
  | 8 => ⟨S2x1024, .f32⟩
  | 9 => ⟨S2048, .f32⟩
  | 10 => ⟨S2x1024, .f32⟩
  | 11 => ⟨S1024, .f32⟩
  | 12 => ⟨S44032, .f32⟩
  | 13 => ⟨S1024, .f32⟩
  | 14 => ⟨S12288, .f32⟩
  | 15 => ⟨S2x6144, .f32⟩
  | 16 => ⟨S2048, .f32⟩
  | 17 => ⟨S2x1024, .f32⟩
  | 18 => ⟨S10240, .f32⟩
  | 19 => ⟨S2x5x1024, .f32⟩
  | 20 => ⟨S8192, .f32⟩
  | 21 => ⟨S2x4096, .f32⟩
  | 22 => ⟨S128, .f32⟩
  | 23 => ⟨S2x2x32, .f32⟩
  | 24 => ⟨S128, .f32⟩
  | 25 => ⟨S2x2x32, .f32⟩
  | 26 => ⟨S128, .f32⟩
  | 27 => ⟨S2x2x32, .f32⟩
  | 28 => ⟨S4096, .f32⟩
  | 29 => ⟨S2x2048, .f32⟩
  | 30 => ⟨S2048, .f32⟩
  | 31 => ⟨S2x1024, .f32⟩
  | 32 => ⟨S2048, .f32⟩
  | 33 => ⟨S2x1024, .f32⟩
  | 34 => ⟨S1024, .f32⟩
  | 35 => ⟨S44032, .f32⟩
  | 36 => ⟨S1024, .f32⟩
  | 37 => ⟨S12288, .f32⟩
  | 38 => ⟨S2x6144, .f32⟩
  | 39 => ⟨S2048, .f32⟩
  | 40 => ⟨S2x1024, .f32⟩
  | 41 => ⟨S10240, .f32⟩
  | 42 => ⟨S2x5x1024, .f32⟩
  | 43 => ⟨S8192, .f32⟩
  | 44 => ⟨S2x4096, .f32⟩
  | 45 => ⟨S128, .f32⟩
  | 46 => ⟨S2x2x32, .f32⟩
  | 47 => ⟨S128, .f32⟩
  | 48 => ⟨S2x2x32, .f32⟩
  | 49 => ⟨S128, .f32⟩
  | 50 => ⟨S2x2x32, .f32⟩
  | 51 => ⟨S4096, .f32⟩
  | 52 => ⟨S2x2048, .f32⟩
  | 53 => ⟨S2048, .f32⟩
  | 54 => ⟨S2x1024, .f32⟩
  | 55 => ⟨S2048, .f32⟩
  | 56 => ⟨S2x1024, .f32⟩
  | 57 => ⟨S1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S1x344x128, .f32⟩
  | .local _ .vmem, ⟨1, _⟩ => ⟨S1x344x128, .f32⟩
  | .local _ .vmem, ⟨2, _⟩ => ⟨S1x344x128, .f32⟩
  | .local _ .vmem, ⟨3, _⟩ => ⟨S344x128, .f32⟩
  | .local _ .vmem, ⟨4, _⟩ => ⟨S1x344x128, .f32⟩
  | .local _ .vmem, ⟨5, _⟩ => ⟨S1x344x128, .f32⟩
  | .local _ .vmem, ⟨6, _⟩ => ⟨S1x344x128, .f32⟩
  | .local _ .vmem, ⟨7, _⟩ => ⟨S1x344x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_cst_0 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_cst_1 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_cst_2 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61_0 : Ref sig .tc := ⟨.hbm, 113, rfl⟩
abbrev main_v61_1 : Ref sig .tc := ⟨.hbm, 114, rfl⟩
abbrev main_v61_2 : Ref sig .tc := ⟨.hbm, 115, rfl⟩
abbrev main_v61_3 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x344x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x344x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x344x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S344x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x344x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x344x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x344x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x344x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference9Ideal.lean ====
abbrev S1024 : Shape := ⟨1, ![1024]⟩
abbrev S2x6144 : Shape := ⟨2, ![2, 6144]⟩
abbrev S2x1024 : Shape := ⟨2, ![2, 1024]⟩
abbrev S2x5x1024 : Shape := ⟨3, ![2, 5, 1024]⟩
abbrev S2x4096 : Shape := ⟨2, ![2, 4096]⟩
abbrev S2x2x32 : Shape := ⟨3, ![2, 2, 32]⟩
abbrev S2x2048 : Shape := ⟨2, ![2, 2048]⟩
abbrev S_ : Shape := ⟨0, ![]⟩

abbrev nBuf : Space → Nat
  | .hbm => 444
  | .vmem => 0
  | .smem => 0
  | _ => 0

abbrev hbmTy0_0 (i : Nat) : BufTy := match i % 128 with
  | 0 => ⟨S1024, .f32⟩
  | 1 => ⟨S2x6144, .f32⟩
  | 2 => ⟨S2x1024, .f32⟩
  | 3 => ⟨S2x5x1024, .f32⟩
  | 4 => ⟨S2x4096, .f32⟩
  | 5 => ⟨S2x2x32, .f32⟩
  | 6 => ⟨S2x2x32, .f32⟩
  | 7 => ⟨S2x2x32, .f32⟩
  | 8 => ⟨S2x2048, .f32⟩
  | 9 => ⟨S2x1024, .f32⟩
  | 10 => ⟨S2x1024, .f32⟩
  | 11 => ⟨S1024, .f32⟩
  | 12 => ⟨S1024, .f32⟩
  | 13 => ⟨S2x6144, .f32⟩
  | 14 => ⟨S2x1024, .f32⟩
  | 15 => ⟨S2x5x1024, .f32⟩
  | 16 => ⟨S2x4096, .f32⟩
  | 17 => ⟨S2x2x32, .f32⟩
  | 18 => ⟨S2x2x32, .f32⟩
  | 19 => ⟨S2x2x32, .f32⟩
  | 20 => ⟨S2x2048, .f32⟩
  | 21 => ⟨S2x1024, .f32⟩
  | 22 => ⟨S2x1024, .f32⟩
  | 23 => ⟨S1024, .f32⟩
  | 24 => ⟨S1024, .f32⟩
  | 25 => ⟨S2x6144, .f32⟩
  | 26 => ⟨S2x1024, .f32⟩
  | 27 => ⟨S2x5x1024, .f32⟩
  | 28 => ⟨S2x4096, .f32⟩
  | 29 => ⟨S2x2x32, .f32⟩
  | 30 => ⟨S2x2x32, .f32⟩
  | 31 => ⟨S2x2x32, .f32⟩
  | 32 => ⟨S2x2048, .f32⟩
  | 33 => ⟨S2x1024, .f32⟩
  | 34 => ⟨S2x1024, .f32⟩
  | 35 => ⟨S1024, .f32⟩
  | 36 => ⟨S1024, .f32⟩
  | 37 => ⟨S2x6144, .f32⟩
  | 38 => ⟨S2x1024, .f32⟩
  | 39 => ⟨S2x5x1024, .f32⟩
  | 40 => ⟨S2x4096, .f32⟩
  | 41 => ⟨S2x2x32, .f32⟩
  | 42 => ⟨S2x2x32, .f32⟩
  | 43 => ⟨S2x2x32, .f32⟩
  | 44 => ⟨S2x2048, .f32⟩
  | 45 => ⟨S2x1024, .f32⟩
  | 46 => ⟨S2x1024, .f32⟩
  | 47 => ⟨S1024, .f32⟩
  | 48 => ⟨S_, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S_, .f32⟩
  | 82 => ⟨S2x6144, .f32⟩
  | 83 => ⟨S2x6144, .f32⟩
  | 84 => ⟨S_, .f32⟩
  | 85 => ⟨S2x6144, .f32⟩
  | 86 => ⟨S2x6144, .f32⟩
  | 87 => ⟨S2x6144, .f32⟩
  | 88 => ⟨S_, .f32⟩
  | 89 => ⟨S2x6144, .f32⟩
  | 90 => ⟨S2x6144, .f32⟩
  | 91 => ⟨S2x6144, .f32⟩
  | 92 => ⟨S_, .f32⟩
  | 93 => ⟨S2x6144, .f32⟩
  | 94 => ⟨S2x6144, .f32⟩
  | 95 => ⟨S2x6144, .f32⟩
  | 96 => ⟨S_, .f32⟩
  | 97 => ⟨S2x6144, .f32⟩
  | 98 => ⟨S2x6144, .f32⟩
  | 99 => ⟨S_, .f32⟩
  | 100 => ⟨S2x6144, .f32⟩
  | 101 => ⟨S2x6144, .f32⟩
  | 102 => ⟨S2x6144, .f32⟩
  | 103 => ⟨S_, .f32⟩
  | 104 => ⟨S2x6144, .f32⟩
  | 105 => ⟨S2x6144, .f32⟩
  | 106 => ⟨S2x6144, .f32⟩
  | 107 => ⟨S_, .f32⟩
  | 108 => ⟨S2x6144, .f32⟩
  | 109 => ⟨S2x6144, .f32⟩
  | 110 => ⟨S2x6144, .f32⟩
  | 111 => ⟨S_, .f32⟩
  | 112 => ⟨S2x6144, .f32⟩
  | 113 => ⟨S2x6144, .f32⟩
  | 114 => ⟨S_, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S2x1024, .f32⟩
  | 121 => ⟨S_, .f32⟩
  | 122 => ⟨S2x1024, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S1024, .f32⟩

abbrev hbmTy0_1 (i : Nat) : BufTy := match i % 128 with
  | 0 => ⟨S2x1024, .f32⟩
  | 1 => ⟨S_, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S2x1024, .f32⟩
  | 8 => ⟨S_, .f32⟩
  | 9 => ⟨S2x1024, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S_, .f32⟩
  | 20 => ⟨S2x5x1024, .f32⟩
  | 21 => ⟨S2x5x1024, .f32⟩
  | 22 => ⟨S_, .f32⟩
  | 23 => ⟨S2x5x1024, .f32⟩
  | 24 => ⟨S2x5x1024, .f32⟩
  | 25 => ⟨S2x5x1024, .f32⟩
  | 26 => ⟨S_, .f32⟩
  | 27 => ⟨S2x5x1024, .f32⟩
  | 28 => ⟨S2x5x1024, .f32⟩
  | 29 => ⟨S2x5x1024, .f32⟩
  | 30 => ⟨S_, .f32⟩
  | 31 => ⟨S2x5x1024, .f32⟩
  | 32 => ⟨S2x5x1024, .f32⟩
  | 33 => ⟨S2x5x1024, .f32⟩
  | 34 => ⟨S_, .f32⟩
  | 35 => ⟨S2x5x1024, .f32⟩
  | 36 => ⟨S2x5x1024, .f32⟩
  | 37 => ⟨S_, .f32⟩
  | 38 => ⟨S2x5x1024, .f32⟩
  | 39 => ⟨S2x5x1024, .f32⟩
  | 40 => ⟨S2x5x1024, .f32⟩
  | 41 => ⟨S_, .f32⟩
  | 42 => ⟨S2x5x1024, .f32⟩
  | 43 => ⟨S2x5x1024, .f32⟩
  | 44 => ⟨S2x5x1024, .f32⟩
  | 45 => ⟨S_, .f32⟩
  | 46 => ⟨S2x5x1024, .f32⟩
  | 47 => ⟨S2x5x1024, .f32⟩
  | 48 => ⟨S2x5x1024, .f32⟩
  | 49 => ⟨S_, .f32⟩
  | 50 => ⟨S2x5x1024, .f32⟩
  | 51 => ⟨S2x5x1024, .f32⟩
  | 52 => ⟨S_, .f32⟩
  | 53 => ⟨S2x4096, .f32⟩
  | 54 => ⟨S2x4096, .f32⟩
  | 55 => ⟨S_, .f32⟩
  | 56 => ⟨S2x4096, .f32⟩
  | 57 => ⟨S2x4096, .f32⟩
  | 58 => ⟨S2x4096, .f32⟩
  | 59 => ⟨S_, .f32⟩
  | 60 => ⟨S2x4096, .f32⟩
  | 61 => ⟨S2x4096, .f32⟩
  | 62 => ⟨S2x4096, .f32⟩
  | 63 => ⟨S_, .f32⟩
  | 64 => ⟨S2x4096, .f32⟩
  | 65 => ⟨S2x4096, .f32⟩
  | 66 => ⟨S2x4096, .f32⟩
  | 67 => ⟨S_, .f32⟩
  | 68 => ⟨S2x4096, .f32⟩
  | 69 => ⟨S2x4096, .f32⟩
  | 70 => ⟨S_, .f32⟩
  | 71 => ⟨S2x4096, .f32⟩
  | 72 => ⟨S2x4096, .f32⟩
  | 73 => ⟨S2x4096, .f32⟩
  | 74 => ⟨S_, .f32⟩
  | 75 => ⟨S2x4096, .f32⟩
  | 76 => ⟨S2x4096, .f32⟩
  | 77 => ⟨S2x4096, .f32⟩
  | 78 => ⟨S_, .f32⟩
  | 79 => ⟨S2x4096, .f32⟩
  | 80 => ⟨S2x4096, .f32⟩
  | 81 => ⟨S2x4096, .f32⟩
  | 82 => ⟨S_, .f32⟩
  | 83 => ⟨S2x4096, .f32⟩
  | 84 => ⟨S2x4096, .f32⟩
  | 85 => ⟨S_, .f32⟩
  | 86 => ⟨S2x2x32, .f32⟩
  | 87 => ⟨S2x2x32, .f32⟩
  | 88 => ⟨S_, .f32⟩
  | 89 => ⟨S2x2x32, .f32⟩
  | 90 => ⟨S2x2x32, .f32⟩
  | 91 => ⟨S2x2x32, .f32⟩
  | 92 => ⟨S_, .f32⟩
  | 93 => ⟨S2x2x32, .f32⟩
  | 94 => ⟨S2x2x32, .f32⟩
  | 95 => ⟨S2x2x32, .f32⟩
  | 96 => ⟨S_, .f32⟩
  | 97 => ⟨S2x2x32, .f32⟩
  | 98 => ⟨S2x2x32, .f32⟩
  | 99 => ⟨S2x2x32, .f32⟩
  | 100 => ⟨S_, .f32⟩
  | 101 => ⟨S2x2x32, .f32⟩
  | 102 => ⟨S2x2x32, .f32⟩
  | 103 => ⟨S_, .f32⟩
  | 104 => ⟨S2x2x32, .f32⟩
  | 105 => ⟨S2x2x32, .f32⟩
  | 106 => ⟨S2x2x32, .f32⟩
  | 107 => ⟨S_, .f32⟩
  | 108 => ⟨S2x2x32, .f32⟩
  | 109 => ⟨S2x2x32, .f32⟩
  | 110 => ⟨S2x2x32, .f32⟩
  | 111 => ⟨S_, .f32⟩
  | 112 => ⟨S2x2x32, .f32⟩
  | 113 => ⟨S2x2x32, .f32⟩
  | 114 => ⟨S2x2x32, .f32⟩
  | 115 => ⟨S_, .f32⟩
  | 116 => ⟨S2x2x32, .f32⟩
  | 117 => ⟨S2x2x32, .f32⟩
  | 118 => ⟨S_, .f32⟩
  | 119 => ⟨S2x2x32, .f32⟩
  | 120 => ⟨S2x2x32, .f32⟩
  | 121 => ⟨S_, .f32⟩
  | 122 => ⟨S2x2x32, .f32⟩
  | 123 => ⟨S2x2x32, .f32⟩
  | 124 => ⟨S2x2x32, .f32⟩
  | 125 => ⟨S_, .f32⟩
  | 126 => ⟨S2x2x32, .f32⟩
  | 127 => ⟨S2x2x32, .f32⟩
  | _ => ⟨S1024, .f32⟩

abbrev hbmTy0_2 (i : Nat) : BufTy := match i % 128 with
  | 0 => ⟨S2x2x32, .f32⟩
  | 1 => ⟨S_, .f32⟩
  | 2 => ⟨S2x2x32, .f32⟩
  | 3 => ⟨S2x2x32, .f32⟩
  | 4 => ⟨S2x2x32, .f32⟩
  | 5 => ⟨S_, .f32⟩
  | 6 => ⟨S2x2x32, .f32⟩
  | 7 => ⟨S2x2x32, .f32⟩
  | 8 => ⟨S_, .f32⟩
  | 9 => ⟨S2x2x32, .f32⟩
  | 10 => ⟨S2x2x32, .f32⟩
  | 11 => ⟨S2x2x32, .f32⟩
  | 12 => ⟨S_, .f32⟩
  | 13 => ⟨S2x2x32, .f32⟩
  | 14 => ⟨S2x2x32, .f32⟩
  | 15 => ⟨S2x2x32, .f32⟩
  | 16 => ⟨S_, .f32⟩
  | 17 => ⟨S2x2x32, .f32⟩
  | 18 => ⟨S2x2x32, .f32⟩
  | 19 => ⟨S2x2x32, .f32⟩
  | 20 => ⟨S_, .f32⟩
  | 21 => ⟨S2x2x32, .f32⟩
  | 22 => ⟨S2x2x32, .f32⟩
  | 23 => ⟨S_, .f32⟩
  | 24 => ⟨S2x2x32, .f32⟩
  | 25 => ⟨S2x2x32, .f32⟩
  | 26 => ⟨S_, .f32⟩
  | 27 => ⟨S2x2x32, .f32⟩
  | 28 => ⟨S2x2x32, .f32⟩
  | 29 => ⟨S2x2x32, .f32⟩
  | 30 => ⟨S_, .f32⟩
  | 31 => ⟨S2x2x32, .f32⟩
  | 32 => ⟨S2x2x32, .f32⟩
  | 33 => ⟨S2x2x32, .f32⟩
  | 34 => ⟨S_, .f32⟩
  | 35 => ⟨S2x2x32, .f32⟩
  | 36 => ⟨S2x2x32, .f32⟩
  | 37 => ⟨S2x2x32, .f32⟩
  | 38 => ⟨S_, .f32⟩
  | 39 => ⟨S2x2x32, .f32⟩
  | 40 => ⟨S2x2x32, .f32⟩
  | 41 => ⟨S_, .f32⟩
  | 42 => ⟨S2x2x32, .f32⟩
  | 43 => ⟨S2x2x32, .f32⟩
  | 44 => ⟨S2x2x32, .f32⟩
  | 45 => ⟨S_, .f32⟩
  | 46 => ⟨S2x2x32, .f32⟩
  | 47 => ⟨S2x2x32, .f32⟩
  | 48 => ⟨S2x2x32, .f32⟩
  | 49 => ⟨S_, .f32⟩
  | 50 => ⟨S2x2x32, .f32⟩
  | 51 => ⟨S2x2x32, .f32⟩
  | 52 => ⟨S2x2x32, .f32⟩
  | 53 => ⟨S_, .f32⟩
  | 54 => ⟨S2x2x32, .f32⟩
  | 55 => ⟨S2x2x32, .f32⟩
  | 56 => ⟨S_, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S2x2048, .f32⟩
  | 63 => ⟨S_, .f32⟩
  | 64 => ⟨S2x2048, .f32⟩
  | 65 => ⟨S2x2048, .f32⟩
  | 66 => ⟨S2x2048, .f32⟩
  | 67 => ⟨S_, .f32⟩
  | 68 => ⟨S2x2048, .f32⟩
  | 69 => ⟨S2x2048, .f32⟩
  | 70 => ⟨S2x2048, .f32⟩
  | 71 => ⟨S_, .f32⟩
  | 72 => ⟨S2x2048, .f32⟩
  | 73 => ⟨S2x2048, .f32⟩
  | 74 => ⟨S_, .f32⟩
  | 75 => ⟨S2x2048, .f32⟩
  | 76 => ⟨S2x2048, .f32⟩
  | 77 => ⟨S2x2048, .f32⟩
  | 78 => ⟨S_, .f32⟩
  | 79 => ⟨S2x2048, .f32⟩
  | 80 => ⟨S2x2048, .f32⟩
  | 81 => ⟨S2x2048, .f32⟩
  | 82 => ⟨S_, .f32⟩
  | 83 => ⟨S2x2048, .f32⟩
  | 84 => ⟨S2x2048, .f32⟩
  | 85 => ⟨S2x2048, .f32⟩
  | 86 => ⟨S_, .f32⟩
  | 87 => ⟨S2x2048, .f32⟩
  | 88 => ⟨S2x2048, .f32⟩
  | 89 => ⟨S_, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S2x1024, .f32⟩
  | 119 => ⟨S_, .f32⟩
  | 120 => ⟨S2x1024, .f32⟩
  | 121 => ⟨S2x1024, .f32⟩
  | 122 => ⟨S_, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S1024, .f32⟩

abbrev hbmTy0_3 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024, .f32⟩
  | 34 => ⟨S_, .f32⟩
  | 35 => ⟨S1024, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S_, .f32⟩
  | 43 => ⟨S1024, .f32⟩
  | 44 => ⟨S1024, .f32⟩
  | 45 => ⟨S_, .f32⟩
  | 46 => ⟨S1024, .f32⟩
  | 47 => ⟨S1024, .f32⟩
  | 48 => ⟨S1024, .f32⟩
  | 49 => ⟨S_, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .f32⟩
  | 56 => ⟨S1024, .f32⟩
  | 57 => ⟨S_, .f32⟩
  | 58 => ⟨S1024, .f32⟩
  | 59 => ⟨S1024, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_cst : Ref sig .tc := ⟨.hbm, 48, rfl⟩
abbrev main_v0 : Ref sig .tc := ⟨.hbm, 49, rfl⟩
abbrev main_v1 : Ref sig .tc := ⟨.hbm, 50, rfl⟩
abbrev main_cst_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_cst_1 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_cst_2 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_3 : Ref sig .tc := ⟨.hbm, 63, rfl⟩
abbrev main_v11 : Ref sig .tc := ⟨.hbm, 64, rfl⟩
abbrev main_v12 : Ref sig .tc := ⟨.hbm, 65, rfl⟩
abbrev main_cst_4 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_cst_5 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_cst_6 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_cst_7 : Ref sig .tc := ⟨.hbm, 78, rfl⟩
abbrev main_v22 : Ref sig .tc := ⟨.hbm, 79, rfl⟩
abbrev main_v23 : Ref sig .tc := ⟨.hbm, 80, rfl⟩
abbrev main_cst_8 : Ref sig .tc := ⟨.hbm, 81, rfl⟩
abbrev main_v24 : Ref sig .tc := ⟨.hbm, 82, rfl⟩
abbrev main_v25 : Ref sig .tc := ⟨.hbm, 83, rfl⟩
abbrev main_cst_9 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_10 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_cst_11 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_12 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_14 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_15 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_cst_16 : Ref sig .tc := ⟨.hbm, 111, rfl⟩
abbrev main_v46 : Ref sig .tc := ⟨.hbm, 112, rfl⟩
abbrev main_v47 : Ref sig .tc := ⟨.hbm, 113, rfl⟩
abbrev main_cst_17 : Ref sig .tc := ⟨.hbm, 114, rfl⟩
abbrev main_v48 : Ref sig .tc := ⟨.hbm, 115, rfl⟩
abbrev main_v49 : Ref sig .tc := ⟨.hbm, 116, rfl⟩
abbrev main_cst_18 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_19 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_20 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_21 : Ref sig .tc := ⟨.hbm, 129, rfl⟩
abbrev main_v59 : Ref sig .tc := ⟨.hbm, 130, rfl⟩
abbrev main_v60 : Ref sig .tc := ⟨.hbm, 131, rfl⟩
abbrev main_cst_22 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_23 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_24 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_cst_25 : Ref sig .tc := ⟨.hbm, 144, rfl⟩
abbrev main_v70 : Ref sig .tc := ⟨.hbm, 145, rfl⟩
abbrev main_v71 : Ref sig .tc := ⟨.hbm, 146, rfl⟩
abbrev main_cst_26 : Ref sig .tc := ⟨.hbm, 147, rfl⟩
abbrev main_v72 : Ref sig .tc := ⟨.hbm, 148, rfl⟩
abbrev main_v73 : Ref sig .tc := ⟨.hbm, 149, rfl⟩
abbrev main_cst_27 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_28 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_29 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_cst_30 : Ref sig .tc := ⟨.hbm, 162, rfl⟩
abbrev main_v83 : Ref sig .tc := ⟨.hbm, 163, rfl⟩
abbrev main_v84 : Ref sig .tc := ⟨.hbm, 164, rfl⟩
abbrev main_cst_31 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_32 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_cst_33 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_34 : Ref sig .tc := ⟨.hbm, 177, rfl⟩
abbrev main_v94 : Ref sig .tc := ⟨.hbm, 178, rfl⟩
abbrev main_v95 : Ref sig .tc := ⟨.hbm, 179, rfl⟩
abbrev main_cst_35 : Ref sig .tc := ⟨.hbm, 180, rfl⟩
abbrev main_v96 : Ref sig .tc := ⟨.hbm, 181, rfl⟩
abbrev main_v97 : Ref sig .tc := ⟨.hbm, 182, rfl⟩
abbrev main_cst_36 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_cst_37 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_cst_38 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_cst_39 : Ref sig .tc := ⟨.hbm, 195, rfl⟩
abbrev main_v107 : Ref sig .tc := ⟨.hbm, 196, rfl⟩
abbrev main_v108 : Ref sig .tc := ⟨.hbm, 197, rfl⟩
abbrev main_cst_40 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_cst_41 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_cst_42 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_cst_43 : Ref sig .tc := ⟨.hbm, 210, rfl⟩
abbrev main_v118 : Ref sig .tc := ⟨.hbm, 211, rfl⟩
abbrev main_v119 : Ref sig .tc := ⟨.hbm, 212, rfl⟩
abbrev main_cst_44 : Ref sig .tc := ⟨.hbm, 213, rfl⟩
abbrev main_v120 : Ref sig .tc := ⟨.hbm, 214, rfl⟩
abbrev main_v121 : Ref sig .tc := ⟨.hbm, 215, rfl⟩
abbrev main_cst_45 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_cst_46 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_47 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_cst_48 : Ref sig .tc := ⟨.hbm, 228, rfl⟩
abbrev main_v131 : Ref sig .tc := ⟨.hbm, 229, rfl⟩
abbrev main_v132 : Ref sig .tc := ⟨.hbm, 230, rfl⟩
abbrev main_cst_49 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_cst_50 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_cst_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_52 : Ref sig .tc := ⟨.hbm, 243, rfl⟩
abbrev main_v142 : Ref sig .tc := ⟨.hbm, 244, rfl⟩
abbrev main_v143 : Ref sig .tc := ⟨.hbm, 245, rfl⟩
abbrev main_cst_53 : Ref sig .tc := ⟨.hbm, 246, rfl⟩
abbrev main_v144 : Ref sig .tc := ⟨.hbm, 247, rfl⟩
abbrev main_v145 : Ref sig .tc := ⟨.hbm, 248, rfl⟩
abbrev main_cst_54 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_cst_55 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_cst_56 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_cst_57 : Ref sig .tc := ⟨.hbm, 261, rfl⟩
abbrev main_v155 : Ref sig .tc := ⟨.hbm, 262, rfl⟩
abbrev main_v156 : Ref sig .tc := ⟨.hbm, 263, rfl⟩
abbrev main_cst_58 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_59 : Ref sig .tc := ⟨.hbm, 268, rfl⟩
abbrev main_v160 : Ref sig .tc := ⟨.hbm, 269, rfl⟩
abbrev main_v161 : Ref sig .tc := ⟨.hbm, 270, rfl⟩
abbrev main_v162 : Ref sig .tc := ⟨.hbm, 271, rfl⟩
abbrev main_cst_60 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_cst_61 : Ref sig .tc := ⟨.hbm, 276, rfl⟩
abbrev main_v166 : Ref sig .tc := ⟨.hbm, 277, rfl⟩
abbrev main_v167 : Ref sig .tc := ⟨.hbm, 278, rfl⟩
abbrev main_cst_62 : Ref sig .tc := ⟨.hbm, 279, rfl⟩
abbrev main_v168 : Ref sig .tc := ⟨.hbm, 280, rfl⟩
abbrev main_v169 : Ref sig .tc := ⟨.hbm, 281, rfl⟩
abbrev main_cst_63 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_cst_64 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_cst_65 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_cst_66 : Ref sig .tc := ⟨.hbm, 294, rfl⟩
abbrev main_v179 : Ref sig .tc := ⟨.hbm, 295, rfl⟩
abbrev main_v180 : Ref sig .tc := ⟨.hbm, 296, rfl⟩
abbrev main_cst_67 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_cst_68 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_cst_69 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_cst_70 : Ref sig .tc := ⟨.hbm, 309, rfl⟩
abbrev main_v190 : Ref sig .tc := ⟨.hbm, 310, rfl⟩
abbrev main_v191 : Ref sig .tc := ⟨.hbm, 311, rfl⟩
abbrev main_cst_71 : Ref sig .tc := ⟨.hbm, 312, rfl⟩
abbrev main_v192 : Ref sig .tc := ⟨.hbm, 313, rfl⟩
abbrev main_v193 : Ref sig .tc := ⟨.hbm, 314, rfl⟩
abbrev main_cst_72 : Ref sig .tc := ⟨.hbm, 315, rfl⟩
abbrev main_v194 : Ref sig .tc := ⟨.hbm, 316, rfl⟩
abbrev main_v195 : Ref sig .tc := ⟨.hbm, 317, rfl⟩
abbrev main_v196 : Ref sig .tc := ⟨.hbm, 318, rfl⟩
abbrev main_cst_73 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_cst_74 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_cst_75 : Ref sig .tc := ⟨.hbm, 327, rfl⟩
abbrev main_v203 : Ref sig .tc := ⟨.hbm, 328, rfl⟩
abbrev main_v204 : Ref sig .tc := ⟨.hbm, 329, rfl⟩
abbrev main_cst_76 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_cst_77 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_cst_78 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_cst_79 : Ref sig .tc := ⟨.hbm, 342, rfl⟩
abbrev main_v214 : Ref sig .tc := ⟨.hbm, 343, rfl⟩
abbrev main_v215 : Ref sig .tc := ⟨.hbm, 344, rfl⟩
abbrev main_cst_80 : Ref sig .tc := ⟨.hbm, 345, rfl⟩
abbrev main_v216 : Ref sig .tc := ⟨.hbm, 346, rfl⟩
abbrev main_v217 : Ref sig .tc := ⟨.hbm, 347, rfl⟩
abbrev main_cst_81 : Ref sig .tc := ⟨.hbm, 348, rfl⟩
abbrev main_v218 : Ref sig .tc := ⟨.hbm, 349, rfl⟩
abbrev main_v219 : Ref sig .tc := ⟨.hbm, 350, rfl⟩
abbrev main_v220 : Ref sig .tc := ⟨.hbm, 351, rfl⟩
abbrev main_cst_82 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_cst_83 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_84 : Ref sig .tc := ⟨.hbm, 360, rfl⟩
abbrev main_v227 : Ref sig .tc := ⟨.hbm, 361, rfl⟩
abbrev main_v228 : Ref sig .tc := ⟨.hbm, 362, rfl⟩
abbrev main_cst_85 : Ref sig .tc := ⟨.hbm, 363, rfl⟩
abbrev main_v229 : Ref sig .tc := ⟨.hbm, 364, rfl⟩
abbrev main_v230 : Ref sig .tc := ⟨.hbm, 365, rfl⟩
abbrev main_v231 : Ref sig .tc := ⟨.hbm, 366, rfl⟩
abbrev main_cst_86 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_cst_87 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_cst_88 : Ref sig .tc := ⟨.hbm, 375, rfl⟩
abbrev main_v238 : Ref sig .tc := ⟨.hbm, 376, rfl⟩
abbrev main_v239 : Ref sig .tc := ⟨.hbm, 377, rfl⟩
abbrev main_cst_89 : Ref sig .tc := ⟨.hbm, 378, rfl⟩
abbrev main_v240 : Ref sig .tc := ⟨.hbm, 379, rfl⟩
abbrev main_v241 : Ref sig .tc := ⟨.hbm, 380, rfl⟩
abbrev main_cst_90 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_cst_91 : Ref sig .tc := ⟨.hbm, 385, rfl⟩
abbrev main_v245 : Ref sig .tc := ⟨.hbm, 386, rfl⟩
abbrev main_v246 : Ref sig .tc := ⟨.hbm, 387, rfl⟩
abbrev main_v247 : Ref sig .tc := ⟨.hbm, 388, rfl⟩
abbrev main_cst_92 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_cst_93 : Ref sig .tc := ⟨.hbm, 393, rfl⟩
abbrev main_v251 : Ref sig .tc := ⟨.hbm, 394, rfl⟩
abbrev main_v252 : Ref sig .tc := ⟨.hbm, 395, rfl⟩
abbrev main_cst_94 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_95 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_96 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_cst_97 : Ref sig .tc := ⟨.hbm, 408, rfl⟩
abbrev main_v262 : Ref sig .tc := ⟨.hbm, 409, rfl⟩
abbrev main_v263 : Ref sig .tc := ⟨.hbm, 410, rfl⟩
abbrev main_cst_98 : Ref sig .tc := ⟨.hbm, 411, rfl⟩
abbrev main_v264 : Ref sig .tc := ⟨.hbm, 412, rfl⟩
abbrev main_v265 : Ref sig .tc := ⟨.hbm, 413, rfl⟩
abbrev main_cst_99 : Ref sig .tc := ⟨.hbm, 414, rfl⟩
abbrev main_v266 : Ref sig .tc := ⟨.hbm, 415, rfl⟩
abbrev main_v267 : Ref sig .tc := ⟨.hbm, 416, rfl⟩
abbrev main_v268 : Ref sig .tc := ⟨.hbm, 417, rfl⟩
abbrev main_cst_100 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_cst_101 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_cst_102 : Ref sig .tc := ⟨.hbm, 426, rfl⟩
abbrev main_v275 : Ref sig .tc := ⟨.hbm, 427, rfl⟩
abbrev main_v276 : Ref sig .tc := ⟨.hbm, 428, rfl⟩
abbrev main_cst_103 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_cst_104 : Ref sig .tc := ⟨.hbm, 433, rfl⟩
abbrev main_v280 : Ref sig .tc := ⟨.hbm, 434, rfl⟩
abbrev main_v281 : Ref sig .tc := ⟨.hbm, 435, rfl⟩
abbrev main_v282 : Ref sig .tc := ⟨.hbm, 436, rfl⟩
abbrev main_cst_105 : Ref sig .tc := ⟨.hbm, 437, rfl⟩
abbrev main_v283 : Ref sig .tc := ⟨.hbm, 438, rfl⟩
abbrev main_v284 : Ref sig .tc := ⟨.hbm, 439, rfl⟩
abbrev main_v285 : Ref sig .tc := ⟨.hbm, 440, rfl⟩
abbrev main_cst_106 : Ref sig .tc := ⟨.hbm, 441, rfl⟩
abbrev main_v286 : Ref sig .tc := ⟨.hbm, 442, rfl⟩
abbrev main_v287 : Ref sig .tc := ⟨.hbm, 443, rfl⟩

abbrev nD : Nat := 1
abbrev τ : Topo := Topo.v7x

variable {F : FTy → Type} [FloatOps F]
-- ==== Kernel10.lean ====
abbrev S1x1024 : Shape := ⟨2, ![1, 1024]⟩
abbrev S1024 : Shape := ⟨1, ![1024]⟩
abbrev S2x6144 : Shape := ⟨2, ![2, 6144]⟩
abbrev S1024x6144 : Shape := ⟨2, ![1024, 6144]⟩
abbrev S6144 : Shape := ⟨1, ![6144]⟩
abbrev S1024x4x1536 : Shape := ⟨3, ![1024, 4, 1536]⟩
abbrev S4x1024x1536 : Shape := ⟨3, ![4, 1024, 1536]⟩
abbrev S1x6144 : Shape := ⟨2, ![1, 6144]⟩
abbrev S_ : Shape := ⟨0, ![]⟩
abbrev S14x1024 : Shape := ⟨2, ![14, 1024]⟩
abbrev S16x1024 : Shape := ⟨2, ![16, 1024]⟩
abbrev S16x6144 : Shape := ⟨2, ![16, 6144]⟩
abbrev S1x1024x1536 : Shape := ⟨3, ![1, 1024, 1536]⟩
abbrev S16x1536 : Shape := ⟨2, ![16, 1536]⟩
abbrev S1024x1536 : Shape := ⟨2, ![1024, 1536]⟩
abbrev S14x6144 : Shape := ⟨2, ![14, 6144]⟩
abbrev S16x512 : Shape := ⟨2, ![16, 512]⟩
abbrev S1x512x1536 : Shape := ⟨3, ![1, 512, 1536]⟩
abbrev S512x1536 : Shape := ⟨2, ![512, 1536]⟩

abbrev nBuf : Space → Nat
  | .hbm => 28
  | .vmem => 24
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x6144, .f32⟩
  | .hbm, ⟨3, _⟩ => ⟨S1024x6144, .f32⟩
  | .hbm, ⟨4, _⟩ => ⟨S6144, .f32⟩
  | .hbm, ⟨5, _⟩ => ⟨S1024x6144, .bf16⟩
  | .hbm, ⟨6, _⟩ => ⟨S1024x4x1536, .bf16⟩
  | .hbm, ⟨7, _⟩ => ⟨S4x1024x1536, .bf16⟩
  | .hbm, ⟨8, _⟩ => ⟨S1x6144, .f32⟩
  | .hbm, ⟨9, _⟩ => ⟨S1x1024, .f32⟩
  | .hbm, ⟨10, _⟩ => ⟨S_, .f32⟩
  | .hbm, ⟨11, _⟩ => ⟨S14x1024, .f32⟩
  | .hbm, ⟨12, _⟩ => ⟨S16x1024, .f32⟩
  | .hbm, ⟨13, _⟩ => ⟨S16x1024, .bf16⟩
  | .hbm, ⟨14, _⟩ => ⟨S16x6144, .f32⟩
  | .hbm, ⟨15, _⟩ => ⟨S_, .f32⟩
  | .hbm, ⟨16, _⟩ => ⟨S14x6144, .f32⟩
  | .hbm, ⟨17, _⟩ => ⟨S16x6144, .f32⟩
  | .hbm, ⟨18, _⟩ => ⟨S16x6144, .bf16⟩
  | .hbm, ⟨19, _⟩ => ⟨S1x6144, .f32⟩
  | .hbm, ⟨20, _⟩ => ⟨S16x1024, .f32⟩
  | .hbm, ⟨21, _⟩ => ⟨S4x1024x1536, .f32⟩
  | .hbm, ⟨22, _⟩ => ⟨S16x1024, .f32⟩
  | .hbm, ⟨23, _⟩ => ⟨S1x1024, .f32⟩
  | .hbm, ⟨24, _⟩ => ⟨S1024, .f32⟩
  | .hbm, ⟨25, _⟩ => ⟨S1024x4x1536, .f32⟩
  | .hbm, ⟨26, _⟩ => ⟨S1024x6144, .f32⟩
  | .hbm, ⟨27, _⟩ => ⟨S6144, .f32⟩
  | .local _ .vmem, ⟨0, _⟩ => ⟨S16x1024, .f32⟩
  | .local _ .vmem, ⟨1, _⟩ => ⟨S16x1024, .bf16⟩
  | .local _ .vmem, ⟨2, _⟩ => ⟨S16x1024, .bf16⟩
  | .local _ .vmem, ⟨3, _⟩ => ⟨S1x1024x1536, .bf16⟩
  | .local _ .vmem, ⟨4, _⟩ => ⟨S1x1024x1536, .bf16⟩
  | .local _ .vmem, ⟨5, _⟩ => ⟨S16x1536, .f32⟩
  | .local _ .vmem, ⟨6, _⟩ => ⟨S16x1536, .f32⟩
  | .local _ .vmem, ⟨7, _⟩ => ⟨S16x6144, .f32⟩
  | .local _ .vmem, ⟨8, _⟩ => ⟨S1x6144, .f32⟩
  | .local _ .vmem, ⟨9, _⟩ => ⟨S16x6144, .f32⟩
  | .local _ .vmem, ⟨10, _⟩ => ⟨S16x6144, .bf16⟩
  | .local _ .vmem, ⟨11, _⟩ => ⟨S1x6144, .f32⟩
  | .local _ .vmem, ⟨12, _⟩ => ⟨S16x6144, .bf16⟩
  | .local _ .vmem, ⟨13, _⟩ => ⟨S4x1024x1536, .bf16⟩
  | .local _ .vmem, ⟨14, _⟩ => ⟨S16x1024, .f32⟩
  | .local _ .vmem, ⟨15, _⟩ => ⟨S16x512, .bf16⟩
  | .local _ .vmem, ⟨16, _⟩ => ⟨S16x512, .bf16⟩
  | .local _ .vmem, ⟨17, _⟩ => ⟨S16x1536, .bf16⟩
  | .local _ .vmem, ⟨18, _⟩ => ⟨S16x1536, .bf16⟩
  | .local _ .vmem, ⟨19, _⟩ => ⟨S1x512x1536, .f32⟩
  | .local _ .vmem, ⟨20, _⟩ => ⟨S1x512x1536, .f32⟩
  | .local _ .vmem, ⟨21, _⟩ => ⟨S16x1024, .f32⟩
  | .local _ .vmem, ⟨22, _⟩ => ⟨S16x1024, .f32⟩
  | .local _ .vmem, ⟨23, _⟩ => ⟨S16x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc4_stg0_0 : Ref sig .tc := ⟨.vmem, 15, rfl⟩
abbrev cc4_stg0_1 : Ref sig .tc := ⟨.vmem, 16, rfl⟩
abbrev cc4_stg1_0 : Ref sig .tc := ⟨.vmem, 17, rfl⟩
abbrev cc4_stg1_1 : Ref sig .tc := ⟨.vmem, 18, rfl⟩
abbrev cc4_stg2_0 : Ref sig .tc := ⟨.vmem, 19, rfl⟩
abbrev cc4_stg2_1 : Ref sig .tc := ⟨.vmem, 20, rfl⟩
abbrev cc5_stg0_0 : Ref sig .tc := ⟨.vmem, 21, rfl⟩
abbrev cc5_stg1_0 : Ref sig .tc := ⟨.vmem, 22, rfl⟩
abbrev cc5_stg2_0 : Ref sig .tc := ⟨.vmem, 23, rfl⟩
abbrev cc0_sem0_0 : DmaSem sig := 0
abbrev cc0_sem1_0 : DmaSem sig := 1
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc2_sem0_0 : DmaSem sig := 7
abbrev cc2_sem1_0 : DmaSem sig := 8
abbrev cc2_sem2_0 : DmaSem sig := 9
abbrev cc2_sem3_0 : DmaSem sig := 10
abbrev cc2_sem4_0 : DmaSem sig := 11
abbrev cc3_sem0_0 : DmaSem sig := 12
abbrev cc3_sem1_0 : DmaSem sig := 13
abbrev cc3_sem2_0 : DmaSem sig := 14
abbrev cc4_sem0_0 : DmaSem sig := 15
abbrev cc4_sem0_1 : DmaSem sig := 16
abbrev cc4_sem1_0 : DmaSem sig := 17
abbrev cc4_sem1_1 : DmaSem sig := 18
abbrev cc4_sem2_0 : DmaSem sig := 19
abbrev cc4_sem2_1 : DmaSem sig := 20
abbrev cc5_sem0_0 : DmaSem sig := 21
abbrev cc5_sem1_0 : DmaSem sig := 22
abbrev cc5_sem2_0 : DmaSem sig := 23

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S16x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S16x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S1x1024x1536 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def k2_cond1 (i : grid2.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_3 : BitVec 32 := 0#32
  let v8 : BitVec 1 := Scalar.cmpi .ne v7 c0_i32_3
  v8

def k2_cond2 (i : grid2.Coords) : BitVec 1 :=
  let arg1 : BitVec 32 := BitVec.ofNat 32 (i 1).val
  let c0_i32 : BitVec 32 := 0#32
  let v6 : BitVec 1 := Scalar.cmpi .eq arg1 c0_i32
  let v_true : BitVec 1 := 1#1
  let v9 : BitVec 1 := Scalar.xori v6 v_true
  let v10 : BitVec 32 := Scalar.extui v9
  let c0_i32_4 : BitVec 32 := 0#32
  let v11 : BitVec 1 := Scalar.cmpi .ne v10 c0_i32_4
  v11

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![c0_i32_1.toNat, c0_i32_2.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  ![c0_i32_1.toNat, c0_i32_2.toNat]

abbrev stage2_0 : Fin 1 → Memref sig .tc .vmem S16x6144 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S1x6144 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S16x6144 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S16x6144 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, true]

abbrev stage2_4 : Fin 1 → Memref sig .tc .vmem S1x6144 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .vmem S16x6144 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 1 → Memref sig .tc .vmem S4x1024x1536 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S16x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 2 → Memref sig .tc .vmem S16x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S16x1536 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512x1536 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let c0_i32_0 : BitVec 32 := 0#32
  let v1 : BitVec 32 := Scalar.select v0 c1_i32 c0_i32_0
  let c0_i32_1 : BitVec 32 := 0#32
  let v2 : BitVec 32 := Scalar.addi arg1 c0_i32_1
  let c0_i32_2 : BitVec 32 := 0#32
  let c0_i32_3 : BitVec 32 := 0#32
  ![v2.toNat, c0_i32_2.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage5_0 : Fin 1 → Memref sig .tc .vmem S16x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true]

abbrev stage5_1 : Fin 1 → Memref sig .tc .vmem S16x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S16x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]
-- ==== Reference10Ideal.lean ====
abbrev S1x1024 : Shape := ⟨2, ![1, 1024]⟩
abbrev S1024 : Shape := ⟨1, ![1024]⟩
abbrev S2x6144 : Shape := ⟨2, ![2, 6144]⟩
abbrev S1024x6144 : Shape := ⟨2, ![1024, 6144]⟩
abbrev S6144 : Shape := ⟨1, ![6144]⟩
abbrev S_ : Shape := ⟨0, ![]⟩
abbrev S1x6144 : Shape := ⟨2, ![1, 6144]⟩
abbrev S6144x1024 : Shape := ⟨2, ![6144, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1024, .f32⟩
  | .hbm, ⟨2, _⟩ => ⟨S2x6144, .f32⟩
  | .hbm, ⟨3, _⟩ => ⟨S1024x6144, .f32⟩
  | .hbm, ⟨4, _⟩ => ⟨S6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x6144, .f32⟩
  | .hbm, ⟨20, _⟩ => ⟨S1x6144, .f32⟩
  | .hbm, ⟨21, _⟩ => ⟨S1x6144, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S1x6144, .f32⟩
  | .hbm, ⟨35, _⟩ => ⟨S1x6144, .f32⟩
  | .hbm, ⟨36, _⟩ => ⟨S_, .f32⟩
  | .hbm, ⟨37, _⟩ => ⟨S6144, .f32⟩
  | .hbm, ⟨38, _⟩ => ⟨S6144x1024, .f32⟩
  | .hbm, ⟨39, _⟩ => ⟨S1024x6144, .f32⟩
  | .hbm, ⟨40, _⟩ => ⟨S_, .f32⟩
  | .hbm, ⟨41, _⟩ => ⟨S6144, .f32⟩
  | .hbm, ⟨42, _⟩ => ⟨S6144, .f32⟩
  | .hbm, ⟨43, _⟩ => ⟨S6144x1024, .f32⟩
  | .hbm, ⟨44, _⟩ => ⟨S1024x6144, .f32⟩
  | .hbm, ⟨45, _⟩ => ⟨S1024x6144, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v20 : Ref sig .tc := ⟨.hbm, 50, rfl⟩
abbrev main_cst_1 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Model.lean ====
/- The gradient of one channel of the centred convolution with its silu, as arithmetic over row numbers.

   A channel's rows are two sequences, the 256 context rows and the 4096 latent rows. The first form (`gap`, `kpre`,
   `kd`) keeps both in one column of 4368 rows with eight zero rows after each, and shifts that column around its end.
   The second form (`up`, `spre`, `sd`, `sdup`) has each sequence by itself between two zero rows at either end. This
   file proves that the two forms agree. -/
module

public import Idealize.ShloMosaic.PureOps.Ideal

@[expose] public section

noncomputable section

namespace Cert.ConvGrad

open Idealize.ShloMosaic

/-! ## The slope of silu -/

/-- Over a finite incoming gradient `c` the two ways to write the slope of silu agree: `c · σ(x) · (1 + x · (1 − σ(x)))`,
    and the sum of the two terms of the product rule. -/
theorem silu_slope (c : ℝ) (x : EReal) :
    (c : EReal) * (Ideal.logistic x * (1 + x * (1 - Ideal.logistic x)))
      = (c : EReal) * Ideal.logistic x + x * (c : EReal) * (Ideal.logistic x * (1 - Ideal.logistic x)) := by
  induction x with
  | bot => simp
  | top =>
    have h : (1 : EReal) - 1 = 0 := by
      rw [← EReal.coe_one, ← EReal.coe_sub, sub_self, EReal.coe_zero]
    simp [h]
  | coe r =>
    rw [Ideal.logistic_coe]
    generalize (1 + Real.exp (-r))⁻¹ = s
    simp only [← EReal.coe_one, ← EReal.coe_sub, ← EReal.coe_mul, ← EReal.coe_add]
    congr 1
    ring

/-! ## One column of 4368 rows, with the gaps -/

/-- A column laid out with its gaps: rows 0–255, eight zeros, rows 256–4351, eight zeros. -/
def gap (U : ℕ → EReal) (p : ℕ) : EReal :=
  if p < 256 then U p else if p < 264 then 0 else if p < 4360 then U (p - 8) else 0

/-- Row `p` of the convolution over the column with gaps, before its silu. -/
def kpre (w : ℕ → EReal) (b : EReal) (U : ℕ → EReal) (p : ℕ) : EReal :=
  b + w 0 * gap U ((p + 4366) % 4368) + w 1 * gap U ((p + 4367) % 4368) + w 2 * gap U p
    + w 3 * gap U ((p + 1) % 4368) + w 4 * gap U ((p + 2) % 4368)

/-- Row `p` of the gradient of `kpre`, from the gradient `C` of the activation. -/
def kd (w : ℕ → EReal) (b : EReal) (U C : ℕ → EReal) (p : ℕ) : EReal :=
  gap C p * (Ideal.logistic (kpre w b U p) * (1 + kpre w b U p * (1 - Ideal.logistic (kpre w b U p))))

/-- Row `p` of the gradient of the convolution's input, in the column with gaps. -/
def kdu (w : ℕ → EReal) (b : EReal) (U C : ℕ → EReal) (p : ℕ) : EReal :=
  0 + w 0 * kd w b U C ((p + 2) % 4368) + w 1 * kd w b U C ((p + 1) % 4368) + w 2 * kd w b U C p
    + w 3 * kd w b U C ((p + 4367) % 4368) + w 4 * kd w b U C ((p + 4366) % 4368)

/-! ## A sequence of `n` rows between zeros -/

/-- A sequence of `n` rows with two zero rows before it and two after it. -/
def up (n : ℕ) (u : ℕ → EReal) (q : ℕ) : EReal := if 2 ≤ q ∧ q < n + 2 then u (q - 2) else 0

/-- Row `l` of the convolution of the sequence, before its silu. -/
def spre (n : ℕ) (w : ℕ → EReal) (b : EReal) (u : ℕ → EReal) (l : ℕ) : EReal :=
  b + w 0 * up n u l + w 1 * up n u (l + 1) + w 2 * up n u (l + 2) + w 3 * up n u (l + 3) + w 4 * up n u (l + 4)

/-- Row `l` of the gradient of `spre`, by the product rule. -/
def sd (n : ℕ) (w : ℕ → EReal) (b : EReal) (u c : ℕ → EReal) (l : ℕ) : EReal :=
  c l * Ideal.logistic (spre n w b u l)
    + spre n w b u l * c l * (Ideal.logistic (spre n w b u l) * (1 - Ideal.logistic (spre n w b u l)))

/-- A sequence of `n` rows moved down by `k`, zero elsewhere. -/
def moved (n : ℕ) (d : ℕ → EReal) (k q : ℕ) : EReal := if k ≤ q ∧ q < n + k then d (q - k) else 0

/-- Row `q` of the gradient of the sequence between zeros: each tap hands its part back to the rows it read. -/
def sdup (n : ℕ) (w : ℕ → EReal) (d : ℕ → EReal) (q : ℕ) : EReal :=
  w 4 * moved n d 4 q + w 3 * moved n d 3 q + w 2 * moved n d 2 q + w 1 * moved n d 1 q + w 0 * moved n d 0 q

/-! ## The two forms agree -/

/-- Where a sequence of `n` rows lies: from row `s` of the column, and from row `o` of the column with gaps. -/
def Lies (n s o : ℕ) : Prop := (n = 256 ∧ s = 0 ∧ o = 0) ∨ (n = 4096 ∧ s = 256 ∧ o = 264)

variable {n s o : ℕ} (hl : Lies n s o)
include hl

theorem gap_up (U : ℕ → EReal) (l j : ℕ) (hn : l < n) (hj : j < 5) :
    gap U ((o + l + j + 4366) % 4368) = up n (fun r => U (s + r)) (l + j) := by
  unfold gap up
  rcases hl with ⟨rfl, rfl, rfl⟩ | ⟨rfl, rfl, rfl⟩
  · by_cases h : 2 ≤ l + j
    · rw [show (0 + l + j + 4366) % 4368 = l + j - 2 by omega]
      by_cases h' : l + j < 258
      · rw [if_pos (by omega), if_pos (by omega)]; congr 1; omega
      · rw [if_neg (by omega), if_pos (by omega), if_neg (by omega)]
    · rw [show (0 + l + j + 4366) % 4368 = l + j + 4366 by omega, if_neg (by omega), if_neg (by omega),
        if_neg (by omega), if_neg (by omega)]
  · rw [show (264 + l + j + 4366) % 4368 = 262 + l + j by omega, if_neg (by omega)]
    by_cases h : 2 ≤ l + j
    · rw [if_neg (by omega)]
      by_cases h' : l + j < 4098
      · rw [if_pos (by omega), if_pos (by omega)]; congr 1; omega
      · rw [if_neg (by omega), if_neg (by omega)]
    · rw [if_pos (by omega), if_neg (by omega)]

theorem gap_at (U : ℕ → EReal) (l : ℕ) (hn : l < n) : gap U (o + l) = U (s + l) := by
  unfold gap
  rcases hl with ⟨rfl, rfl, rfl⟩ | ⟨rfl, rfl, rfl⟩
  · rw [if_pos (by omega)]
  · rw [if_neg (by omega), if_neg (by omega), if_pos (by omega)]; congr 1; omega

theorem lies_lt (l : ℕ) (hn : l < n) : o + l < 4368 := by
  rcases hl with ⟨rfl, rfl, rfl⟩ | ⟨rfl, rfl, rfl⟩ <;> omega

theorem kpre_eq (w : ℕ → EReal) (b : EReal) (U : ℕ → EReal) (l : ℕ) (hn : l < n) :
    kpre w b U (o + l) = spre n w b (fun r => U (s + r)) l := by
  have hlt := lies_lt hl l hn
  unfold kpre spre
  rw [← gap_up hl U l 1 hn (by omega), ← gap_up hl U l 2 hn (by omega), ← gap_up hl U l 3 hn (by omega),
    ← gap_up hl U l 4 hn (by omega)]
  have h0 := gap_up hl U l 0 hn (by omega)
  simp only [Nat.add_zero] at h0
  rw [← h0, show (o + l + 2 + 4366) % 4368 = o + l by omega, show (o + l + 1 + 4366) = o + l + 4367 by omega,
    show (o + l + 3 + 4366) % 4368 = (o + l + 1) % 4368 by omega, show (o + l + 4 + 4366) % 4368 = (o + l + 2) % 4368 by omega]

theorem kd_eq (w : ℕ → EReal) (b : EReal) (U C : ℕ → EReal) (hC : ∀ r, ∃ x : ℝ, C r = x) (l : ℕ) (hn : l < n) :
    kd w b U C (o + l) = sd n w b (fun r => U (s + r)) (fun r => C (s + r)) l := by
  unfold kd sd
  rw [gap_at hl C l hn, kpre_eq hl w b U l hn]
  obtain ⟨x, hx⟩ := hC (s + l)
  simp only [hx]
  exact silu_slope x _

omit hl in
theorem kd_zero (w : ℕ → EReal) (b : EReal) (U C : ℕ → EReal) (p : ℕ) (h : gap C p = 0) : kd w b U C p = 0 := by
  unfold kd; rw [h, zero_mul]

theorem kd_moved (w : ℕ → EReal) (b : EReal) (U C : ℕ → EReal) (hC : ∀ r, ∃ x : ℝ, C r = x) (l j : ℕ) (hn : l < n)
    (hj : j < 5) :
    kd w b U C ((o + l + (4370 - j)) % 4368)
      = moved n (sd n w b (fun r => U (s + r)) (fun r => C (s + r))) j (l + 2) := by
  unfold moved
  by_cases h : j ≤ l + 2 ∧ l + 2 < n + j
  · rw [if_pos h, ← kd_eq hl w b U C hC (l + 2 - j) (by omega)]
    have := lies_lt hl (l + 2 - j) (by omega)
    congr 1; omega
  · rw [if_neg h]
    refine kd_zero w b U C _ ?_
    unfold gap
    rcases hl with ⟨rfl, rfl, rfl⟩ | ⟨rfl, rfl, rfl⟩
    · by_cases h' : j ≤ l + 2
      · rw [show (0 + l + (4370 - j)) % 4368 = l + 2 - j by omega, if_neg (by omega), if_pos (by omega)]
      · rw [show (0 + l + (4370 - j)) % 4368 = l + (4370 - j) by omega, if_neg (by omega), if_neg (by omega),
          if_neg (by omega)]
    · rw [show (264 + l + (4370 - j)) % 4368 = 264 + l + 2 - j by omega, if_neg (by omega)]
      by_cases h' : j ≤ l + 2
      · rw [if_neg (by omega), if_neg (by omega)]
      · rw [if_pos (by omega)]

theorem kdu_eq (w : ℕ → EReal) (b : EReal) (U C : ℕ → EReal) (hC : ∀ r, ∃ x : ℝ, C r = x) (l : ℕ) (hn : l < n) :
    kdu w b U C (o + l) = sdup n w (sd n w b (fun r => U (s + r)) (fun r => C (s + r))) (l + 2) := by
  have hlt := lies_lt hl l hn
  have h0 := kd_moved hl w b U C hC l 0 hn (by omega)
  have h1 := kd_moved hl w b U C hC l 1 hn (by omega)
  have h2 := kd_moved hl w b U C hC l 2 hn (by omega)
  have h3 := kd_moved hl w b U C hC l 3 hn (by omega)
  have h4 := kd_moved hl w b U C hC l 4 hn (by omega)
  rw [show (o + l + (4370 - 0)) % 4368 = (o + l + 2) % 4368 by omega] at h0
  rw [show (o + l + (4370 - 1)) % 4368 = (o + l + 1) % 4368 by omega] at h1
  rw [show (o + l + (4370 - 2)) % 4368 = o + l by omega] at h2
  unfold kdu sdup
  rw [h0, h1, h2, show o + l + 4367 = o + l + (4370 - 3) by omega, h3, show o + l + 4366 = o + l + (4370 - 4) by omega, h4,
    zero_add]
  generalize w 0 * _ = a0, w 1 * _ = a1, w 2 * _ = a2, w 3 * _ = a3, w 4 * _ = a4
  abel

omit hl in
/-- A sum over the column with gaps whose terms vanish in the gaps is the sum over the two sequences. -/
theorem sum_gap (f : ℕ → EReal) (C : ℕ → EReal) (hf : ∀ p, gap C p = 0 → f p = 0) :
    ∑ p : Fin 4368, f p = ∑ l : Fin 4096, f (264 + l) + ∑ l : Fin 256, f (0 + l) := by
  rw [Fin.sum_univ_eq_sum_range f 4368, Fin.sum_univ_eq_sum_range (fun l => f (264 + l)) 4096,
    Fin.sum_univ_eq_sum_range (fun l => f (0 + l)) 256, show 4368 = 264 + 4096 + 8 from rfl, Finset.sum_range_add,
    Finset.sum_range_add, show 264 = 256 + 8 from rfl, Finset.sum_range_add]
  rw [Finset.sum_eq_zero (s := Finset.range 8) (f := fun x => f (256 + 8 + 4096 + x)) (fun x hx => hf _ (by
      unfold gap; rw [if_neg (by omega), if_neg (by omega), if_neg (by omega)])),
    Finset.sum_eq_zero (s := Finset.range 8) (f := fun x => f (256 + x)) (fun x hx => hf _ (by
      have := Finset.mem_range.mp hx
      unfold gap; rw [if_neg (by omega), if_pos (by omega)]))]
  rw [add_zero, add_zero, add_comm]
  simp only [Nat.zero_add]

omit hl in
/-- The gradient of tap `k`: the sum over the column with gaps is the sum over the latent rows plus the sum over the
    context rows. -/
theorem kdw_eq (w : ℕ → EReal) (b : EReal) (U C : ℕ → EReal) (hC : ∀ r, ∃ x : ℝ, C r = x) (k : ℕ) (hk : k < 5) :
    ∑ p : Fin 4368, kd w b U C p * gap U ((p.val + k + 4366) % 4368)
      = ∑ l : Fin 4096, sd 4096 w b (fun r => U (256 + r)) (fun r => C (256 + r)) l
            * up 4096 (fun r => U (256 + r)) (l.val + k)
        + ∑ l : Fin 256, sd 256 w b (fun r => U (0 + r)) (fun r => C (0 + r)) l
            * up 256 (fun r => U (0 + r)) (l.val + k) := by
  rw [sum_gap (fun p => kd w b U C p * gap U ((p + k + 4366) % 4368)) C
    (fun p hp => by rw [kd_zero w b U C p hp, zero_mul])]
  congr 1
  · refine Finset.sum_congr rfl fun l _ => ?_
    rw [kd_eq (.inr ⟨rfl, rfl, rfl⟩) w b U C hC l l.isLt, gap_up (.inr ⟨rfl, rfl, rfl⟩) U l k l.isLt hk]
  · refine Finset.sum_congr rfl fun l _ => ?_
    rw [kd_eq (.inl ⟨rfl, rfl, rfl⟩) w b U C hC l l.isLt, gap_up (.inl ⟨rfl, rfl, rfl⟩) U l k l.isLt hk]

omit hl in
/-- The gradient of the bias, likewise. -/
theorem kdb_eq (w : ℕ → EReal) (b : EReal) (U C : ℕ → EReal) (hC : ∀ r, ∃ x : ℝ, C r = x) :
    ∑ p : Fin 4368, kd w b U C p
      = ∑ l : Fin 4096, sd 4096 w b (fun r => U (256 + r)) (fun r => C (256 + r)) l
        + ∑ l : Fin 256, sd 256 w b (fun r => U (0 + r)) (fun r => C (0 + r)) l := by
  rw [sum_gap (kd w b U C) C (fun p hp => kd_zero w b U C p hp)]
  congr 1
  · exact Finset.sum_congr rfl fun l _ => kd_eq (.inr ⟨rfl, rfl, rfl⟩) w b U C hC l l.isLt
  · exact Finset.sum_congr rfl fun l _ => kd_eq (.inl ⟨rfl, rfl, rfl⟩) w b U C hC l l.isLt

end Cert.ConvGrad
-- ==== Proof.Block.lean ====
/- What the kernel leaves in the block of one grid point, column by column: the arithmetic of `Model` over the
   column's rows. -/
module

public import proofs.«01_k».proof.Proof.Gen.KernelIdeal.Value
public import proofs.«01_k».proof.Proof.Model
public import Idealize.ShloMosaic.Lib.Pointwise

@[expose] public section

noncomputable section

namespace Cert.ConvGrad

open Cert.KernelIdeal Cert.KernelIdeal.Gen Idealize.ShloMosaic

/-! ## Columns and taps -/

/-- One column of an array of 4352 rows, by row number, 0 past its last row. -/
def col {n : ℕ} (x : (⟨2, ![4352, n]⟩ : Shape).Idx → EReal) (l : Fin n) (r : ℕ) : EReal :=
  if h : r < 4352 then x (ix2 ⟨r, h⟩ l) else 0

/-- The five taps of one column. -/
def taps {n : ℕ} (x : (⟨2, ![5, n]⟩ : Shape).Idx → EReal) (l : Fin n) (k : ℕ) : EReal :=
  if h : k < 5 then x (ix2 ⟨k, h⟩ l) else 0

/-- The gradient of the activation in one column of block `t`: two arrays, and in every second pair of blocks a third. -/
def blkC (t : ℕ) (x3 x4 x5 : S4352x128.Idx → EReal) (l : Fin 128) (r : ℕ) : EReal :=
  col x3 l r + col x4 l r + if t % 4 < 2 then col x5 l r else 0

/-! ## The values of the body -/

theorem pay4_apply (v : FVec Ideal S4352x128 .bf16) (p : Fin 4368) (l : Fin 128) :
    k0_pay4 (F := Ideal) v (ix2 p l) = gap (col v l) p := by
  have hp := p.isLt
  pointwise [k0_pay4]
  unfold gap col
  by_cases h1 : p.val < 256
  · rw [dif_pos h1, if_pos h1, dif_pos (by omega)]
  · rw [dif_neg h1, if_neg h1]
    by_cases h2 : p.val < 264
    · rw [dif_pos (by omega), if_pos h2]
    · rw [dif_neg (by omega), if_neg h2]
      by_cases h3 : p.val < 4360
      · rw [dif_pos (by omega), if_pos h3, dif_pos (by omega)]
        congr 2; ext; show 256 + (p.val - 256 - 8) = p.val - 8; omega
      · rw [dif_neg (by omega), if_neg h3]

set_option maxRecDepth 20000 in
theorem pay5_apply (v : FVec Ideal S4352x128 .bf16) (b w0 w1 w2 w3 w4 : FVec Ideal S1x128 .f32) (w : ℕ → EReal)
    (p : Fin 4368) (l : Fin 128) (h0 : w0 (ix2 0 l) = w 0) (h1 : w1 (ix2 0 l) = w 1) (h2 : w2 (ix2 0 l) = w 2)
    (h3 : w3 (ix2 0 l) = w 3) (h4 : w4 (ix2 0 l) = w 4) :
    k0_pay5 (F := Ideal) v b w0 w1 w2 w3 w4 (ix2 p l) = kpre w (b (ix2 0 l)) (col v l) p := by
  pointwise [k0_pay5]
  simp only [pay4_apply, h0, h1, h2, h3, h4]
  unfold kpre
  rw [show (p.val + 4368 - 2) % 4368 = (p.val + 4366) % 4368 by omega,
    show (p.val + 4368 - 1) % 4368 = (p.val + 4367) % 4368 by omega,
    show (p.val + 4368 - 4367) % 4368 = (p.val + 1) % 4368 by omega,
    show (p.val + 4368 - 4366) % 4368 = (p.val + 2) % 4368 by omega]

/-- The number of a block modulo 4, as the kernel computes it: a remainder, moved up by 4 where its sign differs. -/
def mod4 (i : BitVec 32) : BitVec 32 :=
  let four : BitVec 32 := Scalar.select (Scalar.cmpi .eq 4#32 0#32) 1#32 4#32
  Scalar.select
    (Scalar.andi (Scalar.xori (Scalar.cmpi .slt (Scalar.remsi i four) 0#32) (Scalar.cmpi .slt four 0#32))
      (Scalar.cmpi .ne (Scalar.remsi i four) 0#32))
    (Scalar.addi (Scalar.remsi i four) four) (Scalar.remsi i four)

/-- Of the 32 blocks, those with the third gradient. -/
theorem third_iff : ∀ t : Fin 32,
    Scalar.cmpi .slt (mod4 (BitVec.ofNat 32 t.val)) 2#32 = if t.val % 4 < 2 then 1#1 else 0#1 := by
  decide +kernel

theorem select_third (t : Fin 32) (a b : EReal) :
    Scalar.select (Scalar.cmpi .slt (mod4 (BitVec.ofNat 32 t.val)) 2#32) a b = if t.val % 4 < 2 then a else b := by
  rw [third_iff]
  split_ifs <;> rfl

set_option maxRecDepth 20000 in
theorem pay8_apply (t : Fin 32) (x y : FVec Ideal S4368x128 .f32) (z : FVec Ideal S4352x128 .f32)
    (q r : FVec Ideal S4352x128 .bf16) (p : Fin 4368) (l : Fin 128) :
    k0_pay8 (F := Ideal) (BitVec.ofNat 32 t.val) x y z q r (ix2 p l)
      = gap (blkC t z q r l) p * (y (ix2 p l) * (1 + x (ix2 p l) * (1 - y (ix2 p l)))) := by
  have hp := p.isLt
  pointwise [k0_pay8]
  have e := fun a => select_third t a 0
  unfold mod4 at e
  simp only [e]
  congr 1
  unfold gap blkC col
  by_cases h1 : p.val < 256
  · rw [dif_pos h1, if_pos h1, dif_pos (by omega), dif_pos (by omega), dif_pos (by omega)]
  · rw [dif_neg h1, if_neg h1]
    by_cases h2 : p.val < 264
    · rw [dif_pos (by omega), if_pos h2]
    · rw [dif_neg (by omega), if_neg h2]
      by_cases h3 : p.val < 4360
      · rw [dif_pos (by omega), if_pos h3, dif_pos (by omega), dif_pos (by omega), dif_pos (by omega)]
        have : (⟨256 + (p.val - 256 - 8), by omega⟩ : Fin 4352) = ⟨p.val - 8, by omega⟩ := by ext; show 256 + (p.val - 256 - 8) = p.val - 8; omega
        rw [this]
      · rw [dif_neg (by omega), if_neg h3]

set_option maxRecDepth 20000 in
theorem dw_apply (x y : FVec Ideal S4368x128 .f32) (l : Fin 128) :
    k0_pay1 (F := Ideal) x y (ix2 0 l)
        = ∑ p : Fin 4368, y (ix2 p l) * x (ix2 ⟨(p.val + 4 + 4366) % 4368, by omega⟩ l)
    ∧ k0_pay14 (F := Ideal) x y (ix2 0 l)
        = ∑ p : Fin 4368, y (ix2 p l) * x (ix2 ⟨(p.val + 3 + 4366) % 4368, by omega⟩ l)
    ∧ k0_pay12 (F := Ideal) x y (ix2 0 l)
        = ∑ p : Fin 4368, y (ix2 p l) * x (ix2 ⟨(p.val + 2 + 4366) % 4368, by omega⟩ l)
    ∧ k0_pay11 (F := Ideal) x y (ix2 0 l)
        = ∑ p : Fin 4368, y (ix2 p l) * x (ix2 ⟨(p.val + 1 + 4366) % 4368, by omega⟩ l)
    ∧ k0_pay3 (F := Ideal) y (ix2 0 l) = ∑ p : Fin 4368, y (ix2 p l):= by
  refine ⟨?_, ?_, ?_, ?_, ?_⟩
  · pointwise [k0_pay1]
    refine Finset.sum_congr rfl fun p _ => ?_
    congr 4; omega
  · pointwise [k0_pay14]
    refine Finset.sum_congr rfl fun p _ => ?_
    congr 4; omega
  · pointwise [k0_pay12]
    refine Finset.sum_congr rfl fun p _ => ?_
    congr 3; ext; show p.val = (p.val + 2 + 4366) % 4368; omega
  · pointwise [k0_pay11]
    refine Finset.sum_congr rfl fun p _ => ?_
    rw [show (⟨(p.val + 4368 - 1) % 4368, by omega⟩ : Fin 4368) = ⟨(p.val + 1 + 4366) % 4368, by omega⟩ by
      ext; show (p.val + 4368 - 1) % 4368 = (p.val + 1 + 4366) % 4368; omega]
  · pointwise [k0_pay3]

set_option maxRecDepth 20000 in
theorem dw0_apply (i : BitVec 32) (x a b : FVec Ideal S4368x128 .f32) (z : FVec Ideal S4352x128 .f32)
    (q r : FVec Ideal S4352x128 .bf16) (l : Fin 128) :
    k0_pay10 (F := Ideal) i x a b z q r (ix2 0 l)
        = ∑ p : Fin 4368, k0_pay8 (F := Ideal) i a b z q r (ix2 p l) * x (ix2 ⟨(p.val + 0 + 4366) % 4368, by omega⟩ l) := by
  unfold k0_pay10
  generalize k0_pay8 (F := Ideal) i a b z q r = y
  pointwise
  refine Finset.sum_congr rfl fun p _ => ?_
  rw [show (⟨(p.val + 4368 - 2) % 4368, by omega⟩ : Fin 4368) = ⟨(p.val + 4366) % 4368, by omega⟩ by
    ext; show (p.val + 4368 - 2) % 4368 = (p.val + 4366) % 4368; omega]

set_option maxRecDepth 20000 in
theorem du_apply (i : BitVec 32) (a b : FVec Ideal S4368x128 .f32) (z : FVec Ideal S4352x128 .f32)
    (q r : FVec Ideal S4352x128 .bf16) (w0 w1 w2 w3 w4 : FVec Ideal S1x128 .f32) (w : ℕ → EReal) (l : Fin 128)
    (h0 : w0 (ix2 0 l) = w 0) (h1 : w1 (ix2 0 l) = w 1) (h2 : w2 (ix2 0 l) = w 2)
    (h3 : w3 (ix2 0 l) = w 3) (h4 : w4 (ix2 0 l) = w 4) (f : ℕ → EReal)
    (hf : ∀ p : Fin 4368, k0_pay8 (F := Ideal) i a b z q r (ix2 p l) = f p) (o : ℕ) (p : Fin 4352)
    (ho : o = if p.val < 256 then p.val else p.val + 8) :
    k0_pay2 (F := Ideal) (k0_pay13 (k0_pay8 i a b z q r) (k0_pay9 i a b z q r w0) w1 w2 w3)
        (k0_pay15 (k0_pay8 i a b z q r) w4) (ix2 p l)
      = 0 + w 0 * f ((o + 2) % 4368) + w 1 * f ((o + 1) % 4368) + w 2 * f o + w 3 * f ((o + 4367) % 4368)
        + w 4 * f ((o + 4366) % 4368) := by
  unfold k0_pay9
  generalize k0_pay8 (F := Ideal) i a b z q r = y at *
  pointwise [k0_pay2, k0_pay13, k0_pay15]
  simp only [hf, h0, h1, h2, h3, h4]
  by_cases h : p.val < 256
  · rw [dif_pos h]
    rw [if_pos h] at ho
    subst ho
    rw [show (p.val + 4368 - 4366) % 4368 = (p.val + 2) % 4368 by omega,
      show (p.val + 4368 - 4367) % 4368 = (p.val + 1) % 4368 by omega,
      show (p.val + 4368 - 1) % 4368 = (p.val + 4367) % 4368 by omega,
      show (p.val + 4368 - 2) % 4368 = (p.val + 4366) % 4368 by omega]
  · rw [dif_neg h]
    rw [if_neg h] at ho
    have hp := p.isLt
    subst ho
    rw [show (264 + (p.val - 256) + 4368 - 4366) % 4368 = (p.val + 8 + 2) % 4368 by omega,
      show (264 + (p.val - 256) + 4368 - 4367) % 4368 = (p.val + 8 + 1) % 4368 by omega,
      show 264 + (p.val - 256) = p.val + 8 by omega,
      show (p.val + 8 + 4368 - 1) % 4368 = (p.val + 8 + 4367) % 4368 by omega,
      show (p.val + 8 + 4368 - 2) % 4368 = (p.val + 8 + 4366) % 4368 by omega]

/-! ## The three results of one block -/

section block

variable (i : grid0.Coords) (x0 : Vec Ideal S4352x128 .bf16) (x1 : Vec Ideal S5x128 .f32) (x2 : Vec Ideal S1x128 .f32)
  (x3 x4 x5 : Vec Ideal S4352x128 .bf16)

theorem tap_load (k : ℕ) (hk : k < 5) (inb) (l : Fin 128) :
    (View.ld x1 (Rect.unit (s := S5x128) ![k, 0] S1x128.size inb) : FVec Ideal S1x128 .f32) (ix2 0 l)
      = taps x1 l k := by
  unfold taps
  rw [dif_pos hk]
  show x1 _ = x1 _
  congr 1
  funext a
  fin_cases a
  · ext; show k + 1 * 0 = k; omega
  · ext; show 0 + 1 * l.val = l.val; omega

theorem pre_block (p : Fin 4368) (l : Fin 128) :
    k0_pay17 (F := Ideal) i x0 x1 x2 x3 x4 x5 (ix2 p l) = kpre (taps x1 l) (x2 (ix2 0 l)) (col x0 l) p := by
  unfold k0_pay17
  rw [View.ld_unit_zero (by decide), View.ld_unit_zero (by decide)]
  exact pay5_apply _ _ _ _ _ _ _ (taps x1 l) p l (tap_load x1 0 (by omega) _ l) (tap_load x1 1 (by omega) _ l)
    (tap_load x1 2 (by omega) _ l) (tap_load x1 3 (by omega) _ l) (tap_load x1 4 (by omega) _ l)

theorem sigma_block (p : Fin 4368) (l : Fin 128) :
    k0_pay18 (F := Ideal) i x0 x1 x2 x3 x4 x5 (ix2 p l)
      = Ideal.logistic (kpre (taps x1 l) (x2 (ix2 0 l)) (col x0 l) p) := by
  rw [← pre_block i x0 x1 x2 x3 x4 x5]
  rfl

theorem grad_block (p : Fin 4368) (l : Fin 128) :
    k0_pay20 (F := Ideal) i x0 x1 x2 x3 x4 x5 (ix2 p l)
      = kd (taps x1 l) (x2 (ix2 0 l)) (col x0 l) (blkC (i 0).val x3 x4 x5 l) p := by
  unfold k0_pay20
  rw [pay8_apply (i 0), pre_block, sigma_block, View.ld_unit_zero (by decide), View.ld_unit_zero (by decide)]
  unfold k0_pay19
  rw [View.ld_unit_zero (by decide)]
  rfl

theorem out6_apply (p : Fin 4352) (l : Fin 128) (o : ℕ) (ho : o = if p.val < 256 then p.val else p.val + 8) :
    out0_6 (F := Ideal) i x0 x1 x2 x3 x4 x5 (ix2 p l)
      = kdu (taps x1 l) (x2 (ix2 0 l)) (col x0 l) (blkC (i 0).val x3 x4 x5 l) o := by
  unfold out0_6
  rw [View.canon_unit_zero (by decide)]
  exact du_apply _ _ _ _ _ _ _ _ _ _ _ (taps x1 l) l (tap_load x1 0 (by omega) _ l) (tap_load x1 1 (by omega) _ l)
    (tap_load x1 2 (by omega) _ l) (tap_load x1 3 (by omega) _ l) (tap_load x1 4 (by omega) _ l) _
    (fun p => grad_block i x0 x1 x2 x3 x4 x5 p l) o p ho

theorem gap_block (p : Fin 4368) (l : Fin 128) :
    k0_pay16 (F := Ideal) i x0 x1 x2 x3 x4 x5 (ix2 p l) = gap (col x0 l) p := by
  unfold k0_pay16
  rw [View.ld_unit_zero (by decide)]
  exact pay4_apply x0 p l

omit i x0 x1 x2 x3 x4 x5 in
/-- A row stored into the block of the five taps is a row of `G`. -/
theorem row_piece (k : ℕ) (hk : k < 5) (inb) (G : S5x128.Idx → EReal) (P : S1x128.Idx → EReal)
    (h : ∀ l : Fin 128, P (ix2 0 l) = G (ix2 ⟨k, hk⟩ l)) (x : S1x128.Idx) :
    P x = G ((Rect.unit (s := S5x128) ![k, 0] S1x128.size inb).emb x) := by
  have e : x = ix2 0 (x 1) := by
    funext a
    fin_cases a
    · exact Subsingleton.elim (α := Fin 1) _ _
    · rfl
  have e' : (Rect.unit (s := S5x128) ![k, 0] S1x128.size inb).emb x = ix2 ⟨k, hk⟩ (x 1) := by
    funext a
    fin_cases a
    · ext
      have : (x 0).val = 0 := by have : (x 0).val < 1 := (x 0).isLt; omega
      show k + 1 * (x 0).val = k
      omega
    · ext; show 0 + 1 * (x 1).val = (x 1).val; omega
  exact (congrArg P e).trans ((h (x 1)).trans (congrArg G e').symm)

/-- The gradient of tap `k` of one column of the block. -/
def blkDw (y : S5x128.Idx) : EReal :=
  ∑ p : Fin 4368, kd (taps x1 (y 1)) (x2 (ix2 0 (y 1))) (col x0 (y 1)) (blkC (i 0).val x3 x4 x5 (y 1)) p
    * gap (col x0 (y 1)) ((p.val + (y 0).val + 4366) % 4368)

theorem blkDw_eq (k : ℕ) (hk : k < 5) (l : Fin 128) :
    ∑ p : Fin 4368, (k0_pay20 (F := Ideal) i x0 x1 x2 x3 x4 x5 (ix2 p l) : EReal)
        * k0_pay16 (F := Ideal) i x0 x1 x2 x3 x4 x5 (ix2 ⟨(p.val + k + 4366) % 4368, by omega⟩ l)
      = blkDw i x0 x1 x2 x3 x4 x5 (ix2 ⟨k, hk⟩ l) := by
  unfold blkDw
  refine Finset.sum_congr rfl fun p _ => ?_
  rw [grad_block, gap_block]
  rfl

theorem out7_apply (y : S5x128.Idx) :
    out0_7 (F := Ideal) i x0 x1 x2 x3 x4 x5 y = blkDw i x0 x1 x2 x3 x4 x5 y := by
  unfold out0_7
  refine View.canon_apply_of_pieces _ _ ?_ y (cover0_7 _ _ _ _ _ y)
  have h := fun l => dw_apply (k0_pay16 (F := Ideal) i x0 x1 x2 x3 x4 x5) (k0_pay20 i x0 x1 x2 x3 x4 x5) l
  rintro p hp x
  simp only [List.mem_cons, List.not_mem_nil, or_false] at hp
  rcases hp with rfl | rfl | rfl | rfl | rfl
  · exact row_piece 4 (by omega) inb_S5x128_S1x128_4_0 _ _ (fun l => (h l).1.trans (blkDw_eq i x0 x1 x2 x3 x4 x5 4 (by omega) l)) x
  · exact row_piece 3 (by omega) inb_S5x128_S1x128_3_0 _ _ (fun l => (h l).2.1.trans (blkDw_eq i x0 x1 x2 x3 x4 x5 3 (by omega) l)) x
  · exact row_piece 2 (by omega) inb_S5x128_S1x128_2_0 _ _ (fun l => (h l).2.2.1.trans (blkDw_eq i x0 x1 x2 x3 x4 x5 2 (by omega) l)) x
  · exact row_piece 1 (by omega) inb_S5x128_S1x128_1_0 _ _ (fun l => (h l).2.2.2.1.trans (blkDw_eq i x0 x1 x2 x3 x4 x5 1 (by omega) l)) x
  · exact row_piece 0 (by omega) inb_S5x128_S1x128_0_0 _ _
      (fun l => (dw0_apply _ _ _ _ _ _ _ l).trans (blkDw_eq i x0 x1 x2 x3 x4 x5 0 (by omega) l)) x

theorem out8_apply (l : Fin 128) :
    out0_8 (F := Ideal) i x0 x1 x2 x3 x4 x5 (ix2 0 l)
      = ∑ p : Fin 4368, kd (taps x1 l) (x2 (ix2 0 l)) (col x0 l) (blkC (i 0).val x3 x4 x5 l) p := by
  unfold out0_8
  rw [View.canon_unit_zero (by decide), (dw_apply (k0_pay16 (F := Ideal) i x0 x1 x2 x3 x4 x5) _ l).2.2.2.2]
  exact Finset.sum_congr rfl fun p _ => grad_block i x0 x1 x2 x3 x4 x5 p l

end block

end Cert.ConvGrad
-- ==== Proof.Array.lean ====
/- What the kernel leaves in its three result arrays: `Model`'s first form, over the columns of the whole arrays. -/
module

public import proofs.«01_k».proof.Proof.Block

@[expose] public section

noncomputable section

namespace Cert.ConvGrad

open Cert.KernelIdeal Cert.KernelIdeal.Gen Idealize.ShloMosaic Idealize.ShloMosaic.TcCoe

/-! ## The columns of the whole arrays -/

/-- The column of the convolution's input: the first 4096 of the projection's 9216 columns. -/
def inCol (c : Fin 4096) : Fin 9216 := ⟨c.val, by omega⟩

/-- The column of the direct skip's gradient that belongs to column `c`, when one does. -/
def skipCol (c : Fin 4096) : Fin 2048 := ⟨c.val / 512 * 256 + c.val % 256, by omega⟩

/-- The gradient of the activation in column `c`: from the two directions of the scan, and, in the first 256 columns of
    each group of 512, from the direct skip. -/
def ct (a3 a4 : (⟨2, ![4352, 4096]⟩ : Shape).Idx → EReal) (a5 : (⟨2, ![4352, 2048]⟩ : Shape).Idx → EReal) (c : Fin 4096)
    (r : ℕ) : EReal :=
  col a3 c r + col a4 c r + if c.val % 512 < 256 then col a5 (skipCol c) r else 0

section results

variable (a0 : (⟨2, ![4352, 9216]⟩ : Shape).Idx → EReal) (a1 : (⟨2, ![5, 4096]⟩ : Shape).Idx → EReal)
  (a2 : (⟨2, ![1, 4096]⟩ : Shape).Idx → EReal) (a3 a4 : (⟨2, ![4352, 4096]⟩ : Shape).Idx → EReal)
  (a5 : (⟨2, ![4352, 2048]⟩ : Shape).Idx → EReal)

/-- The gradient of the input. -/
def kDu (i : (⟨2, ![4352, 4096]⟩ : Shape).Idx) : EReal :=
  kdu (taps a1 (i 1)) (a2 (ix2 0 (i 1))) (col a0 (inCol (i 1))) (ct a3 a4 a5 (i 1))
    (if (i 0).val < 256 then (i 0).val else (i 0).val + 8)

/-- The gradient of the taps. -/
def kDw (i : (⟨2, ![5, 4096]⟩ : Shape).Idx) : EReal :=
  ∑ p : Fin 4368, kd (taps a1 (i 1)) (a2 (ix2 0 (i 1))) (col a0 (inCol (i 1))) (ct a3 a4 a5 (i 1)) p
    * gap (col a0 (inCol (i 1))) ((p.val + (i 0).val + 4366) % 4368)

/-- The gradient of the bias. -/
def kDb (i : (⟨2, ![1, 4096]⟩ : Shape).Idx) : EReal :=
  ∑ p : Fin 4368, kd (taps a1 (i 1)) (a2 (ix2 0 (i 1))) (col a0 (inCol (i 1))) (ct a3 a4 a5 (i 1)) p

end results

/-! ## The blocks of the arguments -/

variable (m : (ℓ : Loc nD τ sig) → Buf (Elt Ideal) ℓ) (c : Dev nD) (t : Fin cfg0.N)

theorem points : cfg0.N = 32 := N_0

/-- The column of the whole array at lane `l` of block `t`. -/
def at' (l : Fin 128) : Fin 4096 :=
  ⟨t.val * 128 + l.val, by have := t.isLt; have := points; omega⟩

theorem coords_val : ∀ t : Fin cfg0.N, (grid0.coords t 0).val = t.val :=
  (by decide +kernel : ∀ t : Fin grid0.N, (grid0.coords t 0).val = t.val)

/-- Where a block lies: the whole of the rows, and the columns from its block index on. -/
theorem index_eq : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val)
    ∧ (win0_5.index t 0 = 0 ∧ (t.val % 4 < 2 → win0_5.index t 1 = t.val / 4 * 2 + t.val % 4))
    ∧ (win0_6.index t 0 = 0 ∧ win0_6.index t 1 = t.val) ∧ (win0_7.index t 0 = 0 ∧ win0_7.index t 1 = t.val)
    ∧ (win0_8.index t 0 = 0 ∧ win0_8.index t 1 = t.val) := by
  decide +kernel

abbrev arg0 : (⟨2, ![4352, 9216]⟩ : Shape).Idx → EReal := m ((c : Thread nD τ).loc main_arg0)
abbrev arg1 : (⟨2, ![5, 4096]⟩ : Shape).Idx → EReal := m ((c : Thread nD τ).loc main_arg1)
abbrev arg2 : (⟨2, ![1, 4096]⟩ : Shape).Idx → EReal := m ((c : Thread nD τ).loc main_arg2)
abbrev arg3 : (⟨2, ![4352, 4096]⟩ : Shape).Idx → EReal := m ((c : Thread nD τ).loc main_arg3)
abbrev arg4 : (⟨2, ![4352, 4096]⟩ : Shape).Idx → EReal := m ((c : Thread nD τ).loc main_arg4)
abbrev arg5 : (⟨2, ![4352, 2048]⟩ : Shape).Idx → EReal := m ((c : Thread nD τ).loc main_arg5)

theorem col_iblk0 (l : Fin 128) (r : ℕ) : col (iblk m c 0 t) l r = col (arg0 m c) (inCol (at' t l)) r := by
  unfold col
  split
  · rename_i h
    show arg0 m c _ = arg0 m c _
    congr 1
    have e := (index_eq t).1
    funext a
    fin_cases a
    · ext; show win0_0.index t 0 * 4352 + 1 * r = r; rw [e.1]; omega
    · ext; show win0_0.index t 1 * 128 + 1 * l.val = t.val * 128 + l.val; rw [e.2]; omega
  · rfl

theorem col_iblk3 (l : Fin 128) (r : ℕ) : col (iblk m c 3 t) l r = col (arg3 m c) (at' t l) r := by
  unfold col
  split
  · rename_i h
    show arg3 m c _ = arg3 m c _
    congr 1
    have e := (index_eq t).2.2.2.1
    funext a
    fin_cases a
    · ext; show win0_3.index t 0 * 4352 + 1 * r = r; rw [e.1]; omega
    · ext; show win0_3.index t 1 * 128 + 1 * l.val = t.val * 128 + l.val; rw [e.2]; omega
  · rfl

theorem col_iblk4 (l : Fin 128) (r : ℕ) : col (iblk m c 4 t) l r = col (arg4 m c) (at' t l) r := by
  unfold col
  split
  · rename_i h
    show arg4 m c _ = arg4 m c _
    congr 1
    have e := (index_eq t).2.2.2.2.1
    funext a
    fin_cases a
    · ext; show win0_4.index t 0 * 4352 + 1 * r = r; rw [e.1]; omega
    · ext; show win0_4.index t 1 * 128 + 1 * l.val = t.val * 128 + l.val; rw [e.2]; omega
  · rfl

theorem col_iblk5 (h4 : t.val % 4 < 2) (l : Fin 128) (r : ℕ) :
    col (iblk m c 5 t) l r = col (arg5 m c) (skipCol (at' t l)) r := by
  unfold col
  split
  · rename_i h
    show arg5 m c _ = arg5 m c _
    congr 1
    have e := (index_eq t).2.2.2.2.2.1
    have e1 := e.2 h4
    funext a
    fin_cases a
    · ext; show win0_5.index t 0 * 4352 + 1 * r = r; rw [e.1]; omega
    · ext
      show win0_5.index t 1 * 128 + 1 * l.val = (t.val * 128 + l.val) / 512 * 256 + (t.val * 128 + l.val) % 256
      rw [e1]; omega
  · rfl

theorem taps_iblk (l : Fin 128) (k : ℕ) : taps (iblk m c 1 t) l k = taps (arg1 m c) (at' t l) k := by
  unfold taps
  split
  · rename_i h
    show arg1 m c _ = arg1 m c _
    congr 1
    have e := (index_eq t).2.1
    funext a
    fin_cases a
    · ext; show win0_1.index t 0 * 5 + 1 * k = k; rw [e.1]; omega
    · ext; show win0_1.index t 1 * 128 + 1 * l.val = t.val * 128 + l.val; rw [e.2]; omega
  · rfl

theorem bias_iblk (l : Fin 128) :
    (iblk m c 2 t : S1x128.Idx → EReal) (ix2 0 l) = arg2 m c (ix2 0 (at' t l)) := by
  show arg2 m c _ = arg2 m c _
  congr 1
  have e := (index_eq t).2.2.1
  funext a
  fin_cases a
  · ext; show win0_2.index t 0 * 1 + 1 * 0 = 0; rw [e.1]
  · ext; show win0_2.index t 1 * 128 + 1 * l.val = t.val * 128 + l.val; rw [e.2]; omega

theorem blkC_iblk (l : Fin 128) :
    blkC (grid0.coords t 0).val (iblk m c 3 t) (iblk m c 4 t) (iblk m c 5 t) l
      = ct (arg3 m c) (arg4 m c) (arg5 m c) (at' t l) := by
  funext r
  unfold blkC ct
  rw [col_iblk3, col_iblk4, coords_val]
  congr 1
  have hv : (at' t l).val = t.val * 128 + l.val := rfl
  by_cases h4 : t.val % 4 < 2
  · rw [if_pos h4, if_pos (by omega), col_iblk5 m c t h4]
  · rw [if_neg h4, if_neg (by omega)]

/-! ## The three result arrays -/

theorem flushed6_eq (hf : (cfg0.win 6).flush t = true) :
    (dats m 0 c).flushed 6 t
      = ((cfg0.win 6).blk t).view.read (Elt Ideal)
          (kDu (arg0 m c) (arg1 m c) (arg2 m c) (arg3 m c) (arg4 m c) (arg5 m c)) := by
  rw [Value.flushed6]
  funext y
  obtain ⟨p, l, rfl⟩ : ∃ (p : Fin 4352) (l : Fin 128), y = ix2 p l := ⟨y 0, y 1, by funext a; fin_cases a <;> rfl⟩
  refine (out6_apply (grid0.coords t) (iblk m c 0 t) (iblk m c 1 t) (iblk m c 2 t) (iblk m c 3 t) (iblk m c 4 t)
    (iblk m c 5 t) p l _ rfl).trans ?_
  have e := (index_eq t).2.2.2.2.2.2.1
  have hi : ((cfg0.win 6).blk t).view.emb (ix2 p l) = ix2 p (at' t l) := by
    funext a
    fin_cases a
    · ext; show win0_6.index t 0 * 4352 + 1 * p.val = p.val; rw [e.1]; omega
    · ext; show win0_6.index t 1 * 128 + 1 * l.val = t.val * 128 + l.val; rw [e.2]; omega
  refine Eq.trans ?_ (congrArg (kDu (arg0 m c) (arg1 m c) (arg2 m c) (arg3 m c) (arg4 m c) (arg5 m c)) hi).symm
  show kdu _ _ _ _ _ = kdu (taps _ (at' t l)) (arg2 m c (ix2 0 (at' t l))) (col _ (inCol (at' t l))) (ct _ _ _ (at' t l)) _
  rw [bias_iblk, blkC_iblk, funext (taps_iblk m c t l), funext (col_iblk0 m c t l)]
  rfl

theorem flushed7_eq :
    (dats m 0 c).flushed 7 t
      = ((cfg0.win 7).blk t).view.read (Elt Ideal)
          (kDw (arg0 m c) (arg1 m c) (arg2 m c) (arg3 m c) (arg4 m c) (arg5 m c)) := by
  rw [Value.flushed7]
  funext y
  obtain ⟨p, l, rfl⟩ : ∃ (p : Fin 5) (l : Fin 128), y = ix2 p l := ⟨y 0, y 1, by funext a; fin_cases a <;> rfl⟩
  refine (out7_apply (grid0.coords t) (iblk m c 0 t) (iblk m c 1 t) (iblk m c 2 t) (iblk m c 3 t) (iblk m c 4 t)
    (iblk m c 5 t) (ix2 p l)).trans ?_
  have e := (index_eq t).2.2.2.2.2.2.2.1
  have hi : ((cfg0.win 7).blk t).view.emb (ix2 p l) = ix2 p (at' t l) := by
    funext a
    fin_cases a
    · ext; show win0_7.index t 0 * 5 + 1 * p.val = p.val; rw [e.1]; omega
    · ext; show win0_7.index t 1 * 128 + 1 * l.val = t.val * 128 + l.val; rw [e.2]; omega
  refine Eq.trans ?_ (congrArg (kDw (arg0 m c) (arg1 m c) (arg2 m c) (arg3 m c) (arg4 m c) (arg5 m c)) hi).symm
  refine Finset.sum_congr rfl fun q _ => ?_
  show kd (taps (iblk m c 1 t) l) ((iblk m c 2 t : S1x128.Idx → EReal) (ix2 0 l)) (col (iblk m c 0 t) l)
      (blkC (grid0.coords t 0).val (iblk m c 3 t) (iblk m c 4 t) (iblk m c 5 t) l) q * gap (col (iblk m c 0 t) l) _
    = kd (taps _ (at' t l)) (arg2 m c (ix2 0 (at' t l))) (col _ (inCol (at' t l))) (ct _ _ _ (at' t l)) q
      * gap (col _ (inCol (at' t l))) _
  rw [bias_iblk, blkC_iblk, funext (taps_iblk m c t l), funext (col_iblk0 m c t l)]
  rfl

theorem flushed8_eq :
    (dats m 0 c).flushed 8 t
      = ((cfg0.win 8).blk t).view.read (Elt Ideal)
          (kDb (arg0 m c) (arg1 m c) (arg2 m c) (arg3 m c) (arg4 m c) (arg5 m c)) := by
  rw [Value.flushed8]
  funext y
  obtain ⟨l, rfl⟩ : ∃ (l : Fin 128), y = ix2 0 l := ⟨y 1, by
    funext a
    fin_cases a
    · exact Subsingleton.elim (α := Fin 1) _ _
    · rfl⟩
  refine (out8_apply (grid0.coords t) (iblk m c 0 t) (iblk m c 1 t) (iblk m c 2 t) (iblk m c 3 t) (iblk m c 4 t)
    (iblk m c 5 t) l).trans ?_
  have e := (index_eq t).2.2.2.2.2.2.2.2
  have hi : ((cfg0.win 8).blk t).view.emb (ix2 0 l) = ix2 0 (at' t l) := by
    funext a
    fin_cases a
    · ext; show win0_8.index t 0 * 1 + 1 * 0 = 0; rw [e.1]
    · ext; show win0_8.index t 1 * 128 + 1 * l.val = t.val * 128 + l.val; rw [e.2]; omega
  refine Eq.trans ?_ (congrArg (kDb (arg0 m c) (arg1 m c) (arg2 m c) (arg3 m c) (arg4 m c) (arg5 m c)) hi).symm
  refine Finset.sum_congr rfl fun q _ => ?_
  show kd (taps (iblk m c 1 t) l) ((iblk m c 2 t : S1x128.Idx → EReal) (ix2 0 l)) (col (iblk m c 0 t) l)
      (blkC (grid0.coords t 0).val (iblk m c 3 t) (iblk m c 4 t) (iblk m c 5 t) l) q
    = kd (taps _ (at' t l)) (arg2 m c (ix2 0 (at' t l))) (col _ (inCol (at' t l))) (ct _ _ _ (at' t l)) q
  rw [bias_iblk, blkC_iblk, funext (taps_iblk m c t l), funext (col_iblk0 m c t l)]

/-- The block that holds column `x`, and the column's lane there. -/
theorem lane_of (x : Fin 4096) : ∃ (t : Fin cfg0.N) (l : Fin 128), at' t l = x :=
  ⟨⟨x.val / 128, by have := points; omega⟩, ⟨x.val % 128, by omega⟩, by
    ext; show x.val / 128 * 128 + x.val % 128 = x.val; omega⟩

theorem final6 : (dats m 0 c).arrAt 6 cfg0.N = kDu (arg0 m c) (arg1 m c) (arg2 m c) (arg3 m c) (arg4 m c) (arg5 m c) :=
  (dats m 0 c).arrAt_eq_of_cover 6 _ (fun t hf => flushed6_eq m c t hf) fun i => by
    obtain ⟨t, l, h⟩ := lane_of (i 1)
    refine ⟨t, flush0_6 t, ?_⟩
    have e := (index_eq t).2.2.2.2.2.2.1
    have hi : ((cfg0.win 6).blk t).view.emb (ix2 (i 0) l) = i := by
      funext a
      fin_cases a
      · ext; show win0_6.index t 0 * 4352 + 1 * (i 0).val = (i 0).val; rw [e.1]; omega
      · ext; show win0_6.index t 1 * 128 + 1 * l.val = (i 1).val; rw [e.2, ← h]; show _ = t.val * 128 + l.val; omega
    rw [← hi]
    exact Finset.mem_map_of_mem _ (Finset.mem_univ _)

theorem final7 : (dats m 0 c).arrAt 7 cfg0.N = kDw (arg0 m c) (arg1 m c) (arg2 m c) (arg3 m c) (arg4 m c) (arg5 m c) :=
  (dats m 0 c).arrAt_eq_of_cover 7 _ (fun t _ => flushed7_eq m c t) fun i => by
    obtain ⟨t, l, h⟩ := lane_of (i 1)
    refine ⟨t, flush0_7 t, ?_⟩
    have e := (index_eq t).2.2.2.2.2.2.2.1
    have hi : ((cfg0.win 7).blk t).view.emb (ix2 (i 0) l) = i := by
      funext a
      fin_cases a
      · ext; show win0_7.index t 0 * 5 + 1 * (i 0).val = (i 0).val; rw [e.1]; omega
      · ext; show win0_7.index t 1 * 128 + 1 * l.val = (i 1).val; rw [e.2, ← h]; show _ = t.val * 128 + l.val; omega
    rw [← hi]
    exact Finset.mem_map_of_mem _ (Finset.mem_univ _)

theorem final8 : (dats m 0 c).arrAt 8 cfg0.N = kDb (arg0 m c) (arg1 m c) (arg2 m c) (arg3 m c) (arg4 m c) (arg5 m c) :=
  (dats m 0 c).arrAt_eq_of_cover 8 _ (fun t _ => flushed8_eq m c t) fun i => by
    obtain ⟨t, l, h⟩ := lane_of (i 1)
    refine ⟨t, flush0_8 t, ?_⟩
    have e := (index_eq t).2.2.2.2.2.2.2.2
    have hi : ((cfg0.win 8).blk t).view.emb (ix2 (i 0) l) = i := by
      funext a
      fin_cases a
      · ext; show win0_8.index t 0 * 1 + 1 * (i 0).val = (i 0).val; rw [e.1]; omega
      · ext; show win0_8.index t 1 * 128 + 1 * l.val = (i 1).val; rw [e.2, ← h]; show _ = t.val * 128 + l.val; omega
    rw [← hi]
    exact Finset.mem_map_of_mem _ (Finset.mem_univ _)

end Cert.ConvGrad
-- ==== Proof.Reference.lean ====
/- What the reference computes, column by column: `Model`'s second form over the latent rows and over the context rows. -/
module

public import proofs.«01_k».proof.Proof.Gen.ReferenceIdeal.Read
public import proofs.«01_k».proof.Proof.Array

@[expose] public section

noncomputable section

namespace Cert.ConvGrad

open Cert.ReferenceIdeal Cert.ReferenceIdeal.Gen Cert.ReferenceIdeal.Read Idealize.ShloMosaic

variable (x0 : (⟨S4352x9216, .bf16⟩ : BufTy).Contents (Elt Ideal)) (x1 : (⟨S5x4096, .f32⟩ : BufTy).Contents (Elt Ideal))
  (x2 : (⟨S1x4096, .f32⟩ : BufTy).Contents (Elt Ideal)) (x3 x4 : (⟨S4352x4096, .bf16⟩ : BufTy).Contents (Elt Ideal))
  (x5 : (⟨S4352x2048, .bf16⟩ : BufTy).Contents (Elt Ideal))

theorem moved_mul (n k q : ℕ) (w : EReal) (d : ℕ → EReal) :
    (if k ≤ q ∧ q - k < n then w * d (q - k) else 0) = w * moved n d k q := by
  unfold moved
  by_cases h : k ≤ q ∧ q - k < n
  · rw [if_pos h, if_pos (by omega)]
  · rw [if_neg h, if_neg (by omega), mul_zero]

theorem moved_mul_zero (n q : ℕ) (w : EReal) (d : ℕ → EReal) :
    (if q < n then w * d q else 0) = w * moved n d 0 q := by
  rw [← moved_mul n 0 q w d]
  simp

/-- Dropping the two leading coordinates of an index of a 1 × 1 × 4096 array leaves the last one. -/
theorem drop_iff (h : S1x1x4096.ReducesTo [0, 1] S4096) (c : Fin 4096) (i : S1x1x4096.Idx) :
    h.drop i = ix1 c ↔ i = ix3 0 0 c := by
  constructor
  · intro e
    funext a
    apply Fin.ext
    match a with
    | ⟨0, _⟩ => exact congrArg Fin.val (Subsingleton.elim (α := Fin 1) (i 0) 0)
    | ⟨1, _⟩ => exact congrArg Fin.val (Subsingleton.elim (α := Fin 1) (i 1) 0)
    | ⟨2, _⟩ => exact congrArg Fin.val (congrFun e (0 : Fin 1))
  · rintro rfl
    funext b
    apply Fin.ext
    match b with
    | ⟨0, _⟩ => rfl

/-- The sum of a 1 × 1 × 4096 array over its two leading axes is the array's only row. -/
theorem sum_lead (h : S1x1x4096.ReducesTo [0, 1] S4096) (v : S1x1x4096.Idx → EReal) (z : EReal) (c : Fin 4096) :
    Ideal.hostReduceAdd h v z (ix1 c) = z + v (ix3 0 0 c) := by
  have e : (Finset.univ.filter (fun i => h.drop i = ix1 c)) = {ix3 0 0 c} := by
    ext i
    simp only [Finset.mem_filter, Finset.mem_univ, true_and, Finset.mem_singleton, drop_iff]
  show z + ∑ i ∈ Finset.univ.filter (fun i => h.drop i = ix1 c), v i = _
  rw [e, Finset.sum_singleton]

/-! ## The incoming gradient -/

theorem v105_apply (r : Fin 4352) (c : Fin 4096) :
    val_main_v105 (F := Ideal) x3 x4 x5 (ix2 r c) = ct x3 x4 x5 c r := by
  unfold ct col
  pointwise [val_main_v105, val_main_v101, val_main_v2, val_main_v3, val_main_v104, val_main_v103, val_main_v102, val_main_v4, val_main_cst_5]
  have hc := c.isLt
  by_cases h : c.val % 512 < 256
  · rw [dif_pos ⟨by omega, h⟩, if_pos h]
    congr 3
    ext
    show c.val / 512 * 256 + c.val % 512 = c.val / 512 * 256 + c.val % 256
    omega
  · rw [dif_neg (fun h' => h h'.2), if_neg h]

/-! ## The context rows -/

/-- The input column of these rows. -/
abbrev ctxU (c : Fin 4096) (r : ℕ) : EReal := col x0 (inCol c) (0 + r)

/-- The incoming gradient of these rows. -/
abbrev ctxC (c : Fin 4096) (r : ℕ) : EReal := ct x3 x4 x5 c (0 + r)

/-- The gradient before the silu of these rows. -/
abbrev ctxD (c : Fin 4096) (l : ℕ) : EReal := sd 256 (taps x1 c) (x2 (ix2 0 c)) (ctxU x0 c) (ctxC x3 x4 x5 c) l

theorem ctx_up (q : Fin 260) (c : Fin 4096) :
    val_main_v10 (F := Ideal) x0 (ix3 0 q c) = up 256 (ctxU x0 c) q := by
  have hq := q.isLt
  unfold up
  pointwise [val_main_v10, val_main_v9, val_main_cst, val_main_v7, val_main_v5, val_main_v1, val_main_v0]
  by_cases h : 2 ≤ q.val ∧ q.val < 256 + 2
  · rw [if_pos h, dif_neg (by omega), dif_pos (by omega)]
    unfold ctxU col inCol
    rw [dif_pos (by omega)]
    congr 2; ext; show q.val - 2 = 0 + (q.val - 2); omega
  · rw [if_neg h]
    by_cases h' : q.val < 2
    · rw [dif_pos h']
    · rw [dif_neg h', dif_neg (by omega)]

theorem ctx_tap0 (c : Fin 4096) : val_main_v16 (F := Ideal) x1 (ix3 0 0 c) = taps x1 c 0 := by
  pointwise [val_main_v16, val_main_v14, val_main_v13]
  rfl

theorem ctx_tap1 (c : Fin 4096) : val_main_v25 (F := Ideal) x1 (ix3 0 0 c) = taps x1 c 1 := by
  pointwise [val_main_v25, val_main_v23, val_main_v22]
  rfl

theorem ctx_tap2 (c : Fin 4096) : val_main_v32 (F := Ideal) x1 (ix3 0 0 c) = taps x1 c 2 := by
  pointwise [val_main_v32, val_main_v30, val_main_v29]
  rfl

theorem ctx_tap3 (c : Fin 4096) : val_main_v39 (F := Ideal) x1 (ix3 0 0 c) = taps x1 c 3 := by
  pointwise [val_main_v39, val_main_v37, val_main_v36]
  rfl

theorem ctx_tap4 (c : Fin 4096) : val_main_v46 (F := Ideal) x1 (ix3 0 0 c) = taps x1 c 4 := by
  pointwise [val_main_v46, val_main_v44, val_main_v43]
  rfl

theorem ctx_pre (l : Fin 256) (c : Fin 4096) :
    val_main_v49 (F := Ideal) x0 x1 x2 (ix3 0 l c) = spre 256 (taps x1 c) (x2 (ix2 0 c)) (ctxU x0 c) l := by
  unfold spre
  pointwise [val_main_v49, val_main_v42, val_main_v35, val_main_v28, val_main_v21, val_main_v20, val_main_v19, val_main_v8, val_main_v18, val_main_v17, val_main_v15, val_main_v27, val_main_v26, val_main_v24, val_main_v34, val_main_v33, val_main_v31, val_main_v41, val_main_v40, val_main_v38, val_main_v48, val_main_v47, val_main_v45]
  simp only [ctx_tap0, ctx_tap1, ctx_tap2, ctx_tap3, ctx_tap4, ctx_up, Nat.add_comm]

theorem ctx_d (l : Fin 256) (c : Fin 4096) :
    val_main_v172 (F := Ideal) x0 x1 x2 x3 x4 x5 (ix3 0 l c) = ctxD x0 x1 x2 x3 x4 x5 c l := by
  unfold ctxD sd
  rw [← ctx_pre x0 x1 x2 l c]
  pointwise [val_main_v172, val_main_call3_v0, val_main_call3_v1, val_main_call3_v2, val_main_v171, val_main_v106, val_main_v50_2, val_main_v50_1, val_main_call0_v0, val_main_call0_v1, val_main_call0_cst, val_main_call0_v2, val_main_call0_v3, val_main_call0_cst_0, val_main_call0_v4, val_main_call0_cst_1, val_main_call0_v6, val_main_call0_v7]
  simp only [v105_apply]
  unfold ctxC
  rw [Nat.zero_add]
  rfl

theorem ctx_dw0 (c : Fin 4096) :
    val_main_v224 (F := Ideal) x0 x1 x2 x3 x4 x5 (ix1 c)
      = ∑ l : Fin 256, ctxD x0 x1 x2 x3 x4 x5 c l * up 256 (ctxU x0 c) (l.val + 0) := by
  pointwise [val_main_v224, val_main_cst_48]
  rw [sum_lead]
  pointwise [val_main_v223, val_main_v222, val_main_cst_47, val_main_v221, val_main_v15]
  simp only [ctx_d, ctx_up, Nat.add_comm]

theorem ctx_dw1 (c : Fin 4096) :
    val_main_v210 (F := Ideal) x0 x1 x2 x3 x4 x5 (ix1 c)
      = ∑ l : Fin 256, ctxD x0 x1 x2 x3 x4 x5 c l * up 256 (ctxU x0 c) (l.val + 1) := by
  pointwise [val_main_v210, val_main_cst_42]
  rw [sum_lead]
  pointwise [val_main_v209, val_main_v208, val_main_cst_41, val_main_v207, val_main_v24]
  simp only [ctx_d, ctx_up, Nat.add_comm]

theorem ctx_dw2 (c : Fin 4096) :
    val_main_v199 (F := Ideal) x0 x1 x2 x3 x4 x5 (ix1 c)
      = ∑ l : Fin 256, ctxD x0 x1 x2 x3 x4 x5 c l * up 256 (ctxU x0 c) (l.val + 2) := by
  pointwise [val_main_v199, val_main_cst_38]
  rw [sum_lead]
  pointwise [val_main_v198, val_main_v197, val_main_cst_37, val_main_v196, val_main_v31]
  simp only [ctx_d, ctx_up, Nat.add_comm]

theorem ctx_dw3 (c : Fin 4096) :
    val_main_v188 (F := Ideal) x0 x1 x2 x3 x4 x5 (ix1 c)
      = ∑ l : Fin 256, ctxD x0 x1 x2 x3 x4 x5 c l * up 256 (ctxU x0 c) (l.val + 3) := by
  pointwise [val_main_v188, val_main_cst_34]
  rw [sum_lead]
  pointwise [val_main_v187, val_main_v186, val_main_cst_33, val_main_v185, val_main_v38]
  simp only [ctx_d, ctx_up, Nat.add_comm]

theorem ctx_dw4 (c : Fin 4096) :
    val_main_v178 (F := Ideal) x0 x1 x2 x3 x4 x5 (ix1 c)
      = ∑ l : Fin 256, ctxD x0 x1 x2 x3 x4 x5 c l * up 256 (ctxU x0 c) (l.val + 4) := by
  pointwise [val_main_v178, val_main_cst_30]
  rw [sum_lead]
  pointwise [val_main_v177, val_main_v176, val_main_cst_29, val_main_v175, val_main_v45]
  simp only [ctx_d, ctx_up, Nat.add_comm]

theorem ctx_db (c : Fin 4096) :
    val_main_v218 (F := Ideal) x0 x1 x2 x3 x4 x5 (ix1 c) = ∑ l : Fin 256, ctxD x0 x1 x2 x3 x4 x5 c l := by
  pointwise [val_main_v218, val_main_cst_46]
  rw [sum_lead]
  pointwise [val_main_v217, val_main_v216, val_main_cst_45]
  simp only [ctx_d, ctx_up, Nat.add_comm]

theorem ctx_dup (q : Fin 260) (c : Fin 4096) :
    val_main_v226 (F := Ideal) x0 x1 x2 x3 x4 x5 (ix3 0 q c)
      = sdup 256 (taps x1 c) (ctxD x0 x1 x2 x3 x4 x5 c) q := by
  pointwise [val_main_v226, val_main_v212, val_main_v201, val_main_v190, val_main_v179, val_main_cst_31, val_main_v174, val_main_v173, val_main_v189, val_main_cst_35, val_main_v184, val_main_v183, val_main_v200, val_main_cst_39, val_main_v195, val_main_v194, val_main_v211, val_main_cst_43, val_main_v206, val_main_v205, val_main_v225, val_main_cst_49, val_main_v220, val_main_v219]
  simp only [ctx_d, ctx_tap0, ctx_tap1, ctx_tap2, ctx_tap3, ctx_tap4, dite_eq_ite]
  rw [moved_mul, moved_mul, moved_mul, moved_mul, moved_mul_zero]
  rfl

theorem ctx_du (l : Fin 256) (c : Fin 4096) :
    val_main_v235 (F := Ideal) x0 x1 x2 x3 x4 x5 (ix2 l c)
      = sdup 256 (taps x1 c) (ctxD x0 x1 x2 x3 x4 x5 c) (l.val + 2) := by
  pointwise [val_main_v235, val_main_cst_51, val_main_v231]
  simp only [ctx_dup]
  rw [Fin.sum_univ_one, Nat.add_comm]

/-! ## The latent rows -/

/-- The input column of these rows. -/
abbrev latU (c : Fin 4096) (r : ℕ) : EReal := col x0 (inCol c) (256 + r)

/-- The incoming gradient of these rows. -/
abbrev latC (c : Fin 4096) (r : ℕ) : EReal := ct x3 x4 x5 c (256 + r)

/-- The gradient before the silu of these rows. -/
abbrev latD (c : Fin 4096) (l : ℕ) : EReal := sd 4096 (taps x1 c) (x2 (ix2 0 c)) (latU x0 c) (latC x3 x4 x5 c) l

theorem lat_up (q : Fin 4100) (c : Fin 4096) :
    val_main_v55 (F := Ideal) x0 (ix3 0 q c) = up 4096 (latU x0 c) q := by
  have hq := q.isLt
  unfold up
  pointwise [val_main_v55, val_main_v54, val_main_cst_2, val_main_v52, val_main_v6, val_main_v1, val_main_v0]
  by_cases h : 2 ≤ q.val ∧ q.val < 4096 + 2
  · rw [if_pos h, dif_neg (by omega), dif_pos (by omega)]
    unfold latU col inCol
    rw [dif_pos (by omega)]
  · rw [if_neg h]
    by_cases h' : q.val < 2
    · rw [dif_pos h']
    · rw [dif_neg h', dif_neg (by omega)]

theorem lat_tap0 (c : Fin 4096) : val_main_v61 (F := Ideal) x1 (ix3 0 0 c) = taps x1 c 0 := by
  pointwise [val_main_v61, val_main_v59, val_main_v58]
  rfl

theorem lat_tap1 (c : Fin 4096) : val_main_v70 (F := Ideal) x1 (ix3 0 0 c) = taps x1 c 1 := by
  pointwise [val_main_v70, val_main_v68, val_main_v67]
  rfl

theorem lat_tap2 (c : Fin 4096) : val_main_v77 (F := Ideal) x1 (ix3 0 0 c) = taps x1 c 2 := by
  pointwise [val_main_v77, val_main_v75, val_main_v74]
  rfl

theorem lat_tap3 (c : Fin 4096) : val_main_v84 (F := Ideal) x1 (ix3 0 0 c) = taps x1 c 3 := by
  pointwise [val_main_v84, val_main_v82, val_main_v81]
  rfl

theorem lat_tap4 (c : Fin 4096) : val_main_v91 (F := Ideal) x1 (ix3 0 0 c) = taps x1 c 4 := by
  pointwise [val_main_v91, val_main_v89, val_main_v88]
  rfl

theorem lat_pre (l : Fin 4096) (c : Fin 4096) :
    val_main_v94 (F := Ideal) x0 x1 x2 (ix3 0 l c) = spre 4096 (taps x1 c) (x2 (ix2 0 c)) (latU x0 c) l := by
  unfold spre
  pointwise [val_main_v94, val_main_v87, val_main_v80, val_main_v73, val_main_v66, val_main_v65, val_main_v64, val_main_v53, val_main_v63, val_main_v62, val_main_v60, val_main_v72, val_main_v71, val_main_v69, val_main_v79, val_main_v78, val_main_v76, val_main_v86, val_main_v85, val_main_v83, val_main_v93, val_main_v92, val_main_v90]
  simp only [lat_tap0, lat_tap1, lat_tap2, lat_tap3, lat_tap4, lat_up, Nat.add_comm]

theorem lat_d (l : Fin 4096) (c : Fin 4096) :
    val_main_v109 (F := Ideal) x0 x1 x2 x3 x4 x5 (ix3 0 l c) = latD x0 x1 x2 x3 x4 x5 c l := by
  unfold latD sd
  rw [← lat_pre x0 x1 x2 l c]
  pointwise [val_main_v109, val_main_call2_v0, val_main_call2_v1, val_main_call2_v2, val_main_v108, val_main_v107, val_main_v95_2, val_main_v95_1, val_main_call1_v0, val_main_call1_v1, val_main_call1_cst, val_main_call1_v2, val_main_call1_v3, val_main_call1_cst_0, val_main_call1_v4, val_main_call1_cst_1, val_main_call1_v6, val_main_call1_v7]
  simp only [v105_apply]
  rfl

theorem lat_dw0 (c : Fin 4096) :
    val_main_v160 (F := Ideal) x0 x1 x2 x3 x4 x5 (ix1 c)
      = ∑ l : Fin 4096, latD x0 x1 x2 x3 x4 x5 c l * up 4096 (latU x0 c) (l.val + 0) := by
  pointwise [val_main_v160, val_main_cst_25]
  rw [sum_lead]
  pointwise [val_main_v159, val_main_v158, val_main_cst_24, val_main_v157, val_main_v60]
  simp only [lat_d, lat_up, Nat.add_comm]

theorem lat_dw1 (c : Fin 4096) :
    val_main_v146 (F := Ideal) x0 x1 x2 x3 x4 x5 (ix1 c)
      = ∑ l : Fin 4096, latD x0 x1 x2 x3 x4 x5 c l * up 4096 (latU x0 c) (l.val + 1) := by
  pointwise [val_main_v146, val_main_cst_19]
  rw [sum_lead]
  pointwise [val_main_v145, val_main_v144, val_main_cst_18, val_main_v143, val_main_v69]
  simp only [lat_d, lat_up, Nat.add_comm]

theorem lat_dw2 (c : Fin 4096) :
    val_main_v135 (F := Ideal) x0 x1 x2 x3 x4 x5 (ix1 c)
      = ∑ l : Fin 4096, latD x0 x1 x2 x3 x4 x5 c l * up 4096 (latU x0 c) (l.val + 2) := by
  pointwise [val_main_v135, val_main_cst_15]
  rw [sum_lead]
  pointwise [val_main_v134, val_main_v133, val_main_cst_14, val_main_v132, val_main_v76]
  simp only [lat_d, lat_up, Nat.add_comm]

theorem lat_dw3 (c : Fin 4096) :
    val_main_v124 (F := Ideal) x0 x1 x2 x3 x4 x5 (ix1 c)
      = ∑ l : Fin 4096, latD x0 x1 x2 x3 x4 x5 c l * up 4096 (latU x0 c) (l.val + 3) := by
  pointwise [val_main_v124, val_main_cst_11]
  rw [sum_lead]
  pointwise [val_main_v123, val_main_v122, val_main_cst_10, val_main_v121, val_main_v83]
  simp only [lat_d, lat_up, Nat.add_comm]

theorem lat_dw4 (c : Fin 4096) :
    val_main_v115 (F := Ideal) x0 x1 x2 x3 x4 x5 (ix1 c)
      = ∑ l : Fin 4096, latD x0 x1 x2 x3 x4 x5 c l * up 4096 (latU x0 c) (l.val + 4) := by
  pointwise [val_main_v115, val_main_cst_7]
  rw [sum_lead]
  pointwise [val_main_v114, val_main_v113, val_main_cst_6, val_main_v112, val_main_v90]
  simp only [lat_d, lat_up, Nat.add_comm]

theorem lat_db (c : Fin 4096) :
    val_main_v154 (F := Ideal) x0 x1 x2 x3 x4 x5 (ix1 c) = ∑ l : Fin 4096, latD x0 x1 x2 x3 x4 x5 c l := by
  pointwise [val_main_v154, val_main_cst_23]
  rw [sum_lead]
  pointwise [val_main_v153, val_main_v152, val_main_cst_22]
  simp only [lat_d, lat_up, Nat.add_comm]

theorem lat_dup (q : Fin 4100) (c : Fin 4096) :
    val_main_v162 (F := Ideal) x0 x1 x2 x3 x4 x5 (ix3 0 q c)
      = sdup 4096 (taps x1 c) (latD x0 x1 x2 x3 x4 x5 c) q := by
  pointwise [val_main_v162, val_main_v148, val_main_v137, val_main_v126, val_main_v116, val_main_cst_8, val_main_v111, val_main_v110, val_main_v125, val_main_cst_12, val_main_v120, val_main_v119, val_main_v136, val_main_cst_16, val_main_v131, val_main_v130, val_main_v147, val_main_cst_20, val_main_v142, val_main_v141, val_main_v161, val_main_cst_26, val_main_v156, val_main_v155]
  simp only [lat_d, lat_tap0, lat_tap1, lat_tap2, lat_tap3, lat_tap4, dite_eq_ite]
  rw [moved_mul, moved_mul, moved_mul, moved_mul, moved_mul_zero]
  rfl

theorem lat_du (l : Fin 4096) (c : Fin 4096) :
    val_main_v170 (F := Ideal) x0 x1 x2 x3 x4 x5 (ix2 l c)
      = sdup 4096 (taps x1 c) (latD x0 x1 x2 x3 x4 x5 c) (l.val + 2) := by
  pointwise [val_main_v170, val_main_cst_28, val_main_v167]
  simp only [lat_dup]
  rw [Fin.sum_univ_one, Nat.add_comm]

/-! ## The three results -/

theorem v229_row0 (c : Fin 4096) :
    val_main_v229 (F := Ideal) x0 x1 x2 x3 x4 x5 (ix2 0 c)
      = val_main_v160 (F := Ideal) x0 x1 x2 x3 x4 x5 (ix1 c) + val_main_v224 (F := Ideal) x0 x1 x2 x3 x4 x5 (ix1 c) := by
  pointwise [val_main_v229, val_main_v215, val_main_v204, val_main_v193, val_main_v182, val_main_v165, val_main_v151, val_main_v140, val_main_v129, val_main_v118, val_main_v128, val_main_v139, val_main_v150, val_main_v164, val_main_v181, val_main_v192, val_main_v203, val_main_v214, val_main_v228, val_main_v117, val_main_v127, val_main_v138, val_main_v149, val_main_v163, val_main_v180, val_main_v191, val_main_v202, val_main_v213, val_main_v227, val_main_cst_9, val_main_cst_13, val_main_cst_17, val_main_cst_21, val_main_cst_27, val_main_cst_32, val_main_cst_36, val_main_cst_40, val_main_cst_44, val_main_cst_50]

theorem v229_row1 (c : Fin 4096) :
    val_main_v229 (F := Ideal) x0 x1 x2 x3 x4 x5 (ix2 1 c)
      = val_main_v146 (F := Ideal) x0 x1 x2 x3 x4 x5 (ix1 c) + val_main_v210 (F := Ideal) x0 x1 x2 x3 x4 x5 (ix1 c) := by
  pointwise [val_main_v229, val_main_v215, val_main_v204, val_main_v193, val_main_v182, val_main_v165, val_main_v151, val_main_v140, val_main_v129, val_main_v118, val_main_v128, val_main_v139, val_main_v150, val_main_v164, val_main_v181, val_main_v192, val_main_v203, val_main_v214, val_main_v228, val_main_v117, val_main_v127, val_main_v138, val_main_v149, val_main_v163, val_main_v180, val_main_v191, val_main_v202, val_main_v213, val_main_v227, val_main_cst_9, val_main_cst_13, val_main_cst_17, val_main_cst_21, val_main_cst_27, val_main_cst_32, val_main_cst_36, val_main_cst_40, val_main_cst_44, val_main_cst_50]

theorem v229_row2 (c : Fin 4096) :
    val_main_v229 (F := Ideal) x0 x1 x2 x3 x4 x5 (ix2 2 c)
      = val_main_v135 (F := Ideal) x0 x1 x2 x3 x4 x5 (ix1 c) + val_main_v199 (F := Ideal) x0 x1 x2 x3 x4 x5 (ix1 c) := by
  pointwise [val_main_v229, val_main_v215, val_main_v204, val_main_v193, val_main_v182, val_main_v165, val_main_v151, val_main_v140, val_main_v129, val_main_v118, val_main_v128, val_main_v139, val_main_v150, val_main_v164, val_main_v181, val_main_v192, val_main_v203, val_main_v214, val_main_v228, val_main_v117, val_main_v127, val_main_v138, val_main_v149, val_main_v163, val_main_v180, val_main_v191, val_main_v202, val_main_v213, val_main_v227, val_main_cst_9, val_main_cst_13, val_main_cst_17, val_main_cst_21, val_main_cst_27, val_main_cst_32, val_main_cst_36, val_main_cst_40, val_main_cst_44, val_main_cst_50]

theorem v229_row3 (c : Fin 4096) :
    val_main_v229 (F := Ideal) x0 x1 x2 x3 x4 x5 (ix2 3 c)
      = val_main_v124 (F := Ideal) x0 x1 x2 x3 x4 x5 (ix1 c) + val_main_v188 (F := Ideal) x0 x1 x2 x3 x4 x5 (ix1 c) := by
  pointwise [val_main_v229, val_main_v215, val_main_v204, val_main_v193, val_main_v182, val_main_v165, val_main_v151, val_main_v140, val_main_v129, val_main_v118, val_main_v128, val_main_v139, val_main_v150, val_main_v164, val_main_v181, val_main_v192, val_main_v203, val_main_v214, val_main_v228, val_main_v117, val_main_v127, val_main_v138, val_main_v149, val_main_v163, val_main_v180, val_main_v191, val_main_v202, val_main_v213, val_main_v227, val_main_cst_9, val_main_cst_13, val_main_cst_17, val_main_cst_21, val_main_cst_27, val_main_cst_32, val_main_cst_36, val_main_cst_40, val_main_cst_44, val_main_cst_50]

theorem v229_row4 (c : Fin 4096) :
    val_main_v229 (F := Ideal) x0 x1 x2 x3 x4 x5 (ix2 4 c)
      = val_main_v115 (F := Ideal) x0 x1 x2 x3 x4 x5 (ix1 c) + val_main_v178 (F := Ideal) x0 x1 x2 x3 x4 x5 (ix1 c) := by
  pointwise [val_main_v229, val_main_v215, val_main_v204, val_main_v193, val_main_v182, val_main_v165, val_main_v151, val_main_v140, val_main_v129, val_main_v118, val_main_v128, val_main_v139, val_main_v150, val_main_v164, val_main_v181, val_main_v192, val_main_v203, val_main_v214, val_main_v228, val_main_v117, val_main_v127, val_main_v138, val_main_v149, val_main_v163, val_main_v180, val_main_v191, val_main_v202, val_main_v213, val_main_v227, val_main_cst_9, val_main_cst_13, val_main_cst_17, val_main_cst_21, val_main_cst_27, val_main_cst_32, val_main_cst_36, val_main_cst_40, val_main_cst_44, val_main_cst_50]

theorem v234_apply (c : Fin 4096) :
    val_main_v234 (F := Ideal) x0 x1 x2 x3 x4 x5 (ix2 0 c)
      = val_main_v154 (F := Ideal) x0 x1 x2 x3 x4 x5 (ix1 c) + val_main_v218 (F := Ideal) x0 x1 x2 x3 x4 x5 (ix1 c) := by
  pointwise [val_main_v234, val_main_v169, val_main_v233]

theorem v239_apply (r : Fin 4352) (c : Fin 4096) :
    val_main_v239 (F := Ideal) x0 x1 x2 x3 x4 x5 (ix2 r c)
      = if h : r.val < 256 then val_main_v235 (F := Ideal) x0 x1 x2 x3 x4 x5 (ix2 ⟨r.val, h⟩ c)
        else val_main_v170 (F := Ideal) x0 x1 x2 x3 x4 x5 (ix2 ⟨r.val - 256, by omega⟩ c) := by
  pointwise [val_main_v239, val_main_v238, val_main_v236, val_main_v237, val_main_cst_52, val_main_cst_53]
  have hr := r.isLt
  by_cases h : r.val < 256
  · rw [dif_neg (by omega), dif_pos h, dif_pos h, zero_add]
  · rw [dif_pos (by omega), dif_neg h, dif_neg h, add_zero]

end Cert.ConvGrad
-- ==== Proof.Equation.lean ====
/- The kernel's three results are the reference's, when no element of the three incoming gradients is infinite. -/
module

public import proofs.«01_k».proof.Pre_gradients_finite
public import proofs.«01_k».proof.Proof.Array
public import proofs.«01_k».proof.Proof.Reference

@[expose] public section

noncomputable section

namespace Cert.ConvGrad

open Cert.ReferenceIdeal Cert.ReferenceIdeal.Gen Cert.ReferenceIdeal.Read Idealize.ShloMosaic

/-! ## What the precondition says -/

/-- The side conditions of the precondition's operations. -/
instance finiteFacts : Cert.Pre_gradients_finite.Facts where
  bitsLt_bf16_f32 := by decide
  bcast_S_S4352x4096 := by decide
  bcast_S_S4352x2048 := by decide

/-- A number whose absolute value lies below +∞ is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : ∃ r : ℝ, x = r := by
  have htop : Ideal.ofBits .f32 0x7F800000#32 = ⊤ := by simp [Ideal.ofBits, Ideal.ieee]
  have h' : Ideal.cmp .olt (max x (-x)) (Ideal.ofBits .f32 0x7F800000#32) = 1 := h
  rw [htop, Ideal.cmp_olt_eq_one, max_lt_iff] at h'
  induction x with
  | bot => exact absurd h'.2 (by simp)
  | coe r => exact ⟨r, rfl⟩
  | top => exact absurd h'.1 (by simp)

theorem real_col {n : ℕ} (x : (⟨2, ![4352, n]⟩ : Shape).Idx → EReal) (hx : ∀ i, ∃ r : ℝ, x i = r) (l : Fin n) (r : ℕ) :
    ∃ z : ℝ, col x l r = z := by
  unfold col
  split
  · exact hx _
  · exact ⟨0, rfl⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, rfl⟩

variable (x0 : (⟨S4352x9216, .bf16⟩ : BufTy).Contents (Elt Ideal)) (x1 : (⟨S5x4096, .f32⟩ : BufTy).Contents (Elt Ideal))
  (x2 : (⟨S1x4096, .f32⟩ : BufTy).Contents (Elt Ideal)) (x3 x4 : (⟨S4352x4096, .bf16⟩ : BufTy).Contents (Elt Ideal))
  (x5 : (⟨S4352x2048, .bf16⟩ : BufTy).Contents (Elt Ideal))

/-- The precondition: every element of the three predicates is true. -/
def Finite : Prop :=
  (∀ i, (Cert.Pre_gradients_finite.fn (F := Ideal) x0 x1 x2 x3 x4 x5).1 i = 1#1)
    ∧ (∀ i, (Cert.Pre_gradients_finite.fn (F := Ideal) x0 x1 x2 x3 x4 x5).2.1 i = 1#1)
    ∧ ∀ i, (Cert.Pre_gradients_finite.fn (F := Ideal) x0 x1 x2 x3 x4 x5).2.2 i = 1#1

theorem ct_real (h : Finite x0 x1 x2 x3 x4 x5) (c : Fin 4096) (r : ℕ) : ∃ z : ℝ, ct x3 x4 x5 c r = z := by
  obtain ⟨h3, h4, h5⟩ := h
  unfold ct
  refine real_add (real_add (real_col _ (fun i => real_of_lt _ (h3 i)) _ _) (real_col _ (fun i => real_of_lt _ (h4 i)) _ _)) ?_
  split
  · exact real_col _ (fun i => real_of_lt _ (h5 i)) _ _
  · exact ⟨0, rfl⟩

/-! ## The three results -/

theorem du_eq (h : Finite x0 x1 x2 x3 x4 x5) : kDu x0 x1 x2 x3 x4 x5 = val_main_v239 (F := Ideal) x0 x1 x2 x3 x4 x5 := by
  funext i
  obtain ⟨r, c, rfl⟩ : ∃ (r : Fin 4352) (c : Fin 4096), i = ix2 r c := ⟨i 0, i 1, by funext a; fin_cases a <;> rfl⟩
  have hr := r.isLt
  rw [v239_apply]
  show kdu (taps x1 c) (x2 (ix2 0 c)) (col x0 (inCol c)) (ct x3 x4 x5 c) (if r.val < 256 then r.val else r.val + 8) = _
  by_cases hlt : r.val < 256
  · rw [if_pos hlt, dif_pos hlt, ctx_du]
    have e := kdu_eq (.inl ⟨rfl, rfl, rfl⟩) (taps x1 c) (x2 (ix2 0 c)) (col x0 (inCol c)) (ct x3 x4 x5 c)
      (ct_real x0 x1 x2 x3 x4 x5 h c) r.val hlt
    rw [Nat.zero_add] at e
    exact e
  · rw [if_neg hlt, dif_neg hlt, lat_du]
    have e := kdu_eq (.inr ⟨rfl, rfl, rfl⟩) (taps x1 c) (x2 (ix2 0 c)) (col x0 (inCol c)) (ct x3 x4 x5 c)
      (ct_real x0 x1 x2 x3 x4 x5 h c) (r.val - 256) (by omega)
    rw [show r.val + 8 = 264 + (r.val - 256) by omega]
    exact e

theorem dw_row0 (h : Finite x0 x1 x2 x3 x4 x5) (c : Fin 4096) :
    kDw x0 x1 x2 x3 x4 x5 (ix2 0 c) = val_main_v229 (F := Ideal) x0 x1 x2 x3 x4 x5 (ix2 0 c) := by
  rw [v229_row0, lat_dw0, ctx_dw0]
  exact kdw_eq (taps x1 c) (x2 (ix2 0 c)) (col x0 (inCol c)) (ct x3 x4 x5 c) (ct_real x0 x1 x2 x3 x4 x5 h c) 0 (by omega)

theorem dw_row1 (h : Finite x0 x1 x2 x3 x4 x5) (c : Fin 4096) :
    kDw x0 x1 x2 x3 x4 x5 (ix2 1 c) = val_main_v229 (F := Ideal) x0 x1 x2 x3 x4 x5 (ix2 1 c) := by
  rw [v229_row1, lat_dw1, ctx_dw1]
  exact kdw_eq (taps x1 c) (x2 (ix2 0 c)) (col x0 (inCol c)) (ct x3 x4 x5 c) (ct_real x0 x1 x2 x3 x4 x5 h c) 1 (by omega)

theorem dw_row2 (h : Finite x0 x1 x2 x3 x4 x5) (c : Fin 4096) :
    kDw x0 x1 x2 x3 x4 x5 (ix2 2 c) = val_main_v229 (F := Ideal) x0 x1 x2 x3 x4 x5 (ix2 2 c) := by
  rw [v229_row2, lat_dw2, ctx_dw2]
  exact kdw_eq (taps x1 c) (x2 (ix2 0 c)) (col x0 (inCol c)) (ct x3 x4 x5 c) (ct_real x0 x1 x2 x3 x4 x5 h c) 2 (by omega)

theorem dw_row3 (h : Finite x0 x1 x2 x3 x4 x5) (c : Fin 4096) :
    kDw x0 x1 x2 x3 x4 x5 (ix2 3 c) = val_main_v229 (F := Ideal) x0 x1 x2 x3 x4 x5 (ix2 3 c) := by
  rw [v229_row3, lat_dw3, ctx_dw3]
  exact kdw_eq (taps x1 c) (x2 (ix2 0 c)) (col x0 (inCol c)) (ct x3 x4 x5 c) (ct_real x0 x1 x2 x3 x4 x5 h c) 3 (by omega)

theorem dw_row4 (h : Finite x0 x1 x2 x3 x4 x5) (c : Fin 4096) :
    kDw x0 x1 x2 x3 x4 x5 (ix2 4 c) = val_main_v229 (F := Ideal) x0 x1 x2 x3 x4 x5 (ix2 4 c) := by
  rw [v229_row4, lat_dw4, ctx_dw4]
  exact kdw_eq (taps x1 c) (x2 (ix2 0 c)) (col x0 (inCol c)) (ct x3 x4 x5 c) (ct_real x0 x1 x2 x3 x4 x5 h c) 4 (by omega)

theorem dw_eq (h : Finite x0 x1 x2 x3 x4 x5) : kDw x0 x1 x2 x3 x4 x5 = val_main_v229 (F := Ideal) x0 x1 x2 x3 x4 x5 := by
  funext i
  obtain ⟨k, c, rfl⟩ : ∃ (k : Fin 5) (c : Fin 4096), i = ix2 k c := ⟨i 0, i 1, by funext a; fin_cases a <;> rfl⟩
  fin_cases k
  · exact dw_row0 x0 x1 x2 x3 x4 x5 h c
  · exact dw_row1 x0 x1 x2 x3 x4 x5 h c
  · exact dw_row2 x0 x1 x2 x3 x4 x5 h c
  · exact dw_row3 x0 x1 x2 x3 x4 x5 h c
  · exact dw_row4 x0 x1 x2 x3 x4 x5 h c

theorem db_eq (h : Finite x0 x1 x2 x3 x4 x5) : kDb x0 x1 x2 x3 x4 x5 = val_main_v234 (F := Ideal) x0 x1 x2 x3 x4 x5 := by
  funext i
  obtain ⟨c, rfl⟩ : ∃ (c : Fin 4096), i = ix2 0 c := ⟨i 1, by
    funext a
    match a with
    | ⟨0, _⟩ => exact Subsingleton.elim (α := Fin 1) _ _
    | ⟨1, _⟩ => rfl⟩
  have e := kdb_eq (taps x1 c) (x2 (ix2 0 c)) (col x0 (inCol c)) (ct x3 x4 x5 c) (ct_real x0 x1 x2 x3 x4 x5 h c)
  refine Eq.trans e ?_
  exact ((v234_apply x0 x1 x2 x3 x4 x5 c).trans (congrArg₂ (· + ·) (lat_db x0 x1 x2 x3 x4 x5 c) (ctx_db x0 x1 x2 x3 x4 x5 c))).symm

end Cert.ConvGrad
-- ==== Proof.MlpRun.lean ====
/- Every buffer of the program at its end. -/
module

public import proofs.«01_k».proof.Proof.Gen.Kernel2Ideal.Frame

@[expose] public section

noncomputable section

namespace Cert.Mlp

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends, and every buffer outside the calls' scratch then holds what the
    fold of the calls and of the host's operations (`W10`) leaves in it. -/
theorem run : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W10 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h _ c b hb => h c _ (mem_uc b hb))

end Cert.Mlp

end
-- ==== Proof.Products.lean ====
/- The three products of matrices over the extended reals: plain, with the right factor transposed, with the left
   factor transposed. -/
module

public import Idealize.ShloMosaic.Lib.Pointwise

@[expose] public section

noncomputable section

namespace Cert.Products

open Idealize.ShloMosaic

/-- A matrix of `m` rows and `n` columns, by its index. -/
abbrev Mat (m n : ℕ) : Type := (⟨2, ![m, n]⟩ : Shape).Idx → EReal

/-- `a · b`. -/
def nn {m k n : ℕ} (a : Mat m k) (b : Mat k n) : Mat m n := fun i => ∑ p : Fin k, a (ix2 (i 0) p) * b (ix2 p (i 1))

/-- `a · bᵀ`. -/
def nt {m k n : ℕ} (a : Mat m k) (b : Mat n k) : Mat m n := fun i => ∑ p : Fin k, a (ix2 (i 0) p) * b (ix2 (i 1) p)

/-- `aᵀ · b`. -/
def tn {m k n : ℕ} (a : Mat k m) (b : Mat k n) : Mat m n := fun i => ∑ p : Fin k, a (ix2 p (i 0)) * b (ix2 p (i 1))

end Cert.Products

end
-- ==== Proof.MlpModel.lean ====
/- The gated linear unit of the feed-forward layer and its gradient, element by element. -/
module

public import proofs.«01_k».proof.Proof.Products

@[expose] public section

noncomputable section

namespace Cert.Mlp

open Idealize.ShloMosaic Cert.Products

/-- Four blocks of 1408 columns side by side, as one matrix. -/
def joined (w : (⟨3, ![4, 1024, 1408]⟩ : Shape).Idx → EReal) : Mat 1024 5632 := fun i =>
  w (ix3 ⟨(i 1).val / 1408, by have h : (i 1).val < 5632 := (i 1).isLt; omega⟩ (i 0) ⟨(i 1).val % 1408, by omega⟩)

/-- The same matrix cut into its four blocks of columns. -/
def parted (w : Mat 1024 5632) : (⟨3, ![4, 1024, 1408]⟩ : Shape).Idx → EReal := fun i =>
  w (ix2 (i 1) ⟨(i 0).val * 1408 + (i 2).val, by
    have h : (i 0).val < 4 := (i 0).isLt
    have h' : (i 2).val < 1408 := (i 2).isLt
    omega⟩)

/-- The gate's column that goes with column `q`. -/
def lo (q : Fin 2816) : Fin 5632 := ⟨q.val, by omega⟩

/-- The value's column that goes with column `q`. -/
def hi (q : Fin 2816) : Fin 5632 := ⟨2816 + q.val, by omega⟩

/-- `silu(gate) · value`. -/
def unit (u : Mat 4352 5632) (r : Fin 4352) (q : Fin 2816) : EReal :=
  u (ix2 r (lo q)) * Ideal.logistic (u (ix2 r (lo q))) * u (ix2 r (hi q))

/-- The gradient of the gate, from the gradient `d` of the unit. -/
def gateGrad (u : Mat 4352 5632) (d : Mat 4352 2816) (r : Fin 4352) (q : Fin 2816) : EReal :=
  d (ix2 r q) * u (ix2 r (hi q)) * Ideal.logistic (u (ix2 r (lo q)))
    + u (ix2 r (lo q)) * (d (ix2 r q) * u (ix2 r (hi q)))
      * (Ideal.logistic (u (ix2 r (lo q))) * (1 - Ideal.logistic (u (ix2 r (lo q)))))

/-- The gradient of the value. -/
def valueGrad (u : Mat 4352 5632) (d : Mat 4352 2816) (r : Fin 4352) (q : Fin 2816) : EReal :=
  u (ix2 r (lo q)) * Ideal.logistic (u (ix2 r (lo q))) * d (ix2 r q)

/-- Both, side by side. -/
def unitGrad (u : Mat 4352 5632) (d : Mat 4352 2816) (r : Fin 4352) (j : Fin 5632) : EReal :=
  if h : j.val < 2816 then gateGrad u d r ⟨j.val, h⟩ else valueGrad u d r ⟨j.val - 2816, by omega⟩

/-- The unit over the whole array. -/
def act (u : Mat 4352 5632) : Mat 4352 2816 := fun i => unit u (i 0) (i 1)

/-- Its gradient over the whole array. -/
def dact (u : Mat 4352 5632) (d : Mat 4352 2816) : Mat 4352 5632 := fun i => unitGrad u d (i 0) (i 1)

end Cert.Mlp

end
-- ==== Proof.MlpForward.lean ====
/- What the forward calls of the feed-forward layer leave in their arrays. -/
module

public import proofs.«01_k».proof.Proof.Gen.Kernel2Ideal.Frame
public import proofs.«01_k».proof.Proof.MlpModel

@[expose] public section

noncomputable section

namespace Cert.Mlp

open Cert.Kernel2Ideal Cert.Kernel2Ideal.Gen Idealize.ShloMosaic Idealize.ShloMosaic.TcCoe Cert.Products

variable (V : (c : Dev nD) → (b : Ref sig .tc) → Buf (Elt Ideal) ((c : Thread nD τ).loc b)) (c : Dev nD)

/-! ## The gate and the value -/

theorem pay0 (x : FVec Ideal S2176x1024 .bf16) (y : FVec Ideal S1x1024x1408 .bf16) (p : Fin 2176) (q : Fin 1408) :
    k0_pay1 (F := Ideal) x y (ix2 p q) = ∑ k : Fin 1024, x (ix2 p k) * y (ix3 0 k q) := by
  pointwise [k0_pay1]

theorem idx0 : ∀ t : Fin grid0.N,
    (win0_0.index t 0 = win0_2.index t 0 ∧ win0_0.index t 1 = 0)
    ∧ (win0_1.index t 0 = win0_2.index t 1 ∧ win0_1.index t 1 = 0 ∧ win0_1.index t 2 = 0) := by
  decide +kernel

theorem hit0 : ∀ (a : Fin 2) (b : Fin 4), ∃ t : Fin grid0.N,
    win0_2.index t 0 = a.val ∧ win0_2.index t 1 = b.val := by
  decide +kernel

theorem flushed0 (t : Fin cfg0.N) : (dat0 V c).flushed 2 t
    = ((cfg0.win 2).blk t).view.read (Elt Ideal) (nn (V c main_arg0) (joined (V c main_v2))) := by
  show (cfg0.win 2).cut (grid0.coords t) ((dat0 V c).after 2 t) = _
  rw [after0_2]
  funext y
  obtain ⟨p, q, rfl⟩ : ∃ (p : Fin 2176) (q : Fin 1408), y = ix2 p q := ⟨y 0, y 1, by funext a; fin_cases a <;> rfl⟩
  show out0_2 (iblk0 V c 0 t) (iblk0 V c 1 t) (ix2 p q)
    = (nn (V c main_arg0) (joined (V c main_v2))) (((cfg0.win 2).blk t).view.emb (ix2 p q))
  unfold out0_2
  rw [View.canon_unit_zero (by decide), View.ld_unit_zero (by decide), View.ld_unit_zero (by decide), pay0]
  obtain ⟨⟨h00, h01⟩, ⟨h10, h11, h12⟩⟩ := idx0 t
  refine Finset.sum_congr rfl fun k _ => ?_
  congr 1
  · show V c main_arg0 _ = V c main_arg0 _
    congr 1; funext a; fin_cases a
    · ext; show win0_0.index t 0 * 2176 + 1 * p.val = win0_2.index t 0 * 2176 + 1 * p.val; rw [h00]
    · ext; show win0_0.index t 1 * 1024 + 1 * k.val = k.val; rw [h01]; omega
  · show V c main_v2 _ = V c main_v2 _
    congr 1; funext a; fin_cases a
    · ext; show win0_1.index t 0 * 1 + 1 * 0 = (win0_2.index t 1 * 1408 + 1 * q.val) / 1408; rw [h10]; omega
    · ext; show win0_1.index t 1 * 1024 + 1 * k.val = k.val; rw [h11]; omega
    · ext; show win0_1.index t 2 * 1408 + 1 * q.val = (win0_2.index t 1 * 1408 + 1 * q.val) % 1408; rw [h12]; omega

/-- The gate and the value of every row. -/
theorem res0 : (dat0 V c).arrAt 2 cfg0.N = nn (V c main_arg0) (joined (V c main_v2)) :=
  (dat0 V c).arrAt_eq_of_cover 2 _ (fun t _ => flushed0 V c t) fun i => by
    have h0 : (i 0).val < 4352 := (i 0).isLt
    have h1 : (i 1).val < 5632 := (i 1).isLt
    obtain ⟨t, e0, e1⟩ := hit0 ⟨(i 0).val / 2176, by omega⟩ ⟨(i 1).val / 1408, by omega⟩
    refine ⟨t, flush0_2 t, ?_⟩
    have hi : ((cfg0.win 2).blk t).view.emb
        (ix2 (⟨(i 0).val % 2176, by omega⟩ : Fin 2176) (⟨(i 1).val % 1408, by omega⟩ : Fin 1408)) = i := by
      funext a; fin_cases a
      · ext; show win0_2.index t 0 * 2176 + 1 * ((i 0).val % 2176) = (i 0).val
        rw [e0]; show (i 0).val / 2176 * 2176 + _ = _; omega
      · ext; show win0_2.index t 1 * 1408 + 1 * ((i 1).val % 1408) = (i 1).val
        rw [e1]; show (i 1).val / 1408 * 1408 + _ = _; omega
    rw [← hi]
    exact Finset.mem_map_of_mem _ (Finset.mem_univ _)

/-! ## The gated unit -/

theorem pay1 (x : FVec Ideal S256x5632 .f32) (p : Fin 256) (q : Fin 2816) :
    k1_pay1 (F := Ideal) x (ix2 p q) = x (ix2 p (lo q)) * Ideal.logistic (x (ix2 p (lo q))) * x (ix2 p (hi q)) := by
  pointwise [k1_pay1]
  rfl

theorem idx1 : ∀ t : Fin grid1.N,
    (win1_0.index t 0 = win1_1.index t 0 ∧ win1_0.index t 1 = 0)
    ∧ (win1_1.index t 0 = win1_1.index t 0 ∧ win1_1.index t 1 = 0) := by
  decide +kernel

theorem hit1 : ∀ (a : Fin 17) (b : Fin 1), ∃ t : Fin grid1.N,
    win1_1.index t 0 = a.val ∧ win1_1.index t 1 = b.val := by
  decide +kernel

theorem flushed1 (t : Fin cfg1.N) : (dat1 V c).flushed 1 t
    = ((cfg1.win 1).blk t).view.read (Elt Ideal) (act (V c main_v4)) := by
  show (cfg1.win 1).cut (grid1.coords t) ((dat1 V c).after 1 t) = _
  rw [after1_1]
  funext y
  obtain ⟨p, q, rfl⟩ : ∃ (p : Fin 256) (q : Fin 2816), y = ix2 p q := ⟨y 0, y 1, by funext a; fin_cases a <;> rfl⟩
  show out1_1 (iblk1 V c 0 t) (ix2 p q)
    = (act (V c main_v4)) (((cfg1.win 1).blk t).view.emb (ix2 p q))
  unfold out1_1
  rw [View.canon_unit_zero (by decide), View.ld_unit_zero (by decide), pay1]
  obtain ⟨⟨h00, h01⟩, ⟨h10, h11⟩⟩ := idx1 t
  have x0 (j : Fin 5632) : (iblk1 V c 0 t : S256x5632.Idx → EReal) (ix2 p j)
      = V c main_v4 (ix2 (((cfg1.win 1).blk t).view.emb (ix2 p q) 0) j) := by
    show V c main_v4 _ = V c main_v4 _
    congr 1; funext a; fin_cases a
    · ext; show win1_0.index t 0 * 256 + 1 * p.val = win1_1.index t 0 * 256 + 1 * p.val; rw [h00]
    · ext; show win1_0.index t 1 * 5632 + 1 * j.val = j.val; rw [h01]; omega
  have eq : ((cfg1.win 1).blk t).view.emb (ix2 p q) 1 = q := by
    ext; show win1_1.index t 1 * 2816 + 1 * q.val = q.val; rw [h11]; omega
  rw [x0, x0]
  show _ = unit (V c main_v4) _ (((cfg1.win 1).blk t).view.emb (ix2 p q) 1)
  rw [eq]
  rfl

/-- The gated unit of every row. -/
theorem res1 : (dat1 V c).arrAt 1 cfg1.N = act (V c main_v4) :=
  (dat1 V c).arrAt_eq_of_cover 1 _ (fun t _ => flushed1 V c t) fun i => by
    have h0 : (i 0).val < 4352 := (i 0).isLt
    have h1 : (i 1).val < 2816 := (i 1).isLt
    obtain ⟨t, e0, e1⟩ := hit1 ⟨(i 0).val / 256, by omega⟩ ⟨(i 1).val / 2816, by omega⟩
    refine ⟨t, flush1_1 t, ?_⟩
    have hi : ((cfg1.win 1).blk t).view.emb
        (ix2 (⟨(i 0).val % 256, by omega⟩ : Fin 256) (⟨(i 1).val % 2816, by omega⟩ : Fin 2816)) = i := by
      funext a; fin_cases a
      · ext; show win1_1.index t 0 * 256 + 1 * ((i 0).val % 256) = (i 0).val
        rw [e0]; show (i 0).val / 256 * 256 + _ = _; omega
      · ext; show win1_1.index t 1 * 2816 + 1 * ((i 1).val % 2816) = (i 1).val
        rw [e1]; show (i 1).val / 2816 * 2816 + _ = _; omega
    rw [← hi]
    exact Finset.mem_map_of_mem _ (Finset.mem_univ _)

/-! ## The layer's result -/

theorem pay2 (x : FVec Ideal S2176x2816 .bf16) (y : FVec Ideal S2816x512 .bf16) (p : Fin 2176) (q : Fin 512) :
    k2_pay1 (F := Ideal) x y (ix2 p q) = ∑ k : Fin 2816, x (ix2 p k) * y (ix2 k q) := by
  pointwise [k2_pay1]

theorem idx2 : ∀ t : Fin grid2.N,
    (win2_0.index t 0 = win2_2.index t 0 ∧ win2_0.index t 1 = 0)
    ∧ (win2_1.index t 0 = 0 ∧ win2_1.index t 1 = win2_2.index t 1) := by
  decide +kernel

theorem hit2 : ∀ (a : Fin 2) (b : Fin 2), ∃ t : Fin grid2.N,
    win2_2.index t 0 = a.val ∧ win2_2.index t 1 = b.val := by
  decide +kernel

theorem flushed2 (t : Fin cfg2.N) : (dat2 V c).flushed 2 t
    = ((cfg2.win 2).blk t).view.read (Elt Ideal) (nn (V c main_v5) (V c main_v3)) := by
  show (cfg2.win 2).cut (grid2.coords t) ((dat2 V c).after 2 t) = _
  rw [after2_2]
  funext y
  obtain ⟨p, q, rfl⟩ : ∃ (p : Fin 2176) (q : Fin 512), y = ix2 p q := ⟨y 0, y 1, by funext a; fin_cases a <;> rfl⟩
  show out2_2 (iblk2 V c 0 t) (iblk2 V c 1 t) (ix2 p q)
    = (nn (V c main_v5) (V c main_v3)) (((cfg2.win 2).blk t).view.emb (ix2 p q))
  unfold out2_2
  rw [View.canon_unit_zero (by decide), View.ld_unit_zero (by decide), View.ld_unit_zero (by decide), pay2]
  obtain ⟨⟨h00, h01⟩, ⟨h10, h11⟩⟩ := idx2 t
  refine Finset.sum_congr rfl fun k _ => ?_
  congr 1
  · show V c main_v5 _ = V c main_v5 _
    congr 1; funext a; fin_cases a
    · ext; show win2_0.index t 0 * 2176 + 1 * p.val = win2_2.index t 0 * 2176 + 1 * p.val; rw [h00]
    · ext; show win2_0.index t 1 * 2816 + 1 * k.val = k.val; rw [h01]; omega
  · show V c main_v3 _ = V c main_v3 _
    congr 1; funext a; fin_cases a
    · ext; show win2_1.index t 0 * 2816 + 1 * k.val = k.val; rw [h10]; omega
    · ext; show win2_1.index t 1 * 512 + 1 * q.val = win2_2.index t 1 * 512 + 1 * q.val; rw [h11]

/-- The layer's result. -/
theorem res2 : (dat2 V c).arrAt 2 cfg2.N = nn (V c main_v5) (V c main_v3) :=
  (dat2 V c).arrAt_eq_of_cover 2 _ (fun t _ => flushed2 V c t) fun i => by
    have h0 : (i 0).val < 4352 := (i 0).isLt
    have h1 : (i 1).val < 1024 := (i 1).isLt
    obtain ⟨t, e0, e1⟩ := hit2 ⟨(i 0).val / 2176, by omega⟩ ⟨(i 1).val / 512, by omega⟩
    refine ⟨t, flush2_2 t, ?_⟩
    have hi : ((cfg2.win 2).blk t).view.emb
        (ix2 (⟨(i 0).val % 2176, by omega⟩ : Fin 2176) (⟨(i 1).val % 512, by omega⟩ : Fin 512)) = i := by
      funext a; fin_cases a
      · ext; show win2_2.index t 0 * 2176 + 1 * ((i 0).val % 2176) = (i 0).val
        rw [e0]; show (i 0).val / 2176 * 2176 + _ = _; omega
      · ext; show win2_2.index t 1 * 512 + 1 * ((i 1).val % 512) = (i 1).val
        rw [e1]; show (i 1).val / 512 * 512 + _ = _; omega
    rw [← hi]
    exact Finset.mem_map_of_mem _ (Finset.mem_univ _)

end Cert.Mlp

end
-- ==== Proof.MlpBackward.lean ====
/- What the backward calls of the feed-forward layer leave in their arrays. -/
module

public import proofs.«01_k».proof.Proof.Gen.Kernel2Ideal.Frame
public import proofs.«01_k».proof.Proof.MlpModel

@[expose] public section

noncomputable section

namespace Cert.Mlp

open Cert.Kernel2Ideal Cert.Kernel2Ideal.Gen Idealize.ShloMosaic Idealize.ShloMosaic.TcCoe Cert.Products

variable (V : (c : Dev nD) → (b : Ref sig .tc) → Buf (Elt Ideal) ((c : Thread nD τ).loc b)) (c : Dev nD)

/-! ## The gradient of the gated unit -/

theorem pay3 (x : FVec Ideal S2176x1024 .bf16) (y : FVec Ideal S1408x1024 .bf16) (p : Fin 2176) (q : Fin 1408) :
    k3_pay1 (F := Ideal) x y (ix2 p q) = ∑ k : Fin 1024, x (ix2 p k) * y (ix2 q k) := by
  pointwise [k3_pay1]

theorem idx3 : ∀ t : Fin grid3.N,
    (win3_0.index t 0 = win3_2.index t 0 ∧ win3_0.index t 1 = 0)
    ∧ (win3_1.index t 0 = win3_2.index t 1 ∧ win3_1.index t 1 = 0) := by
  decide +kernel

theorem hit3 : ∀ (a : Fin 2) (b : Fin 2), ∃ t : Fin grid3.N,
    win3_2.index t 0 = a.val ∧ win3_2.index t 1 = b.val := by
  decide +kernel

theorem flushed3 (t : Fin cfg3.N) : (dat3 V c).flushed 2 t
    = ((cfg3.win 2).blk t).view.read (Elt Ideal) (nt (V c main_arg3) (V c main_v3)) := by
  show (cfg3.win 2).cut (grid3.coords t) ((dat3 V c).after 2 t) = _
  rw [after3_2]
  funext y
  obtain ⟨p, q, rfl⟩ : ∃ (p : Fin 2176) (q : Fin 1408), y = ix2 p q := ⟨y 0, y 1, by funext a; fin_cases a <;> rfl⟩
  show out3_2 (iblk3 V c 0 t) (iblk3 V c 1 t) (ix2 p q)
    = (nt (V c main_arg3) (V c main_v3)) (((cfg3.win 2).blk t).view.emb (ix2 p q))
  unfold out3_2
  rw [View.canon_unit_zero (by decide), View.ld_unit_zero (by decide), View.ld_unit_zero (by decide), pay3]
  obtain ⟨⟨h00, h01⟩, ⟨h10, h11⟩⟩ := idx3 t
  refine Finset.sum_congr rfl fun k _ => ?_
  congr 1
  · show V c main_arg3 _ = V c main_arg3 _
    congr 1; funext a; fin_cases a
    · ext; show win3_0.index t 0 * 2176 + 1 * p.val = win3_2.index t 0 * 2176 + 1 * p.val; rw [h00]
    · ext; show win3_0.index t 1 * 1024 + 1 * k.val = k.val; rw [h01]; omega
  · show V c main_v3 _ = V c main_v3 _
    congr 1; funext a; fin_cases a
    · ext; show win3_1.index t 0 * 1408 + 1 * q.val = win3_2.index t 1 * 1408 + 1 * q.val; rw [h10]
    · ext; show win3_1.index t 1 * 1024 + 1 * k.val = k.val; rw [h11]; omega

/-- The gradient of the gated unit. -/
theorem res3 : (dat3 V c).arrAt 2 cfg3.N = nt (V c main_arg3) (V c main_v3) :=
  (dat3 V c).arrAt_eq_of_cover 2 _ (fun t _ => flushed3 V c t) fun i => by
    have h0 : (i 0).val < 4352 := (i 0).isLt
    have h1 : (i 1).val < 2816 := (i 1).isLt
    obtain ⟨t, e0, e1⟩ := hit3 ⟨(i 0).val / 2176, by omega⟩ ⟨(i 1).val / 1408, by omega⟩
    refine ⟨t, flush3_2 t, ?_⟩
    have hi : ((cfg3.win 2).blk t).view.emb
        (ix2 (⟨(i 0).val % 2176, by omega⟩ : Fin 2176) (⟨(i 1).val % 1408, by omega⟩ : Fin 1408)) = i := by
      funext a; fin_cases a
      · ext; show win3_2.index t 0 * 2176 + 1 * ((i 0).val % 2176) = (i 0).val
        rw [e0]; show (i 0).val / 2176 * 2176 + _ = _; omega
      · ext; show win3_2.index t 1 * 1408 + 1 * ((i 1).val % 1408) = (i 1).val
        rw [e1]; show (i 1).val / 1408 * 1408 + _ = _; omega
    rw [← hi]
    exact Finset.mem_map_of_mem _ (Finset.mem_univ _)

/-! ## The gradient of the second weight -/

theorem pay4 (x : FVec Ideal S4352x256 .bf16) (y : FVec Ideal S4352x512 .bf16) (p : Fin 256) (q : Fin 512) :
    k4_pay1 (F := Ideal) x y (ix2 p q) = ∑ k : Fin 4352, x (ix2 k p) * y (ix2 k q) := by
  pointwise [k4_pay1]

theorem idx4 : ∀ t : Fin grid4.N,
    (win4_0.index t 0 = 0 ∧ win4_0.index t 1 = win4_2.index t 0)
    ∧ (win4_1.index t 0 = 0 ∧ win4_1.index t 1 = win4_2.index t 1) := by
  decide +kernel

theorem hit4 : ∀ (a : Fin 11) (b : Fin 2), ∃ t : Fin grid4.N,
    win4_2.index t 0 = a.val ∧ win4_2.index t 1 = b.val := by
  decide +kernel

theorem flushed4 (t : Fin cfg4.N) : (dat4 V c).flushed 2 t
    = ((cfg4.win 2).blk t).view.read (Elt Ideal) (tn (V c main_v5) (V c main_arg3)) := by
  show (cfg4.win 2).cut (grid4.coords t) ((dat4 V c).after 2 t) = _
  rw [after4_2]
  funext y
  obtain ⟨p, q, rfl⟩ : ∃ (p : Fin 256) (q : Fin 512), y = ix2 p q := ⟨y 0, y 1, by funext a; fin_cases a <;> rfl⟩
  show out4_2 (iblk4 V c 0 t) (iblk4 V c 1 t) (ix2 p q)
    = (tn (V c main_v5) (V c main_arg3)) (((cfg4.win 2).blk t).view.emb (ix2 p q))
  unfold out4_2
  rw [View.canon_unit_zero (by decide), View.ld_unit_zero (by decide), View.ld_unit_zero (by decide), pay4]
  obtain ⟨⟨h00, h01⟩, ⟨h10, h11⟩⟩ := idx4 t
  refine Finset.sum_congr rfl fun k _ => ?_
  congr 1
  · show V c main_v5 _ = V c main_v5 _
    congr 1; funext a; fin_cases a
    · ext; show win4_0.index t 0 * 4352 + 1 * k.val = k.val; rw [h00]; omega
    · ext; show win4_0.index t 1 * 256 + 1 * p.val = win4_2.index t 0 * 256 + 1 * p.val; rw [h01]
  · show V c main_arg3 _ = V c main_arg3 _
    congr 1; funext a; fin_cases a
    · ext; show win4_1.index t 0 * 4352 + 1 * k.val = k.val; rw [h10]; omega
    · ext; show win4_1.index t 1 * 512 + 1 * q.val = win4_2.index t 1 * 512 + 1 * q.val; rw [h11]

/-- The gradient of the second weight. -/
theorem res4 : (dat4 V c).arrAt 2 cfg4.N = tn (V c main_v5) (V c main_arg3) :=
  (dat4 V c).arrAt_eq_of_cover 2 _ (fun t _ => flushed4 V c t) fun i => by
    have h0 : (i 0).val < 2816 := (i 0).isLt
    have h1 : (i 1).val < 1024 := (i 1).isLt
    obtain ⟨t, e0, e1⟩ := hit4 ⟨(i 0).val / 256, by omega⟩ ⟨(i 1).val / 512, by omega⟩
    refine ⟨t, flush4_2 t, ?_⟩
    have hi : ((cfg4.win 2).blk t).view.emb
        (ix2 (⟨(i 0).val % 256, by omega⟩ : Fin 256) (⟨(i 1).val % 512, by omega⟩ : Fin 512)) = i := by
      funext a; fin_cases a
      · ext; show win4_2.index t 0 * 256 + 1 * ((i 0).val % 256) = (i 0).val
        rw [e0]; show (i 0).val / 256 * 256 + _ = _; omega
      · ext; show win4_2.index t 1 * 512 + 1 * ((i 1).val % 512) = (i 1).val
        rw [e1]; show (i 1).val / 512 * 512 + _ = _; omega
    rw [← hi]
    exact Finset.mem_map_of_mem _ (Finset.mem_univ _)

/-! ## The gradient of the gate and of the value -/

theorem pay5 (x : FVec Ideal S256x5632 .f32) (y : FVec Ideal S256x2816 .f32) (p : Fin 256) (q : Fin 5632) :
    k5_pay1 (F := Ideal) x y (ix2 p q) = if h : q.val < 2816 then
        y (ix2 p ⟨q.val, h⟩) * x (ix2 p (hi ⟨q.val, h⟩)) * Ideal.logistic (x (ix2 p (lo ⟨q.val, h⟩)))
          + x (ix2 p (lo ⟨q.val, h⟩)) * (y (ix2 p ⟨q.val, h⟩) * x (ix2 p (hi ⟨q.val, h⟩)))
            * (Ideal.logistic (x (ix2 p (lo ⟨q.val, h⟩))) * (1 - Ideal.logistic (x (ix2 p (lo ⟨q.val, h⟩)))))
      else x (ix2 p (lo ⟨q.val - 2816, by omega⟩)) * Ideal.logistic (x (ix2 p (lo ⟨q.val - 2816, by omega⟩)))
        * y (ix2 p ⟨q.val - 2816, by omega⟩) := by
  pointwise [k5_pay1]
  rfl

theorem idx5 : ∀ t : Fin grid5.N,
    (win5_0.index t 0 = win5_2.index t 0 ∧ win5_0.index t 1 = 0)
    ∧ (win5_1.index t 0 = win5_2.index t 0 ∧ win5_1.index t 1 = 0)
    ∧ (win5_2.index t 0 = win5_2.index t 0 ∧ win5_2.index t 1 = 0) := by
  decide +kernel

theorem hit5 : ∀ (a : Fin 17) (b : Fin 1), ∃ t : Fin grid5.N,
    win5_2.index t 0 = a.val ∧ win5_2.index t 1 = b.val := by
  decide +kernel

theorem flushed5 (t : Fin cfg5.N) : (dat5 V c).flushed 2 t
    = ((cfg5.win 2).blk t).view.read (Elt Ideal) (dact (V c main_v4) (V c main_v7)) := by
  show (cfg5.win 2).cut (grid5.coords t) ((dat5 V c).after 2 t) = _
  rw [after5_2]
  funext y
  obtain ⟨p, q, rfl⟩ : ∃ (p : Fin 256) (q : Fin 5632), y = ix2 p q := ⟨y 0, y 1, by funext a; fin_cases a <;> rfl⟩
  show out5_2 (iblk5 V c 0 t) (iblk5 V c 1 t) (ix2 p q)
    = (dact (V c main_v4) (V c main_v7)) (((cfg5.win 2).blk t).view.emb (ix2 p q))
  unfold out5_2
  rw [View.canon_unit_zero (by decide), View.ld_unit_zero (by decide), View.ld_unit_zero (by decide), pay5]
  obtain ⟨⟨h00, h01⟩, ⟨h10, h11⟩, ⟨h20, h21⟩⟩ := idx5 t
  have x0 (j : Fin 5632) : (iblk5 V c 0 t : S256x5632.Idx → EReal) (ix2 p j)
      = V c main_v4 (ix2 (((cfg5.win 2).blk t).view.emb (ix2 p q) 0) j) := by
    show V c main_v4 _ = V c main_v4 _
    congr 1; funext a; fin_cases a
    · ext; show win5_0.index t 0 * 256 + 1 * p.val = win5_2.index t 0 * 256 + 1 * p.val; rw [h00]
    · ext; show win5_0.index t 1 * 5632 + 1 * j.val = j.val; rw [h01]; omega
  have x1 (j : Fin 2816) : (iblk5 V c 1 t : S256x2816.Idx → EReal) (ix2 p j)
      = V c main_v7 (ix2 (((cfg5.win 2).blk t).view.emb (ix2 p q) 0) j) := by
    show V c main_v7 _ = V c main_v7 _
    congr 1; funext a; fin_cases a
    · ext; show win5_1.index t 0 * 256 + 1 * p.val = win5_2.index t 0 * 256 + 1 * p.val; rw [h10]
    · ext; show win5_1.index t 1 * 2816 + 1 * j.val = j.val; rw [h11]; omega
  have eq : ((cfg5.win 2).blk t).view.emb (ix2 p q) 1 = q := by
    ext; show win5_2.index t 1 * 5632 + 1 * q.val = q.val; rw [h21]; omega
  simp only [x0, x1]
  show _ = unitGrad (V c main_v4) (V c main_v7) _ (((cfg5.win 2).blk t).view.emb (ix2 p q) 1)
  rw [eq]
  rfl

/-- The gradient of the gate and of the value of every row. -/
theorem res5 : (dat5 V c).arrAt 2 cfg5.N = dact (V c main_v4) (V c main_v7) :=
  (dat5 V c).arrAt_eq_of_cover 2 _ (fun t _ => flushed5 V c t) fun i => by
    have h0 : (i 0).val < 4352 := (i 0).isLt
    have h1 : (i 1).val < 5632 := (i 1).isLt
    obtain ⟨t, e0, e1⟩ := hit5 ⟨(i 0).val / 256, by omega⟩ ⟨(i 1).val / 5632, by omega⟩
    refine ⟨t, flush5_2 t, ?_⟩
    have hi : ((cfg5.win 2).blk t).view.emb
        (ix2 (⟨(i 0).val % 256, by omega⟩ : Fin 256) (⟨(i 1).val % 5632, by omega⟩ : Fin 5632)) = i := by
      funext a; fin_cases a
      · ext; show win5_2.index t 0 * 256 + 1 * ((i 0).val % 256) = (i 0).val
        rw [e0]; show (i 0).val / 256 * 256 + _ = _; omega
      · ext; show win5_2.index t 1 * 5632 + 1 * ((i 1).val % 5632) = (i 1).val
        rw [e1]; show (i 1).val / 5632 * 5632 + _ = _; omega
    rw [← hi]
    exact Finset.mem_map_of_mem _ (Finset.mem_univ _)

/-! ## The gradient of the layer's input -/

/-- Column `k` of the `j`-th block of 1408. -/
def at4 (j : Fin 4) (k : Fin 1408) : Fin 5632 := ⟨j.val * 1408 + k.val, by omega⟩

/-- A sum over all the columns, one block after the other. -/
theorem sum_blocks (f : Fin 5632 → EReal) : ∑ k, f k = ((∑ k, f (at4 0 k)) + ∑ k, f (at4 1 k)) + (∑ k, f (at4 2 k))
    + ∑ k, f (at4 3 k) := by
  rw [← (finProdFinEquiv (m := 4) (n := 1408)).sum_comp f, Fintype.sum_prod_type, Fin.sum_univ_four]
  refine congr (congrArg _ (congr (congrArg _ (congr (congrArg _ ?_) ?_)) ?_)) ?_ <;>
    exact Finset.sum_congr rfl fun k _ => congrArg f (by ext; simp [finProdFinEquiv, at4]; try omega)

theorem pay6 (x0 x1 x2 x3 : FVec Ideal S1088x1408 .bf16) (y0 y1 y2 y3 : FVec Ideal S1x512x1408 .bf16) (p : Fin 1088) (q : Fin 512) :
    k6_pay1 (F := Ideal) x0 y0 x1 y1 x2 y2 x3 y3 (ix2 p q)
      = ((∑ k : Fin 1408, x0 (ix2 p k) * y0 (ix3 0 q k)) + ∑ k : Fin 1408, x1 (ix2 p k) * y1 (ix3 0 q k))
        + (∑ k : Fin 1408, x2 (ix2 p k) * y2 (ix3 0 q k)) + ∑ k : Fin 1408, x3 (ix2 p k) * y3 (ix3 0 q k) := by
  pointwise [k6_pay1]

theorem cols6 (x : Vec Ideal S1088x5632 .bf16) (o : ℕ) (j : Fin 4) (hj : o = j.val * 1408) (inb) (p : Fin 1088) (k : Fin 1408) :
    (View.ld x (Rect.unit (s := S1088x5632) ![0, o] S1088x1408.size inb) : FVec Ideal S1088x1408 .bf16) (ix2 p k)
      = x (ix2 p (at4 j k)) := by
  subst hj
  show x _ = x _
  congr 1; funext a; fin_cases a
  · ext; show 0 + 1 * p.val = p.val; omega
  · ext; show j.val * 1408 + 1 * k.val = j.val * 1408 + k.val; omega

theorem part6 (y : Vec Ideal S4x512x1408 .bf16) (o : ℕ) (j : Fin 4) (hj : o = j.val) (inb) (q : Fin 512) (k : Fin 1408) :
    (View.ld y (Rect.unit (s := S4x512x1408) ![o, 0, 0] S1x512x1408.size inb) : FVec Ideal S1x512x1408 .bf16) (ix3 0 q k)
      = y (ix3 j q k) := by
  subst hj
  show y _ = y _
  congr 1; funext a; fin_cases a
  · ext; show j.val + 1 * 0 = j.val; omega
  · ext; show 0 + 1 * q.val = q.val; omega
  · ext; show 0 + 1 * k.val = k.val; omega

theorem idx6 : ∀ t : Fin grid6.N,
    (win6_0.index t 0 = win6_2.index t 0 ∧ win6_0.index t 1 = 0)
    ∧ (win6_1.index t 0 = 0 ∧ win6_1.index t 1 = win6_2.index t 1 ∧ win6_1.index t 2 = 0) := by
  decide +kernel

theorem hit6 : ∀ (a : Fin 4) (b : Fin 2), ∃ t : Fin grid6.N,
    win6_2.index t 0 = a.val ∧ win6_2.index t 1 = b.val := by
  decide +kernel

set_option maxRecDepth 20000 in
theorem flushed6 (t : Fin cfg6.N) : (dat6 V c).flushed 2 t
    = ((cfg6.win 2).blk t).view.read (Elt Ideal) (nt (V c main_v9) (joined (V c main_v2))) := by
  show (cfg6.win 2).cut (grid6.coords t) ((dat6 V c).after 2 t) = _
  rw [after6_2]
  funext y
  obtain ⟨p, q, rfl⟩ : ∃ (p : Fin 1088) (q : Fin 512), y = ix2 p q := ⟨y 0, y 1, by funext a; fin_cases a <;> rfl⟩
  show out6_2 (iblk6 V c 0 t) (iblk6 V c 1 t) (ix2 p q)
    = (nt (V c main_v9) (joined (V c main_v2))) (((cfg6.win 2).blk t).view.emb (ix2 p q))
  unfold out6_2
  rw [View.canon_unit_zero (by decide), pay6]
  obtain ⟨⟨h00, h01⟩, ⟨h10, h11, h12⟩⟩ := idx6 t
  have x0 (j : Fin 4) (k : Fin 1408) : (iblk6 V c 0 t : S1088x5632.Idx → EReal) (ix2 p (at4 j k))
      = V c main_v9 (ix2 (((cfg6.win 2).blk t).view.emb (ix2 p q) 0) (at4 j k)) := by
    show V c main_v9 _ = V c main_v9 _
    congr 1; funext a; fin_cases a
    · ext; show win6_0.index t 0 * 1088 + 1 * p.val = win6_2.index t 0 * 1088 + 1 * p.val; rw [h00]
    · ext; show win6_0.index t 1 * 5632 + 1 * (at4 j k).val = (at4 j k).val; rw [h01]; omega
  have y0 (j : Fin 4) (k : Fin 1408) : (iblk6 V c 1 t : S4x512x1408.Idx → EReal) (ix3 j q k)
      = joined (V c main_v2) (ix2 (((cfg6.win 2).blk t).view.emb (ix2 p q) 1) (at4 j k)) := by
    show V c main_v2 _ = V c main_v2 _
    congr 1; funext a; fin_cases a
    · ext; show win6_1.index t 0 * 4 + 1 * j.val = (j.val * 1408 + k.val) / 1408; rw [h10]; omega
    · ext; show win6_1.index t 1 * 512 + 1 * q.val = win6_2.index t 1 * 512 + 1 * q.val; rw [h11]
    · ext; show win6_1.index t 2 * 1408 + 1 * k.val = (j.val * 1408 + k.val) % 1408; rw [h12]; omega
  refine Eq.trans ?_ (sum_blocks _).symm
  refine congr (congrArg _ (congr (congrArg _ (congr (congrArg _ ?_) ?_)) ?_)) ?_
  · exact Finset.sum_congr rfl fun k _ => congr (congrArg HMul.hMul ((cols6 (iblk6 V c 0 t) _ 0 rfl _ p k).trans (x0 0 k))) ((part6 (iblk6 V c 1 t) _ 0 rfl _ q k).trans (y0 0 k))
  · exact Finset.sum_congr rfl fun k _ => congr (congrArg HMul.hMul ((cols6 (iblk6 V c 0 t) _ 1 rfl _ p k).trans (x0 1 k))) ((part6 (iblk6 V c 1 t) _ 1 rfl _ q k).trans (y0 1 k))
  · exact Finset.sum_congr rfl fun k _ => congr (congrArg HMul.hMul ((cols6 (iblk6 V c 0 t) _ 2 rfl _ p k).trans (x0 2 k))) ((part6 (iblk6 V c 1 t) _ 2 rfl _ q k).trans (y0 2 k))
  · exact Finset.sum_congr rfl fun k _ => congr (congrArg HMul.hMul ((cols6 (iblk6 V c 0 t) _ 3 rfl _ p k).trans (x0 3 k))) ((part6 (iblk6 V c 1 t) _ 3 rfl _ q k).trans (y0 3 k))

/-- The gradient of the layer's input. -/
theorem res6 : (dat6 V c).arrAt 2 cfg6.N = nt (V c main_v9) (joined (V c main_v2)) :=
  (dat6 V c).arrAt_eq_of_cover 2 _ (fun t _ => flushed6 V c t) fun i => by
    have h0 : (i 0).val < 4352 := (i 0).isLt
    have h1 : (i 1).val < 1024 := (i 1).isLt
    obtain ⟨t, e0, e1⟩ := hit6 ⟨(i 0).val / 1088, by omega⟩ ⟨(i 1).val / 512, by omega⟩
    refine ⟨t, flush6_2 t, ?_⟩
    have hi : ((cfg6.win 2).blk t).view.emb
        (ix2 (⟨(i 0).val % 1088, by omega⟩ : Fin 1088) (⟨(i 1).val % 512, by omega⟩ : Fin 512)) = i := by
      funext a; fin_cases a
      · ext; show win6_2.index t 0 * 1088 + 1 * ((i 0).val % 1088) = (i 0).val
        rw [e0]; show (i 0).val / 1088 * 1088 + _ = _; omega
      · ext; show win6_2.index t 1 * 512 + 1 * ((i 1).val % 512) = (i 1).val
        rw [e1]; show (i 1).val / 512 * 512 + _ = _; omega
    rw [← hi]
    exact Finset.mem_map_of_mem _ (Finset.mem_univ _)

/-! ## The gradient of the first weight -/

theorem pay7 (x : FVec Ideal S4352x512 .bf16) (y : FVec Ideal S4352x1408 .bf16) (p : Fin 512) (q : Fin 1408) :
    k7_pay1 (F := Ideal) x y (ix3 0 p q) = ∑ k : Fin 4352, x (ix2 k p) * y (ix2 k q) := by
  pointwise [k7_pay1]

theorem idx7 : ∀ t : Fin grid7.N,
    (win7_0.index t 0 = 0 ∧ win7_0.index t 1 = win7_2.index t 1)
    ∧ (win7_1.index t 0 = 0 ∧ win7_1.index t 1 = win7_2.index t 0) ∧ win7_2.index t 2 = 0 := by
  decide +kernel

theorem hit7 : ∀ (a : Fin 4) (b : Fin 2), ∃ t : Fin grid7.N, win7_2.index t 0 = a.val ∧ win7_2.index t 1 = b.val := by
  decide +kernel

theorem flushed7 (t : Fin cfg7.N) : (dat7 V c).flushed 2 t
    = ((cfg7.win 2).blk t).view.read (Elt Ideal) (parted (tn (V c main_arg0) (V c main_v9))) := by
  show (cfg7.win 2).cut (grid7.coords t) ((dat7 V c).after 2 t) = _
  rw [after7_2]
  funext y
  obtain ⟨p, q, rfl⟩ : ∃ (p : Fin 512) (q : Fin 1408), y = ix3 0 p q :=
    ⟨y 1, y 2, by funext a; fin_cases a; · exact Subsingleton.elim (α := Fin 1) _ _
                  · rfl
                  · rfl⟩
  show out7_2 (iblk7 V c 0 t) (iblk7 V c 1 t) (ix3 0 p q)
    = parted (tn (V c main_arg0) (V c main_v9)) (((cfg7.win 2).blk t).view.emb (ix3 0 p q))
  unfold out7_2
  rw [View.canon_unit_zero (by decide), View.ld_unit_zero (by decide), View.ld_unit_zero (by decide), pay7]
  obtain ⟨⟨h00, h01⟩, ⟨h10, h11⟩, h22⟩ := idx7 t
  unfold parted tn
  refine Finset.sum_congr rfl fun k _ => ?_
  congr 1
  · show V c main_arg0 _ = V c main_arg0 _
    congr 1; funext a; fin_cases a
    · ext; show win7_0.index t 0 * 4352 + 1 * k.val = k.val; rw [h00]; omega
    · ext; show win7_0.index t 1 * 512 + 1 * p.val = win7_2.index t 1 * 512 + 1 * p.val; rw [h01]
  · show V c main_v9 _ = V c main_v9 _
    congr 1; funext a; fin_cases a
    · ext; show win7_1.index t 0 * 4352 + 1 * k.val = k.val; rw [h10]; omega
    · ext
      show win7_1.index t 1 * 1408 + 1 * q.val
        = (win7_2.index t 0 * 1 + 1 * 0) * 1408 + (win7_2.index t 2 * 1408 + 1 * q.val)
      rw [h11, h22]; omega

/-- The gradient of the first weight, in four blocks of columns. -/
theorem res7 : (dat7 V c).arrAt 2 cfg7.N = parted (tn (V c main_arg0) (V c main_v9)) :=
  (dat7 V c).arrAt_eq_of_cover 2 _ (fun t _ => flushed7 V c t) fun i => by
    have h0 : (i 0).val < 4 := (i 0).isLt
    have h1 : (i 1).val < 1024 := (i 1).isLt
    have h2 : (i 2).val < 1408 := (i 2).isLt
    obtain ⟨t, e0, e1⟩ := hit7 ⟨(i 0).val, by omega⟩ ⟨(i 1).val / 512, by omega⟩
    refine ⟨t, flush7_2 t, ?_⟩
    have hi : ((cfg7.win 2).blk t).view.emb
        (ix3 (0 : Fin 1) (⟨(i 1).val % 512, by omega⟩ : Fin 512) (⟨(i 2).val, by omega⟩ : Fin 1408)) = i := by
      funext a; fin_cases a
      · ext; show win7_2.index t 0 * 1 + 1 * 0 = (i 0).val; rw [e0]; show (i 0).val * 1 + _ = _; omega
      · ext; show win7_2.index t 1 * 512 + 1 * ((i 1).val % 512) = (i 1).val
        rw [e1]; show (i 1).val / 512 * 512 + _ = _; omega
      · ext; show win7_2.index t 2 * 1408 + 1 * (i 2).val = (i 2).val; rw [(idx7 t).2.2]; omega
    rw [← hi]
    exact Finset.mem_map_of_mem _ (Finset.mem_univ _)

end Cert.Mlp

end
-- ==== Proof.MlpValues.lean ====
/- The arrays between the calls of the feed-forward layer, and its four results, from the arguments. -/
module

public import proofs.«01_k».proof.Proof.MlpForward
public import proofs.«01_k».proof.Proof.MlpBackward

@[expose] public section

noncomputable section

namespace Cert.Mlp

open Cert.Kernel2Ideal Cert.Kernel2Ideal.Gen Idealize.ShloMosaic Idealize.ShloMosaic.TcCoe Cert.Products Idealize.ShloMosaic.StableHlo

variable (m : (ℓ : Loc nD τ sig) → Buf (Elt Ideal) ℓ) (ρ : Dev nD → PrngReg) (c : Dev nD)

theorem joined_parted (w : Mat 1024 5632) : joined (parted w) = w := by
  funext i
  show w _ = w _
  congr 1; funext a; fin_cases a
  · rfl
  · ext; show (i 1).val / 1408 * 1408 + (i 1).val % 1408 = (i 1).val; omega

/-- The layer's input. -/
abbrev h : Mat 4352 1024 := m ((c : Thread nD τ).loc main_arg0)
/-- The weight of the gate and of the value. -/
abbrev w1 : Mat 1024 5632 := m ((c : Thread nD τ).loc main_arg1)
/-- The weight of the result. -/
abbrev w2 : Mat 2816 1024 := m ((c : Thread nD τ).loc main_arg2)
/-- The gradient of the result. -/
abbrev d : Mat 4352 1024 := m ((c : Thread nD τ).loc main_arg3)
/-- The gate and the value. -/
abbrev u : Mat 4352 5632 := nn (h m c) (w1 m c)
/-- Their gradient. -/
abbrev du : Mat 4352 5632 := dact (u m c) (nt (d m c) (w2 m c))

set_option maxRecDepth 20000 in
/-- The first weight, cast and cut into blocks by the host. -/
theorem main_v2_val : W1 m ρ c (Proc.devRef .tc main_v2) = parted (w1 m c) := by
  have e : W1 m ρ c (Proc.devRef .tc main_v2)
      = (transpose S4x1024x1408 [1, 0, 2] (shapeCast S1024x4x1408
          (truncf (F := Ideal) .bf16 (m ((c : Thread nD τ).loc main_arg1)) bitsLt_bf16_f32)
          shapeCasts_S1024x5632_S1024x4x1408) transposes_S1024x4x1408_S4x1024x1408_1_0_2 : FVec Ideal S4x1024x1408 .bf16) := by
    simp only [W1, hostOps0]
    after_results_simp <;> rfl
  rw [e]
  funext i
  obtain ⟨b, p, q, rfl⟩ : ∃ (b : Fin 4) (p : Fin 1024) (q : Fin 1408), i = ix3 b p q :=
    ⟨i 0, i 1, i 2, by funext a; fin_cases a <;> rfl⟩
  pointwise []
  rfl

/-- The second weight, cast by the host. -/
theorem main_v3_val : W1 m ρ c (Proc.devRef .tc main_v3) = w2 m c := by
  simp only [W1, hostOps0]
  after_results_simp <;> rfl

theorem main_v4_val : W2 m ρ c (Proc.devRef .tc main_v4) = u m c := by
  refine (W2_arr m ρ c 2).trans ((res0 (V1 m ρ) c).trans ?_)
  rw [show V1 m ρ c main_arg0 = h m c from (W1_args m ρ c main_arg0 (by decide)),
    show V1 m ρ c main_v2 = parted (w1 m c) from (main_v2_val m ρ c),
    joined_parted]

theorem main_v5_val : W3 m ρ c (Proc.devRef .tc main_v5) = act (u m c) := by
  refine (W3_arr m ρ c 1).trans ((res1 (V2 m ρ) c).trans ?_)
  rw [show V2 m ρ c main_v4 = u m c from (main_v4_val m ρ c)]

theorem main_v6_val : W4 m ρ c (Proc.devRef .tc main_v6) = nn (act (u m c)) (w2 m c) := by
  refine (W4_arr m ρ c 2).trans ((res2 (V3 m ρ) c).trans ?_)
  rw [show V3 m ρ c main_v5 = act (u m c) from (main_v5_val m ρ c),
    show V3 m ρ c main_v3 = w2 m c from ((W3_of m ρ c main_v3 (by decide)).trans ((W2_of m ρ c main_v3 (by decide)).trans (main_v3_val m ρ c)))]

theorem main_v7_val : W5 m ρ c (Proc.devRef .tc main_v7) = nt (d m c) (w2 m c) := by
  refine (W5_arr m ρ c 2).trans ((res3 (V4 m ρ) c).trans ?_)
  rw [show V4 m ρ c main_arg3 = d m c from (W4_args m ρ c main_arg3 (by decide)),
    show V4 m ρ c main_v3 = w2 m c from ((W4_of m ρ c main_v3 (by decide)).trans ((W3_of m ρ c main_v3 (by decide)).trans ((W2_of m ρ c main_v3 (by decide)).trans (main_v3_val m ρ c))))]

theorem main_v8_val : W6 m ρ c (Proc.devRef .tc main_v8) = tn (act (u m c)) (d m c) := by
  refine (W6_arr m ρ c 2).trans ((res4 (V5 m ρ) c).trans ?_)
  rw [show V5 m ρ c main_v5 = act (u m c) from ((W5_of m ρ c main_v5 (by decide)).trans ((W4_of m ρ c main_v5 (by decide)).trans (main_v5_val m ρ c))),
    show V5 m ρ c main_arg3 = d m c from (W5_args m ρ c main_arg3 (by decide))]

theorem main_v9_val : W7 m ρ c (Proc.devRef .tc main_v9) = du m c := by
  refine (W7_arr m ρ c 2).trans ((res5 (V6 m ρ) c).trans ?_)
  rw [show V6 m ρ c main_v4 = u m c from ((W6_of m ρ c main_v4 (by decide)).trans ((W5_of m ρ c main_v4 (by decide)).trans ((W4_of m ρ c main_v4 (by decide)).trans ((W3_of m ρ c main_v4 (by decide)).trans (main_v4_val m ρ c))))),
    show V6 m ρ c main_v7 = nt (d m c) (w2 m c) from ((W6_of m ρ c main_v7 (by decide)).trans (main_v7_val m ρ c))]

theorem main_v10_val : W8 m ρ c (Proc.devRef .tc main_v10) = nt (du m c) (w1 m c) := by
  refine (W8_arr m ρ c 2).trans ((res6 (V7 m ρ) c).trans ?_)
  rw [show V7 m ρ c main_v9 = du m c from (main_v9_val m ρ c),
    show V7 m ρ c main_v2 = parted (w1 m c) from ((W7_of m ρ c main_v2 (by decide)).trans ((W6_of m ρ c main_v2 (by decide)).trans ((W5_of m ρ c main_v2 (by decide)).trans ((W4_of m ρ c main_v2 (by decide)).trans ((W3_of m ρ c main_v2 (by decide)).trans ((W2_of m ρ c main_v2 (by decide)).trans (main_v2_val m ρ c))))))),
    joined_parted]

theorem main_v11_val : W9 m ρ c (Proc.devRef .tc main_v11) = parted (tn (h m c) (du m c)) := by
  refine (W9_arr m ρ c 2).trans ((res7 (V8 m ρ) c).trans ?_)
  rw [show V8 m ρ c main_arg0 = h m c from (W8_args m ρ c main_arg0 (by decide)),
    show V8 m ρ c main_v9 = du m c from ((W8_of m ρ c main_v9 (by decide)).trans (main_v9_val m ρ c))]

/-! ## The four results -/

theorem out_dn : W10 m ρ c (Proc.devRef .tc main_v6) = nn (act (u m c)) (w2 m c) :=
  ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans (main_v6_val m ρ c)))))))

theorem out_dh : W10 m ρ c (Proc.devRef .tc main_v10) = nt (du m c) (w1 m c) :=
  ((W10_of m ρ c main_v10 (by decide)).trans ((W9_of m ρ c main_v10 (by decide)).trans (main_v10_val m ρ c)))

theorem out_dw2 : W10 m ρ c (Proc.devRef .tc main_v8) = tn (act (u m c)) (d m c) :=
  ((W10_of m ρ c main_v8 (by decide)).trans ((W9_of m ρ c main_v8 (by decide)).trans ((W8_of m ρ c main_v8 (by decide)).trans ((W7_of m ρ c main_v8 (by decide)).trans (main_v8_val m ρ c)))))

set_option maxRecDepth 20000 in
theorem out_dw1 : W10 m ρ c (Proc.devRef .tc main_v13) = tn (h m c) (du m c) := by
  have e : W10 m ρ c (Proc.devRef .tc main_v13)
      = (shapeCast S1024x5632 (transpose S1024x4x1408 [1, 0, 2]
          (W9 m ρ c (Proc.devRef .tc main_v11) : FVec Ideal S4x1024x1408 .f32) transposes_S4x1024x1408_S1024x4x1408_1_0_2)
          shapeCasts_S1024x4x1408_S1024x5632 : FVec Ideal S1024x5632 .f32) := by
    simp only [W10, hostOps8]
    after_results_simp <;> rfl
  rw [e, main_v11_val]
  funext i
  obtain ⟨p, q, rfl⟩ : ∃ (p : Fin 1024) (q : Fin 5632), i = ix2 p q := ⟨i 0, i 1, by funext a; fin_cases a <;> rfl⟩
  pointwise []
  show tn _ _ _ = tn _ _ _
  congr 1; funext a; fin_cases a
  · rfl
  · ext; show q.val / 1408 * 1408 + q.val % 1408 = q.val; omega

end Cert.Mlp

end
-- ==== Proof.MlpReference.lean ====
/- What the reference of the feed-forward layer computes: its result and its three gradients. -/
module

public import proofs.«01_k».proof.Proof.Gen.Reference2Ideal.Read
public import proofs.«01_k».proof.Proof.MlpModel

@[expose] public section

noncomputable section

namespace Cert.Mlp

open Cert.Reference2Ideal Cert.Reference2Ideal.Gen Cert.Reference2Ideal.Read Idealize.ShloMosaic Idealize.ShloMosaic.TcCoe Cert.Products

variable (x0 x3 : Mat 4352 1024) (x1 : Mat 1024 5632) (x2 : Mat 2816 1024)

/-- The gate and the value. -/
theorem ref_v1 : val_main_v1 (F := Ideal) x0 x1 = nn x0 x1 := by
  funext i
  obtain ⟨p, q, rfl⟩ : ∃ (p : Fin 4352) (q : Fin 5632), i = ix2 p q := ⟨i 0, i 1, by funext a; fin_cases a <;> rfl⟩
  pointwise [val_main_v1, val_main_v0]
  rfl

/-- The sigmoid of the gate. -/
theorem ref_sigma (p : Fin 4352) (q : Fin 2816) : val_main_v4_2 (F := Ideal) x0 x1 (ix2 p q) = Ideal.logistic (nn x0 x1 (ix2 p (lo q))) := by
  pointwise [val_main_v4_2, val_main_call0_v4, val_main_call0_cst_0, val_main_call0_v3, val_main_call0_v2, val_main_call0_cst, val_main_call0_v1, val_main_call0_v0, val_main_v2]
  rw [ref_v1]
  rfl

/-- The gated unit. -/
theorem ref_v5 : val_main_v5 (F := Ideal) x0 x1 = act (nn x0 x1) := by
  funext i
  obtain ⟨p, q, rfl⟩ : ∃ (p : Fin 4352) (q : Fin 2816), i = ix2 p q := ⟨i 0, i 1, by funext a; fin_cases a <;> rfl⟩
  pointwise [val_main_v5, val_main_v4_0, val_main_v3, val_main_v2]
  rw [ref_sigma, ref_v1]
  rfl

/-- The layer's result. -/
theorem ref_v6 : val_main_v6 (F := Ideal) x0 x1 x2 = nn (act (nn x0 x1)) x2 := by
  funext i
  obtain ⟨p, q, rfl⟩ : ∃ (p : Fin 4352) (q : Fin 1024), i = ix2 p q := ⟨i 0, i 1, by funext a; fin_cases a <;> rfl⟩
  pointwise [val_main_v6]
  rw [ref_v5]
  rfl

/-- The gradient of the second weight. -/
theorem ref_v9 : val_main_v9 (F := Ideal) x0 x1 x3 = tn (act (nn x0 x1)) x3 := by
  funext i
  obtain ⟨p, q, rfl⟩ : ∃ (p : Fin 2816) (q : Fin 1024), i = ix2 p q := ⟨i 0, i 1, by funext a; fin_cases a <;> rfl⟩
  pointwise [val_main_v9, val_main_v8, val_main_v7]
  rw [ref_v5]
  exact Finset.sum_congr rfl fun k _ => mul_comm _ _

/-- The gradient of the gated unit. -/
theorem ref_v10 : val_main_v10 (F := Ideal) x2 x3 = nt x3 x2 := by
  funext i
  obtain ⟨p, q, rfl⟩ : ∃ (p : Fin 4352) (q : Fin 2816), i = ix2 p q := ⟨i 0, i 1, by funext a; fin_cases a <;> rfl⟩
  pointwise [val_main_v10, val_main_v7]
  rfl

/-- The gradient of the gate and of the value. -/
theorem ref_v14 : val_main_v14 (F := Ideal) x0 x1 x2 x3 = dact (nn x0 x1) (nt x3 x2) := by
  funext i
  obtain ⟨p, q, rfl⟩ : ∃ (p : Fin 4352) (q : Fin 5632), i = ix2 p q := ⟨i 0, i 1, by funext a; fin_cases a <;> rfl⟩
  show _ = unitGrad _ _ p q
  unfold unitGrad gateGrad valueGrad
  by_cases h : q.val < 2816
  · pointwise [val_main_v14]
    rw [dif_pos h, dif_pos h]
    pointwise [val_main_v13, val_main_call1_v0, val_main_call1_v1, val_main_call1_v2, val_main_v12, val_main_v4_1,
      val_main_call0_v6, val_main_call0_cst_1, val_main_call0_v7, val_main_v3, val_main_v2]
    rw [ref_sigma, ref_v1, ref_v10]
    rfl
  · pointwise [val_main_v14]
    rw [dif_neg h, dif_neg h]
    pointwise [val_main_v11, val_main_v4_0, val_main_v2]
    rw [ref_sigma, ref_v1, ref_v10]
    rfl

/-- The gradient of the first weight. -/
theorem ref_v16 : val_main_v16 (F := Ideal) x0 x1 x2 x3 = tn x0 (dact (nn x0 x1) (nt x3 x2)) := by
  funext i
  obtain ⟨p, q, rfl⟩ : ∃ (p : Fin 1024) (q : Fin 5632), i = ix2 p q := ⟨i 0, i 1, by funext a; fin_cases a <;> rfl⟩
  pointwise [val_main_v16, val_main_v15, val_main_v0]
  rw [ref_v14]
  exact Finset.sum_congr rfl fun k _ => mul_comm _ _

/-- The gradient of the layer's input. -/
theorem ref_v17 : val_main_v17 (F := Ideal) x0 x1 x2 x3 = nt (dact (nn x0 x1) (nt x3 x2)) x1 := by
  funext i
  obtain ⟨p, q, rfl⟩ : ∃ (p : Fin 4352) (q : Fin 1024), i = ix2 p q := ⟨i 0, i 1, by funext a; fin_cases a <;> rfl⟩
  pointwise [val_main_v17]
  rw [ref_v14]
  rfl

end Cert.Mlp

end
-- ==== Proof.InRun.lean ====
/- Every buffer of the program at its end. -/
module

public import proofs.«01_k».proof.Proof.Gen.Kernel3Ideal.Frame

@[expose] public section

noncomputable section

namespace Cert.In

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends, and every buffer outside the calls' scratch then holds what the
    fold of the calls and of the host's operations (`W9`) leaves in it. -/
theorem run : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ c b hb => h c _ (mem_uc b hb))

end Cert.In

end
-- ==== Proof.InModel.lean ====
/- The columns of the input projection, in the order of the step and in the kernel's order, and the sums over them. -/
module

public import proofs.«01_k».proof.Proof.Products

@[expose] public section

noncomputable section

namespace Cert.In

open Idealize.ShloMosaic Cert.Products

/-- The columns of the projection that feed the gate of the scan. -/
def cz (k : Fin 2048) : Fin 9280 := ⟨0 + k.val, by omega⟩

/-- The columns of the projection that feed the convolution's input. -/
def cx (k : Fin 4096) : Fin 9280 := ⟨2048 + k.val, by omega⟩

/-- The columns of the projection that feed the step sizes. -/
def ct (k : Fin 64) : Fin 9280 := ⟨6144 + k.val, by omega⟩

/-- The columns of the projection that feed the pooling. -/
def cp (k : Fin 1024) : Fin 9280 := ⟨6208 + k.val, by omega⟩

/-- The columns of the projection that feed the scan branch's gate. -/
def cs (k : Fin 1024) : Fin 9280 := ⟨7232 + k.val, by omega⟩

/-- The columns of the projection that feed the pooling branch's gate. -/
def cg (k : Fin 1024) : Fin 9280 := ⟨8256 + k.val, by omega⟩

/-- The gradient of column `j` of the projection in row `r`, from the gradients of its six parts. -/
def dprojAt (z : Mat 4352 2048) (x : Mat 4352 4096) (t : Mat 4352 64) (p s g : Mat 4352 1024) (r : Fin 4352) (j : Fin 9280) : EReal :=
  if h0 : j.val < 2048 then z (ix2 r ⟨j.val, h0⟩)
  else if h1 : j.val < 6144 then x (ix2 r ⟨j.val - 2048, by omega⟩)
  else if h2 : j.val < 6208 then t (ix2 r ⟨j.val - 6144, by omega⟩)
  else if h3 : j.val < 7232 then p (ix2 r ⟨j.val - 6208, by omega⟩)
  else if h4 : j.val < 8256 then s (ix2 r ⟨j.val - 7232, by omega⟩)
  else g (ix2 r ⟨j.val - 8256, by omega⟩)

/-- The gradient of the whole projection. -/
def dproj (z : Mat 4352 2048) (x : Mat 4352 4096) (t : Mat 4352 64) (p s g : Mat 4352 1024) : Mat 4352 9280 := fun i =>
  dprojAt z x t p s g (i 0) (i 1)

section

variable (z : Mat 4352 2048) (x : Mat 4352 4096) (t : Mat 4352 64) (p s g : Mat 4352 1024) (r : Fin 4352)

theorem dproj_cz (k : Fin 2048) : dproj z x t p s g (ix2 r (cz k)) = z (ix2 r k) := by
  show dprojAt z x t p s g r (cz k) = _
  unfold dprojAt
  rw [dif_pos (show (cz k).val < 2048 by show 0 + k.val < _; omega)]
  exact congrArg z (congrArg (ix2 r) (Fin.ext (show 0 + k.val = k.val by omega)))

theorem dproj_cx (k : Fin 4096) : dproj z x t p s g (ix2 r (cx k)) = x (ix2 r k) := by
  show dprojAt z x t p s g r (cx k) = _
  unfold dprojAt
  rw [dif_neg (show ¬ (cx k).val < 2048 by show ¬ 2048 + k.val < 2048; omega), dif_pos (show (cx k).val < 6144 by show 2048 + k.val < _; omega)]
  exact congrArg x (congrArg (ix2 r) (Fin.ext (show 2048 + k.val - 2048 = k.val by omega)))

theorem dproj_ct (k : Fin 64) : dproj z x t p s g (ix2 r (ct k)) = t (ix2 r k) := by
  show dprojAt z x t p s g r (ct k) = _
  unfold dprojAt
  rw [dif_neg (show ¬ (ct k).val < 2048 by show ¬ 6144 + k.val < 2048; omega), dif_neg (show ¬ (ct k).val < 6144 by show ¬ 6144 + k.val < 6144; omega), dif_pos (show (ct k).val < 6208 by show 6144 + k.val < _; omega)]
  exact congrArg t (congrArg (ix2 r) (Fin.ext (show 6144 + k.val - 6144 = k.val by omega)))

theorem dproj_cp (k : Fin 1024) : dproj z x t p s g (ix2 r (cp k)) = p (ix2 r k) := by
  show dprojAt z x t p s g r (cp k) = _
  unfold dprojAt
  rw [dif_neg (show ¬ (cp k).val < 2048 by show ¬ 6208 + k.val < 2048; omega), dif_neg (show ¬ (cp k).val < 6144 by show ¬ 6208 + k.val < 6144; omega), dif_neg (show ¬ (cp k).val < 6208 by show ¬ 6208 + k.val < 6208; omega), dif_pos (show (cp k).val < 7232 by show 6208 + k.val < _; omega)]
  exact congrArg p (congrArg (ix2 r) (Fin.ext (show 6208 + k.val - 6208 = k.val by omega)))

theorem dproj_cs (k : Fin 1024) : dproj z x t p s g (ix2 r (cs k)) = s (ix2 r k) := by
  show dprojAt z x t p s g r (cs k) = _
  unfold dprojAt
  rw [dif_neg (show ¬ (cs k).val < 2048 by show ¬ 7232 + k.val < 2048; omega), dif_neg (show ¬ (cs k).val < 6144 by show ¬ 7232 + k.val < 6144; omega), dif_neg (show ¬ (cs k).val < 6208 by show ¬ 7232 + k.val < 6208; omega), dif_neg (show ¬ (cs k).val < 7232 by show ¬ 7232 + k.val < 7232; omega), dif_pos (show (cs k).val < 8256 by show 7232 + k.val < _; omega)]
  exact congrArg s (congrArg (ix2 r) (Fin.ext (show 7232 + k.val - 7232 = k.val by omega)))

theorem dproj_cg (k : Fin 1024) : dproj z x t p s g (ix2 r (cg k)) = g (ix2 r k) := by
  show dprojAt z x t p s g r (cg k) = _
  unfold dprojAt
  rw [dif_neg (show ¬ (cg k).val < 2048 by show ¬ 8256 + k.val < 2048; omega), dif_neg (show ¬ (cg k).val < 6144 by show ¬ 8256 + k.val < 6144; omega), dif_neg (show ¬ (cg k).val < 6208 by show ¬ 8256 + k.val < 6208; omega), dif_neg (show ¬ (cg k).val < 7232 by show ¬ 8256 + k.val < 7232; omega), dif_neg (show ¬ (cg k).val < 8256 by show ¬ 8256 + k.val < 8256; omega)]
  exact congrArg g (congrArg (ix2 r) (Fin.ext (show 8256 + k.val - 8256 = k.val by omega)))

end

/-- Every column is in one of the parts. -/
theorem cases_col (j : Fin 9280) : (∃ k, j = cz k) ∨ (∃ k, j = cx k) ∨ (∃ k, j = ct k) ∨ (∃ k, j = cp k) ∨ (∃ k, j = cs k)
    ∨ (∃ k, j = cg k) := by
  by_cases h0 : j.val < 2048
  · exact .inl ⟨⟨j.val, h0⟩, Fin.ext (show j.val = 0 + j.val by omega)⟩
  by_cases h1 : j.val < 6144
  · exact .inr (.inl ⟨⟨j.val - 2048, by omega⟩, Fin.ext (show j.val = 2048 + (j.val - 2048) by omega)⟩)
  by_cases h2 : j.val < 6208
  · exact .inr (.inr (.inl ⟨⟨j.val - 6144, by omega⟩, Fin.ext (show j.val = 6144 + (j.val - 6144) by omega)⟩))
  by_cases h3 : j.val < 7232
  · exact .inr (.inr (.inr (.inl ⟨⟨j.val - 6208, by omega⟩, Fin.ext (show j.val = 6208 + (j.val - 6208) by omega)⟩)))
  by_cases h4 : j.val < 8256
  · exact .inr (.inr (.inr (.inr (.inl ⟨⟨j.val - 7232, by omega⟩, Fin.ext (show j.val = 7232 + (j.val - 7232) by omega)⟩))))
  · exact .inr (.inr (.inr (.inr (.inr ⟨⟨j.val - 8256, by omega⟩, Fin.ext (show j.val = 8256 + (j.val - 8256) by omega)⟩))))

/-- A sum over all the columns, part by part. -/
theorem sum_parts (f : Fin 9280 → EReal) : ∑ j, f j = (∑ k, f (cz k)) + ((∑ k, f (cx k)) + ((∑ k, f (ct k))
    + ((∑ k, f (cp k)) + ((∑ k, f (cs k)) + ∑ k, f (cg k))))) := by
  rw [show ∑ k : Fin 9280, f k = _ from
      Fin.sum_univ_add (a := 2048) (b := 7232) (fun k : Fin 9280 => f k),
    show ∑ k : Fin 7232, f (Fin.natAdd (m := 7232) 2048 k) = _ from
      Fin.sum_univ_add (a := 4096) (b := 3136) (fun k : Fin 7232 => f (Fin.natAdd (m := 7232) 2048 k)),
    show ∑ k : Fin 3136, f (Fin.natAdd (m := 7232) 2048 (Fin.natAdd (m := 3136) 4096 k)) = _ from
      Fin.sum_univ_add (a := 64) (b := 3072) (fun k : Fin 3136 => f (Fin.natAdd (m := 7232) 2048 (Fin.natAdd (m := 3136) 4096 k))),
    show ∑ k : Fin 3072, f (Fin.natAdd (m := 7232) 2048 (Fin.natAdd (m := 3136) 4096 (Fin.natAdd (m := 3072) 64 k))) = _ from
      Fin.sum_univ_add (a := 1024) (b := 2048) (fun k : Fin 3072 => f (Fin.natAdd (m := 7232) 2048 (Fin.natAdd (m := 3136) 4096 (Fin.natAdd (m := 3072) 64 k)))),
    show ∑ k : Fin 2048, f (Fin.natAdd (m := 7232) 2048 (Fin.natAdd (m := 3136) 4096 (Fin.natAdd (m := 3072) 64 (Fin.natAdd (m := 2048) 1024 k)))) = _ from
      Fin.sum_univ_add (a := 1024) (b := 1024) (fun k : Fin 2048 => f (Fin.natAdd (m := 7232) 2048 (Fin.natAdd (m := 3136) 4096 (Fin.natAdd (m := 3072) 64 (Fin.natAdd (m := 2048) 1024 k)))))]
  refine congr (congrArg _ ?_) (congr (congrArg _ ?_) (congr (congrArg _ ?_) (congr (congrArg _ ?_)
    (congr (congrArg _ ?_) ?_)))) <;>
    exact Finset.sum_congr rfl fun k _ => congrArg f (Fin.ext (by simp [cz, cx, ct, cp, cs, cg]; try omega))

/-! ## The kernel's order of the convolution's columns: by groups -/

/-- The column of the step's order that stands at place `j` of the kernel's: each group of 512 holds 256 columns of the
    input, then 128 of each of the two projections of the scan. -/
def src (j : Fin 4096) : Fin 4096 :=
  if h : j.val % 512 < 256 then ⟨j.val / 512 * 256 + j.val % 512, by omega⟩
  else if h' : j.val % 512 < 384 then ⟨2048 + (j.val / 512 * 128 + (j.val % 512 - 256)), by omega⟩
  else ⟨3072 + (j.val / 512 * 128 + (j.val % 512 - 384)), by omega⟩

/-- The place at which column `i` of the step's order stands in the kernel's. -/
def dst (i : Fin 4096) : Fin 4096 :=
  if h : i.val < 2048 then ⟨i.val / 256 * 512 + i.val % 256, by omega⟩
  else if h' : i.val < 3072 then ⟨(i.val - 2048) / 128 * 512 + (256 + (i.val - 2048) % 128), by omega⟩
  else ⟨(i.val - 3072) / 128 * 512 + (384 + (i.val - 3072) % 128), by omega⟩

theorem src_dst (i : Fin 4096) : src (dst i) = i := by
  ext
  unfold dst
  split_ifs with h h'
  · unfold src
    rw [dif_pos (by show (i.val / 256 * 512 + i.val % 256) % 512 < 256; omega)]
    show (i.val / 256 * 512 + i.val % 256) / 512 * 256 + (i.val / 256 * 512 + i.val % 256) % 512 = i.val
    omega
  · unfold src
    rw [dif_neg (by show ¬ ((i.val - 2048) / 128 * 512 + (256 + (i.val - 2048) % 128)) % 512 < 256; omega),
      dif_pos (by show ((i.val - 2048) / 128 * 512 + (256 + (i.val - 2048) % 128)) % 512 < 384; omega)]
    show 2048 + (((i.val - 2048) / 128 * 512 + (256 + (i.val - 2048) % 128)) / 512 * 128
      + (((i.val - 2048) / 128 * 512 + (256 + (i.val - 2048) % 128)) % 512 - 256)) = i.val
    omega
  · unfold src
    rw [dif_neg (by show ¬ ((i.val - 3072) / 128 * 512 + (384 + (i.val - 3072) % 128)) % 512 < 256; omega),
      dif_neg (by show ¬ ((i.val - 3072) / 128 * 512 + (384 + (i.val - 3072) % 128)) % 512 < 384; omega)]
    show 3072 + (((i.val - 3072) / 128 * 512 + (384 + (i.val - 3072) % 128)) / 512 * 128
      + (((i.val - 3072) / 128 * 512 + (384 + (i.val - 3072) % 128)) % 512 - 384)) = i.val
    omega

/-- Every column stands at one place. -/
theorem src_bijective : Function.Bijective src :=
  have h : Function.Surjective src := fun i => ⟨dst i, src_dst i⟩
  ⟨Finite.injective_iff_surjective.2 h, h⟩

/-- A sum does not depend on the order of the columns. -/
theorem sum_src (f : Fin 4096 → EReal) : ∑ j, f (src j) = ∑ j, f j := src_bijective.sum_comp f

/-! ## The products over the kernel's order -/

/-- Column `k` of the part that starts at column `o` in the kernel's order. -/
def col (o : ℕ) {n : ℕ} (h : o + n ≤ 9728) (k : Fin n) : Fin 9728 := ⟨o + k.val, by omega⟩

/-- The sum of the six products. -/
def six (x : Mat 4352 4096) (z : Mat 4352 2048) (s g p : Mat 4352 1024) (t : Mat 4352 128) (w : Mat 1024 9728) :
    Mat 4352 1024 := fun i =>
  (∑ k : Fin 4096, x (ix2 (i 0) k) * w (ix2 (i 1) (col 0 (by decide) k)))
    + (∑ k : Fin 2048, z (ix2 (i 0) k) * w (ix2 (i 1) (col 4096 (by decide) k)))
    + (∑ k : Fin 1024, s (ix2 (i 0) k) * w (ix2 (i 1) (col 6144 (by decide) k)))
    + (∑ k : Fin 1024, g (ix2 (i 0) k) * w (ix2 (i 1) (col 7168 (by decide) k)))
    + (∑ k : Fin 1024, p (ix2 (i 0) k) * w (ix2 (i 1) (col 8192 (by decide) k)))
    + (∑ k : Fin 128, t (ix2 (i 0) k) * w (ix2 (i 1) (col 9216 (by decide) k)))

/-- The weight's columns in the kernel's order: the six parts, and zeros after the last. -/
structure Arranged (w : Mat 1024 9280) (w' : Mat 1024 9728) : Prop where
  x : ∀ c k, w' (ix2 c (col 0 (by decide) k)) = w (ix2 c (cx (src k)))
  z : ∀ c (k : Fin 2048), w' (ix2 c (col 4096 (by decide) k)) = w (ix2 c (cz k))
  s : ∀ c (k : Fin 1024), w' (ix2 c (col 6144 (by decide) k)) = w (ix2 c (cs k))
  g : ∀ c (k : Fin 1024), w' (ix2 c (col 7168 (by decide) k)) = w (ix2 c (cg k))
  p : ∀ c (k : Fin 1024), w' (ix2 c (col 8192 (by decide) k)) = w (ix2 c (cp k))
  t : ∀ c (k : Fin 64), w' (ix2 c (col 9216 (n := 64) (by decide) k)) = w (ix2 c (ct k))

/-- The gradients of the step sizes, widened by 64 columns of zeros. -/
structure Widened (t : Mat 4352 64) (t' : Mat 4352 128) : Prop where
  left : ∀ r (k : Fin 64), t' (ix2 r ⟨k.val, by omega⟩) = t (ix2 r k)
  right : ∀ r (k : Fin 64), t' (ix2 r ⟨64 + k.val, by omega⟩) = 0

/-- The six products add up to the product over the step's order. -/
theorem six_eq {z : Mat 4352 2048} {x x' : Mat 4352 4096} {t : Mat 4352 64} {t' : Mat 4352 128} {p s g : Mat 4352 1024}
    {w : Mat 1024 9280} {w' : Mat 1024 9728} (hw : Arranged w w') (ht : Widened t t')
    (hx : ∀ r k, x' (ix2 r k) = x (ix2 r (src k))) :
    six x' z s g p t' w' = nt (dproj z x t p s g) w := by
  funext i
  obtain ⟨r, c, rfl⟩ : ∃ (r : Fin 4352) (c : Fin 1024), i = ix2 r c := ⟨i 0, i 1, by funext a; fin_cases a <;> rfl⟩
  have hz0 : ∑ k : Fin 128, t' (ix2 r k) * w' (ix2 c (col 9216 (by decide) k)) = ∑ k : Fin 64, t (ix2 r k) * w (ix2 c (ct k)) := by
    rw [show ∑ k : Fin 128, t' (ix2 r k) * w' (ix2 c (col 9216 (by decide) k)) = _ from
      Fin.sum_univ_add (a := 64) (b := 64) fun k => t' (ix2 r k) * w' (ix2 c (col 9216 (by decide) k))]
    rw [Finset.sum_eq_zero (s := Finset.univ) (f := fun k : Fin 64 => t' (ix2 r (Fin.natAdd (m := 64) 64 k)) * w' (ix2 c (col 9216 (by decide) (Fin.natAdd (m := 64) 64 k))))
      fun k _ => (congrArg (· * _) (ht.right r k)).trans (zero_mul _), add_zero]
    exact Finset.sum_congr rfl fun k _ => congr (congrArg HMul.hMul (ht.left r k)) (hw.t c k)
  show _ = ∑ j, dproj z x t p s g (ix2 r j) * w (ix2 c j)
  rw [sum_parts fun j => dproj z x t p s g (ix2 r j) * w (ix2 c j)]
  simp only [dproj_cz, dproj_cx, dproj_ct, dproj_cp, dproj_cs, dproj_cg]
  show (∑ k : Fin 4096, x' (ix2 r k) * w' (ix2 c (col 0 (by decide) k)))
    + (∑ k : Fin 2048, z (ix2 r k) * w' (ix2 c (col 4096 (by decide) k)))
    + (∑ k : Fin 1024, s (ix2 r k) * w' (ix2 c (col 6144 (by decide) k)))
    + (∑ k : Fin 1024, g (ix2 r k) * w' (ix2 c (col 7168 (by decide) k)))
    + (∑ k : Fin 1024, p (ix2 r k) * w' (ix2 c (col 8192 (by decide) k)))
    + (∑ k : Fin 128, t' (ix2 r k) * w' (ix2 c (col 9216 (by decide) k))) = _
  rw [hz0, Finset.sum_congr rfl fun k _ => congr (congrArg HMul.hMul (hx r k)) (hw.x c k),
    sum_src fun k => x (ix2 r k) * w (ix2 c (cx k))]
  simp only [hw.z, hw.s, hw.g, hw.p]
  ac_rfl

end Cert.In

end
-- ==== Proof.InCalls.lean ====
/- What the calls of the input projection's gradients leave in their arrays. -/
module

public import proofs.«01_k».proof.Proof.Gen.Kernel3Ideal.Frame
public import proofs.«01_k».proof.Proof.InModel

@[expose] public section

noncomputable section

namespace Cert.In

open Cert.Kernel3Ideal Cert.Kernel3Ideal.Gen Idealize.ShloMosaic Idealize.ShloMosaic.TcCoe Cert.Products

variable (V : (c : Dev nD) → (b : Ref sig .tc) → Buf (Elt Ideal) ((c : Thread nD τ).loc b)) (c : Dev nD)

/-! ## The gradient of the rows -/

theorem pay0 (x0 : FVec Ideal S544x4096 .bf16) (y0 : FVec Ideal S512x4096 .bf16) (x1 : FVec Ideal S544x2048 .bf16) (y1 : FVec Ideal S512x2048 .bf16) (x2 : FVec Ideal S544x1024 .bf16) (y2 : FVec Ideal S512x1024 .bf16) (x3 : FVec Ideal S544x1024 .bf16) (y3 : FVec Ideal S512x1024 .bf16) (x4 : FVec Ideal S544x1024 .bf16) (y4 : FVec Ideal S512x1024 .bf16) (x5 : FVec Ideal S544x128 .f32) (y5 : FVec Ideal S512x128 .bf16)
    (p : Fin 544) (q : Fin 512) :
    k0_pay1 (F := Ideal) (k0_pay2 x2 y2) (k0_pay3 x3 y3) (k0_pay4 x4 y4) (k0_pay5 x5 y5) (k0_pay6 x0 y0 x1 y1) (ix2 p q)
      = (∑ k : Fin 4096, x0 (ix2 p k) * y0 (ix2 q k)) + (∑ k : Fin 2048, x1 (ix2 p k) * y1 (ix2 q k)) + (∑ k : Fin 1024, x2 (ix2 p k) * y2 (ix2 q k)) + (∑ k : Fin 1024, x3 (ix2 p k) * y3 (ix2 q k)) + (∑ k : Fin 1024, x4 (ix2 p k) * y4 (ix2 q k)) + (∑ k : Fin 128, x5 (ix2 p k) * y5 (ix2 q k)) := by
  pointwise [k0_pay1, k0_pay2, k0_pay3, k0_pay4, k0_pay5, k0_pay6]

theorem cols128 (y : Vec Ideal S512x9728 .bf16) (o : ℕ) (inb) (h : o + 128 ≤ 9728) (q : Fin 512) (k : Fin 128) :
    (View.ld y (Rect.unit (s := S512x9728) ![0, o] S512x128.size inb) : FVec Ideal S512x128 .bf16) (ix2 q k) = y (ix2 q (col o h k)) := by
  show y _ = y _
  congr 1; funext a; fin_cases a
  · ext; show 0 + 1 * q.val = q.val; omega
  · ext; show o + 1 * k.val = o + k.val; omega

theorem cols1024 (y : Vec Ideal S512x9728 .bf16) (o : ℕ) (inb) (h : o + 1024 ≤ 9728) (q : Fin 512) (k : Fin 1024) :
    (View.ld y (Rect.unit (s := S512x9728) ![0, o] S512x1024.size inb) : FVec Ideal S512x1024 .bf16) (ix2 q k) = y (ix2 q (col o h k)) := by
  show y _ = y _
  congr 1; funext a; fin_cases a
  · ext; show 0 + 1 * q.val = q.val; omega
  · ext; show o + 1 * k.val = o + k.val; omega

theorem cols2048 (y : Vec Ideal S512x9728 .bf16) (o : ℕ) (inb) (h : o + 2048 ≤ 9728) (q : Fin 512) (k : Fin 2048) :
    (View.ld y (Rect.unit (s := S512x9728) ![0, o] S512x2048.size inb) : FVec Ideal S512x2048 .bf16) (ix2 q k) = y (ix2 q (col o h k)) := by
  show y _ = y _
  congr 1; funext a; fin_cases a
  · ext; show 0 + 1 * q.val = q.val; omega
  · ext; show o + 1 * k.val = o + k.val; omega

theorem cols4096 (y : Vec Ideal S512x9728 .bf16) (o : ℕ) (inb) (h : o + 4096 ≤ 9728) (q : Fin 512) (k : Fin 4096) :
    (View.ld y (Rect.unit (s := S512x9728) ![0, o] S512x4096.size inb) : FVec Ideal S512x4096 .bf16) (ix2 q k) = y (ix2 q (col o h k)) := by
  show y _ = y _
  congr 1; funext a; fin_cases a
  · ext; show 0 + 1 * q.val = q.val; omega
  · ext; show o + 1 * k.val = o + k.val; omega

theorem idx0 : ∀ t : Fin grid0.N,
    (win0_0.index t 0 = win0_7.index t 0 ∧ win0_0.index t 1 = 0)
    ∧ (win0_1.index t 0 = win0_7.index t 0 ∧ win0_1.index t 1 = 0)
    ∧ (win0_2.index t 0 = win0_7.index t 0 ∧ win0_2.index t 1 = 0)
    ∧ (win0_3.index t 0 = win0_7.index t 0 ∧ win0_3.index t 1 = 0)
    ∧ (win0_4.index t 0 = win0_7.index t 0 ∧ win0_4.index t 1 = 0)
    ∧ (win0_5.index t 0 = win0_7.index t 0 ∧ win0_5.index t 1 = 0)
    ∧ (win0_6.index t 0 = win0_7.index t 1 ∧ win0_6.index t 1 = 0) := by
  decide +kernel

theorem hit0 : ∀ (a : Fin 8) (b : Fin 2), ∃ t : Fin grid0.N,
    win0_7.index t 0 = a.val ∧ win0_7.index t 1 = b.val := by
  decide +kernel

set_option maxRecDepth 20000 in
theorem flushed0 (t : Fin cfg0.N) : (dat0 V c).flushed 7 t
    = ((cfg0.win 7).blk t).view.read (Elt Ideal) (six (V c main_v25) (V c main_arg2) (V c main_arg6) (V c main_arg7) (V c main_arg5) (V c main_v17) (V c main_v15)) := by
  show (cfg0.win 7).cut (grid0.coords t) ((dat0 V c).after 7 t) = _
  rw [after0_7]
  funext y
  obtain ⟨p, q, rfl⟩ : ∃ (p : Fin 544) (q : Fin 512), y = ix2 p q := ⟨y 0, y 1, by funext a; fin_cases a <;> rfl⟩
  show out0_7 (iblk0 V c 0 t) (iblk0 V c 1 t) (iblk0 V c 2 t) (iblk0 V c 3 t) (iblk0 V c 4 t) (iblk0 V c 5 t) (iblk0 V c 6 t) (ix2 p q)
    = (six (V c main_v25) (V c main_arg2) (V c main_arg6) (V c main_arg7) (V c main_arg5) (V c main_v17) (V c main_v15)) (((cfg0.win 7).blk t).view.emb (ix2 p q))
  unfold out0_7
  rw [View.canon_unit_zero (by decide), View.ld_unit_zero (by decide), View.ld_unit_zero (by decide), View.ld_unit_zero (by decide), View.ld_unit_zero (by decide), View.ld_unit_zero (by decide), View.ld_unit_zero (by decide), pay0]
  obtain ⟨⟨h00, h01⟩, ⟨h10, h11⟩, ⟨h20, h21⟩, ⟨h30, h31⟩, ⟨h40, h41⟩, ⟨h50, h51⟩, ⟨h60, h61⟩⟩ := idx0 t
  have x0 (k : Fin 4096) : (iblk0 V c 0 t : S544x4096.Idx → EReal) (ix2 p k)
      = V c main_v25 (ix2 (((cfg0.win 7).blk t).view.emb (ix2 p q) 0) k) := by
    show V c main_v25 _ = V c main_v25 _
    congr 1; funext a; fin_cases a
    · ext; show win0_0.index t 0 * 544 + 1 * p.val = win0_7.index t 0 * 544 + 1 * p.val; rw [h00]
    · ext; show win0_0.index t 1 * 4096 + 1 * k.val = k.val; rw [h01]; omega
  have x1 (k : Fin 2048) : (iblk0 V c 1 t : S544x2048.Idx → EReal) (ix2 p k)
      = V c main_arg2 (ix2 (((cfg0.win 7).blk t).view.emb (ix2 p q) 0) k) := by
    show V c main_arg2 _ = V c main_arg2 _
    congr 1; funext a; fin_cases a
    · ext; show win0_1.index t 0 * 544 + 1 * p.val = win0_7.index t 0 * 544 + 1 * p.val; rw [h10]
    · ext; show win0_1.index t 1 * 2048 + 1 * k.val = k.val; rw [h11]; omega
  have x2 (k : Fin 1024) : (iblk0 V c 2 t : S544x1024.Idx → EReal) (ix2 p k)
      = V c main_arg6 (ix2 (((cfg0.win 7).blk t).view.emb (ix2 p q) 0) k) := by
    show V c main_arg6 _ = V c main_arg6 _
    congr 1; funext a; fin_cases a
    · ext; show win0_2.index t 0 * 544 + 1 * p.val = win0_7.index t 0 * 544 + 1 * p.val; rw [h20]
    · ext; show win0_2.index t 1 * 1024 + 1 * k.val = k.val; rw [h21]; omega
  have x3 (k : Fin 1024) : (iblk0 V c 3 t : S544x1024.Idx → EReal) (ix2 p k)
      = V c main_arg7 (ix2 (((cfg0.win 7).blk t).view.emb (ix2 p q) 0) k) := by
    show V c main_arg7 _ = V c main_arg7 _
    congr 1; funext a; fin_cases a
    · ext; show win0_3.index t 0 * 544 + 1 * p.val = win0_7.index t 0 * 544 + 1 * p.val; rw [h30]
    · ext; show win0_3.index t 1 * 1024 + 1 * k.val = k.val; rw [h31]; omega
  have x4 (k : Fin 1024) : (iblk0 V c 4 t : S544x1024.Idx → EReal) (ix2 p k)
      = V c main_arg5 (ix2 (((cfg0.win 7).blk t).view.emb (ix2 p q) 0) k) := by
    show V c main_arg5 _ = V c main_arg5 _
    congr 1; funext a; fin_cases a
    · ext; show win0_4.index t 0 * 544 + 1 * p.val = win0_7.index t 0 * 544 + 1 * p.val; rw [h40]
    · ext; show win0_4.index t 1 * 1024 + 1 * k.val = k.val; rw [h41]; omega
  have x5 (k : Fin 128) : (iblk0 V c 5 t : S544x128.Idx → EReal) (ix2 p k)
      = V c main_v17 (ix2 (((cfg0.win 7).blk t).view.emb (ix2 p q) 0) k) := by
    show V c main_v17 _ = V c main_v17 _
    congr 1; funext a; fin_cases a
    · ext; show win0_5.index t 0 * 544 + 1 * p.val = win0_7.index t 0 * 544 + 1 * p.val; rw [h50]
    · ext; show win0_5.index t 1 * 128 + 1 * k.val = k.val; rw [h51]; omega
  have y (j : Fin 9728) : (iblk0 V c 6 t : S512x9728.Idx → EReal) (ix2 q j)
      = V c main_v15 (ix2 (((cfg0.win 7).blk t).view.emb (ix2 p q) 1) j) := by
    show V c main_v15 _ = V c main_v15 _
    congr 1; funext a; fin_cases a
    · ext; show win0_6.index t 0 * 512 + 1 * q.val = win0_7.index t 1 * 512 + 1 * q.val; rw [h60]
    · ext; show win0_6.index t 1 * 9728 + 1 * j.val = j.val; rw [h61]; omega
  refine congr (congrArg _ (congr (congrArg _ (congr (congrArg _ (congr (congrArg _ (congr (congrArg _ ?_) ?_)) ?_)) ?_)) ?_)) ?_
  · exact Finset.sum_congr rfl fun k _ => congr (congrArg HMul.hMul (x0 k)) ((cols4096 (iblk0 V c 6 t) 0 _ (by decide) q k).trans (y _))
  · exact Finset.sum_congr rfl fun k _ => congr (congrArg HMul.hMul (x1 k)) ((cols2048 (iblk0 V c 6 t) 4096 _ (by decide) q k).trans (y _))
  · exact Finset.sum_congr rfl fun k _ => congr (congrArg HMul.hMul (x2 k)) ((cols1024 (iblk0 V c 6 t) 6144 _ (by decide) q k).trans (y _))
  · exact Finset.sum_congr rfl fun k _ => congr (congrArg HMul.hMul (x3 k)) ((cols1024 (iblk0 V c 6 t) 7168 _ (by decide) q k).trans (y _))
  · exact Finset.sum_congr rfl fun k _ => congr (congrArg HMul.hMul (x4 k)) ((cols1024 (iblk0 V c 6 t) 8192 _ (by decide) q k).trans (y _))
  · exact Finset.sum_congr rfl fun k _ => congr (congrArg HMul.hMul (x5 k)) ((cols128 (iblk0 V c 6 t) 9216 _ (by decide) q k).trans (y _))

/-- The gradient of the rows. -/
theorem res0 : (dat0 V c).arrAt 7 cfg0.N = six (V c main_v25) (V c main_arg2) (V c main_arg6) (V c main_arg7) (V c main_arg5) (V c main_v17) (V c main_v15) :=
  (dat0 V c).arrAt_eq_of_cover 7 _ (fun t _ => flushed0 V c t) fun i => by
    have h0 : (i 0).val < 4352 := (i 0).isLt
    have h1 : (i 1).val < 1024 := (i 1).isLt
    obtain ⟨t, e0, e1⟩ := hit0 ⟨(i 0).val / 544, by omega⟩ ⟨(i 1).val / 512, by omega⟩
    refine ⟨t, flush0_7 t, ?_⟩
    have hi : ((cfg0.win 7).blk t).view.emb
        (ix2 (⟨(i 0).val % 544, by omega⟩ : Fin 544) (⟨(i 1).val % 512, by omega⟩ : Fin 512)) = i := by
      funext a; fin_cases a
      · ext; show win0_7.index t 0 * 544 + 1 * ((i 0).val % 544) = (i 0).val
        rw [e0]; show (i 0).val / 544 * 544 + _ = _; omega
      · ext; show win0_7.index t 1 * 512 + 1 * ((i 1).val % 512) = (i 1).val
        rw [e1]; show (i 1).val / 512 * 512 + _ = _; omega
    rw [← hi]
    exact Finset.mem_map_of_mem _ (Finset.mem_univ _)

/-! ## The gradient of the weight of the convolution's input -/

theorem pay1 (x : FVec Ideal S4352x512 .bf16) (y : FVec Ideal S4352x512 .bf16) (p : Fin 512) (q : Fin 512) :
    k1_pay1 (F := Ideal) x y (ix2 p q) = ∑ k : Fin 4352, x (ix2 k p) * y (ix2 k q) := by
  pointwise [k1_pay1]

theorem idx1 : ∀ t : Fin grid1.N,
    (win1_0.index t 0 = 0 ∧ win1_0.index t 1 = win1_2.index t 0)
    ∧ (win1_1.index t 0 = 0 ∧ win1_1.index t 1 = win1_2.index t 1) := by
  decide +kernel

theorem hit1 : ∀ (a : Fin 8) (b : Fin 2), ∃ t : Fin grid1.N,
    win1_2.index t 0 = a.val ∧ win1_2.index t 1 = b.val := by
  decide +kernel

theorem flushed1 (t : Fin cfg1.N) : (dat1 V c).flushed 2 t
    = ((cfg1.win 2).blk t).view.read (Elt Ideal) (tn (V c main_v25) (V c main_arg0)) := by
  show (cfg1.win 2).cut (grid1.coords t) ((dat1 V c).after 2 t) = _
  rw [after1_2]
  funext y
  obtain ⟨p, q, rfl⟩ : ∃ (p : Fin 512) (q : Fin 512), y = ix2 p q := ⟨y 0, y 1, by funext a; fin_cases a <;> rfl⟩
  show out1_2 (iblk1 V c 0 t) (iblk1 V c 1 t) (ix2 p q)
    = (tn (V c main_v25) (V c main_arg0)) (((cfg1.win 2).blk t).view.emb (ix2 p q))
  unfold out1_2
  rw [View.canon_unit_zero (by decide), View.ld_unit_zero (by decide), View.ld_unit_zero (by decide), pay1]
  obtain ⟨⟨h00, h01⟩, ⟨h10, h11⟩⟩ := idx1 t
  refine Finset.sum_congr rfl fun k _ => ?_
  congr 1
  · show V c main_v25 _ = V c main_v25 _
    congr 1; funext a; fin_cases a
    · ext; show win1_0.index t 0 * 4352 + 1 * k.val = k.val; rw [h00]; omega
    · ext; show win1_0.index t 1 * 512 + 1 * p.val = win1_2.index t 0 * 512 + 1 * p.val; rw [h01]
  · show V c main_arg0 _ = V c main_arg0 _
    congr 1; funext a; fin_cases a
    · ext; show win1_1.index t 0 * 4352 + 1 * k.val = k.val; rw [h10]; omega
    · ext; show win1_1.index t 1 * 512 + 1 * q.val = win1_2.index t 1 * 512 + 1 * q.val; rw [h11]

/-- The gradient of the weight of the convolution's input. -/
theorem res1 : (dat1 V c).arrAt 2 cfg1.N = tn (V c main_v25) (V c main_arg0) :=
  (dat1 V c).arrAt_eq_of_cover 2 _ (fun t _ => flushed1 V c t) fun i => by
    have h0 : (i 0).val < 4096 := (i 0).isLt
    have h1 : (i 1).val < 1024 := (i 1).isLt
    obtain ⟨t, e0, e1⟩ := hit1 ⟨(i 0).val / 512, by omega⟩ ⟨(i 1).val / 512, by omega⟩
    refine ⟨t, flush1_2 t, ?_⟩
    have hi : ((cfg1.win 2).blk t).view.emb
        (ix2 (⟨(i 0).val % 512, by omega⟩ : Fin 512) (⟨(i 1).val % 512, by omega⟩ : Fin 512)) = i := by
      funext a; fin_cases a
      · ext; show win1_2.index t 0 * 512 + 1 * ((i 0).val % 512) = (i 0).val
        rw [e0]; show (i 0).val / 512 * 512 + _ = _; omega
      · ext; show win1_2.index t 1 * 512 + 1 * ((i 1).val % 512) = (i 1).val
        rw [e1]; show (i 1).val / 512 * 512 + _ = _; omega
    rw [← hi]
    exact Finset.mem_map_of_mem _ (Finset.mem_univ _)

/-! ## The gradient of the weight of the scan's gate -/

theorem pay2 (x : FVec Ideal S4352x512 .bf16) (y : FVec Ideal S4352x512 .bf16) (p : Fin 512) (q : Fin 512) :
    k2_pay1 (F := Ideal) x y (ix2 p q) = ∑ k : Fin 4352, x (ix2 k p) * y (ix2 k q) := by
  pointwise [k2_pay1]

theorem idx2 : ∀ t : Fin grid2.N,
    (win2_0.index t 0 = 0 ∧ win2_0.index t 1 = win2_2.index t 0)
    ∧ (win2_1.index t 0 = 0 ∧ win2_1.index t 1 = win2_2.index t 1) := by
  decide +kernel

theorem hit2 : ∀ (a : Fin 4) (b : Fin 2), ∃ t : Fin grid2.N,
    win2_2.index t 0 = a.val ∧ win2_2.index t 1 = b.val := by
  decide +kernel

theorem flushed2 (t : Fin cfg2.N) : (dat2 V c).flushed 2 t
    = ((cfg2.win 2).blk t).view.read (Elt Ideal) (tn (V c main_arg2) (V c main_arg0)) := by
  show (cfg2.win 2).cut (grid2.coords t) ((dat2 V c).after 2 t) = _
  rw [after2_2]
  funext y
  obtain ⟨p, q, rfl⟩ : ∃ (p : Fin 512) (q : Fin 512), y = ix2 p q := ⟨y 0, y 1, by funext a; fin_cases a <;> rfl⟩
  show out2_2 (iblk2 V c 0 t) (iblk2 V c 1 t) (ix2 p q)
    = (tn (V c main_arg2) (V c main_arg0)) (((cfg2.win 2).blk t).view.emb (ix2 p q))
  unfold out2_2
  rw [View.canon_unit_zero (by decide), View.ld_unit_zero (by decide), View.ld_unit_zero (by decide), pay2]
  obtain ⟨⟨h00, h01⟩, ⟨h10, h11⟩⟩ := idx2 t
  refine Finset.sum_congr rfl fun k _ => ?_
  congr 1
  · show V c main_arg2 _ = V c main_arg2 _
    congr 1; funext a; fin_cases a
    · ext; show win2_0.index t 0 * 4352 + 1 * k.val = k.val; rw [h00]; omega
    · ext; show win2_0.index t 1 * 512 + 1 * p.val = win2_2.index t 0 * 512 + 1 * p.val; rw [h01]
  · show V c main_arg0 _ = V c main_arg0 _
    congr 1; funext a; fin_cases a
    · ext; show win2_1.index t 0 * 4352 + 1 * k.val = k.val; rw [h10]; omega
    · ext; show win2_1.index t 1 * 512 + 1 * q.val = win2_2.index t 1 * 512 + 1 * q.val; rw [h11]

/-- The gradient of the weight of the scan's gate. -/
theorem res2 : (dat2 V c).arrAt 2 cfg2.N = tn (V c main_arg2) (V c main_arg0) :=
  (dat2 V c).arrAt_eq_of_cover 2 _ (fun t _ => flushed2 V c t) fun i => by
    have h0 : (i 0).val < 2048 := (i 0).isLt
    have h1 : (i 1).val < 1024 := (i 1).isLt
    obtain ⟨t, e0, e1⟩ := hit2 ⟨(i 0).val / 512, by omega⟩ ⟨(i 1).val / 512, by omega⟩
    refine ⟨t, flush2_2 t, ?_⟩
    have hi : ((cfg2.win 2).blk t).view.emb
        (ix2 (⟨(i 0).val % 512, by omega⟩ : Fin 512) (⟨(i 1).val % 512, by omega⟩ : Fin 512)) = i := by
      funext a; fin_cases a
      · ext; show win2_2.index t 0 * 512 + 1 * ((i 0).val % 512) = (i 0).val
        rw [e0]; show (i 0).val / 512 * 512 + _ = _; omega
      · ext; show win2_2.index t 1 * 512 + 1 * ((i 1).val % 512) = (i 1).val
        rw [e1]; show (i 1).val / 512 * 512 + _ = _; omega
    rw [← hi]
    exact Finset.mem_map_of_mem _ (Finset.mem_univ _)

/-! ## The gradient of the weight of the scan branch's gate -/

theorem pay3 (x : FVec Ideal S4352x512 .bf16) (y : FVec Ideal S4352x512 .bf16) (p : Fin 512) (q : Fin 512) :
    k3_pay1 (F := Ideal) x y (ix2 p q) = ∑ k : Fin 4352, x (ix2 k p) * y (ix2 k q) := by
  pointwise [k3_pay1]

theorem idx3 : ∀ t : Fin grid3.N,
    (win3_0.index t 0 = 0 ∧ win3_0.index t 1 = win3_2.index t 0)
    ∧ (win3_1.index t 0 = 0 ∧ win3_1.index t 1 = win3_2.index t 1) := by
  decide +kernel

theorem hit3 : ∀ (a : Fin 2) (b : Fin 2), ∃ t : Fin grid3.N,
    win3_2.index t 0 = a.val ∧ win3_2.index t 1 = b.val := by
  decide +kernel

theorem flushed3 (t : Fin cfg3.N) : (dat3 V c).flushed 2 t
    = ((cfg3.win 2).blk t).view.read (Elt Ideal) (tn (V c main_arg6) (V c main_arg0)) := by
  show (cfg3.win 2).cut (grid3.coords t) ((dat3 V c).after 2 t) = _
  rw [after3_2]
  funext y
  obtain ⟨p, q, rfl⟩ : ∃ (p : Fin 512) (q : Fin 512), y = ix2 p q := ⟨y 0, y 1, by funext a; fin_cases a <;> rfl⟩
  show out3_2 (iblk3 V c 0 t) (iblk3 V c 1 t) (ix2 p q)
    = (tn (V c main_arg6) (V c main_arg0)) (((cfg3.win 2).blk t).view.emb (ix2 p q))
  unfold out3_2
  rw [View.canon_unit_zero (by decide), View.ld_unit_zero (by decide), View.ld_unit_zero (by decide), pay3]
  obtain ⟨⟨h00, h01⟩, ⟨h10, h11⟩⟩ := idx3 t
  refine Finset.sum_congr rfl fun k _ => ?_
  congr 1
  · show V c main_arg6 _ = V c main_arg6 _
    congr 1; funext a; fin_cases a
    · ext; show win3_0.index t 0 * 4352 + 1 * k.val = k.val; rw [h00]; omega
    · ext; show win3_0.index t 1 * 512 + 1 * p.val = win3_2.index t 0 * 512 + 1 * p.val; rw [h01]
  · show V c main_arg0 _ = V c main_arg0 _
    congr 1; funext a; fin_cases a
    · ext; show win3_1.index t 0 * 4352 + 1 * k.val = k.val; rw [h10]; omega
    · ext; show win3_1.index t 1 * 512 + 1 * q.val = win3_2.index t 1 * 512 + 1 * q.val; rw [h11]

/-- The gradient of the weight of the scan branch's gate. -/
theorem res3 : (dat3 V c).arrAt 2 cfg3.N = tn (V c main_arg6) (V c main_arg0) :=
  (dat3 V c).arrAt_eq_of_cover 2 _ (fun t _ => flushed3 V c t) fun i => by
    have h0 : (i 0).val < 1024 := (i 0).isLt
    have h1 : (i 1).val < 1024 := (i 1).isLt
    obtain ⟨t, e0, e1⟩ := hit3 ⟨(i 0).val / 512, by omega⟩ ⟨(i 1).val / 512, by omega⟩
    refine ⟨t, flush3_2 t, ?_⟩
    have hi : ((cfg3.win 2).blk t).view.emb
        (ix2 (⟨(i 0).val % 512, by omega⟩ : Fin 512) (⟨(i 1).val % 512, by omega⟩ : Fin 512)) = i := by
      funext a; fin_cases a
      · ext; show win3_2.index t 0 * 512 + 1 * ((i 0).val % 512) = (i 0).val
        rw [e0]; show (i 0).val / 512 * 512 + _ = _; omega
      · ext; show win3_2.index t 1 * 512 + 1 * ((i 1).val % 512) = (i 1).val
        rw [e1]; show (i 1).val / 512 * 512 + _ = _; omega
    rw [← hi]
    exact Finset.mem_map_of_mem _ (Finset.mem_univ _)

/-! ## The gradient of the weight of the pooling branch's gate -/

theorem pay4 (x : FVec Ideal S4352x512 .bf16) (y : FVec Ideal S4352x512 .bf16) (p : Fin 512) (q : Fin 512) :
    k4_pay1 (F := Ideal) x y (ix2 p q) = ∑ k : Fin 4352, x (ix2 k p) * y (ix2 k q) := by
  pointwise [k4_pay1]

theorem idx4 : ∀ t : Fin grid4.N,
    (win4_0.index t 0 = 0 ∧ win4_0.index t 1 = win4_2.index t 0)
    ∧ (win4_1.index t 0 = 0 ∧ win4_1.index t 1 = win4_2.index t 1) := by
  decide +kernel

theorem hit4 : ∀ (a : Fin 2) (b : Fin 2), ∃ t : Fin grid4.N,
    win4_2.index t 0 = a.val ∧ win4_2.index t 1 = b.val := by
  decide +kernel

theorem flushed4 (t : Fin cfg4.N) : (dat4 V c).flushed 2 t
    = ((cfg4.win 2).blk t).view.read (Elt Ideal) (tn (V c main_arg7) (V c main_arg0)) := by
  show (cfg4.win 2).cut (grid4.coords t) ((dat4 V c).after 2 t) = _
  rw [after4_2]
  funext y
  obtain ⟨p, q, rfl⟩ : ∃ (p : Fin 512) (q : Fin 512), y = ix2 p q := ⟨y 0, y 1, by funext a; fin_cases a <;> rfl⟩
  show out4_2 (iblk4 V c 0 t) (iblk4 V c 1 t) (ix2 p q)
    = (tn (V c main_arg7) (V c main_arg0)) (((cfg4.win 2).blk t).view.emb (ix2 p q))
  unfold out4_2
  rw [View.canon_unit_zero (by decide), View.ld_unit_zero (by decide), View.ld_unit_zero (by decide), pay4]
  obtain ⟨⟨h00, h01⟩, ⟨h10, h11⟩⟩ := idx4 t
  refine Finset.sum_congr rfl fun k _ => ?_
  congr 1
  · show V c main_arg7 _ = V c main_arg7 _
    congr 1; funext a; fin_cases a
    · ext; show win4_0.index t 0 * 4352 + 1 * k.val = k.val; rw [h00]; omega
    · ext; show win4_0.index t 1 * 512 + 1 * p.val = win4_2.index t 0 * 512 + 1 * p.val; rw [h01]
  · show V c main_arg0 _ = V c main_arg0 _
    congr 1; funext a; fin_cases a
    · ext; show win4_1.index t 0 * 4352 + 1 * k.val = k.val; rw [h10]; omega
    · ext; show win4_1.index t 1 * 512 + 1 * q.val = win4_2.index t 1 * 512 + 1 * q.val; rw [h11]

/-- The gradient of the weight of the pooling branch's gate. -/
theorem res4 : (dat4 V c).arrAt 2 cfg4.N = tn (V c main_arg7) (V c main_arg0) :=
  (dat4 V c).arrAt_eq_of_cover 2 _ (fun t _ => flushed4 V c t) fun i => by
    have h0 : (i 0).val < 1024 := (i 0).isLt
    have h1 : (i 1).val < 1024 := (i 1).isLt
    obtain ⟨t, e0, e1⟩ := hit4 ⟨(i 0).val / 512, by omega⟩ ⟨(i 1).val / 512, by omega⟩
    refine ⟨t, flush4_2 t, ?_⟩
    have hi : ((cfg4.win 2).blk t).view.emb
        (ix2 (⟨(i 0).val % 512, by omega⟩ : Fin 512) (⟨(i 1).val % 512, by omega⟩ : Fin 512)) = i := by
      funext a; fin_cases a
      · ext; show win4_2.index t 0 * 512 + 1 * ((i 0).val % 512) = (i 0).val
        rw [e0]; show (i 0).val / 512 * 512 + _ = _; omega
      · ext; show win4_2.index t 1 * 512 + 1 * ((i 1).val % 512) = (i 1).val
        rw [e1]; show (i 1).val / 512 * 512 + _ = _; omega
    rw [← hi]
    exact Finset.mem_map_of_mem _ (Finset.mem_univ _)

/-! ## The gradient of the pooling's weight -/

theorem pay5 (x : FVec Ideal S4352x512 .bf16) (y : FVec Ideal S4352x512 .bf16) (p : Fin 512) (q : Fin 512) :
    k5_pay1 (F := Ideal) x y (ix2 p q) = ∑ k : Fin 4352, x (ix2 k p) * y (ix2 k q) := by
  pointwise [k5_pay1]

theorem idx5 : ∀ t : Fin grid5.N,
    (win5_0.index t 0 = 0 ∧ win5_0.index t 1 = win5_2.index t 0)
    ∧ (win5_1.index t 0 = 0 ∧ win5_1.index t 1 = win5_2.index t 1) := by
  decide +kernel

theorem hit5 : ∀ (a : Fin 2) (b : Fin 2), ∃ t : Fin grid5.N,
    win5_2.index t 0 = a.val ∧ win5_2.index t 1 = b.val := by
  decide +kernel

theorem flushed5 (t : Fin cfg5.N) : (dat5 V c).flushed 2 t
    = ((cfg5.win 2).blk t).view.read (Elt Ideal) (tn (V c main_arg5) (V c main_arg0)) := by
  show (cfg5.win 2).cut (grid5.coords t) ((dat5 V c).after 2 t) = _
  rw [after5_2]
  funext y
  obtain ⟨p, q, rfl⟩ : ∃ (p : Fin 512) (q : Fin 512), y = ix2 p q := ⟨y 0, y 1, by funext a; fin_cases a <;> rfl⟩
  show out5_2 (iblk5 V c 0 t) (iblk5 V c 1 t) (ix2 p q)
    = (tn (V c main_arg5) (V c main_arg0)) (((cfg5.win 2).blk t).view.emb (ix2 p q))
  unfold out5_2
  rw [View.canon_unit_zero (by decide), View.ld_unit_zero (by decide), View.ld_unit_zero (by decide), pay5]
  obtain ⟨⟨h00, h01⟩, ⟨h10, h11⟩⟩ := idx5 t
  refine Finset.sum_congr rfl fun k _ => ?_
  congr 1
  · show V c main_arg5 _ = V c main_arg5 _
    congr 1; funext a; fin_cases a
    · ext; show win5_0.index t 0 * 4352 + 1 * k.val = k.val; rw [h00]; omega
    · ext; show win5_0.index t 1 * 512 + 1 * p.val = win5_2.index t 0 * 512 + 1 * p.val; rw [h01]
  · show V c main_arg0 _ = V c main_arg0 _
    congr 1; funext a; fin_cases a
    · ext; show win5_1.index t 0 * 4352 + 1 * k.val = k.val; rw [h10]; omega
    · ext; show win5_1.index t 1 * 512 + 1 * q.val = win5_2.index t 1 * 512 + 1 * q.val; rw [h11]

/-- The gradient of the pooling's weight. -/
theorem res5 : (dat5 V c).arrAt 2 cfg5.N = tn (V c main_arg5) (V c main_arg0) :=
  (dat5 V c).arrAt_eq_of_cover 2 _ (fun t _ => flushed5 V c t) fun i => by
    have h0 : (i 0).val < 1024 := (i 0).isLt
    have h1 : (i 1).val < 1024 := (i 1).isLt
    obtain ⟨t, e0, e1⟩ := hit5 ⟨(i 0).val / 512, by omega⟩ ⟨(i 1).val / 512, by omega⟩
    refine ⟨t, flush5_2 t, ?_⟩
    have hi : ((cfg5.win 2).blk t).view.emb
        (ix2 (⟨(i 0).val % 512, by omega⟩ : Fin 512) (⟨(i 1).val % 512, by omega⟩ : Fin 512)) = i := by
      funext a; fin_cases a
      · ext; show win5_2.index t 0 * 512 + 1 * ((i 0).val % 512) = (i 0).val
        rw [e0]; show (i 0).val / 512 * 512 + _ = _; omega
      · ext; show win5_2.index t 1 * 512 + 1 * ((i 1).val % 512) = (i 1).val
        rw [e1]; show (i 1).val / 512 * 512 + _ = _; omega
    rw [← hi]
    exact Finset.mem_map_of_mem _ (Finset.mem_univ _)

/-! ## The gradient of the weight of the step sizes -/

theorem pay6 (x : FVec Ideal S4352x128 .f32) (y : FVec Ideal S4352x512 .bf16) (p : Fin 128) (q : Fin 512) :
    k6_pay1 (F := Ideal) x y (ix2 p q) = ∑ k : Fin 4352, x (ix2 k p) * y (ix2 k q) := by
  pointwise [k6_pay1]

theorem idx6 : ∀ t : Fin grid6.N,
    (win6_0.index t 0 = 0 ∧ win6_0.index t 1 = win6_2.index t 0)
    ∧ (win6_1.index t 0 = 0 ∧ win6_1.index t 1 = win6_2.index t 1) := by
  decide +kernel

theorem hit6 : ∀ (a : Fin 1) (b : Fin 2), ∃ t : Fin grid6.N,
    win6_2.index t 0 = a.val ∧ win6_2.index t 1 = b.val := by
  decide +kernel

theorem flushed6 (t : Fin cfg6.N) : (dat6 V c).flushed 2 t
    = ((cfg6.win 2).blk t).view.read (Elt Ideal) (tn (V c main_v17) (V c main_arg0)) := by
  show (cfg6.win 2).cut (grid6.coords t) ((dat6 V c).after 2 t) = _
  rw [after6_2]
  funext y
  obtain ⟨p, q, rfl⟩ : ∃ (p : Fin 128) (q : Fin 512), y = ix2 p q := ⟨y 0, y 1, by funext a; fin_cases a <;> rfl⟩
  show out6_2 (iblk6 V c 0 t) (iblk6 V c 1 t) (ix2 p q)
    = (tn (V c main_v17) (V c main_arg0)) (((cfg6.win 2).blk t).view.emb (ix2 p q))
  unfold out6_2
  rw [View.canon_unit_zero (by decide), View.ld_unit_zero (by decide), View.ld_unit_zero (by decide), pay6]
  obtain ⟨⟨h00, h01⟩, ⟨h10, h11⟩⟩ := idx6 t
  refine Finset.sum_congr rfl fun k _ => ?_
  congr 1
  · show V c main_v17 _ = V c main_v17 _
    congr 1; funext a; fin_cases a
    · ext; show win6_0.index t 0 * 4352 + 1 * k.val = k.val; rw [h00]; omega
    · ext; show win6_0.index t 1 * 128 + 1 * p.val = win6_2.index t 0 * 128 + 1 * p.val; rw [h01]
  · show V c main_arg0 _ = V c main_arg0 _
    congr 1; funext a; fin_cases a
    · ext; show win6_1.index t 0 * 4352 + 1 * k.val = k.val; rw [h10]; omega
    · ext; show win6_1.index t 1 * 512 + 1 * q.val = win6_2.index t 1 * 512 + 1 * q.val; rw [h11]

/-- The gradient of the weight of the step sizes. -/
theorem res6 : (dat6 V c).arrAt 2 cfg6.N = tn (V c main_v17) (V c main_arg0) :=
  (dat6 V c).arrAt_eq_of_cover 2 _ (fun t _ => flushed6 V c t) fun i => by
    have h0 : (i 0).val < 128 := (i 0).isLt
    have h1 : (i 1).val < 1024 := (i 1).isLt
    obtain ⟨t, e0, e1⟩ := hit6 ⟨(i 0).val / 128, by omega⟩ ⟨(i 1).val / 512, by omega⟩
    refine ⟨t, flush6_2 t, ?_⟩
    have hi : ((cfg6.win 2).blk t).view.emb
        (ix2 (⟨(i 0).val % 128, by omega⟩ : Fin 128) (⟨(i 1).val % 512, by omega⟩ : Fin 512)) = i := by
      funext a; fin_cases a
      · ext; show win6_2.index t 0 * 128 + 1 * ((i 0).val % 128) = (i 0).val
        rw [e0]; show (i 0).val / 128 * 128 + _ = _; omega
      · ext; show win6_2.index t 1 * 512 + 1 * ((i 1).val % 512) = (i 1).val
        rw [e1]; show (i 1).val / 512 * 512 + _ = _; omega
    rw [← hi]
    exact Finset.mem_map_of_mem _ (Finset.mem_univ _)

end Cert.In

end
-- ==== Proof.InHost.lean ====
/- What the host does around the calls of the input projection's gradients: it puts columns into the kernel's order, and back. -/
module

public import proofs.«01_k».proof.Proof.Gen.Kernel3Ideal
public import proofs.«01_k».proof.Proof.InModel

@[expose] public section

noncomputable section

namespace Cert.In

open Cert.Kernel3Ideal Cert.Kernel3Ideal.Gen Idealize.ShloMosaic Idealize.ShloMosaic.TcCoe Cert.Products

/-- The convolution's columns of the gradient, in the kernel's order. -/
def permRows (a : FVec Ideal S4352x4096 .bf16) : FVec Ideal S4352x4096 .bf16 :=
  shapeCast S4352x4096 (concatenate S4352x8x512 2
    [⟨S4352x8x256, (shapeCast S4352x8x256 (extractStridedSlice S4352x2048 ![0, 0] a slices_S4352x4096_S4352x2048_0_0) shapeCasts_S4352x2048_S4352x8x256 : FVec Ideal S4352x8x256 .bf16)⟩,
     ⟨S4352x8x128, (shapeCast S4352x8x128 (extractStridedSlice S4352x1024 ![0, 2048] a slices_S4352x4096_S4352x1024_0_2048) shapeCasts_S4352x1024_S4352x8x128 : FVec Ideal S4352x8x128 .bf16)⟩,
     ⟨S4352x8x128, (shapeCast S4352x8x128 (extractStridedSlice S4352x1024 ![0, 3072] a slices_S4352x4096_S4352x1024_0_3072) shapeCasts_S4352x1024_S4352x8x128 : FVec Ideal S4352x8x128 .bf16)⟩]
    concatenates_S4352x8x256_S4352x8x128_S4352x8x128_S4352x8x512_d2) shapeCasts_S4352x8x512_S4352x4096

set_option maxRecDepth 20000 in
theorem permRows_apply (a : FVec Ideal S4352x4096 .bf16) (r : Fin 4352) (j : Fin 4096) : permRows a (ix2 r j) = a (ix2 r (src j)) := by
  unfold src
  by_cases h : j.val % 512 < 256
  · rw [dif_pos h]
    pointwise [permRows]
    exact dif_pos h
  by_cases h' : j.val % 512 < 384
  · rw [dif_neg h, dif_pos h']
    pointwise [permRows]
    exact (dif_neg h).trans (dif_pos (by omega))
  · rw [dif_neg h, dif_neg h']
    pointwise [permRows]
    refine (dif_neg h).trans ((dif_neg (by omega)).trans ?_)
    exact congrArg (fun i => a (ix2 r i)) (Fin.ext (show 3072 + (j.val / 512 * 128 + (j.val % 512 - 256 - 128))
      = 3072 + (j.val / 512 * 128 + (j.val % 512 - 384)) by omega))

/-- The convolution's columns of the weight, in the kernel's order. -/
def permWeight (a : FVec Ideal S1024x4096 .bf16) : FVec Ideal S1024x4096 .bf16 :=
  shapeCast S1024x4096 (concatenate S1024x8x512 2
    [⟨S1024x8x256, (shapeCast S1024x8x256 (extractStridedSlice S1024x2048 ![0, 0] a slices_S1024x4096_S1024x2048_0_0) shapeCasts_S1024x2048_S1024x8x256 : FVec Ideal S1024x8x256 .bf16)⟩,
     ⟨S1024x8x128, (shapeCast S1024x8x128 (extractStridedSlice S1024x1024 ![0, 2048] a slices_S1024x4096_S1024x1024_0_2048) shapeCasts_S1024x1024_S1024x8x128 : FVec Ideal S1024x8x128 .bf16)⟩,
     ⟨S1024x8x128, (shapeCast S1024x8x128 (extractStridedSlice S1024x1024 ![0, 3072] a slices_S1024x4096_S1024x1024_0_3072) shapeCasts_S1024x1024_S1024x8x128 : FVec Ideal S1024x8x128 .bf16)⟩]
    concatenates_S1024x8x256_S1024x8x128_S1024x8x128_S1024x8x512_d2) shapeCasts_S1024x8x512_S1024x4096

set_option maxRecDepth 20000 in
theorem permWeight_apply (a : FVec Ideal S1024x4096 .bf16) (r : Fin 1024) (j : Fin 4096) : permWeight a (ix2 r j) = a (ix2 r (src j)) := by
  unfold src
  by_cases h : j.val % 512 < 256
  · rw [dif_pos h]
    pointwise [permWeight]
    exact dif_pos h
  by_cases h' : j.val % 512 < 384
  · rw [dif_neg h, dif_pos h']
    pointwise [permWeight]
    exact (dif_neg h).trans (dif_pos (by omega))
  · rw [dif_neg h, dif_neg h']
    pointwise [permWeight]
    refine (dif_neg h).trans ((dif_neg (by omega)).trans ?_)
    exact congrArg (fun i => a (ix2 r i)) (Fin.ext (show 3072 + (j.val / 512 * 128 + (j.val % 512 - 256 - 128))
      = 3072 + (j.val / 512 * 128 + (j.val % 512 - 384)) by omega))

/-- The whole weight in the kernel's order. -/
def arrange (w : FVec Ideal S1024x9280 .f32) : FVec Ideal S1024x9728 .bf16 :=
  concatenate S1024x9728 1
    [⟨S1024x4096, permWeight (extractStridedSlice S1024x4096 ![0, 2048] (truncf (F := Ideal) .bf16 w bitsLt_bf16_f32) slices_S1024x9280_S1024x4096_0_2048 : FVec Ideal S1024x4096 .bf16)⟩,
     ⟨S1024x2048, (extractStridedSlice S1024x2048 ![0, 0] (truncf (F := Ideal) .bf16 w bitsLt_bf16_f32) slices_S1024x9280_S1024x2048_0_0 : FVec Ideal S1024x2048 .bf16)⟩,
     ⟨S1024x2048, (extractStridedSlice S1024x2048 ![0, 7232] (truncf (F := Ideal) .bf16 w bitsLt_bf16_f32) slices_S1024x9280_S1024x2048_0_7232 : FVec Ideal S1024x2048 .bf16)⟩,
     ⟨S1024x1024, (extractStridedSlice S1024x1024 ![0, 6208] (truncf (F := Ideal) .bf16 w bitsLt_bf16_f32) slices_S1024x9280_S1024x1024_0_6208 : FVec Ideal S1024x1024 .bf16)⟩,
     ⟨S1024x64, (extractStridedSlice S1024x64 ![0, 6144] (truncf (F := Ideal) .bf16 w bitsLt_bf16_f32) slices_S1024x9280_S1024x64_0_6144 : FVec Ideal S1024x64 .bf16)⟩,
     ⟨S1024x448, (broadcastInDim S1024x448 ![] bcast_S_S1024x448 (constant (F := Ideal) S_ .bf16 0x0000#16) : FVec Ideal S1024x448 .bf16)⟩]
    concatenates_S1024x4096_S1024x2048_S1024x2048_S1024x1024_S1024x64_S1024x448_S1024x9728_d1

theorem arranged (w : FVec Ideal S1024x9280 .f32) : Arranged w (arrange w) where
  x c k := by
    pointwise [arrange, col]
    rw [permWeight_apply]
    pointwise []
    rfl
  z c k := by
    pointwise [arrange, col]
    first
    | rfl
    | repeat refine (dif_neg (by omega)).trans ?_
      try refine (dif_pos (by omega)).trans ?_
      refine congrArg (fun j => w (ix2 c j)) (Fin.ext ?_)
      (try dsimp only [cz]) <;> omega
  s c k := by
    pointwise [arrange, col]
    first
    | rfl
    | repeat refine (dif_neg (by omega)).trans ?_
      try refine (dif_pos (by omega)).trans ?_
      refine congrArg (fun j => w (ix2 c j)) (Fin.ext ?_)
      (try dsimp only [cs]) <;> omega
  g c k := by
    pointwise [arrange, col]
    first
    | rfl
    | repeat refine (dif_neg (by omega)).trans ?_
      try refine (dif_pos (by omega)).trans ?_
      refine congrArg (fun j => w (ix2 c j)) (Fin.ext ?_)
      (try dsimp only [cg]) <;> omega
  p c k := by
    pointwise [arrange, col]
    first
    | rfl
    | repeat refine (dif_neg (by omega)).trans ?_
      try refine (dif_pos (by omega)).trans ?_
      refine congrArg (fun j => w (ix2 c j)) (Fin.ext ?_)
      (try dsimp only [cp]) <;> omega
  t c k := by
    pointwise [arrange, col]
    first
    | rfl
    | repeat refine (dif_neg (by omega)).trans ?_
      try refine (dif_pos (by omega)).trans ?_
      refine congrArg (fun j => w (ix2 c j)) (Fin.ext ?_)
      (try dsimp only [ct]) <;> omega

/-- The step sizes' gradients with 64 columns of zeros. -/
def widen (t : FVec Ideal S4352x64 .f32) : FVec Ideal S4352x128 .f32 :=
  concatenate S4352x128 1 [⟨S4352x64, t⟩, ⟨S4352x64, (broadcastInDim S4352x64 ![] bcast_S_S4352x64 (constant (F := Ideal) S_ .f32 0x00000000#32) : FVec Ideal S4352x64 .f32)⟩] concatenates_S4352x64_S4352x64_S4352x128_d1

theorem widened (t : FVec Ideal S4352x64 .f32) : Widened t (widen t) where
  left r k := by
    pointwise [widen]
  right r k := by
    pointwise [widen]

/-- The rows of a gradient in the kernel's order that belong to the scan's input, in the step's order. -/
def rowsX (g : FVec Ideal S4096x1024 .f32) : FVec Ideal S2048x1024 .f32 :=
  shapeCast S2048x1024 (extractStridedSlice S8x256x1024 ![0, 0, 0] (shapeCast S8x512x1024 g shapeCasts_S4096x1024_S8x512x1024 : FVec Ideal S8x512x1024 .f32)
    slices_S8x512x1024_S8x256x1024_0_0_0) shapeCasts_S8x256x1024_S2048x1024

set_option maxRecDepth 20000 in
theorem rowsX_apply (g : FVec Ideal S4096x1024 .f32) (i : Fin 2048) (c : Fin 1024) :
    rowsX g (ix2 i c) = g (ix2 (dst ⟨i.val, by omega⟩) c) := by
  pointwise [rowsX]
  refine congrArg (fun j => g (ix2 j c)) (Fin.ext ?_)
  unfold dst
  rw [dif_pos (by show i.val < 2048; omega)]

/-- The rows of a gradient in the kernel's order that belong to the scan's first projection, in the step's order. -/
def rowsB (g : FVec Ideal S4096x1024 .f32) : FVec Ideal S1024x1024 .f32 :=
  shapeCast S1024x1024 (extractStridedSlice S8x128x1024 ![0, 256, 0] (shapeCast S8x512x1024 g shapeCasts_S4096x1024_S8x512x1024 : FVec Ideal S8x512x1024 .f32)
    slices_S8x512x1024_S8x128x1024_0_256_0) shapeCasts_S8x128x1024_S1024x1024

set_option maxRecDepth 20000 in
theorem rowsB_apply (g : FVec Ideal S4096x1024 .f32) (i : Fin 1024) (c : Fin 1024) :
    rowsB g (ix2 i c) = g (ix2 (dst ⟨2048 + i.val, by omega⟩) c) := by
  pointwise [rowsB]
  refine congrArg (fun j => g (ix2 j c)) (Fin.ext ?_)
  unfold dst
  rw [dif_neg (by show ¬ 2048 + i.val < 2048; omega), dif_pos (by show 2048 + i.val < 3072; omega)]
  show i.val / 128 * 512 + (256 + i.val % 128) = (2048 + i.val - 2048) / 128 * 512 + (256 + (2048 + i.val - 2048) % 128)
  omega

/-- The rows of a gradient in the kernel's order that belong to the scan's second projection, in the step's order. -/
def rowsC (g : FVec Ideal S4096x1024 .f32) : FVec Ideal S1024x1024 .f32 :=
  shapeCast S1024x1024 (extractStridedSlice S8x128x1024 ![0, 384, 0] (shapeCast S8x512x1024 g shapeCasts_S4096x1024_S8x512x1024 : FVec Ideal S8x512x1024 .f32)
    slices_S8x512x1024_S8x128x1024_0_384_0) shapeCasts_S8x128x1024_S1024x1024

set_option maxRecDepth 20000 in
theorem rowsC_apply (g : FVec Ideal S4096x1024 .f32) (i : Fin 1024) (c : Fin 1024) :
    rowsC g (ix2 i c) = g (ix2 (dst ⟨3072 + i.val, by omega⟩) c) := by
  pointwise [rowsC]
  refine congrArg (fun j => g (ix2 j c)) (Fin.ext ?_)
  unfold dst
  rw [dif_neg (by show ¬ 3072 + i.val < 2048; omega), dif_neg (by show ¬ 3072 + i.val < 3072; omega)]
  show i.val / 128 * 512 + (384 + i.val % 128) = (3072 + i.val - 3072) / 128 * 512 + (384 + (3072 + i.val - 3072) % 128)
  omega

/-- The rows of a gradient that belong to the step sizes: the others are of the columns of zeros. -/
def rowsT (g : FVec Ideal S128x1024 .f32) : FVec Ideal S64x1024 .f32 :=
  extractStridedSlice S64x1024 ![0, 0] g slices_S128x1024_S64x1024_0_0

theorem rowsT_apply (g : FVec Ideal S128x1024 .f32) (k : Fin 64) (c : Fin 1024) : rowsT g (ix2 k c) = g (ix2 ⟨k.val, by omega⟩ c) := by
  pointwise [rowsT]

/-- The eight parts' gradients, one under the other, transposed. -/
def join (u0 : FVec Ideal S2048x1024 .f32) (u1 : FVec Ideal S2048x1024 .f32) (u2 : FVec Ideal S1024x1024 .f32) (u3 : FVec Ideal S1024x1024 .f32) (u4 : FVec Ideal S64x1024 .f32) (u5 : FVec Ideal S1024x1024 .f32) (u6 : FVec Ideal S1024x1024 .f32) (u7 : FVec Ideal S1024x1024 .f32) : FVec Ideal S1024x9280 .f32 :=
  transpose S1024x9280 [1, 0] (concatenate S9280x1024 0 [⟨S2048x1024, u0⟩, ⟨S2048x1024, u1⟩, ⟨S1024x1024, u2⟩, ⟨S1024x1024, u3⟩, ⟨S64x1024, u4⟩, ⟨S1024x1024, u5⟩, ⟨S1024x1024, u6⟩, ⟨S1024x1024, u7⟩]
    concatenates_S2048x1024_S2048x1024_S1024x1024_S1024x1024_S64x1024_S1024x1024_S1024x1024_S1024x1024_S9280x1024_d0 : FVec Ideal S9280x1024 .f32)
    transposes_S9280x1024_S1024x9280_1_0

section

variable (u0 : FVec Ideal S2048x1024 .f32) (u1 : FVec Ideal S2048x1024 .f32) (u2 : FVec Ideal S1024x1024 .f32) (u3 : FVec Ideal S1024x1024 .f32) (u4 : FVec Ideal S64x1024 .f32) (u5 : FVec Ideal S1024x1024 .f32) (u6 : FVec Ideal S1024x1024 .f32) (u7 : FVec Ideal S1024x1024 .f32) (c : Fin 1024)

theorem join_u0 (k : Fin 2048) : join u0 u1 u2 u3 u4 u5 u6 u7 (ix2 c (cz k)) = u0 (ix2 k c) := by
  pointwise [join, cz]

theorem join_u1 (k : Fin 2048) : join u0 u1 u2 u3 u4 u5 u6 u7 (ix2 c (cx ⟨k.val, by omega⟩)) = u1 (ix2 k c) := by
  pointwise [join, cx]

theorem join_u2 (k : Fin 1024) : join u0 u1 u2 u3 u4 u5 u6 u7 (ix2 c (cx ⟨2048 + k.val, by omega⟩)) = u2 (ix2 k c) := by
  pointwise [join, cx]

theorem join_u3 (k : Fin 1024) : join u0 u1 u2 u3 u4 u5 u6 u7 (ix2 c (cx ⟨3072 + k.val, by omega⟩)) = u3 (ix2 k c) := by
  pointwise [join, cx]
  first
  | rfl
  | repeat refine (dif_neg (by omega)).trans ?_
    try refine (dif_pos (by omega)).trans ?_
    refine congrArg (fun i => u3 (ix2 i c)) (Fin.ext ?_)
    (try dsimp only) <;> omega

theorem join_u4 (k : Fin 64) : join u0 u1 u2 u3 u4 u5 u6 u7 (ix2 c (ct k)) = u4 (ix2 k c) := by
  pointwise [join, ct]
  first
  | rfl
  | repeat refine (dif_neg (by omega)).trans ?_
    try refine (dif_pos (by omega)).trans ?_
    refine congrArg (fun i => u4 (ix2 i c)) (Fin.ext ?_)
    (try dsimp only) <;> omega

theorem join_u5 (k : Fin 1024) : join u0 u1 u2 u3 u4 u5 u6 u7 (ix2 c (cp k)) = u5 (ix2 k c) := by
  pointwise [join, cp]
  first
  | rfl
  | repeat refine (dif_neg (by omega)).trans ?_
    try refine (dif_pos (by omega)).trans ?_
    refine congrArg (fun i => u5 (ix2 i c)) (Fin.ext ?_)
    (try dsimp only) <;> omega

theorem join_u6 (k : Fin 1024) : join u0 u1 u2 u3 u4 u5 u6 u7 (ix2 c (cs k)) = u6 (ix2 k c) := by
  pointwise [join, cs]
  first
  | rfl
  | repeat refine (dif_neg (by omega)).trans ?_
    try refine (dif_pos (by omega)).trans ?_
    refine congrArg (fun i => u6 (ix2 i c)) (Fin.ext ?_)
    (try dsimp only) <;> omega

theorem join_u7 (k : Fin 1024) : join u0 u1 u2 u3 u4 u5 u6 u7 (ix2 c (cg k)) = u7 (ix2 k c) := by
  pointwise [join, cg]
  first
  | rfl
  | repeat refine (dif_neg (by omega)).trans ?_
    try refine (dif_pos (by omega)).trans ?_
    refine congrArg (fun i => u7 (ix2 i c)) (Fin.ext ?_)
    (try dsimp only) <;> omega

end

end Cert.In

end
-- ==== Proof.InValues.lean ====
/- The arrays between the calls of the input projection's gradients, and the two results, from the arguments. -/
module

public import proofs.«01_k».proof.Proof.InCalls
public import proofs.«01_k».proof.Proof.InHost

@[expose] public section

noncomputable section

namespace Cert.In

open Cert.Kernel3Ideal Cert.Kernel3Ideal.Gen Idealize.ShloMosaic Idealize.ShloMosaic.TcCoe Cert.Products Idealize.ShloMosaic.StableHlo

variable (m : (ℓ : Loc nD τ sig) → Buf (Elt Ideal) ℓ) (ρ : Dev nD → PrngReg) (c : Dev nD)

/-- The rows the projection was taken of. -/
abbrev h : Mat 4352 1024 := m ((c : Thread nD τ).loc main_arg0)
/-- The projection's weight. -/
abbrev w : Mat 1024 9280 := m ((c : Thread nD τ).loc main_arg1)
/-- The gradient of the scan's gate. -/
abbrev dz : Mat 4352 2048 := m ((c : Thread nD τ).loc main_arg2)
/-- The gradient of the convolution's input. -/
abbrev dx : Mat 4352 4096 := m ((c : Thread nD τ).loc main_arg3)
/-- The gradient of the step sizes. -/
abbrev dt : Mat 4352 64 := m ((c : Thread nD τ).loc main_arg4)
/-- The gradient of the pooling's input. -/
abbrev dp : Mat 4352 1024 := m ((c : Thread nD τ).loc main_arg5)
/-- The gradient of the scan branch's gate. -/
abbrev ds : Mat 4352 1024 := m ((c : Thread nD τ).loc main_arg6)
/-- The gradient of the pooling branch's gate. -/
abbrev dg : Mat 4352 1024 := m ((c : Thread nD τ).loc main_arg7)
/-- The gradient of the whole projection. -/
abbrev dy : Mat 4352 9280 := dproj (dz m c) (dx m c) (dt m c) (dp m c) (ds m c) (dg m c)

/-! ## What the host prepares -/

set_option maxRecDepth 20000 in
theorem main_v15_val : W1 m ρ c (Proc.devRef .tc main_v15) = arrange (w m c) := by
  simp only [W1, hostOps0]
  after_results_simp <;> rfl

theorem main_v17_val : W1 m ρ c (Proc.devRef .tc main_v17) = widen (dt m c) := by
  simp only [W1, hostOps0]
  after_results_simp <;> rfl

set_option maxRecDepth 20000 in
theorem main_v25_val : W1 m ρ c (Proc.devRef .tc main_v25) = permRows (dx m c) := by
  simp only [W1, hostOps0]
  after_results_simp <;> rfl

/-! ## After each call -/

theorem main_v26_val : W2 m ρ c (Proc.devRef .tc main_v26) = six (permRows (dx m c)) (dz m c) (ds m c) (dg m c) (dp m c) (widen (dt m c)) (arrange (w m c)) := by
  refine (W2_arr m ρ c 7).trans ((res0 (V1 m ρ) c).trans ?_)
  rw [show V1 m ρ c main_v25 = permRows (dx m c) from (main_v25_val m ρ c),
    show V1 m ρ c main_arg2 = dz m c from (W1_args m ρ c main_arg2 (by decide)),
    show V1 m ρ c main_arg6 = ds m c from (W1_args m ρ c main_arg6 (by decide)),
    show V1 m ρ c main_arg7 = dg m c from (W1_args m ρ c main_arg7 (by decide)),
    show V1 m ρ c main_arg5 = dp m c from (W1_args m ρ c main_arg5 (by decide)),
    show V1 m ρ c main_v17 = widen (dt m c) from (main_v17_val m ρ c),
    show V1 m ρ c main_v15 = arrange (w m c) from (main_v15_val m ρ c)]

theorem main_v27_val : W3 m ρ c (Proc.devRef .tc main_v27) = tn (permRows (dx m c)) (h m c) := by
  refine (W3_arr m ρ c 2).trans ((res1 (V2 m ρ) c).trans ?_)
  rw [show V2 m ρ c main_v25 = permRows (dx m c) from ((W2_of m ρ c main_v25 (by decide)).trans (main_v25_val m ρ c)),
    show V2 m ρ c main_arg0 = h m c from (W2_args m ρ c main_arg0 (by decide))]

theorem main_v28_val : W4 m ρ c (Proc.devRef .tc main_v28) = tn (dz m c) (h m c) := by
  refine (W4_arr m ρ c 2).trans ((res2 (V3 m ρ) c).trans ?_)
  rw [show V3 m ρ c main_arg2 = dz m c from (W3_args m ρ c main_arg2 (by decide)),
    show V3 m ρ c main_arg0 = h m c from (W3_args m ρ c main_arg0 (by decide))]

theorem main_v29_val : W5 m ρ c (Proc.devRef .tc main_v29) = tn (ds m c) (h m c) := by
  refine (W5_arr m ρ c 2).trans ((res3 (V4 m ρ) c).trans ?_)
  rw [show V4 m ρ c main_arg6 = ds m c from (W4_args m ρ c main_arg6 (by decide)),
    show V4 m ρ c main_arg0 = h m c from (W4_args m ρ c main_arg0 (by decide))]

theorem main_v30_val : W6 m ρ c (Proc.devRef .tc main_v30) = tn (dg m c) (h m c) := by
  refine (W6_arr m ρ c 2).trans ((res4 (V5 m ρ) c).trans ?_)
  rw [show V5 m ρ c main_arg7 = dg m c from (W5_args m ρ c main_arg7 (by decide)),
    show V5 m ρ c main_arg0 = h m c from (W5_args m ρ c main_arg0 (by decide))]

theorem main_v31_val : W7 m ρ c (Proc.devRef .tc main_v31) = tn (dp m c) (h m c) := by
  refine (W7_arr m ρ c 2).trans ((res5 (V6 m ρ) c).trans ?_)
  rw [show V6 m ρ c main_arg5 = dp m c from (W6_args m ρ c main_arg5 (by decide)),
    show V6 m ρ c main_arg0 = h m c from (W6_args m ρ c main_arg0 (by decide))]

theorem main_v32_val : W8 m ρ c (Proc.devRef .tc main_v32) = tn (widen (dt m c)) (h m c) := by
  refine (W8_arr m ρ c 2).trans ((res6 (V7 m ρ) c).trans ?_)
  rw [show V7 m ρ c main_v17 = widen (dt m c) from ((W7_of m ρ c main_v17 (by decide)).trans ((W6_of m ρ c main_v17 (by decide)).trans ((W5_of m ρ c main_v17 (by decide)).trans ((W4_of m ρ c main_v17 (by decide)).trans ((W3_of m ρ c main_v17 (by decide)).trans ((W2_of m ρ c main_v17 (by decide)).trans (main_v17_val m ρ c))))))),
    show V7 m ρ c main_arg0 = h m c from (W7_args m ρ c main_arg0 (by decide))]

/-! ## The two results -/

theorem out_dh : W9 m ρ c (Proc.devRef .tc main_v26) = nt (dy m c) (w m c) :=
  ((W9_of m ρ c main_v26 (by decide)).trans ((W8_of m ρ c main_v26 (by decide)).trans ((W7_of m ρ c main_v26 (by decide)).trans ((W6_of m ρ c main_v26 (by decide)).trans ((W5_of m ρ c main_v26 (by decide)).trans ((W4_of m ρ c main_v26 (by decide)).trans ((W3_of m ρ c main_v26 (by decide)).trans (main_v26_val m ρ c)))))))).trans (six_eq (arranged _) (widened _) (permRows_apply _))

/-- A product of a piece of the gradient with the rows is the same piece of the product over the whole gradient. -/
theorem piece {n : ℕ} (x : Mat 4352 n) (k : Fin n) (a : Fin 1024) (j : Fin 9280) (e : ∀ r, dy m c (ix2 r j) = x (ix2 r k)) :
    tn x (h m c) (ix2 k a) = tn (h m c) (dy m c) (ix2 a j) := by
  show ∑ r, x (ix2 r k) * h m c (ix2 r a) = ∑ r, h m c (ix2 r a) * dy m c (ix2 r j)
  exact Finset.sum_congr rfl fun r _ => (mul_comm _ _).trans (congrArg _ (e r).symm)

/-- A column of the convolution's part: the kernel has it at another place. -/
theorem pieceX (i : Fin 4096) (a : Fin 1024) :
    tn (permRows (dx m c)) (h m c) (ix2 (dst i) a) = tn (h m c) (dy m c) (ix2 a (cx i)) :=
  piece m c _ _ _ _ fun r => (dproj_cx ..).trans
    ((congrArg (fun j => dx m c (ix2 r j)) (src_dst i)).symm.trans (permRows_apply _ _ _).symm)

set_option maxRecDepth 20000 in
theorem main_v42_val : W9 m ρ c (Proc.devRef .tc main_v42)
    = join (tn (dz m c) (h m c)) (rowsX (tn (permRows (dx m c)) (h m c))) (rowsB (tn (permRows (dx m c)) (h m c)))
      (rowsC (tn (permRows (dx m c)) (h m c))) (rowsT (tn (widen (dt m c)) (h m c))) (tn (dp m c) (h m c)) (tn (ds m c) (h m c))
      (tn (dg m c) (h m c)) := by
  have e : W9 m ρ c (Proc.devRef .tc main_v42)
      = join (W8 m ρ c (Proc.devRef .tc main_v28)) (rowsX (W8 m ρ c (Proc.devRef .tc main_v27)))
        (rowsB (W8 m ρ c (Proc.devRef .tc main_v27))) (rowsC (W8 m ρ c (Proc.devRef .tc main_v27)))
        (rowsT (W8 m ρ c (Proc.devRef .tc main_v32))) (W8 m ρ c (Proc.devRef .tc main_v31))
        (W8 m ρ c (Proc.devRef .tc main_v29)) (W8 m ρ c (Proc.devRef .tc main_v30)) := by
    simp only [W9, hostOps7]
    after_results_simp <;> rfl
  rw [e]
  rw [show W8 m ρ c (Proc.devRef .tc main_v28) = tn (dz m c) (h m c) from ((W8_of m ρ c main_v28 (by decide)).trans ((W7_of m ρ c main_v28 (by decide)).trans ((W6_of m ρ c main_v28 (by decide)).trans ((W5_of m ρ c main_v28 (by decide)).trans (main_v28_val m ρ c)))))]
  rw [show W8 m ρ c (Proc.devRef .tc main_v27) = tn (permRows (dx m c)) (h m c) from ((W8_of m ρ c main_v27 (by decide)).trans ((W7_of m ρ c main_v27 (by decide)).trans ((W6_of m ρ c main_v27 (by decide)).trans ((W5_of m ρ c main_v27 (by decide)).trans ((W4_of m ρ c main_v27 (by decide)).trans (main_v27_val m ρ c))))))]
  rw [show W8 m ρ c (Proc.devRef .tc main_v32) = tn (widen (dt m c)) (h m c) from (main_v32_val m ρ c)]
  rw [show W8 m ρ c (Proc.devRef .tc main_v31) = tn (dp m c) (h m c) from ((W8_of m ρ c main_v31 (by decide)).trans (main_v31_val m ρ c))]
  rw [show W8 m ρ c (Proc.devRef .tc main_v29) = tn (ds m c) (h m c) from ((W8_of m ρ c main_v29 (by decide)).trans ((W7_of m ρ c main_v29 (by decide)).trans ((W6_of m ρ c main_v29 (by decide)).trans (main_v29_val m ρ c))))]
  rw [show W8 m ρ c (Proc.devRef .tc main_v30) = tn (dg m c) (h m c) from ((W8_of m ρ c main_v30 (by decide)).trans ((W7_of m ρ c main_v30 (by decide)).trans (main_v30_val m ρ c)))]

theorem out_dw : W9 m ρ c (Proc.devRef .tc main_v42) = tn (h m c) (dy m c) := by
  rw [main_v42_val]
  funext i
  obtain ⟨p, q, rfl⟩ : ∃ (p : Fin 1024) (q : Fin 9280), i = ix2 p q := ⟨i 0, i 1, by funext a; fin_cases a <;> rfl⟩
  obtain h | h | h | h | h | h := cases_col q <;> obtain ⟨k, rfl⟩ := h
  · exact (join_u0 ..).trans (piece m c _ _ _ _ fun r => dproj_cz ..)
  · by_cases h0 : k.val < 2048
    · exact (join_u1 (k := ⟨k.val, h0⟩) ..).trans ((rowsX_apply ..).trans (pieceX m c k p))
    by_cases h1 : k.val < 3072
    · obtain ⟨k', h2, hk⟩ : ∃ (k' : Fin 1024) (h2 : 2048 + k'.val < 4096), k = ⟨2048 + k'.val, h2⟩ :=
        ⟨⟨k.val - 2048, by omega⟩, by dsimp only; omega, Fin.ext (by dsimp only; omega)⟩
      subst hk
      exact (join_u2 ..).trans ((rowsB_apply ..).trans (pieceX m c _ p))
    · obtain ⟨k', h2, hk⟩ : ∃ (k' : Fin 1024) (h2 : 3072 + k'.val < 4096), k = ⟨3072 + k'.val, h2⟩ :=
        ⟨⟨k.val - 3072, by omega⟩, by dsimp only; omega, Fin.ext (by dsimp only; omega)⟩
      subst hk
      exact (join_u3 ..).trans ((rowsC_apply ..).trans (pieceX m c _ p))
  · refine (join_u4 ..).trans ((rowsT_apply ..).trans (piece m c _ _ _ _ fun r => (dproj_ct ..).trans ?_))
    exact ((widened (dt m c)).left r k).symm
  · exact (join_u5 ..).trans (piece m c _ _ _ _ fun r => dproj_cp ..)
  · exact (join_u6 ..).trans (piece m c _ _ _ _ fun r => dproj_cs ..)
  · exact (join_u7 ..).trans (piece m c _ _ _ _ fun r => dproj_cg ..)

end Cert.In

end
-- ==== Proof.InReference.lean ====
/- What the reference of the input projection's gradients computes. -/
module

public import proofs.«01_k».proof.Proof.Gen.Reference3Ideal.Read
public import proofs.«01_k».proof.Proof.InModel

@[expose] public section

noncomputable section

namespace Cert.In

open Cert.Reference3Ideal Cert.Reference3Ideal.Gen Cert.Reference3Ideal.Read Idealize.ShloMosaic Idealize.ShloMosaic.TcCoe Cert.Products

variable (x0 : Mat 4352 1024) (x1 : Mat 1024 9280) (x2 : Mat 4352 2048) (x3 : Mat 4352 4096) (x4 : Mat 4352 64)
  (x5 x6 x7 : Mat 4352 1024)

/-- Both gates' gradients, side by side. -/
theorem ref_v2_left (p : Fin 4352) (k : Fin 1024) : val_main_v2 (F := Ideal) x6 x7 (ix2 p ⟨k.val, by omega⟩) = x6 (ix2 p k) := by
  pointwise [val_main_v2, val_main_v0]

theorem ref_v2_right (p : Fin 4352) (k : Fin 1024) : val_main_v2 (F := Ideal) x6 x7 (ix2 p ⟨1024 + k.val, by omega⟩) = x7 (ix2 p k) := by
  pointwise [val_main_v2, val_main_v1]

/-- The gradient of the whole projection. -/
theorem ref_v13 : val_main_v13 (F := Ideal) x2 x3 x4 x5 x6 x7 = dproj x2 x3 x4 x5 x6 x7 := by
  funext i
  obtain ⟨p, q, rfl⟩ : ∃ (p : Fin 4352) (q : Fin 9280), i = ix2 p q := ⟨i 0, i 1, by funext a; fin_cases a <;> rfl⟩
  obtain h | h | h | h | h | h := cases_col q <;> obtain ⟨k, rfl⟩ := h
  · rw [dproj_cz]
    pointwise [val_main_v13, val_main_v3, cz]
  · rw [dproj_cx]
    pointwise [val_main_v13, val_main_v4, cx]
  · rw [dproj_ct]
    pointwise [val_main_v13, ct]
    refine (dif_neg (by omega)).trans ((dif_neg (by omega)).trans ((dif_pos (by omega)).trans ?_))
    exact congrArg x4 (congrArg (ix2 p) (Fin.ext (show 6144 + k.val - 2048 - 4096 = k.val by omega)))
  · rw [dproj_cp]
    pointwise [val_main_v13, val_main_v5, cp]
    refine (dif_neg (by omega)).trans ((dif_neg (by omega)).trans ((dif_neg (by omega)).trans ((dif_pos (by omega)).trans ?_)))
    exact congrArg x5 (congrArg (ix2 p) (Fin.ext (show 6208 + k.val - 2048 - 4096 - 64 = k.val by omega)))
  · rw [dproj_cs]
    pointwise [val_main_v13, cs]
    refine (dif_neg (by omega)).trans ((dif_neg (by omega)).trans ((dif_neg (by omega)).trans ((dif_neg (by omega)).trans ?_)))
    refine Eq.trans ?_ (ref_v2_left x6 x7 p k)
    exact congrArg (val_main_v2 (F := Ideal) x6 x7) (congrArg (ix2 p) (Fin.ext (show 7232 + k.val - 2048 - 4096 - 64 - 1024 = k.val by omega)))
  · rw [dproj_cg]
    pointwise [val_main_v13, cg]
    refine (dif_neg (by omega)).trans ((dif_neg (by omega)).trans ((dif_neg (by omega)).trans ((dif_neg (by omega)).trans ?_)))
    refine Eq.trans ?_ (ref_v2_right x6 x7 p k)
    exact congrArg (val_main_v2 (F := Ideal) x6 x7) (congrArg (ix2 p) (Fin.ext (show 8256 + k.val - 2048 - 4096 - 64 - 1024 = 1024 + k.val by omega)))

/-- The gradient of the rows. -/
theorem ref_v16 : val_main_v16 (F := Ideal) x1 x2 x3 x4 x5 x6 x7 = nt (dproj x2 x3 x4 x5 x6 x7) x1 := by
  funext i
  obtain ⟨p, q, rfl⟩ : ∃ (p : Fin 4352) (q : Fin 1024), i = ix2 p q := ⟨i 0, i 1, by funext a; fin_cases a <;> rfl⟩
  pointwise [val_main_v16]
  rw [ref_v13]
  rfl

/-- The gradient of the weight. -/
theorem ref_v15 : val_main_v15 (F := Ideal) x0 x2 x3 x4 x5 x6 x7 = tn x0 (dproj x2 x3 x4 x5 x6 x7) := by
  funext i
  obtain ⟨p, q, rfl⟩ : ∃ (p : Fin 1024) (q : Fin 9280), i = ix2 p q := ⟨i 0, i 1, by funext a; fin_cases a <;> rfl⟩
  pointwise [val_main_v15, val_main_v14, val_main_v6]
  rw [ref_v13]
  exact Finset.sum_congr rfl fun k _ => mul_comm _ _

end Cert.In

end
-- ==== Proof.OutRun.lean ====
/- Every buffer of the program at its end. -/
module

public import proofs.«01_k».proof.Proof.Gen.Kernel4Ideal.Frame

@[expose] public section

noncomputable section

namespace Cert.Out

open Cert.Kernel4Ideal Cert.Kernel4Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends, and every buffer outside the calls' scratch then holds what the
    fold of the calls and of the host's operations (`W12`) leaves in it. -/
theorem run : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W12 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ c b hb => h c _ (mem_uc b hb))

end Cert.Out

end
-- ==== Proof.OutModel.lean ====
/- The merge of the two branches by their gates, and its gradient, element by element. -/
module

public import proofs.«01_k».proof.Proof.Products

@[expose] public section

noncomputable section

namespace Cert.Out

open Idealize.ShloMosaic Cert.Products

/-- The column of the projection that holds the scan branch's gate of column `q`. -/
def scanCol (q : Fin 1024) : Fin 9216 := ⟨6144 + q.val, by omega⟩

/-- The column of the projection that holds the pooling branch's gate of column `q`. -/
def poolCol (q : Fin 1024) : Fin 9216 := ⟨7168 + q.val, by omega⟩

/-- The scan branch's gate. -/
def scanGate (g : Mat 4352 9216) (r : Fin 4352) (q : Fin 1024) : EReal := Ideal.logistic (g (ix2 r (scanCol q)))

/-- The pooling branch's gate. -/
def poolGate (g : Mat 4352 9216) (r : Fin 4352) (q : Fin 1024) : EReal := Ideal.logistic (g (ix2 r (poolCol q)))

/-- The two branches, each times its gate, added. -/
def merge (s p : Mat 4352 1024) (g : Mat 4352 9216) : Mat 4352 1024 := fun i =>
  scanGate g (i 0) (i 1) * s i + poolGate g (i 0) (i 1) * p i

/-- The gradient of the scan branch, from the gradient `d` of the merged array. -/
def scanGrad (g : Mat 4352 9216) (d : Mat 4352 1024) : Mat 4352 1024 := fun i => scanGate g (i 0) (i 1) * d i

/-- The gradient of the pooling branch. -/
def poolGrad (g : Mat 4352 9216) (d : Mat 4352 1024) : Mat 4352 1024 := fun i => poolGate g (i 0) (i 1) * d i

/-- The gradient of the scan branch's gate before its sigmoid. -/
def scanGateGrad (s : Mat 4352 1024) (g : Mat 4352 9216) (d : Mat 4352 1024) : Mat 4352 1024 := fun i =>
  d i * s i * (scanGate g (i 0) (i 1) * (1 - scanGate g (i 0) (i 1)))

/-- The gradient of the pooling branch's gate before its sigmoid. -/
def poolGateGrad (p : Mat 4352 1024) (g : Mat 4352 9216) (d : Mat 4352 1024) : Mat 4352 1024 := fun i =>
  d i * p i * (poolGate g (i 0) (i 1) * (1 - poolGate g (i 0) (i 1)))

end Cert.Out

end
-- ==== Proof.OutForward.lean ====
/- What the forward calls of the merge and its products leave in their arrays. -/
module

public import proofs.«01_k».proof.Proof.Gen.Kernel4Ideal.Frame
public import proofs.«01_k».proof.Proof.OutModel

@[expose] public section

noncomputable section

namespace Cert.Out

open Cert.Kernel4Ideal Cert.Kernel4Ideal.Gen Idealize.ShloMosaic Idealize.ShloMosaic.TcCoe Cert.Products

variable (V : (c : Dev nD) → (b : Ref sig .tc) → Buf (Elt Ideal) ((c : Thread nD τ).loc b)) (c : Dev nD)

/-! ## The scan branch -/

theorem pay0 (x : FVec Ideal S2176x2048 .bf16) (y : FVec Ideal S2048x1024 .bf16) (p : Fin 2176) (q : Fin 1024) :
    k0_pay1 (F := Ideal) x y (ix2 p q) = ∑ k : Fin 2048, x (ix2 p k) * y (ix2 k q) := by
  pointwise [k0_pay1]

theorem idx0 : ∀ t : Fin grid0.N,
    (win0_0.index t 0 = win0_2.index t 0 ∧ win0_0.index t 1 = 0)
    ∧ (win0_1.index t 0 = 0 ∧ win0_1.index t 1 = win0_2.index t 1) := by
  decide +kernel

theorem hit0 : ∀ (a : Fin 2) (b : Fin 1), ∃ t : Fin grid0.N,
    win0_2.index t 0 = a.val ∧ win0_2.index t 1 = b.val := by
  decide +kernel

theorem flushed0 (t : Fin cfg0.N) : (dat0 V c).flushed 2 t
    = ((cfg0.win 2).blk t).view.read (Elt Ideal) (nn (V c main_arg0) (V c main_v0)) := by
  show (cfg0.win 2).cut (grid0.coords t) ((dat0 V c).after 2 t) = _
  rw [after0_2]
  funext y
  obtain ⟨p, q, rfl⟩ : ∃ (p : Fin 2176) (q : Fin 1024), y = ix2 p q := ⟨y 0, y 1, by funext a; fin_cases a <;> rfl⟩
  show out0_2 (iblk0 V c 0 t) (iblk0 V c 1 t) (ix2 p q)
    = (nn (V c main_arg0) (V c main_v0)) (((cfg0.win 2).blk t).view.emb (ix2 p q))
  unfold out0_2
  rw [View.canon_unit_zero (by decide), View.ld_unit_zero (by decide), View.ld_unit_zero (by decide), pay0]
  obtain ⟨⟨h00, h01⟩, ⟨h10, h11⟩⟩ := idx0 t
  refine Finset.sum_congr rfl fun k _ => ?_
  congr 1
  · show V c main_arg0 _ = V c main_arg0 _
    congr 1; funext a; fin_cases a
    · ext; show win0_0.index t 0 * 2176 + 1 * p.val = win0_2.index t 0 * 2176 + 1 * p.val; rw [h00]
    · ext; show win0_0.index t 1 * 2048 + 1 * k.val = k.val; rw [h01]; omega
  · show V c main_v0 _ = V c main_v0 _
    congr 1; funext a; fin_cases a
    · ext; show win0_1.index t 0 * 2048 + 1 * k.val = k.val; rw [h10]; omega
    · ext; show win0_1.index t 1 * 1024 + 1 * q.val = win0_2.index t 1 * 1024 + 1 * q.val; rw [h11]

/-- The scan branch. -/
theorem res0 : (dat0 V c).arrAt 2 cfg0.N = nn (V c main_arg0) (V c main_v0) :=
  (dat0 V c).arrAt_eq_of_cover 2 _ (fun t _ => flushed0 V c t) fun i => by
    have h0 : (i 0).val < 4352 := (i 0).isLt
    have h1 : (i 1).val < 1024 := (i 1).isLt
    obtain ⟨t, e0, e1⟩ := hit0 ⟨(i 0).val / 2176, by omega⟩ ⟨(i 1).val / 1024, by omega⟩
    refine ⟨t, flush0_2 t, ?_⟩
    have hi : ((cfg0.win 2).blk t).view.emb
        (ix2 (⟨(i 0).val % 2176, by omega⟩ : Fin 2176) (⟨(i 1).val % 1024, by omega⟩ : Fin 1024)) = i := by
      funext a; fin_cases a
      · ext; show win0_2.index t 0 * 2176 + 1 * ((i 0).val % 2176) = (i 0).val
        rw [e0]; show (i 0).val / 2176 * 2176 + _ = _; omega
      · ext; show win0_2.index t 1 * 1024 + 1 * ((i 1).val % 1024) = (i 1).val
        rw [e1]; show (i 1).val / 1024 * 1024 + _ = _; omega
    rw [← hi]
    exact Finset.mem_map_of_mem _ (Finset.mem_univ _)

/-! ## The pooling branch -/

theorem pay1 (x : FVec Ideal S4352x1024 .bf16) (y : FVec Ideal S1024x512 .bf16) (p : Fin 4352) (q : Fin 512) :
    k1_pay1 (F := Ideal) x y (ix2 p q) = ∑ k : Fin 1024, x (ix2 p k) * y (ix2 k q) := by
  pointwise [k1_pay1]

theorem idx1 : ∀ t : Fin grid1.N,
    (win1_0.index t 0 = win1_2.index t 0 ∧ win1_0.index t 1 = 0)
    ∧ (win1_1.index t 0 = 0 ∧ win1_1.index t 1 = win1_2.index t 1) := by
  decide +kernel

theorem hit1 : ∀ (a : Fin 1) (b : Fin 2), ∃ t : Fin grid1.N,
    win1_2.index t 0 = a.val ∧ win1_2.index t 1 = b.val := by
  decide +kernel

theorem flushed1 (t : Fin cfg1.N) : (dat1 V c).flushed 2 t
    = ((cfg1.win 2).blk t).view.read (Elt Ideal) (nn (V c main_arg1) (V c main_v1)) := by
  show (cfg1.win 2).cut (grid1.coords t) ((dat1 V c).after 2 t) = _
  rw [after1_2]
  funext y
  obtain ⟨p, q, rfl⟩ : ∃ (p : Fin 4352) (q : Fin 512), y = ix2 p q := ⟨y 0, y 1, by funext a; fin_cases a <;> rfl⟩
  show out1_2 (iblk1 V c 0 t) (iblk1 V c 1 t) (ix2 p q)
    = (nn (V c main_arg1) (V c main_v1)) (((cfg1.win 2).blk t).view.emb (ix2 p q))
  unfold out1_2
  rw [View.canon_unit_zero (by decide), View.ld_unit_zero (by decide), View.ld_unit_zero (by decide), pay1]
  obtain ⟨⟨h00, h01⟩, ⟨h10, h11⟩⟩ := idx1 t
  refine Finset.sum_congr rfl fun k _ => ?_
  congr 1
  · show V c main_arg1 _ = V c main_arg1 _
    congr 1; funext a; fin_cases a
    · ext; show win1_0.index t 0 * 4352 + 1 * p.val = win1_2.index t 0 * 4352 + 1 * p.val; rw [h00]
    · ext; show win1_0.index t 1 * 1024 + 1 * k.val = k.val; rw [h01]; omega
  · show V c main_v1 _ = V c main_v1 _
    congr 1; funext a; fin_cases a
    · ext; show win1_1.index t 0 * 1024 + 1 * k.val = k.val; rw [h10]; omega
    · ext; show win1_1.index t 1 * 512 + 1 * q.val = win1_2.index t 1 * 512 + 1 * q.val; rw [h11]

/-- The pooling branch. -/
theorem res1 : (dat1 V c).arrAt 2 cfg1.N = nn (V c main_arg1) (V c main_v1) :=
  (dat1 V c).arrAt_eq_of_cover 2 _ (fun t _ => flushed1 V c t) fun i => by
    have h0 : (i 0).val < 4352 := (i 0).isLt
    have h1 : (i 1).val < 1024 := (i 1).isLt
    obtain ⟨t, e0, e1⟩ := hit1 ⟨(i 0).val / 4352, by omega⟩ ⟨(i 1).val / 512, by omega⟩
    refine ⟨t, flush1_2 t, ?_⟩
    have hi : ((cfg1.win 2).blk t).view.emb
        (ix2 (⟨(i 0).val % 4352, by omega⟩ : Fin 4352) (⟨(i 1).val % 512, by omega⟩ : Fin 512)) = i := by
      funext a; fin_cases a
      · ext; show win1_2.index t 0 * 4352 + 1 * ((i 0).val % 4352) = (i 0).val
        rw [e0]; show (i 0).val / 4352 * 4352 + _ = _; omega
      · ext; show win1_2.index t 1 * 512 + 1 * ((i 1).val % 512) = (i 1).val
        rw [e1]; show (i 1).val / 512 * 512 + _ = _; omega
    rw [← hi]
    exact Finset.mem_map_of_mem _ (Finset.mem_univ _)

/-! ## The merge -/

theorem idx2 : ∀ t : Fin grid2.N,
    (win2_0.index t 0 = win2_4.index t 0 ∧ win2_0.index t 1 = 0)
    ∧ (win2_1.index t 0 = win2_4.index t 0 ∧ win2_1.index t 1 = 0)
    ∧ (win2_2.index t 0 = win2_4.index t 0 ∧ win2_2.index t 1 = 6)
    ∧ (win2_3.index t 0 = win2_4.index t 0 ∧ win2_3.index t 1 = 7)
    ∧ (win2_4.index t 0 = win2_4.index t 0 ∧ win2_4.index t 1 = 0) := by
  decide +kernel

theorem pay2_4 (x0 : FVec Ideal S256x1024 .f32) (x1 : FVec Ideal S256x1024 .f32) (x2 : FVec Ideal S256x1024 .bf16) (x3 : FVec Ideal S256x1024 .bf16) (p : Fin 256) (q : Fin 1024) :
    k2_pay1 (F := Ideal) x0 x1 x2 x3 (ix2 p q) = Ideal.logistic (x2 (ix2 p q)) * x0 (ix2 p q) + Ideal.logistic (x3 (ix2 p q)) * x1 (ix2 p q) := by
  pointwise [k2_pay1]

theorem hit2_4 : ∀ (a : Fin 17) (b : Fin 1), ∃ t : Fin grid2.N,
    win2_4.index t 0 = a.val ∧ win2_4.index t 1 = b.val := by
  decide +kernel

theorem flushed2_4 (t : Fin cfg2.N) : (dat2 V c).flushed 4 t
    = ((cfg2.win 4).blk t).view.read (Elt Ideal) (merge (V c main_v3) (V c main_v4) (V c main_arg2)) := by
  show (cfg2.win 4).cut (grid2.coords t) ((dat2 V c).after 4 t) = _
  rw [after2_4]
  funext y
  obtain ⟨p, q, rfl⟩ : ∃ (p : Fin 256) (q : Fin 1024), y = ix2 p q := ⟨y 0, y 1, by funext a; fin_cases a <;> rfl⟩
  show out2_4 (iblk2 V c 0 t) (iblk2 V c 1 t) (iblk2 V c 2 t) (iblk2 V c 3 t) (ix2 p q)
    = (merge (V c main_v3) (V c main_v4) (V c main_arg2)) (((cfg2.win 4).blk t).view.emb (ix2 p q))
  unfold out2_4
  rw [View.canon_unit_zero (by decide), View.ld_unit_zero (by decide), View.ld_unit_zero (by decide), View.ld_unit_zero (by decide), View.ld_unit_zero (by decide), pay2_4]
  obtain ⟨⟨h00, h01⟩, ⟨h10, h11⟩, ⟨h20, h21⟩, ⟨h30, h31⟩, ⟨h40, h41⟩⟩ := idx2 t
  have e0 : (iblk2 V c 0 t : S256x1024.Idx → EReal) (ix2 p q)
      = V c main_v3 (((cfg2.win 4).blk t).view.emb (ix2 p q)) := by
    show V c main_v3 _ = V c main_v3 _
    congr 1; funext a; fin_cases a
    · ext; show win2_0.index t 0 * 256 + 1 * p.val = win2_4.index t 0 * 256 + 1 * p.val; rw [h00, h40]
    · ext; show win2_0.index t 1 * 1024 + 1 * q.val = win2_4.index t 1 * 1024 + 1 * q.val; rw [h01, h41]
  have e1 : (iblk2 V c 1 t : S256x1024.Idx → EReal) (ix2 p q)
      = V c main_v4 (((cfg2.win 4).blk t).view.emb (ix2 p q)) := by
    show V c main_v4 _ = V c main_v4 _
    congr 1; funext a; fin_cases a
    · ext; show win2_1.index t 0 * 256 + 1 * p.val = win2_4.index t 0 * 256 + 1 * p.val; rw [h10, h40]
    · ext; show win2_1.index t 1 * 1024 + 1 * q.val = win2_4.index t 1 * 1024 + 1 * q.val; rw [h11, h41]
  have e2 : (iblk2 V c 2 t : S256x1024.Idx → EReal) (ix2 p q)
      = V c main_arg2 (ix2 (((cfg2.win 4).blk t).view.emb (ix2 p q) 0) (scanCol (((cfg2.win 4).blk t).view.emb (ix2 p q) 1))) := by
    show V c main_arg2 _ = V c main_arg2 _
    congr 1; funext a; fin_cases a
    · ext; show win2_2.index t 0 * 256 + 1 * p.val = win2_4.index t 0 * 256 + 1 * p.val; rw [h20, h40]
    · ext; show win2_2.index t 1 * 1024 + 1 * q.val = 6144 + (win2_4.index t 1 * 1024 + 1 * q.val); rw [h21, h41]; omega
  have e3 : (iblk2 V c 3 t : S256x1024.Idx → EReal) (ix2 p q)
      = V c main_arg2 (ix2 (((cfg2.win 4).blk t).view.emb (ix2 p q) 0) (poolCol (((cfg2.win 4).blk t).view.emb (ix2 p q) 1))) := by
    show V c main_arg2 _ = V c main_arg2 _
    congr 1; funext a; fin_cases a
    · ext; show win2_3.index t 0 * 256 + 1 * p.val = win2_4.index t 0 * 256 + 1 * p.val; rw [h30, h40]
    · ext; show win2_3.index t 1 * 1024 + 1 * q.val = 7168 + (win2_4.index t 1 * 1024 + 1 * q.val); rw [h31, h41]; omega
  rw [e0, e1, e2, e3]
  rfl

/-- The merged branches. -/
theorem res2_4 : (dat2 V c).arrAt 4 cfg2.N = merge (V c main_v3) (V c main_v4) (V c main_arg2) :=
  (dat2 V c).arrAt_eq_of_cover 4 _ (fun t _ => flushed2_4 V c t) fun i => by
    have h0 : (i 0).val < 4352 := (i 0).isLt
    have h1 : (i 1).val < 1024 := (i 1).isLt
    obtain ⟨t, e0, e1⟩ := hit2_4 ⟨(i 0).val / 256, by omega⟩ ⟨(i 1).val / 1024, by omega⟩
    refine ⟨t, flush2_4 t, ?_⟩
    have hi : ((cfg2.win 4).blk t).view.emb
        (ix2 (⟨(i 0).val % 256, by omega⟩ : Fin 256) (⟨(i 1).val % 1024, by omega⟩ : Fin 1024)) = i := by
      funext a; fin_cases a
      · ext; show win2_4.index t 0 * 256 + 1 * ((i 0).val % 256) = (i 0).val
        rw [e0]; show (i 0).val / 256 * 256 + _ = _; omega
      · ext; show win2_4.index t 1 * 1024 + 1 * ((i 1).val % 1024) = (i 1).val
        rw [e1]; show (i 1).val / 1024 * 1024 + _ = _; omega
    rw [← hi]
    exact Finset.mem_map_of_mem _ (Finset.mem_univ _)

/-! ## The result -/

theorem pay3 (x : FVec Ideal S4352x1024 .bf16) (y : FVec Ideal S1024x512 .bf16) (p : Fin 4352) (q : Fin 512) :
    k3_pay1 (F := Ideal) x y (ix2 p q) = ∑ k : Fin 1024, x (ix2 p k) * y (ix2 k q) := by
  pointwise [k3_pay1]

theorem idx3 : ∀ t : Fin grid3.N,
    (win3_0.index t 0 = win3_2.index t 0 ∧ win3_0.index t 1 = 0)
    ∧ (win3_1.index t 0 = 0 ∧ win3_1.index t 1 = win3_2.index t 1) := by
  decide +kernel

theorem hit3 : ∀ (a : Fin 1) (b : Fin 2), ∃ t : Fin grid3.N,
    win3_2.index t 0 = a.val ∧ win3_2.index t 1 = b.val := by
  decide +kernel

theorem flushed3 (t : Fin cfg3.N) : (dat3 V c).flushed 2 t
    = ((cfg3.win 2).blk t).view.read (Elt Ideal) (nn (V c main_v5) (V c main_v2)) := by
  show (cfg3.win 2).cut (grid3.coords t) ((dat3 V c).after 2 t) = _
  rw [after3_2]
  funext y
  obtain ⟨p, q, rfl⟩ : ∃ (p : Fin 4352) (q : Fin 512), y = ix2 p q := ⟨y 0, y 1, by funext a; fin_cases a <;> rfl⟩
  show out3_2 (iblk3 V c 0 t) (iblk3 V c 1 t) (ix2 p q)
    = (nn (V c main_v5) (V c main_v2)) (((cfg3.win 2).blk t).view.emb (ix2 p q))
  unfold out3_2
  rw [View.canon_unit_zero (by decide), View.ld_unit_zero (by decide), View.ld_unit_zero (by decide), pay3]
  obtain ⟨⟨h00, h01⟩, ⟨h10, h11⟩⟩ := idx3 t
  refine Finset.sum_congr rfl fun k _ => ?_
  congr 1
  · show V c main_v5 _ = V c main_v5 _
    congr 1; funext a; fin_cases a
    · ext; show win3_0.index t 0 * 4352 + 1 * p.val = win3_2.index t 0 * 4352 + 1 * p.val; rw [h00]
    · ext; show win3_0.index t 1 * 1024 + 1 * k.val = k.val; rw [h01]; omega
  · show V c main_v2 _ = V c main_v2 _
    congr 1; funext a; fin_cases a
    · ext; show win3_1.index t 0 * 1024 + 1 * k.val = k.val; rw [h10]; omega
    · ext; show win3_1.index t 1 * 512 + 1 * q.val = win3_2.index t 1 * 512 + 1 * q.val; rw [h11]

/-- The result. -/
theorem res3 : (dat3 V c).arrAt 2 cfg3.N = nn (V c main_v5) (V c main_v2) :=
  (dat3 V c).arrAt_eq_of_cover 2 _ (fun t _ => flushed3 V c t) fun i => by
    have h0 : (i 0).val < 4352 := (i 0).isLt
    have h1 : (i 1).val < 1024 := (i 1).isLt
    obtain ⟨t, e0, e1⟩ := hit3 ⟨(i 0).val / 4352, by omega⟩ ⟨(i 1).val / 512, by omega⟩
    refine ⟨t, flush3_2 t, ?_⟩
    have hi : ((cfg3.win 2).blk t).view.emb
        (ix2 (⟨(i 0).val % 4352, by omega⟩ : Fin 4352) (⟨(i 1).val % 512, by omega⟩ : Fin 512)) = i := by
      funext a; fin_cases a
      · ext; show win3_2.index t 0 * 4352 + 1 * ((i 0).val % 4352) = (i 0).val
        rw [e0]; show (i 0).val / 4352 * 4352 + _ = _; omega
      · ext; show win3_2.index t 1 * 512 + 1 * ((i 1).val % 512) = (i 1).val
        rw [e1]; show (i 1).val / 512 * 512 + _ = _; omega
    rw [← hi]
    exact Finset.mem_map_of_mem _ (Finset.mem_univ _)

end Cert.Out

end
-- ==== Proof.OutBackward.lean ====
/- What the backward calls of the merge and its products leave in their arrays. -/
module

public import proofs.«01_k».proof.Proof.Gen.Kernel4Ideal.Frame
public import proofs.«01_k».proof.Proof.OutModel

@[expose] public section

noncomputable section

namespace Cert.Out

open Cert.Kernel4Ideal Cert.Kernel4Ideal.Gen Idealize.ShloMosaic Idealize.ShloMosaic.TcCoe Cert.Products

variable (V : (c : Dev nD) → (b : Ref sig .tc) → Buf (Elt Ideal) ((c : Thread nD τ).loc b)) (c : Dev nD)

/-! ## The gradient of the merged array -/

theorem pay4 (x : FVec Ideal S4352x1024 .bf16) (y : FVec Ideal S512x1024 .bf16) (p : Fin 4352) (q : Fin 512) :
    k4_pay1 (F := Ideal) x y (ix2 p q) = ∑ k : Fin 1024, x (ix2 p k) * y (ix2 q k) := by
  pointwise [k4_pay1]

theorem idx4 : ∀ t : Fin grid4.N,
    (win4_0.index t 0 = win4_2.index t 0 ∧ win4_0.index t 1 = 0)
    ∧ (win4_1.index t 0 = win4_2.index t 1 ∧ win4_1.index t 1 = 0) := by
  decide +kernel

theorem hit4 : ∀ (a : Fin 1) (b : Fin 2), ∃ t : Fin grid4.N,
    win4_2.index t 0 = a.val ∧ win4_2.index t 1 = b.val := by
  decide +kernel

theorem flushed4 (t : Fin cfg4.N) : (dat4 V c).flushed 2 t
    = ((cfg4.win 2).blk t).view.read (Elt Ideal) (nt (V c main_arg6) (V c main_v2)) := by
  show (cfg4.win 2).cut (grid4.coords t) ((dat4 V c).after 2 t) = _
  rw [after4_2]
  funext y
  obtain ⟨p, q, rfl⟩ : ∃ (p : Fin 4352) (q : Fin 512), y = ix2 p q := ⟨y 0, y 1, by funext a; fin_cases a <;> rfl⟩
  show out4_2 (iblk4 V c 0 t) (iblk4 V c 1 t) (ix2 p q)
    = (nt (V c main_arg6) (V c main_v2)) (((cfg4.win 2).blk t).view.emb (ix2 p q))
  unfold out4_2
  rw [View.canon_unit_zero (by decide), View.ld_unit_zero (by decide), View.ld_unit_zero (by decide), pay4]
  obtain ⟨⟨h00, h01⟩, ⟨h10, h11⟩⟩ := idx4 t
  refine Finset.sum_congr rfl fun k _ => ?_
  congr 1
  · show V c main_arg6 _ = V c main_arg6 _
    congr 1; funext a; fin_cases a
    · ext; show win4_0.index t 0 * 4352 + 1 * p.val = win4_2.index t 0 * 4352 + 1 * p.val; rw [h00]
    · ext; show win4_0.index t 1 * 1024 + 1 * k.val = k.val; rw [h01]; omega
  · show V c main_v2 _ = V c main_v2 _
    congr 1; funext a; fin_cases a
    · ext; show win4_1.index t 0 * 512 + 1 * q.val = win4_2.index t 1 * 512 + 1 * q.val; rw [h10]
    · ext; show win4_1.index t 1 * 1024 + 1 * k.val = k.val; rw [h11]; omega

/-- The gradient of the merged array. -/
theorem res4 : (dat4 V c).arrAt 2 cfg4.N = nt (V c main_arg6) (V c main_v2) :=
  (dat4 V c).arrAt_eq_of_cover 2 _ (fun t _ => flushed4 V c t) fun i => by
    have h0 : (i 0).val < 4352 := (i 0).isLt
    have h1 : (i 1).val < 1024 := (i 1).isLt
    obtain ⟨t, e0, e1⟩ := hit4 ⟨(i 0).val / 4352, by omega⟩ ⟨(i 1).val / 512, by omega⟩
    refine ⟨t, flush4_2 t, ?_⟩
    have hi : ((cfg4.win 2).blk t).view.emb
        (ix2 (⟨(i 0).val % 4352, by omega⟩ : Fin 4352) (⟨(i 1).val % 512, by omega⟩ : Fin 512)) = i := by
      funext a; fin_cases a
      · ext; show win4_2.index t 0 * 4352 + 1 * ((i 0).val % 4352) = (i 0).val
        rw [e0]; show (i 0).val / 4352 * 4352 + _ = _; omega
      · ext; show win4_2.index t 1 * 512 + 1 * ((i 1).val % 512) = (i 1).val
        rw [e1]; show (i 1).val / 512 * 512 + _ = _; omega
    rw [← hi]
    exact Finset.mem_map_of_mem _ (Finset.mem_univ _)

/-! ## The gradient of the last weight -/

theorem pay5 (x : FVec Ideal S4352x512 .bf16) (y : FVec Ideal S4352x512 .bf16) (p : Fin 512) (q : Fin 512) :
    k5_pay1 (F := Ideal) x y (ix2 p q) = ∑ k : Fin 4352, x (ix2 k p) * y (ix2 k q) := by
  pointwise [k5_pay1]

theorem idx5 : ∀ t : Fin grid5.N,
    (win5_0.index t 0 = 0 ∧ win5_0.index t 1 = win5_2.index t 0)
    ∧ (win5_1.index t 0 = 0 ∧ win5_1.index t 1 = win5_2.index t 1) := by
  decide +kernel

theorem hit5 : ∀ (a : Fin 2) (b : Fin 2), ∃ t : Fin grid5.N,
    win5_2.index t 0 = a.val ∧ win5_2.index t 1 = b.val := by
  decide +kernel

theorem flushed5 (t : Fin cfg5.N) : (dat5 V c).flushed 2 t
    = ((cfg5.win 2).blk t).view.read (Elt Ideal) (tn (V c main_v5) (V c main_arg6)) := by
  show (cfg5.win 2).cut (grid5.coords t) ((dat5 V c).after 2 t) = _
  rw [after5_2]
  funext y
  obtain ⟨p, q, rfl⟩ : ∃ (p : Fin 512) (q : Fin 512), y = ix2 p q := ⟨y 0, y 1, by funext a; fin_cases a <;> rfl⟩
  show out5_2 (iblk5 V c 0 t) (iblk5 V c 1 t) (ix2 p q)
    = (tn (V c main_v5) (V c main_arg6)) (((cfg5.win 2).blk t).view.emb (ix2 p q))
  unfold out5_2
  rw [View.canon_unit_zero (by decide), View.ld_unit_zero (by decide), View.ld_unit_zero (by decide), pay5]
  obtain ⟨⟨h00, h01⟩, ⟨h10, h11⟩⟩ := idx5 t
  refine Finset.sum_congr rfl fun k _ => ?_
  congr 1
  · show V c main_v5 _ = V c main_v5 _
    congr 1; funext a; fin_cases a
    · ext; show win5_0.index t 0 * 4352 + 1 * k.val = k.val; rw [h00]; omega
    · ext; show win5_0.index t 1 * 512 + 1 * p.val = win5_2.index t 0 * 512 + 1 * p.val; rw [h01]
  · show V c main_arg6 _ = V c main_arg6 _
    congr 1; funext a; fin_cases a
    · ext; show win5_1.index t 0 * 4352 + 1 * k.val = k.val; rw [h10]; omega
    · ext; show win5_1.index t 1 * 512 + 1 * q.val = win5_2.index t 1 * 512 + 1 * q.val; rw [h11]

/-- The gradient of the last weight. -/
theorem res5 : (dat5 V c).arrAt 2 cfg5.N = tn (V c main_v5) (V c main_arg6) :=
  (dat5 V c).arrAt_eq_of_cover 2 _ (fun t _ => flushed5 V c t) fun i => by
    have h0 : (i 0).val < 1024 := (i 0).isLt
    have h1 : (i 1).val < 1024 := (i 1).isLt
    obtain ⟨t, e0, e1⟩ := hit5 ⟨(i 0).val / 512, by omega⟩ ⟨(i 1).val / 512, by omega⟩
    refine ⟨t, flush5_2 t, ?_⟩
    have hi : ((cfg5.win 2).blk t).view.emb
        (ix2 (⟨(i 0).val % 512, by omega⟩ : Fin 512) (⟨(i 1).val % 512, by omega⟩ : Fin 512)) = i := by
      funext a; fin_cases a
      · ext; show win5_2.index t 0 * 512 + 1 * ((i 0).val % 512) = (i 0).val
        rw [e0]; show (i 0).val / 512 * 512 + _ = _; omega
      · ext; show win5_2.index t 1 * 512 + 1 * ((i 1).val % 512) = (i 1).val
        rw [e1]; show (i 1).val / 512 * 512 + _ = _; omega
    rw [← hi]
    exact Finset.mem_map_of_mem _ (Finset.mem_univ _)

/-! ## The gradient of the merge -/

theorem idx6 : ∀ t : Fin grid6.N,
    (win6_0.index t 0 = win6_5.index t 0 ∧ win6_0.index t 1 = 0)
    ∧ (win6_1.index t 0 = win6_5.index t 0 ∧ win6_1.index t 1 = 0)
    ∧ (win6_2.index t 0 = win6_5.index t 0 ∧ win6_2.index t 1 = 6)
    ∧ (win6_3.index t 0 = win6_5.index t 0 ∧ win6_3.index t 1 = 7)
    ∧ (win6_4.index t 0 = win6_5.index t 0 ∧ win6_4.index t 1 = 0)
    ∧ (win6_5.index t 0 = win6_5.index t 0 ∧ win6_5.index t 1 = 0)
    ∧ (win6_6.index t 0 = win6_5.index t 0 ∧ win6_6.index t 1 = 0)
    ∧ (win6_7.index t 0 = win6_5.index t 0 ∧ win6_7.index t 1 = 0)
    ∧ (win6_8.index t 0 = win6_5.index t 0 ∧ win6_8.index t 1 = 0) := by
  decide +kernel

theorem pay6_5 (x2 : FVec Ideal S256x1024 .bf16) (x4 : FVec Ideal S256x1024 .f32) (p : Fin 256) (q : Fin 1024) :
    k6_pay4 (F := Ideal) x2 x4 (ix2 p q) = Ideal.logistic (x2 (ix2 p q)) * x4 (ix2 p q) := by
  pointwise [k6_pay4, k6_pay2, k6_pay1]

theorem hit6_5 : ∀ (a : Fin 17) (b : Fin 1), ∃ t : Fin grid6.N,
    win6_5.index t 0 = a.val ∧ win6_5.index t 1 = b.val := by
  decide +kernel

theorem flushed6_5 (t : Fin cfg6.N) : (dat6 V c).flushed 5 t
    = ((cfg6.win 5).blk t).view.read (Elt Ideal) (scanGrad (V c main_arg2) (V c main_v7)) := by
  show (cfg6.win 5).cut (grid6.coords t) ((dat6 V c).after 5 t) = _
  rw [after6_5]
  funext y
  obtain ⟨p, q, rfl⟩ : ∃ (p : Fin 256) (q : Fin 1024), y = ix2 p q := ⟨y 0, y 1, by funext a; fin_cases a <;> rfl⟩
  show out6_5 (iblk6 V c 0 t) (iblk6 V c 1 t) (iblk6 V c 2 t) (iblk6 V c 3 t) (iblk6 V c 4 t) (ix2 p q)
    = (scanGrad (V c main_arg2) (V c main_v7)) (((cfg6.win 5).blk t).view.emb (ix2 p q))
  unfold out6_5
  rw [View.canon_unit_zero (by decide), View.ld_unit_zero (by decide), View.ld_unit_zero (by decide), pay6_5]
  obtain ⟨⟨h00, h01⟩, ⟨h10, h11⟩, ⟨h20, h21⟩, ⟨h30, h31⟩, ⟨h40, h41⟩, ⟨h50, h51⟩, ⟨h60, h61⟩, ⟨h70, h71⟩, ⟨h80, h81⟩⟩ := idx6 t
  have e2 : (iblk6 V c 2 t : S256x1024.Idx → EReal) (ix2 p q)
      = V c main_arg2 (ix2 (((cfg6.win 5).blk t).view.emb (ix2 p q) 0) (scanCol (((cfg6.win 5).blk t).view.emb (ix2 p q) 1))) := by
    show V c main_arg2 _ = V c main_arg2 _
    congr 1; funext a; fin_cases a
    · ext; show win6_2.index t 0 * 256 + 1 * p.val = win6_5.index t 0 * 256 + 1 * p.val; rw [h20, h50]
    · ext; show win6_2.index t 1 * 1024 + 1 * q.val = 6144 + (win6_5.index t 1 * 1024 + 1 * q.val); rw [h21, h51]; omega
  have e4 : (iblk6 V c 4 t : S256x1024.Idx → EReal) (ix2 p q)
      = V c main_v7 (((cfg6.win 5).blk t).view.emb (ix2 p q)) := by
    show V c main_v7 _ = V c main_v7 _
    congr 1; funext a; fin_cases a
    · ext; show win6_4.index t 0 * 256 + 1 * p.val = win6_5.index t 0 * 256 + 1 * p.val; rw [h40, h50]
    · ext; show win6_4.index t 1 * 1024 + 1 * q.val = win6_5.index t 1 * 1024 + 1 * q.val; rw [h41, h51]
  rw [e2, e4]
  rfl

/-- The gradient of the scan branch. -/
theorem res6_5 : (dat6 V c).arrAt 5 cfg6.N = scanGrad (V c main_arg2) (V c main_v7) :=
  (dat6 V c).arrAt_eq_of_cover 5 _ (fun t _ => flushed6_5 V c t) fun i => by
    have h0 : (i 0).val < 4352 := (i 0).isLt
    have h1 : (i 1).val < 1024 := (i 1).isLt
    obtain ⟨t, e0, e1⟩ := hit6_5 ⟨(i 0).val / 256, by omega⟩ ⟨(i 1).val / 1024, by omega⟩
    refine ⟨t, flush6_5 t, ?_⟩
    have hi : ((cfg6.win 5).blk t).view.emb
        (ix2 (⟨(i 0).val % 256, by omega⟩ : Fin 256) (⟨(i 1).val % 1024, by omega⟩ : Fin 1024)) = i := by
      funext a; fin_cases a
      · ext; show win6_5.index t 0 * 256 + 1 * ((i 0).val % 256) = (i 0).val
        rw [e0]; show (i 0).val / 256 * 256 + _ = _; omega
      · ext; show win6_5.index t 1 * 1024 + 1 * ((i 1).val % 1024) = (i 1).val
        rw [e1]; show (i 1).val / 1024 * 1024 + _ = _; omega
    rw [← hi]
    exact Finset.mem_map_of_mem _ (Finset.mem_univ _)

theorem pay6_6 (x3 : FVec Ideal S256x1024 .bf16) (x4 : FVec Ideal S256x1024 .f32) (p : Fin 256) (q : Fin 1024) :
    k6_pay5 (F := Ideal) x3 x4 (ix2 p q) = Ideal.logistic (x3 (ix2 p q)) * x4 (ix2 p q) := by
  pointwise [k6_pay5, k6_pay3, k6_pay1]

theorem hit6_6 : ∀ (a : Fin 17) (b : Fin 1), ∃ t : Fin grid6.N,
    win6_6.index t 0 = a.val ∧ win6_6.index t 1 = b.val := by
  decide +kernel

theorem flushed6_6 (t : Fin cfg6.N) : (dat6 V c).flushed 6 t
    = ((cfg6.win 6).blk t).view.read (Elt Ideal) (poolGrad (V c main_arg2) (V c main_v7)) := by
  show (cfg6.win 6).cut (grid6.coords t) ((dat6 V c).after 6 t) = _
  rw [after6_6]
  funext y
  obtain ⟨p, q, rfl⟩ : ∃ (p : Fin 256) (q : Fin 1024), y = ix2 p q := ⟨y 0, y 1, by funext a; fin_cases a <;> rfl⟩
  show out6_6 (iblk6 V c 0 t) (iblk6 V c 1 t) (iblk6 V c 2 t) (iblk6 V c 3 t) (iblk6 V c 4 t) (ix2 p q)
    = (poolGrad (V c main_arg2) (V c main_v7)) (((cfg6.win 6).blk t).view.emb (ix2 p q))
  unfold out6_6
  rw [View.canon_unit_zero (by decide), View.ld_unit_zero (by decide), View.ld_unit_zero (by decide), pay6_6]
  obtain ⟨⟨h00, h01⟩, ⟨h10, h11⟩, ⟨h20, h21⟩, ⟨h30, h31⟩, ⟨h40, h41⟩, ⟨h50, h51⟩, ⟨h60, h61⟩, ⟨h70, h71⟩, ⟨h80, h81⟩⟩ := idx6 t
  have e3 : (iblk6 V c 3 t : S256x1024.Idx → EReal) (ix2 p q)
      = V c main_arg2 (ix2 (((cfg6.win 6).blk t).view.emb (ix2 p q) 0) (poolCol (((cfg6.win 6).blk t).view.emb (ix2 p q) 1))) := by
    show V c main_arg2 _ = V c main_arg2 _
    congr 1; funext a; fin_cases a
    · ext; show win6_3.index t 0 * 256 + 1 * p.val = win6_6.index t 0 * 256 + 1 * p.val; rw [h30, h60]
    · ext; show win6_3.index t 1 * 1024 + 1 * q.val = 7168 + (win6_6.index t 1 * 1024 + 1 * q.val); rw [h31, h61]; omega
  have e4 : (iblk6 V c 4 t : S256x1024.Idx → EReal) (ix2 p q)
      = V c main_v7 (((cfg6.win 6).blk t).view.emb (ix2 p q)) := by
    show V c main_v7 _ = V c main_v7 _
    congr 1; funext a; fin_cases a
    · ext; show win6_4.index t 0 * 256 + 1 * p.val = win6_6.index t 0 * 256 + 1 * p.val; rw [h40, h60]
    · ext; show win6_4.index t 1 * 1024 + 1 * q.val = win6_6.index t 1 * 1024 + 1 * q.val; rw [h41, h61]
  rw [e3, e4]
  rfl

/-- The gradient of the pooling branch. -/
theorem res6_6 : (dat6 V c).arrAt 6 cfg6.N = poolGrad (V c main_arg2) (V c main_v7) :=
  (dat6 V c).arrAt_eq_of_cover 6 _ (fun t _ => flushed6_6 V c t) fun i => by
    have h0 : (i 0).val < 4352 := (i 0).isLt
    have h1 : (i 1).val < 1024 := (i 1).isLt
    obtain ⟨t, e0, e1⟩ := hit6_6 ⟨(i 0).val / 256, by omega⟩ ⟨(i 1).val / 1024, by omega⟩
    refine ⟨t, flush6_6 t, ?_⟩
    have hi : ((cfg6.win 6).blk t).view.emb
        (ix2 (⟨(i 0).val % 256, by omega⟩ : Fin 256) (⟨(i 1).val % 1024, by omega⟩ : Fin 1024)) = i := by
      funext a; fin_cases a
      · ext; show win6_6.index t 0 * 256 + 1 * ((i 0).val % 256) = (i 0).val
        rw [e0]; show (i 0).val / 256 * 256 + _ = _; omega
      · ext; show win6_6.index t 1 * 1024 + 1 * ((i 1).val % 1024) = (i 1).val
        rw [e1]; show (i 1).val / 1024 * 1024 + _ = _; omega
    rw [← hi]
    exact Finset.mem_map_of_mem _ (Finset.mem_univ _)

theorem pay6_7 (x0 : FVec Ideal S256x1024 .f32) (x2 : FVec Ideal S256x1024 .bf16) (x4 : FVec Ideal S256x1024 .f32) (p : Fin 256) (q : Fin 1024) :
    k6_pay6 (F := Ideal) x0 x2 x4 (ix2 p q) = x4 (ix2 p q) * x0 (ix2 p q) * (Ideal.logistic (x2 (ix2 p q)) * (1 - Ideal.logistic (x2 (ix2 p q)))) := by
  pointwise [k6_pay6, k6_pay2, k6_pay1]

theorem hit6_7 : ∀ (a : Fin 17) (b : Fin 1), ∃ t : Fin grid6.N,
    win6_7.index t 0 = a.val ∧ win6_7.index t 1 = b.val := by
  decide +kernel

theorem flushed6_7 (t : Fin cfg6.N) : (dat6 V c).flushed 7 t
    = ((cfg6.win 7).blk t).view.read (Elt Ideal) (scanGateGrad (V c main_v3) (V c main_arg2) (V c main_v7)) := by
  show (cfg6.win 7).cut (grid6.coords t) ((dat6 V c).after 7 t) = _
  rw [after6_7]
  funext y
  obtain ⟨p, q, rfl⟩ : ∃ (p : Fin 256) (q : Fin 1024), y = ix2 p q := ⟨y 0, y 1, by funext a; fin_cases a <;> rfl⟩
  show out6_7 (iblk6 V c 0 t) (iblk6 V c 1 t) (iblk6 V c 2 t) (iblk6 V c 3 t) (iblk6 V c 4 t) (ix2 p q)
    = (scanGateGrad (V c main_v3) (V c main_arg2) (V c main_v7)) (((cfg6.win 7).blk t).view.emb (ix2 p q))
  unfold out6_7
  rw [View.canon_unit_zero (by decide), View.ld_unit_zero (by decide), View.ld_unit_zero (by decide), View.ld_unit_zero (by decide), pay6_7]
  obtain ⟨⟨h00, h01⟩, ⟨h10, h11⟩, ⟨h20, h21⟩, ⟨h30, h31⟩, ⟨h40, h41⟩, ⟨h50, h51⟩, ⟨h60, h61⟩, ⟨h70, h71⟩, ⟨h80, h81⟩⟩ := idx6 t
  have e0 : (iblk6 V c 0 t : S256x1024.Idx → EReal) (ix2 p q)
      = V c main_v3 (((cfg6.win 7).blk t).view.emb (ix2 p q)) := by
    show V c main_v3 _ = V c main_v3 _
    congr 1; funext a; fin_cases a
    · ext; show win6_0.index t 0 * 256 + 1 * p.val = win6_7.index t 0 * 256 + 1 * p.val; rw [h00, h70]
    · ext; show win6_0.index t 1 * 1024 + 1 * q.val = win6_7.index t 1 * 1024 + 1 * q.val; rw [h01, h71]
  have e2 : (iblk6 V c 2 t : S256x1024.Idx → EReal) (ix2 p q)
      = V c main_arg2 (ix2 (((cfg6.win 7).blk t).view.emb (ix2 p q) 0) (scanCol (((cfg6.win 7).blk t).view.emb (ix2 p q) 1))) := by
    show V c main_arg2 _ = V c main_arg2 _
    congr 1; funext a; fin_cases a
    · ext; show win6_2.index t 0 * 256 + 1 * p.val = win6_7.index t 0 * 256 + 1 * p.val; rw [h20, h70]
    · ext; show win6_2.index t 1 * 1024 + 1 * q.val = 6144 + (win6_7.index t 1 * 1024 + 1 * q.val); rw [h21, h71]; omega
  have e4 : (iblk6 V c 4 t : S256x1024.Idx → EReal) (ix2 p q)
      = V c main_v7 (((cfg6.win 7).blk t).view.emb (ix2 p q)) := by
    show V c main_v7 _ = V c main_v7 _
    congr 1; funext a; fin_cases a
    · ext; show win6_4.index t 0 * 256 + 1 * p.val = win6_7.index t 0 * 256 + 1 * p.val; rw [h40, h70]
    · ext; show win6_4.index t 1 * 1024 + 1 * q.val = win6_7.index t 1 * 1024 + 1 * q.val; rw [h41, h71]
  rw [e0, e2, e4]
  rfl

/-- The gradient of the scan branch's gate. -/
theorem res6_7 : (dat6 V c).arrAt 7 cfg6.N = scanGateGrad (V c main_v3) (V c main_arg2) (V c main_v7) :=
  (dat6 V c).arrAt_eq_of_cover 7 _ (fun t _ => flushed6_7 V c t) fun i => by
    have h0 : (i 0).val < 4352 := (i 0).isLt
    have h1 : (i 1).val < 1024 := (i 1).isLt
    obtain ⟨t, e0, e1⟩ := hit6_7 ⟨(i 0).val / 256, by omega⟩ ⟨(i 1).val / 1024, by omega⟩
    refine ⟨t, flush6_7 t, ?_⟩
    have hi : ((cfg6.win 7).blk t).view.emb
        (ix2 (⟨(i 0).val % 256, by omega⟩ : Fin 256) (⟨(i 1).val % 1024, by omega⟩ : Fin 1024)) = i := by
      funext a; fin_cases a
      · ext; show win6_7.index t 0 * 256 + 1 * ((i 0).val % 256) = (i 0).val
        rw [e0]; show (i 0).val / 256 * 256 + _ = _; omega
      · ext; show win6_7.index t 1 * 1024 + 1 * ((i 1).val % 1024) = (i 1).val
        rw [e1]; show (i 1).val / 1024 * 1024 + _ = _; omega
    rw [← hi]
    exact Finset.mem_map_of_mem _ (Finset.mem_univ _)

theorem pay6_8 (x1 : FVec Ideal S256x1024 .f32) (x3 : FVec Ideal S256x1024 .bf16) (x4 : FVec Ideal S256x1024 .f32) (p : Fin 256) (q : Fin 1024) :
    k6_pay7 (F := Ideal) x1 x3 x4 (ix2 p q) = x4 (ix2 p q) * x1 (ix2 p q) * (Ideal.logistic (x3 (ix2 p q)) * (1 - Ideal.logistic (x3 (ix2 p q)))) := by
  pointwise [k6_pay7, k6_pay3, k6_pay1]

theorem hit6_8 : ∀ (a : Fin 17) (b : Fin 1), ∃ t : Fin grid6.N,
    win6_8.index t 0 = a.val ∧ win6_8.index t 1 = b.val := by
  decide +kernel

theorem flushed6_8 (t : Fin cfg6.N) : (dat6 V c).flushed 8 t
    = ((cfg6.win 8).blk t).view.read (Elt Ideal) (poolGateGrad (V c main_v4) (V c main_arg2) (V c main_v7)) := by
  show (cfg6.win 8).cut (grid6.coords t) ((dat6 V c).after 8 t) = _
  rw [after6_8]
  funext y
  obtain ⟨p, q, rfl⟩ : ∃ (p : Fin 256) (q : Fin 1024), y = ix2 p q := ⟨y 0, y 1, by funext a; fin_cases a <;> rfl⟩
  show out6_8 (iblk6 V c 0 t) (iblk6 V c 1 t) (iblk6 V c 2 t) (iblk6 V c 3 t) (iblk6 V c 4 t) (ix2 p q)
    = (poolGateGrad (V c main_v4) (V c main_arg2) (V c main_v7)) (((cfg6.win 8).blk t).view.emb (ix2 p q))
  unfold out6_8
  rw [View.canon_unit_zero (by decide), View.ld_unit_zero (by decide), View.ld_unit_zero (by decide), View.ld_unit_zero (by decide), pay6_8]
  obtain ⟨⟨h00, h01⟩, ⟨h10, h11⟩, ⟨h20, h21⟩, ⟨h30, h31⟩, ⟨h40, h41⟩, ⟨h50, h51⟩, ⟨h60, h61⟩, ⟨h70, h71⟩, ⟨h80, h81⟩⟩ := idx6 t
  have e1 : (iblk6 V c 1 t : S256x1024.Idx → EReal) (ix2 p q)
      = V c main_v4 (((cfg6.win 8).blk t).view.emb (ix2 p q)) := by
    show V c main_v4 _ = V c main_v4 _
    congr 1; funext a; fin_cases a
    · ext; show win6_1.index t 0 * 256 + 1 * p.val = win6_8.index t 0 * 256 + 1 * p.val; rw [h10, h80]
    · ext; show win6_1.index t 1 * 1024 + 1 * q.val = win6_8.index t 1 * 1024 + 1 * q.val; rw [h11, h81]
  have e3 : (iblk6 V c 3 t : S256x1024.Idx → EReal) (ix2 p q)
      = V c main_arg2 (ix2 (((cfg6.win 8).blk t).view.emb (ix2 p q) 0) (poolCol (((cfg6.win 8).blk t).view.emb (ix2 p q) 1))) := by
    show V c main_arg2 _ = V c main_arg2 _
    congr 1; funext a; fin_cases a
    · ext; show win6_3.index t 0 * 256 + 1 * p.val = win6_8.index t 0 * 256 + 1 * p.val; rw [h30, h80]
    · ext; show win6_3.index t 1 * 1024 + 1 * q.val = 7168 + (win6_8.index t 1 * 1024 + 1 * q.val); rw [h31, h81]; omega
  have e4 : (iblk6 V c 4 t : S256x1024.Idx → EReal) (ix2 p q)
      = V c main_v7 (((cfg6.win 8).blk t).view.emb (ix2 p q)) := by
    show V c main_v7 _ = V c main_v7 _
    congr 1; funext a; fin_cases a
    · ext; show win6_4.index t 0 * 256 + 1 * p.val = win6_8.index t 0 * 256 + 1 * p.val; rw [h40, h80]
    · ext; show win6_4.index t 1 * 1024 + 1 * q.val = win6_8.index t 1 * 1024 + 1 * q.val; rw [h41, h81]
  rw [e1, e3, e4]
  rfl

/-- The gradient of the pooling branch's gate. -/
theorem res6_8 : (dat6 V c).arrAt 8 cfg6.N = poolGateGrad (V c main_v4) (V c main_arg2) (V c main_v7) :=
  (dat6 V c).arrAt_eq_of_cover 8 _ (fun t _ => flushed6_8 V c t) fun i => by
    have h0 : (i 0).val < 4352 := (i 0).isLt
    have h1 : (i 1).val < 1024 := (i 1).isLt
    obtain ⟨t, e0, e1⟩ := hit6_8 ⟨(i 0).val / 256, by omega⟩ ⟨(i 1).val / 1024, by omega⟩
    refine ⟨t, flush6_8 t, ?_⟩
    have hi : ((cfg6.win 8).blk t).view.emb
        (ix2 (⟨(i 0).val % 256, by omega⟩ : Fin 256) (⟨(i 1).val % 1024, by omega⟩ : Fin 1024)) = i := by
      funext a; fin_cases a
      · ext; show win6_8.index t 0 * 256 + 1 * ((i 0).val % 256) = (i 0).val
        rw [e0]; show (i 0).val / 256 * 256 + _ = _; omega
      · ext; show win6_8.index t 1 * 1024 + 1 * ((i 1).val % 1024) = (i 1).val
        rw [e1]; show (i 1).val / 1024 * 1024 + _ = _; omega
    rw [← hi]
    exact Finset.mem_map_of_mem _ (Finset.mem_univ _)

/-! ## The gradient of the pooled rows -/

theorem pay7 (x : FVec Ideal S4352x1024 .bf16) (y : FVec Ideal S512x1024 .bf16) (p : Fin 4352) (q : Fin 512) :
    k7_pay1 (F := Ideal) x y (ix2 p q) = ∑ k : Fin 1024, x (ix2 p k) * y (ix2 q k) := by
  pointwise [k7_pay1]

theorem idx7 : ∀ t : Fin grid7.N,
    (win7_0.index t 0 = win7_2.index t 0 ∧ win7_0.index t 1 = 0)
    ∧ (win7_1.index t 0 = win7_2.index t 1 ∧ win7_1.index t 1 = 0) := by
  decide +kernel

theorem hit7 : ∀ (a : Fin 1) (b : Fin 2), ∃ t : Fin grid7.N,
    win7_2.index t 0 = a.val ∧ win7_2.index t 1 = b.val := by
  decide +kernel

theorem flushed7 (t : Fin cfg7.N) : (dat7 V c).flushed 2 t
    = ((cfg7.win 2).blk t).view.read (Elt Ideal) (nt (V c main_v9_1) (V c main_v1)) := by
  show (cfg7.win 2).cut (grid7.coords t) ((dat7 V c).after 2 t) = _
  rw [after7_2]
  funext y
  obtain ⟨p, q, rfl⟩ : ∃ (p : Fin 4352) (q : Fin 512), y = ix2 p q := ⟨y 0, y 1, by funext a; fin_cases a <;> rfl⟩
  show out7_2 (iblk7 V c 0 t) (iblk7 V c 1 t) (ix2 p q)
    = (nt (V c main_v9_1) (V c main_v1)) (((cfg7.win 2).blk t).view.emb (ix2 p q))
  unfold out7_2
  rw [View.canon_unit_zero (by decide), View.ld_unit_zero (by decide), View.ld_unit_zero (by decide), pay7]
  obtain ⟨⟨h00, h01⟩, ⟨h10, h11⟩⟩ := idx7 t
  refine Finset.sum_congr rfl fun k _ => ?_
  congr 1
  · show V c main_v9_1 _ = V c main_v9_1 _
    congr 1; funext a; fin_cases a
    · ext; show win7_0.index t 0 * 4352 + 1 * p.val = win7_2.index t 0 * 4352 + 1 * p.val; rw [h00]
    · ext; show win7_0.index t 1 * 1024 + 1 * k.val = k.val; rw [h01]; omega
  · show V c main_v1 _ = V c main_v1 _
    congr 1; funext a; fin_cases a
    · ext; show win7_1.index t 0 * 512 + 1 * q.val = win7_2.index t 1 * 512 + 1 * q.val; rw [h10]
    · ext; show win7_1.index t 1 * 1024 + 1 * k.val = k.val; rw [h11]; omega

/-- The gradient of the pooled rows. -/
theorem res7 : (dat7 V c).arrAt 2 cfg7.N = nt (V c main_v9_1) (V c main_v1) :=
  (dat7 V c).arrAt_eq_of_cover 2 _ (fun t _ => flushed7 V c t) fun i => by
    have h0 : (i 0).val < 4352 := (i 0).isLt
    have h1 : (i 1).val < 1024 := (i 1).isLt
    obtain ⟨t, e0, e1⟩ := hit7 ⟨(i 0).val / 4352, by omega⟩ ⟨(i 1).val / 512, by omega⟩
    refine ⟨t, flush7_2 t, ?_⟩
    have hi : ((cfg7.win 2).blk t).view.emb
        (ix2 (⟨(i 0).val % 4352, by omega⟩ : Fin 4352) (⟨(i 1).val % 512, by omega⟩ : Fin 512)) = i := by
      funext a; fin_cases a
      · ext; show win7_2.index t 0 * 4352 + 1 * ((i 0).val % 4352) = (i 0).val
        rw [e0]; show (i 0).val / 4352 * 4352 + _ = _; omega
      · ext; show win7_2.index t 1 * 512 + 1 * ((i 1).val % 512) = (i 1).val
        rw [e1]; show (i 1).val / 512 * 512 + _ = _; omega
    rw [← hi]
    exact Finset.mem_map_of_mem _ (Finset.mem_univ _)

/-! ## The gradient of the pooling branch's weight -/

theorem pay8 (x : FVec Ideal S4352x512 .bf16) (y : FVec Ideal S4352x512 .bf16) (p : Fin 512) (q : Fin 512) :
    k8_pay1 (F := Ideal) x y (ix2 p q) = ∑ k : Fin 4352, x (ix2 k p) * y (ix2 k q) := by
  pointwise [k8_pay1]

theorem idx8 : ∀ t : Fin grid8.N,
    (win8_0.index t 0 = 0 ∧ win8_0.index t 1 = win8_2.index t 0)
    ∧ (win8_1.index t 0 = 0 ∧ win8_1.index t 1 = win8_2.index t 1) := by
  decide +kernel

theorem hit8 : ∀ (a : Fin 2) (b : Fin 2), ∃ t : Fin grid8.N,
    win8_2.index t 0 = a.val ∧ win8_2.index t 1 = b.val := by
  decide +kernel

theorem flushed8 (t : Fin cfg8.N) : (dat8 V c).flushed 2 t
    = ((cfg8.win 2).blk t).view.read (Elt Ideal) (tn (V c main_arg1) (V c main_v9_1)) := by
  show (cfg8.win 2).cut (grid8.coords t) ((dat8 V c).after 2 t) = _
  rw [after8_2]
  funext y
  obtain ⟨p, q, rfl⟩ : ∃ (p : Fin 512) (q : Fin 512), y = ix2 p q := ⟨y 0, y 1, by funext a; fin_cases a <;> rfl⟩
  show out8_2 (iblk8 V c 0 t) (iblk8 V c 1 t) (ix2 p q)
    = (tn (V c main_arg1) (V c main_v9_1)) (((cfg8.win 2).blk t).view.emb (ix2 p q))
  unfold out8_2
  rw [View.canon_unit_zero (by decide), View.ld_unit_zero (by decide), View.ld_unit_zero (by decide), pay8]
  obtain ⟨⟨h00, h01⟩, ⟨h10, h11⟩⟩ := idx8 t
  refine Finset.sum_congr rfl fun k _ => ?_
  congr 1
  · show V c main_arg1 _ = V c main_arg1 _
    congr 1; funext a; fin_cases a
    · ext; show win8_0.index t 0 * 4352 + 1 * k.val = k.val; rw [h00]; omega
    · ext; show win8_0.index t 1 * 512 + 1 * p.val = win8_2.index t 0 * 512 + 1 * p.val; rw [h01]
  · show V c main_v9_1 _ = V c main_v9_1 _
    congr 1; funext a; fin_cases a
    · ext; show win8_1.index t 0 * 4352 + 1 * k.val = k.val; rw [h10]; omega
    · ext; show win8_1.index t 1 * 512 + 1 * q.val = win8_2.index t 1 * 512 + 1 * q.val; rw [h11]

/-- The gradient of the pooling branch's weight. -/
theorem res8 : (dat8 V c).arrAt 2 cfg8.N = tn (V c main_arg1) (V c main_v9_1) :=
  (dat8 V c).arrAt_eq_of_cover 2 _ (fun t _ => flushed8 V c t) fun i => by
    have h0 : (i 0).val < 1024 := (i 0).isLt
    have h1 : (i 1).val < 1024 := (i 1).isLt
    obtain ⟨t, e0, e1⟩ := hit8 ⟨(i 0).val / 512, by omega⟩ ⟨(i 1).val / 512, by omega⟩
    refine ⟨t, flush8_2 t, ?_⟩
    have hi : ((cfg8.win 2).blk t).view.emb
        (ix2 (⟨(i 0).val % 512, by omega⟩ : Fin 512) (⟨(i 1).val % 512, by omega⟩ : Fin 512)) = i := by
      funext a; fin_cases a
      · ext; show win8_2.index t 0 * 512 + 1 * ((i 0).val % 512) = (i 0).val
        rw [e0]; show (i 0).val / 512 * 512 + _ = _; omega
      · ext; show win8_2.index t 1 * 512 + 1 * ((i 1).val % 512) = (i 1).val
        rw [e1]; show (i 1).val / 512 * 512 + _ = _; omega
    rw [← hi]
    exact Finset.mem_map_of_mem _ (Finset.mem_univ _)

/-! ## The gradient of the scan's rows -/

theorem pay9 (x : FVec Ideal S4352x1024 .bf16) (y : FVec Ideal S512x1024 .bf16) (p : Fin 4352) (q : Fin 512) :
    k9_pay1 (F := Ideal) x y (ix2 p q) = ∑ k : Fin 1024, x (ix2 p k) * y (ix2 q k) := by
  pointwise [k9_pay1]

theorem idx9 : ∀ t : Fin grid9.N,
    (win9_0.index t 0 = win9_2.index t 0 ∧ win9_0.index t 1 = 0)
    ∧ (win9_1.index t 0 = win9_2.index t 1 ∧ win9_1.index t 1 = 0) := by
  decide +kernel

theorem hit9 : ∀ (a : Fin 1) (b : Fin 4), ∃ t : Fin grid9.N,
    win9_2.index t 0 = a.val ∧ win9_2.index t 1 = b.val := by
  decide +kernel

theorem flushed9 (t : Fin cfg9.N) : (dat9 V c).flushed 2 t
    = ((cfg9.win 2).blk t).view.read (Elt Ideal) (nt (V c main_v9_0) (V c main_v0)) := by
  show (cfg9.win 2).cut (grid9.coords t) ((dat9 V c).after 2 t) = _
  rw [after9_2]
  funext y
  obtain ⟨p, q, rfl⟩ : ∃ (p : Fin 4352) (q : Fin 512), y = ix2 p q := ⟨y 0, y 1, by funext a; fin_cases a <;> rfl⟩
  show out9_2 (iblk9 V c 0 t) (iblk9 V c 1 t) (ix2 p q)
    = (nt (V c main_v9_0) (V c main_v0)) (((cfg9.win 2).blk t).view.emb (ix2 p q))
  unfold out9_2
  rw [View.canon_unit_zero (by decide), View.ld_unit_zero (by decide), View.ld_unit_zero (by decide), pay9]
  obtain ⟨⟨h00, h01⟩, ⟨h10, h11⟩⟩ := idx9 t
  refine Finset.sum_congr rfl fun k _ => ?_
  congr 1
  · show V c main_v9_0 _ = V c main_v9_0 _
    congr 1; funext a; fin_cases a
    · ext; show win9_0.index t 0 * 4352 + 1 * p.val = win9_2.index t 0 * 4352 + 1 * p.val; rw [h00]
    · ext; show win9_0.index t 1 * 1024 + 1 * k.val = k.val; rw [h01]; omega
  · show V c main_v0 _ = V c main_v0 _
    congr 1; funext a; fin_cases a
    · ext; show win9_1.index t 0 * 512 + 1 * q.val = win9_2.index t 1 * 512 + 1 * q.val; rw [h10]
    · ext; show win9_1.index t 1 * 1024 + 1 * k.val = k.val; rw [h11]; omega

/-- The gradient of the scan's rows. -/
theorem res9 : (dat9 V c).arrAt 2 cfg9.N = nt (V c main_v9_0) (V c main_v0) :=
  (dat9 V c).arrAt_eq_of_cover 2 _ (fun t _ => flushed9 V c t) fun i => by
    have h0 : (i 0).val < 4352 := (i 0).isLt
    have h1 : (i 1).val < 2048 := (i 1).isLt
    obtain ⟨t, e0, e1⟩ := hit9 ⟨(i 0).val / 4352, by omega⟩ ⟨(i 1).val / 512, by omega⟩
    refine ⟨t, flush9_2 t, ?_⟩
    have hi : ((cfg9.win 2).blk t).view.emb
        (ix2 (⟨(i 0).val % 4352, by omega⟩ : Fin 4352) (⟨(i 1).val % 512, by omega⟩ : Fin 512)) = i := by
      funext a; fin_cases a
      · ext; show win9_2.index t 0 * 4352 + 1 * ((i 0).val % 4352) = (i 0).val
        rw [e0]; show (i 0).val / 4352 * 4352 + _ = _; omega
      · ext; show win9_2.index t 1 * 512 + 1 * ((i 1).val % 512) = (i 1).val
        rw [e1]; show (i 1).val / 512 * 512 + _ = _; omega
    rw [← hi]
    exact Finset.mem_map_of_mem _ (Finset.mem_univ _)

/-! ## The gradient of the scan branch's weight -/

theorem pay10 (x : FVec Ideal S4352x512 .bf16) (y : FVec Ideal S4352x512 .bf16) (p : Fin 512) (q : Fin 512) :
    k10_pay1 (F := Ideal) x y (ix2 p q) = ∑ k : Fin 4352, x (ix2 k p) * y (ix2 k q) := by
  pointwise [k10_pay1]

theorem idx10 : ∀ t : Fin grid10.N,
    (win10_0.index t 0 = 0 ∧ win10_0.index t 1 = win10_2.index t 0)
    ∧ (win10_1.index t 0 = 0 ∧ win10_1.index t 1 = win10_2.index t 1) := by
  decide +kernel

theorem hit10 : ∀ (a : Fin 4) (b : Fin 2), ∃ t : Fin grid10.N,
    win10_2.index t 0 = a.val ∧ win10_2.index t 1 = b.val := by
  decide +kernel

theorem flushed10 (t : Fin cfg10.N) : (dat10 V c).flushed 2 t
    = ((cfg10.win 2).blk t).view.read (Elt Ideal) (tn (V c main_arg0) (V c main_v9_0)) := by
  show (cfg10.win 2).cut (grid10.coords t) ((dat10 V c).after 2 t) = _
  rw [after10_2]
  funext y
  obtain ⟨p, q, rfl⟩ : ∃ (p : Fin 512) (q : Fin 512), y = ix2 p q := ⟨y 0, y 1, by funext a; fin_cases a <;> rfl⟩
  show out10_2 (iblk10 V c 0 t) (iblk10 V c 1 t) (ix2 p q)
    = (tn (V c main_arg0) (V c main_v9_0)) (((cfg10.win 2).blk t).view.emb (ix2 p q))
  unfold out10_2
  rw [View.canon_unit_zero (by decide), View.ld_unit_zero (by decide), View.ld_unit_zero (by decide), pay10]
  obtain ⟨⟨h00, h01⟩, ⟨h10, h11⟩⟩ := idx10 t
  refine Finset.sum_congr rfl fun k _ => ?_
  congr 1
  · show V c main_arg0 _ = V c main_arg0 _
    congr 1; funext a; fin_cases a
    · ext; show win10_0.index t 0 * 4352 + 1 * k.val = k.val; rw [h00]; omega
    · ext; show win10_0.index t 1 * 512 + 1 * p.val = win10_2.index t 0 * 512 + 1 * p.val; rw [h01]
  · show V c main_v9_0 _ = V c main_v9_0 _
    congr 1; funext a; fin_cases a
    · ext; show win10_1.index t 0 * 4352 + 1 * k.val = k.val; rw [h10]; omega
    · ext; show win10_1.index t 1 * 512 + 1 * q.val = win10_2.index t 1 * 512 + 1 * q.val; rw [h11]

/-- The gradient of the scan branch's weight. -/
theorem res10 : (dat10 V c).arrAt 2 cfg10.N = tn (V c main_arg0) (V c main_v9_0) :=
  (dat10 V c).arrAt_eq_of_cover 2 _ (fun t _ => flushed10 V c t) fun i => by
    have h0 : (i 0).val < 2048 := (i 0).isLt
    have h1 : (i 1).val < 1024 := (i 1).isLt
    obtain ⟨t, e0, e1⟩ := hit10 ⟨(i 0).val / 512, by omega⟩ ⟨(i 1).val / 512, by omega⟩
    refine ⟨t, flush10_2 t, ?_⟩
    have hi : ((cfg10.win 2).blk t).view.emb
        (ix2 (⟨(i 0).val % 512, by omega⟩ : Fin 512) (⟨(i 1).val % 512, by omega⟩ : Fin 512)) = i := by
      funext a; fin_cases a
      · ext; show win10_2.index t 0 * 512 + 1 * ((i 0).val % 512) = (i 0).val
        rw [e0]; show (i 0).val / 512 * 512 + _ = _; omega
      · ext; show win10_2.index t 1 * 512 + 1 * ((i 1).val % 512) = (i 1).val
        rw [e1]; show (i 1).val / 512 * 512 + _ = _; omega
    rw [← hi]
    exact Finset.mem_map_of_mem _ (Finset.mem_univ _)

end Cert.Out

end
-- ==== Proof.OutValues.lean ====
/- The arrays between the calls of the merge and its products, and the eight results, from the arguments. -/
module

public import proofs.«01_k».proof.Proof.OutForward
public import proofs.«01_k».proof.Proof.OutBackward

@[expose] public section

noncomputable section

namespace Cert.Out

open Cert.Kernel4Ideal Cert.Kernel4Ideal.Gen Idealize.ShloMosaic Idealize.ShloMosaic.TcCoe Cert.Products Idealize.ShloMosaic.StableHlo

variable (m : (ℓ : Loc nD τ sig) → Buf (Elt Ideal) ℓ) (ρ : Dev nD → PrngReg) (c : Dev nD)

/-- The scan's rows. -/
abbrev yn : Mat 4352 2048 := m ((c : Thread nD τ).loc main_arg0)
/-- The pooled rows. -/
abbrev pm : Mat 4352 1024 := m ((c : Thread nD τ).loc main_arg1)
/-- The projection that holds the gates. -/
abbrev g : Mat 4352 9216 := m ((c : Thread nD τ).loc main_arg2)
/-- The scan branch's weight. -/
abbrev ws : Mat 2048 1024 := m ((c : Thread nD τ).loc main_arg3)
/-- The pooling branch's weight. -/
abbrev wp : Mat 1024 1024 := m ((c : Thread nD τ).loc main_arg4)
/-- The last weight. -/
abbrev wo : Mat 1024 1024 := m ((c : Thread nD τ).loc main_arg5)
/-- The gradient of the result. -/
abbrev d : Mat 4352 1024 := m ((c : Thread nD τ).loc main_arg6)
/-- The scan branch. -/
abbrev s : Mat 4352 1024 := nn (yn m c) (ws m c)
/-- The pooling branch. -/
abbrev p : Mat 4352 1024 := nn (pm m c) (wp m c)
/-- The merged branches. -/
abbrev mg : Mat 4352 1024 := merge (s m c) (p m c) (g m c)
/-- The gradient of the merged branches. -/
abbrev dm : Mat 4352 1024 := nt (d m c) (wo m c)

/-- The scan branch's weight, cast by the host. -/
theorem main_v0_val : W1 m ρ c (Proc.devRef .tc main_v0) = ws m c := by
  simp only [W1, hostOps0]
  after_results_simp <;> rfl

/-- The pooling branch's weight, cast by the host. -/
theorem main_v1_val : W1 m ρ c (Proc.devRef .tc main_v1) = wp m c := by
  simp only [W1, hostOps0]
  after_results_simp <;> rfl

/-- The last weight, cast by the host. -/
theorem main_v2_val : W1 m ρ c (Proc.devRef .tc main_v2) = wo m c := by
  simp only [W1, hostOps0]
  after_results_simp <;> rfl

theorem main_v3_val : W2 m ρ c (Proc.devRef .tc main_v3) = s m c := by
  refine (W2_arr m ρ c 2).trans ((res0 (V1 m ρ) c).trans ?_)
  rw [show V1 m ρ c main_arg0 = yn m c from (W1_args m ρ c main_arg0 (by decide)),
    show V1 m ρ c main_v0 = ws m c from (main_v0_val m ρ c)]

theorem main_v4_val : W3 m ρ c (Proc.devRef .tc main_v4) = p m c := by
  refine (W3_arr m ρ c 2).trans ((res1 (V2 m ρ) c).trans ?_)
  rw [show V2 m ρ c main_arg1 = pm m c from (W2_args m ρ c main_arg1 (by decide)),
    show V2 m ρ c main_v1 = wp m c from ((W2_of m ρ c main_v1 (by decide)).trans (main_v1_val m ρ c))]

theorem main_v5_val : W4 m ρ c (Proc.devRef .tc main_v5) = mg m c := by
  refine (W4_arr m ρ c 4).trans ((res2_4 (V3 m ρ) c).trans ?_)
  rw [show V3 m ρ c main_v3 = s m c from ((W3_of m ρ c main_v3 (by decide)).trans (main_v3_val m ρ c)),
    show V3 m ρ c main_v4 = p m c from (main_v4_val m ρ c),
    show V3 m ρ c main_arg2 = g m c from (W3_args m ρ c main_arg2 (by decide))]

theorem main_v6_val : W5 m ρ c (Proc.devRef .tc main_v6) = nn (mg m c) (wo m c) := by
  refine (W5_arr m ρ c 2).trans ((res3 (V4 m ρ) c).trans ?_)
  rw [show V4 m ρ c main_v5 = mg m c from (main_v5_val m ρ c),
    show V4 m ρ c main_v2 = wo m c from ((W4_of m ρ c main_v2 (by decide)).trans ((W3_of m ρ c main_v2 (by decide)).trans ((W2_of m ρ c main_v2 (by decide)).trans (main_v2_val m ρ c))))]

theorem main_v7_val : W6 m ρ c (Proc.devRef .tc main_v7) = dm m c := by
  refine (W6_arr m ρ c 2).trans ((res4 (V5 m ρ) c).trans ?_)
  rw [show V5 m ρ c main_arg6 = d m c from (W5_args m ρ c main_arg6 (by decide)),
    show V5 m ρ c main_v2 = wo m c from ((W5_of m ρ c main_v2 (by decide)).trans ((W4_of m ρ c main_v2 (by decide)).trans ((W3_of m ρ c main_v2 (by decide)).trans ((W2_of m ρ c main_v2 (by decide)).trans (main_v2_val m ρ c)))))]

theorem main_v8_val : W7 m ρ c (Proc.devRef .tc main_v8) = tn (mg m c) (d m c) := by
  refine (W7_arr m ρ c 2).trans ((res5 (V6 m ρ) c).trans ?_)
  rw [show V6 m ρ c main_v5 = mg m c from ((W6_of m ρ c main_v5 (by decide)).trans ((W5_of m ρ c main_v5 (by decide)).trans (main_v5_val m ρ c))),
    show V6 m ρ c main_arg6 = d m c from (W6_args m ρ c main_arg6 (by decide))]

theorem main_v9_0_val : W8 m ρ c (Proc.devRef .tc main_v9_0) = scanGrad (g m c) (dm m c) := by
  refine (W8_arr m ρ c 5).trans ((res6_5 (V7 m ρ) c).trans ?_)
  rw [show V7 m ρ c main_arg2 = g m c from (W7_args m ρ c main_arg2 (by decide)),
    show V7 m ρ c main_v7 = dm m c from ((W7_of m ρ c main_v7 (by decide)).trans (main_v7_val m ρ c))]

theorem main_v9_1_val : W8 m ρ c (Proc.devRef .tc main_v9_1) = poolGrad (g m c) (dm m c) := by
  refine (W8_arr m ρ c 6).trans ((res6_6 (V7 m ρ) c).trans ?_)
  rw [show V7 m ρ c main_arg2 = g m c from (W7_args m ρ c main_arg2 (by decide)),
    show V7 m ρ c main_v7 = dm m c from ((W7_of m ρ c main_v7 (by decide)).trans (main_v7_val m ρ c))]

theorem main_v9_2_val : W8 m ρ c (Proc.devRef .tc main_v9_2) = scanGateGrad (s m c) (g m c) (dm m c) := by
  refine (W8_arr m ρ c 7).trans ((res6_7 (V7 m ρ) c).trans ?_)
  rw [show V7 m ρ c main_v3 = s m c from ((W7_of m ρ c main_v3 (by decide)).trans ((W6_of m ρ c main_v3 (by decide)).trans ((W5_of m ρ c main_v3 (by decide)).trans ((W4_of m ρ c main_v3 (by decide)).trans ((W3_of m ρ c main_v3 (by decide)).trans (main_v3_val m ρ c)))))),
    show V7 m ρ c main_arg2 = g m c from (W7_args m ρ c main_arg2 (by decide)),
    show V7 m ρ c main_v7 = dm m c from ((W7_of m ρ c main_v7 (by decide)).trans (main_v7_val m ρ c))]

theorem main_v9_3_val : W8 m ρ c (Proc.devRef .tc main_v9_3) = poolGateGrad (p m c) (g m c) (dm m c) := by
  refine (W8_arr m ρ c 8).trans ((res6_8 (V7 m ρ) c).trans ?_)
  rw [show V7 m ρ c main_v4 = p m c from ((W7_of m ρ c main_v4 (by decide)).trans ((W6_of m ρ c main_v4 (by decide)).trans ((W5_of m ρ c main_v4 (by decide)).trans ((W4_of m ρ c main_v4 (by decide)).trans (main_v4_val m ρ c))))),
    show V7 m ρ c main_arg2 = g m c from (W7_args m ρ c main_arg2 (by decide)),
    show V7 m ρ c main_v7 = dm m c from ((W7_of m ρ c main_v7 (by decide)).trans (main_v7_val m ρ c))]

theorem main_v10_val : W9 m ρ c (Proc.devRef .tc main_v10) = nt (poolGrad (g m c) (dm m c)) (wp m c) := by
  refine (W9_arr m ρ c 2).trans ((res7 (V8 m ρ) c).trans ?_)
  rw [show V8 m ρ c main_v9_1 = poolGrad (g m c) (dm m c) from (main_v9_1_val m ρ c),
    show V8 m ρ c main_v1 = wp m c from ((W8_of m ρ c main_v1 (by decide)).trans ((W7_of m ρ c main_v1 (by decide)).trans ((W6_of m ρ c main_v1 (by decide)).trans ((W5_of m ρ c main_v1 (by decide)).trans ((W4_of m ρ c main_v1 (by decide)).trans ((W3_of m ρ c main_v1 (by decide)).trans ((W2_of m ρ c main_v1 (by decide)).trans (main_v1_val m ρ c))))))))]

theorem main_v11_val : W10 m ρ c (Proc.devRef .tc main_v11) = tn (pm m c) (poolGrad (g m c) (dm m c)) := by
  refine (W10_arr m ρ c 2).trans ((res8 (V9 m ρ) c).trans ?_)
  rw [show V9 m ρ c main_arg1 = pm m c from (W9_args m ρ c main_arg1 (by decide)),
    show V9 m ρ c main_v9_1 = poolGrad (g m c) (dm m c) from ((W9_of m ρ c main_v9_1 (by decide)).trans (main_v9_1_val m ρ c))]

theorem main_v12_val : W11 m ρ c (Proc.devRef .tc main_v12) = nt (scanGrad (g m c) (dm m c)) (ws m c) := by
  refine (W11_arr m ρ c 2).trans ((res9 (V10 m ρ) c).trans ?_)
  rw [show V10 m ρ c main_v9_0 = scanGrad (g m c) (dm m c) from ((W10_of m ρ c main_v9_0 (by decide)).trans ((W9_of m ρ c main_v9_0 (by decide)).trans (main_v9_0_val m ρ c))),
    show V10 m ρ c main_v0 = ws m c from ((W10_of m ρ c main_v0 (by decide)).trans ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)).trans (main_v0_val m ρ c))))))))))]

theorem main_v13_val : W12 m ρ c (Proc.devRef .tc main_v13) = tn (yn m c) (scanGrad (g m c) (dm m c)) := by
  refine (W12_arr m ρ c 2).trans ((res10 (V11 m ρ) c).trans ?_)
  rw [show V11 m ρ c main_arg0 = yn m c from (W11_args m ρ c main_arg0 (by decide)),
    show V11 m ρ c main_v9_0 = scanGrad (g m c) (dm m c) from ((W11_of m ρ c main_v9_0 (by decide)).trans ((W10_of m ρ c main_v9_0 (by decide)).trans ((W9_of m ρ c main_v9_0 (by decide)).trans (main_v9_0_val m ρ c))))]

/-! ## The eight results -/

theorem out_main_v6 : W12 m ρ c (Proc.devRef .tc main_v6) = nn (mg m c) (wo m c) :=
  ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans (main_v6_val m ρ c))))))))

theorem out_main_v12 : W12 m ρ c (Proc.devRef .tc main_v12) = nt (scanGrad (g m c) (dm m c)) (ws m c) :=
  ((W12_of m ρ c main_v12 (by decide)).trans (main_v12_val m ρ c))

theorem out_main_v10 : W12 m ρ c (Proc.devRef .tc main_v10) = nt (poolGrad (g m c) (dm m c)) (wp m c) :=
  ((W12_of m ρ c main_v10 (by decide)).trans ((W11_of m ρ c main_v10 (by decide)).trans ((W10_of m ρ c main_v10 (by decide)).trans (main_v10_val m ρ c))))

theorem out_main_v9_2 : W12 m ρ c (Proc.devRef .tc main_v9_2) = scanGateGrad (s m c) (g m c) (dm m c) :=
  ((W12_of m ρ c main_v9_2 (by decide)).trans ((W11_of m ρ c main_v9_2 (by decide)).trans ((W10_of m ρ c main_v9_2 (by decide)).trans ((W9_of m ρ c main_v9_2 (by decide)).trans (main_v9_2_val m ρ c)))))

theorem out_main_v9_3 : W12 m ρ c (Proc.devRef .tc main_v9_3) = poolGateGrad (p m c) (g m c) (dm m c) :=
  ((W12_of m ρ c main_v9_3 (by decide)).trans ((W11_of m ρ c main_v9_3 (by decide)).trans ((W10_of m ρ c main_v9_3 (by decide)).trans ((W9_of m ρ c main_v9_3 (by decide)).trans (main_v9_3_val m ρ c)))))

theorem out_main_v13 : W12 m ρ c (Proc.devRef .tc main_v13) = tn (yn m c) (scanGrad (g m c) (dm m c)) :=
  (main_v13_val m ρ c)

theorem out_main_v11 : W12 m ρ c (Proc.devRef .tc main_v11) = tn (pm m c) (poolGrad (g m c) (dm m c)) :=
  ((W12_of m ρ c main_v11 (by decide)).trans ((W11_of m ρ c main_v11 (by decide)).trans (main_v11_val m ρ c)))

theorem out_main_v8 : W12 m ρ c (Proc.devRef .tc main_v8) = tn (mg m c) (d m c) :=
  ((W12_of m ρ c main_v8 (by decide)).trans ((W11_of m ρ c main_v8 (by decide)).trans ((W10_of m ρ c main_v8 (by decide)).trans ((W9_of m ρ c main_v8 (by decide)).trans ((W8_of m ρ c main_v8 (by decide)).trans (main_v8_val m ρ c))))))

end Cert.Out

end
-- ==== Proof.OutReference.lean ====
/- What the reference of the merge and its products computes: its result and its seven gradients. -/
module

public import proofs.«01_k».proof.Proof.Gen.Reference4Ideal.Read
public import proofs.«01_k».proof.Proof.OutModel

@[expose] public section

noncomputable section

namespace Cert.Out

open Cert.Reference4Ideal Cert.Reference4Ideal.Gen Cert.Reference4Ideal.Read Idealize.ShloMosaic Idealize.ShloMosaic.TcCoe Cert.Products

variable (x0 : Mat 4352 2048) (x1 : Mat 4352 1024) (x2 : Mat 4352 9216) (x3 : Mat 2048 1024) (x4 x5 : Mat 1024 1024)
  (x6 : Mat 4352 1024)

/-- The scan branch. -/
theorem ref_v4 : val_main_v4 (F := Ideal) x0 x3 = nn x0 x3 := by
  funext i
  obtain ⟨p, q, rfl⟩ : ∃ (p : Fin 4352) (q : Fin 1024), i = ix2 p q := ⟨i 0, i 1, by funext a; fin_cases a <;> rfl⟩
  pointwise [val_main_v4, val_main_v2]
  rfl

/-- The pooling branch. -/
theorem ref_v5 : val_main_v5 (F := Ideal) x1 x4 = nn x1 x4 := by
  funext i
  obtain ⟨p, q, rfl⟩ : ∃ (p : Fin 4352) (q : Fin 1024), i = ix2 p q := ⟨i 0, i 1, by funext a; fin_cases a <;> rfl⟩
  pointwise [val_main_v5, val_main_v3]
  rfl

/-- The sigmoid of both gates, side by side. -/
theorem ref_sigma (p : Fin 4352) (q : Fin 2048) : val_main_v11 (F := Ideal) x2 (ix2 p q)
    = Ideal.logistic (x2 (ix2 p ⟨6144 + q.val, by omega⟩)) := by
  pointwise [val_main_v11, val_main_v10, val_main_cst_0, val_main_v9, val_main_v8, val_main_cst, val_main_v7, val_main_v6, val_main_v1, val_main_v0]
  rfl

/-- The scan branch's gate. -/
theorem ref_v15 (p : Fin 4352) (q : Fin 1024) : val_main_v15 (F := Ideal) x2 (ix2 p q) = scanGate x2 p q := by
  pointwise [val_main_v15]
  exact ref_sigma x2 p _

/-- The right half of the sigmoid is the pooling branch's gate. -/
theorem ref_right (p : Fin 4352) (q : Fin 1024) : val_main_v11 (F := Ideal) x2 (ix2 p ⟨1024 + q.val, by omega⟩) = poolGate x2 p q := by
  refine (ref_sigma x2 p _).trans (congrArg (fun j => Ideal.logistic (x2 (ix2 p j))) ?_)
  ext; show 6144 + (1024 + q.val) = 7168 + q.val; omega

/-- The pooling branch's gate. -/
theorem ref_v16 (p : Fin 4352) (q : Fin 1024) : val_main_v16 (F := Ideal) x2 (ix2 p q) = poolGate x2 p q := by
  pointwise [val_main_v16]
  exact ref_right x2 p q

/-- The merged branches. -/
theorem ref_v19 : val_main_v19 (F := Ideal) x0 x1 x2 x3 x4 = merge (nn x0 x3) (nn x1 x4) x2 := by
  funext i
  obtain ⟨p, q, rfl⟩ : ∃ (p : Fin 4352) (q : Fin 1024), i = ix2 p q := ⟨i 0, i 1, by funext a; fin_cases a <;> rfl⟩
  pointwise [val_main_v19, val_main_v17, val_main_v18]
  rw [ref_v15, ref_v16, ref_v4, ref_v5]
  rfl

/-- The result. -/
theorem ref_v20 : val_main_v20 (F := Ideal) x0 x1 x2 x3 x4 x5 = nn (merge (nn x0 x3) (nn x1 x4) x2) x5 := by
  funext i
  obtain ⟨p, q, rfl⟩ : ∃ (p : Fin 4352) (q : Fin 1024), i = ix2 p q := ⟨i 0, i 1, by funext a; fin_cases a <;> rfl⟩
  pointwise [val_main_v20]
  rw [ref_v19]
  rfl

/-- The gradient of the last weight. -/
theorem ref_v23 : val_main_v23 (F := Ideal) x0 x1 x2 x3 x4 x6 = tn (merge (nn x0 x3) (nn x1 x4) x2) x6 := by
  funext i
  obtain ⟨p, q, rfl⟩ : ∃ (p : Fin 1024) (q : Fin 1024), i = ix2 p q := ⟨i 0, i 1, by funext a; fin_cases a <;> rfl⟩
  pointwise [val_main_v23, val_main_v22, val_main_v21]
  rw [ref_v19]
  exact Finset.sum_congr rfl fun k _ => mul_comm _ _

/-- The gradient of the merged branches. -/
theorem ref_v24 : val_main_v24 (F := Ideal) x5 x6 = nt x6 x5 := by
  funext i
  obtain ⟨p, q, rfl⟩ : ∃ (p : Fin 4352) (q : Fin 1024), i = ix2 p q := ⟨i 0, i 1, by funext a; fin_cases a <;> rfl⟩
  pointwise [val_main_v24, val_main_v21]
  rfl

/-- The gradient of the pooling branch. -/
theorem ref_v25 : val_main_v25 (F := Ideal) x2 x5 x6 = poolGrad x2 (nt x6 x5) := by
  funext i
  obtain ⟨p, q, rfl⟩ : ∃ (p : Fin 4352) (q : Fin 1024), i = ix2 p q := ⟨i 0, i 1, by funext a; fin_cases a <;> rfl⟩
  pointwise [val_main_v25]
  rw [ref_v16, ref_v24]
  rfl

/-- The gradient of the scan branch. -/
theorem ref_v27 : val_main_v27 (F := Ideal) x2 x5 x6 = scanGrad x2 (nt x6 x5) := by
  funext i
  obtain ⟨p, q, rfl⟩ : ∃ (p : Fin 4352) (q : Fin 1024), i = ix2 p q := ⟨i 0, i 1, by funext a; fin_cases a <;> rfl⟩
  pointwise [val_main_v27]
  rw [ref_v15, ref_v24]
  rfl

/-- The gradient of the pooling branch's weight. -/
theorem ref_v32 : val_main_v32 (F := Ideal) x1 x2 x5 x6 = tn x1 (poolGrad x2 (nt x6 x5)) := by
  funext i
  obtain ⟨p, q, rfl⟩ : ∃ (p : Fin 1024) (q : Fin 1024), i = ix2 p q := ⟨i 0, i 1, by funext a; fin_cases a <;> rfl⟩
  pointwise [val_main_v32, val_main_v31, val_main_v3]
  rw [ref_v25]
  exact Finset.sum_congr rfl fun k _ => mul_comm _ _

/-- The gradient of the pooled rows. -/
theorem ref_v33 : val_main_v33 (F := Ideal) x2 x4 x5 x6 = nt (poolGrad x2 (nt x6 x5)) x4 := by
  funext i
  obtain ⟨p, q, rfl⟩ : ∃ (p : Fin 4352) (q : Fin 1024), i = ix2 p q := ⟨i 0, i 1, by funext a; fin_cases a <;> rfl⟩
  pointwise [val_main_v33]
  rw [ref_v25]
  rfl

/-- The gradient of the scan branch's weight. -/
theorem ref_v35 : val_main_v35 (F := Ideal) x0 x2 x5 x6 = tn x0 (scanGrad x2 (nt x6 x5)) := by
  funext i
  obtain ⟨p, q, rfl⟩ : ∃ (p : Fin 2048) (q : Fin 1024), i = ix2 p q := ⟨i 0, i 1, by funext a; fin_cases a <;> rfl⟩
  pointwise [val_main_v35, val_main_v34, val_main_v2]
  rw [ref_v27]
  exact Finset.sum_congr rfl fun k _ => mul_comm _ _

/-- The gradient of the scan's rows. -/
theorem ref_v36 : val_main_v36 (F := Ideal) x2 x3 x5 x6 = nt (scanGrad x2 (nt x6 x5)) x3 := by
  funext i
  obtain ⟨p, q, rfl⟩ : ∃ (p : Fin 4352) (q : Fin 2048), i = ix2 p q := ⟨i 0, i 1, by funext a; fin_cases a <;> rfl⟩
  pointwise [val_main_v36]
  rw [ref_v27]
  rfl

/-- The sigmoid's derivative. -/
theorem ref_v14 (p : Fin 4352) (q : Fin 2048) : val_main_v14 (F := Ideal) x2 (ix2 p q)
    = val_main_v11 (F := Ideal) x2 (ix2 p q) * (1 - val_main_v11 (F := Ideal) x2 (ix2 p q)) := by
  pointwise [val_main_v14, val_main_v13, val_main_v12, val_main_cst_1]

/-- The gradient of the scan branch's gate before its sigmoid. -/
theorem ref_v38 : val_main_v38 (F := Ideal) x0 x1 x2 x3 x4 x5 x6 = scanGateGrad (nn x0 x3) x2 (nt x6 x5) := by
  funext i
  obtain ⟨p, q, rfl⟩ : ∃ (p : Fin 4352) (q : Fin 1024), i = ix2 p q := ⟨i 0, i 1, by funext a; fin_cases a <;> rfl⟩
  pointwise [val_main_v38, val_main_v37, val_main_v30, val_main_v29]
  refine (congrArg _ (ref_v14 x2 p _)).trans ?_
  pointwise [val_main_v28]
  rw [ref_v4, ref_v24, ref_sigma]
  rfl

/-- The gradient of the pooling branch's gate before its sigmoid. -/
theorem ref_v40 : val_main_v40 (F := Ideal) x0 x1 x2 x3 x4 x5 x6 = poolGateGrad (nn x1 x4) x2 (nt x6 x5) := by
  funext i
  obtain ⟨p, q, rfl⟩ : ∃ (p : Fin 4352) (q : Fin 1024), i = ix2 p q := ⟨i 0, i 1, by funext a; fin_cases a <;> rfl⟩
  pointwise [val_main_v40, val_main_v39, val_main_v30, val_main_v29]
  refine (congrArg _ (ref_v14 x2 p _)).trans ?_
  pointwise [val_main_v26]
  rw [ref_v5, ref_v24, ref_right]
  rfl

end Cert.Out

end
-- ==== Proof.FwdRun.lean ====
/- Every buffer of the program at its end. -/
module

public import proofs.«01_k».proof.Proof.Gen.Kernel5Ideal.Frame

@[expose] public section

noncomputable section

namespace Cert.Fwd

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends, and every buffer outside the calls' scratch then holds what the
    fold of the calls and of the host's operations (`W9`) leaves in it. -/
theorem run : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ c b hb => h c _ (mem_uc b hb))

end Cert.Fwd

end
-- ==== Proof.FwdModel.lean ====
/- The parts of the projection, and where the kernel has them. -/
module

public import proofs.«01_k».proof.Proof.InModel

@[expose] public section

noncomputable section

namespace Cert.Fwd

open Idealize.ShloMosaic Cert.Products Cert.In

/-- The columns `f k` of a matrix. -/
def pick {r c n : ℕ} (f : Fin n → Fin c) (w : Mat r c) : Mat r n := fun i => w (ix2 (i 0) (f (i 1)))

/-- The columns of the projection that feed both branches' gates. -/
def cgates (k : Fin 2048) : Fin 9280 := ⟨7232 + k.val, by omega⟩

/-- The kernel's columns but those of the step sizes. -/
def most (k : Fin 9216) : Fin 9728 := ⟨k.val, by omega⟩

/-- The kernel's columns of the step sizes, with 64 columns of zeros. -/
def steps (k : Fin 128) : Fin 9728 := ⟨9216 + k.val, by omega⟩

variable {h : Mat 4352 1024} {w : Mat 1024 9280} {w' : Mat 1024 9728}

/-- A column of the product is the product with the column. -/
theorem nn_col {j : Fin 9728} {j' : Fin 9280} (e : ∀ c, w' (ix2 c j) = w (ix2 c j')) (r : Fin 4352) :
    nn h w' (ix2 r j) = nn h w (ix2 r j') :=
  Finset.sum_congr rfl fun c _ => congrArg (h (ix2 r c) * ·) (e c)

/-- The columns of the scan's gate. -/
theorem col_z (e : Arranged w w') (r : Fin 4352) (k : Fin 2048) :
    nn h w' (ix2 r ⟨4096 + k.val, by omega⟩) = nn h w (ix2 r (cz k)) := nn_col (fun c => e.z c k) r

/-- The columns of the convolution's input. -/
theorem col_x (e : Arranged w w') (r : Fin 4352) (k : Fin 4096) :
    nn h w' (ix2 r ⟨(dst k).val, by omega⟩) = nn h w (ix2 r (cx k)) :=
  nn_col (fun c => (congrArg (fun j => w' (ix2 c j)) (Fin.ext (Nat.zero_add _).symm)).trans
    ((e.x c (dst k)).trans (congrArg (fun j => w (ix2 c (cx j))) (src_dst k)))) r

/-- The columns of the step sizes. -/
theorem col_t (e : Arranged w w') (r : Fin 4352) (k : Fin 64) :
    nn h w' (ix2 r ⟨9216 + k.val, by omega⟩) = nn h w (ix2 r (ct k)) := nn_col (fun c => e.t c k) r

/-- The columns of the pooling. -/
theorem col_p (e : Arranged w w') (r : Fin 4352) (k : Fin 1024) :
    nn h w' (ix2 r ⟨8192 + k.val, by omega⟩) = nn h w (ix2 r (cp k)) := nn_col (fun c => e.p c k) r

/-- The columns of the gates. -/
theorem col_g (e : Arranged w w') (r : Fin 4352) (k : Fin 2048) :
    nn h w' (ix2 r ⟨6144 + k.val, by omega⟩) = nn h w (ix2 r (cgates k)) := by
  by_cases hk : k.val < 1024
  · exact nn_col (fun c => e.s c ⟨k.val, hk⟩) r
  · refine nn_col (fun c => ?_) r
    refine (congrArg (fun j => w' (ix2 c j)) (Fin.ext ?_)).trans
      ((e.g c ⟨k.val - 1024, by omega⟩).trans (congrArg (fun j => w (ix2 c j)) (Fin.ext ?_)))
    · (try dsimp only [col]) <;> omega
    · (try dsimp only [cg, cgates]) <;> omega

end Cert.Fwd

end
-- ==== Proof.FwdCalls.lean ====
/- What the calls leave in their arrays: each is a product. -/
module

public import proofs.«01_k».proof.Proof.Gen.Kernel5Ideal.Frame
public import proofs.«01_k».proof.Proof.FwdModel

@[expose] public section

noncomputable section

namespace Cert.Fwd

open Cert.Kernel5Ideal Cert.Kernel5Ideal.Gen Idealize.ShloMosaic Idealize.ShloMosaic.TcCoe Cert.Products Cert.Fwd

variable (V : (c : Dev nD) → (b : Ref sig .tc) → Buf (Elt Ideal) ((c : Thread nD τ).loc b)) (c : Dev nD)

/-! ## The projection but the step sizes -/

theorem pay0 (x : FVec Ideal S4352x1024 .bf16) (y : FVec Ideal S1024x512 .bf16) (p : Fin 4352) (q : Fin 512) :
    k0_pay1 (F := Ideal) x y (ix2 p q) = ∑ k : Fin 1024, x (ix2 p k) * y (ix2 k q) := by
  pointwise [k0_pay1]

theorem idx0 : ∀ t : Fin grid0.N,
    (win0_0.index t 0 = win0_2.index t 0 ∧ win0_0.index t 1 = 0)
    ∧ (win0_1.index t 0 = 0 ∧ win0_1.index t 1 = win0_2.index t 1) := by
  decide +kernel

theorem hit0 : ∀ (a : Fin 1) (b : Fin 18), ∃ t : Fin grid0.N,
    win0_2.index t 0 = a.val ∧ win0_2.index t 1 = b.val := by
  decide +kernel

theorem flushed0 (t : Fin cfg0.N) : (dat0 V c).flushed 2 t
    = ((cfg0.win 2).blk t).view.read (Elt Ideal) (nn (V c main_arg0) (pick most (V c main_v15))) := by
  show (cfg0.win 2).cut (grid0.coords t) ((dat0 V c).after 2 t) = _
  rw [after0_2]
  funext y
  obtain ⟨p, q, rfl⟩ : ∃ (p : Fin 4352) (q : Fin 512), y = ix2 p q := ⟨y 0, y 1, by funext a; fin_cases a <;> rfl⟩
  show out0_2 (iblk0 V c 0 t) (iblk0 V c 1 t) (ix2 p q)
    = (nn (V c main_arg0) (pick most (V c main_v15))) (((cfg0.win 2).blk t).view.emb (ix2 p q))
  unfold out0_2
  rw [View.canon_unit_zero (by decide), View.ld_unit_zero (by decide), View.ld_unit_zero (by decide), pay0]
  obtain ⟨⟨h00, h01⟩, ⟨h10, h11⟩⟩ := idx0 t
  refine Finset.sum_congr rfl fun k _ => ?_
  congr 1
  · show V c main_arg0 _ = V c main_arg0 _
    congr 1; funext a; fin_cases a
    · ext; show win0_0.index t 0 * 4352 + 1 * p.val = win0_2.index t 0 * 4352 + 1 * p.val; rw [h00]
    · ext; show win0_0.index t 1 * 1024 + 1 * k.val = k.val; rw [h01]; omega
  · show V c main_v15 _ = V c main_v15 _
    congr 1; funext a; fin_cases a
    · ext; show win0_1.index t 0 * 1024 + 1 * k.val = k.val; rw [h10]; omega
    · ext; show win0_1.index t 1 * 512 + 1 * q.val = win0_2.index t 1 * 512 + 1 * q.val; rw [h11]

/-- The projection but the step sizes. -/
theorem res0 : (dat0 V c).arrAt 2 cfg0.N = nn (V c main_arg0) (pick most (V c main_v15)) :=
  (dat0 V c).arrAt_eq_of_cover 2 _ (fun t _ => flushed0 V c t) fun i => by
    have h0 : (i 0).val < 4352 := (i 0).isLt
    have h1 : (i 1).val < 9216 := (i 1).isLt
    obtain ⟨t, e0, e1⟩ := hit0 ⟨(i 0).val / 4352, by omega⟩ ⟨(i 1).val / 512, by omega⟩
    refine ⟨t, flush0_2 t, ?_⟩
    have hi : ((cfg0.win 2).blk t).view.emb
        (ix2 (⟨(i 0).val % 4352, by omega⟩ : Fin 4352) (⟨(i 1).val % 512, by omega⟩ : Fin 512)) = i := by
      funext a; fin_cases a
      · ext; show win0_2.index t 0 * 4352 + 1 * ((i 0).val % 4352) = (i 0).val
        rw [e0]; show (i 0).val / 4352 * 4352 + _ = _; omega
      · ext; show win0_2.index t 1 * 512 + 1 * ((i 1).val % 512) = (i 1).val
        rw [e1]; show (i 1).val / 512 * 512 + _ = _; omega
    rw [← hi]
    exact Finset.mem_map_of_mem _ (Finset.mem_univ _)

/-! ## The step sizes' projection -/

theorem pay1 (x : FVec Ideal S4352x1024 .bf16) (y : FVec Ideal S1024x128 .bf16) (p : Fin 4352) (q : Fin 128) :
    k1_pay1 (F := Ideal) x y (ix2 p q) = ∑ k : Fin 1024, x (ix2 p k) * y (ix2 k q) := by
  pointwise [k1_pay1]

theorem idx1 : ∀ t : Fin grid1.N,
    (win1_0.index t 0 = win1_2.index t 0 ∧ win1_0.index t 1 = 0)
    ∧ (win1_1.index t 0 = 0 ∧ win1_1.index t 1 = win1_2.index t 1 + 72) := by
  decide +kernel

theorem hit1 : ∀ (a : Fin 1) (b : Fin 1), ∃ t : Fin grid1.N,
    win1_2.index t 0 = a.val ∧ win1_2.index t 1 = b.val := by
  decide +kernel

theorem flushed1 (t : Fin cfg1.N) : (dat1 V c).flushed 2 t
    = ((cfg1.win 2).blk t).view.read (Elt Ideal) (nn (V c main_arg0) (pick steps (V c main_v15))) := by
  show (cfg1.win 2).cut (grid1.coords t) ((dat1 V c).after 2 t) = _
  rw [after1_2]
  funext y
  obtain ⟨p, q, rfl⟩ : ∃ (p : Fin 4352) (q : Fin 128), y = ix2 p q := ⟨y 0, y 1, by funext a; fin_cases a <;> rfl⟩
  show out1_2 (iblk1 V c 0 t) (iblk1 V c 1 t) (ix2 p q)
    = (nn (V c main_arg0) (pick steps (V c main_v15))) (((cfg1.win 2).blk t).view.emb (ix2 p q))
  unfold out1_2
  rw [View.canon_unit_zero (by decide), View.ld_unit_zero (by decide), View.ld_unit_zero (by decide), pay1]
  obtain ⟨⟨h00, h01⟩, ⟨h10, h11⟩⟩ := idx1 t
  refine Finset.sum_congr rfl fun k _ => ?_
  congr 1
  · show V c main_arg0 _ = V c main_arg0 _
    congr 1; funext a; fin_cases a
    · ext; show win1_0.index t 0 * 4352 + 1 * p.val = win1_2.index t 0 * 4352 + 1 * p.val; rw [h00]
    · ext; show win1_0.index t 1 * 1024 + 1 * k.val = k.val; rw [h01]; omega
  · show V c main_v15 _ = V c main_v15 _
    congr 1; funext a; fin_cases a
    · ext; show win1_1.index t 0 * 1024 + 1 * k.val = k.val; rw [h10]; omega
    · ext; show win1_1.index t 1 * 128 + 1 * q.val = 9216 + (win1_2.index t 1 * 128 + 1 * q.val); rw [h11]; omega

/-- The step sizes' projection. -/
theorem res1 : (dat1 V c).arrAt 2 cfg1.N = nn (V c main_arg0) (pick steps (V c main_v15)) :=
  (dat1 V c).arrAt_eq_of_cover 2 _ (fun t _ => flushed1 V c t) fun i => by
    have h0 : (i 0).val < 4352 := (i 0).isLt
    have h1 : (i 1).val < 128 := (i 1).isLt
    obtain ⟨t, e0, e1⟩ := hit1 ⟨(i 0).val / 4352, by omega⟩ ⟨(i 1).val / 128, by omega⟩
    refine ⟨t, flush1_2 t, ?_⟩
    have hi : ((cfg1.win 2).blk t).view.emb
        (ix2 (⟨(i 0).val % 4352, by omega⟩ : Fin 4352) (⟨(i 1).val % 128, by omega⟩ : Fin 128)) = i := by
      funext a; fin_cases a
      · ext; show win1_2.index t 0 * 4352 + 1 * ((i 0).val % 4352) = (i 0).val
        rw [e0]; show (i 0).val / 4352 * 4352 + _ = _; omega
      · ext; show win1_2.index t 1 * 128 + 1 * ((i 1).val % 128) = (i 1).val
        rw [e1]; show (i 1).val / 128 * 128 + _ = _; omega
    rw [← hi]
    exact Finset.mem_map_of_mem _ (Finset.mem_univ _)

/-! ## The scan branch's projection -/

theorem pay2 (x : FVec Ideal S2176x2048 .bf16) (y : FVec Ideal S2048x512 .bf16) (p : Fin 2176) (q : Fin 512) :
    k2_pay1 (F := Ideal) x y (ix2 p q) = ∑ k : Fin 2048, x (ix2 p k) * y (ix2 k q) := by
  pointwise [k2_pay1]

theorem idx2 : ∀ t : Fin grid2.N,
    (win2_0.index t 0 = win2_2.index t 0 ∧ win2_0.index t 1 = 0)
    ∧ (win2_1.index t 0 = 0 ∧ win2_1.index t 1 = win2_2.index t 1) := by
  decide +kernel

theorem hit2 : ∀ (a : Fin 2) (b : Fin 2), ∃ t : Fin grid2.N,
    win2_2.index t 0 = a.val ∧ win2_2.index t 1 = b.val := by
  decide +kernel

theorem flushed2 (t : Fin cfg2.N) : (dat2 V c).flushed 2 t
    = ((cfg2.win 2).blk t).view.read (Elt Ideal) (nn (V c main_arg2) (V c main_v18)) := by
  show (cfg2.win 2).cut (grid2.coords t) ((dat2 V c).after 2 t) = _
  rw [after2_2]
  funext y
  obtain ⟨p, q, rfl⟩ : ∃ (p : Fin 2176) (q : Fin 512), y = ix2 p q := ⟨y 0, y 1, by funext a; fin_cases a <;> rfl⟩
  show out2_2 (iblk2 V c 0 t) (iblk2 V c 1 t) (ix2 p q)
    = (nn (V c main_arg2) (V c main_v18)) (((cfg2.win 2).blk t).view.emb (ix2 p q))
  unfold out2_2
  rw [View.canon_unit_zero (by decide), View.ld_unit_zero (by decide), View.ld_unit_zero (by decide), pay2]
  obtain ⟨⟨h00, h01⟩, ⟨h10, h11⟩⟩ := idx2 t
  refine Finset.sum_congr rfl fun k _ => ?_
  congr 1
  · show V c main_arg2 _ = V c main_arg2 _
    congr 1; funext a; fin_cases a
    · ext; show win2_0.index t 0 * 2176 + 1 * p.val = win2_2.index t 0 * 2176 + 1 * p.val; rw [h00]
    · ext; show win2_0.index t 1 * 2048 + 1 * k.val = k.val; rw [h01]; omega
  · show V c main_v18 _ = V c main_v18 _
    congr 1; funext a; fin_cases a
    · ext; show win2_1.index t 0 * 2048 + 1 * k.val = k.val; rw [h10]; omega
    · ext; show win2_1.index t 1 * 512 + 1 * q.val = win2_2.index t 1 * 512 + 1 * q.val; rw [h11]

/-- The scan branch's projection. -/
theorem res2 : (dat2 V c).arrAt 2 cfg2.N = nn (V c main_arg2) (V c main_v18) :=
  (dat2 V c).arrAt_eq_of_cover 2 _ (fun t _ => flushed2 V c t) fun i => by
    have h0 : (i 0).val < 4352 := (i 0).isLt
    have h1 : (i 1).val < 1024 := (i 1).isLt
    obtain ⟨t, e0, e1⟩ := hit2 ⟨(i 0).val / 2176, by omega⟩ ⟨(i 1).val / 512, by omega⟩
    refine ⟨t, flush2_2 t, ?_⟩
    have hi : ((cfg2.win 2).blk t).view.emb
        (ix2 (⟨(i 0).val % 2176, by omega⟩ : Fin 2176) (⟨(i 1).val % 512, by omega⟩ : Fin 512)) = i := by
      funext a; fin_cases a
      · ext; show win2_2.index t 0 * 2176 + 1 * ((i 0).val % 2176) = (i 0).val
        rw [e0]; show (i 0).val / 2176 * 2176 + _ = _; omega
      · ext; show win2_2.index t 1 * 512 + 1 * ((i 1).val % 512) = (i 1).val
        rw [e1]; show (i 1).val / 512 * 512 + _ = _; omega
    rw [← hi]
    exact Finset.mem_map_of_mem _ (Finset.mem_univ _)

/-! ## The feed-forward's second product -/

theorem pay3 (x : FVec Ideal S2176x2816 .bf16) (y : FVec Ideal S2816x512 .bf16) (p : Fin 2176) (q : Fin 512) :
    k3_pay1 (F := Ideal) x y (ix2 p q) = ∑ k : Fin 2816, x (ix2 p k) * y (ix2 k q) := by
  pointwise [k3_pay1]

theorem idx3 : ∀ t : Fin grid3.N,
    (win3_0.index t 0 = win3_2.index t 0 ∧ win3_0.index t 1 = 0)
    ∧ (win3_1.index t 0 = 0 ∧ win3_1.index t 1 = win3_2.index t 1) := by
  decide +kernel

theorem hit3 : ∀ (a : Fin 2) (b : Fin 2), ∃ t : Fin grid3.N,
    win3_2.index t 0 = a.val ∧ win3_2.index t 1 = b.val := by
  decide +kernel

theorem flushed3 (t : Fin cfg3.N) : (dat3 V c).flushed 2 t
    = ((cfg3.win 2).blk t).view.read (Elt Ideal) (nn (V c main_arg4) (V c main_v20)) := by
  show (cfg3.win 2).cut (grid3.coords t) ((dat3 V c).after 2 t) = _
  rw [after3_2]
  funext y
  obtain ⟨p, q, rfl⟩ : ∃ (p : Fin 2176) (q : Fin 512), y = ix2 p q := ⟨y 0, y 1, by funext a; fin_cases a <;> rfl⟩
  show out3_2 (iblk3 V c 0 t) (iblk3 V c 1 t) (ix2 p q)
    = (nn (V c main_arg4) (V c main_v20)) (((cfg3.win 2).blk t).view.emb (ix2 p q))
  unfold out3_2
  rw [View.canon_unit_zero (by decide), View.ld_unit_zero (by decide), View.ld_unit_zero (by decide), pay3]
  obtain ⟨⟨h00, h01⟩, ⟨h10, h11⟩⟩ := idx3 t
  refine Finset.sum_congr rfl fun k _ => ?_
  congr 1
  · show V c main_arg4 _ = V c main_arg4 _
    congr 1; funext a; fin_cases a
    · ext; show win3_0.index t 0 * 2176 + 1 * p.val = win3_2.index t 0 * 2176 + 1 * p.val; rw [h00]
    · ext; show win3_0.index t 1 * 2816 + 1 * k.val = k.val; rw [h01]; omega
  · show V c main_v20 _ = V c main_v20 _
    congr 1; funext a; fin_cases a
    · ext; show win3_1.index t 0 * 2816 + 1 * k.val = k.val; rw [h10]; omega
    · ext; show win3_1.index t 1 * 512 + 1 * q.val = win3_2.index t 1 * 512 + 1 * q.val; rw [h11]

/-- The feed-forward's second product. -/
theorem res3 : (dat3 V c).arrAt 2 cfg3.N = nn (V c main_arg4) (V c main_v20) :=
  (dat3 V c).arrAt_eq_of_cover 2 _ (fun t _ => flushed3 V c t) fun i => by
    have h0 : (i 0).val < 4352 := (i 0).isLt
    have h1 : (i 1).val < 1024 := (i 1).isLt
    obtain ⟨t, e0, e1⟩ := hit3 ⟨(i 0).val / 2176, by omega⟩ ⟨(i 1).val / 512, by omega⟩
    refine ⟨t, flush3_2 t, ?_⟩
    have hi : ((cfg3.win 2).blk t).view.emb
        (ix2 (⟨(i 0).val % 2176, by omega⟩ : Fin 2176) (⟨(i 1).val % 512, by omega⟩ : Fin 512)) = i := by
      funext a; fin_cases a
      · ext; show win3_2.index t 0 * 2176 + 1 * ((i 0).val % 2176) = (i 0).val
        rw [e0]; show (i 0).val / 2176 * 2176 + _ = _; omega
      · ext; show win3_2.index t 1 * 512 + 1 * ((i 1).val % 512) = (i 1).val
        rw [e1]; show (i 1).val / 512 * 512 + _ = _; omega
    rw [← hi]
    exact Finset.mem_map_of_mem _ (Finset.mem_univ _)

/-! ## The gradient of its weight -/

theorem pay4 (x : FVec Ideal S4352x256 .bf16) (y : FVec Ideal S4352x512 .bf16) (p : Fin 256) (q : Fin 512) :
    k4_pay1 (F := Ideal) x y (ix2 p q) = ∑ k : Fin 4352, x (ix2 k p) * y (ix2 k q) := by
  pointwise [k4_pay1]

theorem idx4 : ∀ t : Fin grid4.N,
    (win4_0.index t 0 = 0 ∧ win4_0.index t 1 = win4_2.index t 0)
    ∧ (win4_1.index t 0 = 0 ∧ win4_1.index t 1 = win4_2.index t 1) := by
  decide +kernel

theorem hit4 : ∀ (a : Fin 11) (b : Fin 2), ∃ t : Fin grid4.N,
    win4_2.index t 0 = a.val ∧ win4_2.index t 1 = b.val := by
  decide +kernel

theorem flushed4 (t : Fin cfg4.N) : (dat4 V c).flushed 2 t
    = ((cfg4.win 2).blk t).view.read (Elt Ideal) (tn (V c main_arg4) (V c main_arg6)) := by
  show (cfg4.win 2).cut (grid4.coords t) ((dat4 V c).after 2 t) = _
  rw [after4_2]
  funext y
  obtain ⟨p, q, rfl⟩ : ∃ (p : Fin 256) (q : Fin 512), y = ix2 p q := ⟨y 0, y 1, by funext a; fin_cases a <;> rfl⟩
  show out4_2 (iblk4 V c 0 t) (iblk4 V c 1 t) (ix2 p q)
    = (tn (V c main_arg4) (V c main_arg6)) (((cfg4.win 2).blk t).view.emb (ix2 p q))
  unfold out4_2
  rw [View.canon_unit_zero (by decide), View.ld_unit_zero (by decide), View.ld_unit_zero (by decide), pay4]
  obtain ⟨⟨h00, h01⟩, ⟨h10, h11⟩⟩ := idx4 t
  refine Finset.sum_congr rfl fun k _ => ?_
  congr 1
  · show V c main_arg4 _ = V c main_arg4 _
    congr 1; funext a; fin_cases a
    · ext; show win4_0.index t 0 * 4352 + 1 * k.val = k.val; rw [h00]; omega
    · ext; show win4_0.index t 1 * 256 + 1 * p.val = win4_2.index t 0 * 256 + 1 * p.val; rw [h01]
  · show V c main_arg6 _ = V c main_arg6 _
    congr 1; funext a; fin_cases a
    · ext; show win4_1.index t 0 * 4352 + 1 * k.val = k.val; rw [h10]; omega
    · ext; show win4_1.index t 1 * 512 + 1 * q.val = win4_2.index t 1 * 512 + 1 * q.val; rw [h11]

/-- The gradient of its weight. -/
theorem res4 : (dat4 V c).arrAt 2 cfg4.N = tn (V c main_arg4) (V c main_arg6) :=
  (dat4 V c).arrAt_eq_of_cover 2 _ (fun t _ => flushed4 V c t) fun i => by
    have h0 : (i 0).val < 2816 := (i 0).isLt
    have h1 : (i 1).val < 1024 := (i 1).isLt
    obtain ⟨t, e0, e1⟩ := hit4 ⟨(i 0).val / 256, by omega⟩ ⟨(i 1).val / 512, by omega⟩
    refine ⟨t, flush4_2 t, ?_⟩
    have hi : ((cfg4.win 2).blk t).view.emb
        (ix2 (⟨(i 0).val % 256, by omega⟩ : Fin 256) (⟨(i 1).val % 512, by omega⟩ : Fin 512)) = i := by
      funext a; fin_cases a
      · ext; show win4_2.index t 0 * 256 + 1 * ((i 0).val % 256) = (i 0).val
        rw [e0]; show (i 0).val / 256 * 256 + _ = _; omega
      · ext; show win4_2.index t 1 * 512 + 1 * ((i 1).val % 512) = (i 1).val
        rw [e1]; show (i 1).val / 512 * 512 + _ = _; omega
    rw [← hi]
    exact Finset.mem_map_of_mem _ (Finset.mem_univ _)

end Cert.Fwd

end
-- ==== Proof.FwdHost.lean ====
/- The convolution's columns, put back by the host into the order of the step. -/
module

public import proofs.«01_k».proof.Proof.Gen.Kernel5Ideal
public import proofs.«01_k».proof.Proof.FwdModel

@[expose] public section

noncomputable section

namespace Cert.Fwd

open Cert.Kernel5Ideal Cert.Kernel5Ideal.Gen Idealize.ShloMosaic Idealize.ShloMosaic.TcCoe Cert.Products Cert.In

/-- The convolution's columns in the order of the step: by groups of 512 first the 256 of the input, then the 128 of each of the
    two projections. -/
def unperm (a : FVec Ideal S4352x4096 .bf16) : FVec Ideal S4352x4096 .bf16 :=
  concatenate S4352x4096 1
    [⟨S4352x2048, (shapeCast S4352x2048 (extractStridedSlice S4352x8x256 ![0, 0, 0] (shapeCast S4352x8x512 a shapeCasts_S4352x4096_S4352x8x512 : FVec Ideal S4352x8x512 .bf16) slices_S4352x8x512_S4352x8x256_0_0_0) shapeCasts_S4352x8x256_S4352x2048 : FVec Ideal S4352x2048 .bf16)⟩,
     ⟨S4352x1024, (shapeCast S4352x1024 (extractStridedSlice S4352x8x128 ![0, 0, 256] (shapeCast S4352x8x512 a shapeCasts_S4352x4096_S4352x8x512 : FVec Ideal S4352x8x512 .bf16) slices_S4352x8x512_S4352x8x128_0_0_256) shapeCasts_S4352x8x128_S4352x1024 : FVec Ideal S4352x1024 .bf16)⟩,
     ⟨S4352x1024, (shapeCast S4352x1024 (extractStridedSlice S4352x8x128 ![0, 0, 384] (shapeCast S4352x8x512 a shapeCasts_S4352x4096_S4352x8x512 : FVec Ideal S4352x8x512 .bf16) slices_S4352x8x512_S4352x8x128_0_0_384) shapeCasts_S4352x8x128_S4352x1024 : FVec Ideal S4352x1024 .bf16)⟩]
    concatenates_S4352x2048_S4352x1024_S4352x1024_S4352x4096_d1

set_option maxRecDepth 20000 in
theorem unperm_apply (a : FVec Ideal S4352x4096 .bf16) (r : Fin 4352) (j : Fin 4096) : unperm a (ix2 r j) = a (ix2 r (dst j)) := by
  unfold dst
  by_cases h : j.val < 2048
  · rw [dif_pos h]
    pointwise [unperm]
    exact dif_pos h
  by_cases h' : j.val < 3072
  · rw [dif_neg h, dif_pos h']
    pointwise [unperm]
    exact (dif_neg h).trans (dif_pos (by omega))
  · rw [dif_neg h, dif_neg h']
    pointwise [unperm]
    refine (dif_neg h).trans ((dif_neg (by omega)).trans ?_)
    exact congrArg (fun i => a (ix2 r i)) (Fin.ext (show (j.val - 2048 - 1024) / 128 * 512 + (384 + (j.val - 2048 - 1024) % 128)
      = (j.val - 3072) / 128 * 512 + (384 + (j.val - 3072) % 128) by omega))

end Cert.Fwd

end
-- ==== Proof.FwdValues.lean ====
/- The arrays between the calls, and the eight results, from the arguments. -/
module

public import proofs.«01_k».proof.Proof.FwdCalls
public import proofs.«01_k».proof.Proof.FwdHost
public import proofs.«01_k».proof.Proof.InHost

@[expose] public section

noncomputable section

namespace Cert.Fwd

open Cert.Kernel5Ideal Cert.Kernel5Ideal.Gen Idealize.ShloMosaic Idealize.ShloMosaic.TcCoe Cert.Products Cert.In Idealize.ShloMosaic.StableHlo

variable (m : (ℓ : Loc nD τ sig) → Buf (Elt Ideal) ℓ) (ρ : Dev nD → PrngReg) (c : Dev nD)

/-- The rows the projection is taken of. -/
abbrev h : Mat 4352 1024 := m ((c : Thread nD τ).loc main_arg0)
/-- The projection's weight. -/
abbrev w : Mat 1024 9280 := m ((c : Thread nD τ).loc main_arg1)
/-- The scan's normed rows. -/
abbrev y : Mat 4352 2048 := m ((c : Thread nD τ).loc main_arg2)
/-- The scan branch's weight. -/
abbrev ws : Mat 2048 1024 := m ((c : Thread nD τ).loc main_arg3)
/-- The feed-forward's hidden rows. -/
abbrev a : Mat 4352 2816 := m ((c : Thread nD τ).loc main_arg4)
/-- Its second weight. -/
abbrev wd : Mat 2816 1024 := m ((c : Thread nD τ).loc main_arg5)
/-- The gradient of its output. -/
abbrev d : Mat 4352 1024 := m ((c : Thread nD τ).loc main_arg6)

set_option maxRecDepth 20000 in
/-- The weight in the kernel's order. -/
theorem main_v15_val : W1 m ρ c (Proc.devRef .tc main_v15) = arrange (w m c) := by
  simp only [W1, hostOps0]
  after_results_simp <;> rfl

theorem main_v16_val : W2 m ρ c (Proc.devRef .tc main_v16) = nn (h m c) (pick most (arrange (w m c))) := by
  refine (W2_arr m ρ c 2).trans ((res0 (V1 m ρ) c).trans ?_)
  rw [show V1 m ρ c main_arg0 = h m c from (W1_args m ρ c main_arg0 (by decide)),
    show V1 m ρ c main_v15 = arrange (w m c) from (main_v15_val m ρ c)]

theorem main_v17_val : W3 m ρ c (Proc.devRef .tc main_v17) = nn (h m c) (pick steps (arrange (w m c))) := by
  refine (W3_arr m ρ c 2).trans ((res1 (V2 m ρ) c).trans ?_)
  rw [show V2 m ρ c main_arg0 = h m c from (W2_args m ρ c main_arg0 (by decide)),
    show V2 m ρ c main_v15 = arrange (w m c) from ((W2_of m ρ c main_v15 (by decide)).trans (main_v15_val m ρ c))]

/-- The scan branch's weight, cast by the host. -/
theorem main_v18_val : W4 m ρ c (Proc.devRef .tc main_v18) = ws m c := by
  have e : W4 m ρ c (Proc.devRef .tc main_v18) = W3 m ρ c (Proc.devRef .tc main_arg3) := by
    simp only [W4, hostOps2]
    after_results_simp <;> rfl
  exact e.trans (W3_args m ρ c main_arg3 (by decide))

theorem main_v19_val : W5 m ρ c (Proc.devRef .tc main_v19) = nn (y m c) (ws m c) := by
  refine (W5_arr m ρ c 2).trans ((res2 (V4 m ρ) c).trans ?_)
  rw [show V4 m ρ c main_arg2 = y m c from (W4_args m ρ c main_arg2 (by decide)),
    show V4 m ρ c main_v18 = ws m c from (main_v18_val m ρ c)]

/-- The second weight, cast by the host. -/
theorem main_v20_val : W6 m ρ c (Proc.devRef .tc main_v20) = wd m c := by
  have e : W6 m ρ c (Proc.devRef .tc main_v20) = W5 m ρ c (Proc.devRef .tc main_arg5) := by
    simp only [W6, hostOps3]
    after_results_simp <;> rfl
  exact e.trans (W5_args m ρ c main_arg5 (by decide))

theorem main_v21_val : W7 m ρ c (Proc.devRef .tc main_v21) = nn (a m c) (wd m c) := by
  refine (W7_arr m ρ c 2).trans ((res3 (V6 m ρ) c).trans ?_)
  rw [show V6 m ρ c main_arg4 = a m c from (W6_args m ρ c main_arg4 (by decide)),
    show V6 m ρ c main_v20 = wd m c from (main_v20_val m ρ c)]

theorem main_v22_val : W8 m ρ c (Proc.devRef .tc main_v22) = tn (a m c) (d m c) := by
  refine (W8_arr m ρ c 2).trans ((res4 (V7 m ρ) c).trans ?_)
  rw [show V7 m ρ c main_arg4 = a m c from (W7_args m ρ c main_arg4 (by decide)),
    show V7 m ρ c main_arg6 = d m c from (W7_args m ρ c main_arg6 (by decide))]

/-! ## The results -/

/-- The scan's gate. -/
theorem out_main_v23 : W9 m ρ c (Proc.devRef .tc main_v23) = pick cz (nn (h m c) (w m c)) := by
  have e : W9 m ρ c (Proc.devRef .tc main_v23) = extractStridedSlice S4352x2048 ![0, 4096] (W8 m ρ c (Proc.devRef .tc main_v16)) slices_S4352x9216_S4352x2048_0_4096 := by
    simp only [W9, hostOps5]
    after_results_simp <;> rfl
  rw [e, show W8 m ρ c (Proc.devRef .tc main_v16) = nn (h m c) (pick most (arrange (w m c))) from ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (main_v16_val m ρ c)))))))]
  funext i
  obtain ⟨p, q, rfl⟩ : ∃ (p : Fin 4352) (q : Fin 2048), i = ix2 p q := ⟨i 0, i 1, by funext a; fin_cases a <;> rfl⟩
  pointwise
  exact col_z (arranged (w m c)) p q

set_option maxRecDepth 20000 in
/-- The convolution's input. -/
theorem out_main_v32 : W9 m ρ c (Proc.devRef .tc main_v32) = pick cx (nn (h m c) (w m c)) := by
  have e : W9 m ρ c (Proc.devRef .tc main_v32) = unperm (extractStridedSlice S4352x4096 ![0, 0] (W8 m ρ c (Proc.devRef .tc main_v16)) slices_S4352x9216_S4352x4096_0_0) := by
    simp only [W9, hostOps5]
    after_results_simp <;> rfl
  rw [e, show W8 m ρ c (Proc.devRef .tc main_v16) = nn (h m c) (pick most (arrange (w m c))) from ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (main_v16_val m ρ c)))))))]
  funext i
  obtain ⟨p, q, rfl⟩ : ∃ (p : Fin 4352) (q : Fin 4096), i = ix2 p q := ⟨i 0, i 1, by funext a; fin_cases a <;> rfl⟩
  rw [unperm_apply]
  pointwise
  exact col_x (arranged (w m c)) p q

/-- The step sizes. -/
theorem out_main_v33 : W9 m ρ c (Proc.devRef .tc main_v33) = pick ct (nn (h m c) (w m c)) := by
  have e : W9 m ρ c (Proc.devRef .tc main_v33) = extractStridedSlice S4352x64 ![0, 0] (W8 m ρ c (Proc.devRef .tc main_v17)) slices_S4352x128_S4352x64_0_0 := by
    simp only [W9, hostOps5]
    after_results_simp <;> rfl
  rw [e, show W8 m ρ c (Proc.devRef .tc main_v17) = nn (h m c) (pick steps (arrange (w m c))) from ((W8_of m ρ c main_v17 (by decide)).trans ((W7_of m ρ c main_v17 (by decide)).trans ((W6_of m ρ c main_v17 (by decide)).trans ((W5_of m ρ c main_v17 (by decide)).trans ((W4_of m ρ c main_v17 (by decide)).trans (main_v17_val m ρ c))))))]
  funext i
  obtain ⟨p, q, rfl⟩ : ∃ (p : Fin 4352) (q : Fin 64), i = ix2 p q := ⟨i 0, i 1, by funext a; fin_cases a <;> rfl⟩
  pointwise
  exact col_t (arranged (w m c)) p q

/-- The pooling's rows. -/
theorem out_main_v34 : W9 m ρ c (Proc.devRef .tc main_v34) = pick cp (nn (h m c) (w m c)) := by
  have e : W9 m ρ c (Proc.devRef .tc main_v34) = extractStridedSlice S4352x1024 ![0, 8192] (W8 m ρ c (Proc.devRef .tc main_v16)) slices_S4352x9216_S4352x1024_0_8192 := by
    simp only [W9, hostOps5]
    after_results_simp <;> rfl
  rw [e, show W8 m ρ c (Proc.devRef .tc main_v16) = nn (h m c) (pick most (arrange (w m c))) from ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (main_v16_val m ρ c)))))))]
  funext i
  obtain ⟨p, q, rfl⟩ : ∃ (p : Fin 4352) (q : Fin 1024), i = ix2 p q := ⟨i 0, i 1, by funext a; fin_cases a <;> rfl⟩
  pointwise
  exact col_p (arranged (w m c)) p q

/-- Both branches' gates. -/
theorem out_main_v35 : W9 m ρ c (Proc.devRef .tc main_v35) = pick cgates (nn (h m c) (w m c)) := by
  have e : W9 m ρ c (Proc.devRef .tc main_v35) = extractStridedSlice S4352x2048 ![0, 6144] (W8 m ρ c (Proc.devRef .tc main_v16)) slices_S4352x9216_S4352x2048_0_6144 := by
    simp only [W9, hostOps5]
    after_results_simp <;> rfl
  rw [e, show W8 m ρ c (Proc.devRef .tc main_v16) = nn (h m c) (pick most (arrange (w m c))) from ((W8_of m ρ c main_v16 (by decide)).trans ((W7_of m ρ c main_v16 (by decide)).trans ((W6_of m ρ c main_v16 (by decide)).trans ((W5_of m ρ c main_v16 (by decide)).trans ((W4_of m ρ c main_v16 (by decide)).trans ((W3_of m ρ c main_v16 (by decide)).trans (main_v16_val m ρ c)))))))]
  funext i
  obtain ⟨p, q, rfl⟩ : ∃ (p : Fin 4352) (q : Fin 2048), i = ix2 p q := ⟨i 0, i 1, by funext a; fin_cases a <;> rfl⟩
  pointwise
  exact col_g (arranged (w m c)) p q

theorem out_main_v19 : W9 m ρ c (Proc.devRef .tc main_v19) = nn (y m c) (ws m c) :=
  ((W9_of m ρ c main_v19 (by decide)).trans ((W8_of m ρ c main_v19 (by decide)).trans ((W7_of m ρ c main_v19 (by decide)).trans ((W6_of m ρ c main_v19 (by decide)).trans (main_v19_val m ρ c)))))

theorem out_main_v21 : W9 m ρ c (Proc.devRef .tc main_v21) = nn (a m c) (wd m c) :=
  ((W9_of m ρ c main_v21 (by decide)).trans ((W8_of m ρ c main_v21 (by decide)).trans (main_v21_val m ρ c)))

theorem out_main_v22 : W9 m ρ c (Proc.devRef .tc main_v22) = tn (a m c) (d m c) :=
  ((W9_of m ρ c main_v22 (by decide)).trans (main_v22_val m ρ c))

end Cert.Fwd

end
-- ==== Proof.FwdReference.lean ====
/- What the reference computes: products, and the parts of the projection. -/
module

public import proofs.«01_k».proof.Proof.Gen.Reference5Ideal.Read
public import proofs.«01_k».proof.Proof.FwdModel

@[expose] public section

noncomputable section

namespace Cert.Fwd

open Cert.Reference5Ideal Cert.Reference5Ideal.Gen Cert.Reference5Ideal.Read Idealize.ShloMosaic Idealize.ShloMosaic.TcCoe Cert.Products Cert.In Cert.Fwd

variable (x0 : Mat 4352 1024) (x1 : Mat 1024 9280) (x2 : Mat 4352 2048) (x3 : Mat 2048 1024) (x4 : Mat 4352 2816)
  (x5 : Mat 2816 1024) (x6 : Mat 4352 1024)

theorem ref_v11 : val_main_v11 (F := Ideal) x0 x1 = pick cz (nn x0 x1) := by
  funext i
  obtain ⟨p, q, rfl⟩ : ∃ (p : Fin 4352) (q : Fin 2048), i = ix2 p q := ⟨i 0, i 1, by funext a; fin_cases a <;> rfl⟩
  pointwise [val_main_v11, val_main_v2, val_main_v1, val_main_v0]
  exact Finset.sum_congr rfl fun k _ => congrArg (fun j => x0 (ix2 p k) * x1 (ix2 k j)) (Fin.ext (show q.val = 0 + q.val by omega))

theorem ref_v12 : val_main_v12 (F := Ideal) x0 x1 = pick cx (nn x0 x1) := by
  funext i
  obtain ⟨p, q, rfl⟩ : ∃ (p : Fin 4352) (q : Fin 4096), i = ix2 p q := ⟨i 0, i 1, by funext a; fin_cases a <;> rfl⟩
  pointwise [val_main_v12, val_main_v3, val_main_v1, val_main_v0]
  exact Finset.sum_congr rfl fun k _ => congrArg (fun j => x0 (ix2 p k) * x1 (ix2 k j)) (Fin.ext (show 2048 + q.val = 2048 + q.val by omega))

theorem ref_v4 : val_main_v4 (F := Ideal) x0 x1 = pick ct (nn x0 x1) := by
  funext i
  obtain ⟨p, q, rfl⟩ : ∃ (p : Fin 4352) (q : Fin 64), i = ix2 p q := ⟨i 0, i 1, by funext a; fin_cases a <;> rfl⟩
  pointwise [val_main_v4, val_main_v1, val_main_v0]
  exact Finset.sum_congr rfl fun k _ => congrArg (fun j => x0 (ix2 p k) * x1 (ix2 k j)) (Fin.ext (show 6144 + q.val = 6144 + q.val by omega))

theorem ref_v13 : val_main_v13 (F := Ideal) x0 x1 = pick cp (nn x0 x1) := by
  funext i
  obtain ⟨p, q, rfl⟩ : ∃ (p : Fin 4352) (q : Fin 1024), i = ix2 p q := ⟨i 0, i 1, by funext a; fin_cases a <;> rfl⟩
  pointwise [val_main_v13, val_main_v5, val_main_v1, val_main_v0]
  exact Finset.sum_congr rfl fun k _ => congrArg (fun j => x0 (ix2 p k) * x1 (ix2 k j)) (Fin.ext (show 6208 + q.val = 6208 + q.val by omega))

theorem ref_v14 : val_main_v14 (F := Ideal) x0 x1 = pick cgates (nn x0 x1) := by
  funext i
  obtain ⟨p, q, rfl⟩ : ∃ (p : Fin 4352) (q : Fin 2048), i = ix2 p q := ⟨i 0, i 1, by funext a; fin_cases a <;> rfl⟩
  pointwise [val_main_v14, val_main_v6, val_main_v1, val_main_v0]
  exact Finset.sum_congr rfl fun k _ => congrArg (fun j => x0 (ix2 p k) * x1 (ix2 k j)) (Fin.ext (show 7232 + q.val = 7232 + q.val by omega))

theorem ref_v8 : val_main_v8 (F := Ideal) x2 x3 = nn x2 x3 := by
  funext i
  obtain ⟨p, q, rfl⟩ : ∃ (p : Fin 4352) (q : Fin 1024), i = ix2 p q := ⟨i 0, i 1, by funext a; fin_cases a <;> rfl⟩
  pointwise [val_main_v8, val_main_v7]
  rfl

theorem ref_v10 : val_main_v10 (F := Ideal) x4 x5 = nn x4 x5 := by
  funext i
  obtain ⟨p, q, rfl⟩ : ∃ (p : Fin 4352) (q : Fin 1024), i = ix2 p q := ⟨i 0, i 1, by funext a; fin_cases a <;> rfl⟩
  pointwise [val_main_v10, val_main_v9]
  rfl

theorem ref_v17 : val_main_v17 (F := Ideal) x4 x6 = tn x4 x6 := by
  funext i
  obtain ⟨p, q, rfl⟩ : ∃ (p : Fin 2816) (q : Fin 1024), i = ix2 p q := ⟨i 0, i 1, by funext a; fin_cases a <;> rfl⟩
  pointwise [val_main_v17, val_main_v16, val_main_v15, val_main_v9]
  exact Finset.sum_congr rfl fun k _ => mul_comm _ _

end Cert.Fwd

end
-- ==== Proof.OptARun.lean ====
/- Every buffer of the program at its end. -/
module

public import proofs.«01_k».proof.Proof.Gen.Kernel6Ideal.Frame

@[expose] public section

noncomputable section

namespace Cert.OptA

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends, and every buffer outside the calls' scratch then holds what the
    fold of the calls and of the host's operations (`W8`) leaves in it. -/
theorem run : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W8 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ c b hb => h c _ (mem_uc b hb))

end Cert.OptA

end
-- ==== Proof.OptModel.lean ====
/- One step of AdamW on one number, and on the two layers of a weight. -/
module

public import Idealize.ShloMosaic.Lib.Pipeline.Value
public import proofs.«01_k».proof.Proof.Products

@[expose] public section

noncomputable section

namespace Cert.Opt

open Idealize.ShloMosaic Cert.Products

/-- A weight of two layers, each a matrix of `r` rows and `n` columns, by its index. -/
abbrev Two (r n : ℕ) : Type := (⟨3, ![2, r, n]⟩ : Shape).Idx → EReal

/-- The first layer's matrix and the second layer's, one after the other. -/
def layers {r n : ℕ} (a b : Mat r n) : Two r n := fun i => if (i 0).val = 1 then b (ix2 (i 1) (i 2)) else a (ix2 (i 1) (i 2))

/-- Of a number of the first layer and one of the second, the one of layer `l`. -/
def ofLayer (l : ℕ) (a b : EReal) : EReal := if l = 1 then b else a

/-- An index of one layer's block has a row and a column. -/
theorem row_col {r n : ℕ} (y : (⟨3, ![1, r, n]⟩ : Shape).Idx) : ∃ (p : Fin r) (q : Fin n), y = ix3 (0 : Fin 1) p q :=
  ⟨y 1, y 2, by funext a; fin_cases a; exacts [Fin.ext (Nat.lt_one_iff.1 (y 0).isLt), rfl, rfl]⟩

/-- The number a float word stands for. -/
abbrev word (b : BitVec 32) : EReal := FloatOps.ofBits (F := Ideal) .f32 b

/-- The new first moment: β₁ m + (1 − β₁) g. -/
def moment (g m : EReal) : EReal := word 0x3F666666#32 * m + word 0x3DCCCCCD#32 * g

/-- The new second moment: β₂ v + (1 − β₂) g². -/
def square (g v : EReal) : EReal := word 0x3F7FBE77#32 * v + word 0x3A83126F#32 * (g * g)

/-- The change of the weight `w`: the first moment over the root of the second, each freed of its bias, and the weight's decay,
    times minus the rate. -/
def step (w g m v : EReal) : EReal :=
  word 0xBA83126F#32 * (Ideal.div (Ideal.div (moment g m) (word 0x3F26BD02#32))
      (Ideal.sqrt (Ideal.div (square g v) (word 0x3C231ACC#32)) + word 0x322BCC77#32)
    + word 0x3C23D70A#32 * w)

/-- The changes of every element. -/
def steps {s : Shape} (w g m v : s.Idx → EReal) : s.Idx → EReal := fun i => step (w i) (g i) (m i) (v i)

/-- The new first moments. -/
def moments {s : Shape} (g m : s.Idx → EReal) : s.Idx → EReal := fun i => moment (g i) (m i)

/-- The new second moments. -/
def squares {s : Shape} (g v : s.Idx → EReal) : s.Idx → EReal := fun i => square (g i) (v i)

/-- Rows and columns exchanged in each layer. -/
def turn {r n : ℕ} (x : Two r n) : Two n r := fun i => x (ix3 (i 0) (i 2) (i 1))

variable {s t : Shape} (h : s.ShapeCasts t) (h' : t.ShapeCasts s)

/-- The changes, computed in another shape and brought back. -/
theorem cast_steps (w m v : t.Idx → EReal) (g : s.Idx → EReal) :
    shapeCast t (steps (shapeCast s w h') g (shapeCast s m h') (shapeCast s v h')) h = steps w (shapeCast t g h) m v := by
  have e : ∀ x : t.Idx → EReal, shapeCast t (shapeCast s x h') h = x := fun x => shapeCast_shapeCast x h' h
  show steps (shapeCast t (shapeCast s w h') h) _ (shapeCast t (shapeCast s m h') h) (shapeCast t (shapeCast s v h') h) = _
  rw [e, e, e]
  rfl

/-- The first moments likewise. -/
theorem cast_moments (m : t.Idx → EReal) (g : s.Idx → EReal) :
    shapeCast t (moments g (shapeCast s m h')) h = moments (shapeCast t g h) m := by
  show moments _ (shapeCast t (shapeCast s m h') h) = _
  rw [shapeCast_shapeCast]
  rfl

/-- The second moments likewise. -/
theorem cast_squares (v : t.Idx → EReal) (g : s.Idx → EReal) :
    shapeCast t (squares g (shapeCast s v h')) h = squares (shapeCast t g h) v := by
  show squares _ (shapeCast t (shapeCast s v h') h) = _
  rw [shapeCast_shapeCast]
  rfl

end Cert.Opt

end
-- ==== Proof.OptACalls.lean ====
/- What the optimiser's calls for `w_ada`, `w_in`, `w_ssd_out` and `pool_w` leave in their arrays. -/
module

public import proofs.«01_k».proof.Proof.Gen.Kernel6Ideal.Frame
public import proofs.«01_k».proof.Proof.OptModel

@[expose] public section

noncomputable section

namespace Cert.OptA

open Cert.Kernel6Ideal Cert.Kernel6Ideal.Gen Idealize.ShloMosaic Idealize.ShloMosaic.TcCoe Cert.Products Cert.Opt

variable (V : (c : Dev nD) → (b : Ref sig .tc) → Buf (Elt Ideal) ((c : Thread nD τ).loc b)) (c : Dev nD)

/-! ## The call for `w_ada` -/

section

variable (i : grid0.Coords) (x y : FVec Ideal S128x1536 .f32) (w m v : FVec Ideal S1x128x1536 .f32)
variable (t : Fin cfg0.N) (p : Fin 128) (q : Fin 1536)

theorem pick0 : k0_pay5 (F := Ideal) i x y (ix2 p q) = ofLayer (i 0).val (x (ix2 p q)) (y (ix2 p q)) := by
  have h : (i 0).val < 2 := (i 0).isLt
  unfold k0_pay5 ofLayer
  rcases (by omega : (i 0).val = 0 ∨ (i 0).val = 1) with e | e <;> rw [e] <;> rfl

theorem pay0_5 : k0_pay4 (F := Ideal) (k0_pay5 i x y) (ix3 (0 : Fin 1) p q) = ofLayer (i 0).val (x (ix2 p q)) (y (ix2 p q)) := by
  pointwise [k0_pay4]
  exact pick0 i x y p q

theorem first0 : k0_pay6 (F := Ideal) i x y m (ix2 p q) = moment (ofLayer (i 0).val (x (ix2 p q)) (y (ix2 p q))) (m (ix3 (0 : Fin 1) p q)) := by
  pointwise [k0_pay6]
  rw [pick0]
  rfl

theorem second0 : k0_pay7 (F := Ideal) i x y v (ix2 p q) = square (ofLayer (i 0).val (x (ix2 p q)) (y (ix2 p q))) (v (ix3 (0 : Fin 1) p q)) := by
  pointwise [k0_pay7]
  rw [pick0]
  rfl

theorem pay0_6 : k0_pay1 (F := Ideal) (k0_pay8 i x y w m v) (ix3 (0 : Fin 1) p q)
    = step (w (ix3 (0 : Fin 1) p q)) (ofLayer (i 0).val (x (ix2 p q)) (y (ix2 p q))) (m (ix3 (0 : Fin 1) p q)) (v (ix3 (0 : Fin 1) p q)) := by
  pointwise [k0_pay1, k0_pay8]
  rw [first0, second0]
  rfl

theorem pay0_7 : k0_pay2 (F := Ideal) (k0_pay6 i x y m) (ix3 (0 : Fin 1) p q)
    = moment (ofLayer (i 0).val (x (ix2 p q)) (y (ix2 p q))) (m (ix3 (0 : Fin 1) p q)) := by
  pointwise [k0_pay2]
  exact first0 i x y m p q

theorem pay0_8 : k0_pay3 (F := Ideal) (k0_pay7 i x y v) (ix3 (0 : Fin 1) p q)
    = square (ofLayer (i 0).val (x (ix2 p q)) (y (ix2 p q))) (v (ix3 (0 : Fin 1) p q)) := by
  pointwise [k0_pay3]
  exact second0 i x y v p q

theorem idx0 : ∀ t : Fin grid0.N,
    (win0_5.index t 0 = (grid0.coords t 0).val ∧ win0_5.index t 2 = 0)
    ∧ (((grid0.coords t 0).val = 1 → win0_4.index t 0 = win0_5.index t 1) ∧ win0_4.index t 1 = 0)
    ∧ (¬ (grid0.coords t 0).val = 1 → win0_3.index t 0 = win0_5.index t 1) ∧ win0_3.index t 1 = 0 := by
  decide +kernel

theorem hit0 : ∀ (l : Fin 2) (a : Fin 8), ∃ t : Fin grid0.N,
    win0_5.index t 0 = l.val ∧ win0_5.index t 1 = a.val := by
  decide +kernel

/-- Where the element of the block at row `p` and column `q` lies. -/
abbrev spot0 : S2x1024x1536.Idx := ((cfg0.win 5).blk t).view.emb (ix3 (0 : Fin 1) p q)

/-- The block of the gradient that the call picks is the current layer's. -/
theorem grad0 : ofLayer (grid0.coords t 0).val ((iblk0 V c 3 t : S128x1536.Idx → EReal) (ix2 p q)) ((iblk0 V c 4 t : S128x1536.Idx → EReal) (ix2 p q))
    = (layers (V c main_arg1) (V c main_arg2)) (spot0 t p q) := by
  obtain ⟨⟨g0, g2⟩, ⟨h40, h41⟩, h30, h31⟩ := idx0 t
  have e0 : (spot0 t p q 0).val = (grid0.coords t 0).val := by
    show win0_5.index t 0 * 1 + 1 * 0 = _
    rw [g0]; omega
  show (if (grid0.coords t 0).val = 1 then _ else _) = if (spot0 t p q 0).val = 1 then _ else _
  rw [e0]
  by_cases h : (grid0.coords t 0).val = 1
  · rw [if_pos h, if_pos h]
    show V c main_arg2 _ = V c main_arg2 _
    congr 1; funext a; fin_cases a
    · ext; show win0_4.index t 0 * 128 + 1 * p.val = win0_5.index t 1 * 128 + 1 * p.val; rw [h40 h]
    · ext; show win0_4.index t 1 * 1536 + 1 * q.val = win0_5.index t 2 * 1536 + 1 * q.val; rw [h41, g2]
  · rw [if_neg h, if_neg h]
    show V c main_arg1 _ = V c main_arg1 _
    congr 1; funext a; fin_cases a
    · ext; show win0_3.index t 0 * 128 + 1 * p.val = win0_5.index t 1 * 128 + 1 * p.val; rw [h30 h]
    · ext; show win0_3.index t 1 * 1536 + 1 * q.val = win0_5.index t 2 * 1536 + 1 * q.val; rw [h31, g2]

/-- Every index lies in some step's block. -/
theorem place0 (i : S2x1024x1536.Idx) : ∃ (t : Fin cfg0.N) (p : Fin 128) (q : Fin 1536), spot0 t p q = i := by
  have h0 : (i 0).val < 2 := (i 0).isLt
  have h1 : (i 1).val < 1024 := (i 1).isLt
  have h2 : (i 2).val < 1536 := (i 2).isLt
  obtain ⟨t, e0, e1⟩ := hit0 ⟨(i 0).val, h0⟩ ⟨(i 1).val / 128, by omega⟩
  obtain ⟨⟨-, g2⟩, -⟩ := idx0 t
  refine ⟨t, ⟨(i 1).val % 128, by omega⟩, ⟨(i 2).val, h2⟩, ?_⟩
  funext a; fin_cases a
  · ext; show win0_5.index t 0 * 1 + 1 * 0 = (i 0).val
    rw [e0]; show (i 0).val * 1 + _ = _; omega
  · ext; show win0_5.index t 1 * 128 + 1 * ((i 1).val % 128) = (i 1).val
    rw [e1]; show (i 1).val / 128 * 128 + _ = _; omega
  · ext; show win0_5.index t 2 * 1536 + 1 * (i 2).val = (i 2).val
    rw [g2]; omega

/-- The gradient. -/
theorem res0_5 : (dat0 V c).arrAt 5 cfg0.N = (layers (V c main_arg1) (V c main_arg2)) :=
  (dat0 V c).arrAt_eq_of_cover 5 _ (fun t _ => by
    show (cfg0.win 5).cut (grid0.coords t) ((dat0 V c).after 5 t) = _
    rw [after0_5]
    funext y
    obtain ⟨p, q, rfl⟩ := row_col (r := 128) (n := 1536) y
    show out0_5 _ _ _ _ _ _ (ix3 (0 : Fin 1) p q) = _
    rw [out0_5, View.canon_unit_zero (by decide)]
    repeat rw [View.ld_unit_zero (by decide)]
    rw [pay0_5, grad0]
    rfl) fun i => by
    obtain ⟨t, p, q, rfl⟩ := place0 i
    exact ⟨t, flush0_5 t, Finset.mem_map_of_mem _ (Finset.mem_univ (ix3 (0 : Fin 1) p q))⟩

/-- The change of the weight. -/
theorem res0_6 : (dat0 V c).arrAt 6 cfg0.N = steps (V c main_arg0) (layers (V c main_arg1) (V c main_arg2)) (V c main_arg3) (V c main_arg4) :=
  (dat0 V c).arrAt_eq_of_cover 6 _ (fun t _ => by
    show (cfg0.win 6).cut (grid0.coords t) ((dat0 V c).after 6 t) = _
    rw [after0_6]
    funext y
    obtain ⟨p, q, rfl⟩ := row_col (r := 128) (n := 1536) y
    show out0_6 _ _ _ _ _ _ (ix3 (0 : Fin 1) p q) = _
    rw [out0_6, View.canon_unit_zero (by decide)]
    repeat rw [View.ld_unit_zero (by decide)]
    rw [pay0_6, grad0]
    rfl) fun i => by
    obtain ⟨t, p, q, rfl⟩ := place0 i
    exact ⟨t, flush0_6 t, Finset.mem_map_of_mem _ (Finset.mem_univ (ix3 (0 : Fin 1) p q))⟩

/-- The new first moments. -/
theorem res0_7 : (dat0 V c).arrAt 7 cfg0.N = moments (layers (V c main_arg1) (V c main_arg2)) (V c main_arg3) :=
  (dat0 V c).arrAt_eq_of_cover 7 _ (fun t _ => by
    show (cfg0.win 7).cut (grid0.coords t) ((dat0 V c).after 7 t) = _
    rw [after0_7]
    funext y
    obtain ⟨p, q, rfl⟩ := row_col (r := 128) (n := 1536) y
    show out0_7 _ _ _ _ _ _ (ix3 (0 : Fin 1) p q) = _
    rw [out0_7, View.canon_unit_zero (by decide)]
    repeat rw [View.ld_unit_zero (by decide)]
    rw [pay0_7, grad0]
    rfl) fun i => by
    obtain ⟨t, p, q, rfl⟩ := place0 i
    exact ⟨t, flush0_7 t, Finset.mem_map_of_mem _ (Finset.mem_univ (ix3 (0 : Fin 1) p q))⟩

/-- The new second moments. -/
theorem res0_8 : (dat0 V c).arrAt 8 cfg0.N = squares (layers (V c main_arg1) (V c main_arg2)) (V c main_arg4) :=
  (dat0 V c).arrAt_eq_of_cover 8 _ (fun t _ => by
    show (cfg0.win 8).cut (grid0.coords t) ((dat0 V c).after 8 t) = _
    rw [after0_8]
    funext y
    obtain ⟨p, q, rfl⟩ := row_col (r := 128) (n := 1536) y
    show out0_8 _ _ _ _ _ _ (ix3 (0 : Fin 1) p q) = _
    rw [out0_8, View.canon_unit_zero (by decide)]
    repeat rw [View.ld_unit_zero (by decide)]
    rw [pay0_8, grad0]
    rfl) fun i => by
    obtain ⟨t, p, q, rfl⟩ := place0 i
    exact ⟨t, flush0_8 t, Finset.mem_map_of_mem _ (Finset.mem_univ (ix3 (0 : Fin 1) p q))⟩

end

/-! ## The call for `w_in` -/

section

variable (i : grid1.Coords) (x y : FVec Ideal S232x1024 .f32) (w m v : FVec Ideal S1x232x1024 .f32)
variable (t : Fin cfg1.N) (p : Fin 232) (q : Fin 1024)

theorem pick1 : k1_pay5 (F := Ideal) i x y (ix2 p q) = ofLayer (i 0).val (x (ix2 p q)) (y (ix2 p q)) := by
  have h : (i 0).val < 2 := (i 0).isLt
  unfold k1_pay5 ofLayer
  rcases (by omega : (i 0).val = 0 ∨ (i 0).val = 1) with e | e <;> rw [e] <;> rfl

theorem pay1_5 : k1_pay4 (F := Ideal) (k1_pay5 i x y) (ix3 (0 : Fin 1) p q) = ofLayer (i 0).val (x (ix2 p q)) (y (ix2 p q)) := by
  pointwise [k1_pay4]
  exact pick1 i x y p q

theorem first1 : k1_pay6 (F := Ideal) i x y m (ix2 p q) = moment (ofLayer (i 0).val (x (ix2 p q)) (y (ix2 p q))) (m (ix3 (0 : Fin 1) p q)) := by
  pointwise [k1_pay6]
  rw [pick1]
  rfl

theorem second1 : k1_pay7 (F := Ideal) i x y v (ix2 p q) = square (ofLayer (i 0).val (x (ix2 p q)) (y (ix2 p q))) (v (ix3 (0 : Fin 1) p q)) := by
  pointwise [k1_pay7]
  rw [pick1]
  rfl

theorem pay1_6 : k1_pay1 (F := Ideal) (k1_pay8 i x y w m v) (ix3 (0 : Fin 1) p q)
    = step (w (ix3 (0 : Fin 1) p q)) (ofLayer (i 0).val (x (ix2 p q)) (y (ix2 p q))) (m (ix3 (0 : Fin 1) p q)) (v (ix3 (0 : Fin 1) p q)) := by
  pointwise [k1_pay1, k1_pay8]
  rw [first1, second1]
  rfl

theorem pay1_7 : k1_pay2 (F := Ideal) (k1_pay6 i x y m) (ix3 (0 : Fin 1) p q)
    = moment (ofLayer (i 0).val (x (ix2 p q)) (y (ix2 p q))) (m (ix3 (0 : Fin 1) p q)) := by
  pointwise [k1_pay2]
  exact first1 i x y m p q

theorem pay1_8 : k1_pay3 (F := Ideal) (k1_pay7 i x y v) (ix3 (0 : Fin 1) p q)
    = square (ofLayer (i 0).val (x (ix2 p q)) (y (ix2 p q))) (v (ix3 (0 : Fin 1) p q)) := by
  pointwise [k1_pay3]
  exact second1 i x y v p q

theorem idx1 : ∀ t : Fin grid1.N,
    (win1_5.index t 0 = (grid1.coords t 0).val ∧ win1_5.index t 2 = 0)
    ∧ (((grid1.coords t 0).val = 1 → win1_4.index t 0 = win1_5.index t 1) ∧ win1_4.index t 1 = 0)
    ∧ (¬ (grid1.coords t 0).val = 1 → win1_3.index t 0 = win1_5.index t 1) ∧ win1_3.index t 1 = 0 := by
  decide +kernel

theorem hit1 : ∀ (l : Fin 2) (a : Fin 10), ∃ t : Fin grid1.N,
    win1_5.index t 0 = l.val ∧ win1_5.index t 1 = a.val := by
  decide +kernel

/-- Where the element of the block at row `p` and column `q` lies. -/
abbrev spot1 : S2x2320x1024.Idx := ((cfg1.win 5).blk t).view.emb (ix3 (0 : Fin 1) p q)

/-- The block of the gradient that the call picks is the current layer's. -/
theorem grad1 : ofLayer (grid1.coords t 0).val ((iblk1 V c 3 t : S232x1024.Idx → EReal) (ix2 p q)) ((iblk1 V c 4 t : S232x1024.Idx → EReal) (ix2 p q))
    = (layers (V c main_arg6) (V c main_arg7)) (spot1 t p q) := by
  obtain ⟨⟨g0, g2⟩, ⟨h40, h41⟩, h30, h31⟩ := idx1 t
  have e0 : (spot1 t p q 0).val = (grid1.coords t 0).val := by
    show win1_5.index t 0 * 1 + 1 * 0 = _
    rw [g0]; omega
  show (if (grid1.coords t 0).val = 1 then _ else _) = if (spot1 t p q 0).val = 1 then _ else _
  rw [e0]
  by_cases h : (grid1.coords t 0).val = 1
  · rw [if_pos h, if_pos h]
    show V c main_arg7 _ = V c main_arg7 _
    congr 1; funext a; fin_cases a
    · ext; show win1_4.index t 0 * 232 + 1 * p.val = win1_5.index t 1 * 232 + 1 * p.val; rw [h40 h]
    · ext; show win1_4.index t 1 * 1024 + 1 * q.val = win1_5.index t 2 * 1024 + 1 * q.val; rw [h41, g2]
  · rw [if_neg h, if_neg h]
    show V c main_arg6 _ = V c main_arg6 _
    congr 1; funext a; fin_cases a
    · ext; show win1_3.index t 0 * 232 + 1 * p.val = win1_5.index t 1 * 232 + 1 * p.val; rw [h30 h]
    · ext; show win1_3.index t 1 * 1024 + 1 * q.val = win1_5.index t 2 * 1024 + 1 * q.val; rw [h31, g2]

/-- Every index lies in some step's block. -/
theorem place1 (i : S2x2320x1024.Idx) : ∃ (t : Fin cfg1.N) (p : Fin 232) (q : Fin 1024), spot1 t p q = i := by
  have h0 : (i 0).val < 2 := (i 0).isLt
  have h1 : (i 1).val < 2320 := (i 1).isLt
  have h2 : (i 2).val < 1024 := (i 2).isLt
  obtain ⟨t, e0, e1⟩ := hit1 ⟨(i 0).val, h0⟩ ⟨(i 1).val / 232, by omega⟩
  obtain ⟨⟨-, g2⟩, -⟩ := idx1 t
  refine ⟨t, ⟨(i 1).val % 232, by omega⟩, ⟨(i 2).val, h2⟩, ?_⟩
  funext a; fin_cases a
  · ext; show win1_5.index t 0 * 1 + 1 * 0 = (i 0).val
    rw [e0]; show (i 0).val * 1 + _ = _; omega
  · ext; show win1_5.index t 1 * 232 + 1 * ((i 1).val % 232) = (i 1).val
    rw [e1]; show (i 1).val / 232 * 232 + _ = _; omega
  · ext; show win1_5.index t 2 * 1024 + 1 * (i 2).val = (i 2).val
    rw [g2]; omega

/-- The gradient. -/
theorem res1_5 : (dat1 V c).arrAt 5 cfg1.N = (layers (V c main_arg6) (V c main_arg7)) :=
  (dat1 V c).arrAt_eq_of_cover 5 _ (fun t _ => by
    show (cfg1.win 5).cut (grid1.coords t) ((dat1 V c).after 5 t) = _
    rw [after1_5]
    funext y
    obtain ⟨p, q, rfl⟩ := row_col (r := 232) (n := 1024) y
    show out1_5 _ _ _ _ _ _ (ix3 (0 : Fin 1) p q) = _
    rw [out1_5, View.canon_unit_zero (by decide)]
    repeat rw [View.ld_unit_zero (by decide)]
    rw [pay1_5, grad1]
    rfl) fun i => by
    obtain ⟨t, p, q, rfl⟩ := place1 i
    exact ⟨t, flush1_5 t, Finset.mem_map_of_mem _ (Finset.mem_univ (ix3 (0 : Fin 1) p q))⟩

/-- The change of the weight. -/
theorem res1_6 : (dat1 V c).arrAt 6 cfg1.N = steps (V c main_v1) (layers (V c main_arg6) (V c main_arg7)) (V c main_v2) (V c main_v3) :=
  (dat1 V c).arrAt_eq_of_cover 6 _ (fun t _ => by
    show (cfg1.win 6).cut (grid1.coords t) ((dat1 V c).after 6 t) = _
    rw [after1_6]
    funext y
    obtain ⟨p, q, rfl⟩ := row_col (r := 232) (n := 1024) y
    show out1_6 _ _ _ _ _ _ (ix3 (0 : Fin 1) p q) = _
    rw [out1_6, View.canon_unit_zero (by decide)]
    repeat rw [View.ld_unit_zero (by decide)]
    rw [pay1_6, grad1]
    rfl) fun i => by
    obtain ⟨t, p, q, rfl⟩ := place1 i
    exact ⟨t, flush1_6 t, Finset.mem_map_of_mem _ (Finset.mem_univ (ix3 (0 : Fin 1) p q))⟩

/-- The new first moments. -/
theorem res1_7 : (dat1 V c).arrAt 7 cfg1.N = moments (layers (V c main_arg6) (V c main_arg7)) (V c main_v2) :=
  (dat1 V c).arrAt_eq_of_cover 7 _ (fun t _ => by
    show (cfg1.win 7).cut (grid1.coords t) ((dat1 V c).after 7 t) = _
    rw [after1_7]
    funext y
    obtain ⟨p, q, rfl⟩ := row_col (r := 232) (n := 1024) y
    show out1_7 _ _ _ _ _ _ (ix3 (0 : Fin 1) p q) = _
    rw [out1_7, View.canon_unit_zero (by decide)]
    repeat rw [View.ld_unit_zero (by decide)]
    rw [pay1_7, grad1]
    rfl) fun i => by
    obtain ⟨t, p, q, rfl⟩ := place1 i
    exact ⟨t, flush1_7 t, Finset.mem_map_of_mem _ (Finset.mem_univ (ix3 (0 : Fin 1) p q))⟩

/-- The new second moments. -/
theorem res1_8 : (dat1 V c).arrAt 8 cfg1.N = squares (layers (V c main_arg6) (V c main_arg7)) (V c main_v3) :=
  (dat1 V c).arrAt_eq_of_cover 8 _ (fun t _ => by
    show (cfg1.win 8).cut (grid1.coords t) ((dat1 V c).after 8 t) = _
    rw [after1_8]
    funext y
    obtain ⟨p, q, rfl⟩ := row_col (r := 232) (n := 1024) y
    show out1_8 _ _ _ _ _ _ (ix3 (0 : Fin 1) p q) = _
    rw [out1_8, View.canon_unit_zero (by decide)]
    repeat rw [View.ld_unit_zero (by decide)]
    rw [pay1_8, grad1]
    rfl) fun i => by
    obtain ⟨t, p, q, rfl⟩ := place1 i
    exact ⟨t, flush1_8 t, Finset.mem_map_of_mem _ (Finset.mem_univ (ix3 (0 : Fin 1) p q))⟩

end

/-! ## The call for `w_ssd_out` -/

section

variable (i : grid2.Coords) (x y : FVec Ideal S256x1024 .f32) (w m v : FVec Ideal S1x256x1024 .f32)
variable (t : Fin cfg2.N) (p : Fin 256) (q : Fin 1024)

theorem pick2 : k2_pay5 (F := Ideal) i x y (ix2 p q) = ofLayer (i 0).val (x (ix2 p q)) (y (ix2 p q)) := by
  have h : (i 0).val < 2 := (i 0).isLt
  unfold k2_pay5 ofLayer
  rcases (by omega : (i 0).val = 0 ∨ (i 0).val = 1) with e | e <;> rw [e] <;> rfl

theorem pay2_5 : k2_pay4 (F := Ideal) (k2_pay5 i x y) (ix3 (0 : Fin 1) p q) = ofLayer (i 0).val (x (ix2 p q)) (y (ix2 p q)) := by
  pointwise [k2_pay4]
  exact pick2 i x y p q

theorem first2 : k2_pay6 (F := Ideal) i x y m (ix2 p q) = moment (ofLayer (i 0).val (x (ix2 p q)) (y (ix2 p q))) (m (ix3 (0 : Fin 1) p q)) := by
  pointwise [k2_pay6]
  rw [pick2]
  rfl

theorem second2 : k2_pay7 (F := Ideal) i x y v (ix2 p q) = square (ofLayer (i 0).val (x (ix2 p q)) (y (ix2 p q))) (v (ix3 (0 : Fin 1) p q)) := by
  pointwise [k2_pay7]
  rw [pick2]
  rfl

theorem pay2_6 : k2_pay1 (F := Ideal) (k2_pay8 i x y w m v) (ix3 (0 : Fin 1) p q)
    = step (w (ix3 (0 : Fin 1) p q)) (ofLayer (i 0).val (x (ix2 p q)) (y (ix2 p q))) (m (ix3 (0 : Fin 1) p q)) (v (ix3 (0 : Fin 1) p q)) := by
  pointwise [k2_pay1, k2_pay8]
  rw [first2, second2]
  rfl

theorem pay2_7 : k2_pay2 (F := Ideal) (k2_pay6 i x y m) (ix3 (0 : Fin 1) p q)
    = moment (ofLayer (i 0).val (x (ix2 p q)) (y (ix2 p q))) (m (ix3 (0 : Fin 1) p q)) := by
  pointwise [k2_pay2]
  exact first2 i x y m p q

theorem pay2_8 : k2_pay3 (F := Ideal) (k2_pay7 i x y v) (ix3 (0 : Fin 1) p q)
    = square (ofLayer (i 0).val (x (ix2 p q)) (y (ix2 p q))) (v (ix3 (0 : Fin 1) p q)) := by
  pointwise [k2_pay3]
  exact second2 i x y v p q

theorem idx2 : ∀ t : Fin grid2.N,
    (win2_5.index t 0 = (grid2.coords t 0).val ∧ win2_5.index t 2 = 0)
    ∧ (((grid2.coords t 0).val = 1 → win2_4.index t 0 = win2_5.index t 1) ∧ win2_4.index t 1 = 0)
    ∧ (¬ (grid2.coords t 0).val = 1 → win2_3.index t 0 = win2_5.index t 1) ∧ win2_3.index t 1 = 0 := by
  decide +kernel

theorem hit2 : ∀ (l : Fin 2) (a : Fin 2), ∃ t : Fin grid2.N,
    win2_5.index t 0 = l.val ∧ win2_5.index t 1 = a.val := by
  decide +kernel

/-- Where the element of the block at row `p` and column `q` lies. -/
abbrev spot2 : S2x512x1024.Idx := ((cfg2.win 5).blk t).view.emb (ix3 (0 : Fin 1) p q)

/-- The block of the gradient that the call picks is the current layer's. -/
theorem grad2 : ofLayer (grid2.coords t 0).val ((iblk2 V c 3 t : S256x1024.Idx → EReal) (ix2 p q)) ((iblk2 V c 4 t : S256x1024.Idx → EReal) (ix2 p q))
    = (layers (V c main_arg11) (V c main_arg12)) (spot2 t p q) := by
  obtain ⟨⟨g0, g2⟩, ⟨h40, h41⟩, h30, h31⟩ := idx2 t
  have e0 : (spot2 t p q 0).val = (grid2.coords t 0).val := by
    show win2_5.index t 0 * 1 + 1 * 0 = _
    rw [g0]; omega
  show (if (grid2.coords t 0).val = 1 then _ else _) = if (spot2 t p q 0).val = 1 then _ else _
  rw [e0]
  by_cases h : (grid2.coords t 0).val = 1
  · rw [if_pos h, if_pos h]
    show V c main_arg12 _ = V c main_arg12 _
    congr 1; funext a; fin_cases a
    · ext; show win2_4.index t 0 * 256 + 1 * p.val = win2_5.index t 1 * 256 + 1 * p.val; rw [h40 h]
    · ext; show win2_4.index t 1 * 1024 + 1 * q.val = win2_5.index t 2 * 1024 + 1 * q.val; rw [h41, g2]
  · rw [if_neg h, if_neg h]
    show V c main_arg11 _ = V c main_arg11 _
    congr 1; funext a; fin_cases a
    · ext; show win2_3.index t 0 * 256 + 1 * p.val = win2_5.index t 1 * 256 + 1 * p.val; rw [h30 h]
    · ext; show win2_3.index t 1 * 1024 + 1 * q.val = win2_5.index t 2 * 1024 + 1 * q.val; rw [h31, g2]

/-- Every index lies in some step's block. -/
theorem place2 (i : S2x512x1024.Idx) : ∃ (t : Fin cfg2.N) (p : Fin 256) (q : Fin 1024), spot2 t p q = i := by
  have h0 : (i 0).val < 2 := (i 0).isLt
  have h1 : (i 1).val < 512 := (i 1).isLt
  have h2 : (i 2).val < 1024 := (i 2).isLt
  obtain ⟨t, e0, e1⟩ := hit2 ⟨(i 0).val, h0⟩ ⟨(i 1).val / 256, by omega⟩
  obtain ⟨⟨-, g2⟩, -⟩ := idx2 t
  refine ⟨t, ⟨(i 1).val % 256, by omega⟩, ⟨(i 2).val, h2⟩, ?_⟩
  funext a; fin_cases a
  · ext; show win2_5.index t 0 * 1 + 1 * 0 = (i 0).val
    rw [e0]; show (i 0).val * 1 + _ = _; omega
  · ext; show win2_5.index t 1 * 256 + 1 * ((i 1).val % 256) = (i 1).val
    rw [e1]; show (i 1).val / 256 * 256 + _ = _; omega
  · ext; show win2_5.index t 2 * 1024 + 1 * (i 2).val = (i 2).val
    rw [g2]; omega

/-- The gradient. -/
theorem res2_5 : (dat2 V c).arrAt 5 cfg2.N = (layers (V c main_arg11) (V c main_arg12)) :=
  (dat2 V c).arrAt_eq_of_cover 5 _ (fun t _ => by
    show (cfg2.win 5).cut (grid2.coords t) ((dat2 V c).after 5 t) = _
    rw [after2_5]
    funext y
    obtain ⟨p, q, rfl⟩ := row_col (r := 256) (n := 1024) y
    show out2_5 _ _ _ _ _ _ (ix3 (0 : Fin 1) p q) = _
    rw [out2_5, View.canon_unit_zero (by decide)]
    repeat rw [View.ld_unit_zero (by decide)]
    rw [pay2_5, grad2]
    rfl) fun i => by
    obtain ⟨t, p, q, rfl⟩ := place2 i
    exact ⟨t, flush2_5 t, Finset.mem_map_of_mem _ (Finset.mem_univ (ix3 (0 : Fin 1) p q))⟩

/-- The change of the weight. -/
theorem res2_6 : (dat2 V c).arrAt 6 cfg2.N = steps (V c main_arg10) (layers (V c main_arg11) (V c main_arg12)) (V c main_arg13) (V c main_arg14) :=
  (dat2 V c).arrAt_eq_of_cover 6 _ (fun t _ => by
    show (cfg2.win 6).cut (grid2.coords t) ((dat2 V c).after 6 t) = _
    rw [after2_6]
    funext y
    obtain ⟨p, q, rfl⟩ := row_col (r := 256) (n := 1024) y
    show out2_6 _ _ _ _ _ _ (ix3 (0 : Fin 1) p q) = _
    rw [out2_6, View.canon_unit_zero (by decide)]
    repeat rw [View.ld_unit_zero (by decide)]
    rw [pay2_6, grad2]
    rfl) fun i => by
    obtain ⟨t, p, q, rfl⟩ := place2 i
    exact ⟨t, flush2_6 t, Finset.mem_map_of_mem _ (Finset.mem_univ (ix3 (0 : Fin 1) p q))⟩

/-- The new first moments. -/
theorem res2_7 : (dat2 V c).arrAt 7 cfg2.N = moments (layers (V c main_arg11) (V c main_arg12)) (V c main_arg13) :=
  (dat2 V c).arrAt_eq_of_cover 7 _ (fun t _ => by
    show (cfg2.win 7).cut (grid2.coords t) ((dat2 V c).after 7 t) = _
    rw [after2_7]
    funext y
    obtain ⟨p, q, rfl⟩ := row_col (r := 256) (n := 1024) y
    show out2_7 _ _ _ _ _ _ (ix3 (0 : Fin 1) p q) = _
    rw [out2_7, View.canon_unit_zero (by decide)]
    repeat rw [View.ld_unit_zero (by decide)]
    rw [pay2_7, grad2]
    rfl) fun i => by
    obtain ⟨t, p, q, rfl⟩ := place2 i
    exact ⟨t, flush2_7 t, Finset.mem_map_of_mem _ (Finset.mem_univ (ix3 (0 : Fin 1) p q))⟩

/-- The new second moments. -/
theorem res2_8 : (dat2 V c).arrAt 8 cfg2.N = squares (layers (V c main_arg11) (V c main_arg12)) (V c main_arg14) :=
  (dat2 V c).arrAt_eq_of_cover 8 _ (fun t _ => by
    show (cfg2.win 8).cut (grid2.coords t) ((dat2 V c).after 8 t) = _
    rw [after2_8]
    funext y
    obtain ⟨p, q, rfl⟩ := row_col (r := 256) (n := 1024) y
    show out2_8 _ _ _ _ _ _ (ix3 (0 : Fin 1) p q) = _
    rw [out2_8, View.canon_unit_zero (by decide)]
    repeat rw [View.ld_unit_zero (by decide)]
    rw [pay2_8, grad2]
    rfl) fun i => by
    obtain ⟨t, p, q, rfl⟩ := place2 i
    exact ⟨t, flush2_8 t, Finset.mem_map_of_mem _ (Finset.mem_univ (ix3 (0 : Fin 1) p q))⟩

end

/-! ## The call for `pool_w` -/

section

variable (i : grid3.Coords) (x y : FVec Ideal S256x256 .f32) (w m v : FVec Ideal S1x256x256 .f32)
variable (t : Fin cfg3.N) (p : Fin 256) (q : Fin 256)

theorem pick3 : k3_pay5 (F := Ideal) i x y (ix2 p q) = ofLayer (i 0).val (x (ix2 p q)) (y (ix2 p q)) := by
  have h : (i 0).val < 2 := (i 0).isLt
  unfold k3_pay5 ofLayer
  rcases (by omega : (i 0).val = 0 ∨ (i 0).val = 1) with e | e <;> rw [e] <;> rfl

theorem pay3_5 : k3_pay4 (F := Ideal) (k3_pay5 i x y) (ix3 (0 : Fin 1) p q) = ofLayer (i 0).val (x (ix2 p q)) (y (ix2 p q)) := by
  pointwise [k3_pay4]
  exact pick3 i x y p q

theorem first3 : k3_pay6 (F := Ideal) i x y m (ix2 p q) = moment (ofLayer (i 0).val (x (ix2 p q)) (y (ix2 p q))) (m (ix3 (0 : Fin 1) p q)) := by
  pointwise [k3_pay6]
  rw [pick3]
  rfl

theorem second3 : k3_pay7 (F := Ideal) i x y v (ix2 p q) = square (ofLayer (i 0).val (x (ix2 p q)) (y (ix2 p q))) (v (ix3 (0 : Fin 1) p q)) := by
  pointwise [k3_pay7]
  rw [pick3]
  rfl

theorem pay3_6 : k3_pay1 (F := Ideal) (k3_pay8 i x y w m v) (ix3 (0 : Fin 1) p q)
    = step (w (ix3 (0 : Fin 1) p q)) (ofLayer (i 0).val (x (ix2 p q)) (y (ix2 p q))) (m (ix3 (0 : Fin 1) p q)) (v (ix3 (0 : Fin 1) p q)) := by
  pointwise [k3_pay1, k3_pay8]
  rw [first3, second3]
  rfl

theorem pay3_7 : k3_pay2 (F := Ideal) (k3_pay6 i x y m) (ix3 (0 : Fin 1) p q)
    = moment (ofLayer (i 0).val (x (ix2 p q)) (y (ix2 p q))) (m (ix3 (0 : Fin 1) p q)) := by
  pointwise [k3_pay2]
  exact first3 i x y m p q

theorem pay3_8 : k3_pay3 (F := Ideal) (k3_pay7 i x y v) (ix3 (0 : Fin 1) p q)
    = square (ofLayer (i 0).val (x (ix2 p q)) (y (ix2 p q))) (v (ix3 (0 : Fin 1) p q)) := by
  pointwise [k3_pay3]
  exact second3 i x y v p q

theorem idx3 : ∀ t : Fin grid3.N,
    (win3_5.index t 0 = (grid3.coords t 0).val ∧ win3_5.index t 2 = 0)
    ∧ (((grid3.coords t 0).val = 1 → win3_4.index t 0 = win3_5.index t 1) ∧ win3_4.index t 1 = 0)
    ∧ (¬ (grid3.coords t 0).val = 1 → win3_3.index t 0 = win3_5.index t 1) ∧ win3_3.index t 1 = 0 := by
  decide +kernel

theorem hit3 : ∀ (l : Fin 2) (a : Fin 1), ∃ t : Fin grid3.N,
    win3_5.index t 0 = l.val ∧ win3_5.index t 1 = a.val := by
  decide +kernel

/-- Where the element of the block at row `p` and column `q` lies. -/
abbrev spot3 : S2x256x256.Idx := ((cfg3.win 5).blk t).view.emb (ix3 (0 : Fin 1) p q)

/-- The block of the gradient that the call picks is the current layer's. -/
theorem grad3 : ofLayer (grid3.coords t 0).val ((iblk3 V c 3 t : S256x256.Idx → EReal) (ix2 p q)) ((iblk3 V c 4 t : S256x256.Idx → EReal) (ix2 p q))
    = (layers (V c main_arg16) (V c main_arg17)) (spot3 t p q) := by
  obtain ⟨⟨g0, g2⟩, ⟨h40, h41⟩, h30, h31⟩ := idx3 t
  have e0 : (spot3 t p q 0).val = (grid3.coords t 0).val := by
    show win3_5.index t 0 * 1 + 1 * 0 = _
    rw [g0]; omega
  show (if (grid3.coords t 0).val = 1 then _ else _) = if (spot3 t p q 0).val = 1 then _ else _
  rw [e0]
  by_cases h : (grid3.coords t 0).val = 1
  · rw [if_pos h, if_pos h]
    show V c main_arg17 _ = V c main_arg17 _
    congr 1; funext a; fin_cases a
    · ext; show win3_4.index t 0 * 256 + 1 * p.val = win3_5.index t 1 * 256 + 1 * p.val; rw [h40 h]
    · ext; show win3_4.index t 1 * 256 + 1 * q.val = win3_5.index t 2 * 256 + 1 * q.val; rw [h41, g2]
  · rw [if_neg h, if_neg h]
    show V c main_arg16 _ = V c main_arg16 _
    congr 1; funext a; fin_cases a
    · ext; show win3_3.index t 0 * 256 + 1 * p.val = win3_5.index t 1 * 256 + 1 * p.val; rw [h30 h]
    · ext; show win3_3.index t 1 * 256 + 1 * q.val = win3_5.index t 2 * 256 + 1 * q.val; rw [h31, g2]

/-- Every index lies in some step's block. -/
theorem place3 (i : S2x256x256.Idx) : ∃ (t : Fin cfg3.N) (p : Fin 256) (q : Fin 256), spot3 t p q = i := by
  have h0 : (i 0).val < 2 := (i 0).isLt
  have h1 : (i 1).val < 256 := (i 1).isLt
  have h2 : (i 2).val < 256 := (i 2).isLt
  obtain ⟨t, e0, e1⟩ := hit3 ⟨(i 0).val, h0⟩ ⟨(i 1).val / 256, by omega⟩
  obtain ⟨⟨-, g2⟩, -⟩ := idx3 t
  refine ⟨t, ⟨(i 1).val % 256, by omega⟩, ⟨(i 2).val, h2⟩, ?_⟩
  funext a; fin_cases a
  · ext; show win3_5.index t 0 * 1 + 1 * 0 = (i 0).val
    rw [e0]; show (i 0).val * 1 + _ = _; omega
  · ext; show win3_5.index t 1 * 256 + 1 * ((i 1).val % 256) = (i 1).val
    rw [e1]; show (i 1).val / 256 * 256 + _ = _; omega
  · ext; show win3_5.index t 2 * 256 + 1 * (i 2).val = (i 2).val
    rw [g2]; omega

/-- The gradient. -/
theorem res3_5 : (dat3 V c).arrAt 5 cfg3.N = (layers (V c main_arg16) (V c main_arg17)) :=
  (dat3 V c).arrAt_eq_of_cover 5 _ (fun t _ => by
    show (cfg3.win 5).cut (grid3.coords t) ((dat3 V c).after 5 t) = _
    rw [after3_5]
    funext y
    obtain ⟨p, q, rfl⟩ := row_col (r := 256) (n := 256) y
    show out3_5 _ _ _ _ _ _ (ix3 (0 : Fin 1) p q) = _
    rw [out3_5, View.canon_unit_zero (by decide)]
    repeat rw [View.ld_unit_zero (by decide)]
    rw [pay3_5, grad3]
    rfl) fun i => by
    obtain ⟨t, p, q, rfl⟩ := place3 i
    exact ⟨t, flush3_5 t, Finset.mem_map_of_mem _ (Finset.mem_univ (ix3 (0 : Fin 1) p q))⟩

/-- The change of the weight. -/
theorem res3_6 : (dat3 V c).arrAt 6 cfg3.N = steps (V c main_v10) (layers (V c main_arg16) (V c main_arg17)) (V c main_v11) (V c main_v12) :=
  (dat3 V c).arrAt_eq_of_cover 6 _ (fun t _ => by
    show (cfg3.win 6).cut (grid3.coords t) ((dat3 V c).after 6 t) = _
    rw [after3_6]
    funext y
    obtain ⟨p, q, rfl⟩ := row_col (r := 256) (n := 256) y
    show out3_6 _ _ _ _ _ _ (ix3 (0 : Fin 1) p q) = _
    rw [out3_6, View.canon_unit_zero (by decide)]
    repeat rw [View.ld_unit_zero (by decide)]
    rw [pay3_6, grad3]
    rfl) fun i => by
    obtain ⟨t, p, q, rfl⟩ := place3 i
    exact ⟨t, flush3_6 t, Finset.mem_map_of_mem _ (Finset.mem_univ (ix3 (0 : Fin 1) p q))⟩

/-- The new first moments. -/
theorem res3_7 : (dat3 V c).arrAt 7 cfg3.N = moments (layers (V c main_arg16) (V c main_arg17)) (V c main_v11) :=
  (dat3 V c).arrAt_eq_of_cover 7 _ (fun t _ => by
    show (cfg3.win 7).cut (grid3.coords t) ((dat3 V c).after 7 t) = _
    rw [after3_7]
    funext y
    obtain ⟨p, q, rfl⟩ := row_col (r := 256) (n := 256) y
    show out3_7 _ _ _ _ _ _ (ix3 (0 : Fin 1) p q) = _
    rw [out3_7, View.canon_unit_zero (by decide)]
    repeat rw [View.ld_unit_zero (by decide)]
    rw [pay3_7, grad3]
    rfl) fun i => by
    obtain ⟨t, p, q, rfl⟩ := place3 i
    exact ⟨t, flush3_7 t, Finset.mem_map_of_mem _ (Finset.mem_univ (ix3 (0 : Fin 1) p q))⟩

/-- The new second moments. -/
theorem res3_8 : (dat3 V c).arrAt 8 cfg3.N = squares (layers (V c main_arg16) (V c main_arg17)) (V c main_v12) :=
  (dat3 V c).arrAt_eq_of_cover 8 _ (fun t _ => by
    show (cfg3.win 8).cut (grid3.coords t) ((dat3 V c).after 8 t) = _
    rw [after3_8]
    funext y
    obtain ⟨p, q, rfl⟩ := row_col (r := 256) (n := 256) y
    show out3_8 _ _ _ _ _ _ (ix3 (0 : Fin 1) p q) = _
    rw [out3_8, View.canon_unit_zero (by decide)]
    repeat rw [View.ld_unit_zero (by decide)]
    rw [pay3_8, grad3]
    rfl) fun i => by
    obtain ⟨t, p, q, rfl⟩ := place3 i
    exact ⟨t, flush3_8 t, Finset.mem_map_of_mem _ (Finset.mem_univ (ix3 (0 : Fin 1) p q))⟩

end

end Cert.OptA

end
-- ==== Proof.OptAValues.lean ====
/- The arrays between the calls, and the sixteen results, from the arguments. -/
module

public import proofs.«01_k».proof.Proof.OptACalls

@[expose] public section

noncomputable section

namespace Cert.OptA

open Cert.Kernel6Ideal Cert.Kernel6Ideal.Gen Idealize.ShloMosaic Idealize.ShloMosaic.TcCoe Cert.Products Cert.Opt Idealize.ShloMosaic.StableHlo

variable (m : (ℓ : Loc nD τ sig) → Buf (Elt Ideal) ℓ) (ρ : Dev nD → PrngReg) (c : Dev nD)

/-- `w_ada`: the weight. -/
abbrev arg0 : Two 1024 1536 := m ((c : Thread nD τ).loc main_arg0)
/-- `w_ada`: the first layer's gradient. -/
abbrev arg1 : Mat 1024 1536 := m ((c : Thread nD τ).loc main_arg1)
/-- `w_ada`: the second layer's gradient. -/
abbrev arg2 : Mat 1024 1536 := m ((c : Thread nD τ).loc main_arg2)
/-- `w_ada`: the first moments. -/
abbrev arg3 : Two 1024 1536 := m ((c : Thread nD τ).loc main_arg3)
/-- `w_ada`: the second moments. -/
abbrev arg4 : Two 1024 1536 := m ((c : Thread nD τ).loc main_arg4)
/-- `w_ada`: the gradient, both layers. -/
abbrev both0 : Two 1024 1536 := layers (arg1 m c) (arg2 m c)

/-- `w_in`: the weight. -/
abbrev arg5 : Two 1024 2320 := m ((c : Thread nD τ).loc main_arg5)
/-- `w_in`: the first layer's gradient. -/
abbrev arg6 : Mat 2320 1024 := m ((c : Thread nD τ).loc main_arg6)
/-- `w_in`: the second layer's gradient. -/
abbrev arg7 : Mat 2320 1024 := m ((c : Thread nD τ).loc main_arg7)
/-- `w_in`: the first moments. -/
abbrev arg8 : Two 1024 2320 := m ((c : Thread nD τ).loc main_arg8)
/-- `w_in`: the second moments. -/
abbrev arg9 : Two 1024 2320 := m ((c : Thread nD τ).loc main_arg9)
/-- `w_in`: the gradient, both layers. -/
abbrev both1 : Two 2320 1024 := layers (arg6 m c) (arg7 m c)

/-- `w_ssd_out`: the weight. -/
abbrev arg10 : Two 512 1024 := m ((c : Thread nD τ).loc main_arg10)
/-- `w_ssd_out`: the first layer's gradient. -/
abbrev arg11 : Mat 512 1024 := m ((c : Thread nD τ).loc main_arg11)
/-- `w_ssd_out`: the second layer's gradient. -/
abbrev arg12 : Mat 512 1024 := m ((c : Thread nD τ).loc main_arg12)
/-- `w_ssd_out`: the first moments. -/
abbrev arg13 : Two 512 1024 := m ((c : Thread nD τ).loc main_arg13)
/-- `w_ssd_out`: the second moments. -/
abbrev arg14 : Two 512 1024 := m ((c : Thread nD τ).loc main_arg14)
/-- `w_ssd_out`: the gradient, both layers. -/
abbrev both2 : Two 512 1024 := layers (arg11 m c) (arg12 m c)

/-- `pool_w`: the weight. -/
abbrev arg15 : S2x4x64x256.Idx → EReal := m ((c : Thread nD τ).loc main_arg15)
/-- `pool_w`: the first layer's gradient. -/
abbrev arg16 : Mat 256 256 := m ((c : Thread nD τ).loc main_arg16)
/-- `pool_w`: the second layer's gradient. -/
abbrev arg17 : Mat 256 256 := m ((c : Thread nD τ).loc main_arg17)
/-- `pool_w`: the first moments. -/
abbrev arg18 : S2x4x64x256.Idx → EReal := m ((c : Thread nD τ).loc main_arg18)
/-- `pool_w`: the second moments. -/
abbrev arg19 : S2x4x64x256.Idx → EReal := m ((c : Thread nD τ).loc main_arg19)
/-- `pool_w`: the gradient, both layers. -/
abbrev both3 : Two 256 256 := layers (arg16 m c) (arg17 m c)

theorem turn_in (x : Two 1024 2320) : transpose S2x2320x1024 [0, 2, 1] x transposes_S2x1024x2320_S2x2320x1024_0_2_1 = turn x := by
  funext i
  obtain ⟨l, p, q, rfl⟩ : ∃ (l : Fin 2) (p : Fin 2320) (q : Fin 1024), i = ix3 l p q :=
    ⟨i 0, i 1, i 2, by funext a; fin_cases a <;> rfl⟩
  pointwise
  rfl

theorem turn_out (x : Two 2320 1024) : transpose S2x1024x2320 [0, 2, 1] x transposes_S2x2320x1024_S2x1024x2320_0_2_1 = turn x := by
  funext i
  obtain ⟨l, p, q, rfl⟩ : ∃ (l : Fin 2) (p : Fin 1024) (q : Fin 2320), i = ix3 l p q :=
    ⟨i 0, i 1, i 2, by funext a; fin_cases a <;> rfl⟩
  pointwise
  rfl

theorem turn_turn {r n : ℕ} (x : Two r n) : turn (turn x) = x := by
  funext i
  show x (ix3 (i 0) (i 1) (i 2)) = x i
  congr 1
  funext a
  fin_cases a <;> rfl

/-- The changes of the turned arrays, turned back. -/
theorem turn_steps {r n : ℕ} (w m v : Two r n) (g : Two n r) : turn (steps (turn w) g (turn m) (turn v)) = steps w (turn g) m v := by
  show steps (turn (turn w)) (turn g) (turn (turn m)) (turn (turn v)) = _
  rw [turn_turn, turn_turn, turn_turn]

/-- The first moments likewise. -/
theorem turn_moments {r n : ℕ} (m : Two r n) (g : Two n r) : turn (moments g (turn m)) = moments (turn g) m := by
  show moments (turn g) (turn (turn m)) = _
  rw [turn_turn]

/-- The second moments likewise. -/
theorem turn_squares {r n : ℕ} (v : Two r n) (g : Two n r) : turn (squares g (turn v)) = squares (turn g) v := by
  show squares (turn g) (turn (turn v)) = _
  rw [turn_turn]

theorem main_v0_0_val : W1 m ρ c (Proc.devRef .tc main_v0_0) = both0 m c := by
  refine (W1_arr m ρ c 5).trans ((res0_5 (V0 m ρ) c).trans ?_)
  rw [show V0 m ρ c main_arg1 = arg1 m c from (W0_args m ρ c main_arg1 (by decide)),
    show V0 m ρ c main_arg2 = arg2 m c from (W0_args m ρ c main_arg2 (by decide))]

theorem main_v0_1_val : W1 m ρ c (Proc.devRef .tc main_v0_1) = steps (arg0 m c) (both0 m c) (arg3 m c) (arg4 m c) := by
  refine (W1_arr m ρ c 6).trans ((res0_6 (V0 m ρ) c).trans ?_)
  rw [show V0 m ρ c main_arg0 = arg0 m c from (W0_args m ρ c main_arg0 (by decide)),
    show V0 m ρ c main_arg1 = arg1 m c from (W0_args m ρ c main_arg1 (by decide)),
    show V0 m ρ c main_arg2 = arg2 m c from (W0_args m ρ c main_arg2 (by decide)),
    show V0 m ρ c main_arg3 = arg3 m c from (W0_args m ρ c main_arg3 (by decide)),
    show V0 m ρ c main_arg4 = arg4 m c from (W0_args m ρ c main_arg4 (by decide))]

theorem main_v0_2_val : W1 m ρ c (Proc.devRef .tc main_v0_2) = moments (both0 m c) (arg3 m c) := by
  refine (W1_arr m ρ c 7).trans ((res0_7 (V0 m ρ) c).trans ?_)
  rw [show V0 m ρ c main_arg1 = arg1 m c from (W0_args m ρ c main_arg1 (by decide)),
    show V0 m ρ c main_arg2 = arg2 m c from (W0_args m ρ c main_arg2 (by decide)),
    show V0 m ρ c main_arg3 = arg3 m c from (W0_args m ρ c main_arg3 (by decide))]

theorem main_v0_3_val : W1 m ρ c (Proc.devRef .tc main_v0_3) = squares (both0 m c) (arg4 m c) := by
  refine (W1_arr m ρ c 8).trans ((res0_8 (V0 m ρ) c).trans ?_)
  rw [show V0 m ρ c main_arg1 = arg1 m c from (W0_args m ρ c main_arg1 (by decide)),
    show V0 m ρ c main_arg2 = arg2 m c from (W0_args m ρ c main_arg2 (by decide)),
    show V0 m ρ c main_arg4 = arg4 m c from (W0_args m ρ c main_arg4 (by decide))]

theorem main_v1_val : W2 m ρ c (Proc.devRef .tc main_v1) = turn (arg5 m c) := by
  have e : W2 m ρ c (Proc.devRef .tc main_v1) = transpose S2x2320x1024 [0, 2, 1] (W1 m ρ c (Proc.devRef .tc main_arg5)) transposes_S2x1024x2320_S2x2320x1024_0_2_1 := by
    simp only [W2, hostOps1]
    after_results_simp <;> rfl
  rw [e, show W1 m ρ c (Proc.devRef .tc main_arg5) = arg5 m c from (W1_args m ρ c main_arg5 (by decide))]
  exact turn_in _

theorem main_v2_val : W2 m ρ c (Proc.devRef .tc main_v2) = turn (arg8 m c) := by
  have e : W2 m ρ c (Proc.devRef .tc main_v2) = transpose S2x2320x1024 [0, 2, 1] (W1 m ρ c (Proc.devRef .tc main_arg8)) transposes_S2x1024x2320_S2x2320x1024_0_2_1 := by
    simp only [W2, hostOps1]
    after_results_simp <;> rfl
  rw [e, show W1 m ρ c (Proc.devRef .tc main_arg8) = arg8 m c from (W1_args m ρ c main_arg8 (by decide))]
  exact turn_in _

theorem main_v3_val : W2 m ρ c (Proc.devRef .tc main_v3) = turn (arg9 m c) := by
  have e : W2 m ρ c (Proc.devRef .tc main_v3) = transpose S2x2320x1024 [0, 2, 1] (W1 m ρ c (Proc.devRef .tc main_arg9)) transposes_S2x1024x2320_S2x2320x1024_0_2_1 := by
    simp only [W2, hostOps1]
    after_results_simp <;> rfl
  rw [e, show W1 m ρ c (Proc.devRef .tc main_arg9) = arg9 m c from (W1_args m ρ c main_arg9 (by decide))]
  exact turn_in _

theorem main_v4_0_val : W3 m ρ c (Proc.devRef .tc main_v4_0) = both1 m c := by
  refine (W3_arr m ρ c 5).trans ((res1_5 (V2 m ρ) c).trans ?_)
  rw [show V2 m ρ c main_arg6 = arg6 m c from (W2_args m ρ c main_arg6 (by decide)),
    show V2 m ρ c main_arg7 = arg7 m c from (W2_args m ρ c main_arg7 (by decide))]

theorem main_v4_1_val : W3 m ρ c (Proc.devRef .tc main_v4_1) = steps (turn (arg5 m c)) (both1 m c) (turn (arg8 m c)) (turn (arg9 m c)) := by
  refine (W3_arr m ρ c 6).trans ((res1_6 (V2 m ρ) c).trans ?_)
  rw [show V2 m ρ c main_v1 = turn (arg5 m c) from (main_v1_val m ρ c),
    show V2 m ρ c main_arg6 = arg6 m c from (W2_args m ρ c main_arg6 (by decide)),
    show V2 m ρ c main_arg7 = arg7 m c from (W2_args m ρ c main_arg7 (by decide)),
    show V2 m ρ c main_v2 = turn (arg8 m c) from (main_v2_val m ρ c),
    show V2 m ρ c main_v3 = turn (arg9 m c) from (main_v3_val m ρ c)]

theorem main_v4_2_val : W3 m ρ c (Proc.devRef .tc main_v4_2) = moments (both1 m c) (turn (arg8 m c)) := by
  refine (W3_arr m ρ c 7).trans ((res1_7 (V2 m ρ) c).trans ?_)
  rw [show V2 m ρ c main_arg6 = arg6 m c from (W2_args m ρ c main_arg6 (by decide)),
    show V2 m ρ c main_arg7 = arg7 m c from (W2_args m ρ c main_arg7 (by decide)),
    show V2 m ρ c main_v2 = turn (arg8 m c) from (main_v2_val m ρ c)]

theorem main_v4_3_val : W3 m ρ c (Proc.devRef .tc main_v4_3) = squares (both1 m c) (turn (arg9 m c)) := by
  refine (W3_arr m ρ c 8).trans ((res1_8 (V2 m ρ) c).trans ?_)
  rw [show V2 m ρ c main_arg6 = arg6 m c from (W2_args m ρ c main_arg6 (by decide)),
    show V2 m ρ c main_arg7 = arg7 m c from (W2_args m ρ c main_arg7 (by decide)),
    show V2 m ρ c main_v3 = turn (arg9 m c) from (main_v3_val m ρ c)]

theorem main_v5_val : W4 m ρ c (Proc.devRef .tc main_v5) = turn (both1 m c) := by
  have e : W4 m ρ c (Proc.devRef .tc main_v5) = transpose S2x1024x2320 [0, 2, 1] (W3 m ρ c (Proc.devRef .tc main_v4_0)) transposes_S2x2320x1024_S2x1024x2320_0_2_1 := by
    simp only [W4, hostOps2]
    after_results_simp <;> rfl
  rw [e, show W3 m ρ c (Proc.devRef .tc main_v4_0) = both1 m c from (main_v4_0_val m ρ c)]
  exact (turn_out _)

theorem main_v6_val : W4 m ρ c (Proc.devRef .tc main_v6) = steps (arg5 m c) (turn (both1 m c)) (arg8 m c) (arg9 m c) := by
  have e : W4 m ρ c (Proc.devRef .tc main_v6) = transpose S2x1024x2320 [0, 2, 1] (W3 m ρ c (Proc.devRef .tc main_v4_1)) transposes_S2x2320x1024_S2x1024x2320_0_2_1 := by
    simp only [W4, hostOps2]
    after_results_simp <;> rfl
  rw [e, show W3 m ρ c (Proc.devRef .tc main_v4_1) = steps (turn (arg5 m c)) (both1 m c) (turn (arg8 m c)) (turn (arg9 m c)) from (main_v4_1_val m ρ c)]
  exact (turn_out _).trans (turn_steps _ _ _ _)

theorem main_v7_val : W4 m ρ c (Proc.devRef .tc main_v7) = moments (turn (both1 m c)) (arg8 m c) := by
  have e : W4 m ρ c (Proc.devRef .tc main_v7) = transpose S2x1024x2320 [0, 2, 1] (W3 m ρ c (Proc.devRef .tc main_v4_2)) transposes_S2x2320x1024_S2x1024x2320_0_2_1 := by
    simp only [W4, hostOps2]
    after_results_simp <;> rfl
  rw [e, show W3 m ρ c (Proc.devRef .tc main_v4_2) = moments (both1 m c) (turn (arg8 m c)) from (main_v4_2_val m ρ c)]
  exact (turn_out _).trans (turn_moments _ _)

theorem main_v8_val : W4 m ρ c (Proc.devRef .tc main_v8) = squares (turn (both1 m c)) (arg9 m c) := by
  have e : W4 m ρ c (Proc.devRef .tc main_v8) = transpose S2x1024x2320 [0, 2, 1] (W3 m ρ c (Proc.devRef .tc main_v4_3)) transposes_S2x2320x1024_S2x1024x2320_0_2_1 := by
    simp only [W4, hostOps2]
    after_results_simp <;> rfl
  rw [e, show W3 m ρ c (Proc.devRef .tc main_v4_3) = squares (both1 m c) (turn (arg9 m c)) from (main_v4_3_val m ρ c)]
  exact (turn_out _).trans (turn_squares _ _)

theorem main_v9_0_val : W5 m ρ c (Proc.devRef .tc main_v9_0) = both2 m c := by
  refine (W5_arr m ρ c 5).trans ((res2_5 (V4 m ρ) c).trans ?_)
  rw [show V4 m ρ c main_arg11 = arg11 m c from (W4_args m ρ c main_arg11 (by decide)),
    show V4 m ρ c main_arg12 = arg12 m c from (W4_args m ρ c main_arg12 (by decide))]

theorem main_v9_1_val : W5 m ρ c (Proc.devRef .tc main_v9_1) = steps (arg10 m c) (both2 m c) (arg13 m c) (arg14 m c) := by
  refine (W5_arr m ρ c 6).trans ((res2_6 (V4 m ρ) c).trans ?_)
  rw [show V4 m ρ c main_arg10 = arg10 m c from (W4_args m ρ c main_arg10 (by decide)),
    show V4 m ρ c main_arg11 = arg11 m c from (W4_args m ρ c main_arg11 (by decide)),
    show V4 m ρ c main_arg12 = arg12 m c from (W4_args m ρ c main_arg12 (by decide)),
    show V4 m ρ c main_arg13 = arg13 m c from (W4_args m ρ c main_arg13 (by decide)),
    show V4 m ρ c main_arg14 = arg14 m c from (W4_args m ρ c main_arg14 (by decide))]

theorem main_v9_2_val : W5 m ρ c (Proc.devRef .tc main_v9_2) = moments (both2 m c) (arg13 m c) := by
  refine (W5_arr m ρ c 7).trans ((res2_7 (V4 m ρ) c).trans ?_)
  rw [show V4 m ρ c main_arg11 = arg11 m c from (W4_args m ρ c main_arg11 (by decide)),
    show V4 m ρ c main_arg12 = arg12 m c from (W4_args m ρ c main_arg12 (by decide)),
    show V4 m ρ c main_arg13 = arg13 m c from (W4_args m ρ c main_arg13 (by decide))]

theorem main_v9_3_val : W5 m ρ c (Proc.devRef .tc main_v9_3) = squares (both2 m c) (arg14 m c) := by
  refine (W5_arr m ρ c 8).trans ((res2_8 (V4 m ρ) c).trans ?_)
  rw [show V4 m ρ c main_arg11 = arg11 m c from (W4_args m ρ c main_arg11 (by decide)),
    show V4 m ρ c main_arg12 = arg12 m c from (W4_args m ρ c main_arg12 (by decide)),
    show V4 m ρ c main_arg14 = arg14 m c from (W4_args m ρ c main_arg14 (by decide))]

theorem main_v10_val : W6 m ρ c (Proc.devRef .tc main_v10) = shapeCast S2x256x256 (arg15 m c) shapeCasts_S2x4x64x256_S2x256x256 := by
  have e : W6 m ρ c (Proc.devRef .tc main_v10) = shapeCast S2x256x256 (W5 m ρ c (Proc.devRef .tc main_arg15)) shapeCasts_S2x4x64x256_S2x256x256 := by
    simp only [W6, hostOps3]
    after_results_simp <;> rfl
  rw [e, show W5 m ρ c (Proc.devRef .tc main_arg15) = arg15 m c from (W5_args m ρ c main_arg15 (by decide))]
theorem main_v11_val : W6 m ρ c (Proc.devRef .tc main_v11) = shapeCast S2x256x256 (arg18 m c) shapeCasts_S2x4x64x256_S2x256x256 := by
  have e : W6 m ρ c (Proc.devRef .tc main_v11) = shapeCast S2x256x256 (W5 m ρ c (Proc.devRef .tc main_arg18)) shapeCasts_S2x4x64x256_S2x256x256 := by
    simp only [W6, hostOps3]
    after_results_simp <;> rfl
  rw [e, show W5 m ρ c (Proc.devRef .tc main_arg18) = arg18 m c from (W5_args m ρ c main_arg18 (by decide))]
theorem main_v12_val : W6 m ρ c (Proc.devRef .tc main_v12) = shapeCast S2x256x256 (arg19 m c) shapeCasts_S2x4x64x256_S2x256x256 := by
  have e : W6 m ρ c (Proc.devRef .tc main_v12) = shapeCast S2x256x256 (W5 m ρ c (Proc.devRef .tc main_arg19)) shapeCasts_S2x4x64x256_S2x256x256 := by
    simp only [W6, hostOps3]
    after_results_simp <;> rfl
  rw [e, show W5 m ρ c (Proc.devRef .tc main_arg19) = arg19 m c from (W5_args m ρ c main_arg19 (by decide))]
theorem main_v13_0_val : W7 m ρ c (Proc.devRef .tc main_v13_0) = both3 m c := by
  refine (W7_arr m ρ c 5).trans ((res3_5 (V6 m ρ) c).trans ?_)
  rw [show V6 m ρ c main_arg16 = arg16 m c from (W6_args m ρ c main_arg16 (by decide)),
    show V6 m ρ c main_arg17 = arg17 m c from (W6_args m ρ c main_arg17 (by decide))]

theorem main_v13_1_val : W7 m ρ c (Proc.devRef .tc main_v13_1) = steps (shapeCast S2x256x256 (arg15 m c) shapeCasts_S2x4x64x256_S2x256x256) (both3 m c) (shapeCast S2x256x256 (arg18 m c) shapeCasts_S2x4x64x256_S2x256x256) (shapeCast S2x256x256 (arg19 m c) shapeCasts_S2x4x64x256_S2x256x256) := by
  refine (W7_arr m ρ c 6).trans ((res3_6 (V6 m ρ) c).trans ?_)
  rw [show V6 m ρ c main_v10 = shapeCast S2x256x256 (arg15 m c) shapeCasts_S2x4x64x256_S2x256x256 from (main_v10_val m ρ c),
    show V6 m ρ c main_arg16 = arg16 m c from (W6_args m ρ c main_arg16 (by decide)),
    show V6 m ρ c main_arg17 = arg17 m c from (W6_args m ρ c main_arg17 (by decide)),
    show V6 m ρ c main_v11 = shapeCast S2x256x256 (arg18 m c) shapeCasts_S2x4x64x256_S2x256x256 from (main_v11_val m ρ c),
    show V6 m ρ c main_v12 = shapeCast S2x256x256 (arg19 m c) shapeCasts_S2x4x64x256_S2x256x256 from (main_v12_val m ρ c)]

theorem main_v13_2_val : W7 m ρ c (Proc.devRef .tc main_v13_2) = moments (both3 m c) (shapeCast S2x256x256 (arg18 m c) shapeCasts_S2x4x64x256_S2x256x256) := by
  refine (W7_arr m ρ c 7).trans ((res3_7 (V6 m ρ) c).trans ?_)
  rw [show V6 m ρ c main_arg16 = arg16 m c from (W6_args m ρ c main_arg16 (by decide)),
    show V6 m ρ c main_arg17 = arg17 m c from (W6_args m ρ c main_arg17 (by decide)),
    show V6 m ρ c main_v11 = shapeCast S2x256x256 (arg18 m c) shapeCasts_S2x4x64x256_S2x256x256 from (main_v11_val m ρ c)]

theorem main_v13_3_val : W7 m ρ c (Proc.devRef .tc main_v13_3) = squares (both3 m c) (shapeCast S2x256x256 (arg19 m c) shapeCasts_S2x4x64x256_S2x256x256) := by
  refine (W7_arr m ρ c 8).trans ((res3_8 (V6 m ρ) c).trans ?_)
  rw [show V6 m ρ c main_arg16 = arg16 m c from (W6_args m ρ c main_arg16 (by decide)),
    show V6 m ρ c main_arg17 = arg17 m c from (W6_args m ρ c main_arg17 (by decide)),
    show V6 m ρ c main_v12 = shapeCast S2x256x256 (arg19 m c) shapeCasts_S2x4x64x256_S2x256x256 from (main_v12_val m ρ c)]

theorem main_v14_val : W8 m ρ c (Proc.devRef .tc main_v14) = shapeCast S2x4x64x256 (both3 m c) shapeCasts_S2x256x256_S2x4x64x256 := by
  have e : W8 m ρ c (Proc.devRef .tc main_v14) = shapeCast S2x4x64x256 (W7 m ρ c (Proc.devRef .tc main_v13_0)) shapeCasts_S2x256x256_S2x4x64x256 := by
    simp only [W8, hostOps4]
    after_results_simp <;> rfl
  rw [e, show W7 m ρ c (Proc.devRef .tc main_v13_0) = both3 m c from (main_v13_0_val m ρ c)]
theorem main_v15_val : W8 m ρ c (Proc.devRef .tc main_v15) = steps (arg15 m c) (shapeCast S2x4x64x256 (both3 m c) shapeCasts_S2x256x256_S2x4x64x256) (arg18 m c) (arg19 m c) := by
  have e : W8 m ρ c (Proc.devRef .tc main_v15) = shapeCast S2x4x64x256 (W7 m ρ c (Proc.devRef .tc main_v13_1)) shapeCasts_S2x256x256_S2x4x64x256 := by
    simp only [W8, hostOps4]
    after_results_simp <;> rfl
  rw [e, show W7 m ρ c (Proc.devRef .tc main_v13_1) = steps (shapeCast S2x256x256 (arg15 m c) shapeCasts_S2x4x64x256_S2x256x256) (both3 m c) (shapeCast S2x256x256 (arg18 m c) shapeCasts_S2x4x64x256_S2x256x256) (shapeCast S2x256x256 (arg19 m c) shapeCasts_S2x4x64x256_S2x256x256) from (main_v13_1_val m ρ c)]
  exact cast_steps _ _ _ _ _ _
theorem main_v16_val : W8 m ρ c (Proc.devRef .tc main_v16) = moments (shapeCast S2x4x64x256 (both3 m c) shapeCasts_S2x256x256_S2x4x64x256) (arg18 m c) := by
  have e : W8 m ρ c (Proc.devRef .tc main_v16) = shapeCast S2x4x64x256 (W7 m ρ c (Proc.devRef .tc main_v13_2)) shapeCasts_S2x256x256_S2x4x64x256 := by
    simp only [W8, hostOps4]
    after_results_simp <;> rfl
  rw [e, show W7 m ρ c (Proc.devRef .tc main_v13_2) = moments (both3 m c) (shapeCast S2x256x256 (arg18 m c) shapeCasts_S2x4x64x256_S2x256x256) from (main_v13_2_val m ρ c)]
  exact cast_moments _ _ _ _
theorem main_v17_val : W8 m ρ c (Proc.devRef .tc main_v17) = squares (shapeCast S2x4x64x256 (both3 m c) shapeCasts_S2x256x256_S2x4x64x256) (arg19 m c) := by
  have e : W8 m ρ c (Proc.devRef .tc main_v17) = shapeCast S2x4x64x256 (W7 m ρ c (Proc.devRef .tc main_v13_3)) shapeCasts_S2x256x256_S2x4x64x256 := by
    simp only [W8, hostOps4]
    after_results_simp <;> rfl
  rw [e, show W7 m ρ c (Proc.devRef .tc main_v13_3) = squares (both3 m c) (shapeCast S2x256x256 (arg19 m c) shapeCasts_S2x4x64x256_S2x256x256) from (main_v13_3_val m ρ c)]
  exact cast_squares _ _ _ _
/-! ## The sixteen results -/

theorem out_main_v0_0 : W8 m ρ c (Proc.devRef .tc main_v0_0) = both0 m c :=
  ((W8_of m ρ c main_v0_0 (by decide)).trans ((W7_of m ρ c main_v0_0 (by decide)).trans ((W6_of m ρ c main_v0_0 (by decide)).trans ((W5_of m ρ c main_v0_0 (by decide)).trans ((W4_of m ρ c main_v0_0 (by decide)).trans ((W3_of m ρ c main_v0_0 (by decide)).trans ((W2_of m ρ c main_v0_0 (by decide)).trans (main_v0_0_val m ρ c))))))))

theorem out_main_v0_1 : W8 m ρ c (Proc.devRef .tc main_v0_1) = steps (arg0 m c) (both0 m c) (arg3 m c) (arg4 m c) :=
  ((W8_of m ρ c main_v0_1 (by decide)).trans ((W7_of m ρ c main_v0_1 (by decide)).trans ((W6_of m ρ c main_v0_1 (by decide)).trans ((W5_of m ρ c main_v0_1 (by decide)).trans ((W4_of m ρ c main_v0_1 (by decide)).trans ((W3_of m ρ c main_v0_1 (by decide)).trans ((W2_of m ρ c main_v0_1 (by decide)).trans (main_v0_1_val m ρ c))))))))

theorem out_main_v0_2 : W8 m ρ c (Proc.devRef .tc main_v0_2) = moments (both0 m c) (arg3 m c) :=
  ((W8_of m ρ c main_v0_2 (by decide)).trans ((W7_of m ρ c main_v0_2 (by decide)).trans ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans (main_v0_2_val m ρ c))))))))

theorem out_main_v0_3 : W8 m ρ c (Proc.devRef .tc main_v0_3) = squares (both0 m c) (arg4 m c) :=
  ((W8_of m ρ c main_v0_3 (by decide)).trans ((W7_of m ρ c main_v0_3 (by decide)).trans ((W6_of m ρ c main_v0_3 (by decide)).trans ((W5_of m ρ c main_v0_3 (by decide)).trans ((W4_of m ρ c main_v0_3 (by decide)).trans ((W3_of m ρ c main_v0_3 (by decide)).trans ((W2_of m ρ c main_v0_3 (by decide)).trans (main_v0_3_val m ρ c))))))))

theorem out_main_v5 : W8 m ρ c (Proc.devRef .tc main_v5) = turn (both1 m c) :=
  ((W8_of m ρ c main_v5 (by decide)).trans ((W7_of m ρ c main_v5 (by decide)).trans ((W6_of m ρ c main_v5 (by decide)).trans ((W5_of m ρ c main_v5 (by decide)).trans (main_v5_val m ρ c)))))

theorem out_main_v6 : W8 m ρ c (Proc.devRef .tc main_v6) = steps (arg5 m c) (turn (both1 m c)) (arg8 m c) (arg9 m c) :=
  ((W8_of m ρ c main_v6 (by decide)).trans ((W7_of m ρ c main_v6 (by decide)).trans ((W6_of m ρ c main_v6 (by decide)).trans ((W5_of m ρ c main_v6 (by decide)).trans (main_v6_val m ρ c)))))

theorem out_main_v7 : W8 m ρ c (Proc.devRef .tc main_v7) = moments (turn (both1 m c)) (arg8 m c) :=
  ((W8_of m ρ c main_v7 (by decide)).trans ((W7_of m ρ c main_v7 (by decide)).trans ((W6_of m ρ c main_v7 (by decide)).trans ((W5_of m ρ c main_v7 (by decide)).trans (main_v7_val m ρ c)))))

theorem out_main_v8 : W8 m ρ c (Proc.devRef .tc main_v8) = squares (turn (both1 m c)) (arg9 m c) :=
  ((W8_of m ρ c main_v8 (by decide)).trans ((W7_of m ρ c main_v8 (by decide)).trans ((W6_of m ρ c main_v8 (by decide)).trans ((W5_of m ρ c main_v8 (by decide)).trans (main_v8_val m ρ c)))))

theorem out_main_v9_0 : W8 m ρ c (Proc.devRef .tc main_v9_0) = both2 m c :=
  ((W8_of m ρ c main_v9_0 (by decide)).trans ((W7_of m ρ c main_v9_0 (by decide)).trans ((W6_of m ρ c main_v9_0 (by decide)).trans (main_v9_0_val m ρ c))))

theorem out_main_v9_1 : W8 m ρ c (Proc.devRef .tc main_v9_1) = steps (arg10 m c) (both2 m c) (arg13 m c) (arg14 m c) :=
  ((W8_of m ρ c main_v9_1 (by decide)).trans ((W7_of m ρ c main_v9_1 (by decide)).trans ((W6_of m ρ c main_v9_1 (by decide)).trans (main_v9_1_val m ρ c))))

theorem out_main_v9_2 : W8 m ρ c (Proc.devRef .tc main_v9_2) = moments (both2 m c) (arg13 m c) :=
  ((W8_of m ρ c main_v9_2 (by decide)).trans ((W7_of m ρ c main_v9_2 (by decide)).trans ((W6_of m ρ c main_v9_2 (by decide)).trans (main_v9_2_val m ρ c))))

theorem out_main_v9_3 : W8 m ρ c (Proc.devRef .tc main_v9_3) = squares (both2 m c) (arg14 m c) :=
  ((W8_of m ρ c main_v9_3 (by decide)).trans ((W7_of m ρ c main_v9_3 (by decide)).trans ((W6_of m ρ c main_v9_3 (by decide)).trans (main_v9_3_val m ρ c))))

theorem out_main_v14 : W8 m ρ c (Proc.devRef .tc main_v14) = shapeCast S2x4x64x256 (both3 m c) shapeCasts_S2x256x256_S2x4x64x256 :=
  (main_v14_val m ρ c)

theorem out_main_v15 : W8 m ρ c (Proc.devRef .tc main_v15) = steps (arg15 m c) (shapeCast S2x4x64x256 (both3 m c) shapeCasts_S2x256x256_S2x4x64x256) (arg18 m c) (arg19 m c) :=
  (main_v15_val m ρ c)

theorem out_main_v16 : W8 m ρ c (Proc.devRef .tc main_v16) = moments (shapeCast S2x4x64x256 (both3 m c) shapeCasts_S2x256x256_S2x4x64x256) (arg18 m c) :=
  (main_v16_val m ρ c)

theorem out_main_v17 : W8 m ρ c (Proc.devRef .tc main_v17) = squares (shapeCast S2x4x64x256 (both3 m c) shapeCasts_S2x256x256_S2x4x64x256) (arg19 m c) :=
  (main_v17_val m ρ c)

end Cert.OptA

end
-- ==== Proof.OptAReference.lean ====
/- What the reference's step of AdamW computes for the four weights. -/
module

public import proofs.«01_k».proof.Proof.Gen.Reference6Ideal.Read
public import proofs.«01_k».proof.Proof.OptModel

@[expose] public section

noncomputable section

namespace Cert.OptA

open Cert.Reference6Ideal Cert.Reference6Ideal.Gen Cert.Reference6Ideal.Read Idealize.ShloMosaic Idealize.ShloMosaic.TcCoe Cert.Products Cert.Opt

/-! ## `w_ada` -/

/-- The gradient's two layers. -/
theorem stack0 (x1 x2 : Mat 1024 1536) : val_main_v2 (F := Ideal) x1 x2 = layers x1 x2 := by
  funext j
  obtain ⟨l, p, q, rfl⟩ : ∃ (l : Fin 2) (p : Fin 1024) (q : Fin 1536), j = ix3 l p q :=
    ⟨j 0, j 1, j 2, by funext a; fin_cases a <;> rfl⟩
  obtain rfl | rfl : l = 0 ∨ l = 1 := by omega
  · pointwise [val_main_v2, val_main_v0]
    rfl
  · pointwise [val_main_v2, val_main_v1]
    rfl

theorem ref_v2 (x1 x2 : Mat 1024 1536) : val_main_v2 (F := Ideal) x1 x2 = layers x1 x2 := stack0 x1 x2

/-- The new first moments. -/
theorem ref_v7 (x1 x2 : Mat 1024 1536) (x3 : Two 1024 1536) :
    val_main_v7 (F := Ideal) x1 x2 x3 = moments (layers x1 x2) x3 := by
  rw [← ref_v2]
  rfl

/-- The new second moments. -/
theorem ref_v13 (x1 x2 : Mat 1024 1536) (x4 : Two 1024 1536) :
    val_main_v13 (F := Ideal) x1 x2 x4 = squares (layers x1 x2) x4 := by
  rw [← ref_v2]
  rfl

/-- The change of the weight. -/
theorem ref_v26 (x1 x2 : Mat 1024 1536) (x0 x3 x4 : Two 1024 1536) :
    val_main_v26 (F := Ideal) x0 x1 x2 x3 x4 = steps x0 (layers x1 x2) x3 x4 := by
  rw [← ref_v2]
  rfl

/-! ## `w_in` -/

/-- The gradient's two layers. -/
theorem stack1 (x6 x7 : Mat 2320 1024) : val_main_v29 (F := Ideal) x6 x7 = layers x6 x7 := by
  funext j
  obtain ⟨l, p, q, rfl⟩ : ∃ (l : Fin 2) (p : Fin 2320) (q : Fin 1024), j = ix3 l p q :=
    ⟨j 0, j 1, j 2, by funext a; fin_cases a <;> rfl⟩
  obtain rfl | rfl : l = 0 ∨ l = 1 := by omega
  · pointwise [val_main_v29, val_main_v27]
    rfl
  · pointwise [val_main_v29, val_main_v28]
    rfl

/-- The gradient, turned. -/
theorem ref_v30 (x6 x7 : Mat 2320 1024) : val_main_v30 (F := Ideal) x6 x7 = turn (layers x6 x7) := by
  funext j
  obtain ⟨l, p, q, rfl⟩ : ∃ (l : Fin 2) (p : Fin 1024) (q : Fin 2320), j = ix3 l p q :=
    ⟨j 0, j 1, j 2, by funext a; fin_cases a <;> rfl⟩
  pointwise [val_main_v30]
  rw [stack1]
  rfl

/-- The new first moments. -/
theorem ref_v35 (x6 x7 : Mat 2320 1024) (x8 : Two 1024 2320) :
    val_main_v35 (F := Ideal) x6 x7 x8 = moments (turn (layers x6 x7)) x8 := by
  rw [← ref_v30]
  rfl

/-- The new second moments. -/
theorem ref_v41 (x6 x7 : Mat 2320 1024) (x9 : Two 1024 2320) :
    val_main_v41 (F := Ideal) x6 x7 x9 = squares (turn (layers x6 x7)) x9 := by
  rw [← ref_v30]
  rfl

/-- The change of the weight. -/
theorem ref_v54 (x6 x7 : Mat 2320 1024) (x5 x8 x9 : Two 1024 2320) :
    val_main_v54 (F := Ideal) x5 x6 x7 x8 x9 = steps x5 (turn (layers x6 x7)) x8 x9 := by
  rw [← ref_v30]
  rfl

/-! ## `w_ssd_out` -/

/-- The gradient's two layers. -/
theorem stack2 (x11 x12 : Mat 512 1024) : val_main_v57 (F := Ideal) x11 x12 = layers x11 x12 := by
  funext j
  obtain ⟨l, p, q, rfl⟩ : ∃ (l : Fin 2) (p : Fin 512) (q : Fin 1024), j = ix3 l p q :=
    ⟨j 0, j 1, j 2, by funext a; fin_cases a <;> rfl⟩
  obtain rfl | rfl : l = 0 ∨ l = 1 := by omega
  · pointwise [val_main_v57, val_main_v55]
    rfl
  · pointwise [val_main_v57, val_main_v56]
    rfl

theorem ref_v57 (x11 x12 : Mat 512 1024) : val_main_v57 (F := Ideal) x11 x12 = layers x11 x12 := stack2 x11 x12

/-- The new first moments. -/
theorem ref_v62 (x11 x12 : Mat 512 1024) (x13 : Two 512 1024) :
    val_main_v62 (F := Ideal) x11 x12 x13 = moments (layers x11 x12) x13 := by
  rw [← ref_v57]
  rfl

/-- The new second moments. -/
theorem ref_v68 (x11 x12 : Mat 512 1024) (x14 : Two 512 1024) :
    val_main_v68 (F := Ideal) x11 x12 x14 = squares (layers x11 x12) x14 := by
  rw [← ref_v57]
  rfl

/-- The change of the weight. -/
theorem ref_v81 (x11 x12 : Mat 512 1024) (x10 x13 x14 : Two 512 1024) :
    val_main_v81 (F := Ideal) x10 x11 x12 x13 x14 = steps x10 (layers x11 x12) x13 x14 := by
  rw [← ref_v57]
  rfl

/-! ## `pool_w` -/

/-- The gradient's two layers. -/
theorem stack3 (x16 x17 : Mat 256 256) : val_main_v84 (F := Ideal) x16 x17 = layers x16 x17 := by
  funext j
  obtain ⟨l, p, q, rfl⟩ : ∃ (l : Fin 2) (p : Fin 256) (q : Fin 256), j = ix3 l p q :=
    ⟨j 0, j 1, j 2, by funext a; fin_cases a <;> rfl⟩
  obtain rfl | rfl : l = 0 ∨ l = 1 := by omega
  · pointwise [val_main_v84, val_main_v82]
    rfl
  · pointwise [val_main_v84, val_main_v83]
    rfl

/-- The gradient in the weight's shape. -/
theorem ref_v85 (x16 x17 : Mat 256 256) (h : S2x256x256.ShapeCasts S2x4x64x256) : val_main_v85 (F := Ideal) x16 x17 = shapeCast S2x4x64x256 (layers x16 x17) h := by
  unfold val_main_v85
  rw [stack3]

/-- The new first moments. -/
theorem ref_v90 (x16 x17 : Mat 256 256) (h : S2x256x256.ShapeCasts S2x4x64x256) (x18 : S2x4x64x256.Idx → EReal) :
    val_main_v90 (F := Ideal) x16 x17 x18 = moments (shapeCast S2x4x64x256 (layers x16 x17) h) x18 := by
  rw [← ref_v85 _ _ h]
  rfl

/-- The new second moments. -/
theorem ref_v96 (x16 x17 : Mat 256 256) (h : S2x256x256.ShapeCasts S2x4x64x256) (x19 : S2x4x64x256.Idx → EReal) :
    val_main_v96 (F := Ideal) x16 x17 x19 = squares (shapeCast S2x4x64x256 (layers x16 x17) h) x19 := by
  rw [← ref_v85 _ _ h]
  rfl

/-- The change of the weight. -/
theorem ref_v109 (x16 x17 : Mat 256 256) (h : S2x256x256.ShapeCasts S2x4x64x256) (x15 x18 x19 : S2x4x64x256.Idx → EReal) :
    val_main_v109 (F := Ideal) x15 x16 x17 x18 x19 = steps x15 (shapeCast S2x4x64x256 (layers x16 x17) h) x18 x19 := by
  rw [← ref_v85 _ _ h]
  rfl

end Cert.OptA

end
-- ==== Proof.OptBRun.lean ====
/- Every buffer of the program at its end. -/
module

public import proofs.«01_k».proof.Proof.Gen.Kernel7Ideal.Frame

@[expose] public section

noncomputable section

namespace Cert.OptB

open Cert.Kernel7Ideal Cert.Kernel7Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends, and every buffer outside the calls' scratch then holds what the
    fold of the calls and of the host's operations (`W4`) leaves in it. -/
theorem run : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ c b hb => h c _ (mem_uc b hb))

end Cert.OptB

end
-- ==== Proof.OptBCalls.lean ====
/- What the optimiser's calls for `w_pool_out`, `w_out`, `w_gate_up` and `w_down` leave in their arrays. -/
module

public import proofs.«01_k».proof.Proof.Gen.Kernel7Ideal.Frame
public import proofs.«01_k».proof.Proof.OptModel

@[expose] public section

noncomputable section

namespace Cert.OptB

open Cert.Kernel7Ideal Cert.Kernel7Ideal.Gen Idealize.ShloMosaic Idealize.ShloMosaic.TcCoe Cert.Products Cert.Opt

variable (V : (c : Dev nD) → (b : Ref sig .tc) → Buf (Elt Ideal) ((c : Thread nD τ).loc b)) (c : Dev nD)

/-! ## The call for `w_pool_out` -/

section

variable (i : grid0.Coords) (x y : FVec Ideal S256x1024 .f32) (w m v : FVec Ideal S1x256x1024 .f32)
variable (t : Fin cfg0.N) (p : Fin 256) (q : Fin 1024)

theorem pick0 : k0_pay5 (F := Ideal) i x y (ix2 p q) = ofLayer (i 0).val (x (ix2 p q)) (y (ix2 p q)) := by
  have h : (i 0).val < 2 := (i 0).isLt
  unfold k0_pay5 ofLayer
  rcases (by omega : (i 0).val = 0 ∨ (i 0).val = 1) with e | e <;> rw [e] <;> rfl

theorem pay0_5 : k0_pay4 (F := Ideal) (k0_pay5 i x y) (ix3 (0 : Fin 1) p q) = ofLayer (i 0).val (x (ix2 p q)) (y (ix2 p q)) := by
  pointwise [k0_pay4]
  exact pick0 i x y p q

theorem first0 : k0_pay6 (F := Ideal) i x y m (ix2 p q) = moment (ofLayer (i 0).val (x (ix2 p q)) (y (ix2 p q))) (m (ix3 (0 : Fin 1) p q)) := by
  pointwise [k0_pay6]
  rw [pick0]
  rfl

theorem second0 : k0_pay7 (F := Ideal) i x y v (ix2 p q) = square (ofLayer (i 0).val (x (ix2 p q)) (y (ix2 p q))) (v (ix3 (0 : Fin 1) p q)) := by
  pointwise [k0_pay7]
  rw [pick0]
  rfl

theorem pay0_6 : k0_pay1 (F := Ideal) (k0_pay8 i x y w m v) (ix3 (0 : Fin 1) p q)
    = step (w (ix3 (0 : Fin 1) p q)) (ofLayer (i 0).val (x (ix2 p q)) (y (ix2 p q))) (m (ix3 (0 : Fin 1) p q)) (v (ix3 (0 : Fin 1) p q)) := by
  pointwise [k0_pay1, k0_pay8]
  rw [first0, second0]
  rfl

theorem pay0_7 : k0_pay2 (F := Ideal) (k0_pay6 i x y m) (ix3 (0 : Fin 1) p q)
    = moment (ofLayer (i 0).val (x (ix2 p q)) (y (ix2 p q))) (m (ix3 (0 : Fin 1) p q)) := by
  pointwise [k0_pay2]
  exact first0 i x y m p q

theorem pay0_8 : k0_pay3 (F := Ideal) (k0_pay7 i x y v) (ix3 (0 : Fin 1) p q)
    = square (ofLayer (i 0).val (x (ix2 p q)) (y (ix2 p q))) (v (ix3 (0 : Fin 1) p q)) := by
  pointwise [k0_pay3]
  exact second0 i x y v p q

theorem idx0 : ∀ t : Fin grid0.N,
    (win0_5.index t 0 = (grid0.coords t 0).val ∧ win0_5.index t 2 = 0)
    ∧ (((grid0.coords t 0).val = 1 → win0_4.index t 0 = win0_5.index t 1) ∧ win0_4.index t 1 = 0)
    ∧ (¬ (grid0.coords t 0).val = 1 → win0_3.index t 0 = win0_5.index t 1) ∧ win0_3.index t 1 = 0 := by
  decide +kernel

theorem hit0 : ∀ (l : Fin 2) (a : Fin 1), ∃ t : Fin grid0.N,
    win0_5.index t 0 = l.val ∧ win0_5.index t 1 = a.val := by
  decide +kernel

/-- Where the element of the block at row `p` and column `q` lies. -/
abbrev spot0 : S2x256x1024.Idx := ((cfg0.win 5).blk t).view.emb (ix3 (0 : Fin 1) p q)

/-- The block of the gradient that the call picks is the current layer's. -/
theorem grad0 : ofLayer (grid0.coords t 0).val ((iblk0 V c 3 t : S256x1024.Idx → EReal) (ix2 p q)) ((iblk0 V c 4 t : S256x1024.Idx → EReal) (ix2 p q))
    = (layers (V c main_arg1) (V c main_arg2)) (spot0 t p q) := by
  obtain ⟨⟨g0, g2⟩, ⟨h40, h41⟩, h30, h31⟩ := idx0 t
  have e0 : (spot0 t p q 0).val = (grid0.coords t 0).val := by
    show win0_5.index t 0 * 1 + 1 * 0 = _
    rw [g0]; omega
  show (if (grid0.coords t 0).val = 1 then _ else _) = if (spot0 t p q 0).val = 1 then _ else _
  rw [e0]
  by_cases h : (grid0.coords t 0).val = 1
  · rw [if_pos h, if_pos h]
    show V c main_arg2 _ = V c main_arg2 _
    congr 1; funext a; fin_cases a
    · ext; show win0_4.index t 0 * 256 + 1 * p.val = win0_5.index t 1 * 256 + 1 * p.val; rw [h40 h]
    · ext; show win0_4.index t 1 * 1024 + 1 * q.val = win0_5.index t 2 * 1024 + 1 * q.val; rw [h41, g2]
  · rw [if_neg h, if_neg h]
    show V c main_arg1 _ = V c main_arg1 _
    congr 1; funext a; fin_cases a
    · ext; show win0_3.index t 0 * 256 + 1 * p.val = win0_5.index t 1 * 256 + 1 * p.val; rw [h30 h]
    · ext; show win0_3.index t 1 * 1024 + 1 * q.val = win0_5.index t 2 * 1024 + 1 * q.val; rw [h31, g2]

/-- Every index lies in some step's block. -/
theorem place0 (i : S2x256x1024.Idx) : ∃ (t : Fin cfg0.N) (p : Fin 256) (q : Fin 1024), spot0 t p q = i := by
  have h0 : (i 0).val < 2 := (i 0).isLt
  have h1 : (i 1).val < 256 := (i 1).isLt
  have h2 : (i 2).val < 1024 := (i 2).isLt
  obtain ⟨t, e0, e1⟩ := hit0 ⟨(i 0).val, h0⟩ ⟨(i 1).val / 256, by omega⟩
  obtain ⟨⟨-, g2⟩, -⟩ := idx0 t
  refine ⟨t, ⟨(i 1).val % 256, by omega⟩, ⟨(i 2).val, h2⟩, ?_⟩
  funext a; fin_cases a
  · ext; show win0_5.index t 0 * 1 + 1 * 0 = (i 0).val
    rw [e0]; show (i 0).val * 1 + _ = _; omega
  · ext; show win0_5.index t 1 * 256 + 1 * ((i 1).val % 256) = (i 1).val
    rw [e1]; show (i 1).val / 256 * 256 + _ = _; omega
  · ext; show win0_5.index t 2 * 1024 + 1 * (i 2).val = (i 2).val
    rw [g2]; omega

/-- The gradient. -/
theorem res0_5 : (dat0 V c).arrAt 5 cfg0.N = (layers (V c main_arg1) (V c main_arg2)) :=
  (dat0 V c).arrAt_eq_of_cover 5 _ (fun t _ => by
    show (cfg0.win 5).cut (grid0.coords t) ((dat0 V c).after 5 t) = _
    rw [after0_5]
    funext y
    obtain ⟨p, q, rfl⟩ := row_col (r := 256) (n := 1024) y
    show out0_5 _ _ _ _ _ _ (ix3 (0 : Fin 1) p q) = _
    rw [out0_5, View.canon_unit_zero (by decide)]
    repeat rw [View.ld_unit_zero (by decide)]
    rw [pay0_5, grad0]
    rfl) fun i => by
    obtain ⟨t, p, q, rfl⟩ := place0 i
    exact ⟨t, flush0_5 t, Finset.mem_map_of_mem _ (Finset.mem_univ (ix3 (0 : Fin 1) p q))⟩

/-- The change of the weight. -/
theorem res0_6 : (dat0 V c).arrAt 6 cfg0.N = steps (V c main_arg0) (layers (V c main_arg1) (V c main_arg2)) (V c main_arg3) (V c main_arg4) :=
  (dat0 V c).arrAt_eq_of_cover 6 _ (fun t _ => by
    show (cfg0.win 6).cut (grid0.coords t) ((dat0 V c).after 6 t) = _
    rw [after0_6]
    funext y
    obtain ⟨p, q, rfl⟩ := row_col (r := 256) (n := 1024) y
    show out0_6 _ _ _ _ _ _ (ix3 (0 : Fin 1) p q) = _
    rw [out0_6, View.canon_unit_zero (by decide)]
    repeat rw [View.ld_unit_zero (by decide)]
    rw [pay0_6, grad0]
    rfl) fun i => by
    obtain ⟨t, p, q, rfl⟩ := place0 i
    exact ⟨t, flush0_6 t, Finset.mem_map_of_mem _ (Finset.mem_univ (ix3 (0 : Fin 1) p q))⟩

/-- The new first moments. -/
theorem res0_7 : (dat0 V c).arrAt 7 cfg0.N = moments (layers (V c main_arg1) (V c main_arg2)) (V c main_arg3) :=
  (dat0 V c).arrAt_eq_of_cover 7 _ (fun t _ => by
    show (cfg0.win 7).cut (grid0.coords t) ((dat0 V c).after 7 t) = _
    rw [after0_7]
    funext y
    obtain ⟨p, q, rfl⟩ := row_col (r := 256) (n := 1024) y
    show out0_7 _ _ _ _ _ _ (ix3 (0 : Fin 1) p q) = _
    rw [out0_7, View.canon_unit_zero (by decide)]
    repeat rw [View.ld_unit_zero (by decide)]
    rw [pay0_7, grad0]
    rfl) fun i => by
    obtain ⟨t, p, q, rfl⟩ := place0 i
    exact ⟨t, flush0_7 t, Finset.mem_map_of_mem _ (Finset.mem_univ (ix3 (0 : Fin 1) p q))⟩

/-- The new second moments. -/
theorem res0_8 : (dat0 V c).arrAt 8 cfg0.N = squares (layers (V c main_arg1) (V c main_arg2)) (V c main_arg4) :=
  (dat0 V c).arrAt_eq_of_cover 8 _ (fun t _ => by
    show (cfg0.win 8).cut (grid0.coords t) ((dat0 V c).after 8 t) = _
    rw [after0_8]
    funext y
    obtain ⟨p, q, rfl⟩ := row_col (r := 256) (n := 1024) y
    show out0_8 _ _ _ _ _ _ (ix3 (0 : Fin 1) p q) = _
    rw [out0_8, View.canon_unit_zero (by decide)]
    repeat rw [View.ld_unit_zero (by decide)]
    rw [pay0_8, grad0]
    rfl) fun i => by
    obtain ⟨t, p, q, rfl⟩ := place0 i
    exact ⟨t, flush0_8 t, Finset.mem_map_of_mem _ (Finset.mem_univ (ix3 (0 : Fin 1) p q))⟩

end

/-! ## The call for `w_out` -/

section

variable (i : grid1.Coords) (x y : FVec Ideal S256x1024 .f32) (w m v : FVec Ideal S1x256x1024 .f32)
variable (t : Fin cfg1.N) (p : Fin 256) (q : Fin 1024)

theorem pick1 : k1_pay5 (F := Ideal) i x y (ix2 p q) = ofLayer (i 0).val (x (ix2 p q)) (y (ix2 p q)) := by
  have h : (i 0).val < 2 := (i 0).isLt
  unfold k1_pay5 ofLayer
  rcases (by omega : (i 0).val = 0 ∨ (i 0).val = 1) with e | e <;> rw [e] <;> rfl

theorem pay1_5 : k1_pay4 (F := Ideal) (k1_pay5 i x y) (ix3 (0 : Fin 1) p q) = ofLayer (i 0).val (x (ix2 p q)) (y (ix2 p q)) := by
  pointwise [k1_pay4]
  exact pick1 i x y p q

theorem first1 : k1_pay6 (F := Ideal) i x y m (ix2 p q) = moment (ofLayer (i 0).val (x (ix2 p q)) (y (ix2 p q))) (m (ix3 (0 : Fin 1) p q)) := by
  pointwise [k1_pay6]
  rw [pick1]
  rfl

theorem second1 : k1_pay7 (F := Ideal) i x y v (ix2 p q) = square (ofLayer (i 0).val (x (ix2 p q)) (y (ix2 p q))) (v (ix3 (0 : Fin 1) p q)) := by
  pointwise [k1_pay7]
  rw [pick1]
  rfl

theorem pay1_6 : k1_pay1 (F := Ideal) (k1_pay8 i x y w m v) (ix3 (0 : Fin 1) p q)
    = step (w (ix3 (0 : Fin 1) p q)) (ofLayer (i 0).val (x (ix2 p q)) (y (ix2 p q))) (m (ix3 (0 : Fin 1) p q)) (v (ix3 (0 : Fin 1) p q)) := by
  pointwise [k1_pay1, k1_pay8]
  rw [first1, second1]
  rfl

theorem pay1_7 : k1_pay2 (F := Ideal) (k1_pay6 i x y m) (ix3 (0 : Fin 1) p q)
    = moment (ofLayer (i 0).val (x (ix2 p q)) (y (ix2 p q))) (m (ix3 (0 : Fin 1) p q)) := by
  pointwise [k1_pay2]
  exact first1 i x y m p q

theorem pay1_8 : k1_pay3 (F := Ideal) (k1_pay7 i x y v) (ix3 (0 : Fin 1) p q)
    = square (ofLayer (i 0).val (x (ix2 p q)) (y (ix2 p q))) (v (ix3 (0 : Fin 1) p q)) := by
  pointwise [k1_pay3]
  exact second1 i x y v p q

theorem idx1 : ∀ t : Fin grid1.N,
    (win1_5.index t 0 = (grid1.coords t 0).val ∧ win1_5.index t 2 = 0)
    ∧ (((grid1.coords t 0).val = 1 → win1_4.index t 0 = win1_5.index t 1) ∧ win1_4.index t 1 = 0)
    ∧ (¬ (grid1.coords t 0).val = 1 → win1_3.index t 0 = win1_5.index t 1) ∧ win1_3.index t 1 = 0 := by
  decide +kernel

theorem hit1 : ∀ (l : Fin 2) (a : Fin 1), ∃ t : Fin grid1.N,
    win1_5.index t 0 = l.val ∧ win1_5.index t 1 = a.val := by
  decide +kernel

/-- Where the element of the block at row `p` and column `q` lies. -/
abbrev spot1 : S2x256x1024.Idx := ((cfg1.win 5).blk t).view.emb (ix3 (0 : Fin 1) p q)

/-- The block of the gradient that the call picks is the current layer's. -/
theorem grad1 : ofLayer (grid1.coords t 0).val ((iblk1 V c 3 t : S256x1024.Idx → EReal) (ix2 p q)) ((iblk1 V c 4 t : S256x1024.Idx → EReal) (ix2 p q))
    = (layers (V c main_arg6) (V c main_arg7)) (spot1 t p q) := by
  obtain ⟨⟨g0, g2⟩, ⟨h40, h41⟩, h30, h31⟩ := idx1 t
  have e0 : (spot1 t p q 0).val = (grid1.coords t 0).val := by
    show win1_5.index t 0 * 1 + 1 * 0 = _
    rw [g0]; omega
  show (if (grid1.coords t 0).val = 1 then _ else _) = if (spot1 t p q 0).val = 1 then _ else _
  rw [e0]
  by_cases h : (grid1.coords t 0).val = 1
  · rw [if_pos h, if_pos h]
    show V c main_arg7 _ = V c main_arg7 _
    congr 1; funext a; fin_cases a
    · ext; show win1_4.index t 0 * 256 + 1 * p.val = win1_5.index t 1 * 256 + 1 * p.val; rw [h40 h]
    · ext; show win1_4.index t 1 * 1024 + 1 * q.val = win1_5.index t 2 * 1024 + 1 * q.val; rw [h41, g2]
  · rw [if_neg h, if_neg h]
    show V c main_arg6 _ = V c main_arg6 _
    congr 1; funext a; fin_cases a
    · ext; show win1_3.index t 0 * 256 + 1 * p.val = win1_5.index t 1 * 256 + 1 * p.val; rw [h30 h]
    · ext; show win1_3.index t 1 * 1024 + 1 * q.val = win1_5.index t 2 * 1024 + 1 * q.val; rw [h31, g2]

/-- Every index lies in some step's block. -/
theorem place1 (i : S2x256x1024.Idx) : ∃ (t : Fin cfg1.N) (p : Fin 256) (q : Fin 1024), spot1 t p q = i := by
  have h0 : (i 0).val < 2 := (i 0).isLt
  have h1 : (i 1).val < 256 := (i 1).isLt
  have h2 : (i 2).val < 1024 := (i 2).isLt
  obtain ⟨t, e0, e1⟩ := hit1 ⟨(i 0).val, h0⟩ ⟨(i 1).val / 256, by omega⟩
  obtain ⟨⟨-, g2⟩, -⟩ := idx1 t
  refine ⟨t, ⟨(i 1).val % 256, by omega⟩, ⟨(i 2).val, h2⟩, ?_⟩
  funext a; fin_cases a
  · ext; show win1_5.index t 0 * 1 + 1 * 0 = (i 0).val
    rw [e0]; show (i 0).val * 1 + _ = _; omega
  · ext; show win1_5.index t 1 * 256 + 1 * ((i 1).val % 256) = (i 1).val
    rw [e1]; show (i 1).val / 256 * 256 + _ = _; omega
  · ext; show win1_5.index t 2 * 1024 + 1 * (i 2).val = (i 2).val
    rw [g2]; omega

/-- The gradient. -/
theorem res1_5 : (dat1 V c).arrAt 5 cfg1.N = (layers (V c main_arg6) (V c main_arg7)) :=
  (dat1 V c).arrAt_eq_of_cover 5 _ (fun t _ => by
    show (cfg1.win 5).cut (grid1.coords t) ((dat1 V c).after 5 t) = _
    rw [after1_5]
    funext y
    obtain ⟨p, q, rfl⟩ := row_col (r := 256) (n := 1024) y
    show out1_5 _ _ _ _ _ _ (ix3 (0 : Fin 1) p q) = _
    rw [out1_5, View.canon_unit_zero (by decide)]
    repeat rw [View.ld_unit_zero (by decide)]
    rw [pay1_5, grad1]
    rfl) fun i => by
    obtain ⟨t, p, q, rfl⟩ := place1 i
    exact ⟨t, flush1_5 t, Finset.mem_map_of_mem _ (Finset.mem_univ (ix3 (0 : Fin 1) p q))⟩

/-- The change of the weight. -/
theorem res1_6 : (dat1 V c).arrAt 6 cfg1.N = steps (V c main_arg5) (layers (V c main_arg6) (V c main_arg7)) (V c main_arg8) (V c main_arg9) :=
  (dat1 V c).arrAt_eq_of_cover 6 _ (fun t _ => by
    show (cfg1.win 6).cut (grid1.coords t) ((dat1 V c).after 6 t) = _
    rw [after1_6]
    funext y
    obtain ⟨p, q, rfl⟩ := row_col (r := 256) (n := 1024) y
    show out1_6 _ _ _ _ _ _ (ix3 (0 : Fin 1) p q) = _
    rw [out1_6, View.canon_unit_zero (by decide)]
    repeat rw [View.ld_unit_zero (by decide)]
    rw [pay1_6, grad1]
    rfl) fun i => by
    obtain ⟨t, p, q, rfl⟩ := place1 i
    exact ⟨t, flush1_6 t, Finset.mem_map_of_mem _ (Finset.mem_univ (ix3 (0 : Fin 1) p q))⟩

/-- The new first moments. -/
theorem res1_7 : (dat1 V c).arrAt 7 cfg1.N = moments (layers (V c main_arg6) (V c main_arg7)) (V c main_arg8) :=
  (dat1 V c).arrAt_eq_of_cover 7 _ (fun t _ => by
    show (cfg1.win 7).cut (grid1.coords t) ((dat1 V c).after 7 t) = _
    rw [after1_7]
    funext y
    obtain ⟨p, q, rfl⟩ := row_col (r := 256) (n := 1024) y
    show out1_7 _ _ _ _ _ _ (ix3 (0 : Fin 1) p q) = _
    rw [out1_7, View.canon_unit_zero (by decide)]
    repeat rw [View.ld_unit_zero (by decide)]
    rw [pay1_7, grad1]
    rfl) fun i => by
    obtain ⟨t, p, q, rfl⟩ := place1 i
    exact ⟨t, flush1_7 t, Finset.mem_map_of_mem _ (Finset.mem_univ (ix3 (0 : Fin 1) p q))⟩

/-- The new second moments. -/
theorem res1_8 : (dat1 V c).arrAt 8 cfg1.N = squares (layers (V c main_arg6) (V c main_arg7)) (V c main_arg9) :=
  (dat1 V c).arrAt_eq_of_cover 8 _ (fun t _ => by
    show (cfg1.win 8).cut (grid1.coords t) ((dat1 V c).after 8 t) = _
    rw [after1_8]
    funext y
    obtain ⟨p, q, rfl⟩ := row_col (r := 256) (n := 1024) y
    show out1_8 _ _ _ _ _ _ (ix3 (0 : Fin 1) p q) = _
    rw [out1_8, View.canon_unit_zero (by decide)]
    repeat rw [View.ld_unit_zero (by decide)]
    rw [pay1_8, grad1]
    rfl) fun i => by
    obtain ⟨t, p, q, rfl⟩ := place1 i
    exact ⟨t, flush1_8 t, Finset.mem_map_of_mem _ (Finset.mem_univ (ix3 (0 : Fin 1) p q))⟩

end

/-! ## The call for `w_gate_up` -/

section

variable (i : grid2.Coords) (x y : FVec Ideal S128x1408 .f32) (w m v : FVec Ideal S1x128x1408 .f32)
variable (t : Fin cfg2.N) (p : Fin 128) (q : Fin 1408)

theorem pick2 : k2_pay5 (F := Ideal) i x y (ix2 p q) = ofLayer (i 0).val (x (ix2 p q)) (y (ix2 p q)) := by
  have h : (i 0).val < 2 := (i 0).isLt
  unfold k2_pay5 ofLayer
  rcases (by omega : (i 0).val = 0 ∨ (i 0).val = 1) with e | e <;> rw [e] <;> rfl

theorem pay2_5 : k2_pay4 (F := Ideal) (k2_pay5 i x y) (ix3 (0 : Fin 1) p q) = ofLayer (i 0).val (x (ix2 p q)) (y (ix2 p q)) := by
  pointwise [k2_pay4]
  exact pick2 i x y p q

theorem first2 : k2_pay6 (F := Ideal) i x y m (ix2 p q) = moment (ofLayer (i 0).val (x (ix2 p q)) (y (ix2 p q))) (m (ix3 (0 : Fin 1) p q)) := by
  pointwise [k2_pay6]
  rw [pick2]
  rfl

theorem second2 : k2_pay7 (F := Ideal) i x y v (ix2 p q) = square (ofLayer (i 0).val (x (ix2 p q)) (y (ix2 p q))) (v (ix3 (0 : Fin 1) p q)) := by
  pointwise [k2_pay7]
  rw [pick2]
  rfl

theorem pay2_6 : k2_pay1 (F := Ideal) (k2_pay8 i x y w m v) (ix3 (0 : Fin 1) p q)
    = step (w (ix3 (0 : Fin 1) p q)) (ofLayer (i 0).val (x (ix2 p q)) (y (ix2 p q))) (m (ix3 (0 : Fin 1) p q)) (v (ix3 (0 : Fin 1) p q)) := by
  pointwise [k2_pay1, k2_pay8]
  rw [first2, second2]
  rfl

theorem pay2_7 : k2_pay2 (F := Ideal) (k2_pay6 i x y m) (ix3 (0 : Fin 1) p q)
    = moment (ofLayer (i 0).val (x (ix2 p q)) (y (ix2 p q))) (m (ix3 (0 : Fin 1) p q)) := by
  pointwise [k2_pay2]
  exact first2 i x y m p q

theorem pay2_8 : k2_pay3 (F := Ideal) (k2_pay7 i x y v) (ix3 (0 : Fin 1) p q)
    = square (ofLayer (i 0).val (x (ix2 p q)) (y (ix2 p q))) (v (ix3 (0 : Fin 1) p q)) := by
  pointwise [k2_pay3]
  exact second2 i x y v p q

theorem idx2 : ∀ t : Fin grid2.N,
    (win2_5.index t 0 = (grid2.coords t 0).val ∧ win2_5.index t 2 = 0)
    ∧ (((grid2.coords t 0).val = 1 → win2_4.index t 0 = win2_5.index t 1) ∧ win2_4.index t 1 = 0)
    ∧ (¬ (grid2.coords t 0).val = 1 → win2_3.index t 0 = win2_5.index t 1) ∧ win2_3.index t 1 = 0 := by
  decide +kernel

theorem hit2 : ∀ (l : Fin 2) (a : Fin 8), ∃ t : Fin grid2.N,
    win2_5.index t 0 = l.val ∧ win2_5.index t 1 = a.val := by
  decide +kernel

/-- Where the element of the block at row `p` and column `q` lies. -/
abbrev spot2 : S2x1024x1408.Idx := ((cfg2.win 5).blk t).view.emb (ix3 (0 : Fin 1) p q)

/-- The block of the gradient that the call picks is the current layer's. -/
theorem grad2 : ofLayer (grid2.coords t 0).val ((iblk2 V c 3 t : S128x1408.Idx → EReal) (ix2 p q)) ((iblk2 V c 4 t : S128x1408.Idx → EReal) (ix2 p q))
    = (layers (V c main_arg11) (V c main_arg12)) (spot2 t p q) := by
  obtain ⟨⟨g0, g2⟩, ⟨h40, h41⟩, h30, h31⟩ := idx2 t
  have e0 : (spot2 t p q 0).val = (grid2.coords t 0).val := by
    show win2_5.index t 0 * 1 + 1 * 0 = _
    rw [g0]; omega
  show (if (grid2.coords t 0).val = 1 then _ else _) = if (spot2 t p q 0).val = 1 then _ else _
  rw [e0]
  by_cases h : (grid2.coords t 0).val = 1
  · rw [if_pos h, if_pos h]
    show V c main_arg12 _ = V c main_arg12 _
    congr 1; funext a; fin_cases a
    · ext; show win2_4.index t 0 * 128 + 1 * p.val = win2_5.index t 1 * 128 + 1 * p.val; rw [h40 h]
    · ext; show win2_4.index t 1 * 1408 + 1 * q.val = win2_5.index t 2 * 1408 + 1 * q.val; rw [h41, g2]
  · rw [if_neg h, if_neg h]
    show V c main_arg11 _ = V c main_arg11 _
    congr 1; funext a; fin_cases a
    · ext; show win2_3.index t 0 * 128 + 1 * p.val = win2_5.index t 1 * 128 + 1 * p.val; rw [h30 h]
    · ext; show win2_3.index t 1 * 1408 + 1 * q.val = win2_5.index t 2 * 1408 + 1 * q.val; rw [h31, g2]

/-- Every index lies in some step's block. -/
theorem place2 (i : S2x1024x1408.Idx) : ∃ (t : Fin cfg2.N) (p : Fin 128) (q : Fin 1408), spot2 t p q = i := by
  have h0 : (i 0).val < 2 := (i 0).isLt
  have h1 : (i 1).val < 1024 := (i 1).isLt
  have h2 : (i 2).val < 1408 := (i 2).isLt
  obtain ⟨t, e0, e1⟩ := hit2 ⟨(i 0).val, h0⟩ ⟨(i 1).val / 128, by omega⟩
  obtain ⟨⟨-, g2⟩, -⟩ := idx2 t
  refine ⟨t, ⟨(i 1).val % 128, by omega⟩, ⟨(i 2).val, h2⟩, ?_⟩
  funext a; fin_cases a
  · ext; show win2_5.index t 0 * 1 + 1 * 0 = (i 0).val
    rw [e0]; show (i 0).val * 1 + _ = _; omega
  · ext; show win2_5.index t 1 * 128 + 1 * ((i 1).val % 128) = (i 1).val
    rw [e1]; show (i 1).val / 128 * 128 + _ = _; omega
  · ext; show win2_5.index t 2 * 1408 + 1 * (i 2).val = (i 2).val
    rw [g2]; omega

/-- The gradient. -/
theorem res2_5 : (dat2 V c).arrAt 5 cfg2.N = (layers (V c main_arg11) (V c main_arg12)) :=
  (dat2 V c).arrAt_eq_of_cover 5 _ (fun t _ => by
    show (cfg2.win 5).cut (grid2.coords t) ((dat2 V c).after 5 t) = _
    rw [after2_5]
    funext y
    obtain ⟨p, q, rfl⟩ := row_col (r := 128) (n := 1408) y
    show out2_5 _ _ _ _ _ _ (ix3 (0 : Fin 1) p q) = _
    rw [out2_5, View.canon_unit_zero (by decide)]
    repeat rw [View.ld_unit_zero (by decide)]
    rw [pay2_5, grad2]
    rfl) fun i => by
    obtain ⟨t, p, q, rfl⟩ := place2 i
    exact ⟨t, flush2_5 t, Finset.mem_map_of_mem _ (Finset.mem_univ (ix3 (0 : Fin 1) p q))⟩

/-- The change of the weight. -/
theorem res2_6 : (dat2 V c).arrAt 6 cfg2.N = steps (V c main_arg10) (layers (V c main_arg11) (V c main_arg12)) (V c main_arg13) (V c main_arg14) :=
  (dat2 V c).arrAt_eq_of_cover 6 _ (fun t _ => by
    show (cfg2.win 6).cut (grid2.coords t) ((dat2 V c).after 6 t) = _
    rw [after2_6]
    funext y
    obtain ⟨p, q, rfl⟩ := row_col (r := 128) (n := 1408) y
    show out2_6 _ _ _ _ _ _ (ix3 (0 : Fin 1) p q) = _
    rw [out2_6, View.canon_unit_zero (by decide)]
    repeat rw [View.ld_unit_zero (by decide)]
    rw [pay2_6, grad2]
    rfl) fun i => by
    obtain ⟨t, p, q, rfl⟩ := place2 i
    exact ⟨t, flush2_6 t, Finset.mem_map_of_mem _ (Finset.mem_univ (ix3 (0 : Fin 1) p q))⟩

/-- The new first moments. -/
theorem res2_7 : (dat2 V c).arrAt 7 cfg2.N = moments (layers (V c main_arg11) (V c main_arg12)) (V c main_arg13) :=
  (dat2 V c).arrAt_eq_of_cover 7 _ (fun t _ => by
    show (cfg2.win 7).cut (grid2.coords t) ((dat2 V c).after 7 t) = _
    rw [after2_7]
    funext y
    obtain ⟨p, q, rfl⟩ := row_col (r := 128) (n := 1408) y
    show out2_7 _ _ _ _ _ _ (ix3 (0 : Fin 1) p q) = _
    rw [out2_7, View.canon_unit_zero (by decide)]
    repeat rw [View.ld_unit_zero (by decide)]
    rw [pay2_7, grad2]
    rfl) fun i => by
    obtain ⟨t, p, q, rfl⟩ := place2 i
    exact ⟨t, flush2_7 t, Finset.mem_map_of_mem _ (Finset.mem_univ (ix3 (0 : Fin 1) p q))⟩

/-- The new second moments. -/
theorem res2_8 : (dat2 V c).arrAt 8 cfg2.N = squares (layers (V c main_arg11) (V c main_arg12)) (V c main_arg14) :=
  (dat2 V c).arrAt_eq_of_cover 8 _ (fun t _ => by
    show (cfg2.win 8).cut (grid2.coords t) ((dat2 V c).after 8 t) = _
    rw [after2_8]
    funext y
    obtain ⟨p, q, rfl⟩ := row_col (r := 128) (n := 1408) y
    show out2_8 _ _ _ _ _ _ (ix3 (0 : Fin 1) p q) = _
    rw [out2_8, View.canon_unit_zero (by decide)]
    repeat rw [View.ld_unit_zero (by decide)]
    rw [pay2_8, grad2]
    rfl) fun i => by
    obtain ⟨t, p, q, rfl⟩ := place2 i
    exact ⟨t, flush2_8 t, Finset.mem_map_of_mem _ (Finset.mem_univ (ix3 (0 : Fin 1) p q))⟩

end

/-! ## The call for `w_down` -/

section

variable (i : grid3.Coords) (x y : FVec Ideal S176x1024 .f32) (w m v : FVec Ideal S1x176x1024 .f32)
variable (t : Fin cfg3.N) (p : Fin 176) (q : Fin 1024)

theorem pick3 : k3_pay5 (F := Ideal) i x y (ix2 p q) = ofLayer (i 0).val (x (ix2 p q)) (y (ix2 p q)) := by
  have h : (i 0).val < 2 := (i 0).isLt
  unfold k3_pay5 ofLayer
  rcases (by omega : (i 0).val = 0 ∨ (i 0).val = 1) with e | e <;> rw [e] <;> rfl

theorem pay3_5 : k3_pay4 (F := Ideal) (k3_pay5 i x y) (ix3 (0 : Fin 1) p q) = ofLayer (i 0).val (x (ix2 p q)) (y (ix2 p q)) := by
  pointwise [k3_pay4]
  exact pick3 i x y p q

theorem first3 : k3_pay6 (F := Ideal) i x y m (ix2 p q) = moment (ofLayer (i 0).val (x (ix2 p q)) (y (ix2 p q))) (m (ix3 (0 : Fin 1) p q)) := by
  pointwise [k3_pay6]
  rw [pick3]
  rfl

theorem second3 : k3_pay7 (F := Ideal) i x y v (ix2 p q) = square (ofLayer (i 0).val (x (ix2 p q)) (y (ix2 p q))) (v (ix3 (0 : Fin 1) p q)) := by
  pointwise [k3_pay7]
  rw [pick3]
  rfl

theorem pay3_6 : k3_pay1 (F := Ideal) (k3_pay8 i x y w m v) (ix3 (0 : Fin 1) p q)
    = step (w (ix3 (0 : Fin 1) p q)) (ofLayer (i 0).val (x (ix2 p q)) (y (ix2 p q))) (m (ix3 (0 : Fin 1) p q)) (v (ix3 (0 : Fin 1) p q)) := by
  pointwise [k3_pay1, k3_pay8]
  rw [first3, second3]
  rfl

theorem pay3_7 : k3_pay2 (F := Ideal) (k3_pay6 i x y m) (ix3 (0 : Fin 1) p q)
    = moment (ofLayer (i 0).val (x (ix2 p q)) (y (ix2 p q))) (m (ix3 (0 : Fin 1) p q)) := by
  pointwise [k3_pay2]
  exact first3 i x y m p q

theorem pay3_8 : k3_pay3 (F := Ideal) (k3_pay7 i x y v) (ix3 (0 : Fin 1) p q)
    = square (ofLayer (i 0).val (x (ix2 p q)) (y (ix2 p q))) (v (ix3 (0 : Fin 1) p q)) := by
  pointwise [k3_pay3]
  exact second3 i x y v p q

theorem idx3 : ∀ t : Fin grid3.N,
    (win3_5.index t 0 = (grid3.coords t 0).val ∧ win3_5.index t 2 = 0)
    ∧ (((grid3.coords t 0).val = 1 → win3_4.index t 0 = win3_5.index t 1) ∧ win3_4.index t 1 = 0)
    ∧ (¬ (grid3.coords t 0).val = 1 → win3_3.index t 0 = win3_5.index t 1) ∧ win3_3.index t 1 = 0 := by
  decide +kernel

theorem hit3 : ∀ (l : Fin 2) (a : Fin 4), ∃ t : Fin grid3.N,
    win3_5.index t 0 = l.val ∧ win3_5.index t 1 = a.val := by
  decide +kernel

/-- Where the element of the block at row `p` and column `q` lies. -/
abbrev spot3 : S2x704x1024.Idx := ((cfg3.win 5).blk t).view.emb (ix3 (0 : Fin 1) p q)

/-- The block of the gradient that the call picks is the current layer's. -/
theorem grad3 : ofLayer (grid3.coords t 0).val ((iblk3 V c 3 t : S176x1024.Idx → EReal) (ix2 p q)) ((iblk3 V c 4 t : S176x1024.Idx → EReal) (ix2 p q))
    = (layers (V c main_arg16) (V c main_arg17)) (spot3 t p q) := by
  obtain ⟨⟨g0, g2⟩, ⟨h40, h41⟩, h30, h31⟩ := idx3 t
  have e0 : (spot3 t p q 0).val = (grid3.coords t 0).val := by
    show win3_5.index t 0 * 1 + 1 * 0 = _
    rw [g0]; omega
  show (if (grid3.coords t 0).val = 1 then _ else _) = if (spot3 t p q 0).val = 1 then _ else _
  rw [e0]
  by_cases h : (grid3.coords t 0).val = 1
  · rw [if_pos h, if_pos h]
    show V c main_arg17 _ = V c main_arg17 _
    congr 1; funext a; fin_cases a
    · ext; show win3_4.index t 0 * 176 + 1 * p.val = win3_5.index t 1 * 176 + 1 * p.val; rw [h40 h]
    · ext; show win3_4.index t 1 * 1024 + 1 * q.val = win3_5.index t 2 * 1024 + 1 * q.val; rw [h41, g2]
  · rw [if_neg h, if_neg h]
    show V c main_arg16 _ = V c main_arg16 _
    congr 1; funext a; fin_cases a
    · ext; show win3_3.index t 0 * 176 + 1 * p.val = win3_5.index t 1 * 176 + 1 * p.val; rw [h30 h]
    · ext; show win3_3.index t 1 * 1024 + 1 * q.val = win3_5.index t 2 * 1024 + 1 * q.val; rw [h31, g2]

/-- Every index lies in some step's block. -/
theorem place3 (i : S2x704x1024.Idx) : ∃ (t : Fin cfg3.N) (p : Fin 176) (q : Fin 1024), spot3 t p q = i := by
  have h0 : (i 0).val < 2 := (i 0).isLt
  have h1 : (i 1).val < 704 := (i 1).isLt
  have h2 : (i 2).val < 1024 := (i 2).isLt
  obtain ⟨t, e0, e1⟩ := hit3 ⟨(i 0).val, h0⟩ ⟨(i 1).val / 176, by omega⟩
  obtain ⟨⟨-, g2⟩, -⟩ := idx3 t
  refine ⟨t, ⟨(i 1).val % 176, by omega⟩, ⟨(i 2).val, h2⟩, ?_⟩
  funext a; fin_cases a
  · ext; show win3_5.index t 0 * 1 + 1 * 0 = (i 0).val
    rw [e0]; show (i 0).val * 1 + _ = _; omega
  · ext; show win3_5.index t 1 * 176 + 1 * ((i 1).val % 176) = (i 1).val
    rw [e1]; show (i 1).val / 176 * 176 + _ = _; omega
  · ext; show win3_5.index t 2 * 1024 + 1 * (i 2).val = (i 2).val
    rw [g2]; omega

/-- The gradient. -/
theorem res3_5 : (dat3 V c).arrAt 5 cfg3.N = (layers (V c main_arg16) (V c main_arg17)) :=
  (dat3 V c).arrAt_eq_of_cover 5 _ (fun t _ => by
    show (cfg3.win 5).cut (grid3.coords t) ((dat3 V c).after 5 t) = _
    rw [after3_5]
    funext y
    obtain ⟨p, q, rfl⟩ := row_col (r := 176) (n := 1024) y
    show out3_5 _ _ _ _ _ _ (ix3 (0 : Fin 1) p q) = _
    rw [out3_5, View.canon_unit_zero (by decide)]
    repeat rw [View.ld_unit_zero (by decide)]
    rw [pay3_5, grad3]
    rfl) fun i => by
    obtain ⟨t, p, q, rfl⟩ := place3 i
    exact ⟨t, flush3_5 t, Finset.mem_map_of_mem _ (Finset.mem_univ (ix3 (0 : Fin 1) p q))⟩

/-- The change of the weight. -/
theorem res3_6 : (dat3 V c).arrAt 6 cfg3.N = steps (V c main_arg15) (layers (V c main_arg16) (V c main_arg17)) (V c main_arg18) (V c main_arg19) :=
  (dat3 V c).arrAt_eq_of_cover 6 _ (fun t _ => by
    show (cfg3.win 6).cut (grid3.coords t) ((dat3 V c).after 6 t) = _
    rw [after3_6]
    funext y
    obtain ⟨p, q, rfl⟩ := row_col (r := 176) (n := 1024) y
    show out3_6 _ _ _ _ _ _ (ix3 (0 : Fin 1) p q) = _
    rw [out3_6, View.canon_unit_zero (by decide)]
    repeat rw [View.ld_unit_zero (by decide)]
    rw [pay3_6, grad3]
    rfl) fun i => by
    obtain ⟨t, p, q, rfl⟩ := place3 i
    exact ⟨t, flush3_6 t, Finset.mem_map_of_mem _ (Finset.mem_univ (ix3 (0 : Fin 1) p q))⟩

/-- The new first moments. -/
theorem res3_7 : (dat3 V c).arrAt 7 cfg3.N = moments (layers (V c main_arg16) (V c main_arg17)) (V c main_arg18) :=
  (dat3 V c).arrAt_eq_of_cover 7 _ (fun t _ => by
    show (cfg3.win 7).cut (grid3.coords t) ((dat3 V c).after 7 t) = _
    rw [after3_7]
    funext y
    obtain ⟨p, q, rfl⟩ := row_col (r := 176) (n := 1024) y
    show out3_7 _ _ _ _ _ _ (ix3 (0 : Fin 1) p q) = _
    rw [out3_7, View.canon_unit_zero (by decide)]
    repeat rw [View.ld_unit_zero (by decide)]
    rw [pay3_7, grad3]
    rfl) fun i => by
    obtain ⟨t, p, q, rfl⟩ := place3 i
    exact ⟨t, flush3_7 t, Finset.mem_map_of_mem _ (Finset.mem_univ (ix3 (0 : Fin 1) p q))⟩

/-- The new second moments. -/
theorem res3_8 : (dat3 V c).arrAt 8 cfg3.N = squares (layers (V c main_arg16) (V c main_arg17)) (V c main_arg19) :=
  (dat3 V c).arrAt_eq_of_cover 8 _ (fun t _ => by
    show (cfg3.win 8).cut (grid3.coords t) ((dat3 V c).after 8 t) = _
    rw [after3_8]
    funext y
    obtain ⟨p, q, rfl⟩ := row_col (r := 176) (n := 1024) y
    show out3_8 _ _ _ _ _ _ (ix3 (0 : Fin 1) p q) = _
    rw [out3_8, View.canon_unit_zero (by decide)]
    repeat rw [View.ld_unit_zero (by decide)]
    rw [pay3_8, grad3]
    rfl) fun i => by
    obtain ⟨t, p, q, rfl⟩ := place3 i
    exact ⟨t, flush3_8 t, Finset.mem_map_of_mem _ (Finset.mem_univ (ix3 (0 : Fin 1) p q))⟩

end

end Cert.OptB

end
-- ==== Proof.OptBValues.lean ====
/- The arrays between the calls, and the sixteen results, from the arguments. -/
module

public import proofs.«01_k».proof.Proof.OptBCalls

@[expose] public section

noncomputable section

namespace Cert.OptB

open Cert.Kernel7Ideal Cert.Kernel7Ideal.Gen Idealize.ShloMosaic Idealize.ShloMosaic.TcCoe Cert.Products Cert.Opt Idealize.ShloMosaic.StableHlo

variable (m : (ℓ : Loc nD τ sig) → Buf (Elt Ideal) ℓ) (ρ : Dev nD → PrngReg) (c : Dev nD)

/-- `w_pool_out`: the weight. -/
abbrev arg0 : Two 256 1024 := m ((c : Thread nD τ).loc main_arg0)
/-- `w_pool_out`: the first layer's gradient. -/
abbrev arg1 : Mat 256 1024 := m ((c : Thread nD τ).loc main_arg1)
/-- `w_pool_out`: the second layer's gradient. -/
abbrev arg2 : Mat 256 1024 := m ((c : Thread nD τ).loc main_arg2)
/-- `w_pool_out`: the first moments. -/
abbrev arg3 : Two 256 1024 := m ((c : Thread nD τ).loc main_arg3)
/-- `w_pool_out`: the second moments. -/
abbrev arg4 : Two 256 1024 := m ((c : Thread nD τ).loc main_arg4)
/-- `w_pool_out`: the gradient, both layers. -/
abbrev both0 : Two 256 1024 := layers (arg1 m c) (arg2 m c)

/-- `w_out`: the weight. -/
abbrev arg5 : Two 256 1024 := m ((c : Thread nD τ).loc main_arg5)
/-- `w_out`: the first layer's gradient. -/
abbrev arg6 : Mat 256 1024 := m ((c : Thread nD τ).loc main_arg6)
/-- `w_out`: the second layer's gradient. -/
abbrev arg7 : Mat 256 1024 := m ((c : Thread nD τ).loc main_arg7)
/-- `w_out`: the first moments. -/
abbrev arg8 : Two 256 1024 := m ((c : Thread nD τ).loc main_arg8)
/-- `w_out`: the second moments. -/
abbrev arg9 : Two 256 1024 := m ((c : Thread nD τ).loc main_arg9)
/-- `w_out`: the gradient, both layers. -/
abbrev both1 : Two 256 1024 := layers (arg6 m c) (arg7 m c)

/-- `w_gate_up`: the weight. -/
abbrev arg10 : Two 1024 1408 := m ((c : Thread nD τ).loc main_arg10)
/-- `w_gate_up`: the first layer's gradient. -/
abbrev arg11 : Mat 1024 1408 := m ((c : Thread nD τ).loc main_arg11)
/-- `w_gate_up`: the second layer's gradient. -/
abbrev arg12 : Mat 1024 1408 := m ((c : Thread nD τ).loc main_arg12)
/-- `w_gate_up`: the first moments. -/
abbrev arg13 : Two 1024 1408 := m ((c : Thread nD τ).loc main_arg13)
/-- `w_gate_up`: the second moments. -/
abbrev arg14 : Two 1024 1408 := m ((c : Thread nD τ).loc main_arg14)
/-- `w_gate_up`: the gradient, both layers. -/
abbrev both2 : Two 1024 1408 := layers (arg11 m c) (arg12 m c)

/-- `w_down`: the weight. -/
abbrev arg15 : Two 704 1024 := m ((c : Thread nD τ).loc main_arg15)
/-- `w_down`: the first layer's gradient. -/
abbrev arg16 : Mat 704 1024 := m ((c : Thread nD τ).loc main_arg16)
/-- `w_down`: the second layer's gradient. -/
abbrev arg17 : Mat 704 1024 := m ((c : Thread nD τ).loc main_arg17)
/-- `w_down`: the first moments. -/
abbrev arg18 : Two 704 1024 := m ((c : Thread nD τ).loc main_arg18)
/-- `w_down`: the second moments. -/
abbrev arg19 : Two 704 1024 := m ((c : Thread nD τ).loc main_arg19)
/-- `w_down`: the gradient, both layers. -/
abbrev both3 : Two 704 1024 := layers (arg16 m c) (arg17 m c)

theorem main_v0_0_val : W1 m ρ c (Proc.devRef .tc main_v0_0) = both0 m c := by
  refine (W1_arr m ρ c 5).trans ((res0_5 (V0 m ρ) c).trans ?_)
  rw [show V0 m ρ c main_arg1 = arg1 m c from (W0_args m ρ c main_arg1 (by decide)),
    show V0 m ρ c main_arg2 = arg2 m c from (W0_args m ρ c main_arg2 (by decide))]

theorem main_v0_1_val : W1 m ρ c (Proc.devRef .tc main_v0_1) = steps (arg0 m c) (both0 m c) (arg3 m c) (arg4 m c) := by
  refine (W1_arr m ρ c 6).trans ((res0_6 (V0 m ρ) c).trans ?_)
  rw [show V0 m ρ c main_arg0 = arg0 m c from (W0_args m ρ c main_arg0 (by decide)),
    show V0 m ρ c main_arg1 = arg1 m c from (W0_args m ρ c main_arg1 (by decide)),
    show V0 m ρ c main_arg2 = arg2 m c from (W0_args m ρ c main_arg2 (by decide)),
    show V0 m ρ c main_arg3 = arg3 m c from (W0_args m ρ c main_arg3 (by decide)),
    show V0 m ρ c main_arg4 = arg4 m c from (W0_args m ρ c main_arg4 (by decide))]

theorem main_v0_2_val : W1 m ρ c (Proc.devRef .tc main_v0_2) = moments (both0 m c) (arg3 m c) := by
  refine (W1_arr m ρ c 7).trans ((res0_7 (V0 m ρ) c).trans ?_)
  rw [show V0 m ρ c main_arg1 = arg1 m c from (W0_args m ρ c main_arg1 (by decide)),
    show V0 m ρ c main_arg2 = arg2 m c from (W0_args m ρ c main_arg2 (by decide)),
    show V0 m ρ c main_arg3 = arg3 m c from (W0_args m ρ c main_arg3 (by decide))]

theorem main_v0_3_val : W1 m ρ c (Proc.devRef .tc main_v0_3) = squares (both0 m c) (arg4 m c) := by
  refine (W1_arr m ρ c 8).trans ((res0_8 (V0 m ρ) c).trans ?_)
  rw [show V0 m ρ c main_arg1 = arg1 m c from (W0_args m ρ c main_arg1 (by decide)),
    show V0 m ρ c main_arg2 = arg2 m c from (W0_args m ρ c main_arg2 (by decide)),
    show V0 m ρ c main_arg4 = arg4 m c from (W0_args m ρ c main_arg4 (by decide))]

theorem main_v1_0_val : W2 m ρ c (Proc.devRef .tc main_v1_0) = both1 m c := by
  refine (W2_arr m ρ c 5).trans ((res1_5 (V1 m ρ) c).trans ?_)
  rw [show V1 m ρ c main_arg6 = arg6 m c from (W1_args m ρ c main_arg6 (by decide)),
    show V1 m ρ c main_arg7 = arg7 m c from (W1_args m ρ c main_arg7 (by decide))]

theorem main_v1_1_val : W2 m ρ c (Proc.devRef .tc main_v1_1) = steps (arg5 m c) (both1 m c) (arg8 m c) (arg9 m c) := by
  refine (W2_arr m ρ c 6).trans ((res1_6 (V1 m ρ) c).trans ?_)
  rw [show V1 m ρ c main_arg5 = arg5 m c from (W1_args m ρ c main_arg5 (by decide)),
    show V1 m ρ c main_arg6 = arg6 m c from (W1_args m ρ c main_arg6 (by decide)),
    show V1 m ρ c main_arg7 = arg7 m c from (W1_args m ρ c main_arg7 (by decide)),
    show V1 m ρ c main_arg8 = arg8 m c from (W1_args m ρ c main_arg8 (by decide)),
    show V1 m ρ c main_arg9 = arg9 m c from (W1_args m ρ c main_arg9 (by decide))]

theorem main_v1_2_val : W2 m ρ c (Proc.devRef .tc main_v1_2) = moments (both1 m c) (arg8 m c) := by
  refine (W2_arr m ρ c 7).trans ((res1_7 (V1 m ρ) c).trans ?_)
  rw [show V1 m ρ c main_arg6 = arg6 m c from (W1_args m ρ c main_arg6 (by decide)),
    show V1 m ρ c main_arg7 = arg7 m c from (W1_args m ρ c main_arg7 (by decide)),
    show V1 m ρ c main_arg8 = arg8 m c from (W1_args m ρ c main_arg8 (by decide))]

theorem main_v1_3_val : W2 m ρ c (Proc.devRef .tc main_v1_3) = squares (both1 m c) (arg9 m c) := by
  refine (W2_arr m ρ c 8).trans ((res1_8 (V1 m ρ) c).trans ?_)
  rw [show V1 m ρ c main_arg6 = arg6 m c from (W1_args m ρ c main_arg6 (by decide)),
    show V1 m ρ c main_arg7 = arg7 m c from (W1_args m ρ c main_arg7 (by decide)),
    show V1 m ρ c main_arg9 = arg9 m c from (W1_args m ρ c main_arg9 (by decide))]

theorem main_v2_0_val : W3 m ρ c (Proc.devRef .tc main_v2_0) = both2 m c := by
  refine (W3_arr m ρ c 5).trans ((res2_5 (V2 m ρ) c).trans ?_)
  rw [show V2 m ρ c main_arg11 = arg11 m c from (W2_args m ρ c main_arg11 (by decide)),
    show V2 m ρ c main_arg12 = arg12 m c from (W2_args m ρ c main_arg12 (by decide))]

theorem main_v2_1_val : W3 m ρ c (Proc.devRef .tc main_v2_1) = steps (arg10 m c) (both2 m c) (arg13 m c) (arg14 m c) := by
  refine (W3_arr m ρ c 6).trans ((res2_6 (V2 m ρ) c).trans ?_)
  rw [show V2 m ρ c main_arg10 = arg10 m c from (W2_args m ρ c main_arg10 (by decide)),
    show V2 m ρ c main_arg11 = arg11 m c from (W2_args m ρ c main_arg11 (by decide)),
    show V2 m ρ c main_arg12 = arg12 m c from (W2_args m ρ c main_arg12 (by decide)),
    show V2 m ρ c main_arg13 = arg13 m c from (W2_args m ρ c main_arg13 (by decide)),
    show V2 m ρ c main_arg14 = arg14 m c from (W2_args m ρ c main_arg14 (by decide))]

theorem main_v2_2_val : W3 m ρ c (Proc.devRef .tc main_v2_2) = moments (both2 m c) (arg13 m c) := by
  refine (W3_arr m ρ c 7).trans ((res2_7 (V2 m ρ) c).trans ?_)
  rw [show V2 m ρ c main_arg11 = arg11 m c from (W2_args m ρ c main_arg11 (by decide)),
    show V2 m ρ c main_arg12 = arg12 m c from (W2_args m ρ c main_arg12 (by decide)),
    show V2 m ρ c main_arg13 = arg13 m c from (W2_args m ρ c main_arg13 (by decide))]

theorem main_v2_3_val : W3 m ρ c (Proc.devRef .tc main_v2_3) = squares (both2 m c) (arg14 m c) := by
  refine (W3_arr m ρ c 8).trans ((res2_8 (V2 m ρ) c).trans ?_)
  rw [show V2 m ρ c main_arg11 = arg11 m c from (W2_args m ρ c main_arg11 (by decide)),
    show V2 m ρ c main_arg12 = arg12 m c from (W2_args m ρ c main_arg12 (by decide)),
    show V2 m ρ c main_arg14 = arg14 m c from (W2_args m ρ c main_arg14 (by decide))]

theorem main_v3_0_val : W4 m ρ c (Proc.devRef .tc main_v3_0) = both3 m c := by
  refine (W4_arr m ρ c 5).trans ((res3_5 (V3 m ρ) c).trans ?_)
  rw [show V3 m ρ c main_arg16 = arg16 m c from (W3_args m ρ c main_arg16 (by decide)),
    show V3 m ρ c main_arg17 = arg17 m c from (W3_args m ρ c main_arg17 (by decide))]

theorem main_v3_1_val : W4 m ρ c (Proc.devRef .tc main_v3_1) = steps (arg15 m c) (both3 m c) (arg18 m c) (arg19 m c) := by
  refine (W4_arr m ρ c 6).trans ((res3_6 (V3 m ρ) c).trans ?_)
  rw [show V3 m ρ c main_arg15 = arg15 m c from (W3_args m ρ c main_arg15 (by decide)),
    show V3 m ρ c main_arg16 = arg16 m c from (W3_args m ρ c main_arg16 (by decide)),
    show V3 m ρ c main_arg17 = arg17 m c from (W3_args m ρ c main_arg17 (by decide)),
    show V3 m ρ c main_arg18 = arg18 m c from (W3_args m ρ c main_arg18 (by decide)),
    show V3 m ρ c main_arg19 = arg19 m c from (W3_args m ρ c main_arg19 (by decide))]

theorem main_v3_2_val : W4 m ρ c (Proc.devRef .tc main_v3_2) = moments (both3 m c) (arg18 m c) := by
  refine (W4_arr m ρ c 7).trans ((res3_7 (V3 m ρ) c).trans ?_)
  rw [show V3 m ρ c main_arg16 = arg16 m c from (W3_args m ρ c main_arg16 (by decide)),
    show V3 m ρ c main_arg17 = arg17 m c from (W3_args m ρ c main_arg17 (by decide)),
    show V3 m ρ c main_arg18 = arg18 m c from (W3_args m ρ c main_arg18 (by decide))]

theorem main_v3_3_val : W4 m ρ c (Proc.devRef .tc main_v3_3) = squares (both3 m c) (arg19 m c) := by
  refine (W4_arr m ρ c 8).trans ((res3_8 (V3 m ρ) c).trans ?_)
  rw [show V3 m ρ c main_arg16 = arg16 m c from (W3_args m ρ c main_arg16 (by decide)),
    show V3 m ρ c main_arg17 = arg17 m c from (W3_args m ρ c main_arg17 (by decide)),
    show V3 m ρ c main_arg19 = arg19 m c from (W3_args m ρ c main_arg19 (by decide))]

/-! ## The sixteen results -/

theorem out_main_v0_0 : W4 m ρ c (Proc.devRef .tc main_v0_0) = both0 m c :=
  ((W4_of m ρ c main_v0_0 (by decide)).trans ((W3_of m ρ c main_v0_0 (by decide)).trans ((W2_of m ρ c main_v0_0 (by decide)).trans (main_v0_0_val m ρ c))))

theorem out_main_v0_1 : W4 m ρ c (Proc.devRef .tc main_v0_1) = steps (arg0 m c) (both0 m c) (arg3 m c) (arg4 m c) :=
  ((W4_of m ρ c main_v0_1 (by decide)).trans ((W3_of m ρ c main_v0_1 (by decide)).trans ((W2_of m ρ c main_v0_1 (by decide)).trans (main_v0_1_val m ρ c))))

theorem out_main_v0_2 : W4 m ρ c (Proc.devRef .tc main_v0_2) = moments (both0 m c) (arg3 m c) :=
  ((W4_of m ρ c main_v0_2 (by decide)).trans ((W3_of m ρ c main_v0_2 (by decide)).trans ((W2_of m ρ c main_v0_2 (by decide)).trans (main_v0_2_val m ρ c))))

theorem out_main_v0_3 : W4 m ρ c (Proc.devRef .tc main_v0_3) = squares (both0 m c) (arg4 m c) :=
  ((W4_of m ρ c main_v0_3 (by decide)).trans ((W3_of m ρ c main_v0_3 (by decide)).trans ((W2_of m ρ c main_v0_3 (by decide)).trans (main_v0_3_val m ρ c))))

theorem out_main_v1_0 : W4 m ρ c (Proc.devRef .tc main_v1_0) = both1 m c :=
  ((W4_of m ρ c main_v1_0 (by decide)).trans ((W3_of m ρ c main_v1_0 (by decide)).trans (main_v1_0_val m ρ c)))

theorem out_main_v1_1 : W4 m ρ c (Proc.devRef .tc main_v1_1) = steps (arg5 m c) (both1 m c) (arg8 m c) (arg9 m c) :=
  ((W4_of m ρ c main_v1_1 (by decide)).trans ((W3_of m ρ c main_v1_1 (by decide)).trans (main_v1_1_val m ρ c)))

theorem out_main_v1_2 : W4 m ρ c (Proc.devRef .tc main_v1_2) = moments (both1 m c) (arg8 m c) :=
  ((W4_of m ρ c main_v1_2 (by decide)).trans ((W3_of m ρ c main_v1_2 (by decide)).trans (main_v1_2_val m ρ c)))

theorem out_main_v1_3 : W4 m ρ c (Proc.devRef .tc main_v1_3) = squares (both1 m c) (arg9 m c) :=
  ((W4_of m ρ c main_v1_3 (by decide)).trans ((W3_of m ρ c main_v1_3 (by decide)).trans (main_v1_3_val m ρ c)))

theorem out_main_v2_0 : W4 m ρ c (Proc.devRef .tc main_v2_0) = both2 m c :=
  ((W4_of m ρ c main_v2_0 (by decide)).trans (main_v2_0_val m ρ c))

theorem out_main_v2_1 : W4 m ρ c (Proc.devRef .tc main_v2_1) = steps (arg10 m c) (both2 m c) (arg13 m c) (arg14 m c) :=
  ((W4_of m ρ c main_v2_1 (by decide)).trans (main_v2_1_val m ρ c))

theorem out_main_v2_2 : W4 m ρ c (Proc.devRef .tc main_v2_2) = moments (both2 m c) (arg13 m c) :=
  ((W4_of m ρ c main_v2_2 (by decide)).trans (main_v2_2_val m ρ c))

theorem out_main_v2_3 : W4 m ρ c (Proc.devRef .tc main_v2_3) = squares (both2 m c) (arg14 m c) :=
  ((W4_of m ρ c main_v2_3 (by decide)).trans (main_v2_3_val m ρ c))

theorem out_main_v3_0 : W4 m ρ c (Proc.devRef .tc main_v3_0) = both3 m c :=
  (main_v3_0_val m ρ c)

theorem out_main_v3_1 : W4 m ρ c (Proc.devRef .tc main_v3_1) = steps (arg15 m c) (both3 m c) (arg18 m c) (arg19 m c) :=
  (main_v3_1_val m ρ c)

theorem out_main_v3_2 : W4 m ρ c (Proc.devRef .tc main_v3_2) = moments (both3 m c) (arg18 m c) :=
  (main_v3_2_val m ρ c)

theorem out_main_v3_3 : W4 m ρ c (Proc.devRef .tc main_v3_3) = squares (both3 m c) (arg19 m c) :=
  (main_v3_3_val m ρ c)

end Cert.OptB

end
-- ==== Proof.OptBReference.lean ====
/- What the reference's step of AdamW computes for the four weights. -/
module

public import proofs.«01_k».proof.Proof.Gen.Reference7Ideal.Read
public import proofs.«01_k».proof.Proof.OptModel

@[expose] public section

noncomputable section

namespace Cert.OptB

open Cert.Reference7Ideal Cert.Reference7Ideal.Gen Cert.Reference7Ideal.Read Idealize.ShloMosaic Idealize.ShloMosaic.TcCoe Cert.Products Cert.Opt

/-! ## `w_pool_out` -/

/-- The gradient's two layers. -/
theorem stack0 (x1 x2 : Mat 256 1024) : val_main_v2 (F := Ideal) x1 x2 = layers x1 x2 := by
  funext j
  obtain ⟨l, p, q, rfl⟩ : ∃ (l : Fin 2) (p : Fin 256) (q : Fin 1024), j = ix3 l p q :=
    ⟨j 0, j 1, j 2, by funext a; fin_cases a <;> rfl⟩
  obtain rfl | rfl : l = 0 ∨ l = 1 := by omega
  · pointwise [val_main_v2, val_main_v0]
    rfl
  · pointwise [val_main_v2, val_main_v1]
    rfl

theorem ref_v2 (x1 x2 : Mat 256 1024) : val_main_v2 (F := Ideal) x1 x2 = layers x1 x2 := stack0 x1 x2

/-- The new first moments. -/
theorem ref_v7 (x1 x2 : Mat 256 1024) (x3 : Two 256 1024) :
    val_main_v7 (F := Ideal) x1 x2 x3 = moments (layers x1 x2) x3 := by
  rw [← ref_v2]
  rfl

/-- The new second moments. -/
theorem ref_v13 (x1 x2 : Mat 256 1024) (x4 : Two 256 1024) :
    val_main_v13 (F := Ideal) x1 x2 x4 = squares (layers x1 x2) x4 := by
  rw [← ref_v2]
  rfl

/-- The change of the weight. -/
theorem ref_v26 (x1 x2 : Mat 256 1024) (x0 x3 x4 : Two 256 1024) :
    val_main_v26 (F := Ideal) x0 x1 x2 x3 x4 = steps x0 (layers x1 x2) x3 x4 := by
  rw [← ref_v2]
  rfl

/-! ## `w_out` -/

/-- The gradient's two layers. -/
theorem stack1 (x6 x7 : Mat 256 1024) : val_main_v29 (F := Ideal) x6 x7 = layers x6 x7 := by
  funext j
  obtain ⟨l, p, q, rfl⟩ : ∃ (l : Fin 2) (p : Fin 256) (q : Fin 1024), j = ix3 l p q :=
    ⟨j 0, j 1, j 2, by funext a; fin_cases a <;> rfl⟩
  obtain rfl | rfl : l = 0 ∨ l = 1 := by omega
  · pointwise [val_main_v29, val_main_v27]
    rfl
  · pointwise [val_main_v29, val_main_v28]
    rfl

theorem ref_v29 (x6 x7 : Mat 256 1024) : val_main_v29 (F := Ideal) x6 x7 = layers x6 x7 := stack1 x6 x7

/-- The new first moments. -/
theorem ref_v34 (x6 x7 : Mat 256 1024) (x8 : Two 256 1024) :
    val_main_v34 (F := Ideal) x6 x7 x8 = moments (layers x6 x7) x8 := by
  rw [← ref_v29]
  rfl

/-- The new second moments. -/
theorem ref_v40 (x6 x7 : Mat 256 1024) (x9 : Two 256 1024) :
    val_main_v40 (F := Ideal) x6 x7 x9 = squares (layers x6 x7) x9 := by
  rw [← ref_v29]
  rfl

/-- The change of the weight. -/
theorem ref_v53 (x6 x7 : Mat 256 1024) (x5 x8 x9 : Two 256 1024) :
    val_main_v53 (F := Ideal) x5 x6 x7 x8 x9 = steps x5 (layers x6 x7) x8 x9 := by
  rw [← ref_v29]
  rfl

/-! ## `w_gate_up` -/

/-- The gradient's two layers. -/
theorem stack2 (x11 x12 : Mat 1024 1408) : val_main_v56 (F := Ideal) x11 x12 = layers x11 x12 := by
  funext j
  obtain ⟨l, p, q, rfl⟩ : ∃ (l : Fin 2) (p : Fin 1024) (q : Fin 1408), j = ix3 l p q :=
    ⟨j 0, j 1, j 2, by funext a; fin_cases a <;> rfl⟩
  obtain rfl | rfl : l = 0 ∨ l = 1 := by omega
  · pointwise [val_main_v56, val_main_v54]
    rfl
  · pointwise [val_main_v56, val_main_v55]
    rfl

theorem ref_v56 (x11 x12 : Mat 1024 1408) : val_main_v56 (F := Ideal) x11 x12 = layers x11 x12 := stack2 x11 x12

/-- The new first moments. -/
theorem ref_v61 (x11 x12 : Mat 1024 1408) (x13 : Two 1024 1408) :
    val_main_v61 (F := Ideal) x11 x12 x13 = moments (layers x11 x12) x13 := by
  rw [← ref_v56]
  rfl

/-- The new second moments. -/
theorem ref_v67 (x11 x12 : Mat 1024 1408) (x14 : Two 1024 1408) :
    val_main_v67 (F := Ideal) x11 x12 x14 = squares (layers x11 x12) x14 := by
  rw [← ref_v56]
  rfl

/-- The change of the weight. -/
theorem ref_v80 (x11 x12 : Mat 1024 1408) (x10 x13 x14 : Two 1024 1408) :
    val_main_v80 (F := Ideal) x10 x11 x12 x13 x14 = steps x10 (layers x11 x12) x13 x14 := by
  rw [← ref_v56]
  rfl

/-! ## `w_down` -/

/-- The gradient's two layers. -/
theorem stack3 (x16 x17 : Mat 704 1024) : val_main_v83 (F := Ideal) x16 x17 = layers x16 x17 := by
  funext j
  obtain ⟨l, p, q, rfl⟩ : ∃ (l : Fin 2) (p : Fin 704) (q : Fin 1024), j = ix3 l p q :=
    ⟨j 0, j 1, j 2, by funext a; fin_cases a <;> rfl⟩
  obtain rfl | rfl : l = 0 ∨ l = 1 := by omega
  · pointwise [val_main_v83, val_main_v81]
    rfl
  · pointwise [val_main_v83, val_main_v82]
    rfl

theorem ref_v83 (x16 x17 : Mat 704 1024) : val_main_v83 (F := Ideal) x16 x17 = layers x16 x17 := stack3 x16 x17

/-- The new first moments. -/
theorem ref_v88 (x16 x17 : Mat 704 1024) (x18 : Two 704 1024) :
    val_main_v88 (F := Ideal) x16 x17 x18 = moments (layers x16 x17) x18 := by
  rw [← ref_v83]
  rfl

/-- The new second moments. -/
theorem ref_v94 (x16 x17 : Mat 704 1024) (x19 : Two 704 1024) :
    val_main_v94 (F := Ideal) x16 x17 x19 = squares (layers x16 x17) x19 := by
  rw [← ref_v83]
  rfl

/-- The change of the weight. -/
theorem ref_v107 (x16 x17 : Mat 704 1024) (x15 x18 x19 : Two 704 1024) :
    val_main_v107 (F := Ideal) x15 x16 x17 x18 x19 = steps x15 (layers x16 x17) x18 x19 := by
  rw [← ref_v83]
  rfl

end Cert.OptB

end
-- ==== Proof.ProRun.lean ====
/- The arrays of the program at its end. -/
module

public import proofs.«01_k».proof.Proof.Gen.Kernel8Ideal.Frame

@[expose] public section

noncomputable section

namespace Cert.Pro

open Cert.Kernel8Ideal Cert.Kernel8Ideal.Gen Idealize.ShloMosaic Idealize.ShloMosaic.TcCoe Idealize.SL Idealize.SL.Sem

variable {F : FTy → Type} [FloatOps F]
variable (m : (ℓ : Loc nD τ sig) → Buf (Elt F) ℓ) (ρ : Dev nD → PrngReg) (c : Dev nD)

/-- The arrays after the call. -/
def W1 : Valuation τ sig (Elt F) := Pipeline.withArrays spec0 c (V0 m c) fun w => (dats m 0 c).arrAt w cfg0.N

/-- The arrays at the end. -/
def W2 : Valuation τ sig (Elt F) := StableHlo.after hostOps1 (W1 m c)

/-- An array of the call holds what the call leaves. -/
theorem W1_arr (w : Fin cfg0.W) : W1 m c (Proc.devRef .tc (Pipeline.arrRef spec0 w)) = (dats m 0 c).arrAt w cfg0.N := by
  unfold W1; exact Pipeline.withArrays_arr spec0 launch0.win.arr_inj c _ _ w

theorem tail_eq (b : Ref sig .tc) :
    Pipeline.afterTail₀ cfgs (dats m) 0 (V0 m) [hostOps1] c b = W2 m c (Proc.devRef .tc b) := by
  unfold Pipeline.afterTail₀ W2
  simp only [List.flatten_cons, List.flatten_nil, List.append_nil]
  rfl

/-- From any memory with zero counters the program ends, the arrays outside the call hold `W2`, and the arguments are as they
    were. -/
theorem run : θ_run defs (onTc (τ := τ) (main (F := F))) ⟨m, fun _ => 0, ρ⟩ (fun r => ∀ c : Dev nD,
      (∀ b : Ref sig .tc, b.isScoped = false → (∀ w, (spec0 w).arr.view.ref ≠ b) →
        r.2.mem ((c.tc : Thread nD τ).loc b) = W2 m c (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨fun b hs hw => (((h.1 c).2 b (Pipeline.mem_restRefs_of b hs hw)).trans (tail_eq m c b)), h.2 c⟩)
    (θ_run_and (run_main m ρ) (unchanged m ρ))

end Cert.Pro

end
-- ==== Proof.ProCalls.lean ====
/- What the call of the whole projection leaves in its array. -/
module

public import proofs.«01_k».proof.Proof.Gen.Kernel8Ideal.Frame
public import proofs.«01_k».proof.Proof.FwdModel

@[expose] public section

noncomputable section

namespace Cert.Pro

open Cert.Kernel8Ideal Cert.Kernel8Ideal.Gen Idealize.ShloMosaic Idealize.ShloMosaic.TcCoe Cert.Products Cert.Fwd

variable (m : (ℓ : Loc nD τ sig) → Buf (Elt Ideal) ℓ) (c : Dev nD)

/-! ## The whole projection -/

theorem pay0 (x : FVec Ideal S1088x1024 .bf16) (y : FVec Ideal S1024x512 .bf16) (p : Fin 1088) (q : Fin 512) :
    k0_pay1 (F := Ideal) x y (ix2 p q) = ∑ k : Fin 1024, x (ix2 p k) * y (ix2 k q) := by
  pointwise [k0_pay1]

theorem idx0 : ∀ t : Fin grid0.N,
    (win0_0.index t 0 = win0_2.index t 0 ∧ win0_0.index t 1 = 0)
    ∧ (win0_1.index t 0 = 0 ∧ win0_1.index t 1 = win0_2.index t 1) := by
  decide +kernel

theorem hit0 : ∀ (a : Fin 4) (b : Fin 19), ∃ t : Fin grid0.N,
    win0_2.index t 0 = a.val ∧ win0_2.index t 1 = b.val := by
  decide +kernel

theorem flushed0 (t : Fin cfg0.N) : (dats m 0 c).flushed 2 t
    = ((cfg0.win 2).blk t).view.read (Elt Ideal) (nn (V m c main_arg0) (V m c main_v15)) := by
  show (cfg0.win 2).cut (grid0.coords t) ((dats m 0 c).after 2 t) = _
  rw [after0_2]
  funext y
  obtain ⟨p, q, rfl⟩ : ∃ (p : Fin 1088) (q : Fin 512), y = ix2 p q := ⟨y 0, y 1, by funext a; fin_cases a <;> rfl⟩
  show out0_2 (iblk m c 0 t) (iblk m c 1 t) (ix2 p q)
    = (nn (V m c main_arg0) (V m c main_v15)) (((cfg0.win 2).blk t).view.emb (ix2 p q))
  unfold out0_2
  rw [View.canon_unit_zero (by decide), View.ld_unit_zero (by decide), View.ld_unit_zero (by decide), pay0]
  obtain ⟨⟨h00, h01⟩, ⟨h10, h11⟩⟩ := idx0 t
  refine Finset.sum_congr rfl fun k _ => ?_
  congr 1
  · show V m c main_arg0 _ = V m c main_arg0 _
    congr 1; funext a; fin_cases a
    · ext; show win0_0.index t 0 * 1088 + 1 * p.val = win0_2.index t 0 * 1088 + 1 * p.val; rw [h00]
    · ext; show win0_0.index t 1 * 1024 + 1 * k.val = k.val; rw [h01]; omega
  · show V m c main_v15 _ = V m c main_v15 _
    congr 1; funext a; fin_cases a
    · ext; show win0_1.index t 0 * 1024 + 1 * k.val = k.val; rw [h10]; omega
    · ext; show win0_1.index t 1 * 512 + 1 * q.val = win0_2.index t 1 * 512 + 1 * q.val; rw [h11]

/-- The whole projection. -/
theorem res0 : (dats m 0 c).arrAt 2 cfg0.N = nn (V m c main_arg0) (V m c main_v15) :=
  (dats m 0 c).arrAt_eq_of_cover 2 _ (fun t _ => flushed0 m c t) fun i => by
    have h0 : (i 0).val < 4352 := (i 0).isLt
    have h1 : (i 1).val < 9728 := (i 1).isLt
    obtain ⟨t, e0, e1⟩ := hit0 ⟨(i 0).val / 1088, by omega⟩ ⟨(i 1).val / 512, by omega⟩
    refine ⟨t, flush0_2 t, ?_⟩
    have hi : ((cfg0.win 2).blk t).view.emb
        (ix2 (⟨(i 0).val % 1088, by omega⟩ : Fin 1088) (⟨(i 1).val % 512, by omega⟩ : Fin 512)) = i := by
      funext a; fin_cases a
      · ext; show win0_2.index t 0 * 1088 + 1 * ((i 0).val % 1088) = (i 0).val
        rw [e0]; show (i 0).val / 1088 * 1088 + _ = _; omega
      · ext; show win0_2.index t 1 * 512 + 1 * ((i 1).val % 512) = (i 1).val
        rw [e1]; show (i 1).val / 512 * 512 + _ = _; omega
    rw [← hi]
    exact Finset.mem_map_of_mem _ (Finset.mem_univ _)

end Cert.Pro

end
-- ==== Proof.ProValues.lean ====
/- The projection's parts from the arguments. -/
module

public import proofs.«01_k».proof.Proof.ProRun
public import proofs.«01_k».proof.Proof.ProCalls
public import proofs.«01_k».proof.Proof.FwdHost
public import proofs.«01_k».proof.Proof.InHost

@[expose] public section

noncomputable section

namespace Cert.Pro

open Cert.Kernel8Ideal Cert.Kernel8Ideal.Gen Idealize.ShloMosaic Idealize.ShloMosaic.TcCoe Cert.Products Cert.In Cert.Fwd Idealize.ShloMosaic.StableHlo

variable (m : (ℓ : Loc nD τ sig) → Buf (Elt Ideal) ℓ) (c : Dev nD)

/-- The rows the projection is taken of. -/
abbrev h : Mat 4352 1024 := m ((c : Thread nD τ).loc main_arg0)
/-- The projection's weight. -/
abbrev w : Mat 1024 9280 := m ((c : Thread nD τ).loc main_arg1)

set_option maxRecDepth 20000 in
/-- The weight in the kernel's order. -/
theorem main_v15_val : V m c main_v15 = arrange (w m c) := by
  dsimp only [V, V0]
  simp only [List.flatten_cons, List.flatten_nil, List.append_nil, hostOps0]
  after_results_simp <;> rfl

/-- The whole projection. -/
theorem main_v16_val : W1 m c (Proc.devRef .tc main_v16) = nn (h m c) (arrange (w m c)) := by
  refine (W1_arr m c 2).trans ((res0 m c).trans ?_)
  rw [main_v15_val, show V m c main_arg0 = h m c from V_main_arg0 m c]

/-! ## The results -/

/-- The scan's gate. -/
theorem out_main_v17 : W2 m c (Proc.devRef .tc main_v17) = pick cz (nn (h m c) (w m c)) := by
  have e : W2 m c (Proc.devRef .tc main_v17) = extractStridedSlice S4352x2048 ![0, 4096] (W1 m c (Proc.devRef .tc main_v16)) slices_S4352x9728_S4352x2048_0_4096 := by
    simp only [W2, hostOps1]
    after_results_simp <;> rfl
  rw [e, show W1 m c (Proc.devRef .tc main_v16) = nn (h m c) (arrange (w m c)) from main_v16_val m c]
  funext i
  obtain ⟨p, q, rfl⟩ : ∃ (p : Fin 4352) (q : Fin 2048), i = ix2 p q := ⟨i 0, i 1, by funext a; fin_cases a <;> rfl⟩
  pointwise
  exact col_z (arranged (w m c)) p q

set_option maxRecDepth 20000 in
/-- The convolution's input. -/
theorem out_main_v26 : W2 m c (Proc.devRef .tc main_v26) = pick cx (nn (h m c) (w m c)) := by
  have e : W2 m c (Proc.devRef .tc main_v26) = unperm (extractStridedSlice S4352x4096 ![0, 0] (W1 m c (Proc.devRef .tc main_v16)) slices_S4352x9728_S4352x4096_0_0) := by
    simp only [W2, hostOps1]
    after_results_simp <;> rfl
  rw [e, show W1 m c (Proc.devRef .tc main_v16) = nn (h m c) (arrange (w m c)) from main_v16_val m c]
  funext i
  obtain ⟨p, q, rfl⟩ : ∃ (p : Fin 4352) (q : Fin 4096), i = ix2 p q := ⟨i 0, i 1, by funext a; fin_cases a <;> rfl⟩
  rw [unperm_apply]
  pointwise
  exact col_x (arranged (w m c)) p q

/-- The step sizes. -/
theorem out_main_v27 : W2 m c (Proc.devRef .tc main_v27) = pick ct (nn (h m c) (w m c)) := by
  have e : W2 m c (Proc.devRef .tc main_v27) = extractStridedSlice S4352x64 ![0, 9216] (W1 m c (Proc.devRef .tc main_v16)) slices_S4352x9728_S4352x64_0_9216 := by
    simp only [W2, hostOps1]
    after_results_simp <;> rfl
  rw [e, show W1 m c (Proc.devRef .tc main_v16) = nn (h m c) (arrange (w m c)) from main_v16_val m c]
  funext i
  obtain ⟨p, q, rfl⟩ : ∃ (p : Fin 4352) (q : Fin 64), i = ix2 p q := ⟨i 0, i 1, by funext a; fin_cases a <;> rfl⟩
  pointwise
  exact col_t (arranged (w m c)) p q

/-- The pooling's rows. -/
theorem out_main_v28 : W2 m c (Proc.devRef .tc main_v28) = pick cp (nn (h m c) (w m c)) := by
  have e : W2 m c (Proc.devRef .tc main_v28) = extractStridedSlice S4352x1024 ![0, 8192] (W1 m c (Proc.devRef .tc main_v16)) slices_S4352x9728_S4352x1024_0_8192 := by
    simp only [W2, hostOps1]
    after_results_simp <;> rfl
  rw [e, show W1 m c (Proc.devRef .tc main_v16) = nn (h m c) (arrange (w m c)) from main_v16_val m c]
  funext i
  obtain ⟨p, q, rfl⟩ : ∃ (p : Fin 4352) (q : Fin 1024), i = ix2 p q := ⟨i 0, i 1, by funext a; fin_cases a <;> rfl⟩
  pointwise
  exact col_p (arranged (w m c)) p q

/-- Both branches' gates. -/
theorem out_main_v29 : W2 m c (Proc.devRef .tc main_v29) = pick cgates (nn (h m c) (w m c)) := by
  have e : W2 m c (Proc.devRef .tc main_v29) = extractStridedSlice S4352x2048 ![0, 6144] (W1 m c (Proc.devRef .tc main_v16)) slices_S4352x9728_S4352x2048_0_6144 := by
    simp only [W2, hostOps1]
    after_results_simp <;> rfl
  rw [e, show W1 m c (Proc.devRef .tc main_v16) = nn (h m c) (arrange (w m c)) from main_v16_val m c]
  funext i
  obtain ⟨p, q, rfl⟩ : ∃ (p : Fin 4352) (q : Fin 2048), i = ix2 p q := ⟨i 0, i 1, by funext a; fin_cases a <;> rfl⟩
  pointwise
  exact col_g (arranged (w m c)) p q

end Cert.Pro

end
-- ==== Proof.ProReference.lean ====
/- What the reference computes: products, and the parts of the projection. -/
module

public import proofs.«01_k».proof.Proof.Gen.Reference8Ideal.Read
public import proofs.«01_k».proof.Proof.FwdModel

@[expose] public section

noncomputable section

namespace Cert.Pro

open Cert.Reference8Ideal Cert.Reference8Ideal.Gen Cert.Reference8Ideal.Read Idealize.ShloMosaic Idealize.ShloMosaic.TcCoe Cert.Products Cert.In Cert.Fwd

variable (x0 : Mat 4352 1024) (x1 : Mat 1024 9280)

theorem ref_v2 : val_main_v2 (F := Ideal) x0 x1 = pick cz (nn x0 x1) := by
  funext i
  obtain ⟨p, q, rfl⟩ : ∃ (p : Fin 4352) (q : Fin 2048), i = ix2 p q := ⟨i 0, i 1, by funext a; fin_cases a <;> rfl⟩
  pointwise [val_main_v2, val_main_v1, val_main_v0]
  exact Finset.sum_congr rfl fun k _ => congrArg (fun j => x0 (ix2 p k) * x1 (ix2 k j)) (Fin.ext (show q.val = 0 + q.val by omega))

theorem ref_v3 : val_main_v3 (F := Ideal) x0 x1 = pick cx (nn x0 x1) := by
  funext i
  obtain ⟨p, q, rfl⟩ : ∃ (p : Fin 4352) (q : Fin 4096), i = ix2 p q := ⟨i 0, i 1, by funext a; fin_cases a <;> rfl⟩
  pointwise [val_main_v3, val_main_v1, val_main_v0]
  exact Finset.sum_congr rfl fun k _ => congrArg (fun j => x0 (ix2 p k) * x1 (ix2 k j)) (Fin.ext (show 2048 + q.val = 2048 + q.val by omega))

theorem ref_v4 : val_main_v4 (F := Ideal) x0 x1 = pick ct (nn x0 x1) := by
  funext i
  obtain ⟨p, q, rfl⟩ : ∃ (p : Fin 4352) (q : Fin 64), i = ix2 p q := ⟨i 0, i 1, by funext a; fin_cases a <;> rfl⟩
  pointwise [val_main_v4, val_main_v1, val_main_v0]
  exact Finset.sum_congr rfl fun k _ => congrArg (fun j => x0 (ix2 p k) * x1 (ix2 k j)) (Fin.ext (show 6144 + q.val = 6144 + q.val by omega))

theorem ref_v5 : val_main_v5 (F := Ideal) x0 x1 = pick cp (nn x0 x1) := by
  funext i
  obtain ⟨p, q, rfl⟩ : ∃ (p : Fin 4352) (q : Fin 1024), i = ix2 p q := ⟨i 0, i 1, by funext a; fin_cases a <;> rfl⟩
  pointwise [val_main_v5, val_main_v1, val_main_v0]
  exact Finset.sum_congr rfl fun k _ => congrArg (fun j => x0 (ix2 p k) * x1 (ix2 k j)) (Fin.ext (show 6208 + q.val = 6208 + q.val by omega))

theorem ref_v6 : val_main_v6 (F := Ideal) x0 x1 = pick cgates (nn x0 x1) := by
  funext i
  obtain ⟨p, q, rfl⟩ : ∃ (p : Fin 4352) (q : Fin 2048), i = ix2 p q := ⟨i 0, i 1, by funext a; fin_cases a <;> rfl⟩
  pointwise [val_main_v6, val_main_v1, val_main_v0]
  exact Finset.sum_congr rfl fun k _ => congrArg (fun j => x0 (ix2 p k) * x1 (ix2 k j)) (Fin.ext (show 7232 + q.val = 7232 + q.val by omega))

end Cert.Pro

end
-- ==== Proof.SmallRun.lean ====
/- The arrays of the program at its end. -/
module

public import proofs.«01_k».proof.Proof.Gen.Kernel9Ideal.Frame

@[expose] public section

noncomputable section

namespace Cert.Small

open Cert.Kernel9Ideal Cert.Kernel9Ideal.Gen Idealize.ShloMosaic Idealize.ShloMosaic.TcCoe Idealize.SL Idealize.SL.Sem

variable {F : FTy → Type} [FloatOps F]
variable (m : (ℓ : Loc nD τ sig) → Buf (Elt F) ℓ) (ρ : Dev nD → PrngReg) (c : Dev nD)

/-- The arrays after the call. -/
def W1 : Valuation τ sig (Elt F) := Pipeline.withArrays spec0 c (V0 m c) fun w => (dats m 0 c).arrAt w cfg0.N

/-- The arrays at the end. -/
def W2 : Valuation τ sig (Elt F) := StableHlo.after hostOps1 (W1 m c)

/-- An array of the call holds what the call leaves. -/
theorem W1_arr (w : Fin cfg0.W) : W1 m c (Proc.devRef .tc (Pipeline.arrRef spec0 w)) = (dats m 0 c).arrAt w cfg0.N := by
  unfold W1; exact Pipeline.withArrays_arr spec0 launch0.win.arr_inj c _ _ w

theorem tail_eq (b : Ref sig .tc) :
    Pipeline.afterTail₀ cfgs (dats m) 0 (V0 m) [hostOps1] c b = W2 m c (Proc.devRef .tc b) := by
  unfold Pipeline.afterTail₀ W2
  simp only [List.flatten_cons, List.flatten_nil, List.append_nil]
  rfl

/-- From any memory with zero counters the program ends, the arrays outside the call hold `W2`, and the arguments are as they
    were. -/
theorem run : θ_run defs (onTc (τ := τ) (main (F := F))) ⟨m, fun _ => 0, ρ⟩ (fun r => ∀ c : Dev nD,
      (∀ b : Ref sig .tc, b.isScoped = false → (∀ w, (spec0 w).arr.view.ref ≠ b) →
        r.2.mem ((c.tc : Thread nD τ).loc b) = W2 m c (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)) :=
  (θ_run defs _ _).mono (fun _ h c =>
    ⟨fun b hs hw => (((h.1 c).2 b (Pipeline.mem_restRefs_of b hs hw)).trans (tail_eq m c b)), h.2 c⟩)
    (θ_run_and (run_main m ρ) (unchanged m ρ))

end Cert.Small

end
-- ==== Proof.SmallPay.lean ====
/- What the step's body stores, element by element. -/
module

public import proofs.«01_k».proof.Proof.Gen.Kernel9Ideal.Skeleton
public import proofs.«01_k».proof.Proof.OptModel

@[expose] public section

noncomputable section

namespace Cert.Small

open Cert.Kernel9Ideal Cert.Kernel9Ideal.Gen Idealize.ShloMosaic Idealize.ShloMosaic.TcCoe Cert.Opt

theorem pay4 (g : FVec Ideal S344x128 .f32) (p : Fin 344) (q : Fin 128) :
    k0_pay1 (F := Ideal) (k0_pay4 g) (ix3 (0 : Fin 1) p q) = g (ix2 p q) := by
  pointwise [k0_pay1, k0_pay4]

theorem first (g : FVec Ideal S344x128 .f32) (m : FVec Ideal S1x344x128 .f32) (p : Fin 344) (q : Fin 128) :
    k0_pay5 (F := Ideal) g m (ix2 p q) = moment (g (ix2 p q)) (m (ix3 (0 : Fin 1) p q)) := by
  pointwise [k0_pay5, k0_pay4]
  rfl

theorem second (g : FVec Ideal S344x128 .f32) (v : FVec Ideal S1x344x128 .f32) (p : Fin 344) (q : Fin 128) :
    k0_pay6 (F := Ideal) g v (ix2 p q) = square (g (ix2 p q)) (v (ix3 (0 : Fin 1) p q)) := by
  pointwise [k0_pay6, k0_pay4]
  rfl

theorem pay5 (g : FVec Ideal S344x128 .f32) (w m v : FVec Ideal S1x344x128 .f32) (p : Fin 344) (q : Fin 128) :
    k0_pay7 (F := Ideal) g m v w (ix3 (0 : Fin 1) p q)
      = step (w (ix3 (0 : Fin 1) p q)) (g (ix2 p q)) (m (ix3 (0 : Fin 1) p q)) (v (ix3 (0 : Fin 1) p q)) := by
  pointwise [k0_pay7]
  rw [first, second]
  rfl

theorem pay6 (g : FVec Ideal S344x128 .f32) (m : FVec Ideal S1x344x128 .f32) (p : Fin 344) (q : Fin 128) :
    k0_pay2 (F := Ideal) (k0_pay5 g m) (ix3 (0 : Fin 1) p q) = moment (g (ix2 p q)) (m (ix3 (0 : Fin 1) p q)) := by
  pointwise [k0_pay2]
  exact first g m p q

theorem pay7 (g : FVec Ideal S344x128 .f32) (v : FVec Ideal S1x344x128 .f32) (p : Fin 344) (q : Fin 128) :
    k0_pay3 (F := Ideal) (k0_pay6 g v) (ix3 (0 : Fin 1) p q) = square (g (ix2 p q)) (v (ix3 (0 : Fin 1) p q)) := by
  pointwise [k0_pay3]
  exact second g v p q

end Cert.Small

end
-- ==== Proof.SmallHost.lean ====
/- How the host packs the twelve small arrays into one, and where it finds them again. -/
module

public import proofs.«01_k».proof.Proof.Gen.Kernel9Ideal
public import proofs.«01_k».proof.Proof.OptModel

@[expose] public section

noncomputable section

namespace Cert.Small

open Cert.Kernel9Ideal Cert.Kernel9Ideal.Gen Idealize.ShloMosaic Idealize.ShloMosaic.TcCoe Cert.Opt

/-- Twelve rows one after the other. -/
def line (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32) :
    FVec Ideal S43392 .f32 :=
  concatenate S43392 0
    [⟨S1024, b0⟩,
     ⟨S12288, b1⟩,
     ⟨S2048, b2⟩,
     ⟨S10240, b3⟩,
     ⟨S8192, b4⟩,
     ⟨S128, b5⟩,
     ⟨S128, b6⟩,
     ⟨S128, b7⟩,
     ⟨S4096, b8⟩,
     ⟨S2048, b9⟩,
     ⟨S2048, b10⟩,
     ⟨S1024, b11⟩]
    concatenates_S1024_S12288_S2048_S10240_S8192_S128_S128_S128_S4096_S2048_S2048_S1024_S43392_d0

/-- The twelve small arrays one after the other. -/
def row (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    FVec Ideal S43392 .f32 :=
  line a0
    (shapeCast S12288 a1 shapeCasts_S2x6144_S12288 : FVec Ideal S12288 .f32)
    (shapeCast S2048 a2 shapeCasts_S2x1024_S2048 : FVec Ideal S2048 .f32)
    (shapeCast S10240 a3 shapeCasts_S2x5x1024_S10240 : FVec Ideal S10240 .f32)
    (shapeCast S8192 a4 shapeCasts_S2x4096_S8192 : FVec Ideal S8192 .f32)
    (shapeCast S128 a5 shapeCasts_S2x2x32_S128 : FVec Ideal S128 .f32)
    (shapeCast S128 a6 shapeCasts_S2x2x32_S128 : FVec Ideal S128 .f32)
    (shapeCast S128 a7 shapeCasts_S2x2x32_S128 : FVec Ideal S128 .f32)
    (shapeCast S4096 a8 shapeCasts_S2x2048_S4096 : FVec Ideal S4096 .f32)
    (shapeCast S2048 a9 shapeCasts_S2x1024_S2048 : FVec Ideal S2048 .f32)
    (shapeCast S2048 a10 shapeCasts_S2x1024_S2048 : FVec Ideal S2048 .f32)
    a11

/-- The row and zeros up to whole lines of 128. -/
def filled (r : FVec Ideal S43392 .f32) : FVec Ideal S44032 .f32 :=
  concatenate S44032 0 [⟨S43392, r⟩, ⟨S640, (broadcastInDim S640 ![] bcast_S_S640 (constant (F := Ideal) S_ .f32 0x00000000#32) : FVec Ideal S640 .f32)⟩]
    concatenates_S43392_S640_S44032_d0

/-- One matrix as a stack of one. -/
def lift (x : FVec Ideal S344x128 .f32) : FVec Ideal S1x344x128 .f32 := broadcastInDim S1x344x128 ![1, 2] bcast_S344x128_S1x344x128_1_2 x

/-- The filled row as a stack of one matrix of lines. -/
def pack (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    FVec Ideal S1x344x128 .f32 :=
  lift (shapeCast S344x128 (filled (row a0 a1 a2 a3 a4 a5 a6 a7 a8 a9 a10 a11)) shapeCasts_S44032_S344x128)

/-- The lines one after the other again. -/
def flat (x : FVec Ideal S1x344x128 .f32) : FVec Ideal S44032 .f32 := shapeCast S44032 x shapeCasts_S1x344x128_S44032

theorem lift_eq (x : FVec Ideal S344x128 .f32) : lift x = shapeCast S1x344x128 x shapeCasts_S344x128_S1x344x128 := by
  funext i
  obtain ⟨p, q, rfl⟩ : ∃ (p : Fin 344) (q : Fin 128), i = ix3 (0 : Fin 1) p q :=
    ⟨i 1, i 2, by funext a; fin_cases a; exacts [Fin.ext (Nat.lt_one_iff.1 (i 0).isLt), rfl, rfl]⟩
  pointwise [lift]

/-- A stack of one, taken down and put up again. -/
theorem lift_down (x : FVec Ideal S1x344x128 .f32) : lift (shapeCast S344x128 x shapeCasts_S1x344x128_S344x128) = x := by
  rw [lift_eq]
  exact shapeCast_shapeCast x _ _

theorem flat_pack (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    flat (pack a0 a1 a2 a3 a4 a5 a6 a7 a8 a9 a10 a11) = filled (row a0 a1 a2 a3 a4 a5 a6 a7 a8 a9 a10 a11) := by
  unfold flat pack
  rw [lift_eq, shapeCast_comp, shapeCast_comp, shapeCast_id]

/-- Of the filled row the first places are the row's. -/
theorem filled_left (r : FVec Ideal S43392 .f32) (j : Fin 44032) (h : j.val < 43392) : filled r (ix1 j) = r (ix1 ⟨j.val, h⟩) := by
  pointwise [filled]
  exact dif_pos h

/-- The places of `c_ctx`. -/
def take0 (x : FVec Ideal S1x344x128 .f32) : FVec Ideal S1024 .f32 :=
  extractStridedSlice S1024 ![0] (flat x) slices_S44032_S1024_0

theorem line_at0 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 1024) : line b0 b1 b2 b3 b4 b5 b6 b7 b8 b9 b10 b11 (ix1 (⟨0 + j.val, by omega⟩ : Fin 43392)) = b0 (ix1 j) := by
  pointwise [line]

/-- They hold it. -/
theorem taken0 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take0 (pack a0 a1 a2 a3 a4 a5 a6 a7 a8 a9 a10 a11) = a0 := by
  have e : extractStridedSlice S1024 ![0] (filled (row a0 a1 a2 a3 a4 a5 a6 a7 a8 a9 a10 a11)) slices_S44032_S1024_0 = (a0 : FVec Ideal S1024 .f32) := by
    funext i
    obtain ⟨j, rfl⟩ : ∃ j : Fin 1024, i = ix1 j := ⟨i 0, by funext a; fin_cases a; rfl⟩
    refine (show _ = filled (row a0 a1 a2 a3 a4 a5 a6 a7 a8 a9 a10 a11) (ix1 (⟨0 + j.val, by omega⟩ : Fin 44032)) from ?_).trans
      ((filled_left _ _ (by show 0 + j.val < 43392; omega)).trans (line_at0 _ _ _ _ _ _ _ _ _ _ _ _ j))
    pointwise
  unfold take0
  rw [flat_pack, e]

/-- The places of `b_ada`. -/
def take1 (x : FVec Ideal S1x344x128 .f32) : FVec Ideal S2x6144 .f32 :=
  shapeCast S2x6144 (extractStridedSlice S12288 ![1024] (flat x) slices_S44032_S12288_1024 : FVec Ideal S12288 .f32) shapeCasts_S12288_S2x6144

theorem line_at1 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 12288) : line b0 b1 b2 b3 b4 b5 b6 b7 b8 b9 b10 b11 (ix1 (⟨1024 + j.val, by omega⟩ : Fin 43392)) = b1 (ix1 j) := by
  pointwise [line]

/-- They hold it. -/
theorem taken1 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take1 (pack a0 a1 a2 a3 a4 a5 a6 a7 a8 a9 a10 a11) = a1 := by
  have e : extractStridedSlice S12288 ![1024] (filled (row a0 a1 a2 a3 a4 a5 a6 a7 a8 a9 a10 a11)) slices_S44032_S12288_1024 = ((shapeCast S12288 a1 shapeCasts_S2x6144_S12288 : FVec Ideal S12288 .f32) : FVec Ideal S12288 .f32) := by
    funext i
    obtain ⟨j, rfl⟩ : ∃ j : Fin 12288, i = ix1 j := ⟨i 0, by funext a; fin_cases a; rfl⟩
    refine (show _ = filled (row a0 a1 a2 a3 a4 a5 a6 a7 a8 a9 a10 a11) (ix1 (⟨1024 + j.val, by omega⟩ : Fin 44032)) from ?_).trans
      ((filled_left _ _ (by show 1024 + j.val < 43392; omega)).trans (line_at1 _ _ _ _ _ _ _ _ _ _ _ _ j))
    pointwise
  unfold take1
  rw [flat_pack, e]
  exact shapeCast_shapeCast a1 _ _

/-- The places of `g_mix`. -/
def take2 (x : FVec Ideal S1x344x128 .f32) : FVec Ideal S2x1024 .f32 :=
  shapeCast S2x1024 (extractStridedSlice S2048 ![13312] (flat x) slices_S44032_S2048_13312 : FVec Ideal S2048 .f32) shapeCasts_S2048_S2x1024

theorem line_at2 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 2048) : line b0 b1 b2 b3 b4 b5 b6 b7 b8 b9 b10 b11 (ix1 (⟨13312 + j.val, by omega⟩ : Fin 43392)) = b2 (ix1 j) := by
  pointwise [line]
  exact (dif_neg (by omega)).trans ((dif_neg (by omega)).trans ((dif_pos (by omega)).trans (congrArg (fun i => b2 (ix1 i)) (Fin.ext (by dsimp only; omega)))))

/-- They hold it. -/
theorem taken2 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take2 (pack a0 a1 a2 a3 a4 a5 a6 a7 a8 a9 a10 a11) = a2 := by
  have e : extractStridedSlice S2048 ![13312] (filled (row a0 a1 a2 a3 a4 a5 a6 a7 a8 a9 a10 a11)) slices_S44032_S2048_13312 = ((shapeCast S2048 a2 shapeCasts_S2x1024_S2048 : FVec Ideal S2048 .f32) : FVec Ideal S2048 .f32) := by
    funext i
    obtain ⟨j, rfl⟩ : ∃ j : Fin 2048, i = ix1 j := ⟨i 0, by funext a; fin_cases a; rfl⟩
    refine (show _ = filled (row a0 a1 a2 a3 a4 a5 a6 a7 a8 a9 a10 a11) (ix1 (⟨13312 + j.val, by omega⟩ : Fin 44032)) from ?_).trans
      ((filled_left _ _ (by show 13312 + j.val < 43392; omega)).trans (line_at2 _ _ _ _ _ _ _ _ _ _ _ _ j))
    pointwise
  unfold take2
  rw [flat_pack, e]
  exact shapeCast_shapeCast a2 _ _

/-- The places of `conv_w`. -/
def take3 (x : FVec Ideal S1x344x128 .f32) : FVec Ideal S2x5x1024 .f32 :=
  shapeCast S2x5x1024 (extractStridedSlice S10240 ![15360] (flat x) slices_S44032_S10240_15360 : FVec Ideal S10240 .f32) shapeCasts_S10240_S2x5x1024

theorem line_at3 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 10240) : line b0 b1 b2 b3 b4 b5 b6 b7 b8 b9 b10 b11 (ix1 (⟨15360 + j.val, by omega⟩ : Fin 43392)) = b3 (ix1 j) := by
  pointwise [line]
  exact (dif_neg (by omega)).trans ((dif_neg (by omega)).trans ((dif_neg (by omega)).trans ((dif_pos (by omega)).trans (congrArg (fun i => b3 (ix1 i)) (Fin.ext (by dsimp only; omega))))))

/-- They hold it. -/
theorem taken3 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take3 (pack a0 a1 a2 a3 a4 a5 a6 a7 a8 a9 a10 a11) = a3 := by
  have e : extractStridedSlice S10240 ![15360] (filled (row a0 a1 a2 a3 a4 a5 a6 a7 a8 a9 a10 a11)) slices_S44032_S10240_15360 = ((shapeCast S10240 a3 shapeCasts_S2x5x1024_S10240 : FVec Ideal S10240 .f32) : FVec Ideal S10240 .f32) := by
    funext i
    obtain ⟨j, rfl⟩ : ∃ j : Fin 10240, i = ix1 j := ⟨i 0, by funext a; fin_cases a; rfl⟩
    refine (show _ = filled (row a0 a1 a2 a3 a4 a5 a6 a7 a8 a9 a10 a11) (ix1 (⟨15360 + j.val, by omega⟩ : Fin 44032)) from ?_).trans
      ((filled_left _ _ (by show 15360 + j.val < 43392; omega)).trans (line_at3 _ _ _ _ _ _ _ _ _ _ _ _ j))
    pointwise
  unfold take3
  rw [flat_pack, e]
  exact shapeCast_shapeCast a3 _ _

/-- The places of `conv_b`. -/
def take4 (x : FVec Ideal S1x344x128 .f32) : FVec Ideal S2x4096 .f32 :=
  shapeCast S2x4096 (extractStridedSlice S8192 ![25600] (flat x) slices_S44032_S8192_25600 : FVec Ideal S8192 .f32) shapeCasts_S8192_S2x4096

theorem line_at4 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 8192) : line b0 b1 b2 b3 b4 b5 b6 b7 b8 b9 b10 b11 (ix1 (⟨25600 + j.val, by omega⟩ : Fin 43392)) = b4 (ix1 j) := by
  pointwise [line]
  exact (dif_neg (by omega)).trans ((dif_neg (by omega)).trans ((dif_neg (by omega)).trans ((dif_neg (by omega)).trans ((dif_pos (by omega)).trans (congrArg (fun i => b4 (ix1 i)) (Fin.ext (by dsimp only; omega)))))))

/-- They hold it. -/
theorem taken4 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take4 (pack a0 a1 a2 a3 a4 a5 a6 a7 a8 a9 a10 a11) = a4 := by
  have e : extractStridedSlice S8192 ![25600] (filled (row a0 a1 a2 a3 a4 a5 a6 a7 a8 a9 a10 a11)) slices_S44032_S8192_25600 = ((shapeCast S8192 a4 shapeCasts_S2x4096_S8192 : FVec Ideal S8192 .f32) : FVec Ideal S8192 .f32) := by
    funext i
    obtain ⟨j, rfl⟩ : ∃ j : Fin 8192, i = ix1 j := ⟨i 0, by funext a; fin_cases a; rfl⟩
    refine (show _ = filled (row a0 a1 a2 a3 a4 a5 a6 a7 a8 a9 a10 a11) (ix1 (⟨25600 + j.val, by omega⟩ : Fin 44032)) from ?_).trans
      ((filled_left _ _ (by show 25600 + j.val < 43392; omega)).trans (line_at4 _ _ _ _ _ _ _ _ _ _ _ _ j))
    pointwise
  unfold take4
  rw [flat_pack, e]
  exact shapeCast_shapeCast a4 _ _

/-- The places of `dt_bias`. -/
def take5 (x : FVec Ideal S1x344x128 .f32) : FVec Ideal S2x2x32 .f32 :=
  shapeCast S2x2x32 (extractStridedSlice S128 ![33792] (flat x) slices_S44032_S128_33792 : FVec Ideal S128 .f32) shapeCasts_S128_S2x2x32

theorem line_at5 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 128) : line b0 b1 b2 b3 b4 b5 b6 b7 b8 b9 b10 b11 (ix1 (⟨33792 + j.val, by omega⟩ : Fin 43392)) = b5 (ix1 j) := by
  pointwise [line]
  exact (dif_neg (by omega)).trans ((dif_neg (by omega)).trans ((dif_neg (by omega)).trans ((dif_neg (by omega)).trans ((dif_neg (by omega)).trans ((dif_pos (by omega)).trans (congrArg (fun i => b5 (ix1 i)) (Fin.ext (by dsimp only; omega))))))))

/-- They hold it. -/
theorem taken5 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take5 (pack a0 a1 a2 a3 a4 a5 a6 a7 a8 a9 a10 a11) = a5 := by
  have e : extractStridedSlice S128 ![33792] (filled (row a0 a1 a2 a3 a4 a5 a6 a7 a8 a9 a10 a11)) slices_S44032_S128_33792 = ((shapeCast S128 a5 shapeCasts_S2x2x32_S128 : FVec Ideal S128 .f32) : FVec Ideal S128 .f32) := by
    funext i
    obtain ⟨j, rfl⟩ : ∃ j : Fin 128, i = ix1 j := ⟨i 0, by funext a; fin_cases a; rfl⟩
    refine (show _ = filled (row a0 a1 a2 a3 a4 a5 a6 a7 a8 a9 a10 a11) (ix1 (⟨33792 + j.val, by omega⟩ : Fin 44032)) from ?_).trans
      ((filled_left _ _ (by show 33792 + j.val < 43392; omega)).trans (line_at5 _ _ _ _ _ _ _ _ _ _ _ _ j))
    pointwise
  unfold take5
  rw [flat_pack, e]
  exact shapeCast_shapeCast a5 _ _

/-- The places of `a_log`. -/
def take6 (x : FVec Ideal S1x344x128 .f32) : FVec Ideal S2x2x32 .f32 :=
  shapeCast S2x2x32 (extractStridedSlice S128 ![33920] (flat x) slices_S44032_S128_33920 : FVec Ideal S128 .f32) shapeCasts_S128_S2x2x32

theorem line_at6 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 128) : line b0 b1 b2 b3 b4 b5 b6 b7 b8 b9 b10 b11 (ix1 (⟨33920 + j.val, by omega⟩ : Fin 43392)) = b6 (ix1 j) := by
  pointwise [line]
  exact (dif_neg (by omega)).trans ((dif_neg (by omega)).trans ((dif_neg (by omega)).trans ((dif_neg (by omega)).trans ((dif_neg (by omega)).trans ((dif_neg (by omega)).trans ((dif_pos (by omega)).trans (congrArg (fun i => b6 (ix1 i)) (Fin.ext (by dsimp only; omega)))))))))

/-- They hold it. -/
theorem taken6 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take6 (pack a0 a1 a2 a3 a4 a5 a6 a7 a8 a9 a10 a11) = a6 := by
  have e : extractStridedSlice S128 ![33920] (filled (row a0 a1 a2 a3 a4 a5 a6 a7 a8 a9 a10 a11)) slices_S44032_S128_33920 = ((shapeCast S128 a6 shapeCasts_S2x2x32_S128 : FVec Ideal S128 .f32) : FVec Ideal S128 .f32) := by
    funext i
    obtain ⟨j, rfl⟩ : ∃ j : Fin 128, i = ix1 j := ⟨i 0, by funext a; fin_cases a; rfl⟩
    refine (show _ = filled (row a0 a1 a2 a3 a4 a5 a6 a7 a8 a9 a10 a11) (ix1 (⟨33920 + j.val, by omega⟩ : Fin 44032)) from ?_).trans
      ((filled_left _ _ (by show 33920 + j.val < 43392; omega)).trans (line_at6 _ _ _ _ _ _ _ _ _ _ _ _ j))
    pointwise
  unfold take6
  rw [flat_pack, e]
  exact shapeCast_shapeCast a6 _ _

/-- The places of `d_skip`. -/
def take7 (x : FVec Ideal S1x344x128 .f32) : FVec Ideal S2x2x32 .f32 :=
  shapeCast S2x2x32 (extractStridedSlice S128 ![34048] (flat x) slices_S44032_S128_34048 : FVec Ideal S128 .f32) shapeCasts_S128_S2x2x32

theorem line_at7 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 128) : line b0 b1 b2 b3 b4 b5 b6 b7 b8 b9 b10 b11 (ix1 (⟨34048 + j.val, by omega⟩ : Fin 43392)) = b7 (ix1 j) := by
  pointwise [line]
  exact (dif_neg (by omega)).trans ((dif_neg (by omega)).trans ((dif_neg (by omega)).trans ((dif_neg (by omega)).trans ((dif_neg (by omega)).trans ((dif_neg (by omega)).trans ((dif_neg (by omega)).trans ((dif_pos (by omega)).trans (congrArg (fun i => b7 (ix1 i)) (Fin.ext (by dsimp only; omega))))))))))

/-- They hold it. -/
theorem taken7 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take7 (pack a0 a1 a2 a3 a4 a5 a6 a7 a8 a9 a10 a11) = a7 := by
  have e : extractStridedSlice S128 ![34048] (filled (row a0 a1 a2 a3 a4 a5 a6 a7 a8 a9 a10 a11)) slices_S44032_S128_34048 = ((shapeCast S128 a7 shapeCasts_S2x2x32_S128 : FVec Ideal S128 .f32) : FVec Ideal S128 .f32) := by
    funext i
    obtain ⟨j, rfl⟩ : ∃ j : Fin 128, i = ix1 j := ⟨i 0, by funext a; fin_cases a; rfl⟩
    refine (show _ = filled (row a0 a1 a2 a3 a4 a5 a6 a7 a8 a9 a10 a11) (ix1 (⟨34048 + j.val, by omega⟩ : Fin 44032)) from ?_).trans
      ((filled_left _ _ (by show 34048 + j.val < 43392; omega)).trans (line_at7 _ _ _ _ _ _ _ _ _ _ _ _ j))
    pointwise
  unfold take7
  rw [flat_pack, e]
  exact shapeCast_shapeCast a7 _ _

/-- The places of `ssd_norm_w`. -/
def take8 (x : FVec Ideal S1x344x128 .f32) : FVec Ideal S2x2048 .f32 :=
  shapeCast S2x2048 (extractStridedSlice S4096 ![34176] (flat x) slices_S44032_S4096_34176 : FVec Ideal S4096 .f32) shapeCasts_S4096_S2x2048

theorem line_at8 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 4096) : line b0 b1 b2 b3 b4 b5 b6 b7 b8 b9 b10 b11 (ix1 (⟨34176 + j.val, by omega⟩ : Fin 43392)) = b8 (ix1 j) := by
  pointwise [line]
  exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans (congrArg (fun i => b8 (ix1 i)) (Fin.ext (by dsimp only; omega)))))))))))

/-- They hold it. -/
theorem taken8 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take8 (pack a0 a1 a2 a3 a4 a5 a6 a7 a8 a9 a10 a11) = a8 := by
  have e : extractStridedSlice S4096 ![34176] (filled (row a0 a1 a2 a3 a4 a5 a6 a7 a8 a9 a10 a11)) slices_S44032_S4096_34176 = ((shapeCast S4096 a8 shapeCasts_S2x2048_S4096 : FVec Ideal S4096 .f32) : FVec Ideal S4096 .f32) := by
    funext i
    obtain ⟨j, rfl⟩ : ∃ j : Fin 4096, i = ix1 j := ⟨i 0, by funext a; fin_cases a; rfl⟩
    refine (show _ = filled (row a0 a1 a2 a3 a4 a5 a6 a7 a8 a9 a10 a11) (ix1 (⟨34176 + j.val, by omega⟩ : Fin 44032)) from ?_).trans
      ((filled_left _ _ (by show 34176 + j.val < 43392; omega)).trans (line_at8 _ _ _ _ _ _ _ _ _ _ _ _ j))
    pointwise
  unfold take8
  rw [flat_pack, e]
  exact shapeCast_shapeCast a8 _ _

/-- The places of `pool_scale`. -/
def take9 (x : FVec Ideal S1x344x128 .f32) : FVec Ideal S2x1024 .f32 :=
  shapeCast S2x1024 (extractStridedSlice S2048 ![38272] (flat x) slices_S44032_S2048_38272 : FVec Ideal S2048 .f32) shapeCasts_S2048_S2x1024

theorem line_at9 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 2048) : line b0 b1 b2 b3 b4 b5 b6 b7 b8 b9 b10 b11 (ix1 (⟨38272 + j.val, by omega⟩ : Fin 43392)) = b9 (ix1 j) := by
  pointwise [line]
  exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans (congrArg (fun i => b9 (ix1 i)) (Fin.ext (by dsimp only; omega))))))))))))

/-- They hold it. -/
theorem taken9 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take9 (pack a0 a1 a2 a3 a4 a5 a6 a7 a8 a9 a10 a11) = a9 := by
  have e : extractStridedSlice S2048 ![38272] (filled (row a0 a1 a2 a3 a4 a5 a6 a7 a8 a9 a10 a11)) slices_S44032_S2048_38272 = ((shapeCast S2048 a9 shapeCasts_S2x1024_S2048 : FVec Ideal S2048 .f32) : FVec Ideal S2048 .f32) := by
    funext i
    obtain ⟨j, rfl⟩ : ∃ j : Fin 2048, i = ix1 j := ⟨i 0, by funext a; fin_cases a; rfl⟩
    refine (show _ = filled (row a0 a1 a2 a3 a4 a5 a6 a7 a8 a9 a10 a11) (ix1 (⟨38272 + j.val, by omega⟩ : Fin 44032)) from ?_).trans
      ((filled_left _ _ (by show 38272 + j.val < 43392; omega)).trans (line_at9 _ _ _ _ _ _ _ _ _ _ _ _ j))
    pointwise
  unfold take9
  rw [flat_pack, e]
  exact shapeCast_shapeCast a9 _ _

/-- The places of `g_ffn`. -/
def take10 (x : FVec Ideal S1x344x128 .f32) : FVec Ideal S2x1024 .f32 :=
  shapeCast S2x1024 (extractStridedSlice S2048 ![40320] (flat x) slices_S44032_S2048_40320 : FVec Ideal S2048 .f32) shapeCasts_S2048_S2x1024

theorem line_at10 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 2048) : line b0 b1 b2 b3 b4 b5 b6 b7 b8 b9 b10 b11 (ix1 (⟨40320 + j.val, by omega⟩ : Fin 43392)) = b10 (ix1 j) := by
  pointwise [line]
  exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans (congrArg (fun i => b10 (ix1 i)) (Fin.ext (by dsimp only; omega)))))))))))))

/-- They hold it. -/
theorem taken10 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take10 (pack a0 a1 a2 a3 a4 a5 a6 a7 a8 a9 a10 a11) = a10 := by
  have e : extractStridedSlice S2048 ![40320] (filled (row a0 a1 a2 a3 a4 a5 a6 a7 a8 a9 a10 a11)) slices_S44032_S2048_40320 = ((shapeCast S2048 a10 shapeCasts_S2x1024_S2048 : FVec Ideal S2048 .f32) : FVec Ideal S2048 .f32) := by
    funext i
    obtain ⟨j, rfl⟩ : ∃ j : Fin 2048, i = ix1 j := ⟨i 0, by funext a; fin_cases a; rfl⟩
    refine (show _ = filled (row a0 a1 a2 a3 a4 a5 a6 a7 a8 a9 a10 a11) (ix1 (⟨40320 + j.val, by omega⟩ : Fin 44032)) from ?_).trans
      ((filled_left _ _ (by show 40320 + j.val < 43392; omega)).trans (line_at10 _ _ _ _ _ _ _ _ _ _ _ _ j))
    pointwise
  unfold take10
  rw [flat_pack, e]
  exact shapeCast_shapeCast a10 _ _

/-- The places of `g_final`. -/
def take11 (x : FVec Ideal S1x344x128 .f32) : FVec Ideal S1024 .f32 :=
  extractStridedSlice S1024 ![42368] (flat x) slices_S44032_S1024_42368

theorem line_at11 (b0 : FVec Ideal S1024 .f32) (b1 : FVec Ideal S12288 .f32) (b2 : FVec Ideal S2048 .f32) (b3 : FVec Ideal S10240 .f32) (b4 : FVec Ideal S8192 .f32) (b5 : FVec Ideal S128 .f32) (b6 : FVec Ideal S128 .f32) (b7 : FVec Ideal S128 .f32) (b8 : FVec Ideal S4096 .f32) (b9 : FVec Ideal S2048 .f32) (b10 : FVec Ideal S2048 .f32) (b11 : FVec Ideal S1024 .f32)
    (j : Fin 1024) : line b0 b1 b2 b3 b4 b5 b6 b7 b8 b9 b10 b11 (ix1 (⟨42368 + j.val, by omega⟩ : Fin 43392)) = b11 (ix1 j) := by
  pointwise [line]
  exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans (congrArg (fun i => b11 (ix1 i)) (Fin.ext (by dsimp only; omega)))))))))))))

/-- They hold it. -/
theorem taken11 (a0 : FVec Ideal S1024 .f32) (a1 : FVec Ideal S2x6144 .f32) (a2 : FVec Ideal S2x1024 .f32) (a3 : FVec Ideal S2x5x1024 .f32) (a4 : FVec Ideal S2x4096 .f32) (a5 : FVec Ideal S2x2x32 .f32) (a6 : FVec Ideal S2x2x32 .f32) (a7 : FVec Ideal S2x2x32 .f32) (a8 : FVec Ideal S2x2048 .f32) (a9 : FVec Ideal S2x1024 .f32) (a10 : FVec Ideal S2x1024 .f32) (a11 : FVec Ideal S1024 .f32) :
    take11 (pack a0 a1 a2 a3 a4 a5 a6 a7 a8 a9 a10 a11) = a11 := by
  have e : extractStridedSlice S1024 ![42368] (filled (row a0 a1 a2 a3 a4 a5 a6 a7 a8 a9 a10 a11)) slices_S44032_S1024_42368 = (a11 : FVec Ideal S1024 .f32) := by
    funext i
    obtain ⟨j, rfl⟩ : ∃ j : Fin 1024, i = ix1 j := ⟨i 0, by funext a; fin_cases a; rfl⟩
    refine (show _ = filled (row a0 a1 a2 a3 a4 a5 a6 a7 a8 a9 a10 a11) (ix1 (⟨42368 + j.val, by omega⟩ : Fin 44032)) from ?_).trans
      ((filled_left _ _ (by show 42368 + j.val < 43392; omega)).trans (line_at11 _ _ _ _ _ _ _ _ _ _ _ _ j))
    pointwise
  unfold take11
  rw [flat_pack, e]

end Cert.Small

end
-- ==== Proof.SmallCalls.lean ====
/- What the step's call leaves in its arrays. -/
module

public import proofs.«01_k».proof.Proof.Gen.Kernel9Ideal.Frame
public import proofs.«01_k».proof.Proof.SmallPay
public import proofs.«01_k».proof.Proof.SmallHost

@[expose] public section

noncomputable section

namespace Cert.Small

open Cert.Kernel9Ideal Cert.Kernel9Ideal.Gen Idealize.ShloMosaic Idealize.ShloMosaic.TcCoe Cert.Opt

variable (m : (ℓ : Loc nD τ sig) → Buf (Elt Ideal) ℓ) (c : Dev nD)

theorem idx : ∀ t : Fin grid0.N, win0_3.index t 0 = win0_5.index t 1 ∧ win0_3.index t 1 = 0 ∧ win0_5.index t 2 = 0 := by
  decide +kernel

theorem hit : ∃ t : Fin grid0.N, win0_5.index t 0 = 0 ∧ win0_5.index t 1 = 0 ∧ win0_5.index t 2 = 0 := by
  decide +kernel

/-- The gradient's block. -/
theorem grad_at (t : Fin cfg0.N) (p : Fin 344) (q : Fin 128) :
    (iblk m c 3 t : S344x128.Idx → EReal) (ix2 p q) = lift (V m c main_v60) (((cfg0.win 5).blk t).view.emb (ix3 (0 : Fin 1) p q)) := by
  obtain ⟨h0, h1, h2⟩ := idx t
  have e : ∀ (x : FVec Ideal S344x128 .f32) (i : S1x344x128.Idx), lift x i = x (ix2 (i 1) (i 2)) := fun x i => by
    obtain ⟨a, b, rfl⟩ : ∃ (a : Fin 344) (b : Fin 128), i = ix3 (0 : Fin 1) a b :=
      ⟨i 1, i 2, by funext a; fin_cases a; exacts [Fin.ext (Nat.lt_one_iff.1 (i 0).isLt), rfl, rfl]⟩
    pointwise [lift]
  rw [e]
  show V m c main_v60 _ = V m c main_v60 _
  congr 1; funext a; fin_cases a
  · ext; show win0_3.index t 0 * 344 + 1 * p.val = win0_5.index t 1 * 344 + 1 * p.val; rw [h0]
  · ext; show win0_3.index t 1 * 128 + 1 * q.val = win0_5.index t 2 * 128 + 1 * q.val; rw [h1, h2]

/-- The other blocks. -/
theorem same (t : Fin cfg0.N) (p : Fin 344) (q : Fin 128) :
    (iblk m c 0 t : S1x344x128.Idx → EReal) (ix3 (0 : Fin 1) p q) = V m c main_v14 (((cfg0.win 5).blk t).view.emb (ix3 (0 : Fin 1) p q))
    ∧ (iblk m c 1 t : S1x344x128.Idx → EReal) (ix3 (0 : Fin 1) p q) = V m c main_v44 (((cfg0.win 5).blk t).view.emb (ix3 (0 : Fin 1) p q))
    ∧ (iblk m c 2 t : S1x344x128.Idx → EReal) (ix3 (0 : Fin 1) p q) = V m c main_v59 (((cfg0.win 5).blk t).view.emb (ix3 (0 : Fin 1) p q)) :=
  ⟨rfl, rfl, rfl⟩

/-- Every index lies in the step's block. -/
theorem place (i : S1x344x128.Idx) : ∃ (t : Fin cfg0.N) (p : Fin 344) (q : Fin 128), ((cfg0.win 5).blk t).view.emb (ix3 (0 : Fin 1) p q) = i := by
  have h0 : (i 0).val < 1 := (i 0).isLt
  have h1 : (i 1).val < 344 := (i 1).isLt
  have h2 : (i 2).val < 128 := (i 2).isLt
  obtain ⟨t, e0, e1, e2⟩ := hit
  refine ⟨t, ⟨(i 1).val, h1⟩, ⟨(i 2).val, h2⟩, ?_⟩
  funext a; fin_cases a
  · ext; show win0_5.index t 0 * 1 + 1 * 0 = (i 0).val
    rw [e0]; omega
  · ext; show win0_5.index t 1 * 344 + 1 * (i 1).val = (i 1).val
    rw [e1]; omega
  · ext; show win0_5.index t 2 * 128 + 1 * (i 2).val = (i 2).val
    rw [e2]; omega

theorem flushed5 (t : Fin cfg0.N) : (dats m 0 c).flushed 5 t
    = ((cfg0.win 5).blk t).view.read (Elt Ideal) (steps (V m c main_v14) (lift (V m c main_v60)) (V m c main_v44) (V m c main_v59)) := by
  show (cfg0.win 5).cut (grid0.coords t) ((dats m 0 c).after 5 t) = _
  rw [after0_5]
  funext y
  obtain ⟨p, q, rfl⟩ : ∃ (p : Fin 344) (q : Fin 128), y = ix3 (0 : Fin 1) p q :=
    ⟨y 1, y 2, by funext a; fin_cases a; exacts [Fin.ext (Nat.lt_one_iff.1 (y 0).isLt), rfl, rfl]⟩
  show out0_5 (iblk m c 0 t) (iblk m c 1 t) (iblk m c 2 t) (iblk m c 3 t) (ix3 (0 : Fin 1) p q)
    = (steps (V m c main_v14) (lift (V m c main_v60)) (V m c main_v44) (V m c main_v59)) (((cfg0.win 5).blk t).view.emb (ix3 (0 : Fin 1) p q))
  unfold out0_5
  rw [View.canon_unit_zero (by decide), View.ld_unit_zero (by decide), View.ld_unit_zero (by decide), View.ld_unit_zero (by decide), View.ld_unit_zero (by decide), pay5, grad_at, (same m c t p q).1, (same m c t p q).2.1, (same m c t p q).2.2]
  rfl

/-- The changes. -/
theorem res5 : (dats m 0 c).arrAt 5 cfg0.N = steps (V m c main_v14) (lift (V m c main_v60)) (V m c main_v44) (V m c main_v59) :=
  (dats m 0 c).arrAt_eq_of_cover 5 _ (fun t _ => flushed5 m c t) fun i => by
    obtain ⟨t, p, q, rfl⟩ := place i
    exact ⟨t, flush0_5 t, Finset.mem_map_of_mem _ (Finset.mem_univ (ix3 (0 : Fin 1) p q))⟩

theorem flushed6 (t : Fin cfg0.N) : (dats m 0 c).flushed 6 t
    = ((cfg0.win 6).blk t).view.read (Elt Ideal) (moments (lift (V m c main_v60)) (V m c main_v44)) := by
  show (cfg0.win 6).cut (grid0.coords t) ((dats m 0 c).after 6 t) = _
  rw [after0_6]
  funext y
  obtain ⟨p, q, rfl⟩ : ∃ (p : Fin 344) (q : Fin 128), y = ix3 (0 : Fin 1) p q :=
    ⟨y 1, y 2, by funext a; fin_cases a; exacts [Fin.ext (Nat.lt_one_iff.1 (y 0).isLt), rfl, rfl]⟩
  show out0_6 (iblk m c 0 t) (iblk m c 1 t) (iblk m c 2 t) (iblk m c 3 t) (ix3 (0 : Fin 1) p q)
    = (moments (lift (V m c main_v60)) (V m c main_v44)) (((cfg0.win 5).blk t).view.emb (ix3 (0 : Fin 1) p q))
  unfold out0_6
  rw [View.canon_unit_zero (by decide), View.ld_unit_zero (by decide), View.ld_unit_zero (by decide), pay6, grad_at, (same m c t p q).2.1]
  rfl

/-- The new first moments. -/
theorem res6 : (dats m 0 c).arrAt 6 cfg0.N = moments (lift (V m c main_v60)) (V m c main_v44) :=
  (dats m 0 c).arrAt_eq_of_cover 6 _ (fun t _ => flushed6 m c t) fun i => by
    obtain ⟨t, p, q, rfl⟩ := place i
    exact ⟨t, flush0_6 t, Finset.mem_map_of_mem _ (Finset.mem_univ (ix3 (0 : Fin 1) p q))⟩

theorem flushed7 (t : Fin cfg0.N) : (dats m 0 c).flushed 7 t
    = ((cfg0.win 7).blk t).view.read (Elt Ideal) (squares (lift (V m c main_v60)) (V m c main_v59)) := by
  show (cfg0.win 7).cut (grid0.coords t) ((dats m 0 c).after 7 t) = _
  rw [after0_7]
  funext y
  obtain ⟨p, q, rfl⟩ : ∃ (p : Fin 344) (q : Fin 128), y = ix3 (0 : Fin 1) p q :=
    ⟨y 1, y 2, by funext a; fin_cases a; exacts [Fin.ext (Nat.lt_one_iff.1 (y 0).isLt), rfl, rfl]⟩
  show out0_7 (iblk m c 0 t) (iblk m c 1 t) (iblk m c 2 t) (iblk m c 3 t) (ix3 (0 : Fin 1) p q)
    = (squares (lift (V m c main_v60)) (V m c main_v59)) (((cfg0.win 5).blk t).view.emb (ix3 (0 : Fin 1) p q))
  unfold out0_7
  rw [View.canon_unit_zero (by decide), View.ld_unit_zero (by decide), View.ld_unit_zero (by decide), pay7, grad_at, (same m c t p q).2.2]
  rfl

/-- The new second moments. -/
theorem res7 : (dats m 0 c).arrAt 7 cfg0.N = squares (lift (V m c main_v60)) (V m c main_v59) :=
  (dats m 0 c).arrAt_eq_of_cover 7 _ (fun t _ => flushed7 m c t) fun i => by
    obtain ⟨t, p, q, rfl⟩ := place i
    exact ⟨t, flush0_7 t, Finset.mem_map_of_mem _ (Finset.mem_univ (ix3 (0 : Fin 1) p q))⟩

end Cert.Small

end
-- ==== Proof.SmallArrays.lean ====
/- The arrays the step leaves, from the arguments. -/
module

public import proofs.«01_k».proof.Proof.SmallRun
public import proofs.«01_k».proof.Proof.SmallCalls

@[expose] public section

noncomputable section

namespace Cert.Small

open Cert.Kernel9Ideal Cert.Kernel9Ideal.Gen Idealize.ShloMosaic Idealize.ShloMosaic.TcCoe Cert.Opt Idealize.ShloMosaic.StableHlo

variable (m : (ℓ : Loc nD τ sig) → Buf (Elt Ideal) ℓ) (c : Dev nD)

/-- The weight `c_ctx`. -/
abbrev arg0 : S1024.Idx → EReal := m ((c : Thread nD τ).loc main_arg0)
/-- The weight `b_ada`. -/
abbrev arg1 : S2x6144.Idx → EReal := m ((c : Thread nD τ).loc main_arg1)
/-- The weight `g_mix`. -/
abbrev arg2 : S2x1024.Idx → EReal := m ((c : Thread nD τ).loc main_arg2)
/-- The weight `conv_w`. -/
abbrev arg3 : S2x5x1024.Idx → EReal := m ((c : Thread nD τ).loc main_arg3)
/-- The weight `conv_b`. -/
abbrev arg4 : S2x4096.Idx → EReal := m ((c : Thread nD τ).loc main_arg4)
/-- The weight `dt_bias`. -/
abbrev arg5 : S2x2x32.Idx → EReal := m ((c : Thread nD τ).loc main_arg5)
/-- The weight `a_log`. -/
abbrev arg6 : S2x2x32.Idx → EReal := m ((c : Thread nD τ).loc main_arg6)
/-- The weight `d_skip`. -/
abbrev arg7 : S2x2x32.Idx → EReal := m ((c : Thread nD τ).loc main_arg7)
/-- The weight `ssd_norm_w`. -/
abbrev arg8 : S2x2048.Idx → EReal := m ((c : Thread nD τ).loc main_arg8)
/-- The weight `pool_scale`. -/
abbrev arg9 : S2x1024.Idx → EReal := m ((c : Thread nD τ).loc main_arg9)
/-- The weight `g_ffn`. -/
abbrev arg10 : S2x1024.Idx → EReal := m ((c : Thread nD τ).loc main_arg10)
/-- The weight `g_final`. -/
abbrev arg11 : S1024.Idx → EReal := m ((c : Thread nD τ).loc main_arg11)
/-- The gradient of `c_ctx`. -/
abbrev arg12 : S1024.Idx → EReal := m ((c : Thread nD τ).loc main_arg12)
/-- The gradient of `b_ada`. -/
abbrev arg13 : S2x6144.Idx → EReal := m ((c : Thread nD τ).loc main_arg13)
/-- The gradient of `g_mix`. -/
abbrev arg14 : S2x1024.Idx → EReal := m ((c : Thread nD τ).loc main_arg14)
/-- The gradient of `conv_w`. -/
abbrev arg15 : S2x5x1024.Idx → EReal := m ((c : Thread nD τ).loc main_arg15)
/-- The gradient of `conv_b`. -/
abbrev arg16 : S2x4096.Idx → EReal := m ((c : Thread nD τ).loc main_arg16)
/-- The gradient of `dt_bias`. -/
abbrev arg17 : S2x2x32.Idx → EReal := m ((c : Thread nD τ).loc main_arg17)
/-- The gradient of `a_log`. -/
abbrev arg18 : S2x2x32.Idx → EReal := m ((c : Thread nD τ).loc main_arg18)
/-- The gradient of `d_skip`. -/
abbrev arg19 : S2x2x32.Idx → EReal := m ((c : Thread nD τ).loc main_arg19)
/-- The gradient of `ssd_norm_w`. -/
abbrev arg20 : S2x2048.Idx → EReal := m ((c : Thread nD τ).loc main_arg20)
/-- The gradient of `pool_scale`. -/
abbrev arg21 : S2x1024.Idx → EReal := m ((c : Thread nD τ).loc main_arg21)
/-- The gradient of `g_ffn`. -/
abbrev arg22 : S2x1024.Idx → EReal := m ((c : Thread nD τ).loc main_arg22)
/-- The gradient of `g_final`. -/
abbrev arg23 : S1024.Idx → EReal := m ((c : Thread nD τ).loc main_arg23)
/-- The first moments of `c_ctx`. -/
abbrev arg24 : S1024.Idx → EReal := m ((c : Thread nD τ).loc main_arg24)
/-- The first moments of `b_ada`. -/
abbrev arg25 : S2x6144.Idx → EReal := m ((c : Thread nD τ).loc main_arg25)
/-- The first moments of `g_mix`. -/
abbrev arg26 : S2x1024.Idx → EReal := m ((c : Thread nD τ).loc main_arg26)
/-- The first moments of `conv_w`. -/
abbrev arg27 : S2x5x1024.Idx → EReal := m ((c : Thread nD τ).loc main_arg27)
/-- The first moments of `conv_b`. -/
abbrev arg28 : S2x4096.Idx → EReal := m ((c : Thread nD τ).loc main_arg28)
/-- The first moments of `dt_bias`. -/
abbrev arg29 : S2x2x32.Idx → EReal := m ((c : Thread nD τ).loc main_arg29)
/-- The first moments of `a_log`. -/
abbrev arg30 : S2x2x32.Idx → EReal := m ((c : Thread nD τ).loc main_arg30)
/-- The first moments of `d_skip`. -/
abbrev arg31 : S2x2x32.Idx → EReal := m ((c : Thread nD τ).loc main_arg31)
/-- The first moments of `ssd_norm_w`. -/
abbrev arg32 : S2x2048.Idx → EReal := m ((c : Thread nD τ).loc main_arg32)
/-- The first moments of `pool_scale`. -/
abbrev arg33 : S2x1024.Idx → EReal := m ((c : Thread nD τ).loc main_arg33)
/-- The first moments of `g_ffn`. -/
abbrev arg34 : S2x1024.Idx → EReal := m ((c : Thread nD τ).loc main_arg34)
/-- The first moments of `g_final`. -/
abbrev arg35 : S1024.Idx → EReal := m ((c : Thread nD τ).loc main_arg35)
/-- The second moments of `c_ctx`. -/
abbrev arg36 : S1024.Idx → EReal := m ((c : Thread nD τ).loc main_arg36)
/-- The second moments of `b_ada`. -/
abbrev arg37 : S2x6144.Idx → EReal := m ((c : Thread nD τ).loc main_arg37)
/-- The second moments of `g_mix`. -/
abbrev arg38 : S2x1024.Idx → EReal := m ((c : Thread nD τ).loc main_arg38)
/-- The second moments of `conv_w`. -/
abbrev arg39 : S2x5x1024.Idx → EReal := m ((c : Thread nD τ).loc main_arg39)
/-- The second moments of `conv_b`. -/
abbrev arg40 : S2x4096.Idx → EReal := m ((c : Thread nD τ).loc main_arg40)
/-- The second moments of `dt_bias`. -/
abbrev arg41 : S2x2x32.Idx → EReal := m ((c : Thread nD τ).loc main_arg41)
/-- The second moments of `a_log`. -/
abbrev arg42 : S2x2x32.Idx → EReal := m ((c : Thread nD τ).loc main_arg42)
/-- The second moments of `d_skip`. -/
abbrev arg43 : S2x2x32.Idx → EReal := m ((c : Thread nD τ).loc main_arg43)
/-- The second moments of `ssd_norm_w`. -/
abbrev arg44 : S2x2048.Idx → EReal := m ((c : Thread nD τ).loc main_arg44)
/-- The second moments of `pool_scale`. -/
abbrev arg45 : S2x1024.Idx → EReal := m ((c : Thread nD τ).loc main_arg45)
/-- The second moments of `g_ffn`. -/
abbrev arg46 : S2x1024.Idx → EReal := m ((c : Thread nD τ).loc main_arg46)
/-- The second moments of `g_final`. -/
abbrev arg47 : S1024.Idx → EReal := m ((c : Thread nD τ).loc main_arg47)

/-- The weights, packed. -/
def weights : FVec Ideal S1x344x128 .f32 :=
  pack (arg0 m c) (arg1 m c) (arg2 m c) (arg3 m c) (arg4 m c) (arg5 m c) (arg6 m c) (arg7 m c) (arg8 m c) (arg9 m c) (arg10 m c) (arg11 m c)

/-- The gradients, packed. -/
def grads : FVec Ideal S1x344x128 .f32 :=
  pack (arg12 m c) (arg13 m c) (arg14 m c) (arg15 m c) (arg16 m c) (arg17 m c) (arg18 m c) (arg19 m c) (arg20 m c) (arg21 m c) (arg22 m c) (arg23 m c)

/-- The first moments, packed. -/
def firsts : FVec Ideal S1x344x128 .f32 :=
  pack (arg24 m c) (arg25 m c) (arg26 m c) (arg27 m c) (arg28 m c) (arg29 m c) (arg30 m c) (arg31 m c) (arg32 m c) (arg33 m c) (arg34 m c) (arg35 m c)

/-- The second moments, packed. -/
def seconds : FVec Ideal S1x344x128 .f32 :=
  pack (arg36 m c) (arg37 m c) (arg38 m c) (arg39 m c) (arg40 m c) (arg41 m c) (arg42 m c) (arg43 m c) (arg44 m c) (arg45 m c) (arg46 m c) (arg47 m c)

set_option maxRecDepth 40000 in
theorem main_v14_val : V m c main_v14 = weights m c := by
  dsimp only [V, V0]
  simp only [List.flatten_cons, List.flatten_nil, List.append_nil, hostOps0]
  after_results_simp <;> rfl

set_option maxRecDepth 40000 in
theorem main_v44_val : V m c main_v44 = firsts m c := by
  dsimp only [V, V0]
  simp only [List.flatten_cons, List.flatten_nil, List.append_nil, hostOps0]
  after_results_simp <;> rfl

set_option maxRecDepth 40000 in
theorem main_v59_val : V m c main_v59 = seconds m c := by
  dsimp only [V, V0]
  simp only [List.flatten_cons, List.flatten_nil, List.append_nil, hostOps0]
  after_results_simp <;> rfl

set_option maxRecDepth 40000 in
theorem main_v60_val : V m c main_v60 = shapeCast S344x128 (grads m c) shapeCasts_S1x344x128_S344x128 := by
  dsimp only [V, V0]
  simp only [List.flatten_cons, List.flatten_nil, List.append_nil, hostOps0]
  after_results_simp <;> rfl

theorem grads_val : lift (V m c main_v60) = grads m c := by
  rw [main_v60_val]
  exact lift_down _

theorem main_v61_1_val : W1 m c (Proc.devRef .tc main_v61_1) = steps (weights m c) (grads m c) (firsts m c) (seconds m c) := by
  refine (W1_arr m c 5).trans ((res5 m c).trans ?_)
  rw [grads_val, main_v14_val, main_v44_val, main_v59_val]

theorem main_v61_2_val : W1 m c (Proc.devRef .tc main_v61_2) = moments (grads m c) (firsts m c) := by
  refine (W1_arr m c 6).trans ((res6 m c).trans ?_)
  rw [grads_val, main_v44_val]

theorem main_v61_3_val : W1 m c (Proc.devRef .tc main_v61_3) = squares (grads m c) (seconds m c) := by
  refine (W1_arr m c 7).trans ((res7 m c).trans ?_)
  rw [grads_val, main_v59_val]

end Cert.Small

end
-- ==== Proof.SmallValues.lean ====
/- The program's results, from the arguments. -/
module

public import proofs.«01_k».proof.Proof.SmallArrays

@[expose] public section

noncomputable section

namespace Cert.Small

open Cert.Kernel9Ideal Cert.Kernel9Ideal.Gen Idealize.ShloMosaic Idealize.ShloMosaic.TcCoe Cert.Opt Idealize.ShloMosaic.StableHlo

variable (m : (ℓ : Loc nD τ sig) → Buf (Elt Ideal) ℓ) (c : Dev nD)

/-- The changes of `c_ctx`. -/
theorem out_main_v63 : W2 m c (Proc.devRef .tc main_v63) = steps (arg0 m c) (arg12 m c) (arg24 m c) (arg36 m c) := by
  have e : W2 m c (Proc.devRef .tc main_v63) = take0 (W1 m c (Proc.devRef .tc main_v61_1)) := by
    simp only [W2, hostOps1]
    after_results_simp <;> rfl
  rw [e, main_v61_1_val]
  show steps (take0 (weights m c)) (take0 (grads m c)) (take0 (firsts m c)) (take0 (seconds m c)) = _
  rw [show take0 (weights m c) = arg0 m c from taken0 .., show take0 (grads m c) = arg12 m c from taken0 .., show take0 (firsts m c) = arg24 m c from taken0 .., show take0 (seconds m c) = arg36 m c from taken0 ..]

/-- The changes of `b_ada`. -/
theorem out_main_v65 : W2 m c (Proc.devRef .tc main_v65) = steps (arg1 m c) (arg13 m c) (arg25 m c) (arg37 m c) := by
  have e : W2 m c (Proc.devRef .tc main_v65) = take1 (W1 m c (Proc.devRef .tc main_v61_1)) := by
    simp only [W2, hostOps1]
    after_results_simp <;> rfl
  rw [e, main_v61_1_val]
  show steps (take1 (weights m c)) (take1 (grads m c)) (take1 (firsts m c)) (take1 (seconds m c)) = _
  rw [show take1 (weights m c) = arg1 m c from taken1 .., show take1 (grads m c) = arg13 m c from taken1 .., show take1 (firsts m c) = arg25 m c from taken1 .., show take1 (seconds m c) = arg37 m c from taken1 ..]

/-- The changes of `g_mix`. -/
theorem out_main_v67 : W2 m c (Proc.devRef .tc main_v67) = steps (arg2 m c) (arg14 m c) (arg26 m c) (arg38 m c) := by
  have e : W2 m c (Proc.devRef .tc main_v67) = take2 (W1 m c (Proc.devRef .tc main_v61_1)) := by
    simp only [W2, hostOps1]
    after_results_simp <;> rfl
  rw [e, main_v61_1_val]
  show steps (take2 (weights m c)) (take2 (grads m c)) (take2 (firsts m c)) (take2 (seconds m c)) = _
  rw [show take2 (weights m c) = arg2 m c from taken2 .., show take2 (grads m c) = arg14 m c from taken2 .., show take2 (firsts m c) = arg26 m c from taken2 .., show take2 (seconds m c) = arg38 m c from taken2 ..]

/-- The changes of `conv_w`. -/
theorem out_main_v69 : W2 m c (Proc.devRef .tc main_v69) = steps (arg3 m c) (arg15 m c) (arg27 m c) (arg39 m c) := by
  have e : W2 m c (Proc.devRef .tc main_v69) = take3 (W1 m c (Proc.devRef .tc main_v61_1)) := by
    simp only [W2, hostOps1]
    after_results_simp <;> rfl
  rw [e, main_v61_1_val]
  show steps (take3 (weights m c)) (take3 (grads m c)) (take3 (firsts m c)) (take3 (seconds m c)) = _
  rw [show take3 (weights m c) = arg3 m c from taken3 .., show take3 (grads m c) = arg15 m c from taken3 .., show take3 (firsts m c) = arg27 m c from taken3 .., show take3 (seconds m c) = arg39 m c from taken3 ..]

/-- The changes of `conv_b`. -/
theorem out_main_v71 : W2 m c (Proc.devRef .tc main_v71) = steps (arg4 m c) (arg16 m c) (arg28 m c) (arg40 m c) := by
  have e : W2 m c (Proc.devRef .tc main_v71) = take4 (W1 m c (Proc.devRef .tc main_v61_1)) := by
    simp only [W2, hostOps1]
    after_results_simp <;> rfl
  rw [e, main_v61_1_val]
  show steps (take4 (weights m c)) (take4 (grads m c)) (take4 (firsts m c)) (take4 (seconds m c)) = _
  rw [show take4 (weights m c) = arg4 m c from taken4 .., show take4 (grads m c) = arg16 m c from taken4 .., show take4 (firsts m c) = arg28 m c from taken4 .., show take4 (seconds m c) = arg40 m c from taken4 ..]

/-- The changes of `dt_bias`. -/
theorem out_main_v73 : W2 m c (Proc.devRef .tc main_v73) = steps (arg5 m c) (arg17 m c) (arg29 m c) (arg41 m c) := by
  have e : W2 m c (Proc.devRef .tc main_v73) = take5 (W1 m c (Proc.devRef .tc main_v61_1)) := by
    simp only [W2, hostOps1]
    after_results_simp <;> rfl
  rw [e, main_v61_1_val]
  show steps (take5 (weights m c)) (take5 (grads m c)) (take5 (firsts m c)) (take5 (seconds m c)) = _
  rw [show take5 (weights m c) = arg5 m c from taken5 .., show take5 (grads m c) = arg17 m c from taken5 .., show take5 (firsts m c) = arg29 m c from taken5 .., show take5 (seconds m c) = arg41 m c from taken5 ..]

/-- The changes of `a_log`. -/
theorem out_main_v75 : W2 m c (Proc.devRef .tc main_v75) = steps (arg6 m c) (arg18 m c) (arg30 m c) (arg42 m c) := by
  have e : W2 m c (Proc.devRef .tc main_v75) = take6 (W1 m c (Proc.devRef .tc main_v61_1)) := by
    simp only [W2, hostOps1]
    after_results_simp <;> rfl
  rw [e, main_v61_1_val]
  show steps (take6 (weights m c)) (take6 (grads m c)) (take6 (firsts m c)) (take6 (seconds m c)) = _
  rw [show take6 (weights m c) = arg6 m c from taken6 .., show take6 (grads m c) = arg18 m c from taken6 .., show take6 (firsts m c) = arg30 m c from taken6 .., show take6 (seconds m c) = arg42 m c from taken6 ..]

/-- The changes of `d_skip`. -/
theorem out_main_v77 : W2 m c (Proc.devRef .tc main_v77) = steps (arg7 m c) (arg19 m c) (arg31 m c) (arg43 m c) := by
  have e : W2 m c (Proc.devRef .tc main_v77) = take7 (W1 m c (Proc.devRef .tc main_v61_1)) := by
    simp only [W2, hostOps1]
    after_results_simp <;> rfl
  rw [e, main_v61_1_val]
  show steps (take7 (weights m c)) (take7 (grads m c)) (take7 (firsts m c)) (take7 (seconds m c)) = _
  rw [show take7 (weights m c) = arg7 m c from taken7 .., show take7 (grads m c) = arg19 m c from taken7 .., show take7 (firsts m c) = arg31 m c from taken7 .., show take7 (seconds m c) = arg43 m c from taken7 ..]

/-- The changes of `ssd_norm_w`. -/
theorem out_main_v79 : W2 m c (Proc.devRef .tc main_v79) = steps (arg8 m c) (arg20 m c) (arg32 m c) (arg44 m c) := by
  have e : W2 m c (Proc.devRef .tc main_v79) = take8 (W1 m c (Proc.devRef .tc main_v61_1)) := by
    simp only [W2, hostOps1]
    after_results_simp <;> rfl
  rw [e, main_v61_1_val]
  show steps (take8 (weights m c)) (take8 (grads m c)) (take8 (firsts m c)) (take8 (seconds m c)) = _
  rw [show take8 (weights m c) = arg8 m c from taken8 .., show take8 (grads m c) = arg20 m c from taken8 .., show take8 (firsts m c) = arg32 m c from taken8 .., show take8 (seconds m c) = arg44 m c from taken8 ..]

/-- The changes of `pool_scale`. -/
theorem out_main_v81 : W2 m c (Proc.devRef .tc main_v81) = steps (arg9 m c) (arg21 m c) (arg33 m c) (arg45 m c) := by
  have e : W2 m c (Proc.devRef .tc main_v81) = take9 (W1 m c (Proc.devRef .tc main_v61_1)) := by
    simp only [W2, hostOps1]
    after_results_simp <;> rfl
  rw [e, main_v61_1_val]
  show steps (take9 (weights m c)) (take9 (grads m c)) (take9 (firsts m c)) (take9 (seconds m c)) = _
  rw [show take9 (weights m c) = arg9 m c from taken9 .., show take9 (grads m c) = arg21 m c from taken9 .., show take9 (firsts m c) = arg33 m c from taken9 .., show take9 (seconds m c) = arg45 m c from taken9 ..]

/-- The changes of `g_ffn`. -/
theorem out_main_v83 : W2 m c (Proc.devRef .tc main_v83) = steps (arg10 m c) (arg22 m c) (arg34 m c) (arg46 m c) := by
  have e : W2 m c (Proc.devRef .tc main_v83) = take10 (W1 m c (Proc.devRef .tc main_v61_1)) := by
    simp only [W2, hostOps1]
    after_results_simp <;> rfl
  rw [e, main_v61_1_val]
  show steps (take10 (weights m c)) (take10 (grads m c)) (take10 (firsts m c)) (take10 (seconds m c)) = _
  rw [show take10 (weights m c) = arg10 m c from taken10 .., show take10 (grads m c) = arg22 m c from taken10 .., show take10 (firsts m c) = arg34 m c from taken10 .., show take10 (seconds m c) = arg46 m c from taken10 ..]

/-- The changes of `g_final`. -/
theorem out_main_v84 : W2 m c (Proc.devRef .tc main_v84) = steps (arg11 m c) (arg23 m c) (arg35 m c) (arg47 m c) := by
  have e : W2 m c (Proc.devRef .tc main_v84) = take11 (W1 m c (Proc.devRef .tc main_v61_1)) := by
    simp only [W2, hostOps1]
    after_results_simp <;> rfl
  rw [e, main_v61_1_val]
  show steps (take11 (weights m c)) (take11 (grads m c)) (take11 (firsts m c)) (take11 (seconds m c)) = _
  rw [show take11 (weights m c) = arg11 m c from taken11 .., show take11 (grads m c) = arg23 m c from taken11 .., show take11 (firsts m c) = arg35 m c from taken11 .., show take11 (seconds m c) = arg47 m c from taken11 ..]

/-- The new first moments of `c_ctx`. -/
theorem out_main_v86 : W2 m c (Proc.devRef .tc main_v86) = moments (arg12 m c) (arg24 m c) := by
  have e : W2 m c (Proc.devRef .tc main_v86) = take0 (W1 m c (Proc.devRef .tc main_v61_2)) := by
    simp only [W2, hostOps1]
    after_results_simp <;> rfl
  rw [e, main_v61_2_val]
  show moments (take0 (grads m c)) (take0 (firsts m c)) = _
  rw [show take0 (grads m c) = arg12 m c from taken0 .., show take0 (firsts m c) = arg24 m c from taken0 ..]

/-- The new first moments of `b_ada`. -/
theorem out_main_v88 : W2 m c (Proc.devRef .tc main_v88) = moments (arg13 m c) (arg25 m c) := by
  have e : W2 m c (Proc.devRef .tc main_v88) = take1 (W1 m c (Proc.devRef .tc main_v61_2)) := by
    simp only [W2, hostOps1]
    after_results_simp <;> rfl
  rw [e, main_v61_2_val]
  show moments (take1 (grads m c)) (take1 (firsts m c)) = _
  rw [show take1 (grads m c) = arg13 m c from taken1 .., show take1 (firsts m c) = arg25 m c from taken1 ..]

/-- The new first moments of `g_mix`. -/
theorem out_main_v90 : W2 m c (Proc.devRef .tc main_v90) = moments (arg14 m c) (arg26 m c) := by
  have e : W2 m c (Proc.devRef .tc main_v90) = take2 (W1 m c (Proc.devRef .tc main_v61_2)) := by
    simp only [W2, hostOps1]
    after_results_simp <;> rfl
  rw [e, main_v61_2_val]
  show moments (take2 (grads m c)) (take2 (firsts m c)) = _
  rw [show take2 (grads m c) = arg14 m c from taken2 .., show take2 (firsts m c) = arg26 m c from taken2 ..]

/-- The new first moments of `conv_w`. -/
theorem out_main_v92 : W2 m c (Proc.devRef .tc main_v92) = moments (arg15 m c) (arg27 m c) := by
  have e : W2 m c (Proc.devRef .tc main_v92) = take3 (W1 m c (Proc.devRef .tc main_v61_2)) := by
    simp only [W2, hostOps1]
    after_results_simp <;> rfl
  rw [e, main_v61_2_val]
  show moments (take3 (grads m c)) (take3 (firsts m c)) = _
  rw [show take3 (grads m c) = arg15 m c from taken3 .., show take3 (firsts m c) = arg27 m c from taken3 ..]

/-- The new first moments of `conv_b`. -/
theorem out_main_v94 : W2 m c (Proc.devRef .tc main_v94) = moments (arg16 m c) (arg28 m c) := by
  have e : W2 m c (Proc.devRef .tc main_v94) = take4 (W1 m c (Proc.devRef .tc main_v61_2)) := by
    simp only [W2, hostOps1]
    after_results_simp <;> rfl
  rw [e, main_v61_2_val]
  show moments (take4 (grads m c)) (take4 (firsts m c)) = _
  rw [show take4 (grads m c) = arg16 m c from taken4 .., show take4 (firsts m c) = arg28 m c from taken4 ..]

/-- The new first moments of `dt_bias`. -/
theorem out_main_v96 : W2 m c (Proc.devRef .tc main_v96) = moments (arg17 m c) (arg29 m c) := by
  have e : W2 m c (Proc.devRef .tc main_v96) = take5 (W1 m c (Proc.devRef .tc main_v61_2)) := by
    simp only [W2, hostOps1]
    after_results_simp <;> rfl
  rw [e, main_v61_2_val]
  show moments (take5 (grads m c)) (take5 (firsts m c)) = _
  rw [show take5 (grads m c) = arg17 m c from taken5 .., show take5 (firsts m c) = arg29 m c from taken5 ..]

/-- The new first moments of `a_log`. -/
theorem out_main_v98 : W2 m c (Proc.devRef .tc main_v98) = moments (arg18 m c) (arg30 m c) := by
  have e : W2 m c (Proc.devRef .tc main_v98) = take6 (W1 m c (Proc.devRef .tc main_v61_2)) := by
    simp only [W2, hostOps1]
    after_results_simp <;> rfl
  rw [e, main_v61_2_val]
  show moments (take6 (grads m c)) (take6 (firsts m c)) = _
  rw [show take6 (grads m c) = arg18 m c from taken6 .., show take6 (firsts m c) = arg30 m c from taken6 ..]

/-- The new first moments of `d_skip`. -/
theorem out_main_v100 : W2 m c (Proc.devRef .tc main_v100) = moments (arg19 m c) (arg31 m c) := by
  have e : W2 m c (Proc.devRef .tc main_v100) = take7 (W1 m c (Proc.devRef .tc main_v61_2)) := by
    simp only [W2, hostOps1]
    after_results_simp <;> rfl
  rw [e, main_v61_2_val]
  show moments (take7 (grads m c)) (take7 (firsts m c)) = _
  rw [show take7 (grads m c) = arg19 m c from taken7 .., show take7 (firsts m c) = arg31 m c from taken7 ..]

/-- The new first moments of `ssd_norm_w`. -/
theorem out_main_v102 : W2 m c (Proc.devRef .tc main_v102) = moments (arg20 m c) (arg32 m c) := by
  have e : W2 m c (Proc.devRef .tc main_v102) = take8 (W1 m c (Proc.devRef .tc main_v61_2)) := by
    simp only [W2, hostOps1]
    after_results_simp <;> rfl
  rw [e, main_v61_2_val]
  show moments (take8 (grads m c)) (take8 (firsts m c)) = _
  rw [show take8 (grads m c) = arg20 m c from taken8 .., show take8 (firsts m c) = arg32 m c from taken8 ..]

/-- The new first moments of `pool_scale`. -/
theorem out_main_v104 : W2 m c (Proc.devRef .tc main_v104) = moments (arg21 m c) (arg33 m c) := by
  have e : W2 m c (Proc.devRef .tc main_v104) = take9 (W1 m c (Proc.devRef .tc main_v61_2)) := by
    simp only [W2, hostOps1]
    after_results_simp <;> rfl
  rw [e, main_v61_2_val]
  show moments (take9 (grads m c)) (take9 (firsts m c)) = _
  rw [show take9 (grads m c) = arg21 m c from taken9 .., show take9 (firsts m c) = arg33 m c from taken9 ..]

/-- The new first moments of `g_ffn`. -/
theorem out_main_v106 : W2 m c (Proc.devRef .tc main_v106) = moments (arg22 m c) (arg34 m c) := by
  have e : W2 m c (Proc.devRef .tc main_v106) = take10 (W1 m c (Proc.devRef .tc main_v61_2)) := by
    simp only [W2, hostOps1]
    after_results_simp <;> rfl
  rw [e, main_v61_2_val]
  show moments (take10 (grads m c)) (take10 (firsts m c)) = _
  rw [show take10 (grads m c) = arg22 m c from taken10 .., show take10 (firsts m c) = arg34 m c from taken10 ..]

/-- The new first moments of `g_final`. -/
theorem out_main_v107 : W2 m c (Proc.devRef .tc main_v107) = moments (arg23 m c) (arg35 m c) := by
  have e : W2 m c (Proc.devRef .tc main_v107) = take11 (W1 m c (Proc.devRef .tc main_v61_2)) := by
    simp only [W2, hostOps1]
    after_results_simp <;> rfl
  rw [e, main_v61_2_val]
  show moments (take11 (grads m c)) (take11 (firsts m c)) = _
  rw [show take11 (grads m c) = arg23 m c from taken11 .., show take11 (firsts m c) = arg35 m c from taken11 ..]

/-- The new second moments of `c_ctx`. -/
theorem out_main_v109 : W2 m c (Proc.devRef .tc main_v109) = squares (arg12 m c) (arg36 m c) := by
  have e : W2 m c (Proc.devRef .tc main_v109) = take0 (W1 m c (Proc.devRef .tc main_v61_3)) := by
    simp only [W2, hostOps1]
    after_results_simp <;> rfl
  rw [e, main_v61_3_val]
  show squares (take0 (grads m c)) (take0 (seconds m c)) = _
  rw [show take0 (grads m c) = arg12 m c from taken0 .., show take0 (seconds m c) = arg36 m c from taken0 ..]

/-- The new second moments of `b_ada`. -/
theorem out_main_v111 : W2 m c (Proc.devRef .tc main_v111) = squares (arg13 m c) (arg37 m c) := by
  have e : W2 m c (Proc.devRef .tc main_v111) = take1 (W1 m c (Proc.devRef .tc main_v61_3)) := by
    simp only [W2, hostOps1]
    after_results_simp <;> rfl
  rw [e, main_v61_3_val]
  show squares (take1 (grads m c)) (take1 (seconds m c)) = _
  rw [show take1 (grads m c) = arg13 m c from taken1 .., show take1 (seconds m c) = arg37 m c from taken1 ..]

/-- The new second moments of `g_mix`. -/
theorem out_main_v113 : W2 m c (Proc.devRef .tc main_v113) = squares (arg14 m c) (arg38 m c) := by
  have e : W2 m c (Proc.devRef .tc main_v113) = take2 (W1 m c (Proc.devRef .tc main_v61_3)) := by
    simp only [W2, hostOps1]
    after_results_simp <;> rfl
  rw [e, main_v61_3_val]
  show squares (take2 (grads m c)) (take2 (seconds m c)) = _
  rw [show take2 (grads m c) = arg14 m c from taken2 .., show take2 (seconds m c) = arg38 m c from taken2 ..]

/-- The new second moments of `conv_w`. -/
theorem out_main_v115 : W2 m c (Proc.devRef .tc main_v115) = squares (arg15 m c) (arg39 m c) := by
  have e : W2 m c (Proc.devRef .tc main_v115) = take3 (W1 m c (Proc.devRef .tc main_v61_3)) := by
    simp only [W2, hostOps1]
    after_results_simp <;> rfl
  rw [e, main_v61_3_val]
  show squares (take3 (grads m c)) (take3 (seconds m c)) = _
  rw [show take3 (grads m c) = arg15 m c from taken3 .., show take3 (seconds m c) = arg39 m c from taken3 ..]

/-- The new second moments of `conv_b`. -/
theorem out_main_v117 : W2 m c (Proc.devRef .tc main_v117) = squares (arg16 m c) (arg40 m c) := by
  have e : W2 m c (Proc.devRef .tc main_v117) = take4 (W1 m c (Proc.devRef .tc main_v61_3)) := by
    simp only [W2, hostOps1]
    after_results_simp <;> rfl
  rw [e, main_v61_3_val]
  show squares (take4 (grads m c)) (take4 (seconds m c)) = _
  rw [show take4 (grads m c) = arg16 m c from taken4 .., show take4 (seconds m c) = arg40 m c from taken4 ..]

/-- The new second moments of `dt_bias`. -/
theorem out_main_v119 : W2 m c (Proc.devRef .tc main_v119) = squares (arg17 m c) (arg41 m c) := by
  have e : W2 m c (Proc.devRef .tc main_v119) = take5 (W1 m c (Proc.devRef .tc main_v61_3)) := by
    simp only [W2, hostOps1]
    after_results_simp <;> rfl
  rw [e, main_v61_3_val]
  show squares (take5 (grads m c)) (take5 (seconds m c)) = _
  rw [show take5 (grads m c) = arg17 m c from taken5 .., show take5 (seconds m c) = arg41 m c from taken5 ..]

/-- The new second moments of `a_log`. -/
theorem out_main_v121 : W2 m c (Proc.devRef .tc main_v121) = squares (arg18 m c) (arg42 m c) := by
  have e : W2 m c (Proc.devRef .tc main_v121) = take6 (W1 m c (Proc.devRef .tc main_v61_3)) := by
    simp only [W2, hostOps1]
    after_results_simp <;> rfl
  rw [e, main_v61_3_val]
  show squares (take6 (grads m c)) (take6 (seconds m c)) = _
  rw [show take6 (grads m c) = arg18 m c from taken6 .., show take6 (seconds m c) = arg42 m c from taken6 ..]

/-- The new second moments of `d_skip`. -/
theorem out_main_v123 : W2 m c (Proc.devRef .tc main_v123) = squares (arg19 m c) (arg43 m c) := by
  have e : W2 m c (Proc.devRef .tc main_v123) = take7 (W1 m c (Proc.devRef .tc main_v61_3)) := by
    simp only [W2, hostOps1]
    after_results_simp <;> rfl
  rw [e, main_v61_3_val]
  show squares (take7 (grads m c)) (take7 (seconds m c)) = _
  rw [show take7 (grads m c) = arg19 m c from taken7 .., show take7 (seconds m c) = arg43 m c from taken7 ..]

/-- The new second moments of `ssd_norm_w`. -/
theorem out_main_v125 : W2 m c (Proc.devRef .tc main_v125) = squares (arg20 m c) (arg44 m c) := by
  have e : W2 m c (Proc.devRef .tc main_v125) = take8 (W1 m c (Proc.devRef .tc main_v61_3)) := by
    simp only [W2, hostOps1]
    after_results_simp <;> rfl
  rw [e, main_v61_3_val]
  show squares (take8 (grads m c)) (take8 (seconds m c)) = _
  rw [show take8 (grads m c) = arg20 m c from taken8 .., show take8 (seconds m c) = arg44 m c from taken8 ..]

/-- The new second moments of `pool_scale`. -/
theorem out_main_v127 : W2 m c (Proc.devRef .tc main_v127) = squares (arg21 m c) (arg45 m c) := by
  have e : W2 m c (Proc.devRef .tc main_v127) = take9 (W1 m c (Proc.devRef .tc main_v61_3)) := by
    simp only [W2, hostOps1]
    after_results_simp <;> rfl
  rw [e, main_v61_3_val]
  show squares (take9 (grads m c)) (take9 (seconds m c)) = _
  rw [show take9 (grads m c) = arg21 m c from taken9 .., show take9 (seconds m c) = arg45 m c from taken9 ..]

/-- The new second moments of `g_ffn`. -/
theorem out_main_v129 : W2 m c (Proc.devRef .tc main_v129) = squares (arg22 m c) (arg46 m c) := by
  have e : W2 m c (Proc.devRef .tc main_v129) = take10 (W1 m c (Proc.devRef .tc main_v61_3)) := by
    simp only [W2, hostOps1]
    after_results_simp <;> rfl
  rw [e, main_v61_3_val]
  show squares (take10 (grads m c)) (take10 (seconds m c)) = _
  rw [show take10 (grads m c) = arg22 m c from taken10 .., show take10 (seconds m c) = arg46 m c from taken10 ..]

/-- The new second moments of `g_final`. -/
theorem out_main_v130 : W2 m c (Proc.devRef .tc main_v130) = squares (arg23 m c) (arg47 m c) := by
  have e : W2 m c (Proc.devRef .tc main_v130) = take11 (W1 m c (Proc.devRef .tc main_v61_3)) := by
    simp only [W2, hostOps1]
    after_results_simp <;> rfl
  rw [e, main_v61_3_val]
  show squares (take11 (grads m c)) (take11 (seconds m c)) = _
  rw [show take11 (grads m c) = arg23 m c from taken11 .., show take11 (seconds m c) = arg47 m c from taken11 ..]

end Cert.Small

end
-- ==== Proof.SmallReference.lean ====
/- What the reference's step of AdamW computes for the small weights. -/
module

public import proofs.«01_k».proof.Proof.Gen.Reference9Ideal.Read
public import proofs.«01_k».proof.Proof.OptModel

@[expose] public section

noncomputable section

namespace Cert.Small

open Cert.Reference9Ideal Cert.Reference9Ideal.Gen Cert.Reference9Ideal.Read Idealize.ShloMosaic Idealize.ShloMosaic.TcCoe Cert.Opt

/-! ## `c_ctx` -/

theorem ref_v4 (g m : S1024.Idx → EReal) : val_main_v4 (F := Ideal) g m = moments g m := rfl

theorem ref_v10 (g v : S1024.Idx → EReal) : val_main_v10 (F := Ideal) g v = squares g v := rfl

theorem ref_v23 (w g m v : S1024.Idx → EReal) : val_main_v23 (F := Ideal) w g m v = steps w g m v := rfl

/-! ## `b_ada` -/

theorem ref_v28 (g m : S2x6144.Idx → EReal) : val_main_v28 (F := Ideal) g m = moments g m := rfl

theorem ref_v34 (g v : S2x6144.Idx → EReal) : val_main_v34 (F := Ideal) g v = squares g v := rfl

theorem ref_v47 (w g m v : S2x6144.Idx → EReal) : val_main_v47 (F := Ideal) w g m v = steps w g m v := rfl

/-! ## `g_mix` -/

theorem ref_v52 (g m : S2x1024.Idx → EReal) : val_main_v52 (F := Ideal) g m = moments g m := rfl

theorem ref_v58 (g v : S2x1024.Idx → EReal) : val_main_v58 (F := Ideal) g v = squares g v := rfl

theorem ref_v71 (w g m v : S2x1024.Idx → EReal) : val_main_v71 (F := Ideal) w g m v = steps w g m v := rfl

/-! ## `conv_w` -/

theorem ref_v76 (g m : S2x5x1024.Idx → EReal) : val_main_v76 (F := Ideal) g m = moments g m := rfl

theorem ref_v82 (g v : S2x5x1024.Idx → EReal) : val_main_v82 (F := Ideal) g v = squares g v := rfl

theorem ref_v95 (w g m v : S2x5x1024.Idx → EReal) : val_main_v95 (F := Ideal) w g m v = steps w g m v := rfl

/-! ## `conv_b` -/

theorem ref_v100 (g m : S2x4096.Idx → EReal) : val_main_v100 (F := Ideal) g m = moments g m := rfl

theorem ref_v106 (g v : S2x4096.Idx → EReal) : val_main_v106 (F := Ideal) g v = squares g v := rfl

theorem ref_v119 (w g m v : S2x4096.Idx → EReal) : val_main_v119 (F := Ideal) w g m v = steps w g m v := rfl

/-! ## `dt_bias` -/

theorem ref_v124 (g m : S2x2x32.Idx → EReal) : val_main_v124 (F := Ideal) g m = moments g m := rfl

theorem ref_v130 (g v : S2x2x32.Idx → EReal) : val_main_v130 (F := Ideal) g v = squares g v := rfl

theorem ref_v143 (w g m v : S2x2x32.Idx → EReal) : val_main_v143 (F := Ideal) w g m v = steps w g m v := rfl

/-! ## `a_log` -/

theorem ref_v148 (g m : S2x2x32.Idx → EReal) : val_main_v148 (F := Ideal) g m = moments g m := rfl

theorem ref_v154 (g v : S2x2x32.Idx → EReal) : val_main_v154 (F := Ideal) g v = squares g v := rfl

theorem ref_v167 (w g m v : S2x2x32.Idx → EReal) : val_main_v167 (F := Ideal) w g m v = steps w g m v := rfl

/-! ## `d_skip` -/

theorem ref_v172 (g m : S2x2x32.Idx → EReal) : val_main_v172 (F := Ideal) g m = moments g m := rfl

theorem ref_v178 (g v : S2x2x32.Idx → EReal) : val_main_v178 (F := Ideal) g v = squares g v := rfl

theorem ref_v191 (w g m v : S2x2x32.Idx → EReal) : val_main_v191 (F := Ideal) w g m v = steps w g m v := rfl

/-! ## `ssd_norm_w` -/

theorem ref_v196 (g m : S2x2048.Idx → EReal) : val_main_v196 (F := Ideal) g m = moments g m := rfl

theorem ref_v202 (g v : S2x2048.Idx → EReal) : val_main_v202 (F := Ideal) g v = squares g v := rfl

theorem ref_v215 (w g m v : S2x2048.Idx → EReal) : val_main_v215 (F := Ideal) w g m v = steps w g m v := rfl

/-! ## `pool_scale` -/

theorem ref_v220 (g m : S2x1024.Idx → EReal) : val_main_v220 (F := Ideal) g m = moments g m := rfl

theorem ref_v226 (g v : S2x1024.Idx → EReal) : val_main_v226 (F := Ideal) g v = squares g v := rfl

theorem ref_v239 (w g m v : S2x1024.Idx → EReal) : val_main_v239 (F := Ideal) w g m v = steps w g m v := rfl

/-! ## `g_ffn` -/

theorem ref_v244 (g m : S2x1024.Idx → EReal) : val_main_v244 (F := Ideal) g m = moments g m := rfl

theorem ref_v250 (g v : S2x1024.Idx → EReal) : val_main_v250 (F := Ideal) g v = squares g v := rfl

theorem ref_v263 (w g m v : S2x1024.Idx → EReal) : val_main_v263 (F := Ideal) w g m v = steps w g m v := rfl

/-! ## `g_final` -/

theorem ref_v268 (g m : S1024.Idx → EReal) : val_main_v268 (F := Ideal) g m = moments g m := rfl

theorem ref_v274 (g v : S1024.Idx → EReal) : val_main_v274 (F := Ideal) g v = squares g v := rfl

theorem ref_v287 (w g m v : S1024.Idx → EReal) : val_main_v287 (F := Ideal) w g m v = steps w g m v := rfl

end Cert.Small

end
-- ==== Proof.AdaRun.lean ====
/- Every buffer of the program at its end. -/
module

public import proofs.«01_k».proof.Proof.Gen.Kernel10Ideal.Frame

@[expose] public section

noncomputable section

namespace Cert.Ada

open Cert.Kernel10Ideal Cert.Kernel10Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends, and every buffer outside the calls' scratch then holds what the
    fold of the calls and of the host's operations (`W9`) leaves in it. -/
theorem run : θ_run defs (onTc (τ := τ) (main (F := F))) ⟨m, fun _ => 0, ρ⟩ (fun r => ∀ (c : Dev nD) (b : Ref sig .tc),
      ¬ (Proc.devRef .tc b : DevRef τ sig).isScoped →
        r.2.mem ((c.tc : Thread nD τ).loc b) = W9 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ c b hb => h c _ (mem_uc b hb))

end Cert.Ada

end
-- ==== Proof.AdaModel.lean ====
/- The modulation of a layer from its condition, and its gradient, element by element. -/
module

public import proofs.«01_k».proof.Proof.Products

@[expose] public section

noncomputable section

namespace Cert.Ada

open Idealize.ShloMosaic Cert.Products

/-- Four blocks of 1536 columns side by side, as one matrix. -/
def joined (w : (⟨3, ![4, 1024, 1536]⟩ : Shape).Idx → EReal) : Mat 1024 6144 := fun i =>
  w (ix3 ⟨(i 1).val / 1536, by have h : (i 1).val < 6144 := (i 1).isLt; omega⟩ (i 0) ⟨(i 1).val % 1536, by omega⟩)

/-- The same matrix cut into its four blocks of columns. -/
def parted (w : Mat 1024 6144) : (⟨3, ![4, 1024, 1536]⟩ : Shape).Idx → EReal := fun i =>
  w (ix2 (i 1) ⟨(i 0).val * 1536 + (i 2).val, by
    have h : (i 0).val < 4 := (i 0).isLt
    have h' : (i 2).val < 1536 := (i 2).isLt
    omega⟩)

theorem joined_parted (w : Mat 1024 6144) : joined (parted w) = w := by
  funext i
  show w _ = w _
  congr 1; funext a; fin_cases a
  · rfl
  · ext; show (i 1).val / 1536 * 1536 + (i 1).val % 1536 = (i 1).val; omega

/-- `x · σ(x)`. -/
def silu (x : EReal) : EReal := x * Ideal.logistic x

/-- Its gradient, from the gradient `d` of its result. -/
def siluGrad (x d : EReal) : EReal :=
  d * Ideal.logistic x + x * d * (Ideal.logistic x * (1 - Ideal.logistic x))

/-- `silu` of every entry. -/
def silus (x : Mat 16 1024) : Mat 16 1024 := fun i => silu (x i)

/-- The gradient of every entry. -/
def silusGrad (x d : Mat 16 1024) : Mat 16 1024 := fun i => siluGrad (x i) (d i)

/-- The sum of the sixteen rows. -/
def rowSum (x : Mat 16 6144) : Mat 1 6144 := fun i => ∑ r : Fin 16, x (ix2 r (i 1))

/-- The sixteen rows the condition fills: the context's row, the sample's row, zeros. -/
def cond (ctx : (⟨1, ![1024]⟩ : Shape).Idx → EReal) (c : Mat 1 1024) : Mat 16 1024 := fun i =>
  if (i 0).val = 0 then ctx (ix1 (i 1)) else if (i 0).val = 1 then c (ix2 0 (i 1)) else 0

/-- The sixteen rows the modulation's gradient fills: its two rows, zeros. -/
def grads (d : Mat 2 6144) : Mat 16 6144 := fun i =>
  if h : (i 0).val < 2 then d (ix2 ⟨(i 0).val, h⟩ (i 1)) else 0

/-- The gradient of the context's condition. -/
def ctxGrad (ctx : (⟨1, ![1024]⟩ : Shape).Idx → EReal) (d : Mat 2 6144) (w : Mat 1024 6144) :
    (⟨1, ![1024]⟩ : Shape).Idx → EReal := fun i =>
  siluGrad (ctx i) (∑ k : Fin 6144, d (ix2 0 k) * w (ix2 (i 0) k))

/-- The gradient of the weight. -/
def weightGrad (ctx : (⟨1, ![1024]⟩ : Shape).Idx → EReal) (c : Mat 1 1024) (d : Mat 2 6144) : Mat 1024 6144 := fun i =>
  silu (ctx (ix1 (i 0))) * d (ix2 0 (i 1)) + silu (c (ix2 0 (i 0))) * d (ix2 1 (i 1))

/-- The gradient of the bias. -/
def biasGrad (d : Mat 2 6144) : (⟨1, ![6144]⟩ : Shape).Idx → EReal := fun i => d (ix2 0 (i 0)) + d (ix2 1 (i 0))

/-- A sum over sixteen rows of which all but two are zero. -/
theorem sum_two (f : Fin 16 → EReal) (h : ∀ r : Fin 16, 2 ≤ r.val → f r = 0) : ∑ r, f r = f 0 + f 1 := by
  rw [Fin.sum_univ_succ, Fin.sum_univ_succ, Finset.sum_eq_zero fun r _ => h _ (by simp [Fin.val_succ]), add_zero]
  rfl

end Cert.Ada

end
-- ==== Proof.AdaCalls.lean ====
/- What the calls of the modulation's gradient leave in their arrays. -/
module

public import proofs.«01_k».proof.Proof.Gen.Kernel10Ideal.Frame
public import proofs.«01_k».proof.Proof.AdaModel
public import Idealize.ShloMosaic.Lib.VecWindow

@[expose] public section

noncomputable section

namespace Cert.Ada

open Cert.Kernel10Ideal Cert.Kernel10Ideal.Gen Idealize.ShloMosaic Idealize.ShloMosaic.TcCoe Cert.Products

variable (V : (c : Dev nD) → (b : Ref sig .tc) → Buf (Elt Ideal) ((c : Thread nD τ).loc b)) (c : Dev nD)

/-! ## The activated condition -/

theorem pay0 (x : FVec Ideal S16x1024 .f32) (p : Fin 16) (q : Fin 1024) : k0_pay1 (F := Ideal) x (ix2 p q) = silu (x (ix2 p q)) := by
  pointwise [k0_pay1]
  rfl

theorem idx0 : ∀ t : Fin grid0.N, (win0_0.index t 0 = 0 ∧ win0_0.index t 1 = 0)
    ∧ (win0_1.index t 0 = 0 ∧ win0_1.index t 1 = 0) := by
  decide +kernel

theorem hit0 : ∃ t : Fin grid0.N, t.val = 0 := by decide +kernel

theorem blk0_0 (t : Fin cfg0.N) (p : Fin 16) (q : Fin 1024) :
    (iblk0 V c 0 t : S16x1024.Idx → EReal) (ix2 p q) = V c main_v6 (ix2 p q) := by
  have h := idx0 t
  show V c main_v6 _ = V c main_v6 _
  congr 1; funext a; fin_cases a
  · ext; show win0_0.index t 0 * 16 + 1 * p.val = p.val; omega
  · ext; show win0_0.index t 1 * 1024 + 1 * q.val = q.val; omega

theorem flushed0 (t : Fin cfg0.N) : (dat0 V c).flushed 1 t
    = ((cfg0.win 1).blk t).view.read (Elt Ideal) (silus (V c main_v6)) := by
  show (cfg0.win 1).cut (grid0.coords t) ((dat0 V c).after 1 t) = _
  rw [after0_1]
  funext y
  obtain ⟨p, q, rfl⟩ : ∃ (p : Fin 16) (q : Fin 1024), y = ix2 p q := ⟨y 0, y 1, by funext a; fin_cases a <;> rfl⟩
  have h := idx0 t
  have e : ((cfg0.win 1).blk t).view.emb (ix2 p q) = ix2 p q := by
    funext a; fin_cases a
    · ext; show win0_1.index t 0 * 16 + 1 * p.val = p.val; omega
    · ext; show win0_1.index t 1 * 1024 + 1 * q.val = q.val; omega
  show out0_1 (iblk0 V c 0 t) (ix2 p q)
    = (silus (V c main_v6)) (((cfg0.win 1).blk t).view.emb (ix2 p q))
  rw [e]
  unfold out0_1
  rw [View.canon_unit_zero (by decide), View.ld_unit_zero (by decide), pay0]
  exact congrArg silu (blk0_0 V c t p q)

/-- The activated condition. -/
theorem res0 : (dat0 V c).arrAt 1 cfg0.N = silus (V c main_v6) :=
  (dat0 V c).arrAt_eq_of_cover 1 _ (fun t _ => flushed0 V c t) fun i => by
    obtain ⟨t, -⟩ := hit0
    have h := idx0 t
    refine ⟨t, flush0_1 t, ?_⟩
    have hi : ((cfg0.win 1).blk t).view.emb (ix2 (i 0 : Fin 16) (i 1 : Fin 1024)) = i := by
      funext a; fin_cases a
      · ext; show win0_1.index t 0 * 16 + 1 * (i 0).val = (i 0).val; omega
      · ext; show win0_1.index t 1 * 1024 + 1 * (i 1).val = (i 1).val; omega
    rw [← hi]
    exact Finset.mem_map_of_mem _ (Finset.mem_univ _)

/-! ## The gradient of the modulation and of the bias -/

theorem pay2 (x : FVec Ideal S16x6144 .f32) (p : Fin 16) (q : Fin 6144) : k2_pay3 (F := Ideal) x (ix2 p q) = x (ix2 p q) := by
  pointwise [k2_pay3, k2_pay1]

theorem pay2b (x : FVec Ideal S16x6144 .f32) (p : Fin 1) (q : Fin 6144) :
    k2_pay2 (F := Ideal) x (ix2 p q) = ∑ r : Fin 16, x (ix2 r q) := by
  pointwise [k2_pay2, k2_pay1]

theorem outs2 (t : Fin cfg2.N) : outsAt2 V c t = (k2_pay3 (iblk2 V c 2 t), k2_pay2 (iblk2 V c 2 t)) := by
  have e : (ms2_2 t).view.readAt (Elt Ideal) (Rect.unit (s := S16x6144) ![0, 0] S16x6144.size inb_S16x6144_S16x6144_0_0).toLoadRect
      ((hs2_2 t).unread (iblk2 V c 2 t)) = iblk2 V c 2 t := by
    rw [View.readAt_full]; exact (hs2_2 t).read_unread _
  unfold outsAt2 out2_A_3 out2_A_4
  refine congr (congrArg Prod.mk ?_) ?_
  · exact (View.read_writes_full VO2_3 _ _ _ []).trans (congrArg k2_pay3 e)
  · exact (View.read_writes_full VO2_4 _ _ _ []).trans (congrArg k2_pay2 e)

theorem idx2 : ∀ t : Fin grid2.N, (win2_2.index t 0 = 0 ∧ win2_2.index t 1 = 0)
    ∧ (win2_3.index t 0 = 0 ∧ win2_3.index t 1 = 0) := by
  decide +kernel

theorem hit2 : ∃ t : Fin grid2.N, t.val = 0 := by decide +kernel

theorem blk2_2 (t : Fin cfg2.N) (p : Fin 16) (q : Fin 6144) :
    (iblk2 V c 2 t : S16x6144.Idx → EReal) (ix2 p q) = V c main_v10 (ix2 p q) := by
  have h := idx2 t
  show V c main_v10 _ = V c main_v10 _
  congr 1; funext a; fin_cases a
  · ext; show win2_2.index t 0 * 16 + 1 * p.val = p.val; omega
  · ext; show win2_2.index t 1 * 6144 + 1 * q.val = q.val; omega

theorem flushed2 (t : Fin cfg2.N) : (dat2 V c).flushed 3 t
    = ((cfg2.win 3).blk t).view.read (Elt Ideal) ((V c main_v10 : Mat 16 6144)) := by
  show (cfg2.win 3).cut (grid2.coords t) ((dat2 V c).after 3 t) = _
  rw [after2_3]
  funext y
  obtain ⟨p, q, rfl⟩ : ∃ (p : Fin 16) (q : Fin 6144), y = ix2 p q := ⟨y 0, y 1, by funext a; fin_cases a <;> rfl⟩
  have h := idx2 t
  have e : ((cfg2.win 3).blk t).view.emb (ix2 p q) = ix2 p q := by
    funext a; fin_cases a
    · ext; show win2_3.index t 0 * 16 + 1 * p.val = p.val; omega
    · ext; show win2_3.index t 1 * 6144 + 1 * q.val = q.val; omega
  show (outsAt2 V c t).1 (ix2 p q)
    = ((V c main_v10 : Mat 16 6144)) (((cfg2.win 3).blk t).view.emb (ix2 p q))
  rw [e]
  rw [outs2 V c t]
  exact (pay2 _ p q).trans (blk2_2 V c t p q)

/-- The gradient of the modulation, cast. -/
theorem res2 : (dat2 V c).arrAt 3 cfg2.N = (V c main_v10 : Mat 16 6144) :=
  (dat2 V c).arrAt_eq_of_cover 3 _ (fun t _ => flushed2 V c t) fun i => by
    obtain ⟨t, -⟩ := hit2
    have h := idx2 t
    refine ⟨t, flush2_3 t, ?_⟩
    have hi : ((cfg2.win 3).blk t).view.emb (ix2 (i 0 : Fin 16) (i 1 : Fin 6144)) = i := by
      funext a; fin_cases a
      · ext; show win2_3.index t 0 * 16 + 1 * (i 0).val = (i 0).val; omega
      · ext; show win2_3.index t 1 * 6144 + 1 * (i 1).val = (i 1).val; omega
    rw [← hi]
    exact Finset.mem_map_of_mem _ (Finset.mem_univ _)

theorem idx2b : ∀ t : Fin grid2.N, (win2_4.index t 0 = 0 ∧ win2_4.index t 1 = 0) := by
  decide +kernel

theorem hit2b : ∃ t : Fin grid2.N, t.val = 0 := by decide +kernel

theorem flushed2b (t : Fin cfg2.N) : (dat2 V c).flushed 4 t
    = ((cfg2.win 4).blk t).view.read (Elt Ideal) (rowSum (V c main_v10)) := by
  show (cfg2.win 4).cut (grid2.coords t) ((dat2 V c).after 4 t) = _
  rw [after2_4]
  funext y
  obtain ⟨p, q, rfl⟩ : ∃ (p : Fin 1) (q : Fin 6144), y = ix2 p q := ⟨y 0, y 1, by funext a; fin_cases a <;> rfl⟩
  have h := idx2b t
  have e : ((cfg2.win 4).blk t).view.emb (ix2 p q) = ix2 p q := by
    funext a; fin_cases a
    · ext; show win2_4.index t 0 * 1 + 1 * p.val = p.val; omega
    · ext; show win2_4.index t 1 * 6144 + 1 * q.val = q.val; omega
  show (outsAt2 V c t).2 (ix2 p q)
    = (rowSum (V c main_v10)) (((cfg2.win 4).blk t).view.emb (ix2 p q))
  rw [e]
  rw [outs2 V c t]
  exact (pay2b _ p q).trans (Finset.sum_congr rfl fun r _ => blk2_2 V c t r q)

/-- The gradient of the bias. -/
theorem res2b : (dat2 V c).arrAt 4 cfg2.N = rowSum (V c main_v10) :=
  (dat2 V c).arrAt_eq_of_cover 4 _ (fun t _ => flushed2b V c t) fun i => by
    obtain ⟨t, -⟩ := hit2b
    have h := idx2b t
    refine ⟨t, flush2_4 t, ?_⟩
    have hi : ((cfg2.win 4).blk t).view.emb (ix2 (i 0 : Fin 1) (i 1 : Fin 6144)) = i := by
      funext a; fin_cases a
      · ext; show win2_4.index t 0 * 1 + 1 * (i 0).val = (i 0).val; omega
      · ext; show win2_4.index t 1 * 6144 + 1 * (i 1).val = (i 1).val; omega
    rw [← hi]
    exact Finset.mem_map_of_mem _ (Finset.mem_univ _)

/-! ## The gradient of the activated condition -/

/-- Column `k` of the `j`-th block of 1536. -/
def at4 (j : Fin 4) (k : Fin 1536) : Fin 6144 := ⟨j.val * 1536 + k.val, by omega⟩

/-- A sum over all the columns, one block after the other. -/
theorem sum_blocks (f : Fin 6144 → EReal) : ∑ k, f k = ((∑ k, f (at4 0 k)) + ∑ k, f (at4 1 k)) + (∑ k, f (at4 2 k))
    + ∑ k, f (at4 3 k) := by
  rw [← (finProdFinEquiv (m := 4) (n := 1536)).sum_comp f, Fintype.sum_prod_type, Fin.sum_univ_four]
  refine congr (congrArg _ (congr (congrArg _ (congr (congrArg _ ?_) ?_)) ?_)) ?_ <;>
    exact Finset.sum_congr rfl fun k _ => congrArg f (by ext; simp [finProdFinEquiv, at4]; try omega)

theorem pay3 (x0 x1 x2 x3 : FVec Ideal S16x1536 .bf16) (y0 y1 y2 y3 : FVec Ideal S1x1024x1536 .bf16) (p : Fin 16) (q : Fin 1024) :
    k3_pay1 (F := Ideal) x0 y0 x1 y1 x2 y2 x3 y3 (ix2 p q)
      = ((∑ k : Fin 1536, x0 (ix2 p k) * y0 (ix3 0 q k)) + ∑ k : Fin 1536, x1 (ix2 p k) * y1 (ix3 0 q k))
        + (∑ k : Fin 1536, x2 (ix2 p k) * y2 (ix3 0 q k)) + ∑ k : Fin 1536, x3 (ix2 p k) * y3 (ix3 0 q k) := by
  pointwise [k3_pay1]

theorem cols3 (x : Vec Ideal S16x6144 .bf16) (o : ℕ) (j : Fin 4) (hj : o = j.val * 1536) (inb) (p : Fin 16) (k : Fin 1536) :
    (View.ld x (Rect.unit (s := S16x6144) ![0, o] S16x1536.size inb) : FVec Ideal S16x1536 .bf16) (ix2 p k)
      = x (ix2 p (at4 j k)) := by
  subst hj
  show x _ = x _
  congr 1; funext a; fin_cases a
  · ext; show 0 + 1 * p.val = p.val; omega
  · ext; show j.val * 1536 + 1 * k.val = j.val * 1536 + k.val; omega

theorem part3 (y : Vec Ideal S4x1024x1536 .bf16) (o : ℕ) (j : Fin 4) (hj : o = j.val) (inb) (q : Fin 1024) (k : Fin 1536) :
    (View.ld y (Rect.unit (s := S4x1024x1536) ![o, 0, 0] S1x1024x1536.size inb) : FVec Ideal S1x1024x1536 .bf16) (ix3 0 q k)
      = y (ix3 j q k) := by
  subst hj
  show y _ = y _
  congr 1; funext a; fin_cases a
  · ext; show j.val + 1 * 0 = j.val; omega
  · ext; show 0 + 1 * q.val = q.val; omega
  · ext; show 0 + 1 * k.val = k.val; omega

theorem idx3 : ∀ t : Fin grid3.N,
    (win3_0.index t 0 = win3_2.index t 0 ∧ win3_0.index t 1 = 0)
    ∧ (win3_1.index t 0 = 0 ∧ win3_1.index t 1 = win3_2.index t 1 ∧ win3_1.index t 2 = 0) := by
  decide +kernel

theorem hit3 : ∀ (a : Fin 1) (b : Fin 1), ∃ t : Fin grid3.N,
    win3_2.index t 0 = a.val ∧ win3_2.index t 1 = b.val := by
  decide +kernel

set_option maxRecDepth 20000 in
theorem flushed3 (t : Fin cfg3.N) : (dat3 V c).flushed 2 t
    = ((cfg3.win 2).blk t).view.read (Elt Ideal) (nt (V c main_v11_0) (joined (V c main_v2))) := by
  show (cfg3.win 2).cut (grid3.coords t) ((dat3 V c).after 2 t) = _
  rw [after3_2]
  funext y
  obtain ⟨p, q, rfl⟩ : ∃ (p : Fin 16) (q : Fin 1024), y = ix2 p q := ⟨y 0, y 1, by funext a; fin_cases a <;> rfl⟩
  show out3_2 (iblk3 V c 0 t) (iblk3 V c 1 t) (ix2 p q)
    = (nt (V c main_v11_0) (joined (V c main_v2))) (((cfg3.win 2).blk t).view.emb (ix2 p q))
  unfold out3_2
  rw [View.canon_unit_zero (by decide), pay3]
  obtain ⟨⟨h00, h01⟩, ⟨h10, h11, h12⟩⟩ := idx3 t
  have x0 (j : Fin 4) (k : Fin 1536) : (iblk3 V c 0 t : S16x6144.Idx → EReal) (ix2 p (at4 j k))
      = V c main_v11_0 (ix2 (((cfg3.win 2).blk t).view.emb (ix2 p q) 0) (at4 j k)) := by
    show V c main_v11_0 _ = V c main_v11_0 _
    congr 1; funext a; fin_cases a
    · ext; show win3_0.index t 0 * 16 + 1 * p.val = win3_2.index t 0 * 16 + 1 * p.val; rw [h00]
    · ext; show win3_0.index t 1 * 6144 + 1 * (at4 j k).val = (at4 j k).val; rw [h01]; omega
  have y0 (j : Fin 4) (k : Fin 1536) : (iblk3 V c 1 t : S4x1024x1536.Idx → EReal) (ix3 j q k)
      = joined (V c main_v2) (ix2 (((cfg3.win 2).blk t).view.emb (ix2 p q) 1) (at4 j k)) := by
    show V c main_v2 _ = V c main_v2 _
    congr 1; funext a; fin_cases a
    · ext; show win3_1.index t 0 * 4 + 1 * j.val = (j.val * 1536 + k.val) / 1536; rw [h10]; omega
    · ext; show win3_1.index t 1 * 1024 + 1 * q.val = win3_2.index t 1 * 1024 + 1 * q.val; rw [h11]
    · ext; show win3_1.index t 2 * 1536 + 1 * k.val = (j.val * 1536 + k.val) % 1536; rw [h12]; omega
  refine Eq.trans ?_ (sum_blocks _).symm
  refine congr (congrArg _ (congr (congrArg _ (congr (congrArg _ ?_) ?_)) ?_)) ?_
  · exact Finset.sum_congr rfl fun k _ => congr (congrArg HMul.hMul ((cols3 (iblk3 V c 0 t) _ 0 rfl _ p k).trans (x0 0 k))) ((part3 (iblk3 V c 1 t) _ 0 rfl _ q k).trans (y0 0 k))
  · exact Finset.sum_congr rfl fun k _ => congr (congrArg HMul.hMul ((cols3 (iblk3 V c 0 t) _ 1 rfl _ p k).trans (x0 1 k))) ((part3 (iblk3 V c 1 t) _ 1 rfl _ q k).trans (y0 1 k))
  · exact Finset.sum_congr rfl fun k _ => congr (congrArg HMul.hMul ((cols3 (iblk3 V c 0 t) _ 2 rfl _ p k).trans (x0 2 k))) ((part3 (iblk3 V c 1 t) _ 2 rfl _ q k).trans (y0 2 k))
  · exact Finset.sum_congr rfl fun k _ => congr (congrArg HMul.hMul ((cols3 (iblk3 V c 0 t) _ 3 rfl _ p k).trans (x0 3 k))) ((part3 (iblk3 V c 1 t) _ 3 rfl _ q k).trans (y0 3 k))

/-- The gradient of the activated condition. -/
theorem res3 : (dat3 V c).arrAt 2 cfg3.N = nt (V c main_v11_0) (joined (V c main_v2)) :=
  (dat3 V c).arrAt_eq_of_cover 2 _ (fun t _ => flushed3 V c t) fun i => by
    have h0 : (i 0).val < 16 := (i 0).isLt
    have h1 : (i 1).val < 1024 := (i 1).isLt
    obtain ⟨t, e0, e1⟩ := hit3 ⟨(i 0).val / 16, by omega⟩ ⟨(i 1).val / 1024, by omega⟩
    refine ⟨t, flush3_2 t, ?_⟩
    have hi : ((cfg3.win 2).blk t).view.emb
        (ix2 (⟨(i 0).val % 16, by omega⟩ : Fin 16) (⟨(i 1).val % 1024, by omega⟩ : Fin 1024)) = i := by
      funext a; fin_cases a
      · ext; show win3_2.index t 0 * 16 + 1 * ((i 0).val % 16) = (i 0).val
        rw [e0]; show (i 0).val / 16 * 16 + _ = _; omega
      · ext; show win3_2.index t 1 * 1024 + 1 * ((i 1).val % 1024) = (i 1).val
        rw [e1]; show (i 1).val / 1024 * 1024 + _ = _; omega
    rw [← hi]
    exact Finset.mem_map_of_mem _ (Finset.mem_univ _)

/-! ## The gradient of the weight -/

theorem pay4 (x : FVec Ideal S16x512 .bf16) (y : FVec Ideal S16x1536 .bf16) (p : Fin 512) (q : Fin 1536) :
    k4_pay1 (F := Ideal) x y (ix3 0 p q) = ∑ k : Fin 16, x (ix2 k p) * y (ix2 k q) := by
  pointwise [k4_pay1]

theorem idx4 : ∀ t : Fin grid4.N,
    (win4_0.index t 0 = 0 ∧ win4_0.index t 1 = win4_2.index t 1)
    ∧ (win4_1.index t 0 = 0 ∧ win4_1.index t 1 = win4_2.index t 0) ∧ win4_2.index t 2 = 0 := by
  decide +kernel

theorem hit4 : ∀ (a : Fin 4) (b : Fin 2), ∃ t : Fin grid4.N, win4_2.index t 0 = a.val ∧ win4_2.index t 1 = b.val := by
  decide +kernel

theorem flushed4 (t : Fin cfg4.N) : (dat4 V c).flushed 2 t
    = ((cfg4.win 2).blk t).view.read (Elt Ideal) (parted (tn (V c main_v7) (V c main_v11_0))) := by
  show (cfg4.win 2).cut (grid4.coords t) ((dat4 V c).after 2 t) = _
  rw [after4_2]
  funext y
  obtain ⟨p, q, rfl⟩ : ∃ (p : Fin 512) (q : Fin 1536), y = ix3 0 p q :=
    ⟨y 1, y 2, by funext a; fin_cases a; · exact Subsingleton.elim (α := Fin 1) _ _
                  · rfl
                  · rfl⟩
  show out4_2 (iblk4 V c 0 t) (iblk4 V c 1 t) (ix3 0 p q)
    = parted (tn (V c main_v7) (V c main_v11_0)) (((cfg4.win 2).blk t).view.emb (ix3 0 p q))
  unfold out4_2
  rw [View.canon_unit_zero (by decide), View.ld_unit_zero (by decide), View.ld_unit_zero (by decide), pay4]
  obtain ⟨⟨h00, h01⟩, ⟨h10, h11⟩, h22⟩ := idx4 t
  unfold parted tn
  refine Finset.sum_congr rfl fun k _ => ?_
  congr 1
  · show V c main_v7 _ = V c main_v7 _
    congr 1; funext a; fin_cases a
    · ext; show win4_0.index t 0 * 16 + 1 * k.val = k.val; rw [h00]; omega
    · ext; show win4_0.index t 1 * 512 + 1 * p.val = win4_2.index t 1 * 512 + 1 * p.val; rw [h01]
  · show V c main_v11_0 _ = V c main_v11_0 _
    congr 1; funext a; fin_cases a
    · ext; show win4_1.index t 0 * 16 + 1 * k.val = k.val; rw [h10]; omega
    · ext
      show win4_1.index t 1 * 1536 + 1 * q.val
        = (win4_2.index t 0 * 1 + 1 * 0) * 1536 + (win4_2.index t 2 * 1536 + 1 * q.val)
      rw [h11, h22]; omega

/-- The gradient of the weight, in four blocks of columns. -/
theorem res4 : (dat4 V c).arrAt 2 cfg4.N = parted (tn (V c main_v7) (V c main_v11_0)) :=
  (dat4 V c).arrAt_eq_of_cover 2 _ (fun t _ => flushed4 V c t) fun i => by
    have h0 : (i 0).val < 4 := (i 0).isLt
    have h1 : (i 1).val < 1024 := (i 1).isLt
    have h2 : (i 2).val < 1536 := (i 2).isLt
    obtain ⟨t, e0, e1⟩ := hit4 ⟨(i 0).val, by omega⟩ ⟨(i 1).val / 512, by omega⟩
    refine ⟨t, flush4_2 t, ?_⟩
    have hi : ((cfg4.win 2).blk t).view.emb
        (ix3 (0 : Fin 1) (⟨(i 1).val % 512, by omega⟩ : Fin 512) (⟨(i 2).val, by omega⟩ : Fin 1536)) = i := by
      funext a; fin_cases a
      · ext; show win4_2.index t 0 * 1 + 1 * 0 = (i 0).val; rw [e0]; show (i 0).val * 1 + _ = _; omega
      · ext; show win4_2.index t 1 * 512 + 1 * ((i 1).val % 512) = (i 1).val
        rw [e1]; show (i 1).val / 512 * 512 + _ = _; omega
      · ext; show win4_2.index t 2 * 1536 + 1 * (i 2).val = (i 2).val; rw [(idx4 t).2.2]; omega
    rw [← hi]
    exact Finset.mem_map_of_mem _ (Finset.mem_univ _)

/-! ## The gradient of the condition -/

theorem pay5 (x y : FVec Ideal S16x1024 .f32) (p : Fin 16) (q : Fin 1024) :
    k5_pay1 (F := Ideal) x y (ix2 p q) = siluGrad (x (ix2 p q)) (y (ix2 p q)) := by
  pointwise [k5_pay1]
  rfl

theorem idx5 : ∀ t : Fin grid5.N, (win5_0.index t 0 = 0 ∧ win5_0.index t 1 = 0)
    ∧ (win5_1.index t 0 = 0 ∧ win5_1.index t 1 = 0)
    ∧ (win5_2.index t 0 = 0 ∧ win5_2.index t 1 = 0) := by
  decide +kernel

theorem hit5 : ∃ t : Fin grid5.N, t.val = 0 := by decide +kernel

theorem blk5_0 (t : Fin cfg5.N) (p : Fin 16) (q : Fin 1024) :
    (iblk5 V c 0 t : S16x1024.Idx → EReal) (ix2 p q) = V c main_v6 (ix2 p q) := by
  have h := idx5 t
  show V c main_v6 _ = V c main_v6 _
  congr 1; funext a; fin_cases a
  · ext; show win5_0.index t 0 * 16 + 1 * p.val = p.val; omega
  · ext; show win5_0.index t 1 * 1024 + 1 * q.val = q.val; omega

theorem blk5_1 (t : Fin cfg5.N) (p : Fin 16) (q : Fin 1024) :
    (iblk5 V c 1 t : S16x1024.Idx → EReal) (ix2 p q) = V c main_v12 (ix2 p q) := by
  have h := idx5 t
  show V c main_v12 _ = V c main_v12 _
  congr 1; funext a; fin_cases a
  · ext; show win5_1.index t 0 * 16 + 1 * p.val = p.val; omega
  · ext; show win5_1.index t 1 * 1024 + 1 * q.val = q.val; omega

theorem flushed5 (t : Fin cfg5.N) : (dat5 V c).flushed 2 t
    = ((cfg5.win 2).blk t).view.read (Elt Ideal) (silusGrad (V c main_v6) (V c main_v12)) := by
  show (cfg5.win 2).cut (grid5.coords t) ((dat5 V c).after 2 t) = _
  rw [after5_2]
  funext y
  obtain ⟨p, q, rfl⟩ : ∃ (p : Fin 16) (q : Fin 1024), y = ix2 p q := ⟨y 0, y 1, by funext a; fin_cases a <;> rfl⟩
  have h := idx5 t
  have e : ((cfg5.win 2).blk t).view.emb (ix2 p q) = ix2 p q := by
    funext a; fin_cases a
    · ext; show win5_2.index t 0 * 16 + 1 * p.val = p.val; omega
    · ext; show win5_2.index t 1 * 1024 + 1 * q.val = q.val; omega
  show out5_2 (iblk5 V c 0 t) (iblk5 V c 1 t) (ix2 p q)
    = (silusGrad (V c main_v6) (V c main_v12)) (((cfg5.win 2).blk t).view.emb (ix2 p q))
  rw [e]
  unfold out5_2
  rw [View.canon_unit_zero (by decide), View.ld_unit_zero (by decide), View.ld_unit_zero (by decide), pay5]
  exact congr (congrArg siluGrad (blk5_0 V c t p q)) (blk5_1 V c t p q)

/-- The gradient of the condition. -/
theorem res5 : (dat5 V c).arrAt 2 cfg5.N = silusGrad (V c main_v6) (V c main_v12) :=
  (dat5 V c).arrAt_eq_of_cover 2 _ (fun t _ => flushed5 V c t) fun i => by
    obtain ⟨t, -⟩ := hit5
    have h := idx5 t
    refine ⟨t, flush5_2 t, ?_⟩
    have hi : ((cfg5.win 2).blk t).view.emb (ix2 (i 0 : Fin 16) (i 1 : Fin 1024)) = i := by
      funext a; fin_cases a
      · ext; show win5_2.index t 0 * 16 + 1 * (i 0).val = (i 0).val; omega
      · ext; show win5_2.index t 1 * 1024 + 1 * (i 1).val = (i 1).val; omega
    rw [← hi]
    exact Finset.mem_map_of_mem _ (Finset.mem_univ _)

end Cert.Ada

end
-- ==== Proof.AdaValues.lean ====
/- The arrays between the calls of the modulation's gradient, and its three results, from the arguments. -/
module

public import proofs.«01_k».proof.Proof.AdaCalls

@[expose] public section

noncomputable section

namespace Cert.Ada

open Cert.Kernel10Ideal Cert.Kernel10Ideal.Gen Idealize.ShloMosaic Idealize.ShloMosaic.TcCoe Cert.Products Idealize.ShloMosaic.StableHlo

variable (m : (ℓ : Loc nD τ sig) → Buf (Elt Ideal) ℓ) (ρ : Dev nD → PrngReg) (c : Dev nD)

/-- The sample's condition. -/
abbrev cs : Mat 1 1024 := m ((c : Thread nD τ).loc main_arg0)
/-- The context's condition. -/
abbrev ctx : (⟨1, ![1024]⟩ : Shape).Idx → EReal := m ((c : Thread nD τ).loc main_arg1)
/-- The gradient of the two rows of modulation. -/
abbrev d : Mat 2 6144 := m ((c : Thread nD τ).loc main_arg2)
/-- The weight. -/
abbrev w : Mat 1024 6144 := m ((c : Thread nD τ).loc main_arg3)

set_option maxRecDepth 20000 in
/-- The weight, cast and cut into blocks by the host. -/
theorem main_v2_val : W1 m ρ c (Proc.devRef .tc main_v2) = parted (w m c) := by
  have e : W1 m ρ c (Proc.devRef .tc main_v2)
      = (transpose S4x1024x1536 [1, 0, 2] (shapeCast S1024x4x1536
          (truncf (F := Ideal) .bf16 (m ((c : Thread nD τ).loc main_arg3)) bitsLt_bf16_f32)
          shapeCasts_S1024x6144_S1024x4x1536) transposes_S1024x4x1536_S4x1024x1536_1_0_2 : FVec Ideal S4x1024x1536 .bf16) := by
    simp only [W1, hostOps0]
    after_results_simp <;> rfl
  rw [e]
  funext i
  obtain ⟨b, p, q, rfl⟩ : ∃ (b : Fin 4) (p : Fin 1024) (q : Fin 1536), i = ix3 b p q :=
    ⟨i 0, i 1, i 2, by funext a; fin_cases a <;> rfl⟩
  pointwise []
  rfl

/-- The condition's rows, filled by the host. -/
def filledCond (x : FVec Ideal S1x1024 .f32) (y : FVec Ideal S1024 .f32) : FVec Ideal S16x1024 .f32 :=
  concatenate S16x1024 0 [⟨S1x1024, (shapeCast S1x1024 y shapeCasts_S1024_S1x1024 : FVec Ideal S1x1024 .f32)⟩, ⟨S1x1024, x⟩,
    ⟨S14x1024, (broadcastInDim S14x1024 ![] bcast_S_S14x1024 (constant S_ .f32 0x00000000#32 : FVec Ideal S_ .f32) : FVec Ideal S14x1024 .f32)⟩]
    concatenates_S1x1024_S1x1024_S14x1024_S16x1024_d0

theorem filledCond_eq (x : FVec Ideal S1x1024 .f32) (y : FVec Ideal S1024 .f32) : filledCond x y = cond y x := by
  funext i
  obtain ⟨p, q, rfl⟩ : ∃ (p : Fin 16) (q : Fin 1024), i = ix2 p q := ⟨i 0, i 1, by funext a; fin_cases a <;> rfl⟩
  pointwise [filledCond]
  show _ = if p.val = 0 then y (ix1 q) else if p.val = 1 then x (ix2 0 q) else 0
  by_cases h0 : p.val = 0
  · rw [if_pos h0, dif_pos (by omega)]
  by_cases h1 : p.val = 1
  · rw [if_neg h0, if_pos h1, dif_neg (by omega), dif_pos (by omega)]
    congr 1; funext a; fin_cases a
    · exact Subsingleton.elim (α := Fin 1) _ _
    · rfl
  · rw [if_neg h0, if_neg h1, dif_neg (by omega), dif_neg (by omega)]

set_option maxRecDepth 20000 in
theorem main_v6_val : W1 m ρ c (Proc.devRef .tc main_v6) = cond (ctx m c) (cs m c) := by
  have e : W1 m ρ c (Proc.devRef .tc main_v6) = filledCond (cs m c) (ctx m c) := by
    simp only [W1, hostOps0]
    after_results_simp <;> rfl
  exact e.trans (filledCond_eq _ _)

/-- The gradient's rows, filled by the host. -/
def filledGrads (x : FVec Ideal S2x6144 .f32) : FVec Ideal S16x6144 .f32 :=
  concatenate S16x6144 0 [⟨S2x6144, x⟩,
    ⟨S14x6144, (broadcastInDim S14x6144 ![] bcast_S_S14x6144 (constant S_ .f32 0x00000000#32 : FVec Ideal S_ .f32) : FVec Ideal S14x6144 .f32)⟩]
    concatenates_S2x6144_S14x6144_S16x6144_d0

theorem filledGrads_eq (x : FVec Ideal S2x6144 .f32) : filledGrads x = grads x := by
  funext i
  obtain ⟨p, q, rfl⟩ : ∃ (p : Fin 16) (q : Fin 6144), i = ix2 p q := ⟨i 0, i 1, by funext a; fin_cases a <;> rfl⟩
  pointwise [filledGrads]
  rfl

set_option maxRecDepth 20000 in
theorem main_v10_val : W4 m ρ c (Proc.devRef .tc main_v10) = grads (d m c) := by
  have e : W4 m ρ c (Proc.devRef .tc main_v10) = filledGrads (W3 m ρ c (Proc.devRef .tc main_arg2)) := by
    simp only [W4, hostOps2]
    after_results_simp <;> rfl
  rw [e, show W3 m ρ c (Proc.devRef .tc main_arg2) = d m c from W3_args m ρ c main_arg2 (by decide)]
  exact filledGrads_eq _

theorem main_v7_val : W2 m ρ c (Proc.devRef .tc main_v7) = silus (cond (ctx m c) (cs m c)) := by
  refine (W2_arr m ρ c 1).trans ((res0 (V1 m ρ) c).trans ?_)
  rw [show V1 m ρ c main_v6 = _ from main_v6_val m ρ c]

theorem main_v11_0_val : W5 m ρ c (Proc.devRef .tc main_v11_0) = grads (d m c) :=
  (W5_arr m ρ c 3).trans ((res2 (V4 m ρ) c).trans (main_v10_val m ρ c))

theorem main_v11_1_val : W5 m ρ c (Proc.devRef .tc main_v11_1) = rowSum (grads (d m c)) := by
  refine (W5_arr m ρ c 4).trans ((res2b (V4 m ρ) c).trans ?_)
  rw [show V4 m ρ c main_v10 = _ from main_v10_val m ρ c]

theorem main_v12_val : W6 m ρ c (Proc.devRef .tc main_v12) = nt (grads (d m c)) (w m c) := by
  refine (W6_arr m ρ c 2).trans ((res3 (V5 m ρ) c).trans ?_)
  rw [show V5 m ρ c main_v11_0 = _ from main_v11_0_val m ρ c,
    show V5 m ρ c main_v2 = _ from (W5_of m ρ c main_v2 (by decide)).trans ((W4_of m ρ c main_v2 (by decide)).trans ((W3_of m ρ c main_v2 (by decide)).trans ((W2_of m ρ c main_v2 (by decide)).trans (main_v2_val m ρ c)))), joined_parted]

theorem main_v13_val : W7 m ρ c (Proc.devRef .tc main_v13) = parted (tn (silus (cond (ctx m c) (cs m c))) (grads (d m c))) := by
  refine (W7_arr m ρ c 2).trans ((res4 (V6 m ρ) c).trans ?_)
  rw [show V6 m ρ c main_v7 = _ from (W6_of m ρ c main_v7 (by decide)).trans ((W5_of m ρ c main_v7 (by decide)).trans ((W4_of m ρ c main_v7 (by decide)).trans ((W3_of m ρ c main_v7 (by decide)).trans (main_v7_val m ρ c)))),
    show V6 m ρ c main_v11_0 = _ from (W6_of m ρ c main_v11_0 (by decide)).trans (main_v11_0_val m ρ c)]

theorem main_v14_val : W8 m ρ c (Proc.devRef .tc main_v14)
    = silusGrad (cond (ctx m c) (cs m c)) (nt (grads (d m c)) (w m c)) := by
  refine (W8_arr m ρ c 2).trans ((res5 (V7 m ρ) c).trans ?_)
  rw [show V7 m ρ c main_v6 = _ from (W7_of m ρ c main_v6 (by decide)).trans ((W6_of m ρ c main_v6 (by decide)).trans ((W5_of m ρ c main_v6 (by decide)).trans ((W4_of m ρ c main_v6 (by decide)).trans ((W3_of m ρ c main_v6 (by decide)).trans ((W2_of m ρ c main_v6 (by decide)).trans (main_v6_val m ρ c)))))),
    show V7 m ρ c main_v12 = _ from (W7_of m ρ c main_v12 (by decide)).trans (main_v12_val m ρ c)]

/-! ## The three results -/

set_option maxRecDepth 20000 in
theorem out_dctx : W9 m ρ c (Proc.devRef .tc main_v16) = ctxGrad (ctx m c) (d m c) (w m c) := by
  have e : W9 m ρ c (Proc.devRef .tc main_v16)
      = (shapeCast S1024 (extractStridedSlice S1x1024 ![0, 0]
          (W8 m ρ c (Proc.devRef .tc main_v14) : FVec Ideal S16x1024 .f32) slices_S16x1024_S1x1024_0_0)
          shapeCasts_S1x1024_S1024 : FVec Ideal S1024 .f32) := by
    simp only [W9, hostOps6]
    after_results_simp <;> rfl
  rw [e, main_v14_val]
  funext i
  obtain ⟨q, rfl⟩ : ∃ (q : Fin 1024), i = ix1 q := ⟨i 0, by funext a; fin_cases a; rfl⟩
  pointwise []
  rfl

set_option maxRecDepth 20000 in
theorem out_dw : W9 m ρ c (Proc.devRef .tc main_v18) = weightGrad (ctx m c) (cs m c) (d m c) := by
  have e : W9 m ρ c (Proc.devRef .tc main_v18)
      = (shapeCast S1024x6144 (transpose S1024x4x1536 [1, 0, 2]
          (W8 m ρ c (Proc.devRef .tc main_v13) : FVec Ideal S4x1024x1536 .f32) transposes_S4x1024x1536_S1024x4x1536_1_0_2)
          shapeCasts_S1024x4x1536_S1024x6144 : FVec Ideal S1024x6144 .f32) := by
    simp only [W9, hostOps6]
    after_results_simp <;> rfl
  rw [e, show W8 m ρ c (Proc.devRef .tc main_v13) = _ from (W8_of m ρ c main_v13 (by decide)).trans (main_v13_val m ρ c)]
  funext i
  obtain ⟨p, q, rfl⟩ : ∃ (p : Fin 1024) (q : Fin 6144), i = ix2 p q := ⟨i 0, i 1, by funext a; fin_cases a <;> rfl⟩
  pointwise []
  have f : tn (silus (cond (ctx m c) (cs m c))) (grads (d m c)) (ix2 p q) = weightGrad (ctx m c) (cs m c) (d m c) (ix2 p q) := by
    refine (sum_two _ fun r hr => ?_).trans rfl
    show _ * grads (d m c) (ix2 r q) = 0
    rw [show grads (d m c) (ix2 r q) = 0 from dif_neg (by show ¬ r.val < 2; omega), mul_zero]
  refine Eq.trans ?_ f
  show tn _ _ _ = tn _ _ _
  congr 1; funext a; fin_cases a
  · rfl
  · ext; show q.val / 1536 * 1536 + q.val % 1536 = q.val; omega

set_option maxRecDepth 20000 in
theorem out_db : W9 m ρ c (Proc.devRef .tc main_v19) = biasGrad (d m c) := by
  have e : W9 m ρ c (Proc.devRef .tc main_v19)
      = (shapeCast S6144 (W8 m ρ c (Proc.devRef .tc main_v11_1) : FVec Ideal S1x6144 .f32)
          shapeCasts_S1x6144_S6144 : FVec Ideal S6144 .f32) := by
    simp only [W9, hostOps6]
    after_results_simp <;> rfl
  rw [e, show W8 m ρ c (Proc.devRef .tc main_v11_1) = _ from (W8_of m ρ c main_v11_1 (by decide)).trans ((W7_of m ρ c main_v11_1 (by decide)).trans ((W6_of m ρ c main_v11_1 (by decide)).trans (main_v11_1_val m ρ c)))]
  funext i
  obtain ⟨q, rfl⟩ : ∃ (q : Fin 6144), i = ix1 q := ⟨i 0, by funext a; fin_cases a; rfl⟩
  pointwise []
  refine Eq.trans ?_ ((sum_two (fun r => grads (d m c) (ix2 r q)) fun r hr => dif_neg (by show ¬ r.val < 2; omega)).trans rfl)
  rfl

end Cert.Ada

end
-- ==== Proof.AdaReference.lean ====
/- What the reference of the modulation's gradient computes. -/
module

public import proofs.«01_k».proof.Proof.Gen.Reference10Ideal.Read
public import proofs.«01_k».proof.Proof.AdaModel

@[expose] public section

noncomputable section

namespace Cert.Ada

open Cert.Reference10Ideal Cert.Reference10Ideal.Gen Cert.Reference10Ideal.Read Idealize.ShloMosaic Idealize.ShloMosaic.TcCoe Cert.Products

variable (x0 : Mat 1 1024) (x1 : (⟨1, ![1024]⟩ : Shape).Idx → EReal) (x2 : Mat 2 6144) (x3 : Mat 1024 6144)

/-- The sigmoid of the context's condition. -/
theorem ref_sigma (q : Fin 1024) : val_main_v1_2 (F := Ideal) x1 (ix2 0 q) = Ideal.logistic (x1 (ix1 q)) := by
  pointwise [val_main_v1_2, val_main_call0_v4, val_main_call0_cst_0, val_main_call0_v3, val_main_call0_v2, val_main_call0_cst,
    val_main_call0_v1, val_main_call0_v0, val_main_v0]
  rfl

/-- The activated condition of the context. -/
theorem ref_silu1 (q : Fin 1024) : val_main_v1_0 (F := Ideal) x1 (ix2 0 q) = silu (x1 (ix1 q)) := by
  pointwise [val_main_v1_0, val_main_v0]
  rw [ref_sigma]
  rfl

/-- The activated condition of the sample. -/
theorem ref_silu0 (q : Fin 1024) : val_main_v5 (F := Ideal) x0 (ix2 0 q) = silu (x0 (ix2 0 q)) := by
  pointwise [val_main_v5, val_main_call1_v5, val_main_call1_v4, val_main_call1_cst_0, val_main_call1_v3, val_main_call1_v2,
    val_main_call1_cst, val_main_call1_v1, val_main_call1_v0]
  rfl

/-- The gradient of the bias. -/
theorem ref_v15 : val_main_v15 (F := Ideal) x2 = biasGrad x2 := by
  funext i
  obtain ⟨q, rfl⟩ : ∃ (q : Fin 6144), i = ix1 q := ⟨i 0, by funext a; fin_cases a; rfl⟩
  pointwise [val_main_v15, val_main_v11, val_main_v14, val_main_cst, val_main_cst_0, val_main_v10, val_main_v9]
  rw [Fin.sum_univ_one, Fin.sum_univ_one]
  exact add_comm (x2 (ix2 1 q)) _

/-- The gradient of the weight. -/
theorem ref_v18 : val_main_v18 (F := Ideal) x0 x1 x2 = weightGrad x1 x0 x2 := by
  funext i
  obtain ⟨p, q, rfl⟩ : ∃ (p : Fin 1024) (q : Fin 6144), i = ix2 p q := ⟨i 0, i 1, by funext a; fin_cases a <;> rfl⟩
  pointwise [val_main_v18, val_main_v13, val_main_v12, val_main_v17, val_main_v16, val_main_v10, val_main_v9]
  rw [Fin.sum_univ_one, Fin.sum_univ_one, ref_silu0, ref_silu1]
  refine (add_comm _ _).trans ?_
  exact congr (congrArg _ (mul_comm _ _)) (mul_comm _ _)

/-- The gradient of the activated condition. -/
theorem ref_v19 (q : Fin 1024) : val_main_v19 (F := Ideal) x2 x3 (ix2 0 q) = ∑ k : Fin 6144, x2 (ix2 0 k) * x3 (ix2 q k) := by
  pointwise [val_main_v19, val_main_v9]

/-- The gradient of the context's condition. -/
theorem ref_v21 : val_main_v21 (F := Ideal) x1 x2 x3 = ctxGrad x1 x2 x3 := by
  funext i
  obtain ⟨q, rfl⟩ : ∃ (q : Fin 1024), i = ix1 q := ⟨i 0, by funext a; fin_cases a; rfl⟩
  pointwise [val_main_v21, val_main_cst_1, val_main_v20, val_main_call2_v1, val_main_call2_v2, val_main_call2_v0,
    val_main_v1_1, val_main_call0_v7, val_main_call0_v6, val_main_call0_cst_1, val_main_v0]
  rw [Fin.sum_univ_one, ref_v19, ref_sigma]
  rfl

end Cert.Ada

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.MlpRun
public import proofs.«01_k».proof.Proof.MlpValues
public import proofs.«01_k».proof.Proof.MlpReference
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.InRun
public import proofs.«01_k».proof.Proof.InValues
public import proofs.«01_k».proof.Proof.InReference
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.OutRun
public import proofs.«01_k».proof.Proof.OutValues
public import proofs.«01_k».proof.Proof.OutReference
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.FwdRun
public import proofs.«01_k».proof.Proof.FwdValues
public import proofs.«01_k».proof.Proof.FwdReference
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.OptARun
public import proofs.«01_k».proof.Proof.OptAValues
public import proofs.«01_k».proof.Proof.OptAReference
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.OptBRun
public import proofs.«01_k».proof.Proof.OptBValues
public import proofs.«01_k».proof.Proof.OptBReference
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.ProRun
public import proofs.«01_k».proof.Proof.ProValues
public import proofs.«01_k».proof.Proof.ProReference
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.SmallRun
public import proofs.«01_k».proof.Proof.SmallValues
public import proofs.«01_k».proof.Proof.SmallReference
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.AdaRun
public import proofs.«01_k».proof.Proof.AdaValues
public import proofs.«01_k».proof.Proof.AdaReference
public import Idealize.ShloMosaic.Adequacy
public import Idealize.ShloMosaic.Init

@[expose] public section

noncomputable section

namespace Cert.Proof

open Idealize.ShloMosaic Idealize.SL.Sem

/-- The reference runs and leaves its arguments; it has no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The kernel's three results are the three gradients. -/
theorem algebraic : Cert.algebraic_KernelIdeal_ReferenceIdeal_pre_gradients_finite := by
  intro m ρ m' ρ' hpre hag
  have hfin : ∀ c : Dev Cert.KernelIdeal.nD, Cert.ConvGrad.Finite (Cert.ConvGrad.arg0 m c) (Cert.ConvGrad.arg1 m c)
      (Cert.ConvGrad.arg2 m c) (Cert.ConvGrad.arg3 m c) (Cert.ConvGrad.arg4 m c) (Cert.ConvGrad.arg5 m c) := fun c =>
    ⟨fun i => congrFun (hpre c).1 i, fun i => congrFun (hpre c).2.1 i, fun i => congrFun (hpre c).2.2 i⟩
  refine ⟨_, _, _, (θ_run Cert.KernelIdeal.defs _ _).mono (fun r h c => h c)
      (Cert.KernelIdeal.Value.run_blocks (F := Ideal) m ρ),
    (θ_run Cert.ReferenceIdeal.defs _ _).mono (fun r h c => ?_) (Cert.ReferenceIdeal.Value.run (F := Ideal) m' ρ')⟩
  obtain ⟨hdu, hdw, hdb, hargs⟩ := h c
  have a := hag c
  refine ⟨hdu.trans ?_, hdw.trans ?_, hdb.trans ?_, hargs⟩
  · refine (Cert.ReferenceIdeal.Read.val_main_v239_eq (F := Ideal) ..).trans ?_
    refine Eq.trans ?_ ((Cert.ConvGrad.final6 m c).trans (Cert.ConvGrad.du_eq _ _ _ _ _ _ (hfin c))).symm
    exact congr (congr (congr (congr (congr (congrArg Cert.ReferenceIdeal.Read.val_main_v239 a.1) a.2.1) a.2.2.1) a.2.2.2.1)
      a.2.2.2.2.1) a.2.2.2.2.2
  · refine (Cert.ReferenceIdeal.Read.val_main_v229_eq (F := Ideal) ..).trans ?_
    refine Eq.trans ?_ ((Cert.ConvGrad.final7 m c).trans (Cert.ConvGrad.dw_eq _ _ _ _ _ _ (hfin c))).symm
    exact congr (congr (congr (congr (congr (congrArg Cert.ReferenceIdeal.Read.val_main_v229 a.1) a.2.1) a.2.2.1) a.2.2.2.1)
      a.2.2.2.2.1) a.2.2.2.2.2
  · refine (Cert.ReferenceIdeal.Read.val_main_v234_eq (F := Ideal) ..).trans ?_
    refine Eq.trans ?_ ((Cert.ConvGrad.final8 m c).trans (Cert.ConvGrad.db_eq _ _ _ _ _ _ (hfin c))).symm
    exact congr (congr (congr (congr (congr (congrArg Cert.ReferenceIdeal.Read.val_main_v234 a.1) a.2.1) a.2.2.1) a.2.2.2.1)
      a.2.2.2.2.1) a.2.2.2.2.2

/-- The feed-forward reference runs and leaves its arguments; it has no semaphore. -/
theorem frame_reference2 : quiescent_Reference2Ideal := fun m ρ _ =>
  (θ_run Reference2Ideal.defs _ _).mono
    (fun r h => ⟨fun c => (h c).2.2.2.2, sem_eq_zero_of_no_sems (by decide) r.2⟩)
    (Reference2Ideal.Value.run (F := Ideal) m ρ)

open Kernel2Ideal Reference2Ideal.Read in
/-- The four arrays of the feed-forward layer are the reference's. -/
theorem algebraic2 : algebraic_Kernel2Ideal_Reference2Ideal := by
  intro m ρ m' ρ' _ hag
  refine ⟨fun c => Products.nn (Mlp.act (Mlp.u m c)) (Mlp.w2 m c),
    fun c => Products.nt (Mlp.du m c) (Mlp.w1 m c),
    fun c => Products.tn (Mlp.h m c) (Mlp.du m c),
    fun c => Products.tn (Mlp.act (Mlp.u m c)) (Mlp.d m c),
    (θ_run Kernel2Ideal.defs _ _).mono (fun r h c => ?_) (Mlp.run (F := Ideal) m ρ),
    (θ_run Reference2Ideal.defs _ _).mono (fun r h c => ?_) (Reference2Ideal.Value.run (F := Ideal) m' ρ')⟩
  · have e := h c
    have k := fun b hb hb' => (e b hb).trans (Gen.W10_args m ρ c b hb')
    exact ⟨(e main_v6 (by decide)).trans (Mlp.out_dn m ρ c),
      (e main_v10 (by decide)).trans (Mlp.out_dh m ρ c),
      (e main_v13 (by decide)).trans (Mlp.out_dw1 m ρ c),
      (e main_v8 (by decide)).trans (Mlp.out_dw2 m ρ c),
      k main_arg0 (by decide) (by decide), k main_arg1 (by decide) (by decide), k main_arg2 (by decide) (by decide),
      k main_arg3 (by decide) (by decide)⟩
  · obtain ⟨hdn, hdh, hdw1, hdw2, hargs⟩ := h c
    obtain ⟨a0, a1, a2, a3⟩ := hag c
    refine ⟨hdn.trans ?_, hdh.trans ?_, hdw1.trans ?_, hdw2.trans ?_, hargs⟩
    · refine (val_main_v6_eq (F := Ideal) ..).trans ?_
      exact (congr (congr (congrArg val_main_v6 a0) a1) a2).trans (Mlp.ref_v6 _ _ _)
    · refine (val_main_v17_eq (F := Ideal) ..).trans ?_
      exact (congr (congr (congr (congrArg val_main_v17 a0) a1) a2) a3).trans (Mlp.ref_v17 _ _ _ _)
    · refine (val_main_v16_eq (F := Ideal) ..).trans ?_
      exact (congr (congr (congr (congrArg val_main_v16 a0) a1) a2) a3).trans (Mlp.ref_v16 _ _ _ _)
    · refine (val_main_v9_eq (F := Ideal) ..).trans ?_
      exact (congr (congr (congrArg val_main_v9 a0) a1) a3).trans (Mlp.ref_v9 _ _ _)

theorem frame_reference3 : quiescent_Reference3Ideal := fun m ρ _ =>
  (θ_run Reference3Ideal.defs _ _).mono
    (fun r h => ⟨fun c => (h c).2.2, sem_eq_zero_of_no_sems (by decide) r.2⟩)
    (Reference3Ideal.Value.run (F := Ideal) m ρ)

open Kernel3Ideal Reference3Ideal.Read in
/-- The gradients of the input projection are the reference's. -/
theorem algebraic3 : algebraic_Kernel3Ideal_Reference3Ideal := by
  intro m ρ m' ρ' _ hag
  refine ⟨fun c => Products.nt (In.dy m c) (In.w m c),
    fun c => Products.tn (In.h m c) (In.dy m c),
    (θ_run Kernel3Ideal.defs _ _).mono (fun r h c => ?_) (In.run (F := Ideal) m ρ),
    (θ_run Reference3Ideal.defs _ _).mono (fun r h c => ?_) (Reference3Ideal.Value.run (F := Ideal) m' ρ')⟩
  · have e := h c
    have k := fun b hb hb' => (e b hb).trans (Gen.W9_args m ρ c b hb')
    exact ⟨(e main_v26 (by decide)).trans (In.out_dh m ρ c),
      (e main_v42 (by decide)).trans (In.out_dw m ρ c),
      k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide)⟩
  · obtain ⟨h0, h1, hargs⟩ := h c
    obtain ⟨a0, a1, a2, a3, a4, a5, a6, a7⟩ := hag c
    refine ⟨h0.trans ?_, h1.trans ?_, hargs⟩
    · refine (val_main_v16_eq (F := Ideal) ..).trans ?_
      exact (congr (congr (congr (congr (congr (congr (congrArg val_main_v16 a1) a2) a3) a4) a5) a6) a7).trans (In.ref_v16 _ _ _ _ _ _ _)
    · refine (val_main_v15_eq (F := Ideal) ..).trans ?_
      exact (congr (congr (congr (congr (congr (congr (congrArg val_main_v15 a0) a2) a3) a4) a5) a6) a7).trans (In.ref_v15 _ _ _ _ _ _ _)

theorem frame_reference4 : quiescent_Reference4Ideal := fun m ρ _ =>
  (θ_run Reference4Ideal.defs _ _).mono
    (fun r h => ⟨fun c => (h c).2.2.2.2.2.2.2.2, sem_eq_zero_of_no_sems (by decide) r.2⟩)
    (Reference4Ideal.Value.run (F := Ideal) m ρ)

open Kernel4Ideal Reference4Ideal.Read in
/-- The eight arrays of the merge and its products are the reference's. -/
theorem algebraic4 : algebraic_Kernel4Ideal_Reference4Ideal := by
  intro m ρ m' ρ' _ hag
  refine ⟨fun c => Products.nn (Out.mg m c) (Out.wo m c),
    fun c => Products.nt (Out.scanGrad (Out.g m c) (Out.dm m c)) (Out.ws m c),
    fun c => Products.nt (Out.poolGrad (Out.g m c) (Out.dm m c)) (Out.wp m c),
    fun c => Out.scanGateGrad (Out.s m c) (Out.g m c) (Out.dm m c),
    fun c => Out.poolGateGrad (Out.p m c) (Out.g m c) (Out.dm m c),
    fun c => Products.tn (Out.yn m c) (Out.scanGrad (Out.g m c) (Out.dm m c)),
    fun c => Products.tn (Out.pm m c) (Out.poolGrad (Out.g m c) (Out.dm m c)),
    fun c => Products.tn (Out.mg m c) (Out.d m c),
    (θ_run Kernel4Ideal.defs _ _).mono (fun r h c => ?_) (Out.run (F := Ideal) m ρ),
    (θ_run Reference4Ideal.defs _ _).mono (fun r h c => ?_) (Reference4Ideal.Value.run (F := Ideal) m' ρ')⟩
  · have e := h c
    have k := fun b hb hb' => (e b hb).trans (Gen.W12_args m ρ c b hb')
    exact ⟨(e main_v6 (by decide)).trans (Out.out_main_v6 m ρ c),
      (e main_v12 (by decide)).trans (Out.out_main_v12 m ρ c),
      (e main_v10 (by decide)).trans (Out.out_main_v10 m ρ c),
      (e main_v9_2 (by decide)).trans (Out.out_main_v9_2 m ρ c),
      (e main_v9_3 (by decide)).trans (Out.out_main_v9_3 m ρ c),
      (e main_v13 (by decide)).trans (Out.out_main_v13 m ρ c),
      (e main_v11 (by decide)).trans (Out.out_main_v11 m ρ c),
      (e main_v8 (by decide)).trans (Out.out_main_v8 m ρ c),
      k main_arg0 (by decide) (by decide), k main_arg1 (by decide) (by decide), k main_arg2 (by decide) (by decide),
      k main_arg3 (by decide) (by decide), k main_arg4 (by decide) (by decide), k main_arg5 (by decide) (by decide),
      k main_arg6 (by decide) (by decide)⟩
  · obtain ⟨h0, h1, h2, h3, h4, h5, h6, h7, hargs⟩ := h c
    obtain ⟨a0, a1, a2, a3, a4, a5, a6⟩ := hag c
    refine ⟨h0.trans ?_, h1.trans ?_, h2.trans ?_, h3.trans ?_, h4.trans ?_, h5.trans ?_, h6.trans ?_, h7.trans ?_, hargs⟩
    · refine (val_main_v20_eq (F := Ideal) ..).trans ?_
      exact (congr (congr (congr (congr (congr (congrArg val_main_v20 a0) a1) a2) a3) a4) a5).trans (Out.ref_v20 _ _ _ _ _ _)
    · refine (val_main_v36_eq (F := Ideal) ..).trans ?_
      exact (congr (congr (congr (congrArg val_main_v36 a2) a3) a5) a6).trans (Out.ref_v36 _ _ _ _)
    · refine (val_main_v33_eq (F := Ideal) ..).trans ?_
      exact (congr (congr (congr (congrArg val_main_v33 a2) a4) a5) a6).trans (Out.ref_v33 _ _ _ _)
    · refine (val_main_v38_eq (F := Ideal) ..).trans ?_
      exact (congr (congr (congr (congr (congr (congr (congrArg val_main_v38 a0) a1) a2) a3) a4) a5) a6).trans (Out.ref_v38 _ _ _ _ _ _ _)
    · refine (val_main_v40_eq (F := Ideal) ..).trans ?_
      exact (congr (congr (congr (congr (congr (congr (congrArg val_main_v40 a0) a1) a2) a3) a4) a5) a6).trans (Out.ref_v40 _ _ _ _ _ _ _)
    · refine (val_main_v35_eq (F := Ideal) ..).trans ?_
      exact (congr (congr (congr (congrArg val_main_v35 a0) a2) a5) a6).trans (Out.ref_v35 _ _ _ _)
    · refine (val_main_v32_eq (F := Ideal) ..).trans ?_
      exact (congr (congr (congr (congrArg val_main_v32 a1) a2) a5) a6).trans (Out.ref_v32 _ _ _ _)
    · refine (val_main_v23_eq (F := Ideal) ..).trans ?_
      exact (congr (congr (congr (congr (congr (congrArg val_main_v23 a0) a1) a2) a3) a4) a6).trans (Out.ref_v23 _ _ _ _ _ _)

theorem frame_reference5 : quiescent_Reference5Ideal := fun m ρ _ =>
  (θ_run Reference5Ideal.defs _ _).mono
    (fun r h => ⟨fun c => (h c).2.2.2.2.2.2.2.2, sem_eq_zero_of_no_sems (by decide) r.2⟩)
    (Reference5Ideal.Value.run (F := Ideal) m ρ)

open Kernel5Ideal Reference5Ideal.Read in
/-- The projections and the feed-forward's second product are the reference's. -/
theorem algebraic5 : algebraic_Kernel5Ideal_Reference5Ideal := by
  intro m ρ m' ρ' _ hag
  refine ⟨fun c => Fwd.pick In.cz (Products.nn (Fwd.h m c) (Fwd.w m c)),
    fun c => Fwd.pick In.cx (Products.nn (Fwd.h m c) (Fwd.w m c)),
    fun c => Fwd.pick In.ct (Products.nn (Fwd.h m c) (Fwd.w m c)),
    fun c => Fwd.pick In.cp (Products.nn (Fwd.h m c) (Fwd.w m c)),
    fun c => Fwd.pick Fwd.cgates (Products.nn (Fwd.h m c) (Fwd.w m c)),
    fun c => Products.nn (Fwd.y m c) (Fwd.ws m c),
    fun c => Products.nn (Fwd.a m c) (Fwd.wd m c),
    fun c => Products.tn (Fwd.a m c) (Fwd.d m c),
    (θ_run Kernel5Ideal.defs _ _).mono (fun r h c => ?_) (Fwd.run (F := Ideal) m ρ),
    (θ_run Reference5Ideal.defs _ _).mono (fun r h c => ?_) (Reference5Ideal.Value.run (F := Ideal) m' ρ')⟩
  · have e := h c
    have k := fun b hb hb' => (e b hb).trans (Gen.W9_args m ρ c b hb')
    exact ⟨(e main_v23 (by decide)).trans (Fwd.out_main_v23 m ρ c),
      (e main_v32 (by decide)).trans (Fwd.out_main_v32 m ρ c),
      (e main_v33 (by decide)).trans (Fwd.out_main_v33 m ρ c),
      (e main_v34 (by decide)).trans (Fwd.out_main_v34 m ρ c),
      (e main_v35 (by decide)).trans (Fwd.out_main_v35 m ρ c),
      (e main_v19 (by decide)).trans (Fwd.out_main_v19 m ρ c),
      (e main_v21 (by decide)).trans (Fwd.out_main_v21 m ρ c),
      (e main_v22 (by decide)).trans (Fwd.out_main_v22 m ρ c),
      k main_arg0 (by decide) (by decide), k main_arg1 (by decide) (by decide), k main_arg2 (by decide) (by decide),
      k main_arg3 (by decide) (by decide), k main_arg4 (by decide) (by decide), k main_arg5 (by decide) (by decide),
      k main_arg6 (by decide) (by decide)⟩
  · obtain ⟨h0, h1, h2, h3, h4, h5, h6, h7, hargs⟩ := h c
    obtain ⟨a0, a1, a2, a3, a4, a5, a6⟩ := hag c
    refine ⟨h0.trans ?_, h1.trans ?_, h2.trans ?_, h3.trans ?_, h4.trans ?_, h5.trans ?_, h6.trans ?_, h7.trans ?_, hargs⟩
    · refine (val_main_v11_eq (F := Ideal) ..).trans ?_
      exact (congr (congrArg val_main_v11 a0) a1).trans (Fwd.ref_v11 _ _)
    · refine (val_main_v12_eq (F := Ideal) ..).trans ?_
      exact (congr (congrArg val_main_v12 a0) a1).trans (Fwd.ref_v12 _ _)
    · refine (val_main_v4_eq (F := Ideal) ..).trans ?_
      exact (congr (congrArg val_main_v4 a0) a1).trans (Fwd.ref_v4 _ _)
    · refine (val_main_v13_eq (F := Ideal) ..).trans ?_
      exact (congr (congrArg val_main_v13 a0) a1).trans (Fwd.ref_v13 _ _)
    · refine (val_main_v14_eq (F := Ideal) ..).trans ?_
      exact (congr (congrArg val_main_v14 a0) a1).trans (Fwd.ref_v14 _ _)
    · refine (val_main_v8_eq (F := Ideal) ..).trans ?_
      exact (congr (congrArg val_main_v8 a2) a3).trans (Fwd.ref_v8 _ _)
    · refine (val_main_v10_eq (F := Ideal) ..).trans ?_
      exact (congr (congrArg val_main_v10 a4) a5).trans (Fwd.ref_v10 _ _)
    · refine (val_main_v17_eq (F := Ideal) ..).trans ?_
      exact (congr (congrArg val_main_v17 a4) a6).trans (Fwd.ref_v17 _ _)

theorem frame_reference6 : quiescent_Reference6Ideal := fun m ρ _ =>
  (θ_run Reference6Ideal.defs _ _).mono
    (fun r h => ⟨fun c => (h c).2.2.2.2.2.2.2.2.2.2.2.2.2.2.2.2, sem_eq_zero_of_no_sems (by decide) r.2⟩)
    (Reference6Ideal.Value.run (F := Ideal) m ρ)

open Kernel6Ideal Reference6Ideal.Read in
/-- The step of AdamW on four of the large weights is the reference's. -/
theorem algebraic6 : algebraic_Kernel6Ideal_Reference6Ideal := by
  intro m ρ m' ρ' _ hag
  refine ⟨fun c => OptA.both0 m c,
    fun c => Opt.steps (OptA.arg0 m c) (OptA.both0 m c) (OptA.arg3 m c) (OptA.arg4 m c),
    fun c => Opt.moments (OptA.both0 m c) (OptA.arg3 m c),
    fun c => Opt.squares (OptA.both0 m c) (OptA.arg4 m c),
    fun c => Opt.turn (OptA.both1 m c),
    fun c => Opt.steps (OptA.arg5 m c) (Opt.turn (OptA.both1 m c)) (OptA.arg8 m c) (OptA.arg9 m c),
    fun c => Opt.moments (Opt.turn (OptA.both1 m c)) (OptA.arg8 m c),
    fun c => Opt.squares (Opt.turn (OptA.both1 m c)) (OptA.arg9 m c),
    fun c => OptA.both2 m c,
    fun c => Opt.steps (OptA.arg10 m c) (OptA.both2 m c) (OptA.arg13 m c) (OptA.arg14 m c),
    fun c => Opt.moments (OptA.both2 m c) (OptA.arg13 m c),
    fun c => Opt.squares (OptA.both2 m c) (OptA.arg14 m c),
    fun c => shapeCast S2x4x64x256 (OptA.both3 m c) Facts₀.shapeCasts_S2x256x256_S2x4x64x256,
    fun c => Opt.steps (OptA.arg15 m c) (shapeCast S2x4x64x256 (OptA.both3 m c) Facts₀.shapeCasts_S2x256x256_S2x4x64x256) (OptA.arg18 m c) (OptA.arg19 m c),
    fun c => Opt.moments (shapeCast S2x4x64x256 (OptA.both3 m c) Facts₀.shapeCasts_S2x256x256_S2x4x64x256) (OptA.arg18 m c),
    fun c => Opt.squares (shapeCast S2x4x64x256 (OptA.both3 m c) Facts₀.shapeCasts_S2x256x256_S2x4x64x256) (OptA.arg19 m c),
    (θ_run Kernel6Ideal.defs _ _).mono (fun r h c => ?_) (OptA.run (F := Ideal) m ρ),
    (θ_run Reference6Ideal.defs _ _).mono (fun r h c => ?_) (Reference6Ideal.Value.run (F := Ideal) m' ρ')⟩
  · have e := h c
    have k := fun b hb hb' => (e b hb).trans (Gen.W8_args m ρ c b hb')
    exact ⟨(e main_v0_0 (by decide)).trans (OptA.out_main_v0_0 m ρ c),
      (e main_v0_1 (by decide)).trans (OptA.out_main_v0_1 m ρ c),
      (e main_v0_2 (by decide)).trans (OptA.out_main_v0_2 m ρ c),
      (e main_v0_3 (by decide)).trans (OptA.out_main_v0_3 m ρ c),
      (e main_v5 (by decide)).trans (OptA.out_main_v5 m ρ c),
      (e main_v6 (by decide)).trans (OptA.out_main_v6 m ρ c),
      (e main_v7 (by decide)).trans (OptA.out_main_v7 m ρ c),
      (e main_v8 (by decide)).trans (OptA.out_main_v8 m ρ c),
      (e main_v9_0 (by decide)).trans (OptA.out_main_v9_0 m ρ c),
      (e main_v9_1 (by decide)).trans (OptA.out_main_v9_1 m ρ c),
      (e main_v9_2 (by decide)).trans (OptA.out_main_v9_2 m ρ c),
      (e main_v9_3 (by decide)).trans (OptA.out_main_v9_3 m ρ c),
      (e main_v14 (by decide)).trans (OptA.out_main_v14 m ρ c),
      (e main_v15 (by decide)).trans (OptA.out_main_v15 m ρ c),
      (e main_v16 (by decide)).trans (OptA.out_main_v16 m ρ c),
      (e main_v17 (by decide)).trans (OptA.out_main_v17 m ρ c),
      k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide),
      k main_arg9 (by decide) (by decide), k main_arg10 (by decide) (by decide), k main_arg11 (by decide) (by decide),
      k main_arg12 (by decide) (by decide), k main_arg13 (by decide) (by decide), k main_arg14 (by decide) (by decide),
      k main_arg15 (by decide) (by decide), k main_arg16 (by decide) (by decide), k main_arg17 (by decide) (by decide),
      k main_arg18 (by decide) (by decide), k main_arg19 (by decide) (by decide)⟩
  · obtain ⟨h0, h1, h2, h3, h4, h5, h6, h7, h8, h9, h10, h11, h12, h13, h14, h15, hargs⟩ := h c
    obtain ⟨a0, a1, a2, a3, a4, a5, a6, a7, a8, a9, a10, a11, a12, a13, a14, a15, a16, a17, a18, a19⟩ := hag c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, hargs⟩
    · refine (val_main_v2_eq (F := Ideal) ..).trans ?_
      exact (congr (congrArg val_main_v2 a1) a2).trans (OptA.ref_v2 _ _)
    · refine (val_main_v26_eq (F := Ideal) ..).trans ?_
      exact (congr (congr (congr (congr (congrArg val_main_v26 a0) a1) a2) a3) a4).trans (OptA.ref_v26 _ _ _ _ _)
    · refine (val_main_v7_eq (F := Ideal) ..).trans ?_
      exact (congr (congr (congrArg val_main_v7 a1) a2) a3).trans (OptA.ref_v7 _ _ _)
    · refine (val_main_v13_eq (F := Ideal) ..).trans ?_
      exact (congr (congr (congrArg val_main_v13 a1) a2) a4).trans (OptA.ref_v13 _ _ _)
    · refine (val_main_v30_eq (F := Ideal) ..).trans ?_
      exact (congr (congrArg val_main_v30 a6) a7).trans (OptA.ref_v30 _ _)
    · refine (val_main_v54_eq (F := Ideal) ..).trans ?_
      exact (congr (congr (congr (congr (congrArg val_main_v54 a5) a6) a7) a8) a9).trans (OptA.ref_v54 _ _ _ _ _)
    · refine (val_main_v35_eq (F := Ideal) ..).trans ?_
      exact (congr (congr (congrArg val_main_v35 a6) a7) a8).trans (OptA.ref_v35 _ _ _)
    · refine (val_main_v41_eq (F := Ideal) ..).trans ?_
      exact (congr (congr (congrArg val_main_v41 a6) a7) a9).trans (OptA.ref_v41 _ _ _)
    · refine (val_main_v57_eq (F := Ideal) ..).trans ?_
      exact (congr (congrArg val_main_v57 a11) a12).trans (OptA.ref_v57 _ _)
    · refine (val_main_v81_eq (F := Ideal) ..).trans ?_
      exact (congr (congr (congr (congr (congrArg val_main_v81 a10) a11) a12) a13) a14).trans (OptA.ref_v81 _ _ _ _ _)
    · refine (val_main_v62_eq (F := Ideal) ..).trans ?_
      exact (congr (congr (congrArg val_main_v62 a11) a12) a13).trans (OptA.ref_v62 _ _ _)
    · refine (val_main_v68_eq (F := Ideal) ..).trans ?_
      exact (congr (congr (congrArg val_main_v68 a11) a12) a14).trans (OptA.ref_v68 _ _ _)
    · refine (val_main_v85_eq (F := Ideal) ..).trans ?_
      exact (congr (congrArg val_main_v85 a16) a17).trans (OptA.ref_v85 _ _ _)
    · refine (val_main_v109_eq (F := Ideal) ..).trans ?_
      exact (congr (congr (congr (congr (congrArg val_main_v109 a15) a16) a17) a18) a19).trans (OptA.ref_v109 _ _ _ _ _ _)
    · refine (val_main_v90_eq (F := Ideal) ..).trans ?_
      exact (congr (congr (congrArg val_main_v90 a16) a17) a18).trans (OptA.ref_v90 _ _ _ _)
    · refine (val_main_v96_eq (F := Ideal) ..).trans ?_
      exact (congr (congr (congrArg val_main_v96 a16) a17) a19).trans (OptA.ref_v96 _ _ _ _)

theorem frame_reference7 : quiescent_Reference7Ideal := fun m ρ _ =>
  (θ_run Reference7Ideal.defs _ _).mono
    (fun r h => ⟨fun c => (h c).2.2.2.2.2.2.2.2.2.2.2.2.2.2.2.2, sem_eq_zero_of_no_sems (by decide) r.2⟩)
    (Reference7Ideal.Value.run (F := Ideal) m ρ)

open Kernel7Ideal Reference7Ideal.Read in
/-- The step of AdamW on the other large weights is the reference's. -/
theorem algebraic7 : algebraic_Kernel7Ideal_Reference7Ideal := by
  intro m ρ m' ρ' _ hag
  refine ⟨fun c => OptB.both0 m c,
    fun c => Opt.steps (OptB.arg0 m c) (OptB.both0 m c) (OptB.arg3 m c) (OptB.arg4 m c),
    fun c => Opt.moments (OptB.both0 m c) (OptB.arg3 m c),
    fun c => Opt.squares (OptB.both0 m c) (OptB.arg4 m c),
    fun c => OptB.both1 m c,
    fun c => Opt.steps (OptB.arg5 m c) (OptB.both1 m c) (OptB.arg8 m c) (OptB.arg9 m c),
    fun c => Opt.moments (OptB.both1 m c) (OptB.arg8 m c),
    fun c => Opt.squares (OptB.both1 m c) (OptB.arg9 m c),
    fun c => OptB.both2 m c,
    fun c => Opt.steps (OptB.arg10 m c) (OptB.both2 m c) (OptB.arg13 m c) (OptB.arg14 m c),
    fun c => Opt.moments (OptB.both2 m c) (OptB.arg13 m c),
    fun c => Opt.squares (OptB.both2 m c) (OptB.arg14 m c),
    fun c => OptB.both3 m c,
    fun c => Opt.steps (OptB.arg15 m c) (OptB.both3 m c) (OptB.arg18 m c) (OptB.arg19 m c),
    fun c => Opt.moments (OptB.both3 m c) (OptB.arg18 m c),
    fun c => Opt.squares (OptB.both3 m c) (OptB.arg19 m c),
    (θ_run Kernel7Ideal.defs _ _).mono (fun r h c => ?_) (OptB.run (F := Ideal) m ρ),
    (θ_run Reference7Ideal.defs _ _).mono (fun r h c => ?_) (Reference7Ideal.Value.run (F := Ideal) m' ρ')⟩
  · have e := h c
    have k := fun b hb hb' => (e b hb).trans (Gen.W4_args m ρ c b hb')
    exact ⟨(e main_v0_0 (by decide)).trans (OptB.out_main_v0_0 m ρ c),
      (e main_v0_1 (by decide)).trans (OptB.out_main_v0_1 m ρ c),
      (e main_v0_2 (by decide)).trans (OptB.out_main_v0_2 m ρ c),
      (e main_v0_3 (by decide)).trans (OptB.out_main_v0_3 m ρ c),
      (e main_v1_0 (by decide)).trans (OptB.out_main_v1_0 m ρ c),
      (e main_v1_1 (by decide)).trans (OptB.out_main_v1_1 m ρ c),
      (e main_v1_2 (by decide)).trans (OptB.out_main_v1_2 m ρ c),
      (e main_v1_3 (by decide)).trans (OptB.out_main_v1_3 m ρ c),
      (e main_v2_0 (by decide)).trans (OptB.out_main_v2_0 m ρ c),
      (e main_v2_1 (by decide)).trans (OptB.out_main_v2_1 m ρ c),
      (e main_v2_2 (by decide)).trans (OptB.out_main_v2_2 m ρ c),
      (e main_v2_3 (by decide)).trans (OptB.out_main_v2_3 m ρ c),
      (e main_v3_0 (by decide)).trans (OptB.out_main_v3_0 m ρ c),
      (e main_v3_1 (by decide)).trans (OptB.out_main_v3_1 m ρ c),
      (e main_v3_2 (by decide)).trans (OptB.out_main_v3_2 m ρ c),
      (e main_v3_3 (by decide)).trans (OptB.out_main_v3_3 m ρ c),
      k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide),
      k main_arg9 (by decide) (by decide), k main_arg10 (by decide) (by decide), k main_arg11 (by decide) (by decide),
      k main_arg12 (by decide) (by decide), k main_arg13 (by decide) (by decide), k main_arg14 (by decide) (by decide),
      k main_arg15 (by decide) (by decide), k main_arg16 (by decide) (by decide), k main_arg17 (by decide) (by decide),
      k main_arg18 (by decide) (by decide), k main_arg19 (by decide) (by decide)⟩
  · obtain ⟨h0, h1, h2, h3, h4, h5, h6, h7, h8, h9, h10, h11, h12, h13, h14, h15, hargs⟩ := h c
    obtain ⟨a0, a1, a2, a3, a4, a5, a6, a7, a8, a9, a10, a11, a12, a13, a14, a15, a16, a17, a18, a19⟩ := hag c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, hargs⟩
    · refine (val_main_v2_eq (F := Ideal) ..).trans ?_
      exact (congr (congrArg val_main_v2 a1) a2).trans (OptB.ref_v2 _ _)
    · refine (val_main_v26_eq (F := Ideal) ..).trans ?_
      exact (congr (congr (congr (congr (congrArg val_main_v26 a0) a1) a2) a3) a4).trans (OptB.ref_v26 _ _ _ _ _)
    · refine (val_main_v7_eq (F := Ideal) ..).trans ?_
      exact (congr (congr (congrArg val_main_v7 a1) a2) a3).trans (OptB.ref_v7 _ _ _)
    · refine (val_main_v13_eq (F := Ideal) ..).trans ?_
      exact (congr (congr (congrArg val_main_v13 a1) a2) a4).trans (OptB.ref_v13 _ _ _)
    · refine (val_main_v29_eq (F := Ideal) ..).trans ?_
      exact (congr (congrArg val_main_v29 a6) a7).trans (OptB.ref_v29 _ _)
    · refine (val_main_v53_eq (F := Ideal) ..).trans ?_
      exact (congr (congr (congr (congr (congrArg val_main_v53 a5) a6) a7) a8) a9).trans (OptB.ref_v53 _ _ _ _ _)
    · refine (val_main_v34_eq (F := Ideal) ..).trans ?_
      exact (congr (congr (congrArg val_main_v34 a6) a7) a8).trans (OptB.ref_v34 _ _ _)
    · refine (val_main_v40_eq (F := Ideal) ..).trans ?_
      exact (congr (congr (congrArg val_main_v40 a6) a7) a9).trans (OptB.ref_v40 _ _ _)
    · refine (val_main_v56_eq (F := Ideal) ..).trans ?_
      exact (congr (congrArg val_main_v56 a11) a12).trans (OptB.ref_v56 _ _)
    · refine (val_main_v80_eq (F := Ideal) ..).trans ?_
      exact (congr (congr (congr (congr (congrArg val_main_v80 a10) a11) a12) a13) a14).trans (OptB.ref_v80 _ _ _ _ _)
    · refine (val_main_v61_eq (F := Ideal) ..).trans ?_
      exact (congr (congr (congrArg val_main_v61 a11) a12) a13).trans (OptB.ref_v61 _ _ _)
    · refine (val_main_v67_eq (F := Ideal) ..).trans ?_
      exact (congr (congr (congrArg val_main_v67 a11) a12) a14).trans (OptB.ref_v67 _ _ _)
    · refine (val_main_v83_eq (F := Ideal) ..).trans ?_
      exact (congr (congrArg val_main_v83 a16) a17).trans (OptB.ref_v83 _ _)
    · refine (val_main_v107_eq (F := Ideal) ..).trans ?_
      exact (congr (congr (congr (congr (congrArg val_main_v107 a15) a16) a17) a18) a19).trans (OptB.ref_v107 _ _ _ _ _)
    · refine (val_main_v88_eq (F := Ideal) ..).trans ?_
      exact (congr (congr (congrArg val_main_v88 a16) a17) a18).trans (OptB.ref_v88 _ _ _)
    · refine (val_main_v94_eq (F := Ideal) ..).trans ?_
      exact (congr (congr (congrArg val_main_v94 a16) a17) a19).trans (OptB.ref_v94 _ _ _)

theorem frame_reference8 : quiescent_Reference8Ideal := fun m ρ _ =>
  (θ_run Reference8Ideal.defs _ _).mono
    (fun r h => ⟨fun c => (h c).2.2.2.2.2, sem_eq_zero_of_no_sems (by decide) r.2⟩)
    (Reference8Ideal.Value.run (F := Ideal) m ρ)

open Kernel8Ideal Reference8Ideal.Read in
/-- The whole projection's parts are the reference's. -/
theorem algebraic8 : algebraic_Kernel8Ideal_Reference8Ideal := by
  intro m ρ m' ρ' _ hag
  refine ⟨fun c => Fwd.pick In.cz (Products.nn (Pro.h m c) (Pro.w m c)),
    fun c => Fwd.pick In.cx (Products.nn (Pro.h m c) (Pro.w m c)),
    fun c => Fwd.pick In.ct (Products.nn (Pro.h m c) (Pro.w m c)),
    fun c => Fwd.pick In.cp (Products.nn (Pro.h m c) (Pro.w m c)),
    fun c => Fwd.pick Fwd.cgates (Products.nn (Pro.h m c) (Pro.w m c)),
    (θ_run Kernel8Ideal.defs _ _).mono (fun r h c => ?_) (Pro.run (F := Ideal) m ρ),
    (θ_run Reference8Ideal.defs _ _).mono (fun r h c => ?_) (Reference8Ideal.Value.run (F := Ideal) m' ρ')⟩
  · have e := h c
    exact ⟨(e.1 main_v17 (by decide) (by decide)).trans (Pro.out_main_v17 m c),
      (e.1 main_v26 (by decide) (by decide)).trans (Pro.out_main_v26 m c),
      (e.1 main_v27 (by decide) (by decide)).trans (Pro.out_main_v27 m c),
      (e.1 main_v28 (by decide) (by decide)).trans (Pro.out_main_v28 m c),
      (e.1 main_v29 (by decide) (by decide)).trans (Pro.out_main_v29 m c),
      e.2⟩
  · obtain ⟨h0, h1, h2, h3, h4, hargs⟩ := h c
    obtain ⟨a0, a1⟩ := hag c
    refine ⟨h0.trans ?_, h1.trans ?_, h2.trans ?_, h3.trans ?_, h4.trans ?_, hargs⟩
    · refine (val_main_v2_eq (F := Ideal) ..).trans ?_
      exact (congr (congrArg val_main_v2 a0) a1).trans (Pro.ref_v2 _ _)
    · refine (val_main_v3_eq (F := Ideal) ..).trans ?_
      exact (congr (congrArg val_main_v3 a0) a1).trans (Pro.ref_v3 _ _)
    · refine (val_main_v4_eq (F := Ideal) ..).trans ?_
      exact (congr (congrArg val_main_v4 a0) a1).trans (Pro.ref_v4 _ _)
    · refine (val_main_v5_eq (F := Ideal) ..).trans ?_
      exact (congr (congrArg val_main_v5 a0) a1).trans (Pro.ref_v5 _ _)
    · refine (val_main_v6_eq (F := Ideal) ..).trans ?_
      exact (congr (congrArg val_main_v6 a0) a1).trans (Pro.ref_v6 _ _)

theorem frame_reference9 : quiescent_Reference9Ideal := fun m ρ _ =>
  (θ_run Reference9Ideal.defs _ _).mono
    (fun r h => ⟨fun c => (h c).2.2.2.2.2.2.2.2.2.2.2.2.2.2.2.2.2.2.2.2.2.2.2.2.2.2.2.2.2.2.2.2.2.2.2.2, sem_eq_zero_of_no_sems (by decide) r.2⟩)
    (Reference9Ideal.Value.run (F := Ideal) m ρ)

open Kernel9Ideal Reference9Ideal.Read in
/-- The step of AdamW on the small weights is the reference's. -/
theorem algebraic9 : algebraic_Kernel9Ideal_Reference9Ideal := by
  intro m ρ m' ρ' _ hag
  refine ⟨fun c => Opt.steps (Small.arg0 m c) (Small.arg12 m c) (Small.arg24 m c) (Small.arg36 m c),
    fun c => Opt.steps (Small.arg1 m c) (Small.arg13 m c) (Small.arg25 m c) (Small.arg37 m c),
    fun c => Opt.steps (Small.arg2 m c) (Small.arg14 m c) (Small.arg26 m c) (Small.arg38 m c),
    fun c => Opt.steps (Small.arg3 m c) (Small.arg15 m c) (Small.arg27 m c) (Small.arg39 m c),
    fun c => Opt.steps (Small.arg4 m c) (Small.arg16 m c) (Small.arg28 m c) (Small.arg40 m c),
    fun c => Opt.steps (Small.arg5 m c) (Small.arg17 m c) (Small.arg29 m c) (Small.arg41 m c),
    fun c => Opt.steps (Small.arg6 m c) (Small.arg18 m c) (Small.arg30 m c) (Small.arg42 m c),
    fun c => Opt.steps (Small.arg7 m c) (Small.arg19 m c) (Small.arg31 m c) (Small.arg43 m c),
    fun c => Opt.steps (Small.arg8 m c) (Small.arg20 m c) (Small.arg32 m c) (Small.arg44 m c),
    fun c => Opt.steps (Small.arg9 m c) (Small.arg21 m c) (Small.arg33 m c) (Small.arg45 m c),
    fun c => Opt.steps (Small.arg10 m c) (Small.arg22 m c) (Small.arg34 m c) (Small.arg46 m c),
    fun c => Opt.steps (Small.arg11 m c) (Small.arg23 m c) (Small.arg35 m c) (Small.arg47 m c),
    fun c => Opt.moments (Small.arg12 m c) (Small.arg24 m c),
    fun c => Opt.moments (Small.arg13 m c) (Small.arg25 m c),
    fun c => Opt.moments (Small.arg14 m c) (Small.arg26 m c),
    fun c => Opt.moments (Small.arg15 m c) (Small.arg27 m c),
    fun c => Opt.moments (Small.arg16 m c) (Small.arg28 m c),
    fun c => Opt.moments (Small.arg17 m c) (Small.arg29 m c),
    fun c => Opt.moments (Small.arg18 m c) (Small.arg30 m c),
    fun c => Opt.moments (Small.arg19 m c) (Small.arg31 m c),
    fun c => Opt.moments (Small.arg20 m c) (Small.arg32 m c),
    fun c => Opt.moments (Small.arg21 m c) (Small.arg33 m c),
    fun c => Opt.moments (Small.arg22 m c) (Small.arg34 m c),
    fun c => Opt.moments (Small.arg23 m c) (Small.arg35 m c),
    fun c => Opt.squares (Small.arg12 m c) (Small.arg36 m c),
    fun c => Opt.squares (Small.arg13 m c) (Small.arg37 m c),
    fun c => Opt.squares (Small.arg14 m c) (Small.arg38 m c),
    fun c => Opt.squares (Small.arg15 m c) (Small.arg39 m c),
    fun c => Opt.squares (Small.arg16 m c) (Small.arg40 m c),
    fun c => Opt.squares (Small.arg17 m c) (Small.arg41 m c),
    fun c => Opt.squares (Small.arg18 m c) (Small.arg42 m c),
    fun c => Opt.squares (Small.arg19 m c) (Small.arg43 m c),
    fun c => Opt.squares (Small.arg20 m c) (Small.arg44 m c),
    fun c => Opt.squares (Small.arg21 m c) (Small.arg45 m c),
    fun c => Opt.squares (Small.arg22 m c) (Small.arg46 m c),
    fun c => Opt.squares (Small.arg23 m c) (Small.arg47 m c),
    (θ_run Kernel9Ideal.defs _ _).mono (fun r h c => ?_) (Small.run (F := Ideal) m ρ),
    (θ_run Reference9Ideal.defs _ _).mono (fun r h c => ?_) (Reference9Ideal.Value.run (F := Ideal) m' ρ')⟩
  · have e := h c
    exact ⟨(e.1 main_v63 (by decide) (by decide)).trans (Small.out_main_v63 m c),
      (e.1 main_v65 (by decide) (by decide)).trans (Small.out_main_v65 m c),
      (e.1 main_v67 (by decide) (by decide)).trans (Small.out_main_v67 m c),
      (e.1 main_v69 (by decide) (by decide)).trans (Small.out_main_v69 m c),
      (e.1 main_v71 (by decide) (by decide)).trans (Small.out_main_v71 m c),
      (e.1 main_v73 (by decide) (by decide)).trans (Small.out_main_v73 m c),
      (e.1 main_v75 (by decide) (by decide)).trans (Small.out_main_v75 m c),
      (e.1 main_v77 (by decide) (by decide)).trans (Small.out_main_v77 m c),
      (e.1 main_v79 (by decide) (by decide)).trans (Small.out_main_v79 m c),
      (e.1 main_v81 (by decide) (by decide)).trans (Small.out_main_v81 m c),
      (e.1 main_v83 (by decide) (by decide)).trans (Small.out_main_v83 m c),
      (e.1 main_v84 (by decide) (by decide)).trans (Small.out_main_v84 m c),
      (e.1 main_v86 (by decide) (by decide)).trans (Small.out_main_v86 m c),
      (e.1 main_v88 (by decide) (by decide)).trans (Small.out_main_v88 m c),
      (e.1 main_v90 (by decide) (by decide)).trans (Small.out_main_v90 m c),
      (e.1 main_v92 (by decide) (by decide)).trans (Small.out_main_v92 m c),
      (e.1 main_v94 (by decide) (by decide)).trans (Small.out_main_v94 m c),
      (e.1 main_v96 (by decide) (by decide)).trans (Small.out_main_v96 m c),
      (e.1 main_v98 (by decide) (by decide)).trans (Small.out_main_v98 m c),
      (e.1 main_v100 (by decide) (by decide)).trans (Small.out_main_v100 m c),
      (e.1 main_v102 (by decide) (by decide)).trans (Small.out_main_v102 m c),
      (e.1 main_v104 (by decide) (by decide)).trans (Small.out_main_v104 m c),
      (e.1 main_v106 (by decide) (by decide)).trans (Small.out_main_v106 m c),
      (e.1 main_v107 (by decide) (by decide)).trans (Small.out_main_v107 m c),
      (e.1 main_v109 (by decide) (by decide)).trans (Small.out_main_v109 m c),
      (e.1 main_v111 (by decide) (by decide)).trans (Small.out_main_v111 m c),
      (e.1 main_v113 (by decide) (by decide)).trans (Small.out_main_v113 m c),
      (e.1 main_v115 (by decide) (by decide)).trans (Small.out_main_v115 m c),
      (e.1 main_v117 (by decide) (by decide)).trans (Small.out_main_v117 m c),
      (e.1 main_v119 (by decide) (by decide)).trans (Small.out_main_v119 m c),
      (e.1 main_v121 (by decide) (by decide)).trans (Small.out_main_v121 m c),
      (e.1 main_v123 (by decide) (by decide)).trans (Small.out_main_v123 m c),
      (e.1 main_v125 (by decide) (by decide)).trans (Small.out_main_v125 m c),
      (e.1 main_v127 (by decide) (by decide)).trans (Small.out_main_v127 m c),
      (e.1 main_v129 (by decide) (by decide)).trans (Small.out_main_v129 m c),
      (e.1 main_v130 (by decide) (by decide)).trans (Small.out_main_v130 m c),
      e.2⟩
  · obtain ⟨h0, h1, h2, h3, h4, h5, h6, h7, h8, h9, h10, h11, h12, h13, h14, h15, h16, h17, h18, h19, h20, h21, h22, h23, h24, h25, h26, h27, h28, h29, h30, h31, h32, h33, h34, h35, hargs⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47⟩ := hag c
    refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h28.trans ?_, h29.trans ?_, h30.trans ?_, h31.trans ?_, h32.trans ?_, h33.trans ?_, h34.trans ?_, h35.trans ?_, hargs⟩
    · refine (val_main_v23_eq (F := Ideal) ..).trans ?_
      exact (congr (congr (congr (congrArg val_main_v23 a0) a12) a24) a36).trans (Small.ref_v23 _ _ _ _)
    · refine (val_main_v47_eq (F := Ideal) ..).trans ?_
      exact (congr (congr (congr (congrArg val_main_v47 a1) a13) a25) a37).trans (Small.ref_v47 _ _ _ _)
    · refine (val_main_v71_eq (F := Ideal) ..).trans ?_
      exact (congr (congr (congr (congrArg val_main_v71 a2) a14) a26) a38).trans (Small.ref_v71 _ _ _ _)
    · refine (val_main_v95_eq (F := Ideal) ..).trans ?_
      exact (congr (congr (congr (congrArg val_main_v95 a3) a15) a27) a39).trans (Small.ref_v95 _ _ _ _)
    · refine (val_main_v119_eq (F := Ideal) ..).trans ?_
      exact (congr (congr (congr (congrArg val_main_v119 a4) a16) a28) a40).trans (Small.ref_v119 _ _ _ _)
    · refine (val_main_v143_eq (F := Ideal) ..).trans ?_
      exact (congr (congr (congr (congrArg val_main_v143 a5) a17) a29) a41).trans (Small.ref_v143 _ _ _ _)
    · refine (val_main_v167_eq (F := Ideal) ..).trans ?_
      exact (congr (congr (congr (congrArg val_main_v167 a6) a18) a30) a42).trans (Small.ref_v167 _ _ _ _)
    · refine (val_main_v191_eq (F := Ideal) ..).trans ?_
      exact (congr (congr (congr (congrArg val_main_v191 a7) a19) a31) a43).trans (Small.ref_v191 _ _ _ _)
    · refine (val_main_v215_eq (F := Ideal) ..).trans ?_
      exact (congr (congr (congr (congrArg val_main_v215 a8) a20) a32) a44).trans (Small.ref_v215 _ _ _ _)
    · refine (val_main_v239_eq (F := Ideal) ..).trans ?_
      exact (congr (congr (congr (congrArg val_main_v239 a9) a21) a33) a45).trans (Small.ref_v239 _ _ _ _)
    · refine (val_main_v263_eq (F := Ideal) ..).trans ?_
      exact (congr (congr (congr (congrArg val_main_v263 a10) a22) a34) a46).trans (Small.ref_v263 _ _ _ _)
    · refine (val_main_v287_eq (F := Ideal) ..).trans ?_
      exact (congr (congr (congr (congrArg val_main_v287 a11) a23) a35) a47).trans (Small.ref_v287 _ _ _ _)
    · refine (val_main_v4_eq (F := Ideal) ..).trans ?_
      exact (congr (congrArg val_main_v4 a12) a24).trans (Small.ref_v4 _ _)
    · refine (val_main_v28_eq (F := Ideal) ..).trans ?_
      exact (congr (congrArg val_main_v28 a13) a25).trans (Small.ref_v28 _ _)
    · refine (val_main_v52_eq (F := Ideal) ..).trans ?_
      exact (congr (congrArg val_main_v52 a14) a26).trans (Small.ref_v52 _ _)
    · refine (val_main_v76_eq (F := Ideal) ..).trans ?_
      exact (congr (congrArg val_main_v76 a15) a27).trans (Small.ref_v76 _ _)
    · refine (val_main_v100_eq (F := Ideal) ..).trans ?_
      exact (congr (congrArg val_main_v100 a16) a28).trans (Small.ref_v100 _ _)
    · refine (val_main_v124_eq (F := Ideal) ..).trans ?_
      exact (congr (congrArg val_main_v124 a17) a29).trans (Small.ref_v124 _ _)
    · refine (val_main_v148_eq (F := Ideal) ..).trans ?_
      exact (congr (congrArg val_main_v148 a18) a30).trans (Small.ref_v148 _ _)
    · refine (val_main_v172_eq (F := Ideal) ..).trans ?_
      exact (congr (congrArg val_main_v172 a19) a31).trans (Small.ref_v172 _ _)
    · refine (val_main_v196_eq (F := Ideal) ..).trans ?_
      exact (congr (congrArg val_main_v196 a20) a32).trans (Small.ref_v196 _ _)
    · refine (val_main_v220_eq (F := Ideal) ..).trans ?_
      exact (congr (congrArg val_main_v220 a21) a33).trans (Small.ref_v220 _ _)
    · refine (val_main_v244_eq (F := Ideal) ..).trans ?_
      exact (congr (congrArg val_main_v244 a22) a34).trans (Small.ref_v244 _ _)
    · refine (val_main_v268_eq (F := Ideal) ..).trans ?_
      exact (congr (congrArg val_main_v268 a23) a35).trans (Small.ref_v268 _ _)
    · refine (val_main_v10_eq (F := Ideal) ..).trans ?_
      exact (congr (congrArg val_main_v10 a12) a36).trans (Small.ref_v10 _ _)
    · refine (val_main_v34_eq (F := Ideal) ..).trans ?_
      exact (congr (congrArg val_main_v34 a13) a37).trans (Small.ref_v34 _ _)
    · refine (val_main_v58_eq (F := Ideal) ..).trans ?_
      exact (congr (congrArg val_main_v58 a14) a38).trans (Small.ref_v58 _ _)
    · refine (val_main_v82_eq (F := Ideal) ..).trans ?_
      exact (congr (congrArg val_main_v82 a15) a39).trans (Small.ref_v82 _ _)
    · refine (val_main_v106_eq (F := Ideal) ..).trans ?_
      exact (congr (congrArg val_main_v106 a16) a40).trans (Small.ref_v106 _ _)
    · refine (val_main_v130_eq (F := Ideal) ..).trans ?_
      exact (congr (congrArg val_main_v130 a17) a41).trans (Small.ref_v130 _ _)
    · refine (val_main_v154_eq (F := Ideal) ..).trans ?_
      exact (congr (congrArg val_main_v154 a18) a42).trans (Small.ref_v154 _ _)
    · refine (val_main_v178_eq (F := Ideal) ..).trans ?_
      exact (congr (congrArg val_main_v178 a19) a43).trans (Small.ref_v178 _ _)
    · refine (val_main_v202_eq (F := Ideal) ..).trans ?_
      exact (congr (congrArg val_main_v202 a20) a44).trans (Small.ref_v202 _ _)
    · refine (val_main_v226_eq (F := Ideal) ..).trans ?_
      exact (congr (congrArg val_main_v226 a21) a45).trans (Small.ref_v226 _ _)
    · refine (val_main_v250_eq (F := Ideal) ..).trans ?_
      exact (congr (congrArg val_main_v250 a22) a46).trans (Small.ref_v250 _ _)
    · refine (val_main_v274_eq (F := Ideal) ..).trans ?_
      exact (congr (congrArg val_main_v274 a23) a47).trans (Small.ref_v274 _ _)

theorem frame_reference10 : quiescent_Reference10Ideal := fun m ρ _ =>
  (θ_run Reference10Ideal.defs _ _).mono
    (fun r h => ⟨fun c => (h c).2.2.2, sem_eq_zero_of_no_sems (by decide) r.2⟩)
    (Reference10Ideal.Value.run (F := Ideal) m ρ)

open Kernel10Ideal Reference10Ideal.Read in
/-- The gradients of the modulation are the reference's. -/
theorem algebraic10 : algebraic_Kernel10Ideal_Reference10Ideal := by
  intro m ρ m' ρ' _ hag
  refine ⟨fun c => Ada.ctxGrad (Ada.ctx m c) (Ada.d m c) (Ada.w m c),
    fun c => Ada.weightGrad (Ada.ctx m c) (Ada.cs m c) (Ada.d m c),
    fun c => Ada.biasGrad (Ada.d m c),
    (θ_run Kernel10Ideal.defs _ _).mono (fun r h c => ?_) (Ada.run (F := Ideal) m ρ),
    (θ_run Reference10Ideal.defs _ _).mono (fun r h c => ?_) (Reference10Ideal.Value.run (F := Ideal) m' ρ')⟩
  · have e := h c
    have k := fun b hb hb' => (e b hb).trans (Gen.W9_args m ρ c b hb')
    exact ⟨(e main_v16 (by decide)).trans (Ada.out_dctx m ρ c),
      (e main_v18 (by decide)).trans (Ada.out_dw m ρ c),
      (e main_v19 (by decide)).trans (Ada.out_db m ρ c),
      k main_arg0 (by decide) (by decide), k main_arg1 (by decide) (by decide), k main_arg2 (by decide) (by decide),
      k main_arg3 (by decide) (by decide), k main_arg4 (by decide) (by decide)⟩
  · obtain ⟨h0, h1, h2, hargs⟩ := h c
    obtain ⟨a0, a1, a2, a3, a4⟩ := hag c
    refine ⟨h0.trans ?_, h1.trans ?_, h2.trans ?_, hargs⟩
    · refine (val_main_v21_eq (F := Ideal) ..).trans ?_
      exact (congr (congr (congrArg val_main_v21 a1) a2) a3).trans (Ada.ref_v21 _ _ _)
    · refine (val_main_v18_eq (F := Ideal) ..).trans ?_
      exact (congr (congr (congrArg val_main_v18 a0) a1) a2).trans (Ada.ref_v18 _ _ _)
    · refine (val_main_v15_eq (F := Ideal) ..).trans ?_
      exact (congrArg val_main_v15 a2).trans (Ada.ref_v15 _)

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    ConvGrad.finiteFacts,
    fun m ρ _ => Kernel.Gen.frame m ρ, fun m ρ _ => KernelIdeal.Gen.frame m ρ,
    fun m ρ _ => KernelIdeal.Gen.frame m ρ, frame_reference, fun m ρ _ => frame_reference m ρ trivial,
    fun m ρ _ => Kernel2.Gen.frame m ρ, fun m ρ _ => Kernel2Ideal.Gen.frame m ρ, frame_reference2,
    fun m ρ _ => Kernel3.Gen.frame m ρ, fun m ρ _ => Kernel3Ideal.Gen.frame m ρ, frame_reference3,
    fun m ρ _ => Kernel4.Gen.frame m ρ, fun m ρ _ => Kernel4Ideal.Gen.frame m ρ, frame_reference4,
    fun m ρ _ => Kernel5.Gen.frame m ρ, fun m ρ _ => Kernel5Ideal.Gen.frame m ρ, frame_reference5,
    fun m ρ _ => Kernel6.Gen.frame m ρ, fun m ρ _ => Kernel6Ideal.Gen.frame m ρ, frame_reference6,
    fun m ρ _ => Kernel7.Gen.frame m ρ, fun m ρ _ => Kernel7Ideal.Gen.frame m ρ, frame_reference7,
    fun m ρ _ => Kernel8.Gen.frame m ρ, fun m ρ _ => Kernel8Ideal.Gen.frame m ρ, frame_reference8,
    fun m ρ _ => Kernel9.Gen.frame m ρ, fun m ρ _ => Kernel9Ideal.Gen.frame m ρ, frame_reference9,
    fun m ρ _ => Kernel10.Gen.frame m ρ, fun m ρ _ => Kernel10Ideal.Gen.frame m ρ, frame_reference10,
    trivial, algebraic, trivial, algebraic2, trivial, algebraic3, trivial, algebraic4, trivial, algebraic5, trivial, algebraic6, trivial, algebraic7, trivial, algebraic8, trivial, algebraic9, trivial, algebraic10⟩

end Cert.Proof

end
